-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_memattn_finite [hPre_memattn_finite : Cert.Pre_memattn_finite.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_memattn_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_memattn_finite [hPre_memattn_finite : Cert.Pre_memattn_finite.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_memattn_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_memattn_finite [hMemAttnIdeal : Cert.MemAttnIdeal.Facts] [hPre_memattn_finite : Cert.Pre_memattn_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_memattn_finite m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemAttnRefIdeal_pre_memattn_finite [hMemAttnRefIdeal : Cert.MemAttnRefIdeal.Facts] [hPre_memattn_finite : Cert.Pre_memattn_finite.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_memattn_finite m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v23) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v7) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal_pre_memattn_finite [hMemAttnIdeal : Cert.MemAttnIdeal.Facts] [hMemAttnRefIdeal : Cert.MemAttnRefIdeal.Facts] [hPre_memattn_finite : Cert.Pre_memattn_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_memattn_finite m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v28) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_Diff_DiffIdeal : Prop :=
  True

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v5)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v5) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v75) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hDiff : Cert.Diff.Facts) (hDiffIdeal : Cert.DiffIdeal.Facts) (hDiffRefIdeal : Cert.DiffRefIdeal.Facts) (hPre_memattn_finite : Cert.Pre_memattn_finite.Facts) (hPre_diff_finite : Cert.Pre_diff_finite.Facts),
    quiescent_Kernel (hKernel := hKernel)
    ∧ quiescent_KernelIdeal (hKernelIdeal := hKernelIdeal)
    ∧ quiescent_ReferenceIdeal (hReferenceIdeal := hReferenceIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_memattn_finite (hMemAttnIdeal := hMemAttnIdeal) (hPre_memattn_finite := hPre_memattn_finite)
    ∧ quiescent_MemAttnRefIdeal (hMemAttnRefIdeal := hMemAttnRefIdeal)
    ∧ quiescent_MemAttnRefIdeal_pre_memattn_finite (hMemAttnRefIdeal := hMemAttnRefIdeal) (hPre_memattn_finite := hPre_memattn_finite)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ preserves_Kernel_KernelIdeal
    ∧ algebraic_KernelIdeal_ReferenceIdeal (hKernelIdeal := hKernelIdeal) (hReferenceIdeal := hReferenceIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_memattn_finite (hMemAttnIdeal := hMemAttnIdeal) (hMemAttnRefIdeal := hMemAttnRefIdeal) (hPre_memattn_finite := hPre_memattn_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
-- ==== Pre_diff_finite.lean ====
abbrev S8192x13312 : Shape := ⟨2, ![8192, 13312]⟩
abbrev S2x128 : Shape := ⟨2, ![2, 128]⟩
abbrev S2x256 : Shape := ⟨2, ![2, 256]⟩
abbrev S8192x4096 : Shape := ⟨2, ![8192, 4096]⟩
abbrev S_ : Shape := ⟨0, ![]⟩

class Facts : Prop where
  slices_S8192x13312_S8192x4096_0_0 : S8192x13312.Slices ![0, 0] S8192x4096
  bcast_S_S8192x4096 : S_.BroadcastsInDim S8192x4096 (![] : Fin 0 → Fin S8192x4096.rank)

variable [Facts]

def fn {F : FTy → Type} [FloatOps F] (main_arg0 : FVec F S8192x13312 .bf16) (main_arg1 : FVec F S2x128 .f32) (main_arg2 : FVec F S2x128 .f32) (main_arg3 : FVec F S2x128 .f32) (main_arg4 : FVec F S2x128 .f32) (main_arg5 : FVec F S2x256 .f32) : IVec S8192x4096 1 :=
  let main_v0 : FVec F S8192x4096 .bf16 := (extractStridedSlice S8192x4096 ![0, 0] · slices_S8192x13312_S8192x4096_0_0) main_arg0
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  main_v3
-- ==== Pre_memattn_finite.lean ====
abbrev S8192x13312 : Shape := ⟨2, ![8192, 13312]⟩
abbrev S1024x4096 : Shape := ⟨2, ![1024, 4096]⟩
abbrev S8192x1024 : Shape := ⟨2, ![8192, 1024]⟩
abbrev S1024x1024 : Shape := ⟨2, ![1024, 1024]⟩
abbrev S9216x1024 : Shape := ⟨2, ![9216, 1024]⟩
abbrev S_ : Shape := ⟨0, ![]⟩

class Facts : Prop where
  slices_S8192x13312_S8192x1024_0_11264 : S8192x13312.Slices ![0, 11264] S8192x1024
  slices_S1024x4096_S1024x1024_0_0 : S1024x4096.Slices ![0, 0] S1024x1024
  concatenates_S8192x1024_S1024x1024_S9216x1024_d0 : Shape.Concatenates [S8192x1024, S1024x1024] S9216x1024 0
  bcast_S_S9216x1024 : S_.BroadcastsInDim S9216x1024 (![] : Fin 0 → Fin S9216x1024.rank)

variable [Facts]

def fn {F : FTy → Type} [FloatOps F] (main_arg0 : FVec F S8192x13312 .bf16) (main_arg1 : FVec F S1024x4096 .bf16) : IVec S9216x1024 1 :=
  let main_v0 : FVec F S8192x1024 .bf16 := (extractStridedSlice S8192x1024 ![0, 11264] · slices_S8192x13312_S8192x1024_0_11264) main_arg0
  let main_v1 : FVec F S1024x1024 .bf16 := (extractStridedSlice S1024x1024 ![0, 0] · slices_S1024x4096_S1024x1024_0_0) main_arg1
  let main_v2 : FVec F S9216x1024 .bf16 := (fun a b => concatenate S9216x1024 0 [⟨S8192x1024, a⟩, ⟨S1024x1024, b⟩] concatenates_S8192x1024_S1024x1024_S9216x1024_d0) main_v0 main_v1
  let main_v3 : FVec F S9216x1024 .bf16 := Host.absf main_v2
  let main_cst : FVec F S_ .bf16 := constant S_ .bf16 0x7F80#16
  let main_v4 : FVec F S9216x1024 .bf16 := broadcastInDim S9216x1024 ![] bcast_S_S9216x1024 main_cst
  let main_v5 : IVec S9216x1024 1 := cmpf .olt main_v3 main_v4
  main_v5
-- ==== Kernel.lean ====
abbrev S8192x4096 : Shape := ⟨2, ![8192, 4096]⟩
abbrev S2x4096x13312 : Shape := ⟨3, ![2, 4096, 13312]⟩
abbrev S1x13312 : Shape := ⟨2, ![1, 13312]⟩
abbrev S8192x13312 : Shape := ⟨2, ![8192, 13312]⟩
abbrev S2x2048x4096 : Shape := ⟨3, ![2, 2048, 4096]⟩
abbrev S2 : Shape := ⟨1, ![2]⟩
abbrev S2x4096x512 : Shape := ⟨3, ![2, 4096, 512]⟩
abbrev S2x1x512 : Shape := ⟨3, ![2, 1, 512]⟩
abbrev S2x2048x512 : Shape := ⟨3, ![2, 2048, 512]⟩
abbrev S1 : Shape := ⟨1, ![1]⟩
abbrev S_ : Shape := ⟨0, ![]⟩
abbrev S1x2048x4096 : Shape := ⟨3, ![1, 2048, 4096]⟩
abbrev S2048x4096 : Shape := ⟨2, ![2048, 4096]⟩
abbrev S1x4096x512 : Shape := ⟨3, ![1, 4096, 512]⟩
abbrev S4096x512 : Shape := ⟨2, ![4096, 512]⟩
abbrev S1x4096x13312 : Shape := ⟨3, ![1, 4096, 13312]⟩
abbrev S4096x13312 : Shape := ⟨2, ![4096, 13312]⟩
abbrev S1x1x512 : Shape := ⟨3, ![1, 1, 512]⟩
abbrev S1x512 : Shape := ⟨2, ![1, 512]⟩
abbrev S2048x512 : Shape := ⟨2, ![2048, 512]⟩
abbrev S1x2048x512 : Shape := ⟨3, ![1, 2048, 512]⟩

abbrev nBuf : Space → Nat
  | .hbm => 4
  | .vmem => 4
  | .smem => 0
  | _ => 0

abbrev bufTy : (tb : Table) → Fin (tcTables nBuf tb) → BufTy
  | .hbm, ⟨0, _⟩ => ⟨S8192x4096, .bf16⟩
  | .hbm, ⟨1, _⟩ => ⟨S2x4096x13312, .f32⟩
  | .hbm, ⟨2, _⟩ => ⟨S1x13312, .f32⟩
  | .hbm, ⟨3, _⟩ => ⟨S8192x13312, .bf16⟩
  | .local _ .vmem, ⟨0, _⟩ => ⟨S2x2048x4096, .bf16⟩
  | .local _ .vmem, ⟨1, _⟩ => ⟨S2x4096x512, .f32⟩
  | .local _ .vmem, ⟨2, _⟩ => ⟨S2x1x512, .f32⟩
  | .local _ .vmem, ⟨3, _⟩ => ⟨S2x2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c2_i32_r0 : BitVec 32 := 2#32
  let v30_r0 : BitVec 32 := Scalar.remui c0_i32_27_r0 c2_i32_r0
  ![v30_r0.toNat]
def k0_off2 : Fin 3 → Nat :=
  let c0_i32_27_r0 : BitVec 32 := 0#32
  let c2_i32_r0 : BitVec 32 := 2#32
  let v30_r0 : BitVec 32 := Scalar.remui c0_i32_27_r0 c2_i32_r0
  let c0_i32_28_r0 : BitVec 32 := 0#32
  let c0_i32_29_r0 : BitVec 32 := 0#32
  ![v30_r0.toNat, 0, 0]
def k0_off3 : Fin 3 → Nat :=
  let c0_i32_34_r0 : BitVec 32 := 0#32
  let c2_i32_35_r0 : BitVec 32 := 2#32
  let v37_r0 : BitVec 32 := Scalar.remui c0_i32_34_r0 c2_i32_35_r0
  let c0_i32_36_r0 : BitVec 32 := 0#32
  let c0_i32_37_r0 : BitVec 32 := 0#32
  ![v37_r0.toNat, 0, 0]
def k0_off4 : Fin 3 → Nat :=
  let c0_i32_44_r0 : BitVec 32 := 0#32
  let c2_i32_45_r0 : BitVec 32 := 2#32
  let v46_r0 : BitVec 32 := Scalar.remui c0_i32_44_r0 c2_i32_45_r0
  let c0_i32_46_r0 : BitVec 32 := 0#32
  let c0_i32_47_r0 : BitVec 32 := 0#32
  ![v46_r0.toNat, 0, 0]
@[reducible] def k0_t1_loop : Scf.Loop 32 :=
  let c0_i32_59_r0 : BitVec 32 := 0#32
  let c104_i32_r0 : BitVec 32 := 104#32
  let v53_r0 : BitVec 32 := Scalar.addi c0_i32_59_r0 c104_i32_r0
  let c1_i32_60_r0 : BitVec 32 := 1#32
  ⟨c0_i32_59_r0, v53_r0, c1_i32_60_r0⟩
def k0_off5 (arg5_r0 : BitVec 32) : Fin 1 → Nat :=
  let c2_i32_201_r0 : BitVec 32 := 2#32
  let v293_r0 : BitVec 32 := Scalar.remui arg5_r0 c2_i32_201_r0
  ![v293_r0.toNat]
def k0_cond1 (k0_t1 : Fin k0_t1_loop.trips) (arg13_r0 : BitVec 32) (arg14_r0 : BitVec 32) : BitVec 1 :=
  let c0_i32_102_r0 : BitVec 32 := 0#32
  let v105_r0 : BitVec 32 := Scalar.addi arg13_r0 c0_i32_102_r0
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c1_i32_117_r0 : BitVec 32 := 1#32
  let v121_r0 : BitVec 32 := Scalar.addi arg13_r0 c1_i32_117_r0
  let v122_r0 : BitVec 32 := Scalar.select v119_r0 v121_r0 arg13_r0
  let c4_i32_118_r0 : BitVec 32 := 4#32
  let v123_r0 : BitVec 1 := Scalar.cmpi .eq v122_r0 c4_i32_118_r0
  let c0_i32_119_r0 : BitVec 32 := 0#32
  let v124_r0 : BitVec 32 := Scalar.select v123_r0 c0_i32_119_r0 v122_r0
  let c0_i32_120_r0 : BitVec 32 := 0#32
  let v125_r0 : BitVec 32 := Scalar.addi v124_r0 c0_i32_120_r0
  let v137_r0 : BitVec 1 := Scalar.cmpi .ne v105_r0 v125_r0
  let c0_i32_59_r0 : BitVec 32 := 0#32
  let c1_i32_60_r0 : BitVec 32 := 1#32
  let arg4_r0 : BitVec 32 := Scf.iv c0_i32_59_r0 c1_i32_60_r0 k0_t1
  let c103_i32_131_r0 : BitVec 32 := 103#32
  let v138_r0 : BitVec 1 := Scalar.cmpi .sge arg4_r0 c103_i32_131_r0
  let true_132_r0 : BitVec 1 := 1#1
  let v139_r0 : BitVec 1 := Scalar.xori v138_r0 true_132_r0
  let v140_r0 : BitVec 1 := Scalar.andi v137_r0 v139_r0
  let true_133_r0 : BitVec 1 := 1#1
  let v141_r0 : BitVec 1 := Scalar.andi v140_r0 true_133_r0
  let v142_r0 : BitVec 32 := Scalar.extui v141_r0
  let c0_i32_134_r0 : BitVec 32 := 0#32
  let v143_r0 : BitVec 1 := Scalar.cmpi .ne v142_r0 c0_i32_134_r0
  v143_r0

def k0_off6 (arg5_r0 : BitVec 32) : Fin 3 → Nat :=
  let c2_i32_201_r0 : BitVec 32 := 2#32
  let v293_r0 : BitVec 32 := Scalar.remui arg5_r0 c2_i32_201_r0
  let c0_i32_203_r0 : BitVec 32 := 0#32
  let c0_i32_204_r0 : BitVec 32 := 0#32
  ![v293_r0.toNat, 0, 0]
def k0_off7 (arg13_r0 : BitVec 32) (arg14_r0 : BitVec 32) : Fin 2 → Nat :=
  let c2048_i32_202_r0 : BitVec 32 := 2048#32
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c1_i32_117_r0 : BitVec 32 := 1#32
  let v121_r0 : BitVec 32 := Scalar.addi arg13_r0 c1_i32_117_r0
  let v122_r0 : BitVec 32 := Scalar.select v119_r0 v121_r0 arg13_r0
  let c4_i32_118_r0 : BitVec 32 := 4#32
  let v123_r0 : BitVec 1 := Scalar.cmpi .eq v122_r0 c4_i32_118_r0
  let c0_i32_119_r0 : BitVec 32 := 0#32
  let v124_r0 : BitVec 32 := Scalar.select v123_r0 c0_i32_119_r0 v122_r0
  let c0_i32_120_r0 : BitVec 32 := 0#32
  let v125_r0 : BitVec 32 := Scalar.addi v124_r0 c0_i32_120_r0
  let v294_r0 : BitVec 32 := Scalar.muli c2048_i32_202_r0 v125_r0
  let c0_i32_205_r0 : BitVec 32 := 0#32
  ![v294_r0.toNat, 0]
def k0_off8 (arg7_r0 : BitVec 32) : Fin 1 → Nat :=
  let c2_i32_201_r0 : BitVec 32 := 2#32
  let v293_r0 : BitVec 32 := Scalar.remui arg7_r0 c2_i32_201_r0
  ![v293_r0.toNat]
def k0_cond2 (k0_t1 : Fin k0_t1_loop.trips) (arg14_r0 : BitVec 32) : BitVec 1 :=
  let c0_i32_103_r0 : BitVec 32 := 0#32
  let v106_r0 : BitVec 32 := Scalar.addi arg14_r0 c0_i32_103_r0
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c0_i32_116_r0 : BitVec 32 := 0#32
  let v120_r0 : BitVec 32 := Scalar.select v119_r0 c0_i32_116_r0 v118_r0
  let c0_i32_121_r0 : BitVec 32 := 0#32
  let v126_r0 : BitVec 32 := Scalar.addi v120_r0 c0_i32_121_r0
  let v147_r0 : BitVec 1 := Scalar.cmpi .ne v106_r0 v126_r0
  let c0_i32_59_r0 : BitVec 32 := 0#32
  let c1_i32_60_r0 : BitVec 32 := 1#32
  let arg4_r0 : BitVec 32 := Scf.iv c0_i32_59_r0 c1_i32_60_r0 k0_t1
  let c103_i32_137_r0 : BitVec 32 := 103#32
  let v148_r0 : BitVec 1 := Scalar.cmpi .sge arg4_r0 c103_i32_137_r0
  let true_138_r0 : BitVec 1 := 1#1
  let v149_r0 : BitVec 1 := Scalar.xori v148_r0 true_138_r0
  let v150_r0 : BitVec 1 := Scalar.andi v147_r0 v149_r0
  let true_139_r0 : BitVec 1 := 1#1
  let v151_r0 : BitVec 1 := Scalar.andi v150_r0 true_139_r0
  let v152_r0 : BitVec 32 := Scalar.extui v151_r0
  let c0_i32_140_r0 : BitVec 32 := 0#32
  let v153_r0 : BitVec 1 := Scalar.cmpi .ne v152_r0 c0_i32_140_r0
  v153_r0

def k0_off9 (arg7_r0 : BitVec 32) : Fin 3 → Nat :=
  let c2_i32_201_r0 : BitVec 32 := 2#32
  let v293_r0 : BitVec 32 := Scalar.remui arg7_r0 c2_i32_201_r0
  let c0_i32_203_r0 : BitVec 32 := 0#32
  let c0_i32_204_r0 : BitVec 32 := 0#32
  ![v293_r0.toNat, 0, 0]
def k0_off10 (arg14_r0 : BitVec 32) : Fin 2 → Nat :=
  let c0_i32_207_r0 : BitVec 32 := 0#32
  let c512_i32_202_r0 : BitVec 32 := 512#32
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c0_i32_116_r0 : BitVec 32 := 0#32
  let v120_r0 : BitVec 32 := Scalar.select v119_r0 c0_i32_116_r0 v118_r0
  let c0_i32_121_r0 : BitVec 32 := 0#32
  let v126_r0 : BitVec 32 := Scalar.addi v120_r0 c0_i32_121_r0
  let v294_r0 : BitVec 32 := Scalar.muli c512_i32_202_r0 v126_r0
  ![0, v294_r0.toNat]
def k0_off11 (arg9_r0 : BitVec 32) : Fin 1 → Nat :=
  let c2_i32_201_r0 : BitVec 32 := 2#32
  let v293_r0 : BitVec 32 := Scalar.remui arg9_r0 c2_i32_201_r0
  ![v293_r0.toNat]
def k0_cond3 (k0_t1 : Fin k0_t1_loop.trips) (arg14_r0 : BitVec 32) : BitVec 1 :=
  let c0_i32_103_r0 : BitVec 32 := 0#32
  let v106_r0 : BitVec 32 := Scalar.addi arg14_r0 c0_i32_103_r0
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c0_i32_116_r0 : BitVec 32 := 0#32
  let v120_r0 : BitVec 32 := Scalar.select v119_r0 c0_i32_116_r0 v118_r0
  let c0_i32_121_r0 : BitVec 32 := 0#32
  let v126_r0 : BitVec 32 := Scalar.addi v120_r0 c0_i32_121_r0
  let v157_r0 : BitVec 1 := Scalar.cmpi .ne v106_r0 v126_r0
  let c0_i32_59_r0 : BitVec 32 := 0#32
  let c1_i32_60_r0 : BitVec 32 := 1#32
  let arg4_r0 : BitVec 32 := Scf.iv c0_i32_59_r0 c1_i32_60_r0 k0_t1
  let c103_i32_143_r0 : BitVec 32 := 103#32
  let v158_r0 : BitVec 1 := Scalar.cmpi .sge arg4_r0 c103_i32_143_r0
  let true_144_r0 : BitVec 1 := 1#1
  let v159_r0 : BitVec 1 := Scalar.xori v158_r0 true_144_r0
  let v160_r0 : BitVec 1 := Scalar.andi v157_r0 v159_r0
  let true_145_r0 : BitVec 1 := 1#1
  let v161_r0 : BitVec 1 := Scalar.andi v160_r0 true_145_r0
  let v162_r0 : BitVec 32 := Scalar.extui v161_r0
  let c0_i32_146_r0 : BitVec 32 := 0#32
  let v163_r0 : BitVec 1 := Scalar.cmpi .ne v162_r0 c0_i32_146_r0
  v163_r0

def k0_off12 (arg9_r0 : BitVec 32) : Fin 3 → Nat :=
  let c2_i32_201_r0 : BitVec 32 := 2#32
  let v293_r0 : BitVec 32 := Scalar.remui arg9_r0 c2_i32_201_r0
  let c0_i32_203_r0 : BitVec 32 := 0#32
  let c0_i32_204_r0 : BitVec 32 := 0#32
  ![v293_r0.toNat, 0, 0]
def k0_off13 (arg14_r0 : BitVec 32) : Fin 2 → Nat :=
  let c0_i32_205_r0 : BitVec 32 := 0#32
  let c512_i32_202_r0 : BitVec 32 := 512#32
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c0_i32_116_r0 : BitVec 32 := 0#32
  let v120_r0 : BitVec 32 := Scalar.select v119_r0 c0_i32_116_r0 v118_r0
  let c0_i32_121_r0 : BitVec 32 := 0#32
  let v126_r0 : BitVec 32 := Scalar.addi v120_r0 c0_i32_121_r0
  let v294_r0 : BitVec 32 := Scalar.muli c512_i32_202_r0 v126_r0
  ![0, v294_r0.toNat]
def k0_off14 (arg6_r0 : BitVec 32) : Fin 1 → Nat :=
  let c2_i32_202_r0 : BitVec 32 := 2#32
  let v294_r0 : BitVec 32 := Scalar.remui arg6_r0 c2_i32_202_r0
  ![v294_r0.toNat]
def k0_cond4 (k0_t1 : Fin k0_t1_loop.trips) (arg13_r0 : BitVec 32) (arg14_r0 : BitVec 32) : BitVec 1 :=
  let c0_i32_102_r0 : BitVec 32 := 0#32
  let v105_r0 : BitVec 32 := Scalar.addi arg13_r0 c0_i32_102_r0
  let true_105_r0 : BitVec 1 := 1#1
  let c1_i32_104_r0 : BitVec 32 := 1#32
  let v107_r0 : BitVec 32 := Scalar.subi arg14_r0 c1_i32_104_r0
  let v108_r0 : BitVec 32 := Scalar.select true_105_r0 v107_r0 arg14_r0
  let c_m1_i32_106_r0 : BitVec 32 := 4294967295#32
  let v109_r0 : BitVec 1 := Scalar.cmpi .eq v108_r0 c_m1_i32_106_r0
  let c1_i32_108_r0 : BitVec 32 := 1#32
  let v111_r0 : BitVec 32 := Scalar.subi arg13_r0 c1_i32_108_r0
  let v112_r0 : BitVec 32 := Scalar.select v109_r0 v111_r0 arg13_r0
  let c_m1_i32_109_r0 : BitVec 32 := 4294967295#32
  let v113_r0 : BitVec 1 := Scalar.cmpi .eq v112_r0 c_m1_i32_109_r0
  let c3_i32_110_r0 : BitVec 32 := 3#32
  let v114_r0 : BitVec 32 := Scalar.select v113_r0 c3_i32_110_r0 v112_r0
  let c0_i32_111_r0 : BitVec 32 := 0#32
  let v115_r0 : BitVec 32 := Scalar.addi v114_r0 c0_i32_111_r0
  let v173_r0 : BitVec 1 := Scalar.cmpi .ne v105_r0 v115_r0
  let c0_i32_59_r0 : BitVec 32 := 0#32
  let c1_i32_60_r0 : BitVec 32 := 1#32
  let arg4_r0 : BitVec 32 := Scf.iv c0_i32_59_r0 c1_i32_60_r0 k0_t1
  let c0_i32_101_r0 : BitVec 32 := 0#32
  let v103_r0 : BitVec 1 := Scalar.cmpi .eq arg4_r0 c0_i32_101_r0
  let v174_r0 : BitVec 1 := Scalar.ori v173_r0 v103_r0
  let c0_i32_151_r0 : BitVec 32 := 0#32
  let v175_r0 : BitVec 1 := Scalar.cmpi .sge arg4_r0 c0_i32_151_r0
  let v176_r0 : BitVec 1 := Scalar.andi v174_r0 v175_r0
  let v177_r0 : BitVec 32 := Scalar.extui v176_r0
  let c0_i32_152_r0 : BitVec 32 := 0#32
  let v178_r0 : BitVec 1 := Scalar.cmpi .ne v177_r0 c0_i32_152_r0
  v178_r0

def k0_off15 (arg6_r0 : BitVec 32) : Fin 3 → Nat :=
  let c2_i32_202_r0 : BitVec 32 := 2#32
  let v294_r0 : BitVec 32 := Scalar.remui arg6_r0 c2_i32_202_r0
  let c0_i32_203_r0 : BitVec 32 := 0#32
  let c0_i32_204_r0 : BitVec 32 := 0#32
  ![v294_r0.toNat, 0, 0]
def k0_off16 (arg13_r0 : BitVec 32) : Fin 2 → Nat :=
  let c2048_i32_201_r0 : BitVec 32 := 2048#32
  let c0_i32_102_r0 : BitVec 32 := 0#32
  let v105_r0 : BitVec 32 := Scalar.addi arg13_r0 c0_i32_102_r0
  let v293_r0 : BitVec 32 := Scalar.muli c2048_i32_201_r0 v105_r0
  let c0_i32_205_r0 : BitVec 32 := 0#32
  ![v293_r0.toNat, 0]
def k0_off17 (arg8_r0 : BitVec 32) : Fin 1 → Nat :=
  let c2_i32_202_r0 : BitVec 32 := 2#32
  let v294_r0 : BitVec 32 := Scalar.remui arg8_r0 c2_i32_202_r0
  ![v294_r0.toNat]
def k0_cond5 (k0_t1 : Fin k0_t1_loop.trips) (arg14_r0 : BitVec 32) : BitVec 1 :=
  let c0_i32_103_r0 : BitVec 32 := 0#32
  let v106_r0 : BitVec 32 := Scalar.addi arg14_r0 c0_i32_103_r0
  let true_105_r0 : BitVec 1 := 1#1
  let c1_i32_104_r0 : BitVec 32 := 1#32
  let v107_r0 : BitVec 32 := Scalar.subi arg14_r0 c1_i32_104_r0
  let v108_r0 : BitVec 32 := Scalar.select true_105_r0 v107_r0 arg14_r0
  let c_m1_i32_106_r0 : BitVec 32 := 4294967295#32
  let v109_r0 : BitVec 1 := Scalar.cmpi .eq v108_r0 c_m1_i32_106_r0
  let c25_i32_107_r0 : BitVec 32 := 25#32
  let v110_r0 : BitVec 32 := Scalar.select v109_r0 c25_i32_107_r0 v108_r0
  let c0_i32_112_r0 : BitVec 32 := 0#32
  let v116_r0 : BitVec 32 := Scalar.addi v110_r0 c0_i32_112_r0
  let v179_r0 : BitVec 1 := Scalar.cmpi .ne v106_r0 v116_r0
  let c0_i32_59_r0 : BitVec 32 := 0#32
  let c1_i32_60_r0 : BitVec 32 := 1#32
  let arg4_r0 : BitVec 32 := Scf.iv c0_i32_59_r0 c1_i32_60_r0 k0_t1
  let c0_i32_101_r0 : BitVec 32 := 0#32
  let v103_r0 : BitVec 1 := Scalar.cmpi .eq arg4_r0 c0_i32_101_r0
  let v180_r0 : BitVec 1 := Scalar.ori v179_r0 v103_r0
  let c0_i32_153_r0 : BitVec 32 := 0#32
  let v181_r0 : BitVec 1 := Scalar.cmpi .sge arg4_r0 c0_i32_153_r0
  let v182_r0 : BitVec 1 := Scalar.andi v180_r0 v181_r0
  let v183_r0 : BitVec 32 := Scalar.extui v182_r0
  let c0_i32_154_r0 : BitVec 32 := 0#32
  let v184_r0 : BitVec 1 := Scalar.cmpi .ne v183_r0 c0_i32_154_r0
  v184_r0

def k0_off18 (arg8_r0 : BitVec 32) : Fin 3 → Nat :=
  let c2_i32_202_r0 : BitVec 32 := 2#32
  let v294_r0 : BitVec 32 := Scalar.remui arg8_r0 c2_i32_202_r0
  let c0_i32_203_r0 : BitVec 32 := 0#32
  let c0_i32_204_r0 : BitVec 32 := 0#32
  ![v294_r0.toNat, 0, 0]
def k0_off19 (arg14_r0 : BitVec 32) : Fin 2 → Nat :=
  let c0_i32_207_r0 : BitVec 32 := 0#32
  let c512_i32_201_r0 : BitVec 32 := 512#32
  let c0_i32_103_r0 : BitVec 32 := 0#32
  let v106_r0 : BitVec 32 := Scalar.addi arg14_r0 c0_i32_103_r0
  let v293_r0 : BitVec 32 := Scalar.muli c512_i32_201_r0 v106_r0
  ![0, v293_r0.toNat]
def k0_off20 (arg10_r0 : BitVec 32) : Fin 1 → Nat :=
  let c2_i32_202_r0 : BitVec 32 := 2#32
  let v294_r0 : BitVec 32 := Scalar.remui arg10_r0 c2_i32_202_r0
  ![v294_r0.toNat]
def k0_cond6 (k0_t1 : Fin k0_t1_loop.trips) (arg14_r0 : BitVec 32) : BitVec 1 :=
  let c0_i32_103_r0 : BitVec 32 := 0#32
  let v106_r0 : BitVec 32 := Scalar.addi arg14_r0 c0_i32_103_r0
  let true_105_r0 : BitVec 1 := 1#1
  let c1_i32_104_r0 : BitVec 32 := 1#32
  let v107_r0 : BitVec 32 := Scalar.subi arg14_r0 c1_i32_104_r0
  let v108_r0 : BitVec 32 := Scalar.select true_105_r0 v107_r0 arg14_r0
  let c_m1_i32_106_r0 : BitVec 32 := 4294967295#32
  let v109_r0 : BitVec 1 := Scalar.cmpi .eq v108_r0 c_m1_i32_106_r0
  let c25_i32_107_r0 : BitVec 32 := 25#32
  let v110_r0 : BitVec 32 := Scalar.select v109_r0 c25_i32_107_r0 v108_r0
  let c0_i32_112_r0 : BitVec 32 := 0#32
  let v116_r0 : BitVec 32 := Scalar.addi v110_r0 c0_i32_112_r0
  let v185_r0 : BitVec 1 := Scalar.cmpi .ne v106_r0 v116_r0
  let c0_i32_59_r0 : BitVec 32 := 0#32
  let c1_i32_60_r0 : BitVec 32 := 1#32
  let arg4_r0 : BitVec 32 := Scf.iv c0_i32_59_r0 c1_i32_60_r0 k0_t1
  let c0_i32_101_r0 : BitVec 32 := 0#32
  let v103_r0 : BitVec 1 := Scalar.cmpi .eq arg4_r0 c0_i32_101_r0
  let v186_r0 : BitVec 1 := Scalar.ori v185_r0 v103_r0
  let c0_i32_155_r0 : BitVec 32 := 0#32
  let v187_r0 : BitVec 1 := Scalar.cmpi .sge arg4_r0 c0_i32_155_r0
  let v188_r0 : BitVec 1 := Scalar.andi v186_r0 v187_r0
  let v189_r0 : BitVec 32 := Scalar.extui v188_r0
  let c0_i32_156_r0 : BitVec 32 := 0#32
  let v190_r0 : BitVec 1 := Scalar.cmpi .ne v189_r0 c0_i32_156_r0
  v190_r0

def k0_off21 (arg10_r0 : BitVec 32) : Fin 3 → Nat :=
  let c2_i32_202_r0 : BitVec 32 := 2#32
  let v294_r0 : BitVec 32 := Scalar.remui arg10_r0 c2_i32_202_r0
  let c0_i32_203_r0 : BitVec 32 := 0#32
  let c0_i32_204_r0 : BitVec 32 := 0#32
  ![v294_r0.toNat, 0, 0]
def k0_off22 (arg14_r0 : BitVec 32) : Fin 2 → Nat :=
  let c0_i32_205_r0 : BitVec 32 := 0#32
  let c512_i32_201_r0 : BitVec 32 := 512#32
  let c0_i32_103_r0 : BitVec 32 := 0#32
  let v106_r0 : BitVec 32 := Scalar.addi arg14_r0 c0_i32_103_r0
  let v293_r0 : BitVec 32 := Scalar.muli c512_i32_201_r0 v106_r0
  ![0, v293_r0.toNat]
def k0_off23 (arg6_r0 : BitVec 32) : Fin 3 → Nat :=
  let c2_i32_159_r0 : BitVec 32 := 2#32
  let v199_r0 : BitVec 32 := Scalar.remui arg6_r0 c2_i32_159_r0
  let v203_r0 : Index := Scalar.indexCast v199_r0
  let c0_r0 : Index := 0#32
  let c0_163_r0 : Index := 0#32
  ![v203_r0.toNat, 0, 0]

def k0_chk2 (arg6_r0 : BitVec 32) : Prop :=
  (∀ a, (k0_off23 arg6_r0) a + S1x2048x4096.size a ≤ S2x2048x4096.size a)
theorem k0_off23_inb : ∀ (arg6_r0 : BitVec 32) (k0_hw2 : k0_chk2 arg6_r0), ∀ a, (k0_off23 arg6_r0) a + S1x2048x4096.size a ≤ S2x2048x4096.size a := fun arg6_r0 k0_hw2 => k0_hw2

def k0_off24 (arg8_r0 : BitVec 32) : Fin 3 → Nat :=
  let c2_i32_160_r0 : BitVec 32 := 2#32
  let v200_r0 : BitVec 32 := Scalar.remui arg8_r0 c2_i32_160_r0
  let v206_r0 : Index := Scalar.indexCast v200_r0
  let c0_164_r0 : Index := 0#32
  let c0_165_r0 : Index := 0#32
  ![v206_r0.toNat, 0, 0]

def k0_chk3 (arg8_r0 : BitVec 32) : Prop :=
  (∀ a, (k0_off24 arg8_r0) a + S1x4096x512.size a ≤ S2x4096x512.size a)
theorem k0_off24_inb : ∀ (arg8_r0 : BitVec 32) (k0_hw3 : k0_chk3 arg8_r0), ∀ a, (k0_off24 arg8_r0) a + S1x4096x512.size a ≤ S2x4096x512.size a := fun arg8_r0 k0_hw3 => k0_hw3

def k0_off25 (arg10_r0 : BitVec 32) : Fin 3 → Nat :=
  let c2_i32_161_r0 : BitVec 32 := 2#32
  let v201_r0 : BitVec 32 := Scalar.remui arg10_r0 c2_i32_161_r0
  let v211_r0 : Index := Scalar.indexCast v201_r0
  let c0_166_r0 : Index := 0#32
  let c0_167_r0 : Index := 0#32
  ![v211_r0.toNat, 0, 0]

def k0_chk4 (arg10_r0 : BitVec 32) : Prop :=
  (∀ a, (k0_off25 arg10_r0) a + S1x1x512.size a ≤ S2x1x512.size a)
theorem k0_off25_inb : ∀ (arg10_r0 : BitVec 32) (k0_hw4 : k0_chk4 arg10_r0), ∀ a, (k0_off25 arg10_r0) a + S1x1x512.size a ≤ S2x1x512.size a := fun arg10_r0 k0_hw4 => k0_hw4

def k0_off26 (arg11_r0 : BitVec 32) : Fin 3 → Nat :=
  let c2_i32_162_r0 : BitVec 32 := 2#32
  let v202_r0 : BitVec 32 := Scalar.remui arg11_r0 c2_i32_162_r0
  let v217_r0 : Index := Scalar.indexCast v202_r0
  let c0_168_r0 : Index := 0#32
  let c0_169_r0 : Index := 0#32
  ![v217_r0.toNat, 0, 0]

def k0_chk5 (arg11_r0 : BitVec 32) : Prop :=
  (∀ a, (k0_off26 arg11_r0) a + S1x2048x512.size a ≤ S2x2048x512.size a) ∧
  (∀ (hinb : ∀ a, (k0_off26 arg11_r0) a + S1x2048x512.size a ≤ S2x2048x512.size a), (Rect.unit (s := S2x2048x512) (k0_off26 arg11_r0) S1x2048x512.size hinb).PackedRows (EltTy.packing .bf16))
theorem k0_off26_inb : ∀ (arg11_r0 : BitVec 32) (k0_hw5 : k0_chk5 arg11_r0), ∀ a, (k0_off26 arg11_r0) a + S1x2048x512.size a ≤ S2x2048x512.size a := fun arg11_r0 k0_hw5 => k0_hw5.1
theorem k0_off26_packedbf16 : ∀ (arg11_r0 : BitVec 32) (k0_hw5 : k0_chk5 arg11_r0), (Rect.unit (s := S2x2048x512) (k0_off26 arg11_r0) S1x2048x512.size (k0_off26_inb arg11_r0 k0_hw5)).PackedRows (EltTy.packing .bf16) := fun arg11_r0 k0_hw5 => k0_hw5.2 (k0_off26_inb arg11_r0 k0_hw5)

def k0_off27 (arg11_r0 : BitVec 32) : Fin 1 → Nat :=
  let c2_i32_201_r0 : BitVec 32 := 2#32
  let v293_r0 : BitVec 32 := Scalar.remui arg11_r0 c2_i32_201_r0
  ![v293_r0.toNat]
def k0_cond11 (k0_t1 : Fin k0_t1_loop.trips) (arg13_r0 : BitVec 32) (arg14_r0 : BitVec 32) : BitVec 1 :=
  let c0_i32_102_r0 : BitVec 32 := 0#32
  let v105_r0 : BitVec 32 := Scalar.addi arg13_r0 c0_i32_102_r0
  let true_114_r0 : BitVec 1 := 1#1
  let c1_i32_113_r0 : BitVec 32 := 1#32
  let v117_r0 : BitVec 32 := Scalar.addi arg14_r0 c1_i32_113_r0
  let v118_r0 : BitVec 32 := Scalar.select true_114_r0 v117_r0 arg14_r0
  let c26_i32_115_r0 : BitVec 32 := 26#32
  let v119_r0 : BitVec 1 := Scalar.cmpi .eq v118_r0 c26_i32_115_r0
  let c1_i32_117_r0 : BitVec 32 := 1#32
  let v121_r0 : BitVec 32 := Scalar.addi arg13_r0 c1_i32_117_r0
  let v122_r0 : BitVec 32 := Scalar.select v119_r0 v121_r0 arg13_r0
  let c4_i32_118_r0 : BitVec 32 := 4#32
  let v123_r0 : BitVec 1 := Scalar.cmpi .eq v122_r0 c4_i32_118_r0
  let c0_i32_119_r0 : BitVec 32 := 0#32
  let v124_r0 : BitVec 32 := Scalar.select v123_r0 c0_i32_119_r0 v122_r0
  let c0_i32_120_r0 : BitVec 32 := 0#32
  let v125_r0 : BitVec 32 := Scalar.addi v124_r0 c0_i32_120_r0
  let v236_r0 : BitVec 1 := Scalar.cmpi .ne v105_r0 v125_r0
  let c0_i32_103_r0 : BitVec 32 := 0#32
  let v106_r0 : BitVec 32 := Scalar.addi arg14_r0 c0_i32_103_r0
  let c0_i32_116_r0 : BitVec 32 := 0#32
  let v120_r0 : BitVec 32 := Scalar.select v119_r0 c0_i32_116_r0 v118_r0
  let c0_i32_121_r0 : BitVec 32 := 0#32
  let v126_r0 : BitVec 32 := Scalar.addi v120_r0 c0_i32_121_r0
  let v237_r0 : BitVec 1 := Scalar.cmpi .ne v106_r0 v126_r0
  let v238_r0 : BitVec 1 := Scalar.ori v236_r0 v237_r0
  let c0_i32_59_r0 : BitVec 32 := 0#32
  let c1_i32_60_r0 : BitVec 32 := 1#32
  let arg4_r0 : BitVec 32 := Scf.iv c0_i32_59_r0 c1_i32_60_r0 k0_t1
  let c103_i32_r0 : BitVec 32 := 103#32
  let v104_r0 : BitVec 1 := Scalar.cmpi .eq arg4_r0 c103_i32_r0
  let v239_r0 : BitVec 1 := Scalar.ori v238_r0 v104_r0
  let v240_r0 : BitVec 32 := Scalar.extui v239_r0
  let c0_i32_175_r0 : BitVec 32 := 0#32
  let v241_r0 : BitVec 1 := Scalar.cmpi .ne v240_r0 c0_i32_175_r0
  v241_r0

def k0_off28 (arg13_r0 : BitVec 32) (arg14_r0 : BitVec 32) : Fin 2 → Nat :=
  let c2048_i32_202_r0 : BitVec 32 := 2048#32
  let c0_i32_102_r0 : BitVec 32 := 0#32
  let v105_r0 : BitVec 32 := Scalar.addi arg13_r0 c0_i32_102_r0
  let v294_r0 : BitVec 32 := Scalar.muli c2048_i32_202_r0 v105_r0
  let c512_i32_203_r0 : BitVec 32 := 512#32
  let c0_i32_103_r0 : BitVec 32 := 0#32
  let v106_r0 : BitVec 32 := Scalar.addi arg14_r0 c0_i32_103_r0
  let v295_r0 : BitVec 32 := Scalar.muli c512_i32_203_r0 v106_r0
  ![v294_r0.toNat, v295_r0.toNat]
def k0_off29 (arg11_r0 : BitVec 32) : Fin 3 → Nat :=
  let c2_i32_201_r0 : BitVec 32 := 2#32
  let v293_r0 : BitVec 32 := Scalar.remui arg11_r0 c2_i32_201_r0
  let c0_i32_204_r0 : BitVec 32 := 0#32
  let c0_i32_205_r0 : BitVec 32 := 0#32
  ![v293_r0.toNat, 0, 0]
def k0_off30 (arg12_r0 : BitVec 32) : Fin 1 → Nat :=
  let c2_i32_201_r0 : BitVec 32 := 2#32
  let v293_r0 : BitVec 32 := Scalar.remui arg12_r0 c2_i32_201_r0
  ![v293_r0.toNat]
def k0_cond15 (k0_t1 : Fin k0_t1_loop.trips) (arg13_r0 : BitVec 32) (arg14_r0 : BitVec 32) : BitVec 1 :=
  let c0_i32_102_r0 : BitVec 32 := 0#32
  let v105_r0 : BitVec 32 := Scalar.addi arg13_r0 c0_i32_102_r0
  let true_105_r0 : BitVec 1 := 1#1
  let c1_i32_104_r0 : BitVec 32 := 1#32
  let v107_r0 : BitVec 32 := Scalar.subi arg14_r0 c1_i32_104_r0
  let v108_r0 : BitVec 32 := Scalar.select true_105_r0 v107_r0 arg14_r0
  let c_m1_i32_106_r0 : BitVec 32 := 4294967295#32
  let v109_r0 : BitVec 1 := Scalar.cmpi .eq v108_r0 c_m1_i32_106_r0
  let c1_i32_108_r0 : BitVec 32 := 1#32
  let v111_r0 : BitVec 32 := Scalar.subi arg13_r0 c1_i32_108_r0
  let v112_r0 : BitVec 32 := Scalar.select v109_r0 v111_r0 arg13_r0
  let c_m1_i32_109_r0 : BitVec 32 := 4294967295#32
  let v113_r0 : BitVec 1 := Scalar.cmpi .eq v112_r0 c_m1_i32_109_r0
  let c3_i32_110_r0 : BitVec 32 := 3#32
  let v114_r0 : BitVec 32 := Scalar.select v113_r0 c3_i32_110_r0 v112_r0
  let c0_i32_111_r0 : BitVec 32 := 0#32
  let v115_r0 : BitVec 32 := Scalar.addi v114_r0 c0_i32_111_r0
  let v263_r0 : BitVec 1 := Scalar.cmpi .ne v105_r0 v115_r0
  let c0_i32_103_r0 : BitVec 32 := 0#32
  let v106_r0 : BitVec 32 := Scalar.addi arg14_r0 c0_i32_103_r0
  let c25_i32_107_r0 : BitVec 32 := 25#32
  let v110_r0 : BitVec 32 := Scalar.select v109_r0 c25_i32_107_r0 v108_r0
  let c0_i32_112_r0 : BitVec 32 := 0#32
  let v116_r0 : BitVec 32 := Scalar.addi v110_r0 c0_i32_112_r0
  let v264_r0 : BitVec 1 := Scalar.cmpi .ne v106_r0 v116_r0
  let v265_r0 : BitVec 1 := Scalar.ori v263_r0 v264_r0
  let c0_i32_59_r0 : BitVec 32 := 0#32
  let c1_i32_60_r0 : BitVec 32 := 1#32
  let arg4_r0 : BitVec 32 := Scf.iv c0_i32_59_r0 c1_i32_60_r0 k0_t1
  let c0_i32_101_r0 : BitVec 32 := 0#32
  let v103_r0 : BitVec 1 := Scalar.cmpi .eq arg4_r0 c0_i32_101_r0
  let true_187_r0 : BitVec 1 := 1#1
  let v266_r0 : BitVec 1 := Scalar.xori v103_r0 true_187_r0
  let v267_r0 : BitVec 1 := Scalar.andi v265_r0 v266_r0
  let v268_r0 : BitVec 32 := Scalar.extui v267_r0
  let c0_i32_188_r0 : BitVec 32 := 0#32
  let v269_r0 : BitVec 1 := Scalar.cmpi .ne v268_r0 c0_i32_188_r0
  v269_r0

def k0_off31 (arg13_r0 : BitVec 32) (arg14_r0 : BitVec 32) : Fin 2 → Nat :=
  let c2048_i32_202_r0 : BitVec 32 := 2048#32
  let true_105_r0 : BitVec 1 := 1#1
  let c1_i32_104_r0 : BitVec 32 := 1#32
  let v107_r0 : BitVec 32 := Scalar.subi arg14_r0 c1_i32_104_r0
  let v108_r0 : BitVec 32 := Scalar.select true_105_r0 v107_r0 arg14_r0
  let c_m1_i32_106_r0 : BitVec 32 := 4294967295#32
  let v109_r0 : BitVec 1 := Scalar.cmpi .eq v108_r0 c_m1_i32_106_r0
  let c1_i32_108_r0 : BitVec 32 := 1#32
  let v111_r0 : BitVec 32 := Scalar.subi arg13_r0 c1_i32_108_r0
  let v112_r0 : BitVec 32 := Scalar.select v109_r0 v111_r0 arg13_r0
  let c_m1_i32_109_r0 : BitVec 32 := 4294967295#32
  let v113_r0 : BitVec 1 := Scalar.cmpi .eq v112_r0 c_m1_i32_109_r0
  let c3_i32_110_r0 : BitVec 32 := 3#32
  let v114_r0 : BitVec 32 := Scalar.select v113_r0 c3_i32_110_r0 v112_r0
  let c0_i32_111_r0 : BitVec 32 := 0#32
  let v115_r0 : BitVec 32 := Scalar.addi v114_r0 c0_i32_111_r0
  let v294_r0 : BitVec 32 := Scalar.muli c2048_i32_202_r0 v115_r0
  let c512_i32_203_r0 : BitVec 32 := 512#32
  let c25_i32_107_r0 : BitVec 32 := 25#32
  let v110_r0 : BitVec 32 := Scalar.select v109_r0 c25_i32_107_r0 v108_r0
  let c0_i32_112_r0 : BitVec 32 := 0#32
  let v116_r0 : BitVec 32 := Scalar.addi v110_r0 c0_i32_112_r0
  let v295_r0 : BitVec 32 := Scalar.muli c512_i32_203_r0 v116_r0
  ![v294_r0.toNat, v295_r0.toNat]
def k0_off32 (arg12_r0 : BitVec 32) : Fin 3 → Nat :=
  let c2_i32_201_r0 : BitVec 32 := 2#32
  let v293_r0 : BitVec 32 := Scalar.remui arg12_r0 c2_i32_201_r0
  let c0_i32_204_r0 : BitVec 32 := 0#32
  let c0_i32_205_r0 : BitVec 32 := 0#32
  ![v293_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h1 : k0_cond1 k0_t1 arg13_r0 arg14_r0 = 1#1), ∀ a, (k0_off5 arg5_r0) a + S1.size a ≤ S2.size a) ∧
  (∀ (k0_h1 : k0_cond1 k0_t1 arg13_r0 arg14_r0 = 1#1), ∀ a, (k0_off6 arg5_r0) a + S1x2048x4096.size a ≤ S2x2048x4096.size a) ∧
  (∀ (k0_h1 : k0_cond1 k0_t1 arg13_r0 arg14_r0 = 1#1), ∀ a, (k0_off7 arg13_r0 arg14_r0) a + S2048x4096.size a ≤ S8192x4096.size a) ∧
  (∀ (k0_h1 : k0_cond1 k0_t1 arg13_r0 arg14_r0 = 1#1), ∀ (hinb : ∀ a, (k0_off7 arg13_r0 arg14_r0) a + S2048x4096.size a ≤ S8192x4096.size a), (Rect.unit (s := S8192x4096) (k0_off7 arg13_r0 arg14_r0) S2048x4096.size hinb).WholeWords (EltTy.packing .bf16)) ∧
  (∀ (k0_h1 : k0_cond1 k0_t1 arg13_r0 arg14_r0 = 1#1), ∀ (hinb : ∀ a, (k0_off6 arg5_r0) a + S1x2048x4096.size a ≤ S2x2048x4096.size a), (Rect.unit (s := S2x2048x4096) (k0_off6 arg5_r0) S1x2048x4096.size hinb).WholeWords (EltTy.packing .bf16)) ∧
  (∀ (k0_h2 : k0_cond2 k0_t1 arg14_r0 = 1#1), ∀ a, (k0_off8 arg7_r0) a + S1.size a ≤ S2.size a) ∧
  (∀ (k0_h2 : k0_cond2 k0_t1 arg14_r0 = 1#1), ∀ a, (k0_off9 arg7_r0) a + S1x4096x512.size a ≤ S2x4096x512.size a) ∧
  (∀ (k0_h2 : k0_cond2 k0_t1 arg14_r0 = 1#1), ∀ a, (k0_off10 arg14_r0) a + S4096x512.size a ≤ S4096x13312.size a) ∧
  (∀ (k0_h3 : k0_cond3 k0_t1 arg14_r0 = 1#1), ∀ a, (k0_off11 arg9_r0) a + S1.size a ≤ S2.size a) ∧
  (∀ (k0_h3 : k0_cond3 k0_t1 arg14_r0 = 1#1), ∀ a, (k0_off12 arg9_r0) a + S1x1x512.size a ≤ S2x1x512.size a) ∧
  (∀ (k0_h3 : k0_cond3 k0_t1 arg14_r0 = 1#1), ∀ a, (k0_off13 arg14_r0) a + S1x512.size a ≤ S1x13312.size a) ∧
  (∀ (k0_h4 : k0_cond4 k0_t1 arg13_r0 arg14_r0 = 1#1), ∀ a, (k0_off14 arg6_r0) a + S1.size a ≤ S2.size a) ∧
  (∀ (k0_h4 : k0_cond4 k0_t1 arg13_r0 arg14_r0 = 1#1), ∀ a, (k0_off15 arg6_r0) a + S1x2048x4096.size a ≤ S2x2048x4096.size a) ∧
  (∀ (k0_h4 : k0_cond4 k0_t1 arg13_r0 arg14_r0 = 1#1), ∀ a, (k0_off16 arg13_r0) a + S2048x4096.size a ≤ S8192x4096.size a) ∧
  (∀ (k0_h4 : k0_cond4 k0_t1 arg13_r0 arg14_r0 = 1#1), ∀ (hinb : ∀ a, (k0_off16 arg13_r0) a + S2048x4096.size a ≤ S8192x4096.size a), (Rect.unit (s := S8192x4096) (k0_off16 arg13_r0) S2048x4096.size hinb).WholeWords (EltTy.packing .bf16)) ∧
  (∀ (k0_h4 : k0_cond4 k0_t1 arg13_r0 arg14_r0 = 1#1), ∀ (hinb : ∀ a, (k0_off15 arg6_r0) a + S1x2048x4096.size a ≤ S2x2048x4096.size a), (Rect.unit (s := S2x2048x4096) (k0_off15 arg6_r0) S1x2048x4096.size hinb).WholeWords (EltTy.packing .bf16)) ∧
  (∀ (k0_h5 : k0_cond5 k0_t1 arg14_r0 = 1#1), ∀ a, (k0_off17 arg8_r0) a + S1.size a ≤ S2.size a) ∧
  (∀ (k0_h5 : k0_cond5 k0_t1 arg14_r0 = 1#1), ∀ a, (k0_off18 arg8_r0) a + S1x4096x512.size a ≤ S2x4096x512.size a) ∧
  (∀ (k0_h5 : k0_cond5 k0_t1 arg14_r0 = 1#1), ∀ a, (k0_off19 arg14_r0) a + S4096x512.size a ≤ S4096x13312.size a) ∧
  (∀ (k0_h6 : k0_cond6 k0_t1 arg14_r0 = 1#1), ∀ a, (k0_off20 arg10_r0) a + S1.size a ≤ S2.size a) ∧
  (∀ (k0_h6 : k0_cond6 k0_t1 arg14_r0 = 1#1), ∀ a, (k0_off21 arg10_r0) a + S1x1x512.size a ≤ S2x1x512.size a) ∧
  (∀ (k0_h6 : k0_cond6 k0_t1 arg14_r0 = 1#1), ∀ a, (k0_off22 arg14_r0) a + S1x512.size a ≤ S1x13312.size a) ∧
  (∀ (k0_h11 : k0_cond11 k0_t1 arg13_r0 arg14_r0 = 1#1), ∀ a, (k0_off27 arg11_r0) a + S1.size a ≤ S2.size a) ∧
  (∀ (k0_h11 : k0_cond11 k0_t1 arg13_r0 arg14_r0 = 1#1), ∀ a, (k0_off28 arg13_r0 arg14_r0) a + S2048x512.size a ≤ S8192x13312.size a) ∧
  (∀ (k0_h11 : k0_cond11 k0_t1 arg13_r0 arg14_r0 = 1#1), ∀ a, (k0_off29 arg11_r0) a + S1x2048x512.size a ≤ S2x2048x512.size a) ∧
  (∀ (k0_h11 : k0_cond11 k0_t1 arg13_r0 arg14_r0 = 1#1), ∀ (hinb : ∀ a, (k0_off29 arg11_r0) a + S1x2048x512.size a ≤ S2x2048x512.size a), (Rect.unit (s := S2x2048x512) (k0_off29 arg11_r0) S1x2048x512.size hinb).WholeWords (EltTy.packing .bf16)) ∧
  (∀ (k0_h11 : k0_cond11 k0_t1 arg13_r0 arg14_r0 = 1#1), ∀ (hinb : ∀ a, (k0_off28 arg13_r0 arg14_r0) a + S2048x512.size a ≤ S8192x13312.size a), (Rect.unit (s := S8192x13312) (k0_off28 arg13_r0 arg14_r0) S2048x512.size hinb).WholeWords (EltTy.packing .bf16)) ∧
  (∀ (k0_h15 : k0_cond15 k0_t1 arg13_r0 arg14_r0 = 1#1), ∀ a, (k0_off30 arg12_r0) a + S1.size a ≤ S2.size a) ∧
  (∀ (k0_h15 : k0_cond15 k0_t1 arg13_r0 arg14_r0 = 1#1), ∀ a, (k0_off31 arg13_r0 arg14_r0) a + S2048x512.size a ≤ S8192x13312.size a) ∧
  (∀ (k0_h15 : k0_cond15 k0_t1 arg13_r0 arg14_r0 = 1#1), ∀ a, (k0_off32 arg12_r0) a + S1x2048x512.size a ≤ S2x2048x512.size a) ∧
  (∀ (k0_h15 : k0_cond15 k0_t1 arg13_r0 arg14_r0 = 1#1), ∀ (hinb : ∀ a, (k0_off32 arg12_r0) a + S1x2048x512.size a ≤ S2x2048x512.size a), (Rect.unit (s := S2x2048x512) (k0_off32 arg12_r0) S1x2048x512.size hinb).WholeWords (EltTy.packing .bf16)) ∧
  (∀ (k0_h15 : k0_cond15 k0_t1 arg13_r0 arg14_r0 = 1#1), ∀ (hinb : ∀ a, (k0_off31 arg13_r0 arg14_r0) a + S2048x512.size a ≤ S8192x13312.size a), (Rect.unit (s := S8192x13312) (k0_off31 arg13_r0 arg14_r0) S2048x512.size hinb).WholeWords (EltTy.packing .bf16))
theorem k0_off5_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h1 : k0_cond1 k0_t1 arg13_r0 arg14_r0 = 1#1), ∀ a, (k0_off5 arg5_r0) a + S1.size a ≤ S2.size a := fun k0_t1 arg5_r0 arg6_r0 arg7_r0 arg8_r0 arg9_r0 arg10_r0 arg11_r0 arg12_r0 arg13_r0 arg14_r0 k0_hw1 k0_h1 => k0_hw1.1 k0_h1
theorem k0_off6_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h1 : k0_cond1 k0_t1 arg13_r0 arg14_r0 = 1#1), ∀ a, (k0_off6 arg5_r0) a + S1x2048x4096.size a ≤ S2x2048x4096.size a := fun k0_t1 arg5_r0 arg6_r0 arg7_r0 arg8_r0 arg9_r0 arg10_r0 arg11_r0 arg12_r0 arg13_r0 arg14_r0 k0_hw1 k0_h1 => k0_hw1.2.1 k0_h1
theorem k0_off7_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h1 : k0_cond1 k0_t1 arg13_r0 arg14_r0 = 1#1), ∀ a, (k0_off7 arg13_r0 arg14_r0) a + S2048x4096.size a ≤ S8192x4096.size a := fun k0_t1 arg5_r0 arg6_r0 arg7_r0 arg8_r0 arg9_r0 arg10_r0 arg11_r0 arg12_r0 arg13_r0 arg14_r0 k0_hw1 k0_h1 => k0_hw1.2.2.1 k0_h1
theorem k0_off7_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h1 : k0_cond1 k0_t1 arg13_r0 arg14_r0 = 1#1), (Rect.unit (s := S8192x4096) (k0_off7 arg13_r0 arg14_r0) S2048x4096.size (k0_off7_inb k0_t1 arg5_r0 arg6_r0 arg7_r0 arg8_r0 arg9_r0 arg10_r0 arg11_r0 arg12_r0 arg13_r0 arg14_r0 k0_hw1 k0_h1)).WholeWords (EltTy.packing .bf16) := fun k0_t1 arg5_r0 arg6_r0 arg7_r0 arg8_r0 arg9_r0 arg10_r0 arg11_r0 arg12_r0 arg13_r0 arg14_r0 k0_hw1 k0_h1 => k0_hw1.2.2.2.1 k0_h1 (k0_off7_inb k0_t1 arg5_r0 arg6_r0 arg7_r0 arg8_r0 arg9_r0 arg10_r0 arg11_r0 arg12_r0 arg13_r0 arg14_r0 k0_hw1 k0_h1)
theorem k0_off6_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h1 : k0_cond1 k0_t1 arg13_r0 arg14_r0 = 1#1), (Rect.unit (s := S2x2048x4096) (k0_off6 arg5_r0) S1x2048x4096.size (k0_off6_inb k0_t1 arg5_r0 arg6_r0 arg7_r0 arg8_r0 arg9_r0 arg10_r0 arg11_r0 arg12_r0 arg13_r0 arg14_r0 k0_hw1 k0_h1)).WholeWords (EltTy.packing .bf16) := fun k0_t1 arg5_r0 arg6_r0 arg7_r0 arg8_r0 arg9_r0 arg10_r0 arg11_r0 arg12_r0 arg13_r0 arg14_r0 k0_hw1 k0_h1 => k0_hw1.2.2.2.2.1 k0_h1 (k0_off6_inb k0_t1 arg5_r0 arg6_r0 arg7_r0 arg8_r0 arg9_r0 arg10_r0 arg11_r0 arg12_r0 arg13_r0 arg14_r0 k0_hw1 k0_h1)
theorem k0_off8_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h2 : k0_cond2 k0_t1 arg14_r0 = 1#1), ∀ a, (k0_off8 arg7_r0) a + S1.size a ≤ S2.size a := fun k0_t1 arg5_r0 arg6_r0 arg7_r0 arg8_r0 arg9_r0 arg10_r0 arg11_r0 arg12_r0 arg13_r0 arg14_r0 k0_hw1 k0_h2 => k0_hw1.2.2.2.2.2.1 k0_h2
theorem k0_off9_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h2 : k0_cond2 k0_t1 arg14_r0 = 1#1), ∀ a, (k0_off9 arg7_r0) a + S1x4096x512.size a ≤ S2x4096x512.size a := fun k0_t1 arg5_r0 arg6_r0 arg7_r0 arg8_r0 arg9_r0 arg10_r0 arg11_r0 arg12_r0 arg13_r0 arg14_r0 k0_hw1 k0_h2 => k0_hw1.2.2.2.2.2.2.1 k0_h2
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h2 : k0_cond2 k0_t1 arg14_r0 = 1#1), ∀ a, (k0_off10 arg14_r0) a + S4096x512.size a ≤ S4096x13312.size a := fun k0_t1 arg5_r0 arg6_r0 arg7_r0 arg8_r0 arg9_r0 arg10_r0 arg11_r0 arg12_r0 arg13_r0 arg14_r0 k0_hw1 k0_h2 => k0_hw1.2.2.2.2.2.2.2.1 k0_h2
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h3 : k0_cond3 k0_t1 arg14_r0 = 1#1), ∀ a, (k0_off11 arg9_r0) a + S1.size a ≤ S2.size a := fun k0_t1 arg5_r0 arg6_r0 arg7_r0 arg8_r0 arg9_r0 arg10_r0 arg11_r0 arg12_r0 arg13_r0 arg14_r0 k0_hw1 k0_h3 => k0_hw1.2.2.2.2.2.2.2.2.1 k0_h3
theorem k0_off12_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h3 : k0_cond3 k0_t1 arg14_r0 = 1#1), ∀ a, (k0_off12 arg9_r0) a + S1x1x512.size a ≤ S2x1x512.size a := fun k0_t1 arg5_r0 arg6_r0 arg7_r0 arg8_r0 arg9_r0 arg10_r0 arg11_r0 arg12_r0 arg13_r0 arg14_r0 k0_hw1 k0_h3 => k0_hw1.2.2.2.2.2.2.2.2.2.1 k0_h3
theorem k0_off13_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h3 : k0_cond3 k0_t1 arg14_r0 = 1#1), ∀ a, (k0_off13 arg14_r0) a + S1x512.size a ≤ S1x13312.size a := fun k0_t1 arg5_r0 arg6_r0 arg7_r0 arg8_r0 arg9_r0 arg10_r0 arg11_r0 arg12_r0 arg13_r0 arg14_r0 k0_hw1 k0_h3 => k0_hw1.2.2.2.2.2.2.2.2.2.2.1 k0_h3
theorem k0_off14_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h4 : k0_cond4 k0_t1 arg13_r0 arg14_r0 = 1#1), ∀ a, (k0_off14 arg6_r0) a + S1.size a ≤ S2.size a := fun k0_t1 arg5_r0 arg6_r0 arg7_r0 arg8_r0 arg9_r0 arg10_r0 arg11_r0 arg12_r0 arg13_r0 arg14_r0 k0_hw1 k0_h4 => k0_hw1.2.2.2.2.2.2.2.2.2.2.2.1 k0_h4
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h4 : k0_cond4 k0_t1 arg13_r0 arg14_r0 = 1#1), ∀ a, (k0_off15 arg6_r0) a + S1x2048x4096.size a ≤ S2x2048x4096.size a := fun k0_t1 arg5_r0 arg6_r0 arg7_r0 arg8_r0 arg9_r0 arg10_r0 arg11_r0 arg12_r0 arg13_r0 arg14_r0 k0_hw1 k0_h4 => k0_hw1.2.2.2.2.2.2.2.2.2.2.2.2.1 k0_h4
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0) a + S2048x4096.size a ≤ S8192x4096.size a := fun k0_t1 arg5_r0 arg6_r0 arg7_r0 arg8_r0 arg9_r0 arg10_r0 arg11_r0 arg12_r0 arg13_r0 arg14_r0 k0_hw1 k0_h4 => k0_hw1.2.2.2.2.2.2.2.2.2.2.2.2.2.1 k0_h4
theorem k0_off16_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h4 : k0_cond4 k0_t1 arg13_r0 arg14_r0 = 1#1), (Rect.unit (s := S8192x4096) (k0_off16 arg13_r0) S2048x4096.size (k0_off16_inb k0_t1 arg5_r0 arg6_r0 arg7_r0 arg8_r0 arg9_r0 arg10_r0 arg11_r0 arg12_r0 arg13_r0 arg14_r0 k0_hw1 k0_h4)).WholeWords (EltTy.packing .bf16) := fun k0_t1 arg5_r0 arg6_r0 arg7_r0 arg8_r0 arg9_r0 arg10_r0 arg11_r0 arg12_r0 arg13_r0 arg14_r0 k0_hw1 k0_h4 => k0_hw1.2.2.2.2.2.2.2.2.2.2.2.2.2.2.1 k0_h4 (k0_off16_inb k0_t1 arg5_r0 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h4 : k0_cond4 k0_t1 arg13_r0 arg14_r0 = 1#1), (Rect.unit (s := S2x2048x4096) (k0_off15 arg6_r0) S1x2048x4096.size (k0_off15_inb k0_t1 arg5_r0 arg6_r0 arg7_r0 arg8_r0 arg9_r0 arg10_r0 arg11_r0 arg12_r0 arg13_r0 arg14_r0 k0_hw1 k0_h4)).WholeWords (EltTy.packing .bf16) := fun k0_t1 arg5_r0 arg6_r0 arg7_r0 arg8_r0 arg9_r0 arg10_r0 arg11_r0 arg12_r0 arg13_r0 arg14_r0 k0_hw1 k0_h4 => k0_hw1.2.2.2.2.2.2.2.2.2.2.2.2.2.2.2.1 k0_h4 (k0_off15_inb k0_t1 arg5_r0 arg6_r0 arg7_r0 arg8_r0 arg9_r0 arg10_r0 arg11_r0 arg12_r0 arg13_r0 arg14_r0 k0_hw1 k0_h4)
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h5 : k0_cond5 k0_t1 arg14_r0 = 1#1), ∀ a, (k0_off17 arg8_r0) a + S1.size a ≤ S2.size a := fun k0_t1 arg5_r0 arg6_r0 arg7_r0 arg8_r0 arg9_r0 arg10_r0 arg11_r0 arg12_r0 arg13_r0 arg14_r0 k0_hw1 k0_h5 => k0_hw1.2.2.2.2.2.2.2.2.2.2.2.2.2.2.2.2.1 k0_h5
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h5 : k0_cond5 k0_t1 arg14_r0 = 1#1), ∀ a, (k0_off18 arg8_r0) a + S1x4096x512.size a ≤ S2x4096x512.size a := fun k0_t1 arg5_r0 arg6_r0 arg7_r0 arg8_r0 arg9_r0 arg10_r0 arg11_r0 arg12_r0 arg13_r0 arg14_r0 k0_hw1 k0_h5 => k0_hw1.2.2.2.2.2.2.2.2.2.2.2.2.2.2.2.2.2.1 k0_h5
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h5 : k0_cond5 k0_t1 arg14_r0 = 1#1), ∀ a, (k0_off19 arg14_r0) a + S4096x512.size a ≤ S4096x13312.size a := fun k0_t1 arg5_r0 arg6_r0 arg7_r0 arg8_r0 arg9_r0 arg10_r0 arg11_r0 arg12_r0 arg13_r0 arg14_r0 k0_hw1 k0_h5 => k0_hw1.2.2.2.2.2.2.2.2.2.2.2.2.2.2.2.2.2.2.1 k0_h5
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h6 : k0_cond6 k0_t1 arg14_r0 = 1#1), ∀ a, (k0_off20 arg10_r0) a + S1.size a ≤ S2.size a := fun k0_t1 arg5_r0 arg6_r0 arg7_r0 arg8_r0 arg9_r0 arg10_r0 arg11_r0 arg12_r0 arg13_r0 arg14_r0 k0_hw1 k0_h6 => k0_hw1.2.2.2.2.2.2.2.2.2.2.2.2.2.2.2.2.2.2.2.1 k0_h6
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h6 : k0_cond6 k0_t1 arg14_r0 = 1#1), ∀ a, (k0_off21 arg10_r0) a + S1x1x512.size a ≤ S2x1x512.size a := fun k0_t1 arg5_r0 arg6_r0 arg7_r0 arg8_r0 arg9_r0 arg10_r0 arg11_r0 arg12_r0 arg13_r0 arg14_r0 k0_hw1 k0_h6 => k0_hw1.2.2.2.2.2.2.2.2.2.2.2.2.2.2.2.2.2.2.2.2.1 k0_h6
theorem k0_off22_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h6 : k0_cond6 k0_t1 arg14_r0 = 1#1), ∀ a, (k0_off22 arg14_r0) a + S1x512.size a ≤ S1x13312.size a := fun k0_t1 arg5_r0 arg6_r0 arg7_r0 arg8_r0 arg9_r0 arg10_r0 arg11_r0 arg12_r0 arg13_r0 arg14_r0 k0_hw1 k0_h6 => k0_hw1.2.2.2.2.2.2.2.2.2.2.2.2.2.2.2.2.2.2.2.2.2.1 k0_h6
theorem k0_off27_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h11 : k0_cond11 k0_t1 arg13_r0 arg14_r0 = 1#1), ∀ a, (k0_off27 arg11_r0) a + S1.size a ≤ S2.size a := fun k0_t1 arg5_r0 arg6_r0 arg7_r0 arg8_r0 arg9_r0 arg10_r0 arg11_r0 arg12_r0 arg13_r0 arg14_r0 k0_hw1 k0_h11 => k0_hw1.2.2.2.2.2.2.2.2.2.2.2.2.2.2.2.2.2.2.2.2.2.2.1 k0_h11
theorem k0_off28_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h11 : k0_cond11 k0_t1 arg13_r0 arg14_r0 = 1#1), ∀ a, (k0_off28 arg13_r0 arg14_r0) a + S2048x512.size a ≤ S8192x13312.size a := fun k0_t1 arg5_r0 arg6_r0 arg7_r0 arg8_r0 arg9_r0 arg10_r0 arg11_r0 arg12_r0 arg13_r0 arg14_r0 k0_hw1 k0_h11 => k0_hw1.2.2.2.2.2.2.2.2.2.2.2.2.2.2.2.2.2.2.2.2.2.2.2.1 k0_h11
theorem k0_off29_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h11 : k0_cond11 k0_t1 arg13_r0 arg14_r0 = 1#1), ∀ a, (k0_off29 arg11_r0) a + S1x2048x512.size a ≤ S2x2048x512.size a := fun k0_t1 arg5_r0 arg6_r0 arg7_r0 arg8_r0 arg9_r0 arg10_r0 arg11_r0 arg12_r0 arg13_r0 arg14_r0 k0_hw1 k0_h11 => k0_hw1.2.2.2.2.2.2.2.2.2.2.2.2.2.2.2.2.2.2.2.2.2.2.2.2.1 k0_h11
theorem k0_off29_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h11 : k0_cond11 k0_t1 arg13_r0 arg14_r0 = 1#1), (Rect.unit (s := S2x2048x512) (k0_off29 arg11_r0) S1x2048x512.size (k0_off29_inb k0_t1 arg5_r0 arg6_r0 arg7_r0 arg8_r0 arg9_r0 arg10_r0 arg11_r0 arg12_r0 arg13_r0 arg14_r0 k0_hw1 k0_h11)).WholeWords (EltTy.packing .bf16) := fun k0_t1 arg5_r0 arg6_r0 arg7_r0 arg8_r0 arg9_r0 arg10_r0 arg11_r0 arg12_r0 arg13_r0 arg14_r0 k0_hw1 k0_h11 => k0_hw1.2.2.2.2.2.2.2.2.2.2.2.2.2.2.2.2.2.2.2.2.2.2.2.2.2.1 k0_h11 (k0_off29_inb k0_t1 arg5_r0 arg6_r0 arg7_r0 arg8_r0 arg9_r0 arg10_r0 arg11_r0 arg12_r0 arg13_r0 arg14_r0 k0_hw1 k0_h11)
theorem k0_off28_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h11 : k0_cond11 k0_t1 arg13_r0 arg14_r0 = 1#1), (Rect.unit (s := S8192x13312) (k0_off28 arg13_r0 arg14_r0) S2048x512.size (k0_off28_inb k0_t1 arg5_r0 arg6_r0 arg7_r0 arg8_r0 arg9_r0 arg10_r0 arg11_r0 arg12_r0 arg13_r0 arg14_r0 k0_hw1 k0_h11)).WholeWords (EltTy.packing .bf16) := fun k0_t1 arg5_r0 arg6_r0 arg7_r0 arg8_r0 arg9_r0 arg10_r0 arg11_r0 arg12_r0 arg13_r0 arg14_r0 k0_hw1 k0_h11 => k0_hw1.2.2.2.2.2.2.2.2.2.2.2.2.2.2.2.2.2.2.2.2.2.2.2.2.2.2.1 k0_h11 (k0_off28_inb k0_t1 arg5_r0 arg6_r0 arg7_r0 arg8_r0 arg9_r0 arg10_r0 arg11_r0 arg12_r0 arg13_r0 arg14_r0 k0_hw1 k0_h11)
theorem k0_off30_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h15 : k0_cond15 k0_t1 arg13_r0 arg14_r0 = 1#1), ∀ a, (k0_off30 arg12_r0) a + S1.size a ≤ S2.size a := fun k0_t1 arg5_r0 arg6_r0 arg7_r0 arg8_r0 arg9_r0 arg10_r0 arg11_r0 arg12_r0 arg13_r0 arg14_r0 k0_hw1 k0_h15 => k0_hw1.2.2.2.2.2.2.2.2.2.2.2.2.2.2.2.2.2.2.2.2.2.2.2.2.2.2.2.1 k0_h15
theorem k0_off31_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h15 : k0_cond15 k0_t1 arg13_r0 arg14_r0 = 1#1), ∀ a, (k0_off31 arg13_r0 arg14_r0) a + S2048x512.size a ≤ S8192x13312.size a := fun k0_t1 arg5_r0 arg6_r0 arg7_r0 arg8_r0 arg9_r0 arg10_r0 arg11_r0 arg12_r0 arg13_r0 arg14_r0 k0_hw1 k0_h15 => k0_hw1.2.2.2.2.2.2.2.2.2.2.2.2.2.2.2.2.2.2.2.2.2.2.2.2.2.2.2.2.1 k0_h15
theorem k0_off32_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h15 : k0_cond15 k0_t1 arg13_r0 arg14_r0 = 1#1), ∀ a, (k0_off32 arg12_r0) a + S1x2048x512.size a ≤ S2x2048x512.size a := fun k0_t1 arg5_r0 arg6_r0 arg7_r0 arg8_r0 arg9_r0 arg10_r0 arg11_r0 arg12_r0 arg13_r0 arg14_r0 k0_hw1 k0_h15 => k0_hw1.2.2.2.2.2.2.2.2.2.2.2.2.2.2.2.2.2.2.2.2.2.2.2.2.2.2.2.2.2.1 k0_h15
theorem k0_off32_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h15 : k0_cond15 k0_t1 arg13_r0 arg14_r0 = 1#1), (Rect.unit (s := S2x2048x512) (k0_off32 arg12_r0) S1x2048x512.size (k0_off32_inb k0_t1 arg5_r0 arg6_r0 arg7_r0 arg8_r0 arg9_r0 arg10_r0 arg11_r0 arg12_r0 arg13_r0 arg14_r0 k0_hw1 k0_h15)).WholeWords (EltTy.packing .bf16) := fun k0_t1 arg5_r0 arg6_r0 arg7_r0 arg8_r0 arg9_r0 arg10_r0 arg11_r0 arg12_r0 arg13_r0 arg14_r0 k0_hw1 k0_h15 => k0_hw1.2.2.2.2.2.2.2.2.2.2.2.2.2.2.2.2.2.2.2.2.2.2.2.2.2.2.2.2.2.2.1 k0_h15 (k0_off32_inb k0_t1 arg5_r0 arg6_r0 arg7_r0 arg8_r0 arg9_r0 arg10_r0 arg11_r0 arg12_r0 arg13_r0 arg14_r0 k0_hw1 k0_h15)
theorem k0_off31_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg5_r0 arg6_r0 arg7_r0 arg8_r0 arg9_r0 arg10_r0 arg11_r0 arg12_r0 arg13_r0 arg14_r0), ∀ (k0_h15 : k0_cond15 k0_t1 arg13_r0 arg14_r0 = 1#1), (Rect.unit (s := S8192x13312) (k0_off31 arg13_r0 arg14_r0) S2048x512.size (k0_off31_inb k0_t1 arg5_r0 arg6_r0 arg7_r0 arg8_r0 arg9_r0 arg10_r0 arg11_r0 arg12_r0 arg13_r0 arg14_r0 k0_hw1 k0_h15)).WholeWords (EltTy.packing .bf16) := fun k0_t1 arg5_r0 arg6_r0 arg7_r0 arg8_r0 arg9_r0 arg10_r0 arg11_r0 arg12_r0 arg13_r0 arg14_r0 k0_hw1 k0_h15 => k0_hw1.2.2.2.2.2.2.2.2.2.2.2.2.2.2.2.2.2.2.2.2.2.2.2.2.2.2.2.2.2.2.2 k0_h15 (k0_off31_inb k0_t1 arg5_r0 arg6_r0 arg7_r0 arg8_r0 arg9_r0 arg10_r0 arg11_r0 arg12_r0 arg13_r0 arg14_r0 k0_hw1 k0_h15)

def k0_off33 (v54_7_r0 : BitVec 32) : Fin 1 → Nat :=
  let c2_i32_98_r0 : BitVec 32 := 2#32
  let v95_r0 : BitVec 32 := Scalar.remui v54_7_r0 c2_i32_98_r0
  ![v95_r0.toNat]

def k0_off34 (v54_9_r0 : BitVec 32) (v54_8_r0 : BitVec 32) : Fin 2 → Nat :=
  let c2048_i32_r0 : BitVec 32 := 2048#32
  let true_63_r0 : BitVec 1 := 1#1
  let c1_i32_62_r0 : BitVec 32 := 1#32
  let v55_r0 : BitVec 32 := Scalar.subi v54_9_r0 c1_i32_62_r0
  let v56_r0 : BitVec 32 := Scalar.select true_63_r0 v55_r0 v54_9_r0
  let c_m1_i32_64_r0 : BitVec 32 := 4294967295#32
  let v57_r0 : BitVec 1 := Scalar.cmpi .eq v56_r0 c_m1_i32_64_r0
  let c1_i32_66_r0 : BitVec 32 := 1#32
  let v59_r0 : BitVec 32 := Scalar.subi v54_8_r0 c1_i32_66_r0
  let v60_r0 : BitVec 32 := Scalar.select v57_r0 v59_r0 v54_8_r0
  let c_m1_i32_67_r0 : BitVec 32 := 4294967295#32
  let v61_r0 : BitVec 1 := Scalar.cmpi .eq v60_r0 c_m1_i32_67_r0
  let c3_i32_68_r0 : BitVec 32 := 3#32
  let v62_r0 : BitVec 32 := Scalar.select v61_r0 c3_i32_68_r0 v60_r0
  let c0_i32_69_r0 : BitVec 32 := 0#32
  let v63_r0 : BitVec 32 := Scalar.addi v62_r0 c0_i32_69_r0
  let v96_r0 : BitVec 32 := Scalar.muli c2048_i32_r0 v63_r0
  let c512_i32_r0 : BitVec 32 := 512#32
  let c25_i32_65_r0 : BitVec 32 := 25#32
  let v58_r0 : BitVec 32 := Scalar.select v57_r0 c25_i32_65_r0 v56_r0
  let c0_i32_70_r0 : BitVec 32 := 0#32
  let v64_r0 : BitVec 32 := Scalar.addi v58_r0 c0_i32_70_r0
  let v97_r0 : BitVec 32 := Scalar.muli c512_i32_r0 v64_r0
  ![v96_r0.toNat, v97_r0.toNat]

def k0_off35 (v54_7_r0 : BitVec 32) : Fin 3 → Nat :=
  let c2_i32_98_r0 : BitVec 32 := 2#32
  let v95_r0 : BitVec 32 := Scalar.remui v54_7_r0 c2_i32_98_r0
  let c0_i32_99_r0 : BitVec 32 := 0#32
  let c0_i32_100_r0 : BitVec 32 := 0#32
  ![v95_r0.toNat, 0, 0]

def k0_chk6 (v54_7_r0 : BitVec 32) : Prop :=
  (∀ a, (k0_off33 v54_7_r0) a + S1.size a ≤ S2.size a) ∧
  (∀ a, (k0_off35 v54_7_r0) a + S1x2048x512.size a ≤ S2x2048x512.size a) ∧
  (∀ (hinb : ∀ a, (k0_off35 v54_7_r0) a + S1x2048x512.size a ≤ S2x2048x512.size a), (Rect.unit (s := S2x2048x512) (k0_off35 v54_7_r0) S1x2048x512.size hinb).WholeWords (EltTy.packing .bf16))
theorem k0_off33_inb : ∀ (v54_7_r0 : BitVec 32) (k0_hw6 : k0_chk6 v54_7_r0), ∀ a, (k0_off33 v54_7_r0) a + S1.size a ≤ S2.size a := fun v54_7_r0 k0_hw6 => k0_hw6.1
theorem k0_off35_inb : ∀ (v54_7_r0 : BitVec 32) (k0_hw6 : k0_chk6 v54_7_r0), ∀ a, (k0_off35 v54_7_r0) a + S1x2048x512.size a ≤ S2x2048x512.size a := fun v54_7_r0 k0_hw6 => k0_hw6.2.1
theorem k0_off35_wordsbf16 : ∀ (v54_7_r0 : BitVec 32) (k0_hw6 : k0_chk6 v54_7_r0), (Rect.unit (s := S2x2048x512) (k0_off35 v54_7_r0) S1x2048x512.size (k0_off35_inb v54_7_r0 k0_hw6)).WholeWords (EltTy.packing .bf16) := fun v54_7_r0 k0_hw6 => k0_hw6.2.2 (k0_off35_inb v54_7_r0 k0_hw6)

def k0_chk7 (v54_9_r0 : BitVec 32) (v54_8_r0 : BitVec 32) : Prop :=
  (∀ a, (k0_off34 v54_9_r0 v54_8_r0) a + S2048x512.size a ≤ S8192x13312.size a) ∧
  (∀ (hinb : ∀ a, (k0_off34 v54_9_r0 v54_8_r0) a + S2048x512.size a ≤ S8192x13312.size a), (Rect.unit (s := S8192x13312) (k0_off34 v54_9_r0 v54_8_r0) S2048x512.size hinb).WholeWords (EltTy.packing .bf16))
theorem k0_off34_inb : ∀ (v54_9_r0 : BitVec 32) (v54_8_r0 : BitVec 32) (k0_hw7 : k0_chk7 v54_9_r0 v54_8_r0), ∀ a, (k0_off34 v54_9_r0 v54_8_r0) a + S2048x512.size a ≤ S8192x13312.size a := fun v54_9_r0 v54_8_r0 k0_hw7 => k0_hw7.1
theorem k0_off34_wordsbf16 : ∀ (v54_9_r0 : BitVec 32) (v54_8_r0 : BitVec 32) (k0_hw7 : k0_chk7 v54_9_r0 v54_8_r0), (Rect.unit (s := S8192x13312) (k0_off34 v54_9_r0 v54_8_r0) S2048x512.size (k0_off34_inb v54_9_r0 v54_8_r0 k0_hw7)).WholeWords (EltTy.packing .bf16) := fun v54_9_r0 v54_8_r0 k0_hw7 => k0_hw7.2 (k0_off34_inb v54_9_r0 v54_8_r0 k0_hw7)
-- ==== ReferenceIdeal.lean ====
abbrev S8192x4096 : Shape := ⟨2, ![8192, 4096]⟩
abbrev S2x4096x13312 : Shape := ⟨3, ![2, 4096, 13312]⟩
abbrev S1x4096x13312 : Shape := ⟨3, ![1, 4096, 13312]⟩
abbrev S4096x13312 : Shape := ⟨2, ![4096, 13312]⟩
abbrev S8192x13312 : Shape := ⟨2, ![8192, 13312]⟩
abbrev S8192x2048 : Shape := ⟨2, ![8192, 2048]⟩
abbrev S_ : Shape := ⟨0, ![]⟩
abbrev S8192x9216 : Shape := ⟨2, ![8192, 9216]⟩
abbrev S8192x1024 : Shape := ⟨2, ![8192, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x13312, .f32⟩
  | .hbm, ⟨2, _⟩ => ⟨S8192x4096, .f32⟩
  | .hbm, ⟨3, _⟩ => ⟨S1x4096x13312, .f32⟩
  | .hbm, ⟨4, _⟩ => ⟨S4096x13312, .f32⟩
  | .hbm, ⟨5, _⟩ => ⟨S8192x13312, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x9216, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x13312, .f32⟩
  | .hbm, ⟨17, _⟩ => ⟨S8192x13312, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S2x4096x4096 : Shape := ⟨3, ![2, 4096, 4096]⟩
abbrev S8192x4096 : Shape := ⟨2, ![8192, 4096]⟩
abbrev S8192x1 : Shape := ⟨2, ![8192, 1]⟩
abbrev S4096 : Shape := ⟨1, ![4096]⟩
abbrev S8192x128 : Shape := ⟨2, ![8192, 128]⟩
abbrev S1x4096 : Shape := ⟨2, ![1, 4096]⟩
abbrev S2x512x2048 : Shape := ⟨3, ![2, 512, 2048]⟩
abbrev S2 : Shape := ⟨1, ![2]⟩
abbrev S2x512x1024 : Shape := ⟨3, ![2, 512, 1024]⟩
abbrev S2x4096x1024 : Shape := ⟨3, ![2, 4096, 1024]⟩
abbrev S2x512x128 : Shape := ⟨3, ![2, 512, 128]⟩
abbrev S2x1x1024 : Shape := ⟨3, ![2, 1, 1024]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S1x4096x1024 : Shape := ⟨3, ![1, 4096, 1024]⟩
abbrev S4096x1024 : Shape := ⟨2, ![4096, 1024]⟩
abbrev S1x4096x4096 : Shape := ⟨3, ![1, 4096, 4096]⟩
abbrev S4096x4096 : Shape := ⟨2, ![4096, 4096]⟩
abbrev S1x512x128 : Shape := ⟨3, ![1, 512, 128]⟩
abbrev S512x128 : Shape := ⟨2, ![512, 128]⟩
abbrev S1x1x1024 : Shape := ⟨3, ![1, 1, 1024]⟩
abbrev S1x1024 : Shape := ⟨2, ![1, 1024]⟩
abbrev S2048x1024 : Shape := ⟨2, ![2048, 1024]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x4096x4096, .f32⟩
  | .hbm, ⟨4, _⟩ => ⟨S8192x4096, .f32⟩
  | .hbm, ⟨5, _⟩ => ⟨S8192x1, .f32⟩
  | .hbm, ⟨6, _⟩ => ⟨S8192x1, .f32⟩
  | .hbm, ⟨7, _⟩ => ⟨S4096, .f32⟩
  | .hbm, ⟨8, _⟩ => ⟨S4096, .f32⟩
  | .hbm, ⟨9, _⟩ => ⟨S8192x128, .f32⟩
  | .hbm, ⟨10, _⟩ => ⟨S8192x128, .f32⟩
  | .hbm, ⟨11, _⟩ => ⟨S1x4096, .f32⟩
  | .hbm, ⟨12, _⟩ => ⟨S1x4096, .f32⟩
  | .hbm, ⟨13, _⟩ => ⟨S8192x4096, .f32⟩
  | .local _ .vmem, ⟨0, _⟩ => ⟨S2x512x2048, .bf16⟩
  | .local _ .vmem, ⟨1, _⟩ => ⟨S2x512x1024, .bf16⟩
  | .local _ .vmem, ⟨2, _⟩ => ⟨S2x512x1024, .bf16⟩
  | .local _ .vmem, ⟨3, _⟩ => ⟨S2x4096x1024, .f32⟩
  | .local _ .vmem, ⟨4, _⟩ => ⟨S2x512x1024, .f32⟩
  | .local _ .vmem, ⟨5, _⟩ => ⟨S2x512x128, .f32⟩
  | .local _ .vmem, ⟨6, _⟩ => ⟨S2x512x128, .f32⟩
  | .local _ .vmem, ⟨7, _⟩ => ⟨S2x1x1024, .f32⟩
  | .local _ .vmem, ⟨8, _⟩ => ⟨S2x1x1024, .f32⟩
  | .local _ .vmem, ⟨9, _⟩ => ⟨S2x512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩
abbrev cc0_scoped14 : Ref sig .tc := ⟨.vmem, 7, rfl⟩
abbrev cc0_scoped16 : Ref sig .tc := ⟨.vmem, 8, rfl⟩
abbrev cc0_scoped18 : Ref sig .tc := ⟨.vmem, 9, rfl⟩

abbrev nD : Nat := 1
abbrev τ : Topo := Topo.v7x

variable {F : FTy → Type} [FloatOps F]

abbrev grid0 : Pipeline.Grid := .none

def k0_off1 : Fin 1 → Nat :=
  let c0_i32_33_r0 : BitVec 32 := 0#32
  let c2_i32_r0 : BitVec 32 := 2#32
  let v36_r0 : BitVec 32 := Scalar.remui c0_i32_33_r0 c2_i32_r0
  ![v36_r0.toNat]
def k0_off2 : Fin 3 → Nat :=
  let c0_i32_33_r0 : BitVec 32 := 0#32
  let c2_i32_r0 : BitVec 32 := 2#32
  let v36_r0 : BitVec 32 := Scalar.remui c0_i32_33_r0 c2_i32_r0
  let c0_i32_34_r0 : BitVec 32 := 0#32
  let c0_i32_35_r0 : BitVec 32 := 0#32
  ![v36_r0.toNat, 0, 0]
def k0_off3 : Fin 3 → Nat :=
  let c0_i32_40_r0 : BitVec 32 := 0#32
  let c2_i32_41_r0 : BitVec 32 := 2#32
  let v43_r0 : BitVec 32 := Scalar.remui c0_i32_40_r0 c2_i32_41_r0
  let c0_i32_42_r0 : BitVec 32 := 0#32
  let c0_i32_43_r0 : BitVec 32 := 0#32
  ![v43_r0.toNat, 0, 0]
def k0_off4 : Fin 3 → Nat :=
  let c0_i32_56_r0 : BitVec 32 := 0#32
  let c2_i32_57_r0 : BitVec 32 := 2#32
  let v57_r0 : BitVec 32 := Scalar.remui c0_i32_56_r0 c2_i32_57_r0
  let c0_i32_58_r0 : BitVec 32 := 0#32
  let c0_i32_59_r0 : BitVec 32 := 0#32
  ![v57_r0.toNat, 0, 0]
def k0_off5 : Fin 3 → Nat :=
  let c0_i32_74_r0 : BitVec 32 := 0#32
  let c2_i32_75_r0 : BitVec 32 := 2#32
  let v73_r0 : BitVec 32 := Scalar.remui c0_i32_74_r0 c2_i32_75_r0
  let c0_i32_76_r0 : BitVec 32 := 0#32
  let c0_i32_77_r0 : BitVec 32 := 0#32
  ![v73_r0.toNat, 0, 0]
def k0_off6 : Fin 3 → Nat :=
  let c0_i32_90_r0 : BitVec 32 := 0#32
  let c2_i32_91_r0 : BitVec 32 := 2#32
  let v87_r0 : BitVec 32 := Scalar.remui c0_i32_90_r0 c2_i32_91_r0
  let c0_i32_92_r0 : BitVec 32 := 0#32
  let c0_i32_93_r0 : BitVec 32 := 0#32
  ![v87_r0.toNat, 0, 0]
@[reducible] def k0_t1_loop : Scf.Loop 32 :=
  let c0_i32_119_r0 : BitVec 32 := 0#32
  let c64_i32_r0 : BitVec 32 := 64#32
  let v101_r0 : BitVec 32 := Scalar.addi c0_i32_119_r0 c64_i32_r0
  let c1_i32_120_r0 : BitVec 32 := 1#32
  ⟨c0_i32_119_r0, v101_r0, c1_i32_120_r0⟩
def k0_off7 (arg11_r0 : BitVec 32) : Fin 1 → Nat :=
  let c2_i32_374_r0 : BitVec 32 := 2#32
  let v581_r0 : BitVec 32 := Scalar.remui arg11_r0 c2_i32_374_r0
  ![v581_r0.toNat]
def k0_cond1 (k0_t1 : Fin k0_t1_loop.trips) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v185_r0 : BitVec 1 := Scalar.cmpi .ne v154_r0 v174_r0
  let c0_i32_119_r0 : BitVec 32 := 0#32
  let c1_i32_120_r0 : BitVec 32 := 1#32
  let arg10_r0 : BitVec 32 := Scf.iv c0_i32_119_r0 c1_i32_120_r0 k0_t1
  let c63_i32_191_r0 : BitVec 32 := 63#32
  let v186_r0 : BitVec 1 := Scalar.cmpi .sge arg10_r0 c63_i32_191_r0
  let true_192_r0 : BitVec 1 := 1#1
  let v187_r0 : BitVec 1 := Scalar.xori v186_r0 true_192_r0
  let v188_r0 : BitVec 1 := Scalar.andi v185_r0 v187_r0
  let true_193_r0 : BitVec 1 := 1#1
  let v189_r0 : BitVec 1 := Scalar.andi v188_r0 true_193_r0
  let v190_r0 : BitVec 32 := Scalar.extui v189_r0
  let c0_i32_194_r0 : BitVec 32 := 0#32
  let v191_r0 : BitVec 1 := Scalar.cmpi .ne v190_r0 c0_i32_194_r0
  v191_r0

def k0_off8 (arg11_r0 : BitVec 32) : Fin 3 → Nat :=
  let c2_i32_374_r0 : BitVec 32 := 2#32
  let v581_r0 : BitVec 32 := Scalar.remui arg11_r0 c2_i32_374_r0
  let c0_i32_376_r0 : BitVec 32 := 0#32
  let c0_i32_377_r0 : BitVec 32 := 0#32
  ![v581_r0.toNat, 0, 0]
def k0_off9 (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c0_i32_378_r0 : BitVec 32 := 0#32
  ![v582_r0.toNat, 0]
def k0_off10 (arg13_r0 : BitVec 32) : Fin 1 → Nat :=
  let c2_i32_374_r0 : BitVec 32 := 2#32
  let v581_r0 : BitVec 32 := Scalar.remui arg13_r0 c2_i32_374_r0
  ![v581_r0.toNat]
def k0_cond2 (k0_t1 : Fin k0_t1_loop.trips) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v195_r0 : BitVec 1 := Scalar.cmpi .ne v154_r0 v174_r0
  let c0_i32_119_r0 : BitVec 32 := 0#32
  let c1_i32_120_r0 : BitVec 32 := 1#32
  let arg10_r0 : BitVec 32 := Scf.iv c0_i32_119_r0 c1_i32_120_r0 k0_t1
  let c63_i32_197_r0 : BitVec 32 := 63#32
  let v196_r0 : BitVec 1 := Scalar.cmpi .sge arg10_r0 c63_i32_197_r0
  let true_198_r0 : BitVec 1 := 1#1
  let v197_r0 : BitVec 1 := Scalar.xori v196_r0 true_198_r0
  let v198_r0 : BitVec 1 := Scalar.andi v195_r0 v197_r0
  let true_199_r0 : BitVec 1 := 1#1
  let v199_r0 : BitVec 1 := Scalar.andi v198_r0 true_199_r0
  let v200_r0 : BitVec 32 := Scalar.extui v199_r0
  let c0_i32_200_r0 : BitVec 32 := 0#32
  let v201_r0 : BitVec 1 := Scalar.cmpi .ne v200_r0 c0_i32_200_r0
  v201_r0

def k0_off11 (arg13_r0 : BitVec 32) : Fin 3 → Nat :=
  let c2_i32_374_r0 : BitVec 32 := 2#32
  let v581_r0 : BitVec 32 := Scalar.remui arg13_r0 c2_i32_374_r0
  let c0_i32_376_r0 : BitVec 32 := 0#32
  let c0_i32_377_r0 : BitVec 32 := 0#32
  ![v581_r0.toNat, 0, 0]
def k0_off12 (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c0_i32_378_r0 : BitVec 32 := 0#32
  ![v582_r0.toNat, 0]
def k0_off13 (arg15_r0 : BitVec 32) : Fin 1 → Nat :=
  let c2_i32_374_r0 : BitVec 32 := 2#32
  let v581_r0 : BitVec 32 := Scalar.remui arg15_r0 c2_i32_374_r0
  ![v581_r0.toNat]
def k0_cond3 (k0_t1 : Fin k0_t1_loop.trips) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v205_r0 : BitVec 1 := Scalar.cmpi .ne v154_r0 v174_r0
  let c0_i32_119_r0 : BitVec 32 := 0#32
  let c1_i32_120_r0 : BitVec 32 := 1#32
  let arg10_r0 : BitVec 32 := Scf.iv c0_i32_119_r0 c1_i32_120_r0 k0_t1
  let c63_i32_203_r0 : BitVec 32 := 63#32
  let v206_r0 : BitVec 1 := Scalar.cmpi .sge arg10_r0 c63_i32_203_r0
  let true_204_r0 : BitVec 1 := 1#1
  let v207_r0 : BitVec 1 := Scalar.xori v206_r0 true_204_r0
  let v208_r0 : BitVec 1 := Scalar.andi v205_r0 v207_r0
  let true_205_r0 : BitVec 1 := 1#1
  let v209_r0 : BitVec 1 := Scalar.andi v208_r0 true_205_r0
  let v210_r0 : BitVec 32 := Scalar.extui v209_r0
  let c0_i32_206_r0 : BitVec 32 := 0#32
  let v211_r0 : BitVec 1 := Scalar.cmpi .ne v210_r0 c0_i32_206_r0
  v211_r0

def k0_off14 (arg15_r0 : BitVec 32) : Fin 3 → Nat :=
  let c2_i32_374_r0 : BitVec 32 := 2#32
  let v581_r0 : BitVec 32 := Scalar.remui arg15_r0 c2_i32_374_r0
  let c0_i32_376_r0 : BitVec 32 := 0#32
  let c0_i32_377_r0 : BitVec 32 := 0#32
  ![v581_r0.toNat, 0, 0]
def k0_off15 (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c0_i32_378_r0 : BitVec 32 := 0#32
  ![v582_r0.toNat, 0]
def k0_off16 (arg17_r0 : BitVec 32) : Fin 1 → Nat :=
  let c2_i32_374_r0 : BitVec 32 := 2#32
  let v581_r0 : BitVec 32 := Scalar.remui arg17_r0 c2_i32_374_r0
  ![v581_r0.toNat]
def k0_cond4 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v215_r0 : BitVec 1 := Scalar.cmpi .ne v153_r0 v173_r0
  let c0_i32_119_r0 : BitVec 32 := 0#32
  let c1_i32_120_r0 : BitVec 32 := 1#32
  let arg10_r0 : BitVec 32 := Scf.iv c0_i32_119_r0 c1_i32_120_r0 k0_t1
  let c63_i32_209_r0 : BitVec 32 := 63#32
  let v216_r0 : BitVec 1 := Scalar.cmpi .sge arg10_r0 c63_i32_209_r0
  let true_210_r0 : BitVec 1 := 1#1
  let v217_r0 : BitVec 1 := Scalar.xori v216_r0 true_210_r0
  let v218_r0 : BitVec 1 := Scalar.andi v215_r0 v217_r0
  let true_211_r0 : BitVec 1 := 1#1
  let v219_r0 : BitVec 1 := Scalar.andi v218_r0 true_211_r0
  let v220_r0 : BitVec 32 := Scalar.extui v219_r0
  let c0_i32_212_r0 : BitVec 32 := 0#32
  let v221_r0 : BitVec 1 := Scalar.cmpi .ne v220_r0 c0_i32_212_r0
  v221_r0

def k0_off17 (arg17_r0 : BitVec 32) : Fin 3 → Nat :=
  let c2_i32_374_r0 : BitVec 32 := 2#32
  let v581_r0 : BitVec 32 := Scalar.remui arg17_r0 c2_i32_374_r0
  let c0_i32_376_r0 : BitVec 32 := 0#32
  let c0_i32_377_r0 : BitVec 32 := 0#32
  ![v581_r0.toNat, 0, 0]
def k0_off18 (arg31_r0 : BitVec 32) (arg32_r0 : BitVec 32) : Fin 2 → Nat :=
  let c0_i32_380_r0 : BitVec 32 := 0#32
  let c1024_i32_375_r0 : BitVec 32 := 1024#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v582_r0 : BitVec 32 := Scalar.muli c1024_i32_375_r0 v173_r0
  ![0, v582_r0.toNat]
def k0_off19 (arg19_r0 : BitVec 32) : Fin 1 → Nat :=
  let c2_i32_374_r0 : BitVec 32 := 2#32
  let v581_r0 : BitVec 32 := Scalar.remui arg19_r0 c2_i32_374_r0
  ![v581_r0.toNat]
def k0_cond5 (k0_t1 : Fin k0_t1_loop.trips) (arg31_r0 : BitVec 32) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v225_r0 : BitVec 1 := Scalar.cmpi .ne v154_r0 v174_r0
  let c0_i32_162_r0 : BitVec 32 := 0#32
  let v153_r0 : BitVec 32 := Scalar.addi arg31_r0 c0_i32_162_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v226_r0 : BitVec 1 := Scalar.cmpi .ne v153_r0 v173_r0
  let v227_r0 : BitVec 1 := Scalar.ori v225_r0 v226_r0
  let c0_i32_119_r0 : BitVec 32 := 0#32
  let c1_i32_120_r0 : BitVec 32 := 1#32
  let arg10_r0 : BitVec 32 := Scf.iv c0_i32_119_r0 c1_i32_120_r0 k0_t1
  let c63_i32_215_r0 : BitVec 32 := 63#32
  let v228_r0 : BitVec 1 := Scalar.cmpi .sge arg10_r0 c63_i32_215_r0
  let true_216_r0 : BitVec 1 := 1#1
  let v229_r0 : BitVec 1 := Scalar.xori v228_r0 true_216_r0
  let v230_r0 : BitVec 1 := Scalar.andi v227_r0 v229_r0
  let true_217_r0 : BitVec 1 := 1#1
  let v231_r0 : BitVec 1 := Scalar.andi v230_r0 true_217_r0
  let v232_r0 : BitVec 32 := Scalar.extui v231_r0
  let c0_i32_218_r0 : BitVec 32 := 0#32
  let v233_r0 : BitVec 1 := Scalar.cmpi .ne v232_r0 c0_i32_218_r0
  v233_r0

def k0_off20 (arg19_r0 : BitVec 32) : Fin 3 → Nat :=
  let c2_i32_374_r0 : BitVec 32 := 2#32
  let v581_r0 : BitVec 32 := Scalar.remui arg19_r0 c2_i32_374_r0
  let c0_i32_377_r0 : BitVec 32 := 0#32
  let c0_i32_378_r0 : BitVec 32 := 0#32
  ![v581_r0.toNat, 0, 0]
def k0_off21 (arg31_r0 : BitVec 32) (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c1024_i32_376_r0 : BitVec 32 := 1024#32
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v583_r0 : BitVec 32 := Scalar.muli c1024_i32_376_r0 v173_r0
  ![v582_r0.toNat, v583_r0.toNat]
def k0_off22 (arg21_r0 : BitVec 32) : Fin 1 → Nat :=
  let c2_i32_374_r0 : BitVec 32 := 2#32
  let v581_r0 : BitVec 32 := Scalar.remui arg21_r0 c2_i32_374_r0
  ![v581_r0.toNat]
def k0_cond6 (k0_t1 : Fin k0_t1_loop.trips) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v237_r0 : BitVec 1 := Scalar.cmpi .ne v154_r0 v174_r0
  let c0_i32_119_r0 : BitVec 32 := 0#32
  let c1_i32_120_r0 : BitVec 32 := 1#32
  let arg10_r0 : BitVec 32 := Scf.iv c0_i32_119_r0 c1_i32_120_r0 k0_t1
  let c63_i32_221_r0 : BitVec 32 := 63#32
  let v238_r0 : BitVec 1 := Scalar.cmpi .sge arg10_r0 c63_i32_221_r0
  let true_222_r0 : BitVec 1 := 1#1
  let v239_r0 : BitVec 1 := Scalar.xori v238_r0 true_222_r0
  let v240_r0 : BitVec 1 := Scalar.andi v237_r0 v239_r0
  let true_223_r0 : BitVec 1 := 1#1
  let v241_r0 : BitVec 1 := Scalar.andi v240_r0 true_223_r0
  let v242_r0 : BitVec 32 := Scalar.extui v241_r0
  let c0_i32_224_r0 : BitVec 32 := 0#32
  let v243_r0 : BitVec 1 := Scalar.cmpi .ne v242_r0 c0_i32_224_r0
  v243_r0

def k0_off23 (arg21_r0 : BitVec 32) : Fin 3 → Nat :=
  let c2_i32_374_r0 : BitVec 32 := 2#32
  let v581_r0 : BitVec 32 := Scalar.remui arg21_r0 c2_i32_374_r0
  let c0_i32_376_r0 : BitVec 32 := 0#32
  let c0_i32_377_r0 : BitVec 32 := 0#32
  ![v581_r0.toNat, 0, 0]
def k0_off24 (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c0_i32_378_r0 : BitVec 32 := 0#32
  ![v582_r0.toNat, 0]
def k0_off25 (arg23_r0 : BitVec 32) : Fin 1 → Nat :=
  let c2_i32_374_r0 : BitVec 32 := 2#32
  let v581_r0 : BitVec 32 := Scalar.remui arg23_r0 c2_i32_374_r0
  ![v581_r0.toNat]
def k0_cond7 (k0_t1 : Fin k0_t1_loop.trips) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v247_r0 : BitVec 1 := Scalar.cmpi .ne v154_r0 v174_r0
  let c0_i32_119_r0 : BitVec 32 := 0#32
  let c1_i32_120_r0 : BitVec 32 := 1#32
  let arg10_r0 : BitVec 32 := Scf.iv c0_i32_119_r0 c1_i32_120_r0 k0_t1
  let c63_i32_227_r0 : BitVec 32 := 63#32
  let v248_r0 : BitVec 1 := Scalar.cmpi .sge arg10_r0 c63_i32_227_r0
  let true_228_r0 : BitVec 1 := 1#1
  let v249_r0 : BitVec 1 := Scalar.xori v248_r0 true_228_r0
  let v250_r0 : BitVec 1 := Scalar.andi v247_r0 v249_r0
  let true_229_r0 : BitVec 1 := 1#1
  let v251_r0 : BitVec 1 := Scalar.andi v250_r0 true_229_r0
  let v252_r0 : BitVec 32 := Scalar.extui v251_r0
  let c0_i32_230_r0 : BitVec 32 := 0#32
  let v253_r0 : BitVec 1 := Scalar.cmpi .ne v252_r0 c0_i32_230_r0
  v253_r0

def k0_off26 (arg23_r0 : BitVec 32) : Fin 3 → Nat :=
  let c2_i32_374_r0 : BitVec 32 := 2#32
  let v581_r0 : BitVec 32 := Scalar.remui arg23_r0 c2_i32_374_r0
  let c0_i32_376_r0 : BitVec 32 := 0#32
  let c0_i32_377_r0 : BitVec 32 := 0#32
  ![v581_r0.toNat, 0, 0]
def k0_off27 (arg32_r0 : BitVec 32) : Fin 2 → Nat :=
  let c512_i32_375_r0 : BitVec 32 := 512#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v582_r0 : BitVec 32 := Scalar.muli c512_i32_375_r0 v174_r0
  let c0_i32_378_r0 : BitVec 32 := 0#32
  ![v582_r0.toNat, 0]
def k0_off28 (arg25_r0 : BitVec 32) : Fin 1 → Nat :=
  let c2_i32_374_r0 : BitVec 32 := 2#32
  let v581_r0 : BitVec 32 := Scalar.remui arg25_r0 c2_i32_374_r0
  ![v581_r0.toNat]
def k0_cond8 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v257_r0 : BitVec 1 := Scalar.cmpi .ne v153_r0 v173_r0
  let c0_i32_119_r0 : BitVec 32 := 0#32
  let c1_i32_120_r0 : BitVec 32 := 1#32
  let arg10_r0 : BitVec 32 := Scf.iv c0_i32_119_r0 c1_i32_120_r0 k0_t1
  let c63_i32_233_r0 : BitVec 32 := 63#32
  let v258_r0 : BitVec 1 := Scalar.cmpi .sge arg10_r0 c63_i32_233_r0
  let true_234_r0 : BitVec 1 := 1#1
  let v259_r0 : BitVec 1 := Scalar.xori v258_r0 true_234_r0
  let v260_r0 : BitVec 1 := Scalar.andi v257_r0 v259_r0
  let true_235_r0 : BitVec 1 := 1#1
  let v261_r0 : BitVec 1 := Scalar.andi v260_r0 true_235_r0
  let v262_r0 : BitVec 32 := Scalar.extui v261_r0
  let c0_i32_236_r0 : BitVec 32 := 0#32
  let v263_r0 : BitVec 1 := Scalar.cmpi .ne v262_r0 c0_i32_236_r0
  v263_r0

def k0_off29 (arg25_r0 : BitVec 32) : Fin 3 → Nat :=
  let c2_i32_374_r0 : BitVec 32 := 2#32
  let v581_r0 : BitVec 32 := Scalar.remui arg25_r0 c2_i32_374_r0
  let c0_i32_376_r0 : BitVec 32 := 0#32
  let c0_i32_377_r0 : BitVec 32 := 0#32
  ![v581_r0.toNat, 0, 0]
def k0_off30 (arg31_r0 : BitVec 32) (arg32_r0 : BitVec 32) : Fin 2 → Nat :=
  let c0_i32_378_r0 : BitVec 32 := 0#32
  let c1024_i32_375_r0 : BitVec 32 := 1024#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v582_r0 : BitVec 32 := Scalar.muli c1024_i32_375_r0 v173_r0
  ![0, v582_r0.toNat]
def k0_off31 (arg27_r0 : BitVec 32) : Fin 1 → Nat :=
  let c2_i32_374_r0 : BitVec 32 := 2#32
  let v581_r0 : BitVec 32 := Scalar.remui arg27_r0 c2_i32_374_r0
  ![v581_r0.toNat]
def k0_cond9 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v267_r0 : BitVec 1 := Scalar.cmpi .ne v153_r0 v173_r0
  let c0_i32_119_r0 : BitVec 32 := 0#32
  let c1_i32_120_r0 : BitVec 32 := 1#32
  let arg10_r0 : BitVec 32 := Scf.iv c0_i32_119_r0 c1_i32_120_r0 k0_t1
  let c63_i32_239_r0 : BitVec 32 := 63#32
  let v268_r0 : BitVec 1 := Scalar.cmpi .sge arg10_r0 c63_i32_239_r0
  let true_240_r0 : BitVec 1 := 1#1
  let v269_r0 : BitVec 1 := Scalar.xori v268_r0 true_240_r0
  let v270_r0 : BitVec 1 := Scalar.andi v267_r0 v269_r0
  let true_241_r0 : BitVec 1 := 1#1
  let v271_r0 : BitVec 1 := Scalar.andi v270_r0 true_241_r0
  let v272_r0 : BitVec 32 := Scalar.extui v271_r0
  let c0_i32_242_r0 : BitVec 32 := 0#32
  let v273_r0 : BitVec 1 := Scalar.cmpi .ne v272_r0 c0_i32_242_r0
  v273_r0

def k0_off32 (arg27_r0 : BitVec 32) : Fin 3 → Nat :=
  let c2_i32_374_r0 : BitVec 32 := 2#32
  let v581_r0 : BitVec 32 := Scalar.remui arg27_r0 c2_i32_374_r0
  let c0_i32_376_r0 : BitVec 32 := 0#32
  let c0_i32_377_r0 : BitVec 32 := 0#32
  ![v581_r0.toNat, 0, 0]
def k0_off33 (arg31_r0 : BitVec 32) (arg32_r0 : BitVec 32) : Fin 2 → Nat :=
  let c0_i32_378_r0 : BitVec 32 := 0#32
  let c1024_i32_375_r0 : BitVec 32 := 1024#32
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v582_r0 : BitVec 32 := Scalar.muli c1024_i32_375_r0 v173_r0
  ![0, v582_r0.toNat]
def k0_off34 (arg12_r0 : BitVec 32) : Fin 1 → Nat :=
  let c2_i32_375_r0 : BitVec 32 := 2#32
  let v582_r0 : BitVec 32 := Scalar.remui arg12_r0 c2_i32_375_r0
  ![v582_r0.toNat]
def k0_cond10 (k0_t1 : Fin k0_t1_loop.trips) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v283_r0 : BitVec 1 := Scalar.cmpi .ne v154_r0 v164_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v284_r0 : BitVec 1 := Scalar.ori v283_r0 v151_r0
  let c0_i32_247_r0 : BitVec 32 := 0#32
  let v285_r0 : BitVec 1 := Scalar.cmpi .sge arg10_r0 c0_i32_247_r0
  let v286_r0 : BitVec 1 := Scalar.andi v284_r0 v285_r0
  let v287_r0 : BitVec 32 := Scalar.extui v286_r0
  let c0_i32_248_r0 : BitVec 32 := 0#32
  let v288_r0 : BitVec 1 := Scalar.cmpi .ne v287_r0 c0_i32_248_r0
  v288_r0

def k0_off35 (arg12_r0 : BitVec 32) : Fin 3 → Nat :=
  let c2_i32_375_r0 : BitVec 32 := 2#32
  let v582_r0 : BitVec 32 := Scalar.remui arg12_r0 c2_i32_375_r0
  let c0_i32_376_r0 : BitVec 32 := 0#32
  let c0_i32_377_r0 : BitVec 32 := 0#32
  ![v582_r0.toNat, 0, 0]
def k0_off36 (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c0_i32_378_r0 : BitVec 32 := 0#32
  ![v581_r0.toNat, 0]
def k0_off37 (arg14_r0 : BitVec 32) : Fin 1 → Nat :=
  let c2_i32_375_r0 : BitVec 32 := 2#32
  let v582_r0 : BitVec 32 := Scalar.remui arg14_r0 c2_i32_375_r0
  ![v582_r0.toNat]
def k0_cond11 (k0_t1 : Fin k0_t1_loop.trips) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v289_r0 : BitVec 1 := Scalar.cmpi .ne v154_r0 v164_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v290_r0 : BitVec 1 := Scalar.ori v289_r0 v151_r0
  let c0_i32_249_r0 : BitVec 32 := 0#32
  let v291_r0 : BitVec 1 := Scalar.cmpi .sge arg10_r0 c0_i32_249_r0
  let v292_r0 : BitVec 1 := Scalar.andi v290_r0 v291_r0
  let v293_r0 : BitVec 32 := Scalar.extui v292_r0
  let c0_i32_250_r0 : BitVec 32 := 0#32
  let v294_r0 : BitVec 1 := Scalar.cmpi .ne v293_r0 c0_i32_250_r0
  v294_r0

def k0_off38 (arg14_r0 : BitVec 32) : Fin 3 → Nat :=
  let c2_i32_375_r0 : BitVec 32 := 2#32
  let v582_r0 : BitVec 32 := Scalar.remui arg14_r0 c2_i32_375_r0
  let c0_i32_376_r0 : BitVec 32 := 0#32
  let c0_i32_377_r0 : BitVec 32 := 0#32
  ![v582_r0.toNat, 0, 0]
def k0_off39 (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c0_i32_378_r0 : BitVec 32 := 0#32
  ![v581_r0.toNat, 0]
def k0_off40 (arg16_r0 : BitVec 32) : Fin 1 → Nat :=
  let c2_i32_375_r0 : BitVec 32 := 2#32
  let v582_r0 : BitVec 32 := Scalar.remui arg16_r0 c2_i32_375_r0
  ![v582_r0.toNat]
def k0_cond12 (k0_t1 : Fin k0_t1_loop.trips) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v295_r0 : BitVec 1 := Scalar.cmpi .ne v154_r0 v164_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v296_r0 : BitVec 1 := Scalar.ori v295_r0 v151_r0
  let c0_i32_251_r0 : BitVec 32 := 0#32
  let v297_r0 : BitVec 1 := Scalar.cmpi .sge arg10_r0 c0_i32_251_r0
  let v298_r0 : BitVec 1 := Scalar.andi v296_r0 v297_r0
  let v299_r0 : BitVec 32 := Scalar.extui v298_r0
  let c0_i32_252_r0 : BitVec 32 := 0#32
  let v300_r0 : BitVec 1 := Scalar.cmpi .ne v299_r0 c0_i32_252_r0
  v300_r0

def k0_off41 (arg16_r0 : BitVec 32) : Fin 3 → Nat :=
  let c2_i32_375_r0 : BitVec 32 := 2#32
  let v582_r0 : BitVec 32 := Scalar.remui arg16_r0 c2_i32_375_r0
  let c0_i32_376_r0 : BitVec 32 := 0#32
  let c0_i32_377_r0 : BitVec 32 := 0#32
  ![v582_r0.toNat, 0, 0]
def k0_off42 (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c0_i32_378_r0 : BitVec 32 := 0#32
  ![v581_r0.toNat, 0]
def k0_off43 (arg18_r0 : BitVec 32) : Fin 1 → Nat :=
  let c2_i32_375_r0 : BitVec 32 := 2#32
  let v582_r0 : BitVec 32 := Scalar.remui arg18_r0 c2_i32_375_r0
  ![v582_r0.toNat]
def k0_cond13 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v301_r0 : BitVec 1 := Scalar.cmpi .ne v153_r0 v163_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v302_r0 : BitVec 1 := Scalar.ori v301_r0 v151_r0
  let c0_i32_253_r0 : BitVec 32 := 0#32
  let v303_r0 : BitVec 1 := Scalar.cmpi .sge arg10_r0 c0_i32_253_r0
  let v304_r0 : BitVec 1 := Scalar.andi v302_r0 v303_r0
  let v305_r0 : BitVec 32 := Scalar.extui v304_r0
  let c0_i32_254_r0 : BitVec 32 := 0#32
  let v306_r0 : BitVec 1 := Scalar.cmpi .ne v305_r0 c0_i32_254_r0
  v306_r0

def k0_off44 (arg18_r0 : BitVec 32) : Fin 3 → Nat :=
  let c2_i32_375_r0 : BitVec 32 := 2#32
  let v582_r0 : BitVec 32 := Scalar.remui arg18_r0 c2_i32_375_r0
  let c0_i32_376_r0 : BitVec 32 := 0#32
  let c0_i32_377_r0 : BitVec 32 := 0#32
  ![v582_r0.toNat, 0, 0]
def k0_off45 (arg31_r0 : BitVec 32) : Fin 2 → Nat :=
  let c0_i32_380_r0 : BitVec 32 := 0#32
  let c1024_i32_374_r0 : BitVec 32 := 1024#32
  let c0_i32_162_r0 : BitVec 32 := 0#32
  let v153_r0 : BitVec 32 := Scalar.addi arg31_r0 c0_i32_162_r0
  let v581_r0 : BitVec 32 := Scalar.muli c1024_i32_374_r0 v153_r0
  ![0, v581_r0.toNat]
def k0_off46 (arg20_r0 : BitVec 32) : Fin 1 → Nat :=
  let c2_i32_376_r0 : BitVec 32 := 2#32
  let v583_r0 : BitVec 32 := Scalar.remui arg20_r0 c2_i32_376_r0
  ![v583_r0.toNat]
def k0_cond14 (k0_t1 : Fin k0_t1_loop.trips) (arg31_r0 : BitVec 32) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v307_r0 : BitVec 1 := Scalar.cmpi .ne v154_r0 v164_r0
  let c0_i32_162_r0 : BitVec 32 := 0#32
  let v153_r0 : BitVec 32 := Scalar.addi arg31_r0 c0_i32_162_r0
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v308_r0 : BitVec 1 := Scalar.cmpi .ne v153_r0 v163_r0
  let v309_r0 : BitVec 1 := Scalar.ori v307_r0 v308_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v310_r0 : BitVec 1 := Scalar.ori v309_r0 v151_r0
  let c0_i32_255_r0 : BitVec 32 := 0#32
  let v311_r0 : BitVec 1 := Scalar.cmpi .sge arg10_r0 c0_i32_255_r0
  let v312_r0 : BitVec 1 := Scalar.andi v310_r0 v311_r0
  let v313_r0 : BitVec 32 := Scalar.extui v312_r0
  let c0_i32_256_r0 : BitVec 32 := 0#32
  let v314_r0 : BitVec 1 := Scalar.cmpi .ne v313_r0 c0_i32_256_r0
  v314_r0

def k0_off47 (arg20_r0 : BitVec 32) : Fin 3 → Nat :=
  let c2_i32_376_r0 : BitVec 32 := 2#32
  let v583_r0 : BitVec 32 := Scalar.remui arg20_r0 c2_i32_376_r0
  let c0_i32_377_r0 : BitVec 32 := 0#32
  let c0_i32_378_r0 : BitVec 32 := 0#32
  ![v583_r0.toNat, 0, 0]
def k0_off48 (arg31_r0 : BitVec 32) (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c1024_i32_375_r0 : BitVec 32 := 1024#32
  let c0_i32_162_r0 : BitVec 32 := 0#32
  let v153_r0 : BitVec 32 := Scalar.addi arg31_r0 c0_i32_162_r0
  let v582_r0 : BitVec 32 := Scalar.muli c1024_i32_375_r0 v153_r0
  ![v581_r0.toNat, v582_r0.toNat]
def k0_off49 (arg22_r0 : BitVec 32) : Fin 1 → Nat :=
  let c2_i32_375_r0 : BitVec 32 := 2#32
  let v582_r0 : BitVec 32 := Scalar.remui arg22_r0 c2_i32_375_r0
  ![v582_r0.toNat]
def k0_cond15 (k0_t1 : Fin k0_t1_loop.trips) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v315_r0 : BitVec 1 := Scalar.cmpi .ne v154_r0 v164_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v316_r0 : BitVec 1 := Scalar.ori v315_r0 v151_r0
  let c0_i32_257_r0 : BitVec 32 := 0#32
  let v317_r0 : BitVec 1 := Scalar.cmpi .sge arg10_r0 c0_i32_257_r0
  let v318_r0 : BitVec 1 := Scalar.andi v316_r0 v317_r0
  let v319_r0 : BitVec 32 := Scalar.extui v318_r0
  let c0_i32_258_r0 : BitVec 32 := 0#32
  let v320_r0 : BitVec 1 := Scalar.cmpi .ne v319_r0 c0_i32_258_r0
  v320_r0

def k0_off50 (arg22_r0 : BitVec 32) : Fin 3 → Nat :=
  let c2_i32_375_r0 : BitVec 32 := 2#32
  let v582_r0 : BitVec 32 := Scalar.remui arg22_r0 c2_i32_375_r0
  let c0_i32_376_r0 : BitVec 32 := 0#32
  let c0_i32_377_r0 : BitVec 32 := 0#32
  ![v582_r0.toNat, 0, 0]
def k0_off51 (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c0_i32_378_r0 : BitVec 32 := 0#32
  ![v581_r0.toNat, 0]
def k0_off52 (arg24_r0 : BitVec 32) : Fin 1 → Nat :=
  let c2_i32_375_r0 : BitVec 32 := 2#32
  let v582_r0 : BitVec 32 := Scalar.remui arg24_r0 c2_i32_375_r0
  ![v582_r0.toNat]
def k0_cond16 (k0_t1 : Fin k0_t1_loop.trips) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v321_r0 : BitVec 1 := Scalar.cmpi .ne v154_r0 v164_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v322_r0 : BitVec 1 := Scalar.ori v321_r0 v151_r0
  let c0_i32_259_r0 : BitVec 32 := 0#32
  let v323_r0 : BitVec 1 := Scalar.cmpi .sge arg10_r0 c0_i32_259_r0
  let v324_r0 : BitVec 1 := Scalar.andi v322_r0 v323_r0
  let v325_r0 : BitVec 32 := Scalar.extui v324_r0
  let c0_i32_260_r0 : BitVec 32 := 0#32
  let v326_r0 : BitVec 1 := Scalar.cmpi .ne v325_r0 c0_i32_260_r0
  v326_r0

def k0_off53 (arg24_r0 : BitVec 32) : Fin 3 → Nat :=
  let c2_i32_375_r0 : BitVec 32 := 2#32
  let v582_r0 : BitVec 32 := Scalar.remui arg24_r0 c2_i32_375_r0
  let c0_i32_376_r0 : BitVec 32 := 0#32
  let c0_i32_377_r0 : BitVec 32 := 0#32
  ![v582_r0.toNat, 0, 0]
def k0_off54 (arg32_r0 : BitVec 32) : Fin 2 → Nat :=
  let c512_i32_374_r0 : BitVec 32 := 512#32
  let c0_i32_163_r0 : BitVec 32 := 0#32
  let v154_r0 : BitVec 32 := Scalar.addi arg32_r0 c0_i32_163_r0
  let v581_r0 : BitVec 32 := Scalar.muli c512_i32_374_r0 v154_r0
  let c0_i32_378_r0 : BitVec 32 := 0#32
  ![v581_r0.toNat, 0]
def k0_off55 (arg26_r0 : BitVec 32) : Fin 1 → Nat :=
  let c2_i32_375_r0 : BitVec 32 := 2#32
  let v582_r0 : BitVec 32 := Scalar.remui arg26_r0 c2_i32_375_r0
  ![v582_r0.toNat]
def k0_cond17 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v327_r0 : BitVec 1 := Scalar.cmpi .ne v153_r0 v163_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v328_r0 : BitVec 1 := Scalar.ori v327_r0 v151_r0
  let c0_i32_261_r0 : BitVec 32 := 0#32
  let v329_r0 : BitVec 1 := Scalar.cmpi .sge arg10_r0 c0_i32_261_r0
  let v330_r0 : BitVec 1 := Scalar.andi v328_r0 v329_r0
  let v331_r0 : BitVec 32 := Scalar.extui v330_r0
  let c0_i32_262_r0 : BitVec 32 := 0#32
  let v332_r0 : BitVec 1 := Scalar.cmpi .ne v331_r0 c0_i32_262_r0
  v332_r0

def k0_off56 (arg26_r0 : BitVec 32) : Fin 3 → Nat :=
  let c2_i32_375_r0 : BitVec 32 := 2#32
  let v582_r0 : BitVec 32 := Scalar.remui arg26_r0 c2_i32_375_r0
  let c0_i32_376_r0 : BitVec 32 := 0#32
  let c0_i32_377_r0 : BitVec 32 := 0#32
  ![v582_r0.toNat, 0, 0]
def k0_off57 (arg31_r0 : BitVec 32) : Fin 2 → Nat :=
  let c0_i32_378_r0 : BitVec 32 := 0#32
  let c1024_i32_374_r0 : BitVec 32 := 1024#32
  let c0_i32_162_r0 : BitVec 32 := 0#32
  let v153_r0 : BitVec 32 := Scalar.addi arg31_r0 c0_i32_162_r0
  let v581_r0 : BitVec 32 := Scalar.muli c1024_i32_374_r0 v153_r0
  ![0, v581_r0.toNat]
def k0_off58 (arg28_r0 : BitVec 32) : Fin 1 → Nat :=
  let c2_i32_375_r0 : BitVec 32 := 2#32
  let v582_r0 : BitVec 32 := Scalar.remui arg28_r0 c2_i32_375_r0
  ![v582_r0.toNat]
def k0_cond18 (k0_t1 : Fin k0_t1_loop.trips) (arg31_r0 : BitVec 32) (arg32_r0 : BitVec 32) : BitVec 1 :=
  let c0_i32_162_r0 : BitVec 32 := 0#32
  let v153_r0 : BitVec 32 := Scalar.addi arg31_r0 c0_i32_162_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v333_r0 : BitVec 1 := Scalar.cmpi .ne v153_r0 v163_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let v334_r0 : BitVec 1 := Scalar.ori v333_r0 v151_r0
  let c0_i32_263_r0 : BitVec 32 := 0#32
  let v335_r0 : BitVec 1 := Scalar.cmpi .sge arg10_r0 c0_i32_263_r0
  let v336_r0 : BitVec 1 := Scalar.andi v334_r0 v335_r0
  let v337_r0 : BitVec 32 := Scalar.extui v336_r0
  let c0_i32_264_r0 : BitVec 32 := 0#32
  let v338_r0 : BitVec 1 := Scalar.cmpi .ne v337_r0 c0_i32_264_r0
  v338_r0

def k0_off59 (arg28_r0 : BitVec 32) : Fin 3 → Nat :=
  let c2_i32_375_r0 : BitVec 32 := 2#32
  let v582_r0 : BitVec 32 := Scalar.remui arg28_r0 c2_i32_375_r0
  let c0_i32_376_r0 : BitVec 32 := 0#32
  let c0_i32_377_r0 : BitVec 32 := 0#32
  ![v582_r0.toNat, 0, 0]
def k0_off60 (arg31_r0 : BitVec 32) : Fin 2 → Nat :=
  let c0_i32_378_r0 : BitVec 32 := 0#32
  let c1024_i32_374_r0 : BitVec 32 := 1024#32
  let c0_i32_162_r0 : BitVec 32 := 0#32
  let v153_r0 : BitVec 32 := Scalar.addi arg31_r0 c0_i32_162_r0
  let v581_r0 : BitVec 32 := Scalar.muli c1024_i32_374_r0 v153_r0
  ![0, v581_r0.toNat]
def k0_off61 (arg12_r0 : BitVec 32) : Fin 3 → Nat :=
  let c2_i32_267_r0 : BitVec 32 := 2#32
  let v347_r0 : BitVec 32 := Scalar.remui arg12_r0 c2_i32_267_r0
  let v357_r0 : Index := Scalar.indexCast v347_r0
  let c0_r0 : Index := 0#32
  let c0_277_r0 : Index := 0#32
  ![v357_r0.toNat, 0, 0]

def k0_chk2 (arg12_r0 : BitVec 32) : Prop :=
  (∀ a, (k0_off61 arg12_r0) a + S1x512x2048.size a ≤ S2x512x2048.size a)
theorem k0_off61_inb : ∀ (arg12_r0 : BitVec 32) (k0_hw2 : k0_chk2 arg12_r0), ∀ a, (k0_off61 arg12_r0) a + S1x512x2048.size a ≤ S2x512x2048.size a := fun arg12_r0 k0_hw2 => k0_hw2

def k0_off62 (arg18_r0 : BitVec 32) : Fin 3 → Nat :=
  let c2_i32_270_r0 : BitVec 32 := 2#32
  let v350_r0 : BitVec 32 := Scalar.remui arg18_r0 c2_i32_270_r0
  let c0_i32_278_r0 : BitVec 32 := 0#32
  let c0_i32_279_r0 : BitVec 32 := 0#32
  ![v350_r0.toNat, 0, 0]

def k0_chk3 (arg18_r0 : BitVec 32) : Prop :=
  (∀ a, (k0_off62 arg18_r0) a + S1x4096x1024.size a ≤ S2x4096x1024.size a)
theorem k0_off62_inb : ∀ (arg18_r0 : BitVec 32) (k0_hw3 : k0_chk3 arg18_r0), ∀ a, (k0_off62 arg18_r0) a + S1x4096x1024.size a ≤ S2x4096x1024.size a := fun arg18_r0 k0_hw3 => k0_hw3

def k0_off63 (arg14_r0 : BitVec 32) : Fin 3 → Nat :=
  let c2_i32_268_r0 : BitVec 32 := 2#32
  let v348_r0 : BitVec 32 := Scalar.remui arg14_r0 c2_i32_268_r0
  let v365_r0 : Index := Scalar.indexCast v348_r0
  let c0_282_r0 : Index := 0#32
  let c0_283_r0 : Index := 0#32
  ![v365_r0.toNat, 0, 0]

def k0_chk4 (arg14_r0 : BitVec 32) : Prop :=
  (∀ a, (k0_off63 arg14_r0) a + S1x512x1024.size a ≤ S2x512x1024.size a)
theorem k0_off63_inb : ∀ (arg14_r0 : BitVec 32) (k0_hw4 : k0_chk4 arg14_r0), ∀ a, (k0_off63 arg14_r0) a + S1x512x1024.size a ≤ S2x512x1024.size a := fun arg14_r0 k0_hw4 => k0_hw4

def k0_off64 (arg16_r0 : BitVec 32) : Fin 3 → Nat :=
  let c2_i32_269_r0 : BitVec 32 := 2#32
  let v349_r0 : BitVec 32 := Scalar.remui arg16_r0 c2_i32_269_r0
  let v374_r0 : Index := Scalar.indexCast v349_r0
  let c0_288_r0 : Index := 0#32
  let c0_289_r0 : Index := 0#32
  ![v374_r0.toNat, 0, 0]

def k0_chk5 (arg16_r0 : BitVec 32) : Prop :=
  (∀ a, (k0_off64 arg16_r0) a + S1x512x1024.size a ≤ S2x512x1024.size a)
theorem k0_off64_inb : ∀ (arg16_r0 : BitVec 32) (k0_hw5 : k0_chk5 arg16_r0), ∀ a, (k0_off64 arg16_r0) a + S1x512x1024.size a ≤ S2x512x1024.size a := fun arg16_r0 k0_hw5 => k0_hw5

def k0_off65 (arg20_r0 : BitVec 32) : Fin 3 → Nat :=
  let c2_i32_271_r0 : BitVec 32 := 2#32
  let v351_r0 : BitVec 32 := Scalar.remui arg20_r0 c2_i32_271_r0
  let v383_r0 : Index := Scalar.indexCast v351_r0
  let c0_294_r0 : Index := 0#32
  let c0_295_r0 : Index := 0#32
  ![v383_r0.toNat, 0, 0]

def k0_chk6 (arg20_r0 : BitVec 32) : Prop :=
  (∀ a, (k0_off65 arg20_r0) a + S1x512x1024.size a ≤ S2x512x1024.size a)
theorem k0_off65_inb : ∀ (arg20_r0 : BitVec 32) (k0_hw6 : k0_chk6 arg20_r0), ∀ a, (k0_off65 arg20_r0) a + S1x512x1024.size a ≤ S2x512x1024.size a := fun arg20_r0 k0_hw6 => k0_hw6

def k0_off66 (arg22_r0 : BitVec 32) : Fin 3 → Nat :=
  let c2_i32_272_r0 : BitVec 32 := 2#32
  let v352_r0 : BitVec 32 := Scalar.remui arg22_r0 c2_i32_272_r0
  let v386_r0 : Index := Scalar.indexCast v352_r0
  let c0_296_r0 : Index := 0#32
  let c0_297_r0 : Index := 0#32
  ![v386_r0.toNat, 0, 0]

def k0_chk7 (arg22_r0 : BitVec 32) : Prop :=
  (∀ a, (k0_off66 arg22_r0) a + S1x512x128.size a ≤ S2x512x128.size a)
theorem k0_off66_inb : ∀ (arg22_r0 : BitVec 32) (k0_hw7 : k0_chk7 arg22_r0), ∀ a, (k0_off66 arg22_r0) a + S1x512x128.size a ≤ S2x512x128.size a := fun arg22_r0 k0_hw7 => k0_hw7

def k0_off67 (arg24_r0 : BitVec 32) : Fin 3 → Nat :=
  let c2_i32_273_r0 : BitVec 32 := 2#32
  let v353_r0 : BitVec 32 := Scalar.remui arg24_r0 c2_i32_273_r0
  let v391_r0 : Index := Scalar.indexCast v353_r0
  let c0_298_r0 : Index := 0#32
  let c0_299_r0 : Index := 0#32
  ![v391_r0.toNat, 0, 0]

def k0_chk8 (arg24_r0 : BitVec 32) : Prop :=
  (∀ a, (k0_off67 arg24_r0) a + S1x512x128.size a ≤ S2x512x128.size a)
theorem k0_off67_inb : ∀ (arg24_r0 : BitVec 32) (k0_hw8 : k0_chk8 arg24_r0), ∀ a, (k0_off67 arg24_r0) a + S1x512x128.size a ≤ S2x512x128.size a := fun arg24_r0 k0_hw8 => k0_hw8

def k0_off68 (arg26_r0 : BitVec 32) : Fin 3 → Nat :=
  let c2_i32_274_r0 : BitVec 32 := 2#32
  let v354_r0 : BitVec 32 := Scalar.remui arg26_r0 c2_i32_274_r0
  let v396_r0 : Index := Scalar.indexCast v354_r0
  let c0_300_r0 : Index := 0#32
  let c0_301_r0 : Index := 0#32
  ![v396_r0.toNat, 0, 0]

def k0_chk9 (arg26_r0 : BitVec 32) : Prop :=
  (∀ a, (k0_off68 arg26_r0) a + S1x1x1024.size a ≤ S2x1x1024.size a)
theorem k0_off68_inb : ∀ (arg26_r0 : BitVec 32) (k0_hw9 : k0_chk9 arg26_r0), ∀ a, (k0_off68 arg26_r0) a + S1x1x1024.size a ≤ S2x1x1024.size a := fun arg26_r0 k0_hw9 => k0_hw9

def k0_off69 (arg28_r0 : BitVec 32) : Fin 3 → Nat :=
  let c2_i32_275_r0 : BitVec 32 := 2#32
  let v355_r0 : BitVec 32 := Scalar.remui arg28_r0 c2_i32_275_r0
  let v401_r0 : Index := Scalar.indexCast v355_r0
  let c0_302_r0 : Index := 0#32
  let c0_303_r0 : Index := 0#32
  ![v401_r0.toNat, 0, 0]

def k0_chk10 (arg28_r0 : BitVec 32) : Prop :=
  (∀ a, (k0_off69 arg28_r0) a + S1x1x1024.size a ≤ S2x1x1024.size a)
theorem k0_off69_inb : ∀ (arg28_r0 : BitVec 32) (k0_hw10 : k0_chk10 arg28_r0), ∀ a, (k0_off69 arg28_r0) a + S1x1x1024.size a ≤ S2x1x1024.size a := fun arg28_r0 k0_hw10 => k0_hw10

def k0_off70 (arg29_r0 : BitVec 32) : Fin 3 → Nat :=
  let c2_i32_276_r0 : BitVec 32 := 2#32
  let v356_r0 : BitVec 32 := Scalar.remui arg29_r0 c2_i32_276_r0
  let v409_r0 : Index := Scalar.indexCast v356_r0
  let c0_305_r0 : Index := 0#32
  let c0_306_r0 : Index := 0#32
  ![v409_r0.toNat, 0, 0]

def k0_chk11 (arg29_r0 : BitVec 32) : Prop :=
  (∀ a, (k0_off70 arg29_r0) a + S1x512x1024.size a ≤ S2x512x1024.size a)
theorem k0_off70_inb : ∀ (arg29_r0 : BitVec 32) (k0_hw11 : k0_chk11 arg29_r0), ∀ a, (k0_off70 arg29_r0) a + S1x512x1024.size a ≤ S2x512x1024.size a := fun arg29_r0 k0_hw11 => k0_hw11

def k0_off71 (arg29_r0 : BitVec 32) : Fin 1 → Nat :=
  let c2_i32_374_r0 : BitVec 32 := 2#32
  let v581_r0 : BitVec 32 := Scalar.remui arg29_r0 c2_i32_374_r0
  ![v581_r0.toNat]
def k0_cond29 (k0_t1 : Fin k0_t1_loop.trips) (arg31_r0 : BitVec 32) (arg32_r0 : BitVec 32) : BitVec 1 :=
  let c0_i32_163_r0 : BitVec 32 := 0#32
  let v154_r0 : BitVec 32 := Scalar.addi arg32_r0 c0_i32_163_r0
  let true_174_r0 : BitVec 1 := 1#1
  let c1_i32_173_r0 : BitVec 32 := 1#32
  let v165_r0 : BitVec 32 := Scalar.addi arg32_r0 c1_i32_173_r0
  let v166_r0 : BitVec 32 := Scalar.select true_174_r0 v165_r0 arg32_r0
  let c16_i32_175_r0 : BitVec 32 := 16#32
  let v167_r0 : BitVec 1 := Scalar.cmpi .eq v166_r0 c16_i32_175_r0
  let c0_i32_176_r0 : BitVec 32 := 0#32
  let v168_r0 : BitVec 32 := Scalar.select v167_r0 c0_i32_176_r0 v166_r0
  let c0_i32_181_r0 : BitVec 32 := 0#32
  let v174_r0 : BitVec 32 := Scalar.addi v168_r0 c0_i32_181_r0
  let v460_r0 : BitVec 1 := Scalar.cmpi .ne v154_r0 v174_r0
  let c0_i32_162_r0 : BitVec 32 := 0#32
  let v153_r0 : BitVec 32 := Scalar.addi arg31_r0 c0_i32_162_r0
  let c1_i32_177_r0 : BitVec 32 := 1#32
  let v169_r0 : BitVec 32 := Scalar.addi arg31_r0 c1_i32_177_r0
  let v170_r0 : BitVec 32 := Scalar.select v167_r0 v169_r0 arg31_r0
  let c4_i32_178_r0 : BitVec 32 := 4#32
  let v171_r0 : BitVec 1 := Scalar.cmpi .eq v170_r0 c4_i32_178_r0
  let c0_i32_179_r0 : BitVec 32 := 0#32
  let v172_r0 : BitVec 32 := Scalar.select v171_r0 c0_i32_179_r0 v170_r0
  let c0_i32_180_r0 : BitVec 32 := 0#32
  let v173_r0 : BitVec 32 := Scalar.addi v172_r0 c0_i32_180_r0
  let v461_r0 : BitVec 1 := Scalar.cmpi .ne v153_r0 v173_r0
  let v462_r0 : BitVec 1 := Scalar.ori v460_r0 v461_r0
  let c0_i32_119_r0 : BitVec 32 := 0#32
  let c1_i32_120_r0 : BitVec 32 := 1#32
  let arg10_r0 : BitVec 32 := Scf.iv c0_i32_119_r0 c1_i32_120_r0 k0_t1
  let c63_i32_r0 : BitVec 32 := 63#32
  let v152_r0 : BitVec 1 := Scalar.cmpi .eq arg10_r0 c63_i32_r0
  let v463_r0 : BitVec 1 := Scalar.ori v462_r0 v152_r0
  let v464_r0 : BitVec 32 := Scalar.extui v463_r0
  let c0_i32_324_r0 : BitVec 32 := 0#32
  let v465_r0 : BitVec 1 := Scalar.cmpi .ne v464_r0 c0_i32_324_r0
  v465_r0

def k0_off72 (arg31_r0 : BitVec 32) (arg32_r0 : BitVec 32) : Fin 2 → Nat :=
  let c512_i32_375_r0 : BitVec 32 := 512#32
  let c0_i32_163_r0 : BitVec 32 := 0#32
  let v154_r0 : BitVec 32 := Scalar.addi arg32_r0 c0_i32_163_r0
  let v582_r0 : BitVec 32 := Scalar.muli c512_i32_375_r0 v154_r0
  let c1024_i32_376_r0 : BitVec 32 := 1024#32
  let c0_i32_162_r0 : BitVec 32 := 0#32
  let v153_r0 : BitVec 32 := Scalar.addi arg31_r0 c0_i32_162_r0
  let v583_r0 : BitVec 32 := Scalar.muli c1024_i32_376_r0 v153_r0
  ![v582_r0.toNat, v583_r0.toNat]
def k0_off73 (arg29_r0 : BitVec 32) : Fin 3 → Nat :=
  let c2_i32_374_r0 : BitVec 32 := 2#32
  let v581_r0 : BitVec 32 := Scalar.remui arg29_r0 c2_i32_374_r0
  let c0_i32_377_r0 : BitVec 32 := 0#32
  let c0_i32_378_r0 : BitVec 32 := 0#32
  ![v581_r0.toNat, 0, 0]
def k0_off74 (arg30_r0 : BitVec 32) : Fin 1 → Nat :=
  let c2_i32_374_r0 : BitVec 32 := 2#32
  let v581_r0 : BitVec 32 := Scalar.remui arg30_r0 c2_i32_374_r0
  ![v581_r0.toNat]
def k0_cond39 (k0_t1 : Fin k0_t1_loop.trips) (arg31_r0 : BitVec 32) (arg32_r0 : BitVec 32) : BitVec 1 :=
  let c0_i32_163_r0 : BitVec 32 := 0#32
  let v154_r0 : BitVec 32 := Scalar.addi arg32_r0 c0_i32_163_r0
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v525_r0 : BitVec 1 := Scalar.cmpi .ne v154_r0 v164_r0
  let c0_i32_162_r0 : BitVec 32 := 0#32
  let v153_r0 : BitVec 32 := Scalar.addi arg31_r0 c0_i32_162_r0
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v526_r0 : BitVec 1 := Scalar.cmpi .ne v153_r0 v163_r0
  let v527_r0 : BitVec 1 := Scalar.ori v525_r0 v526_r0
  let c0_i32_119_r0 : BitVec 32 := 0#32
  let c1_i32_120_r0 : BitVec 32 := 1#32
  let arg10_r0 : BitVec 32 := Scf.iv c0_i32_119_r0 c1_i32_120_r0 k0_t1
  let c0_i32_161_r0 : BitVec 32 := 0#32
  let v151_r0 : BitVec 1 := Scalar.cmpi .eq arg10_r0 c0_i32_161_r0
  let true_354_r0 : BitVec 1 := 1#1
  let v528_r0 : BitVec 1 := Scalar.xori v151_r0 true_354_r0
  let v529_r0 : BitVec 1 := Scalar.andi v527_r0 v528_r0
  let v530_r0 : BitVec 32 := Scalar.extui v529_r0
  let c0_i32_355_r0 : BitVec 32 := 0#32
  let v531_r0 : BitVec 1 := Scalar.cmpi .ne v530_r0 c0_i32_355_r0
  v531_r0

def k0_off75 (arg31_r0 : BitVec 32) (arg32_r0 : BitVec 32) : Fin 2 → Nat :=
  let c512_i32_375_r0 : BitVec 32 := 512#32
  let true_165_r0 : BitVec 1 := 1#1
  let c1_i32_164_r0 : BitVec 32 := 1#32
  let v155_r0 : BitVec 32 := Scalar.subi arg32_r0 c1_i32_164_r0
  let v156_r0 : BitVec 32 := Scalar.select true_165_r0 v155_r0 arg32_r0
  let c_m1_i32_166_r0 : BitVec 32 := 4294967295#32
  let v157_r0 : BitVec 1 := Scalar.cmpi .eq v156_r0 c_m1_i32_166_r0
  let c15_i32_167_r0 : BitVec 32 := 15#32
  let v158_r0 : BitVec 32 := Scalar.select v157_r0 c15_i32_167_r0 v156_r0
  let c0_i32_172_r0 : BitVec 32 := 0#32
  let v164_r0 : BitVec 32 := Scalar.addi v158_r0 c0_i32_172_r0
  let v582_r0 : BitVec 32 := Scalar.muli c512_i32_375_r0 v164_r0
  let c1024_i32_376_r0 : BitVec 32 := 1024#32
  let c1_i32_168_r0 : BitVec 32 := 1#32
  let v159_r0 : BitVec 32 := Scalar.subi arg31_r0 c1_i32_168_r0
  let v160_r0 : BitVec 32 := Scalar.select v157_r0 v159_r0 arg31_r0
  let c_m1_i32_169_r0 : BitVec 32 := 4294967295#32
  let v161_r0 : BitVec 1 := Scalar.cmpi .eq v160_r0 c_m1_i32_169_r0
  let c3_i32_170_r0 : BitVec 32 := 3#32
  let v162_r0 : BitVec 32 := Scalar.select v161_r0 c3_i32_170_r0 v160_r0
  let c0_i32_171_r0 : BitVec 32 := 0#32
  let v163_r0 : BitVec 32 := Scalar.addi v162_r0 c0_i32_171_r0
  let v583_r0 : BitVec 32 := Scalar.muli c1024_i32_376_r0 v163_r0
  ![v582_r0.toNat, v583_r0.toNat]
def k0_off76 (arg30_r0 : BitVec 32) : Fin 3 → Nat :=
  let c2_i32_374_r0 : BitVec 32 := 2#32
  let v581_r0 : BitVec 32 := Scalar.remui arg30_r0 c2_i32_374_r0
  let c0_i32_377_r0 : BitVec 32 := 0#32
  let c0_i32_378_r0 : BitVec 32 := 0#32
  ![v581_r0.toNat, 0, 0]

def k0_chk1_0 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  (∀ (k0_h1 : k0_cond1 k0_t1 arg32_r0 = 1#1), ∀ a, (k0_off7 arg11_r0) a + S1.size a ≤ S2.size a) ∧
  (∀ (k0_h1 : k0_cond1 k0_t1 arg32_r0 = 1#1), ∀ a, (k0_off8 arg11_r0) a + S1x512x2048.size a ≤ S2x512x2048.size a) ∧
  (∀ (k0_h1 : k0_cond1 k0_t1 arg32_r0 = 1#1), ∀ a, (k0_off9 arg32_r0) a + S512x2048.size a ≤ S8192x2048.size a) ∧
  (∀ (k0_h1 : k0_cond1 k0_t1 arg32_r0 = 1#1), ∀ (hinb : ∀ a, (k0_off9 arg32_r0) a + S512x2048.size a ≤ S8192x2048.size a), (Rect.unit (s := S8192x2048) (k0_off9 arg32_r0) S512x2048.size hinb).WholeWords (EltTy.packing .bf16)) ∧
  (∀ (k0_h1 : k0_cond1 k0_t1 arg32_r0 = 1#1), ∀ (hinb : ∀ a, (k0_off8 arg11_r0) a + S1x512x2048.size a ≤ S2x512x2048.size a), (Rect.unit (s := S2x512x2048) (k0_off8 arg11_r0) S1x512x2048.size hinb).WholeWords (EltTy.packing .bf16)) ∧
  (∀ (k0_h2 : k0_cond2 k0_t1 arg32_r0 = 1#1), ∀ a, (k0_off10 arg13_r0) a + S1.size a ≤ S2.size a) ∧
  (∀ (k0_h2 : k0_cond2 k0_t1 arg32_r0 = 1#1), ∀ a, (k0_off11 arg13_r0) a + S1x512x1024.size a ≤ S2x512x1024.size a) ∧
  (∀ (k0_h2 : k0_cond2 k0_t1 arg32_r0 = 1#1), ∀ a, (k0_off12 arg32_r0) a + S512x1024.size a ≤ S8192x1024.size a) ∧
  (∀ (k0_h2 : k0_cond2 k0_t1 arg32_r0 = 1#1), ∀ (hinb : ∀ a, (k0_off12 arg32_r0) a + S512x1024.size a ≤ S8192x1024.size a), (Rect.unit (s := S8192x1024) (k0_off12 arg32_r0) S512x1024.size hinb).WholeWords (EltTy.packing .bf16)) ∧
  (∀ (k0_h2 : k0_cond2 k0_t1 arg32_r0 = 1#1), ∀ (hinb : ∀ a, (k0_off11 arg13_r0) a + S1x512x1024.size a ≤ S2x512x1024.size a), (Rect.unit (s := S2x512x1024) (k0_off11 arg13_r0) S1x512x1024.size hinb).WholeWords (EltTy.packing .bf16)) ∧
  (∀ (k0_h3 : k0_cond3 k0_t1 arg32_r0 = 1#1), ∀ a, (k0_off13 arg15_r0) a + S1.size a ≤ S2.size a) ∧
  (∀ (k0_h3 : k0_cond3 k0_t1 arg32_r0 = 1#1), ∀ a, (k0_off14 arg15_r0) a + S1x512x1024.size a ≤ S2x512x1024.size a) ∧
  (∀ (k0_h3 : k0_cond3 k0_t1 arg32_r0 = 1#1), ∀ a, (k0_off15 arg32_r0) a + S512x1024.size a ≤ S8192x1024.size a) ∧
  (∀ (k0_h3 : k0_cond3 k0_t1 arg32_r0 = 1#1), ∀ (hinb : ∀ a, (k0_off15 arg32_r0) a + S512x1024.size a ≤ S8192x1024.size a), (Rect.unit (s := S8192x1024) (k0_off15 arg32_r0) S512x1024.size hinb).WholeWords (EltTy.packing .bf16)) ∧
  (∀ (k0_h3 : k0_cond3 k0_t1 arg32_r0 = 1#1), ∀ (hinb : ∀ a, (k0_off14 arg15_r0) a + S1x512x1024.size a ≤ S2x512x1024.size a), (Rect.unit (s := S2x512x1024) (k0_off14 arg15_r0) S1x512x1024.size hinb).WholeWords (EltTy.packing .bf16)) ∧
  (∀ (k0_h4 : k0_cond4 k0_t1 arg31_r0 arg32_r0 = 1#1), ∀ a, (k0_off16 arg17_r0) a + S1.size a ≤ S2.size a) ∧
  (∀ (k0_h4 : k0_cond4 k0_t1 arg31_r0 arg32_r0 = 1#1), ∀ a, (k0_off17 arg17_r0) a + S1x4096x1024.size a ≤ S2x4096x1024.size a) ∧
  (∀ (k0_h4 : k0_cond4 k0_t1 arg31_r0 arg32_r0 = 1#1), ∀ a, (k0_off18 arg31_r0 arg32_r0) a + S4096x1024.size a ≤ S4096x4096.size a) ∧
  (∀ (k0_h5 : k0_cond5 k0_t1 arg31_r0 arg32_r0 = 1#1), ∀ a, (k0_off19 arg19_r0) a + S1.size a ≤ S2.size a) ∧
  (∀ (k0_h5 : k0_cond5 k0_t1 arg31_r0 arg32_r0 = 1#1), ∀ a, (k0_off20 arg19_r0) a + S1x512x1024.size a ≤ S2x512x1024.size a) ∧
  (∀ (k0_h5 : k0_cond5 k0_t1 arg31_r0 arg32_r0 = 1#1), ∀ a, (k0_off21 arg31_r0 arg32_r0) a + S512x1024.size a ≤ S8192x4096.size a) ∧
  (∀ (k0_h6 : k0_cond6 k0_t1 arg32_r0 = 1#1), ∀ a, (k0_off22 arg21_r0) a + S1.size a ≤ S2.size a) ∧
  (∀ (k0_h6 : k0_cond6 k0_t1 arg32_r0 = 1#1), ∀ a, (k0_off23 arg21_r0) a + S1x512x128.size a ≤ S2x512x128.size a) ∧
  (∀ (k0_h6 : k0_cond6 k0_t1 arg32_r0 = 1#1), ∀ a, (k0_off24 arg32_r0) a + S512x128.size a ≤ S8192x128.size a) ∧
  (∀ (k0_h7 : k0_cond7 k0_t1 arg32_r0 = 1#1), ∀ a, (k0_off25 arg23_r0) a + S1.size a ≤ S2.size a) ∧
  (∀ (k0_h7 : k0_cond7 k0_t1 arg32_r0 = 1#1), ∀ a, (k0_off26 arg23_r0) a + S1x512x128.size a ≤ S2x512x128.size a) ∧
  (∀ (k0_h7 : k0_cond7 k0_t1 arg32_r0 = 1#1), ∀ a, (k0_off27 arg32_r0) a + S512x128.size a ≤ S8192x128.size a) ∧
  (∀ (k0_h8 : k0_cond8 k0_t1 arg31_r0 arg32_r0 = 1#1), ∀ a, (k0_off28 arg25_r0) a + S1.size a ≤ S2.size a) ∧
  (∀ (k0_h8 : k0_cond8 k0_t1 arg31_r0 arg32_r0 = 1#1), ∀ a, (k0_off29 arg25_r0) a + S1x1x1024.size a ≤ S2x1x1024.size a) ∧
  (∀ (k0_h8 : k0_cond8 k0_t1 arg31_r0 arg32_r0 = 1#1), ∀ a, (k0_off30 arg31_r0 arg32_r0) a + S1x1024.size a ≤ S1x4096.size a) ∧
  (∀ (k0_h9 : k0_cond9 k0_t1 arg31_r0 arg32_r0 = 1#1), ∀ a, (k0_off31 arg27_r0) a + S1.size a ≤ S2.size a) ∧
  (∀ (k0_h9 : k0_cond9 k0_t1 arg31_r0 arg32_r0 = 1#1), ∀ a, (k0_off32 arg27_r0) a + S1x1x1024.size a ≤ S2x1x1024.size a)
def k0_chk1_1 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  (∀ (k0_h9 : k0_cond9 k0_t1 arg31_r0 arg32_r0 = 1#1), ∀ a, (k0_off33 arg31_r0 arg32_r0) a + S1x1024.size a ≤ S1x4096.size a) ∧
  (∀ (k0_h10 : k0_cond10 k0_t1 arg32_r0 = 1#1), ∀ a, (k0_off34 arg12_r0) a + S1.size a ≤ S2.size a) ∧
  (∀ (k0_h10 : k0_cond10 k0_t1 arg32_r0 = 1#1), ∀ a, (k0_off35 arg12_r0) a + S1x512x2048.size a ≤ S2x512x2048.size a) ∧
  (∀ (k0_h10 : k0_cond10 k0_t1 arg32_r0 = 1#1), ∀ a, (k0_off36 arg32_r0) a + S512x2048.size a ≤ S8192x2048.size a) ∧
  (∀ (k0_h10 : k0_cond10 k0_t1 arg32_r0 = 1#1), ∀ (hinb : ∀ a, (k0_off36 arg32_r0) a + S512x2048.size a ≤ S8192x2048.size a), (Rect.unit (s := S8192x2048) (k0_off36 arg32_r0) S512x2048.size hinb).WholeWords (EltTy.packing .bf16)) ∧
  (∀ (k0_h10 : k0_cond10 k0_t1 arg32_r0 = 1#1), ∀ (hinb : ∀ a, (k0_off35 arg12_r0) a + S1x512x2048.size a ≤ S2x512x2048.size a), (Rect.unit (s := S2x512x2048) (k0_off35 arg12_r0) S1x512x2048.size hinb).WholeWords (EltTy.packing .bf16)) ∧
  (∀ (k0_h11 : k0_cond11 k0_t1 arg32_r0 = 1#1), ∀ a, (k0_off37 arg14_r0) a + S1.size a ≤ S2.size a) ∧
  (∀ (k0_h11 : k0_cond11 k0_t1 arg32_r0 = 1#1), ∀ a, (k0_off38 arg14_r0) a + S1x512x1024.size a ≤ S2x512x1024.size a) ∧
  (∀ (k0_h11 : k0_cond11 k0_t1 arg32_r0 = 1#1), ∀ a, (k0_off39 arg32_r0) a + S512x1024.size a ≤ S8192x1024.size a) ∧
  (∀ (k0_h11 : k0_cond11 k0_t1 arg32_r0 = 1#1), ∀ (hinb : ∀ a, (k0_off39 arg32_r0) a + S512x1024.size a ≤ S8192x1024.size a), (Rect.unit (s := S8192x1024) (k0_off39 arg32_r0) S512x1024.size hinb).WholeWords (EltTy.packing .bf16)) ∧
  (∀ (k0_h11 : k0_cond11 k0_t1 arg32_r0 = 1#1), ∀ (hinb : ∀ a, (k0_off38 arg14_r0) a + S1x512x1024.size a ≤ S2x512x1024.size a), (Rect.unit (s := S2x512x1024) (k0_off38 arg14_r0) S1x512x1024.size hinb).WholeWords (EltTy.packing .bf16)) ∧
  (∀ (k0_h12 : k0_cond12 k0_t1 arg32_r0 = 1#1), ∀ a, (k0_off40 arg16_r0) a + S1.size a ≤ S2.size a) ∧
  (∀ (k0_h12 : k0_cond12 k0_t1 arg32_r0 = 1#1), ∀ a, (k0_off41 arg16_r0) a + S1x512x1024.size a ≤ S2x512x1024.size a) ∧
  (∀ (k0_h12 : k0_cond12 k0_t1 arg32_r0 = 1#1), ∀ a, (k0_off42 arg32_r0) a + S512x1024.size a ≤ S8192x1024.size a) ∧
  (∀ (k0_h12 : k0_cond12 k0_t1 arg32_r0 = 1#1), ∀ (hinb : ∀ a, (k0_off42 arg32_r0) a + S512x1024.size a ≤ S8192x1024.size a), (Rect.unit (s := S8192x1024) (k0_off42 arg32_r0) S512x1024.size hinb).WholeWords (EltTy.packing .bf16)) ∧
  (∀ (k0_h12 : k0_cond12 k0_t1 arg32_r0 = 1#1), ∀ (hinb : ∀ a, (k0_off41 arg16_r0) a + S1x512x1024.size a ≤ S2x512x1024.size a), (Rect.unit (s := S2x512x1024) (k0_off41 arg16_r0) S1x512x1024.size hinb).WholeWords (EltTy.packing .bf16)) ∧
  (∀ (k0_h13 : k0_cond13 k0_t1 arg31_r0 arg32_r0 = 1#1), ∀ a, (k0_off43 arg18_r0) a + S1.size a ≤ S2.size a) ∧
  (∀ (k0_h13 : k0_cond13 k0_t1 arg31_r0 arg32_r0 = 1#1), ∀ a, (k0_off44 arg18_r0) a + S1x4096x1024.size a ≤ S2x4096x1024.size a) ∧
  (∀ (k0_h13 : k0_cond13 k0_t1 arg31_r0 arg32_r0 = 1#1), ∀ a, (k0_off45 arg31_r0) a + S4096x1024.size a ≤ S4096x4096.size a) ∧
  (∀ (k0_h14 : k0_cond14 k0_t1 arg31_r0 arg32_r0 = 1#1), ∀ a, (k0_off46 arg20_r0) a + S1.size a ≤ S2.size a) ∧
  (∀ (k0_h14 : k0_cond14 k0_t1 arg31_r0 arg32_r0 = 1#1), ∀ a, (k0_off47 arg20_r0) a + S1x512x1024.size a ≤ S2x512x1024.size a) ∧
  (∀ (k0_h14 : k0_cond14 k0_t1 arg31_r0 arg32_r0 = 1#1), ∀ a, (k0_off48 arg31_r0 arg32_r0) a + S512x1024.size a ≤ S8192x4096.size a) ∧
  (∀ (k0_h15 : k0_cond15 k0_t1 arg32_r0 = 1#1), ∀ a, (k0_off49 arg22_r0) a + S1.size a ≤ S2.size a) ∧
  (∀ (k0_h15 : k0_cond15 k0_t1 arg32_r0 = 1#1), ∀ a, (k0_off50 arg22_r0) a + S1x512x128.size a ≤ S2x512x128.size a) ∧
  (∀ (k0_h15 : k0_cond15 k0_t1 arg32_r0 = 1#1), ∀ a, (k0_off51 arg32_r0) a + S512x128.size a ≤ S8192x128.size a) ∧
  (∀ (k0_h16 : k0_cond16 k0_t1 arg32_r0 = 1#1), ∀ a, (k0_off52 arg24_r0) a + S1.size a ≤ S2.size a) ∧
  (∀ (k0_h16 : k0_cond16 k0_t1 arg32_r0 = 1#1), ∀ a, (k0_off53 arg24_r0) a + S1x512x128.size a ≤ S2x512x128.size a) ∧
  (∀ (k0_h16 : k0_cond16 k0_t1 arg32_r0 = 1#1), ∀ a, (k0_off54 arg32_r0) a + S512x128.size a ≤ S8192x128.size a) ∧
  (∀ (k0_h17 : k0_cond17 k0_t1 arg31_r0 arg32_r0 = 1#1), ∀ a, (k0_off55 arg26_r0) a + S1.size a ≤ S2.size a) ∧
  (∀ (k0_h17 : k0_cond17 k0_t1 arg31_r0 arg32_r0 = 1#1), ∀ a, (k0_off56 arg26_r0) a + S1x1x1024.size a ≤ S2x1x1024.size a) ∧
  (∀ (k0_h17 : k0_cond17 k0_t1 arg31_r0 arg32_r0 = 1#1), ∀ a, (k0_off57 arg31_r0) a + S1x1024.size a ≤ S1x4096.size a) ∧
  (∀ (k0_h18 : k0_cond18 k0_t1 arg31_r0 arg32_r0 = 1#1), ∀ a, (k0_off58 arg28_r0) a + S1.size a ≤ S2.size a)
def k0_chk1_2 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  (∀ (k0_h18 : k0_cond18 k0_t1 arg31_r0 arg32_r0 = 1#1), ∀ a, (k0_off59 arg28_r0) a + S1x1x1024.size a ≤ S2x1x1024.size a) ∧
  (∀ (k0_h18 : k0_cond18 k0_t1 arg31_r0 arg32_r0 = 1#1), ∀ a, (k0_off60 arg31_r0) a + S1x1024.size a ≤ S1x4096.size a) ∧
  (∀ (k0_h29 : k0_cond29 k0_t1 arg31_r0 arg32_r0 = 1#1), ∀ a, (k0_off71 arg29_r0) a + S1.size a ≤ S2.size a) ∧
  (∀ (k0_h29 : k0_cond29 k0_t1 arg31_r0 arg32_r0 = 1#1), ∀ a, (k0_off72 arg31_r0 arg32_r0) a + S512x1024.size a ≤ S8192x4096.size a) ∧
  (∀ (k0_h29 : k0_cond29 k0_t1 arg31_r0 arg32_r0 = 1#1), ∀ a, (k0_off73 arg29_r0) a + S1x512x1024.size a ≤ S2x512x1024.size a) ∧
  (∀ (k0_h39 : k0_cond39 k0_t1 arg31_r0 arg32_r0 = 1#1), ∀ a, (k0_off74 arg30_r0) a + S1.size a ≤ S2.size a) ∧
  (∀ (k0_h39 : k0_cond39 k0_t1 arg31_r0 arg32_r0 = 1#1), ∀ a, (k0_off75 arg31_r0 arg32_r0) a + S512x1024.size a ≤ S8192x4096.size a) ∧
  (∀ (k0_h39 : k0_cond39 k0_t1 arg31_r0 arg32_r0 = 1#1), ∀ a, (k0_off76 arg30_r0) a + S1x512x1024.size a ≤ S2x512x1024.size a)
def k0_chk1 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  k0_chk1_0 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 ∧
  k0_chk1_1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 ∧
  k0_chk1_2 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0
theorem k0_off7_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg32_r0 = 1#1), ∀ a, (k0_off7 arg11_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.1 k0_h1
theorem k0_off8_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg32_r0 = 1#1), ∀ a, (k0_off8 arg11_r0) a + S1x512x2048.size a ≤ S2x512x2048.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.1 k0_h1
theorem k0_off9_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg32_r0 = 1#1), ∀ a, (k0_off9 arg32_r0) a + S512x2048.size a ≤ S8192x2048.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.1 k0_h1
theorem k0_off9_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg32_r0 = 1#1), (Rect.unit (s := S8192x2048) (k0_off9 arg32_r0) S512x2048.size (k0_off9_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.2.1 k0_h1 (k0_off9_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)
theorem k0_off8_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg32_r0 = 1#1), (Rect.unit (s := S2x512x2048) (k0_off8 arg11_r0) S1x512x2048.size (k0_off8_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.2.2.1 k0_h1 (k0_off8_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)
theorem k0_off10_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg32_r0 = 1#1), ∀ a, (k0_off10 arg13_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.1 k0_h2
theorem k0_off11_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg32_r0 = 1#1), ∀ a, (k0_off11 arg13_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.1 k0_h2
theorem k0_off12_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg32_r0 = 1#1), ∀ a, (k0_off12 arg32_r0) a + S512x1024.size a ≤ S8192x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.1 k0_h2
theorem k0_off12_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg32_r0 = 1#1), (Rect.unit (s := S8192x1024) (k0_off12 arg32_r0) S512x1024.size (k0_off12_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.2.1 k0_h2 (k0_off12_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)
theorem k0_off11_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg32_r0 = 1#1), (Rect.unit (s := S2x512x1024) (k0_off11 arg13_r0) S1x512x1024.size (k0_off11_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.2.2.1 k0_h2 (k0_off11_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)
theorem k0_off13_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg32_r0 = 1#1), ∀ a, (k0_off13 arg15_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.1 k0_h3
theorem k0_off14_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg32_r0 = 1#1), ∀ a, (k0_off14 arg15_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.1 k0_h3
theorem k0_off15_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg32_r0 = 1#1), ∀ a, (k0_off15 arg32_r0) a + S512x1024.size a ≤ S8192x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.1 k0_h3
theorem k0_off15_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg32_r0 = 1#1), (Rect.unit (s := S8192x1024) (k0_off15 arg32_r0) S512x1024.size (k0_off15_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.2.1 k0_h3 (k0_off15_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)
theorem k0_off14_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg32_r0 = 1#1), (Rect.unit (s := S2x512x1024) (k0_off14 arg15_r0) S1x512x1024.size (k0_off14_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.2.2.1 k0_h3 (k0_off14_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)
theorem k0_off16_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off16 arg17_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.1 k0_h4
theorem k0_off17_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off17 arg17_r0) a + S1x4096x1024.size a ≤ S2x4096x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.1 k0_h4
theorem k0_off18_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off18 arg31_r0 arg32_r0) a + S4096x1024.size a ≤ S4096x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.2.1 k0_h4
theorem k0_off19_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off19 arg19_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.1 k0_h5
theorem k0_off20_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off20 arg19_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.2.1 k0_h5
theorem k0_off21_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off21 arg31_r0 arg32_r0) a + S512x1024.size a ≤ S8192x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.2.2.1 k0_h5
theorem k0_off22_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg32_r0 = 1#1), ∀ a, (k0_off22 arg21_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.1 k0_h6
theorem k0_off23_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg32_r0 = 1#1), ∀ a, (k0_off23 arg21_r0) a + S1x512x128.size a ≤ S2x512x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.1 k0_h6
theorem k0_off24_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg32_r0 = 1#1), ∀ a, (k0_off24 arg32_r0) a + S512x128.size a ≤ S8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.1 k0_h6
theorem k0_off25_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg32_r0 = 1#1), ∀ a, (k0_off25 arg23_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.1 k0_h7
theorem k0_off26_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg32_r0 = 1#1), ∀ a, (k0_off26 arg23_r0) a + S1x512x128.size a ≤ S2x512x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.1 k0_h7
theorem k0_off27_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg32_r0 = 1#1), ∀ a, (k0_off27 arg32_r0) a + S512x128.size a ≤ S8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.2.1 k0_h7
theorem k0_off28_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off28 arg25_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.1.2.2.2.2.2.2.2.2.2.2.2.2.2.2.2.2.2.2.2.2.2.2.2.2.2.2.2.1 k0_h8
theorem k0_off29_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off29 arg25_r0) a + S1x1x1024.size a ≤ S2x1x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.1.2.2.2.2.2.2.2.2.2.2.2.2.2.2.2.2.2.2.2.2.2.2.2.2.2.2.2.2.1 k0_h8
theorem k0_off30_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off30 arg31_r0 arg32_r0) a + S1x1024.size a ≤ S1x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.1.2.2.2.2.2.2.2.2.2.2.2.2.2.2.2.2.2.2.2.2.2.2.2.2.2.2.2.2.2.1 k0_h8
theorem k0_off31_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off31 arg27_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.1.2.2.2.2.2.2.2.2.2.2.2.2.2.2.2.2.2.2.2.2.2.2.2.2.2.2.2.2.2.2.1 k0_h9
theorem k0_off32_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off32 arg27_r0) a + S1x1x1024.size a ≤ S2x1x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.1.2.2.2.2.2.2.2.2.2.2.2.2.2.2.2.2.2.2.2.2.2.2.2.2.2.2.2.2.2.2.2 k0_h9
theorem k0_off33_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off33 arg31_r0 arg32_r0) a + S1x1024.size a ≤ S1x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.1.1 k0_h9
theorem k0_off34_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg32_r0 = 1#1), ∀ a, (k0_off34 arg12_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.1.2.1 k0_h10
theorem k0_off35_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg32_r0 = 1#1), ∀ a, (k0_off35 arg12_r0) a + S1x512x2048.size a ≤ S2x512x2048.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.1.2.2.1 k0_h10
theorem k0_off36_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg32_r0 = 1#1), ∀ a, (k0_off36 arg32_r0) a + S512x2048.size a ≤ S8192x2048.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.1.2.2.2.1 k0_h10
theorem k0_off36_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg32_r0 = 1#1), (Rect.unit (s := S8192x2048) (k0_off36 arg32_r0) S512x2048.size (k0_off36_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.1.2.2.2.2.1 k0_h10 (k0_off36_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10)
theorem k0_off35_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg32_r0 = 1#1), (Rect.unit (s := S2x512x2048) (k0_off35 arg12_r0) S1x512x2048.size (k0_off35_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.1.2.2.2.2.2.1 k0_h10 (k0_off35_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10)
theorem k0_off37_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h11 : k0_cond11 k0_t1 arg32_r0 = 1#1), ∀ a, (k0_off37 arg14_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11 => k0_hw1.2.1.2.2.2.2.2.2.1 k0_h11
theorem k0_off38_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h11 : k0_cond11 k0_t1 arg32_r0 = 1#1), ∀ a, (k0_off38 arg14_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11 => k0_hw1.2.1.2.2.2.2.2.2.2.1 k0_h11
theorem k0_off39_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h11 : k0_cond11 k0_t1 arg32_r0 = 1#1), ∀ a, (k0_off39 arg32_r0) a + S512x1024.size a ≤ S8192x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11 => k0_hw1.2.1.2.2.2.2.2.2.2.2.1 k0_h11
theorem k0_off39_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h11 : k0_cond11 k0_t1 arg32_r0 = 1#1), (Rect.unit (s := S8192x1024) (k0_off39 arg32_r0) S512x1024.size (k0_off39_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11 => k0_hw1.2.1.2.2.2.2.2.2.2.2.2.1 k0_h11 (k0_off39_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11)
theorem k0_off38_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h11 : k0_cond11 k0_t1 arg32_r0 = 1#1), (Rect.unit (s := S2x512x1024) (k0_off38 arg14_r0) S1x512x1024.size (k0_off38_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11 => k0_hw1.2.1.2.2.2.2.2.2.2.2.2.2.1 k0_h11 (k0_off38_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h11)
theorem k0_off40_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h12 : k0_cond12 k0_t1 arg32_r0 = 1#1), ∀ a, (k0_off40 arg16_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12 => k0_hw1.2.1.2.2.2.2.2.2.2.2.2.2.2.1 k0_h12
theorem k0_off41_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h12 : k0_cond12 k0_t1 arg32_r0 = 1#1), ∀ a, (k0_off41 arg16_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12 => k0_hw1.2.1.2.2.2.2.2.2.2.2.2.2.2.2.1 k0_h12
theorem k0_off42_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h12 : k0_cond12 k0_t1 arg32_r0 = 1#1), ∀ a, (k0_off42 arg32_r0) a + S512x1024.size a ≤ S8192x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12 => k0_hw1.2.1.2.2.2.2.2.2.2.2.2.2.2.2.2.1 k0_h12
theorem k0_off42_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h12 : k0_cond12 k0_t1 arg32_r0 = 1#1), (Rect.unit (s := S8192x1024) (k0_off42 arg32_r0) S512x1024.size (k0_off42_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12 => k0_hw1.2.1.2.2.2.2.2.2.2.2.2.2.2.2.2.2.1 k0_h12 (k0_off42_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12)
theorem k0_off41_wordsbf16 : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h12 : k0_cond12 k0_t1 arg32_r0 = 1#1), (Rect.unit (s := S2x512x1024) (k0_off41 arg16_r0) S1x512x1024.size (k0_off41_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12)).WholeWords (EltTy.packing .bf16) := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12 => k0_hw1.2.1.2.2.2.2.2.2.2.2.2.2.2.2.2.2.2.1 k0_h12 (k0_off41_inb k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h12)
theorem k0_off43_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h13 : k0_cond13 k0_t1 arg31_r0 arg32_r0 = 1#1), ∀ a, (k0_off43 arg18_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h13 => k0_hw1.2.1.2.2.2.2.2.2.2.2.2.2.2.2.2.2.2.2.1 k0_h13
theorem k0_off44_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h13 : k0_cond13 k0_t1 arg31_r0 arg32_r0 = 1#1), ∀ a, (k0_off44 arg18_r0) a + S1x4096x1024.size a ≤ S2x4096x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h13 => k0_hw1.2.1.2.2.2.2.2.2.2.2.2.2.2.2.2.2.2.2.2.1 k0_h13
theorem k0_off45_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h13 : k0_cond13 k0_t1 arg31_r0 arg32_r0 = 1#1), ∀ a, (k0_off45 arg31_r0) a + S4096x1024.size a ≤ S4096x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h13 => k0_hw1.2.1.2.2.2.2.2.2.2.2.2.2.2.2.2.2.2.2.2.2.1 k0_h13
theorem k0_off46_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h14 : k0_cond14 k0_t1 arg31_r0 arg32_r0 = 1#1), ∀ a, (k0_off46 arg20_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h14 => k0_hw1.2.1.2.2.2.2.2.2.2.2.2.2.2.2.2.2.2.2.2.2.2.1 k0_h14
theorem k0_off47_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h14 : k0_cond14 k0_t1 arg31_r0 arg32_r0 = 1#1), ∀ a, (k0_off47 arg20_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h14 => k0_hw1.2.1.2.2.2.2.2.2.2.2.2.2.2.2.2.2.2.2.2.2.2.2.1 k0_h14
theorem k0_off48_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h14 : k0_cond14 k0_t1 arg31_r0 arg32_r0 = 1#1), ∀ a, (k0_off48 arg31_r0 arg32_r0) a + S512x1024.size a ≤ S8192x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h14 => k0_hw1.2.1.2.2.2.2.2.2.2.2.2.2.2.2.2.2.2.2.2.2.2.2.2.1 k0_h14
theorem k0_off49_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h15 : k0_cond15 k0_t1 arg32_r0 = 1#1), ∀ a, (k0_off49 arg22_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h15 => k0_hw1.2.1.2.2.2.2.2.2.2.2.2.2.2.2.2.2.2.2.2.2.2.2.2.2.1 k0_h15
theorem k0_off50_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h15 : k0_cond15 k0_t1 arg32_r0 = 1#1), ∀ a, (k0_off50 arg22_r0) a + S1x512x128.size a ≤ S2x512x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h15 => k0_hw1.2.1.2.2.2.2.2.2.2.2.2.2.2.2.2.2.2.2.2.2.2.2.2.2.2.1 k0_h15
theorem k0_off51_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h15 : k0_cond15 k0_t1 arg32_r0 = 1#1), ∀ a, (k0_off51 arg32_r0) a + S512x128.size a ≤ S8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h15 => k0_hw1.2.1.2.2.2.2.2.2.2.2.2.2.2.2.2.2.2.2.2.2.2.2.2.2.2.2.1 k0_h15
theorem k0_off52_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h16 : k0_cond16 k0_t1 arg32_r0 = 1#1), ∀ a, (k0_off52 arg24_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h16 => k0_hw1.2.1.2.2.2.2.2.2.2.2.2.2.2.2.2.2.2.2.2.2.2.2.2.2.2.2.2.1 k0_h16
theorem k0_off53_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h16 : k0_cond16 k0_t1 arg32_r0 = 1#1), ∀ a, (k0_off53 arg24_r0) a + S1x512x128.size a ≤ S2x512x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h16 => k0_hw1.2.1.2.2.2.2.2.2.2.2.2.2.2.2.2.2.2.2.2.2.2.2.2.2.2.2.2.2.1 k0_h16
theorem k0_off54_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h16 : k0_cond16 k0_t1 arg32_r0 = 1#1), ∀ a, (k0_off54 arg32_r0) a + S512x128.size a ≤ S8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h16 => k0_hw1.2.1.2.2.2.2.2.2.2.2.2.2.2.2.2.2.2.2.2.2.2.2.2.2.2.2.2.2.2.1 k0_h16
theorem k0_off55_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h17 : k0_cond17 k0_t1 arg31_r0 arg32_r0 = 1#1), ∀ a, (k0_off55 arg26_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h17 => k0_hw1.2.1.2.2.2.2.2.2.2.2.2.2.2.2.2.2.2.2.2.2.2.2.2.2.2.2.2.2.2.2.1 k0_h17
theorem k0_off56_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h17 : k0_cond17 k0_t1 arg31_r0 arg32_r0 = 1#1), ∀ a, (k0_off56 arg26_r0) a + S1x1x1024.size a ≤ S2x1x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h17 => k0_hw1.2.1.2.2.2.2.2.2.2.2.2.2.2.2.2.2.2.2.2.2.2.2.2.2.2.2.2.2.2.2.2.1 k0_h17
theorem k0_off57_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h17 : k0_cond17 k0_t1 arg31_r0 arg32_r0 = 1#1), ∀ a, (k0_off57 arg31_r0) a + S1x1024.size a ≤ S1x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h17 => k0_hw1.2.1.2.2.2.2.2.2.2.2.2.2.2.2.2.2.2.2.2.2.2.2.2.2.2.2.2.2.2.2.2.2.1 k0_h17
theorem k0_off58_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off58 arg28_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.1.2.2.2.2.2.2.2.2.2.2.2.2.2.2.2.2.2.2.2.2.2.2.2.2.2.2.2.2.2.2.2 k0_h18
theorem k0_off59_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off59 arg28_r0) a + S1x1x1024.size a ≤ S2x1x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.2.1 k0_h18
theorem k0_off60_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off60 arg31_r0) a + S1x1024.size a ≤ S1x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.2.2.1 k0_h18
theorem k0_off71_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h29 : k0_cond29 k0_t1 arg31_r0 arg32_r0 = 1#1), ∀ a, (k0_off71 arg29_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h29 => k0_hw1.2.2.2.2.1 k0_h29
theorem k0_off72_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h29 : k0_cond29 k0_t1 arg31_r0 arg32_r0 = 1#1), ∀ a, (k0_off72 arg31_r0 arg32_r0) a + S512x1024.size a ≤ S8192x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h29 => k0_hw1.2.2.2.2.2.1 k0_h29
theorem k0_off73_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h29 : k0_cond29 k0_t1 arg31_r0 arg32_r0 = 1#1), ∀ a, (k0_off73 arg29_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h29 => k0_hw1.2.2.2.2.2.2.1 k0_h29
theorem k0_off74_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h39 : k0_cond39 k0_t1 arg31_r0 arg32_r0 = 1#1), ∀ a, (k0_off74 arg30_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h39 => k0_hw1.2.2.2.2.2.2.2.1 k0_h39
theorem k0_off75_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h39 : k0_cond39 k0_t1 arg31_r0 arg32_r0 = 1#1), ∀ a, (k0_off75 arg31_r0 arg32_r0) a + S512x1024.size a ≤ S8192x4096.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h39 => k0_hw1.2.2.2.2.2.2.2.2.1 k0_h39
theorem k0_off76_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0), ∀ (k0_h39 : k0_cond39 k0_t1 arg31_r0 arg32_r0 = 1#1), ∀ a, (k0_off76 arg30_r0) a + S1x512x1024.size a ≤ S2x512x1024.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 k0_hw1 k0_h39 => k0_hw1.2.2.2.2.2.2.2.2.2 k0_h39

def k0_off77 (v102_19_r0 : BitVec 32) : Fin 1 → Nat :=
  let c2_i32_158_r0 : BitVec 32 := 2#32
  let v143_r0 : BitVec 32 := Scalar.remui v102_19_r0 c2_i32_158_r0
  ![v143_r0.toNat]

def k0_off78 (v102_21_r0 : BitVec 32) (v102_20_r0 : BitVec 32) : Fin 2 → Nat :=
  let c512_i32_r0 : BitVec 32 := 512#32
  let true_123_r0 : BitVec 1 := 1#1
  let c1_i32_122_r0 : BitVec 32 := 1#32
  let v103_r0 : BitVec 32 := Scalar.subi v102_21_r0 c1_i32_122_r0
  let v104_r0 : BitVec 32 := Scalar.select true_123_r0 v103_r0 v102_21_r0
  let c_m1_i32_124_r0 : BitVec 32 := 4294967295#32
  let v105_r0 : BitVec 1 := Scalar.cmpi .eq v104_r0 c_m1_i32_124_r0
  let c15_i32_125_r0 : BitVec 32 := 15#32
  let v106_r0 : BitVec 32 := Scalar.select v105_r0 c15_i32_125_r0 v104_r0
  let c0_i32_130_r0 : BitVec 32 := 0#32
  let v112_r0 : BitVec 32 := Scalar.addi v106_r0 c0_i32_130_r0
  let v144_r0 : BitVec 32 := Scalar.muli c512_i32_r0 v112_r0
  let c1024_i32_r0 : BitVec 32 := 1024#32
  let c1_i32_126_r0 : BitVec 32 := 1#32
  let v107_r0 : BitVec 32 := Scalar.subi v102_20_r0 c1_i32_126_r0
  let v108_r0 : BitVec 32 := Scalar.select v105_r0 v107_r0 v102_20_r0
  let c_m1_i32_127_r0 : BitVec 32 := 4294967295#32
  let v109_r0 : BitVec 1 := Scalar.cmpi .eq v108_r0 c_m1_i32_127_r0
  let c3_i32_128_r0 : BitVec 32 := 3#32
  let v110_r0 : BitVec 32 := Scalar.select v109_r0 c3_i32_128_r0 v108_r0
  let c0_i32_129_r0 : BitVec 32 := 0#32
  let v111_r0 : BitVec 32 := Scalar.addi v110_r0 c0_i32_129_r0
  let v145_r0 : BitVec 32 := Scalar.muli c1024_i32_r0 v111_r0
  ![v144_r0.toNat, v145_r0.toNat]

def k0_chk13 (v102_21_r0 : BitVec 32) (v102_20_r0 : BitVec 32) : Prop :=
  (∀ a, (k0_off78 v102_21_r0 v102_20_r0) a + S512x1024.size a ≤ S8192x4096.size a)
theorem k0_off78_inb : ∀ (v102_21_r0 : BitVec 32) (v102_20_r0 : BitVec 32) (k0_hw13 : k0_chk13 v102_21_r0 v102_20_r0), ∀ a, (k0_off78 v102_21_r0 v102_20_r0) a + S512x1024.size a ≤ S8192x4096.size a := fun v102_21_r0 v102_20_r0 k0_hw13 => k0_hw13

def k0_off79 (v102_19_r0 : BitVec 32) : Fin 3 → Nat :=
  let c2_i32_158_r0 : BitVec 32 := 2#32
  let v143_r0 : BitVec 32 := Scalar.remui v102_19_r0 c2_i32_158_r0
  let c0_i32_159_r0 : BitVec 32 := 0#32
  let c0_i32_160_r0 : BitVec 32 := 0#32
  ![v143_r0.toNat, 0, 0]

def k0_chk12 (v102_19_r0 : BitVec 32) : Prop :=
  (∀ a, (k0_off77 v102_19_r0) a + S1.size a ≤ S2.size a) ∧
  (∀ a, (k0_off79 v102_19_r0) a + S1x512x1024.size a ≤ S2x512x1024.size a)
theorem k0_off77_inb : ∀ (v102_19_r0 : BitVec 32) (k0_hw12 : k0_chk12 v102_19_r0), ∀ a, (k0_off77 v102_19_r0) a + S1.size a ≤ S2.size a := fun v102_19_r0 k0_hw12 => k0_hw12.1
theorem k0_off79_inb : ∀ (v102_19_r0 : BitVec 32) (k0_hw12 : k0_chk12 v102_19_r0), ∀ a, (k0_off79 v102_19_r0) a + S1x512x1024.size a ≤ S2x512x1024.size a := fun v102_19_r0 k0_hw12 => k0_hw12.2
-- ==== OutProjRefIdeal.lean ====
abbrev S8192x2048 : Shape := ⟨2, ![8192, 2048]⟩
abbrev S8192x1024 : Shape := ⟨2, ![8192, 1024]⟩
abbrev S2x4096x4096 : Shape := ⟨3, ![2, 4096, 4096]⟩
abbrev S8192x4096 : Shape := ⟨2, ![8192, 4096]⟩
abbrev S8192x1 : Shape := ⟨2, ![8192, 1]⟩
abbrev S4096 : Shape := ⟨1, ![4096]⟩
abbrev S1x4096 : Shape := ⟨2, ![1, 4096]⟩
abbrev S_ : Shape := ⟨0, ![]⟩
abbrev S1x4096x4096 : Shape := ⟨3, ![1, 4096, 4096]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x4096x4096, .f32⟩
  | .hbm, ⟨4, _⟩ => ⟨S8192x4096, .f32⟩
  | .hbm, ⟨5, _⟩ => ⟨S8192x1, .f32⟩
  | .hbm, ⟨6, _⟩ => ⟨S8192x1, .f32⟩
  | .hbm, ⟨7, _⟩ => ⟨S4096, .f32⟩
  | .hbm, ⟨8, _⟩ => ⟨S4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | .hbm, ⟨23, _⟩ => ⟨S8192x4096, .f32⟩
  | .hbm, ⟨24, _⟩ => ⟨S1x4096x4096, .f32⟩
  | .hbm, ⟨25, _⟩ => ⟨S4096x4096, .f32⟩
  | .hbm, ⟨26, _⟩ => ⟨S8192x4096, .f32⟩
  | .hbm, ⟨27, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S8x4096 : Shape := ⟨2, ![8, 4096]⟩
abbrev S8 : Shape := ⟨1, ![8]⟩
abbrev S8x1 : Shape := ⟨2, ![8, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MemKv.lean ====
abbrev S1024x4096 : Shape := ⟨2, ![1024, 4096]⟩
abbrev S2x4096x2048 : Shape := ⟨3, ![2, 4096, 2048]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S2x4096x2048, .f32⟩
  | .hbm, ⟨2, _⟩ => ⟨S1024x4096, .bf16⟩
  | .local _ .vmem, ⟨0, _⟩ => ⟨S1024x4096, .f32⟩
  | .local _ .vmem, ⟨1, _⟩ => ⟨S1x4096x512, .f32⟩
  | .local _ .vmem, ⟨2, _⟩ => ⟨S1x4096x512, .f32⟩
  | .local _ .vmem, ⟨3, _⟩ => ⟨S1024x512, .bf16⟩
  | .local _ .vmem, ⟨4, _⟩ => ⟨S1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S1024x4096 : Shape := ⟨2, ![1024, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S1024x2048, .f32⟩
  | .hbm, ⟨5, _⟩ => ⟨S1x4096x2048, .f32⟩
  | .hbm, ⟨6, _⟩ => ⟨S4096x2048, .f32⟩
  | .hbm, ⟨7, _⟩ => ⟨S1024x2048, .f32⟩
  | .hbm, ⟨8, _⟩ => ⟨S1024x4096, .f32⟩
  | .hbm, ⟨9, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MemAttn.lean ====
abbrev S8192x13312 : Shape := ⟨2, ![8192, 13312]⟩
abbrev S1024x4096 : Shape := ⟨2, ![1024, 4096]⟩
abbrev S8192x1024 : Shape := ⟨2, ![8192, 1024]⟩
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 10
  | .smem => 0
  | _ => 0

abbrev bufTy : (tb : Table) → Fin (tcTables nBuf tb) → BufTy
  | .hbm, ⟨0, _⟩ => ⟨S8192x13312, .bf16⟩
  | .hbm, ⟨1, _⟩ => ⟨S1024x4096, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c11_i32 : BitVec 32 := 11#32
  let c0_i32 : BitVec 32 := 0#32
  ![v1.toNat, c11_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c12_i32 : BitVec 32 := 12#32
  let c0_i32 : BitVec 32 := 0#32
  ![v1.toNat, c12_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S8192x13312 : Shape := ⟨2, ![8192, 13312]⟩
abbrev S1024x4096 : Shape := ⟨2, ![1024, 4096]⟩
abbrev S8192x1024 : Shape := ⟨2, ![8192, 1024]⟩
abbrev S4x2048x4x256 : Shape := ⟨4, ![4, 2048, 4, 256]⟩
abbrev S1024x1024 : Shape := ⟨2, ![1024, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x13312, .bf16⟩
  | .hbm, ⟨1, _⟩ => ⟨S1024x4096, .bf16⟩
  | .hbm, ⟨2, _⟩ => ⟨S8192x1024, .bf16⟩
  | .hbm, ⟨3, _⟩ => ⟨S8192x1024, .f32⟩
  | .hbm, ⟨4, _⟩ => ⟨S4x2048x4x256, .f32⟩
  | .hbm, ⟨5, _⟩ => ⟨S1024x1024, .bf16⟩
  | .hbm, ⟨6, _⟩ => ⟨S1024x1024, .f32⟩
  | .hbm, ⟨7, _⟩ => ⟨S4x256x4x256, .f32⟩
  | .hbm, ⟨8, _⟩ => ⟨S1024x1024, .bf16⟩
  | .hbm, ⟨9, _⟩ => ⟨S1024x1024, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x256x2048, .f32⟩
  | .hbm, ⟨27, _⟩ => ⟨S4x2048x4x256, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Diff.lean ====
abbrev S8192x13312 : Shape := ⟨2, ![8192, 13312]⟩
abbrev S2x128 : Shape := ⟨2, ![2, 128]⟩
abbrev S2x256 : Shape := ⟨2, ![2, 256]⟩
abbrev S2x1x128 : Shape := ⟨3, ![2, 1, 128]⟩
abbrev S2x1x256 : Shape := ⟨3, ![2, 1, 256]⟩
abbrev S8192x2048 : Shape := ⟨2, ![8192, 2048]⟩
abbrev S2048x256 : Shape := ⟨2, ![2048, 256]⟩
abbrev S1x1x128 : Shape := ⟨3, ![1, 1, 128]⟩
abbrev S1x1x256 : Shape := ⟨3, ![1, 1, 256]⟩
abbrev S2x2x256x2048 : Shape := ⟨4, ![2, 2, 256, 2048]⟩
abbrev S1x128 : Shape := ⟨2, ![1, 128]⟩
abbrev S1 : Shape := ⟨1, ![1]⟩
abbrev S1x1 : Shape := ⟨2, ![1, 1]⟩
abbrev S256x256 : Shape := ⟨2, ![256, 256]⟩
abbrev S1x256 : Shape := ⟨2, ![1, 256]⟩
abbrev S256x128 : Shape := ⟨2, ![256, 128]⟩
abbrev S1x1x256x256 : Shape := ⟨4, ![1, 1, 256, 256]⟩
abbrev S256 : Shape := ⟨1, ![256]⟩
abbrev S256x1 : Shape := ⟨2, ![256, 1]⟩
abbrev S1792x128 : Shape := ⟨2, ![1792, 128]⟩
abbrev S256x1792 : Shape := ⟨2, ![256, 1792]⟩
abbrev S1x1x256x1792 : Shape := ⟨4, ![1, 1, 256, 1792]⟩
abbrev S1536x128 : Shape := ⟨2, ![1536, 128]⟩
abbrev S256x1536 : Shape := ⟨2, ![256, 1536]⟩
abbrev S1x1x256x1536 : Shape := ⟨4, ![1, 1, 256, 1536]⟩
abbrev S1x1x256x2048 : Shape := ⟨4, ![1, 1, 256, 2048]⟩
abbrev S256x2048 : Shape := ⟨2, ![256, 2048]⟩
abbrev S1280x128 : Shape := ⟨2, ![1280, 128]⟩
abbrev S256x1280 : Shape := ⟨2, ![256, 1280]⟩
abbrev S1x1x256x1280 : Shape := ⟨4, ![1, 1, 256, 1280]⟩
abbrev S1792x256 : Shape := ⟨2, ![1792, 256]⟩
abbrev S1024x128 : Shape := ⟨2, ![1024, 128]⟩
abbrev S256x1024 : Shape := ⟨2, ![256, 1024]⟩
abbrev S1x1x256x1024 : Shape := ⟨4, ![1, 1, 256, 1024]⟩
abbrev S1536x256 : Shape := ⟨2, ![1536, 256]⟩
abbrev S768x128 : Shape := ⟨2, ![768, 128]⟩
abbrev S256x768 : Shape := ⟨2, ![256, 768]⟩
abbrev S1x1x256x768 : Shape := ⟨4, ![1, 1, 256, 768]⟩
abbrev S1280x256 : Shape := ⟨2, ![1280, 256]⟩
abbrev S512x128 : Shape := ⟨2, ![512, 128]⟩
abbrev S256x512 : Shape := ⟨2, ![256, 512]⟩
abbrev S1x1x256x512 : Shape := ⟨4, ![1, 1, 256, 512]⟩
abbrev S1024x256 : Shape := ⟨2, ![1024, 256]⟩
abbrev S768x256 : Shape := ⟨2, ![768, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S8192x13312, .bf16⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x256, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S2x1x128, .f32⟩
  | .hbm, ⟨10, _⟩ => ⟨S2x1x256, .f32⟩
  | .hbm, ⟨11, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x256, .f32⟩
  | .local _ .vmem, ⟨13, _⟩ => ⟨S2048x256, .bf16⟩
  | .local _ .vmem, ⟨14, _⟩ => ⟨S2048x256, .bf16⟩
  | .local _ .vmem, ⟨15, _⟩ => ⟨S2x2x256x2048, .f32⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DiffRefIdeal.lean ====
abbrev S8192x13312 : Shape := ⟨2, ![8192, 13312]⟩
abbrev S2x128 : Shape := ⟨2, ![2, 128]⟩
abbrev S2x256 : Shape := ⟨2, ![2, 256]⟩
abbrev S8192x2048 : Shape := ⟨2, ![8192, 2048]⟩
abbrev S4x2048x8x2x128 : Shape := ⟨5, ![4, 2048, 8, 2, 128]⟩
abbrev S4x2048x8x256 : Shape := ⟨4, ![4, 2048, 8, 256]⟩
abbrev S1x128 : Shape := ⟨2, ![1, 128]⟩
abbrev S128 : Shape := ⟨1, ![128]⟩
abbrev S_ : Shape := ⟨0, ![]⟩
abbrev S2048 : Shape := ⟨1, ![2048]⟩
abbrev S4x8x2x2048x2048 : Shape := ⟨5, ![4, 8, 2, 2048, 2048]⟩
abbrev S1x2048 : Shape := ⟨2, ![1, 2048]⟩
abbrev S2048x1 : Shape := ⟨2, ![2048, 1]⟩
abbrev S2048x2048 : Shape := ⟨2, ![2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x256 : Shape := ⟨2, ![1, 256]⟩
abbrev S256 : Shape := ⟨1, ![256]⟩
abbrev S1x1x1x256 : Shape := ⟨4, ![1, 1, 1, 256]⟩

abbrev nBuf : Space → Nat
  | .hbm => 121
  | .vmem => 0
  | .smem => 0
  | _ => 0

abbrev bufTy : (tb : Table) → Fin (tcTables nBuf tb) → BufTy
  | .hbm, ⟨0, _⟩ => ⟨S8192x13312, .bf16⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x256, .f32⟩
  | .hbm, ⟨6, _⟩ => ⟨S8192x2048, .bf16⟩
  | .hbm, ⟨7, _⟩ => ⟨S8192x2048, .f32⟩
  | .hbm, ⟨8, _⟩ => ⟨S4x2048x8x2x128, .f32⟩
  | .hbm, ⟨9, _⟩ => ⟨S8192x2048, .bf16⟩
  | .hbm, ⟨10, _⟩ => ⟨S8192x2048, .f32⟩
  | .hbm, ⟨11, _⟩ => ⟨S4x2048x8x2x128, .f32⟩
  | .hbm, ⟨12, _⟩ => ⟨S8192x2048, .bf16⟩
  | .hbm, ⟨13, _⟩ => ⟨S8192x2048, .f32⟩
  | .hbm, ⟨14, _⟩ => ⟨S4x2048x8x256, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048, .i32⟩
  | .hbm, ⟨35, _⟩ => ⟨S_, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S4x8x2x2048x2048, .f32⟩
  | .hbm, ⟨54, _⟩ => ⟨S1x2048, .i32⟩
  | .hbm, ⟨55, _⟩ => ⟨S2048x1, .i32⟩
  | .hbm, ⟨56, _⟩ => ⟨S2048x2048, .i32⟩
  | .hbm, ⟨57, _⟩ => ⟨S2048x2048, .i32⟩
  | .hbm, ⟨58, _⟩ => ⟨S2048x2048, .i1⟩
  | .hbm, ⟨59, _⟩ => ⟨S_, .f32⟩
  | .hbm, ⟨60, _⟩ => ⟨S_, .f32⟩
  | .hbm, ⟨61, _⟩ => ⟨S4x8x2x2048x2048, .i1⟩
  | .hbm, ⟨62, _⟩ => ⟨S4x8x2x2048x2048, .f32⟩
  | .hbm, ⟨63, _⟩ => ⟨S4x8x2x2048x2048, .f32⟩
  | .hbm, ⟨64, _⟩ => ⟨S_, .f32⟩
  | .hbm, ⟨65, _⟩ => ⟨S4x8x2x2048, .f32⟩
  | .hbm, ⟨66, _⟩ => ⟨S4x8x2x2048x1, .f32⟩
  | .hbm, ⟨67, _⟩ => ⟨S4x8x2x2048x2048, .f32⟩
  | .hbm, ⟨68, _⟩ => ⟨S4x8x2x2048x2048, .f32⟩
  | .hbm, ⟨69, _⟩ => ⟨S_, .f32⟩
  | .hbm, ⟨70, _⟩ => ⟨S4x8x2x2048x2048, .f32⟩
  | .hbm, ⟨71, _⟩ => ⟨S4x8x2x2048x2048, .f32⟩
  | .hbm, ⟨72, _⟩ => ⟨S_, .f32⟩
  | .hbm, ⟨73, _⟩ => ⟨S4x8x2x2048, .f32⟩
  | .hbm, ⟨74, _⟩ => ⟨S4x8x2x2048x1, .f32⟩
  | .hbm, ⟨75, _⟩ => ⟨S4x8x2x2048x2048, .f32⟩
  | .hbm, ⟨76, _⟩ => ⟨S4x8x2x2048x2048, .f32⟩
  | .hbm, ⟨77, _⟩ => ⟨S4x8x1x2048x2048, .f32⟩
  | .hbm, ⟨78, _⟩ => ⟨S4x8x2048x2048, .f32⟩
  | .hbm, ⟨79, _⟩ => ⟨S4x8x1x2048x2048, .f32⟩
  | .hbm, ⟨80, _⟩ => ⟨S4x8x2048x2048, .f32⟩
  | .hbm, ⟨81, _⟩ => ⟨S4x8x2048x2048, .f32⟩
  | .hbm, ⟨82, _⟩ => ⟨S4x8x2048x2048, .f32⟩
  | .hbm, ⟨83, _⟩ => ⟨S4x8x2048x2048, .f32⟩
  | .hbm, ⟨84, _⟩ => ⟨S4x8x256x2048, .f32⟩
  | .hbm, ⟨85, _⟩ => ⟨S4x2048x8x256, .f32⟩
  | .hbm, ⟨86, _⟩ => ⟨S4x2048x8x256, .f32⟩
  | .hbm, ⟨87, _⟩ => ⟨S_, .f32⟩
  | .hbm, ⟨88, _⟩ => ⟨S4x2048x8, .f32⟩
  | .hbm, ⟨89, _⟩ => ⟨S4x2048x8x1, .f32⟩
  | .hbm, ⟨90, _⟩ => ⟨S_, .f32⟩
  | .hbm, ⟨91, _⟩ => ⟨S4x2048x8x1, .f32⟩
  | .hbm, ⟨92, _⟩ => ⟨S4x2048x8x1, .f32⟩
  | .hbm, ⟨93, _⟩ => ⟨S_, .f32⟩
  | .hbm, ⟨94, _⟩ => ⟨S4x2048x8x1, .f32⟩
  | .hbm, ⟨95, _⟩ => ⟨S4x2048x8x1, .f32⟩
  | .hbm, ⟨96, _⟩ => ⟨S4x2048x8x1, .f32⟩
  | .hbm, ⟨97, _⟩ => ⟨S4x2048x8x256, .f32⟩
  | .hbm, ⟨98, _⟩ => ⟨S4x2048x8x256, .f32⟩
  | .hbm, ⟨99, _⟩ => ⟨S1x256, .f32⟩
  | .hbm, ⟨100, _⟩ => ⟨S256, .f32⟩
  | .hbm, ⟨101, _⟩ => ⟨S1x1x1x256, .f32⟩
  | .hbm, ⟨102, _⟩ => ⟨S4x2048x8x256, .f32⟩
  | .hbm, ⟨103, _⟩ => ⟨S4x2048x8x256, .f32⟩
  | .hbm, ⟨104, _⟩ => ⟨S_, .f32⟩
  | .hbm, ⟨105, _⟩ => ⟨S4x2048x8x256, .f32⟩
  | .hbm, ⟨106, _⟩ => ⟨S4x2048x8x256, .f32⟩
  | .hbm, ⟨107, _⟩ => ⟨S8192x2048, .f32⟩
  | .hbm, ⟨108, _⟩ => ⟨S8192x2048, .bf16⟩
  | .hbm, ⟨109, _⟩ => ⟨S8192x2048, .f32⟩
  | .hbm, ⟨110, _⟩ => ⟨S8192x2048, .f32⟩
  | .hbm, ⟨111, _⟩ => ⟨S8192x2048, .f32⟩
  | .hbm, ⟨112, _⟩ => ⟨S_, .f32⟩
  | .hbm, ⟨113, _⟩ => ⟨S8192x2048, .f32⟩
  | .hbm, ⟨114, _⟩ => ⟨S8192x2048, .f32⟩
  | .hbm, ⟨115, _⟩ => ⟨S_, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S8192x2048, .bf16⟩
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_6 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_cst_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_9 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]
-- ==== Proof.InProj.Names.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic

/-!
The parts the in-projection's run is told in: the slots of its four rings, the blocks of its arrays, and
what is known of each while the pipeline runs.
-/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A slot of the activations' ring, by the offsets of its box. -/
abbrev aslotO (off : Fin 3 → Nat) (h : ∀ a, off a + S1x2048x4096.size a ≤ S2x2048x4096.size a) : Memref sig .tc .vmem S2048x4096 .bf16 :=
  ((Memref.whole cc0_scoped0).slice (Rect.unit (s := S2x2048x4096) off S1x2048x4096.size h) (fun _ => rfl)).squeeze S2048x4096 squeezes_S1x2048x4096_S2048x4096
/-- A slot of the weights' ring. -/
abbrev wslotO (off : Fin 3 → Nat) (h : ∀ a, off a + S1x4096x512.size a ≤ S2x4096x512.size a) : Memref sig .tc .vmem S4096x512 .f32 :=
  ((Memref.whole cc0_scoped2).slice (Rect.unit (s := S2x4096x512) off S1x4096x512.size h) (fun _ => rfl)).squeeze S4096x512 squeezes_S1x4096x512_S4096x512
/-- A slot of the column scales' ring. -/
abbrev sslotO (off : Fin 3 → Nat) (h : ∀ a, off a + S1x1x512.size a ≤ S2x1x512.size a) : Memref sig .tc .vmem S1x512 .f32 :=
  ((Memref.whole cc0_scoped4).slice (Rect.unit (s := S2x1x512) off S1x1x512.size h) (fun _ => rfl)).squeeze S1x512 squeezes_S1x1x512_S1x512
/-- A slot of the result's ring. -/
abbrev oslotO (off : Fin 3 → Nat) (h : ∀ a, off a + S1x2048x512.size a ≤ S2x2048x512.size a) : Memref sig .tc .vmem S2048x512 .bf16 :=
  ((Memref.whole cc0_scoped6).slice (Rect.unit (s := S2x2048x512) off S1x2048x512.size h) (fun _ => rfl)).squeeze S2048x512 squeezes_S1x2048x512_S2048x512
/-- A block of the activations. -/
abbrev ablkO (off : Fin 2 → Nat) (h : ∀ a, off a + S2048x4096.size a ≤ S8192x4096.size a) : Memref sig .tc .hbm S2048x4096 .bf16 :=
  (Memref.whole main_arg0).slice (Rect.unit (s := S8192x4096) off S2048x4096.size h) (fun _ => rfl)
/-- A block of the first layer's weights. -/
abbrev wblkO (off : Fin 2 → Nat) (h : ∀ a, off a + S4096x512.size a ≤ S4096x13312.size a) : Memref sig .tc .hbm S4096x512 .f32 :=
  (((Memref.whole main_arg1).slice (Rect.unit (s := S2x4096x13312) ![0, 0, 0] S1x4096x13312.size inb_S2x4096x13312_S1x4096x13312_0_0_0) (fun _ => rfl)).squeeze S4096x13312 squeezes_S1x4096x13312_S4096x13312).slice (Rect.unit (s := S4096x13312) off S4096x512.size h) (fun _ => rfl)
/-- A block of the column scales. -/
abbrev sblkO (off : Fin 2 → Nat) (h : ∀ a, off a + S1x512.size a ≤ S1x13312.size a) : Memref sig .tc .hbm S1x512 .f32 :=
  (Memref.whole main_cst).slice (Rect.unit (s := S1x13312) off S1x512.size h) (fun _ => rfl)
/-- A block of the result. -/
abbrev oblkO (off : Fin 2 → Nat) (h : ∀ a, off a + S2048x512.size a ≤ S8192x13312.size a) : Memref sig .tc .hbm S2048x512 .bf16 :=
  (Memref.whole main_v0).slice (Rect.unit (s := S8192x13312) off S2048x512.size h) (fun _ => rfl)
/-- A slot's semaphore. -/
abbrev cellO (v : DmaSems sig S2) (off : Fin 1 → Nat) (h : ∀ a, off a + S1.size a ≤ S2.size a) : SemLoc sig :=
  SemLoc.dma ((v.slice (Rect.unit (s := S2) off S1.size h)).squeeze S_ squeezes_S1_S_).sem

/-- A vector of one slot's box, read at the slot's own indices. -/
def unsq_a {α : Type} (v : S2048x4096.Idx → α) : S1x2048x4096.Idx → α :=
  fun x => v ((Shape.reshapeEquiv squeezes_S1x2048x4096_S2048x4096.numel_eq).symm x)

/-- The elements a load or a store of a slot's box touches are the slot's. -/
theorem aslot_sub {off off' : Fin 3 → Nat} (e : off = off') (h h') :
    (Memref.whole cc0_scoped0).view.setOn (Rect.unit (s := S2x2048x4096) off S1x2048x4096.size h).set ⊆ (aslotO off' h').view.set := by
  subst e
  rw [Memref.set_view_squeeze]
  exact ((Memref.whole cc0_scoped0).view.set_slice (Rect.unit (s := S2x2048x4096) off S1x2048x4096.size h)).ge

/-- A load of a slot's box reads what the slot holds. -/
theorem aslot_load {off off' : Fin 3 → Nat} (e : off = off') (h h')
    (g : (Memref.whole cc0_scoped0).view.ty.Contents (Elt F)) :
    (Memref.whole cc0_scoped0).view.readAt (Elt F) (Rect.unit (s := S2x2048x4096) off S1x2048x4096.size h).toLoadRect g
      = unsq_a ((aslotO off' h').view.read (Elt F) g) := by
  subst e
  funext x
  show _ = ((Memref.whole cc0_scoped0).view.slice (Rect.unit (s := S2x2048x4096) off S1x2048x4096.size h)).read (Elt F) g
    (Shape.reshapeEquiv squeezes_S1x2048x4096_S2048x4096.numel_eq ((Shape.reshapeEquiv squeezes_S1x2048x4096_S2048x4096.numel_eq).symm x))
  rw [Equiv.apply_symm_apply]
  rfl

/-- A vector of one slot's box, read at the slot's own indices. -/
def unsq_w {α : Type} (v : S4096x512.Idx → α) : S1x4096x512.Idx → α :=
  fun x => v ((Shape.reshapeEquiv squeezes_S1x4096x512_S4096x512.numel_eq).symm x)

/-- The elements a load or a store of a slot's box touches are the slot's. -/
theorem wslot_sub {off off' : Fin 3 → Nat} (e : off = off') (h h') :
    (Memref.whole cc0_scoped2).view.setOn (Rect.unit (s := S2x4096x512) off S1x4096x512.size h).set ⊆ (wslotO off' h').view.set := by
  subst e
  rw [Memref.set_view_squeeze]
  exact ((Memref.whole cc0_scoped2).view.set_slice (Rect.unit (s := S2x4096x512) off S1x4096x512.size h)).ge

/-- A load of a slot's box reads what the slot holds. -/
theorem wslot_load {off off' : Fin 3 → Nat} (e : off = off') (h h')
    (g : (Memref.whole cc0_scoped2).view.ty.Contents (Elt F)) :
    (Memref.whole cc0_scoped2).view.readAt (Elt F) (Rect.unit (s := S2x4096x512) off S1x4096x512.size h).toLoadRect g
      = unsq_w ((wslotO off' h').view.read (Elt F) g) := by
  subst e
  funext x
  show _ = ((Memref.whole cc0_scoped2).view.slice (Rect.unit (s := S2x4096x512) off S1x4096x512.size h)).read (Elt F) g
    (Shape.reshapeEquiv squeezes_S1x4096x512_S4096x512.numel_eq ((Shape.reshapeEquiv squeezes_S1x4096x512_S4096x512.numel_eq).symm x))
  rw [Equiv.apply_symm_apply]
  rfl

/-- A vector of one slot's box, read at the slot's own indices. -/
def unsq_s {α : Type} (v : S1x512.Idx → α) : S1x1x512.Idx → α :=
  fun x => v ((Shape.reshapeEquiv squeezes_S1x1x512_S1x512.numel_eq).symm x)

/-- The elements a load or a store of a slot's box touches are the slot's. -/
theorem sslot_sub {off off' : Fin 3 → Nat} (e : off = off') (h h') :
    (Memref.whole cc0_scoped4).view.setOn (Rect.unit (s := S2x1x512) off S1x1x512.size h).set ⊆ (sslotO off' h').view.set := by
  subst e
  rw [Memref.set_view_squeeze]
  exact ((Memref.whole cc0_scoped4).view.set_slice (Rect.unit (s := S2x1x512) off S1x1x512.size h)).ge

/-- A load of a slot's box reads what the slot holds. -/
theorem sslot_load {off off' : Fin 3 → Nat} (e : off = off') (h h')
    (g : (Memref.whole cc0_scoped4).view.ty.Contents (Elt F)) :
    (Memref.whole cc0_scoped4).view.readAt (Elt F) (Rect.unit (s := S2x1x512) off S1x1x512.size h).toLoadRect g
      = unsq_s ((sslotO off' h').view.read (Elt F) g) := by
  subst e
  funext x
  show _ = ((Memref.whole cc0_scoped4).view.slice (Rect.unit (s := S2x1x512) off S1x1x512.size h)).read (Elt F) g
    (Shape.reshapeEquiv squeezes_S1x1x512_S1x512.numel_eq ((Shape.reshapeEquiv squeezes_S1x1x512_S1x512.numel_eq).symm x))
  rw [Equiv.apply_symm_apply]
  rfl

/-- A vector of one slot's box, read at the slot's own indices. -/
def unsq_o {α : Type} (v : S2048x512.Idx → α) : S1x2048x512.Idx → α :=
  fun x => v ((Shape.reshapeEquiv squeezes_S1x2048x512_S2048x512.numel_eq).symm x)

/-- The elements a load or a store of a slot's box touches are the slot's. -/
theorem oslot_sub {off off' : Fin 3 → Nat} (e : off = off') (h h') :
    (Memref.whole cc0_scoped6).view.setOn (Rect.unit (s := S2x2048x512) off S1x2048x512.size h).set ⊆ (oslotO off' h').view.set := by
  subst e
  rw [Memref.set_view_squeeze]
  exact ((Memref.whole cc0_scoped6).view.set_slice (Rect.unit (s := S2x2048x512) off S1x2048x512.size h)).ge

/-- A load of a slot's box reads what the slot holds. -/
theorem oslot_load {off off' : Fin 3 → Nat} (e : off = off') (h h')
    (g : (Memref.whole cc0_scoped6).view.ty.Contents (Elt F)) :
    (Memref.whole cc0_scoped6).view.readAt (Elt F) (Rect.unit (s := S2x2048x512) off S1x2048x512.size h).toLoadRect g
      = unsq_o ((oslotO off' h').view.read (Elt F) g) := by
  subst e
  funext x
  show _ = ((Memref.whole cc0_scoped6).view.slice (Rect.unit (s := S2x2048x512) off S1x2048x512.size h)).read (Elt F) g
    (Shape.reshapeEquiv squeezes_S1x2048x512_S2048x512.numel_eq ((Shape.reshapeEquiv squeezes_S1x2048x512_S2048x512.numel_eq).symm x))
  rw [Equiv.apply_symm_apply]
  rfl

/-- The elements a store of a result slot's box touches are the slot's. -/
theorem oslot_sub' {off off' : Fin 3 → Nat} (e : off = off') (h h') :
    ((Memref.whole cc0_scoped6).access (Rect.unit (s := S2x2048x512) off S1x2048x512.size h)).setOn Finset.univ ⊆ (oslotO off' h').view.set := by
  subst e
  rw [Memref.set_view_squeeze]
  exact View.setOn_subset_set _ _

/-- One step's result: the product of the block of activations `va` by the block of weights `vw`, each
    column by its scale `vs`, as the body computes it. -/
def outv (va : Vec F S2048x4096 .bf16) (vw : Vec F S4096x512 .f32) (vs : Vec F S1x512 .f32) : Vec F S2048x512 .bf16 :=
  fun i => k0_pay1 (unsq_a va) (unsq_w vw) (unsq_s vs) (Shape.reshapeEquiv squeezes_S1x2048x512_S2048x512.numel_eq i)

/-- What is stored through a result slot's box is what the slot then holds. -/
theorem oslot_store {off off' : Fin 3 → Nat} (e : off = off') (h h') (g : (Memref.whole cc0_scoped6).view.ty.Contents (Elt F))
    (x : Vec F S1x2048x512 .bf16) (i : S2048x512.Idx) :
    (oslotO off' h').view.read (Elt F) (((Memref.whole cc0_scoped6).access (Rect.unit (s := S2x2048x512) off S1x2048x512.size h)).write (Elt F) g x Finset.univ) i
      = x (Shape.reshapeEquiv squeezes_S1x2048x512_S2048x512.numel_eq i) := by
  subst e
  exact congrFun (View.read_write_univ (v := (Memref.whole cc0_scoped6).access (Rect.unit (s := S2x2048x512) off S1x2048x512.size h)) (Val := Elt F) g x) _

/-- A slot of the ring `w` no transfer is in flight to, whatever it holds, with its share of the source. -/
def wFree (c : Dev nD) (f : Buf (Elt F) ((Memref.whole main_arg1).view.loc (c : Thread nD τ))) (off : Fin 3 → Nat) (h : ∀ a, off a + S1x4096x512.size a ≤ S2x4096x512.size a) (cell : SemLoc sig) (q : PosShare TreeShare) : sProp 𝕄 :=
  iprop((∃ g, ((wslotO off h).view.loc (c : Thread nD τ) ↦[(wslotO off h).view.set]{fullShare} g)) ∗ semVal ((c : Thread nD τ), cell) 0 ∗ ((Memref.whole main_arg1).view.loc (c : Thread nD τ) ↦[Finset.univ]{q} f))

/-- A slot of the ring `w` a block of the source is in flight to, with its share of the source. -/
def wFly (c : Dev nD) (f : Buf (Elt F) ((Memref.whole main_arg1).view.loc (c : Thread nD τ))) (off : Fin 3 → Nat) (h : ∀ a, off a + S1x4096x512.size a ≤ S2x4096x512.size a) (cell : SemLoc sig) (bo : Fin 2 → Nat) (bh : ∀ a, bo a + S4096x512.size a ≤ S4096x13312.size a) (q : PosShare TreeShare) : sProp 𝕄 :=
  iprop(∃ g, ⌜(wslotO off h).view.read (Elt F) g = (wblkO bo bh).view.read (Elt F) f⌝
    ∗ Transfers.Flight (countersEmb (U := Pipeline.UD sig nD τ)) (c : Thread nD τ) cell default 262144 iprop(((wslotO off h).view.loc (c : Thread nD τ) ↦[(wslotO off h).view.set]{fullShare} g) ∗ ((Memref.whole main_arg1).view.loc (c : Thread nD τ) ↦[(wblkO bo bh).view.set]{q} f))
    ∗ ((Memref.whole main_arg1).view.loc (c : Thread nD τ) ↦[Finset.univ \ (wblkO bo bh).view.set]{q} f))

/-- A slot of the ring `s` no transfer is in flight to, whatever it holds, with its share of the source. -/
def sFree (c : Dev nD) (f : Buf (Elt F) ((Memref.whole main_cst).view.loc (c : Thread nD τ))) (off : Fin 3 → Nat) (h : ∀ a, off a + S1x1x512.size a ≤ S2x1x512.size a) (cell : SemLoc sig) (q : PosShare TreeShare) : sProp 𝕄 :=
  iprop((∃ g, ((sslotO off h).view.loc (c : Thread nD τ) ↦[(sslotO off h).view.set]{fullShare} g)) ∗ semVal ((c : Thread nD τ), cell) 0 ∗ ((Memref.whole main_cst).view.loc (c : Thread nD τ) ↦[Finset.univ]{q} f))

/-- A slot of the ring `s` a block of the source is in flight to, with its share of the source. -/
def sFly (c : Dev nD) (f : Buf (Elt F) ((Memref.whole main_cst).view.loc (c : Thread nD τ))) (off : Fin 3 → Nat) (h : ∀ a, off a + S1x1x512.size a ≤ S2x1x512.size a) (cell : SemLoc sig) (bo : Fin 2 → Nat) (bh : ∀ a, bo a + S1x512.size a ≤ S1x13312.size a) (q : PosShare TreeShare) : sProp 𝕄 :=
  iprop(∃ g, ⌜(sslotO off h).view.read (Elt F) g = (sblkO bo bh).view.read (Elt F) f⌝
    ∗ Transfers.Flight (countersEmb (U := Pipeline.UD sig nD τ)) (c : Thread nD τ) cell default 64 iprop(((sslotO off h).view.loc (c : Thread nD τ) ↦[(sslotO off h).view.set]{fullShare} g) ∗ ((Memref.whole main_cst).view.loc (c : Thread nD τ) ↦[(sblkO bo bh).view.set]{q} f))
    ∗ ((Memref.whole main_cst).view.loc (c : Thread nD τ) ↦[Finset.univ \ (sblkO bo bh).view.set]{q} f))

/-- A slot of the activations' ring no transfer is in flight to, whatever it holds. -/
def aFree (c : Dev nD) (off : Fin 3 → Nat) (h : ∀ a, off a + S1x2048x4096.size a ≤ S2x2048x4096.size a) (cell : SemLoc sig) : sProp 𝕄 :=
  iprop((∃ g : Buf (Elt F) ((Memref.whole cc0_scoped0).view.loc (c : Thread nD τ)), ((aslotO off h).view.loc (c : Thread nD τ) ↦[(aslotO off h).view.set]{fullShare} g)) ∗ semVal ((c : Thread nD τ), cell) 0)

/-- A slot of the activations' ring that holds the block `va`. -/
def aHold (c : Dev nD) (off : Fin 3 → Nat) (h : ∀ a, off a + S1x2048x4096.size a ≤ S2x2048x4096.size a) (cell : SemLoc sig) (va : Vec F S2048x4096 .bf16) : sProp 𝕄 :=
  iprop((∃ g, ⌜(aslotO off h).view.read (Elt F) g = va⌝ ∗ ((aslotO off h).view.loc (c : Thread nD τ) ↦[(aslotO off h).view.set]{fullShare} g)) ∗ semVal ((c : Thread nD τ), cell) 0)

/-- The activations, no block of which is in flight. -/
def aSrc (c : Dev nD) (f : Buf (Elt F) ((Memref.whole main_arg0).view.loc (c : Thread nD τ))) : sProp 𝕄 := ((Memref.whole main_arg0).view.loc (c : Thread nD τ) ↦[Finset.univ]{fullShare} f)

/-- A slot of the activations' ring a block is in flight to, with the activations. -/
def aFly (c : Dev nD) (f : Buf (Elt F) ((Memref.whole main_arg0).view.loc (c : Thread nD τ))) (off : Fin 3 → Nat) (h : ∀ a, off a + S1x2048x4096.size a ≤ S2x2048x4096.size a) (cell : SemLoc sig) (bo : Fin 2 → Nat) (bh : ∀ a, bo a + S2048x4096.size a ≤ S8192x4096.size a) : sProp 𝕄 :=
  iprop(∃ g, ⌜(aslotO off h).view.read (Elt F) g = (ablkO bo bh).view.read (Elt F) f⌝
    ∗ Transfers.Flight (countersEmb (U := Pipeline.UD sig nD τ)) (c : Thread nD τ) cell default 524288 iprop(((aslotO off h).view.loc (c : Thread nD τ) ↦[(aslotO off h).view.set]{fullShare} g) ∗ ((Memref.whole main_arg0).view.loc (c : Thread nD τ) ↦[(ablkO bo bh).view.set]{fullShare} f))
    ∗ ((Memref.whole main_arg0).view.loc (c : Thread nD τ) ↦[Finset.univ \ (ablkO bo bh).view.set]{fullShare} f))

/-- A slot of the result's ring no transfer is in flight from, whatever it holds. -/
def oFree (c : Dev nD) (off : Fin 3 → Nat) (h : ∀ a, off a + S1x2048x512.size a ≤ S2x2048x512.size a) (cell : SemLoc sig) : sProp 𝕄 :=
  iprop((∃ g : Buf (Elt F) ((Memref.whole cc0_scoped6).view.loc (c : Thread nD τ)), ((oslotO off h).view.loc (c : Thread nD τ) ↦[(oslotO off h).view.set]{fullShare} g)) ∗ semVal ((c : Thread nD τ), cell) 0)

/-- A block of the result, whatever it holds. -/
def oAny (c : Dev nD) (bo : Fin 2 → Nat) (bh : ∀ a, bo a + S2048x512.size a ≤ S8192x13312.size a) : sProp 𝕄 :=
  iprop(∃ g : Buf (Elt F) ((Memref.whole main_v0).view.loc (c : Thread nD τ)), ((oblkO bo bh).view.loc (c : Thread nD τ) ↦[(oblkO bo bh).view.set]{fullShare} g))

/-- A block of the result that holds `v`. -/
def oDone (c : Dev nD) (bo : Fin 2 → Nat) (bh : ∀ a, bo a + S2048x512.size a ≤ S8192x13312.size a) (v : Vec F S2048x512 .bf16) : sProp 𝕄 :=
  iprop(∃ g, ⌜(oblkO bo bh).view.read (Elt F) g = v⌝ ∗ ((oblkO bo bh).view.loc (c : Thread nD τ) ↦[(oblkO bo bh).view.set]{fullShare} g))

/-- A slot of the result's ring whose contents `v` are in flight to a block of the result. -/
def oFly (c : Dev nD) (off : Fin 3 → Nat) (h : ∀ a, off a + S1x2048x512.size a ≤ S2x2048x512.size a) (cell : SemLoc sig) (bo : Fin 2 → Nat) (bh : ∀ a, bo a + S2048x512.size a ≤ S8192x13312.size a) (v : Vec F S2048x512 .bf16) : sProp 𝕄 :=
  iprop(∃ g go, ⌜(oblkO bo bh).view.read (Elt F) g = v⌝
    ∗ Transfers.Flight (countersEmb (U := Pipeline.UD sig nD τ)) (c : Thread nD τ) cell default 65536 iprop(((oblkO bo bh).view.loc (c : Thread nD τ) ↦[(oblkO bo bh).view.set]{fullShare} g) ∗ ((oslotO off h).view.loc (c : Thread nD τ) ↦[(oslotO off h).view.set]{fullShare} go)))

/-- What the thread owes, whatever waits are recorded. -/
def owe (c : Dev nD) : sProp 𝕄 := iprop(∃ W, owes (c : Thread nD τ) 0 W)

/-- One trip of the body, at the carried words. -/
abbrev body (k : Fin k0_t1_loop.trips) (w5 w6 w7 w8 w9 w10 w11 w12 w13 w14 : BitVec 32) :=
  k0_t1_body (F := F) (Memref.whole main_arg0) (Memref.isWhole_whole _) (Memref.whole main_arg1) (Memref.isWhole_whole _) (Memref.whole main_cst) (Memref.isWhole_whole _) (Memref.whole main_v0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 1#32 1#32 1#32 0#32 0#32 0#32 0#32 0#32 0#32 0#32 0#32 k (w5, w6, w7, w8, w9, w10, w11, w12, w13, w14)

/-- The words carried to the next trip. -/
def nextW (k : Fin k0_t1_loop.trips) (w5 w6 w7 w8 w9 w10 w11 w12 w13 w14 : BitVec 32) :
    BitVec 32 × BitVec 32 × BitVec 32 × BitVec 32 × BitVec 32 × BitVec 32 × BitVec 32 × BitVec 32 × BitVec 32 × BitVec 32 :=
  let iv : BitVec 32 := Scf.iv (0#32) (1#32) k
  let v105 : BitVec 32 := Scalar.addi w13 0#32
  let v117 : BitVec 32 := Scalar.addi w14 1#32
  let v118 : BitVec 32 := Scalar.select 1#1 v117 w14
  let v119 : BitVec 1 := Scalar.cmpi .eq v118 26#32
  let v121 : BitVec 32 := Scalar.addi w13 1#32
  let v122 : BitVec 32 := Scalar.select v119 v121 w13
  let v123 : BitVec 1 := Scalar.cmpi .eq v122 4#32
  let v124 : BitVec 32 := Scalar.select v123 0#32 v122
  let v125 : BitVec 32 := Scalar.addi v124 0#32
  let v137 : BitVec 1 := Scalar.cmpi .ne v105 v125
  let v138 : BitVec 1 := Scalar.cmpi .sge iv 103#32
  let v139 : BitVec 1 := Scalar.xori v138 1#1
  let v140 : BitVec 1 := Scalar.andi v137 v139
  let v144 : BitVec 1 := Scalar.andi v140 1#1
  let v145 : BitVec 32 := Scalar.addi w5 1#32
  let v146 : BitVec 32 := Scalar.select v144 v145 w5
  let v273 : BitVec 1 := Scalar.cmpi .ne v105 v125
  let v104 : BitVec 1 := Scalar.cmpi .eq iv 103#32
  let v274 : BitVec 1 := Scalar.ori v273 v104
  let v275 : BitVec 32 := Scalar.addi w6 1#32
  let v276 : BitVec 32 := Scalar.select v274 v275 w6
  let v106 : BitVec 32 := Scalar.addi w14 0#32
  let v120 : BitVec 32 := Scalar.select v119 0#32 v118
  let v126 : BitVec 32 := Scalar.addi v120 0#32
  let v147 : BitVec 1 := Scalar.cmpi .ne v106 v126
  let v148 : BitVec 1 := Scalar.cmpi .sge iv 103#32
  let v149 : BitVec 1 := Scalar.xori v148 1#1
  let v150 : BitVec 1 := Scalar.andi v147 v149
  let v154 : BitVec 1 := Scalar.andi v150 1#1
  let v155 : BitVec 32 := Scalar.addi w7 1#32
  let v156 : BitVec 32 := Scalar.select v154 v155 w7
  let v277 : BitVec 1 := Scalar.cmpi .ne v106 v126
  let v278 : BitVec 1 := Scalar.ori v277 v104
  let v279 : BitVec 32 := Scalar.addi w8 1#32
  let v280 : BitVec 32 := Scalar.select v278 v279 w8
  let v157 : BitVec 1 := Scalar.cmpi .ne v106 v126
  let v158 : BitVec 1 := Scalar.cmpi .sge iv 103#32
  let v159 : BitVec 1 := Scalar.xori v158 1#1
  let v160 : BitVec 1 := Scalar.andi v157 v159
  let v164 : BitVec 1 := Scalar.andi v160 1#1
  let v165 : BitVec 32 := Scalar.addi w9 1#32
  let v166 : BitVec 32 := Scalar.select v164 v165 w9
  let v281 : BitVec 1 := Scalar.cmpi .ne v106 v126
  let v282 : BitVec 1 := Scalar.ori v281 v104
  let v283 : BitVec 32 := Scalar.addi w10 1#32
  let v284 : BitVec 32 := Scalar.select v282 v283 w10
  let v236 : BitVec 1 := Scalar.cmpi .ne v105 v125
  let v237 : BitVec 1 := Scalar.cmpi .ne v106 v126
  let v238 : BitVec 1 := Scalar.ori v236 v237
  let v239 : BitVec 1 := Scalar.ori v238 v104
  let v242 : BitVec 1 := Scalar.andi v239 1#1
  let v243 : BitVec 32 := Scalar.addi w11 1#32
  let v244 : BitVec 32 := Scalar.select v242 v243 w11
  let v107 : BitVec 32 := Scalar.subi w14 1#32
  let v108 : BitVec 32 := Scalar.select 1#1 v107 w14
  let v109 : BitVec 1 := Scalar.cmpi .eq v108 4294967295#32
  let v111 : BitVec 32 := Scalar.subi w13 1#32
  let v112 : BitVec 32 := Scalar.select v109 v111 w13
  let v113 : BitVec 1 := Scalar.cmpi .eq v112 4294967295#32
  let v114 : BitVec 32 := Scalar.select v113 3#32 v112
  let v115 : BitVec 32 := Scalar.addi v114 0#32
  let v263 : BitVec 1 := Scalar.cmpi .ne v105 v115
  let v110 : BitVec 32 := Scalar.select v109 25#32 v108
  let v116 : BitVec 32 := Scalar.addi v110 0#32
  let v264 : BitVec 1 := Scalar.cmpi .ne v106 v116
  let v265 : BitVec 1 := Scalar.ori v263 v264
  let v103 : BitVec 1 := Scalar.cmpi .eq iv 0#32
  let v266 : BitVec 1 := Scalar.xori v103 1#1
  let v267 : BitVec 1 := Scalar.andi v265 v266
  let v270 : BitVec 1 := Scalar.andi v267 1#1
  let v271 : BitVec 32 := Scalar.addi w12 1#32
  let v272 : BitVec 32 := Scalar.select v270 v271 w12
  let v285 : BitVec 32 := Scalar.addi w14 1#32
  let v286 : BitVec 32 := Scalar.select 1#1 v285 w14
  let v287 : BitVec 1 := Scalar.cmpi .eq v286 26#32
  let v289 : BitVec 32 := Scalar.addi w13 1#32
  let v290 : BitVec 32 := Scalar.select v287 v289 w13
  let v291 : BitVec 1 := Scalar.cmpi .eq v290 4#32
  let v292 : BitVec 32 := Scalar.select v291 0#32 v290
  let v288 : BitVec 32 := Scalar.select v287 0#32 v286
  (v146, v276, v156, v280, v166, v284, v244, v272, v292, v288)

end Cert.KernelIdeal.Hand

end
-- ==== Proof.InProj.TripA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The first trip: it waits for the block of activations and for nothing of the result. -/
theorem trip_first (c : Dev nD) (k : Fin k0_t1_loop.trips) (w5 w6 w7 w8 w9 w10 w11 w12 w13 w14 : BitVec 32)
    (hw1 : k0_chk1 k w5 w6 w7 w8 w9 w10 w11 w12 w13 w14) (hw2 : k0_chk2 w6) (hw3 : k0_chk3 w8) (hw4 : k0_chk4 w10) (hw5 : k0_chk5 w11)
    (h1 : ¬ k0_cond1 k w13 w14 = 1#1) (h2 : k0_cond2 k w14 = 1#1) (h3 : k0_cond3 k w14 = 1#1)
    (h4 : k0_cond4 k w13 w14 = 1#1) (h5 : k0_cond5 k w14 = 1#1) (h6 : k0_cond6 k w14 = 1#1)
    (h11 : k0_cond11 k w13 w14 = 1#1) (h15 : ¬ k0_cond15 k w13 w14 = 1#1)
    {o14 : Fin 1 → Nat} {o15 : Fin 3 → Nat} {o16 : Fin 2 → Nat} {o23 : Fin 3 → Nat} {o8 : Fin 1 → Nat} {o9 : Fin 3 → Nat} {o10 : Fin 2 → Nat} {o17 : Fin 1 → Nat} {o18 : Fin 3 → Nat} {o19 : Fin 2 → Nat} {o24 : Fin 3 → Nat} {o11 : Fin 1 → Nat} {o12 : Fin 3 → Nat} {o13 : Fin 2 → Nat} {o20 : Fin 1 → Nat} {o21 : Fin 3 → Nat} {o22 : Fin 2 → Nat} {o25 : Fin 3 → Nat} {o27 : Fin 1 → Nat} {o28 : Fin 2 → Nat} {o29 : Fin 3 → Nat} {o26 : Fin 3 → Nat}
    (i14 : ∀ a, o14 a + S1.size a ≤ S2.size a) (i15 : ∀ a, o15 a + S1x2048x4096.size a ≤ S2x2048x4096.size a) (i16 : ∀ a, o16 a + S2048x4096.size a ≤ S8192x4096.size a) (i23 : ∀ a, o23 a + S1x2048x4096.size a ≤ S2x2048x4096.size a) (i8 : ∀ a, o8 a + S1.size a ≤ S2.size a) (i9 : ∀ a, o9 a + S1x4096x512.size a ≤ S2x4096x512.size a) (i10 : ∀ a, o10 a + S4096x512.size a ≤ S4096x13312.size a) (i17 : ∀ a, o17 a + S1.size a ≤ S2.size a) (i18 : ∀ a, o18 a + S1x4096x512.size a ≤ S2x4096x512.size a) (i19 : ∀ a, o19 a + S4096x512.size a ≤ S4096x13312.size a) (i24 : ∀ a, o24 a + S1x4096x512.size a ≤ S2x4096x512.size a) (i11 : ∀ a, o11 a + S1.size a ≤ S2.size a) (i12 : ∀ a, o12 a + S1x1x512.size a ≤ S2x1x512.size a) (i13 : ∀ a, o13 a + S1x512.size a ≤ S1x13312.size a) (i20 : ∀ a, o20 a + S1.size a ≤ S2.size a) (i21 : ∀ a, o21 a + S1x1x512.size a ≤ S2x1x512.size a) (i22 : ∀ a, o22 a + S1x512.size a ≤ S1x13312.size a) (i25 : ∀ a, o25 a + S1x1x512.size a ≤ S2x1x512.size a) (i27 : ∀ a, o27 a + S1.size a ≤ S2.size a) (i28 : ∀ a, o28 a + S2048x512.size a ≤ S8192x13312.size a) (i29 : ∀ a, o29 a + S1x2048x512.size a ≤ S2x2048x512.size a) (i26 : ∀ a, o26 a + S1x2048x512.size a ≤ S2x2048x512.size a)
    (e14 : k0_off14 w6 = o14) (e15 : k0_off15 w6 = o15) (e16 : k0_off16 w13 = o16) (e23 : k0_off23 w6 = o23) (e8 : k0_off8 w7 = o8) (e9 : k0_off9 w7 = o9) (e10 : k0_off10 w14 = o10) (e17 : k0_off17 w8 = o17) (e18 : k0_off18 w8 = o18) (e19 : k0_off19 w14 = o19) (e24 : k0_off24 w8 = o24) (e11 : k0_off11 w9 = o11) (e12 : k0_off12 w9 = o12) (e13 : k0_off13 w14 = o13) (e20 : k0_off20 w10 = o20) (e21 : k0_off21 w10 = o21) (e22 : k0_off22 w14 = o22) (e25 : k0_off25 w10 = o25) (e27 : k0_off27 w11 = o27) (e28 : k0_off28 w13 w14 = o28) (e29 : k0_off29 w11 = o29) (e26 : k0_off26 w11 = o26)
    (l23 : k0_off23 w6 = o15) (l24 : k0_off24 w8 = o18) (l25 : k0_off25 w10 = o21) (l26 : k0_off26 w11 = o29)
    (fa : Buf (Elt F) ((Memref.whole main_arg0).view.loc (c : Thread nD τ)))
    (fw : Buf (Elt F) ((Memref.whole main_arg1).view.loc (c : Thread nD τ)))
    (fs : Buf (Elt F) ((Memref.whole main_cst).view.loc (c : Thread nD τ)))
    (ca : SemLoc sig) (va : Vec F S2048x4096 .bf16) (vo : Vec F S2048x512 .bf16) (q q' : PosShare TreeShare) :
    (iprop(aFly c fa o15 i15 (cellO cc0_scoped1 o14 i14) o16 i16 ∗ wFree c fw o9 i9 (cellO cc0_scoped3 o8 i8) q ∗ wFly c fw o18 i18 (cellO cc0_scoped3 o17 i17) o19 i19 q' ∗ sFree c fs o12 i12 (cellO cc0_scoped5 o11 i11) q ∗ sFly c fs o21 i21 (cellO cc0_scoped5 o20 i20) o22 i22 q' ∗ oFree c o29 i29 (cellO cc0_scoped7 o27 i27) ∗ oAny c o28 i28 ∗ owe c) : sProp 𝕄)
    ⊢ wp frame (wpE (defs₀ (F := F)) Variants.none c none) Set.univ (body k w5 w6 w7 w8 w9 w10 w11 w12 w13 w14)
      (fun r => iprop(⌜r = nextW k w5 w6 w7 w8 w9 w10 w11 w12 w13 w14⌝ ∗ aHold c o15 i15 (cellO cc0_scoped1 o14 i14) ((ablkO o16 i16).view.read (Elt F) fa) ∗ aSrc c fa ∗ wFly c fw o9 i9 (cellO cc0_scoped3 o8 i8) o10 i10 q ∗ wFree c fw o18 i18 (cellO cc0_scoped3 o17 i17) q' ∗ sFly c fs o12 i12 (cellO cc0_scoped5 o11 i11) o13 i13 q ∗ sFree c fs o21 i21 (cellO cc0_scoped5 o20 i20) q' ∗ oFly c o29 i29 (cellO cc0_scoped7 o27 i27) o28 i28 (outv ((ablkO o16 i16).view.read (Elt F) fa) ((wblkO o19 i19).view.read (Elt F) fw) ((sblkO o22 i22).view.read (Elt F) fs)) ∗ owe c)) := by
  subst e14 e15 e16 e23 e8 e9 e10 e17 e18 e19 e24 e11 e12 e13 e20 e21 e22 e25 e27 e28 e29 e26
  have hiA := aslot_sub l23 (k0_off23_inb w6 hw2) i15
  have hiW := wslot_sub l24 (k0_off24_inb w8 hw3) i18
  have hiS := sslot_sub l25 (k0_off25_inb w10 hw4) i21
  have hiO := oslot_sub l26 (k0_off26_inb w11 hw5) i29
  have hiO' := oslot_sub' l26 (k0_off26_inb w11 hw5) i29
  have hV : ∀ ga gw gs, k0_pay1 ((Memref.whole cc0_scoped0).view.readAt (Elt F) (Rect.unit (s := S2x2048x4096) (k0_off23 w6) S1x2048x4096.size (k0_off23_inb w6 hw2)).toLoadRect ga)
      ((Memref.whole cc0_scoped2).view.readAt (Elt F) (Rect.unit (s := S2x4096x512) (k0_off24 w8) S1x4096x512.size (k0_off24_inb w8 hw3)).toLoadRect gw)
      ((Memref.whole cc0_scoped4).view.readAt (Elt F) (Rect.unit (s := S2x1x512) (k0_off25 w10) S1x1x512.size (k0_off25_inb w10 hw4)).toLoadRect gs)
      = k0_pay1 (unsq_a ((aslotO _ i15).view.read (Elt F) ga)) (unsq_w ((wslotO _ i18).view.read (Elt F) gw)) (unsq_s ((sslotO _ i21).view.read (Elt F) gs)) := by
    intro ga gw gs
    rw [aslot_load l23 (k0_off23_inb w6 hw2) i15, wslot_load l24 (k0_off24_inb w8 hw3) i18, sslot_load l25 (k0_off25_inb w10 hw4) i21]
  unfold aFly wFree wFly sFree sFly oFree oAny owe aHold aSrc oFly
  iintro ⟨⟨%ga, %hga, FA, TA⟩, ⟨⟨%gw, RW⟩, CW, TW⟩, ⟨%gw', %hgw, FW, TW'⟩, ⟨⟨%gs, RS⟩, CS, TS⟩, ⟨%gs', %hgs, FS, TS'⟩, ⟨⟨%go, RO⟩, CO⟩, ⟨%gb, BO⟩, ⟨%W, HO⟩⟩
  unfold body k0_t1_body
  sl_exec
  sl_step
  isplitr
  · ipureintro; rfl
  isplitl [FA_dst FA]
  · isplitl [FA_dst]
    · iexists ga; isplitr
      · ipureintro; exact hga
      iexact FA_dst
    · iexact FA
  isplitl [TA]
  · iexact TA
  isplitl [CW TW]
  · iexists ((wslotO _ i9).view.writes (Elt F) gw [⟨Rect.whole S4096x512, (wblkO _ i10).view.read (Elt F) fw⟩])
    isplitr
    · ipureintro; exact View.read_writes_whole _ _ _
    isplitl [CW]
    · iexact CW
    · iexact TW
  isplitl [FW_dst FW TW']
  · isplitl [FW_dst]
    · iexists gw'; iexact FW_dst
    isplitl [FW]
    · iexact FW
    · iexact TW'
  isplitl [CS TS]
  · iexists ((sslotO _ i12).view.writes (Elt F) gs [⟨Rect.whole S1x512, (sblkO _ i13).view.read (Elt F) fs⟩])
    isplitr
    · ipureintro; exact View.read_writes_whole _ _ _
    isplitl [CS]
    · iexact CS
    · iexact TS
  isplitl [FS_dst FS TS']
  · isplitl [FS_dst]
    · iexists gs'; iexact FS_dst
    isplitl [FS]
    · iexact FS
    · iexact TS'
  isplitl [CO]
  · iexists _, _; isplitr [CO]
    rotate_left
    · iexact CO
    · ipureintro
      refine (View.read_writes_whole _ _ _).trans (funext fun i => ?_)
      refine (oslot_store l26 (k0_off26_inb w11 hw5) i29 go _ i).trans ?_
      refine congrFun ((hV ga gw' gs').trans ?_) _
      rw [hga, hgw, hgs]
  iexists _; iexact HO

end Cert.KernelIdeal.Hand

end
-- ==== Proof.InProj.TripB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The first trip of a later row of blocks: it waits for the row's block of activations. -/
theorem trip_row (c : Dev nD) (k : Fin k0_t1_loop.trips) (w5 w6 w7 w8 w9 w10 w11 w12 w13 w14 : BitVec 32)
    (hw1 : k0_chk1 k w5 w6 w7 w8 w9 w10 w11 w12 w13 w14) (hw2 : k0_chk2 w6) (hw3 : k0_chk3 w8) (hw4 : k0_chk4 w10) (hw5 : k0_chk5 w11)
    (h1 : ¬ k0_cond1 k w13 w14 = 1#1) (h2 : k0_cond2 k w14 = 1#1) (h3 : k0_cond3 k w14 = 1#1)
    (h4 : k0_cond4 k w13 w14 = 1#1) (h5 : k0_cond5 k w14 = 1#1) (h6 : k0_cond6 k w14 = 1#1)
    (h11 : k0_cond11 k w13 w14 = 1#1) (h15 : k0_cond15 k w13 w14 = 1#1)
    {o14 : Fin 1 → Nat} {o15 : Fin 3 → Nat} {o16 : Fin 2 → Nat} {o23 : Fin 3 → Nat} {o8 : Fin 1 → Nat} {o9 : Fin 3 → Nat} {o10 : Fin 2 → Nat} {o17 : Fin 1 → Nat} {o18 : Fin 3 → Nat} {o19 : Fin 2 → Nat} {o24 : Fin 3 → Nat} {o11 : Fin 1 → Nat} {o12 : Fin 3 → Nat} {o13 : Fin 2 → Nat} {o20 : Fin 1 → Nat} {o21 : Fin 3 → Nat} {o22 : Fin 2 → Nat} {o25 : Fin 3 → Nat} {o27 : Fin 1 → Nat} {o28 : Fin 2 → Nat} {o29 : Fin 3 → Nat} {o26 : Fin 3 → Nat} {o30 : Fin 1 → Nat} {o31 : Fin 2 → Nat} {o32 : Fin 3 → Nat}
    (i14 : ∀ a, o14 a + S1.size a ≤ S2.size a) (i15 : ∀ a, o15 a + S1x2048x4096.size a ≤ S2x2048x4096.size a) (i16 : ∀ a, o16 a + S2048x4096.size a ≤ S8192x4096.size a) (i23 : ∀ a, o23 a + S1x2048x4096.size a ≤ S2x2048x4096.size a) (i8 : ∀ a, o8 a + S1.size a ≤ S2.size a) (i9 : ∀ a, o9 a + S1x4096x512.size a ≤ S2x4096x512.size a) (i10 : ∀ a, o10 a + S4096x512.size a ≤ S4096x13312.size a) (i17 : ∀ a, o17 a + S1.size a ≤ S2.size a) (i18 : ∀ a, o18 a + S1x4096x512.size a ≤ S2x4096x512.size a) (i19 : ∀ a, o19 a + S4096x512.size a ≤ S4096x13312.size a) (i24 : ∀ a, o24 a + S1x4096x512.size a ≤ S2x4096x512.size a) (i11 : ∀ a, o11 a + S1.size a ≤ S2.size a) (i12 : ∀ a, o12 a + S1x1x512.size a ≤ S2x1x512.size a) (i13 : ∀ a, o13 a + S1x512.size a ≤ S1x13312.size a) (i20 : ∀ a, o20 a + S1.size a ≤ S2.size a) (i21 : ∀ a, o21 a + S1x1x512.size a ≤ S2x1x512.size a) (i22 : ∀ a, o22 a + S1x512.size a ≤ S1x13312.size a) (i25 : ∀ a, o25 a + S1x1x512.size a ≤ S2x1x512.size a) (i27 : ∀ a, o27 a + S1.size a ≤ S2.size a) (i28 : ∀ a, o28 a + S2048x512.size a ≤ S8192x13312.size a) (i29 : ∀ a, o29 a + S1x2048x512.size a ≤ S2x2048x512.size a) (i26 : ∀ a, o26 a + S1x2048x512.size a ≤ S2x2048x512.size a) (i30 : ∀ a, o30 a + S1.size a ≤ S2.size a) (i31 : ∀ a, o31 a + S2048x512.size a ≤ S8192x13312.size a) (i32 : ∀ a, o32 a + S1x2048x512.size a ≤ S2x2048x512.size a)
    (e14 : k0_off14 w6 = o14) (e15 : k0_off15 w6 = o15) (e16 : k0_off16 w13 = o16) (e23 : k0_off23 w6 = o23) (e8 : k0_off8 w7 = o8) (e9 : k0_off9 w7 = o9) (e10 : k0_off10 w14 = o10) (e17 : k0_off17 w8 = o17) (e18 : k0_off18 w8 = o18) (e19 : k0_off19 w14 = o19) (e24 : k0_off24 w8 = o24) (e11 : k0_off11 w9 = o11) (e12 : k0_off12 w9 = o12) (e13 : k0_off13 w14 = o13) (e20 : k0_off20 w10 = o20) (e21 : k0_off21 w10 = o21) (e22 : k0_off22 w14 = o22) (e25 : k0_off25 w10 = o25) (e27 : k0_off27 w11 = o27) (e28 : k0_off28 w13 w14 = o28) (e29 : k0_off29 w11 = o29) (e26 : k0_off26 w11 = o26) (e30 : k0_off30 w12 = o30) (e31 : k0_off31 w13 w14 = o31) (e32 : k0_off32 w12 = o32)
    (l23 : k0_off23 w6 = o15) (l24 : k0_off24 w8 = o18) (l25 : k0_off25 w10 = o21) (l26 : k0_off26 w11 = o29)
    (fa : Buf (Elt F) ((Memref.whole main_arg0).view.loc (c : Thread nD τ)))
    (fw : Buf (Elt F) ((Memref.whole main_arg1).view.loc (c : Thread nD τ)))
    (fs : Buf (Elt F) ((Memref.whole main_cst).view.loc (c : Thread nD τ)))
    (ca : SemLoc sig) (va : Vec F S2048x4096 .bf16) (vo : Vec F S2048x512 .bf16) (q q' : PosShare TreeShare) :
    (iprop(aFly c fa o15 i15 (cellO cc0_scoped1 o14 i14) o16 i16 ∗ wFree c fw o9 i9 (cellO cc0_scoped3 o8 i8) q ∗ wFly c fw o18 i18 (cellO cc0_scoped3 o17 i17) o19 i19 q' ∗ sFree c fs o12 i12 (cellO cc0_scoped5 o11 i11) q ∗ sFly c fs o21 i21 (cellO cc0_scoped5 o20 i20) o22 i22 q' ∗ oFree c o29 i29 (cellO cc0_scoped7 o27 i27) ∗ oAny c o28 i28 ∗ oFly c o32 i32 (cellO cc0_scoped7 o30 i30) o31 i31 vo ∗ owe c) : sProp 𝕄)
    ⊢ wp frame (wpE (defs₀ (F := F)) Variants.none c none) Set.univ (body k w5 w6 w7 w8 w9 w10 w11 w12 w13 w14)
      (fun r => iprop(⌜r = nextW k w5 w6 w7 w8 w9 w10 w11 w12 w13 w14⌝ ∗ aHold c o15 i15 (cellO cc0_scoped1 o14 i14) ((ablkO o16 i16).view.read (Elt F) fa) ∗ aSrc c fa ∗ wFly c fw o9 i9 (cellO cc0_scoped3 o8 i8) o10 i10 q ∗ wFree c fw o18 i18 (cellO cc0_scoped3 o17 i17) q' ∗ sFly c fs o12 i12 (cellO cc0_scoped5 o11 i11) o13 i13 q ∗ sFree c fs o21 i21 (cellO cc0_scoped5 o20 i20) q' ∗ oFly c o29 i29 (cellO cc0_scoped7 o27 i27) o28 i28 (outv ((ablkO o16 i16).view.read (Elt F) fa) ((wblkO o19 i19).view.read (Elt F) fw) ((sblkO o22 i22).view.read (Elt F) fs)) ∗ oDone c o31 i31 vo ∗ oFree c o32 i32 (cellO cc0_scoped7 o30 i30) ∗ owe c)) := by
  subst e14 e15 e16 e23 e8 e9 e10 e17 e18 e19 e24 e11 e12 e13 e20 e21 e22 e25 e27 e28 e29 e26 e30 e31 e32
  have hiA := aslot_sub l23 (k0_off23_inb w6 hw2) i15
  have hiW := wslot_sub l24 (k0_off24_inb w8 hw3) i18
  have hiS := sslot_sub l25 (k0_off25_inb w10 hw4) i21
  have hiO := oslot_sub l26 (k0_off26_inb w11 hw5) i29
  have hiO' := oslot_sub' l26 (k0_off26_inb w11 hw5) i29
  have hV : ∀ ga gw gs, k0_pay1 ((Memref.whole cc0_scoped0).view.readAt (Elt F) (Rect.unit (s := S2x2048x4096) (k0_off23 w6) S1x2048x4096.size (k0_off23_inb w6 hw2)).toLoadRect ga)
      ((Memref.whole cc0_scoped2).view.readAt (Elt F) (Rect.unit (s := S2x4096x512) (k0_off24 w8) S1x4096x512.size (k0_off24_inb w8 hw3)).toLoadRect gw)
      ((Memref.whole cc0_scoped4).view.readAt (Elt F) (Rect.unit (s := S2x1x512) (k0_off25 w10) S1x1x512.size (k0_off25_inb w10 hw4)).toLoadRect gs)
      = k0_pay1 (unsq_a ((aslotO _ i15).view.read (Elt F) ga)) (unsq_w ((wslotO _ i18).view.read (Elt F) gw)) (unsq_s ((sslotO _ i21).view.read (Elt F) gs)) := by
    intro ga gw gs
    rw [aslot_load l23 (k0_off23_inb w6 hw2) i15, wslot_load l24 (k0_off24_inb w8 hw3) i18, sslot_load l25 (k0_off25_inb w10 hw4) i21]
  unfold aFly wFree wFly sFree sFly oFree oAny oFly owe aHold aSrc oDone
  iintro ⟨⟨%ga, %hga, FA, TA⟩, ⟨⟨%gw, RW⟩, CW, TW⟩, ⟨%gw', %hgw, FW, TW'⟩, ⟨⟨%gs, RS⟩, CS, TS⟩, ⟨%gs', %hgs, FS, TS'⟩, ⟨⟨%go, RO⟩, CO⟩, ⟨%gb, BO⟩, ⟨%gb', %go', %hgb, FO⟩, ⟨%W, HO⟩⟩
  unfold body k0_t1_body
  sl_exec
  sl_step
  isplitr
  · ipureintro; rfl
  isplitl [FA_dst FA]
  · isplitl [FA_dst]
    · iexists ga; isplitr
      · ipureintro; exact hga
      iexact FA_dst
    · iexact FA
  isplitl [TA]
  · iexact TA
  isplitl [CW TW]
  · iexists ((wslotO _ i9).view.writes (Elt F) gw [⟨Rect.whole S4096x512, (wblkO _ i10).view.read (Elt F) fw⟩])
    isplitr
    · ipureintro; exact View.read_writes_whole _ _ _
    isplitl [CW]
    · iexact CW
    · iexact TW
  isplitl [FW_dst FW TW']
  · isplitl [FW_dst]
    · iexists gw'; iexact FW_dst
    isplitl [FW]
    · iexact FW
    · iexact TW'
  isplitl [CS TS]
  · iexists ((sslotO _ i12).view.writes (Elt F) gs [⟨Rect.whole S1x512, (sblkO _ i13).view.read (Elt F) fs⟩])
    isplitr
    · ipureintro; exact View.read_writes_whole _ _ _
    isplitl [CS]
    · iexact CS
    · iexact TS
  isplitl [FS_dst FS TS']
  · isplitl [FS_dst]
    · iexists gs'; iexact FS_dst
    isplitl [FS]
    · iexact FS
    · iexact TS'
  isplitl [CO]
  · iexists _, _; isplitr [CO]
    rotate_left
    · iexact CO
    · ipureintro
      refine (View.read_writes_whole _ _ _).trans (funext fun i => ?_)
      refine (oslot_store l26 (k0_off26_inb w11 hw5) i29 go _ i).trans ?_
      refine congrFun ((hV ga gw' gs').trans ?_) _
      rw [hga, hgw, hgs]
  isplitl [FO_dst]
  · iexists gb'; isplitr
    · ipureintro; exact hgb
    · iexact FO_dst
  isplitl [FO_src FO]
  · isplitl [FO_src]
    · iexists go'; iexact FO_src
    · iexact FO
  iexists _; iexact HO

end Cert.KernelIdeal.Hand

end
-- ==== Proof.InProj.TripC.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A trip in the middle of a row of blocks. -/
theorem trip_mid (c : Dev nD) (k : Fin k0_t1_loop.trips) (w5 w6 w7 w8 w9 w10 w11 w12 w13 w14 : BitVec 32)
    (hw1 : k0_chk1 k w5 w6 w7 w8 w9 w10 w11 w12 w13 w14) (hw2 : k0_chk2 w6) (hw3 : k0_chk3 w8) (hw4 : k0_chk4 w10) (hw5 : k0_chk5 w11)
    (h1 : ¬ k0_cond1 k w13 w14 = 1#1) (h2 : k0_cond2 k w14 = 1#1) (h3 : k0_cond3 k w14 = 1#1)
    (h4 : ¬ k0_cond4 k w13 w14 = 1#1) (h5 : k0_cond5 k w14 = 1#1) (h6 : k0_cond6 k w14 = 1#1)
    (h11 : k0_cond11 k w13 w14 = 1#1) (h15 : k0_cond15 k w13 w14 = 1#1)
    {o23 : Fin 3 → Nat} {o8 : Fin 1 → Nat} {o9 : Fin 3 → Nat} {o10 : Fin 2 → Nat} {o17 : Fin 1 → Nat} {o18 : Fin 3 → Nat} {o19 : Fin 2 → Nat} {o24 : Fin 3 → Nat} {o11 : Fin 1 → Nat} {o12 : Fin 3 → Nat} {o13 : Fin 2 → Nat} {o20 : Fin 1 → Nat} {o21 : Fin 3 → Nat} {o22 : Fin 2 → Nat} {o25 : Fin 3 → Nat} {o27 : Fin 1 → Nat} {o28 : Fin 2 → Nat} {o29 : Fin 3 → Nat} {o26 : Fin 3 → Nat} {o30 : Fin 1 → Nat} {o31 : Fin 2 → Nat} {o32 : Fin 3 → Nat}
    (i23 : ∀ a, o23 a + S1x2048x4096.size a ≤ S2x2048x4096.size a) (i8 : ∀ a, o8 a + S1.size a ≤ S2.size a) (i9 : ∀ a, o9 a + S1x4096x512.size a ≤ S2x4096x512.size a) (i10 : ∀ a, o10 a + S4096x512.size a ≤ S4096x13312.size a) (i17 : ∀ a, o17 a + S1.size a ≤ S2.size a) (i18 : ∀ a, o18 a + S1x4096x512.size a ≤ S2x4096x512.size a) (i19 : ∀ a, o19 a + S4096x512.size a ≤ S4096x13312.size a) (i24 : ∀ a, o24 a + S1x4096x512.size a ≤ S2x4096x512.size a) (i11 : ∀ a, o11 a + S1.size a ≤ S2.size a) (i12 : ∀ a, o12 a + S1x1x512.size a ≤ S2x1x512.size a) (i13 : ∀ a, o13 a + S1x512.size a ≤ S1x13312.size a) (i20 : ∀ a, o20 a + S1.size a ≤ S2.size a) (i21 : ∀ a, o21 a + S1x1x512.size a ≤ S2x1x512.size a) (i22 : ∀ a, o22 a + S1x512.size a ≤ S1x13312.size a) (i25 : ∀ a, o25 a + S1x1x512.size a ≤ S2x1x512.size a) (i27 : ∀ a, o27 a + S1.size a ≤ S2.size a) (i28 : ∀ a, o28 a + S2048x512.size a ≤ S8192x13312.size a) (i29 : ∀ a, o29 a + S1x2048x512.size a ≤ S2x2048x512.size a) (i26 : ∀ a, o26 a + S1x2048x512.size a ≤ S2x2048x512.size a) (i30 : ∀ a, o30 a + S1.size a ≤ S2.size a) (i31 : ∀ a, o31 a + S2048x512.size a ≤ S8192x13312.size a) (i32 : ∀ a, o32 a + S1x2048x512.size a ≤ S2x2048x512.size a)
    (e23 : k0_off23 w6 = o23) (e8 : k0_off8 w7 = o8) (e9 : k0_off9 w7 = o9) (e10 : k0_off10 w14 = o10) (e17 : k0_off17 w8 = o17) (e18 : k0_off18 w8 = o18) (e19 : k0_off19 w14 = o19) (e24 : k0_off24 w8 = o24) (e11 : k0_off11 w9 = o11) (e12 : k0_off12 w9 = o12) (e13 : k0_off13 w14 = o13) (e20 : k0_off20 w10 = o20) (e21 : k0_off21 w10 = o21) (e22 : k0_off22 w14 = o22) (e25 : k0_off25 w10 = o25) (e27 : k0_off27 w11 = o27) (e28 : k0_off28 w13 w14 = o28) (e29 : k0_off29 w11 = o29) (e26 : k0_off26 w11 = o26) (e30 : k0_off30 w12 = o30) (e31 : k0_off31 w13 w14 = o31) (e32 : k0_off32 w12 = o32)
    (l23 : k0_off23 w6 = o23) (l24 : k0_off24 w8 = o18) (l25 : k0_off25 w10 = o21) (l26 : k0_off26 w11 = o29)
    (fa : Buf (Elt F) ((Memref.whole main_arg0).view.loc (c : Thread nD τ)))
    (fw : Buf (Elt F) ((Memref.whole main_arg1).view.loc (c : Thread nD τ)))
    (fs : Buf (Elt F) ((Memref.whole main_cst).view.loc (c : Thread nD τ)))
    (ca : SemLoc sig) (va : Vec F S2048x4096 .bf16) (vo : Vec F S2048x512 .bf16) (q q' : PosShare TreeShare) :
    (iprop(aHold c o23 i23 ca va ∗ wFree c fw o9 i9 (cellO cc0_scoped3 o8 i8) q ∗ wFly c fw o18 i18 (cellO cc0_scoped3 o17 i17) o19 i19 q' ∗ sFree c fs o12 i12 (cellO cc0_scoped5 o11 i11) q ∗ sFly c fs o21 i21 (cellO cc0_scoped5 o20 i20) o22 i22 q' ∗ oFree c o29 i29 (cellO cc0_scoped7 o27 i27) ∗ oAny c o28 i28 ∗ oFly c o32 i32 (cellO cc0_scoped7 o30 i30) o31 i31 vo ∗ owe c) : sProp 𝕄)
    ⊢ wp frame (wpE (defs₀ (F := F)) Variants.none c none) Set.univ (body k w5 w6 w7 w8 w9 w10 w11 w12 w13 w14)
      (fun r => iprop(⌜r = nextW k w5 w6 w7 w8 w9 w10 w11 w12 w13 w14⌝ ∗ aHold c o23 i23 ca va ∗ wFly c fw o9 i9 (cellO cc0_scoped3 o8 i8) o10 i10 q ∗ wFree c fw o18 i18 (cellO cc0_scoped3 o17 i17) q' ∗ sFly c fs o12 i12 (cellO cc0_scoped5 o11 i11) o13 i13 q ∗ sFree c fs o21 i21 (cellO cc0_scoped5 o20 i20) q' ∗ oFly c o29 i29 (cellO cc0_scoped7 o27 i27) o28 i28 (outv va ((wblkO o19 i19).view.read (Elt F) fw) ((sblkO o22 i22).view.read (Elt F) fs)) ∗ oDone c o31 i31 vo ∗ oFree c o32 i32 (cellO cc0_scoped7 o30 i30) ∗ owe c)) := by
  subst e23 e8 e9 e10 e17 e18 e19 e24 e11 e12 e13 e20 e21 e22 e25 e27 e28 e29 e26 e30 e31 e32
  have hiA := aslot_sub l23 (k0_off23_inb w6 hw2) i23
  have hiW := wslot_sub l24 (k0_off24_inb w8 hw3) i18
  have hiS := sslot_sub l25 (k0_off25_inb w10 hw4) i21
  have hiO := oslot_sub l26 (k0_off26_inb w11 hw5) i29
  have hiO' := oslot_sub' l26 (k0_off26_inb w11 hw5) i29
  have hV : ∀ ga gw gs, k0_pay1 ((Memref.whole cc0_scoped0).view.readAt (Elt F) (Rect.unit (s := S2x2048x4096) (k0_off23 w6) S1x2048x4096.size (k0_off23_inb w6 hw2)).toLoadRect ga)
      ((Memref.whole cc0_scoped2).view.readAt (Elt F) (Rect.unit (s := S2x4096x512) (k0_off24 w8) S1x4096x512.size (k0_off24_inb w8 hw3)).toLoadRect gw)
      ((Memref.whole cc0_scoped4).view.readAt (Elt F) (Rect.unit (s := S2x1x512) (k0_off25 w10) S1x1x512.size (k0_off25_inb w10 hw4)).toLoadRect gs)
      = k0_pay1 (unsq_a ((aslotO _ i23).view.read (Elt F) ga)) (unsq_w ((wslotO _ i18).view.read (Elt F) gw)) (unsq_s ((sslotO _ i21).view.read (Elt F) gs)) := by
    intro ga gw gs
    rw [aslot_load l23 (k0_off23_inb w6 hw2) i23, wslot_load l24 (k0_off24_inb w8 hw3) i18, sslot_load l25 (k0_off25_inb w10 hw4) i21]
  unfold aHold wFree wFly sFree sFly oFree oAny oFly owe oDone
  iintro ⟨⟨⟨%ga, %hga, RA⟩, KA⟩, ⟨⟨%gw, RW⟩, CW, TW⟩, ⟨%gw', %hgw, FW, TW'⟩, ⟨⟨%gs, RS⟩, CS, TS⟩, ⟨%gs', %hgs, FS, TS'⟩, ⟨⟨%go, RO⟩, CO⟩, ⟨%gb, BO⟩, ⟨%gb', %go', %hgb, FO⟩, ⟨%W, HO⟩⟩
  unfold body k0_t1_body
  sl_exec
  sl_step
  isplitr
  · ipureintro; rfl
  isplitl [RA KA]
  · isplitl [RA]
    · iexists ga; isplitr
      · ipureintro; exact hga
      iexact RA
    · iexact KA
  isplitl [CW TW]
  · iexists ((wslotO _ i9).view.writes (Elt F) gw [⟨Rect.whole S4096x512, (wblkO _ i10).view.read (Elt F) fw⟩])
    isplitr
    · ipureintro; exact View.read_writes_whole _ _ _
    isplitl [CW]
    · iexact CW
    · iexact TW
  isplitl [FW_dst FW TW']
  · isplitl [FW_dst]
    · iexists gw'; iexact FW_dst
    isplitl [FW]
    · iexact FW
    · iexact TW'
  isplitl [CS TS]
  · iexists ((sslotO _ i12).view.writes (Elt F) gs [⟨Rect.whole S1x512, (sblkO _ i13).view.read (Elt F) fs⟩])
    isplitr
    · ipureintro; exact View.read_writes_whole _ _ _
    isplitl [CS]
    · iexact CS
    · iexact TS
  isplitl [FS_dst FS TS']
  · isplitl [FS_dst]
    · iexists gs'; iexact FS_dst
    isplitl [FS]
    · iexact FS
    · iexact TS'
  isplitl [CO]
  · iexists _, _; isplitr [CO]
    rotate_left
    · iexact CO
    · ipureintro
      refine (View.read_writes_whole _ _ _).trans (funext fun i => ?_)
      refine (oslot_store l26 (k0_off26_inb w11 hw5) i29 go _ i).trans ?_
      refine congrFun ((hV ga gw' gs').trans ?_) _
      rw [hga, hgw, hgs]
  isplitl [FO_dst]
  · iexists gb'; isplitr
    · ipureintro; exact hgb
    · iexact FO_dst
  isplitl [FO_src FO]
  · isplitl [FO_src]
    · iexists go'; iexact FO_src
    · iexact FO
  iexists _; iexact HO

end Cert.KernelIdeal.Hand

end
-- ==== Proof.InProj.TripD.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The last trip of a row of blocks but the last row's: it asks for the next row's block of activations. -/
theorem trip_turn (c : Dev nD) (k : Fin k0_t1_loop.trips) (w5 w6 w7 w8 w9 w10 w11 w12 w13 w14 : BitVec 32)
    (hw1 : k0_chk1 k w5 w6 w7 w8 w9 w10 w11 w12 w13 w14) (hw2 : k0_chk2 w6) (hw3 : k0_chk3 w8) (hw4 : k0_chk4 w10) (hw5 : k0_chk5 w11)
    (h1 : k0_cond1 k w13 w14 = 1#1) (h2 : k0_cond2 k w14 = 1#1) (h3 : k0_cond3 k w14 = 1#1)
    (h4 : ¬ k0_cond4 k w13 w14 = 1#1) (h5 : k0_cond5 k w14 = 1#1) (h6 : k0_cond6 k w14 = 1#1)
    (h11 : k0_cond11 k w13 w14 = 1#1) (h15 : k0_cond15 k w13 w14 = 1#1)
    {o23 : Fin 3 → Nat} {o5 : Fin 1 → Nat} {o6 : Fin 3 → Nat} {o7 : Fin 2 → Nat} {o8 : Fin 1 → Nat} {o9 : Fin 3 → Nat} {o10 : Fin 2 → Nat} {o17 : Fin 1 → Nat} {o18 : Fin 3 → Nat} {o19 : Fin 2 → Nat} {o24 : Fin 3 → Nat} {o11 : Fin 1 → Nat} {o12 : Fin 3 → Nat} {o13 : Fin 2 → Nat} {o20 : Fin 1 → Nat} {o21 : Fin 3 → Nat} {o22 : Fin 2 → Nat} {o25 : Fin 3 → Nat} {o27 : Fin 1 → Nat} {o28 : Fin 2 → Nat} {o29 : Fin 3 → Nat} {o26 : Fin 3 → Nat} {o30 : Fin 1 → Nat} {o31 : Fin 2 → Nat} {o32 : Fin 3 → Nat}
    (i23 : ∀ a, o23 a + S1x2048x4096.size a ≤ S2x2048x4096.size a) (i5 : ∀ a, o5 a + S1.size a ≤ S2.size a) (i6 : ∀ a, o6 a + S1x2048x4096.size a ≤ S2x2048x4096.size a) (i7 : ∀ a, o7 a + S2048x4096.size a ≤ S8192x4096.size a) (i8 : ∀ a, o8 a + S1.size a ≤ S2.size a) (i9 : ∀ a, o9 a + S1x4096x512.size a ≤ S2x4096x512.size a) (i10 : ∀ a, o10 a + S4096x512.size a ≤ S4096x13312.size a) (i17 : ∀ a, o17 a + S1.size a ≤ S2.size a) (i18 : ∀ a, o18 a + S1x4096x512.size a ≤ S2x4096x512.size a) (i19 : ∀ a, o19 a + S4096x512.size a ≤ S4096x13312.size a) (i24 : ∀ a, o24 a + S1x4096x512.size a ≤ S2x4096x512.size a) (i11 : ∀ a, o11 a + S1.size a ≤ S2.size a) (i12 : ∀ a, o12 a + S1x1x512.size a ≤ S2x1x512.size a) (i13 : ∀ a, o13 a + S1x512.size a ≤ S1x13312.size a) (i20 : ∀ a, o20 a + S1.size a ≤ S2.size a) (i21 : ∀ a, o21 a + S1x1x512.size a ≤ S2x1x512.size a) (i22 : ∀ a, o22 a + S1x512.size a ≤ S1x13312.size a) (i25 : ∀ a, o25 a + S1x1x512.size a ≤ S2x1x512.size a) (i27 : ∀ a, o27 a + S1.size a ≤ S2.size a) (i28 : ∀ a, o28 a + S2048x512.size a ≤ S8192x13312.size a) (i29 : ∀ a, o29 a + S1x2048x512.size a ≤ S2x2048x512.size a) (i26 : ∀ a, o26 a + S1x2048x512.size a ≤ S2x2048x512.size a) (i30 : ∀ a, o30 a + S1.size a ≤ S2.size a) (i31 : ∀ a, o31 a + S2048x512.size a ≤ S8192x13312.size a) (i32 : ∀ a, o32 a + S1x2048x512.size a ≤ S2x2048x512.size a)
    (e23 : k0_off23 w6 = o23) (e5 : k0_off5 w5 = o5) (e6 : k0_off6 w5 = o6) (e7 : k0_off7 w13 w14 = o7) (e8 : k0_off8 w7 = o8) (e9 : k0_off9 w7 = o9) (e10 : k0_off10 w14 = o10) (e17 : k0_off17 w8 = o17) (e18 : k0_off18 w8 = o18) (e19 : k0_off19 w14 = o19) (e24 : k0_off24 w8 = o24) (e11 : k0_off11 w9 = o11) (e12 : k0_off12 w9 = o12) (e13 : k0_off13 w14 = o13) (e20 : k0_off20 w10 = o20) (e21 : k0_off21 w10 = o21) (e22 : k0_off22 w14 = o22) (e25 : k0_off25 w10 = o25) (e27 : k0_off27 w11 = o27) (e28 : k0_off28 w13 w14 = o28) (e29 : k0_off29 w11 = o29) (e26 : k0_off26 w11 = o26) (e30 : k0_off30 w12 = o30) (e31 : k0_off31 w13 w14 = o31) (e32 : k0_off32 w12 = o32)
    (l23 : k0_off23 w6 = o23) (l24 : k0_off24 w8 = o18) (l25 : k0_off25 w10 = o21) (l26 : k0_off26 w11 = o29)
    (fa : Buf (Elt F) ((Memref.whole main_arg0).view.loc (c : Thread nD τ)))
    (fw : Buf (Elt F) ((Memref.whole main_arg1).view.loc (c : Thread nD τ)))
    (fs : Buf (Elt F) ((Memref.whole main_cst).view.loc (c : Thread nD τ)))
    (ca : SemLoc sig) (va : Vec F S2048x4096 .bf16) (vo : Vec F S2048x512 .bf16) (q q' : PosShare TreeShare) :
    (iprop(aHold c o23 i23 ca va ∗ aSrc c fa ∗ aFree c o6 i6 (cellO cc0_scoped1 o5 i5) ∗ wFree c fw o9 i9 (cellO cc0_scoped3 o8 i8) q ∗ wFly c fw o18 i18 (cellO cc0_scoped3 o17 i17) o19 i19 q' ∗ sFree c fs o12 i12 (cellO cc0_scoped5 o11 i11) q ∗ sFly c fs o21 i21 (cellO cc0_scoped5 o20 i20) o22 i22 q' ∗ oFree c o29 i29 (cellO cc0_scoped7 o27 i27) ∗ oAny c o28 i28 ∗ oFly c o32 i32 (cellO cc0_scoped7 o30 i30) o31 i31 vo ∗ owe c) : sProp 𝕄)
    ⊢ wp frame (wpE (defs₀ (F := F)) Variants.none c none) Set.univ (body k w5 w6 w7 w8 w9 w10 w11 w12 w13 w14)
      (fun r => iprop(⌜r = nextW k w5 w6 w7 w8 w9 w10 w11 w12 w13 w14⌝ ∗ aFly c fa o6 i6 (cellO cc0_scoped1 o5 i5) o7 i7 ∗ aFree c o23 i23 ca ∗ wFly c fw o9 i9 (cellO cc0_scoped3 o8 i8) o10 i10 q ∗ wFree c fw o18 i18 (cellO cc0_scoped3 o17 i17) q' ∗ sFly c fs o12 i12 (cellO cc0_scoped5 o11 i11) o13 i13 q ∗ sFree c fs o21 i21 (cellO cc0_scoped5 o20 i20) q' ∗ oFly c o29 i29 (cellO cc0_scoped7 o27 i27) o28 i28 (outv va ((wblkO o19 i19).view.read (Elt F) fw) ((sblkO o22 i22).view.read (Elt F) fs)) ∗ oDone c o31 i31 vo ∗ oFree c o32 i32 (cellO cc0_scoped7 o30 i30) ∗ owe c)) := by
  subst e23 e5 e6 e7 e8 e9 e10 e17 e18 e19 e24 e11 e12 e13 e20 e21 e22 e25 e27 e28 e29 e26 e30 e31 e32
  have hiA := aslot_sub l23 (k0_off23_inb w6 hw2) i23
  have hiW := wslot_sub l24 (k0_off24_inb w8 hw3) i18
  have hiS := sslot_sub l25 (k0_off25_inb w10 hw4) i21
  have hiO := oslot_sub l26 (k0_off26_inb w11 hw5) i29
  have hiO' := oslot_sub' l26 (k0_off26_inb w11 hw5) i29
  have hV : ∀ ga gw gs, k0_pay1 ((Memref.whole cc0_scoped0).view.readAt (Elt F) (Rect.unit (s := S2x2048x4096) (k0_off23 w6) S1x2048x4096.size (k0_off23_inb w6 hw2)).toLoadRect ga)
      ((Memref.whole cc0_scoped2).view.readAt (Elt F) (Rect.unit (s := S2x4096x512) (k0_off24 w8) S1x4096x512.size (k0_off24_inb w8 hw3)).toLoadRect gw)
      ((Memref.whole cc0_scoped4).view.readAt (Elt F) (Rect.unit (s := S2x1x512) (k0_off25 w10) S1x1x512.size (k0_off25_inb w10 hw4)).toLoadRect gs)
      = k0_pay1 (unsq_a ((aslotO _ i23).view.read (Elt F) ga)) (unsq_w ((wslotO _ i18).view.read (Elt F) gw)) (unsq_s ((sslotO _ i21).view.read (Elt F) gs)) := by
    intro ga gw gs
    rw [aslot_load l23 (k0_off23_inb w6 hw2) i23, wslot_load l24 (k0_off24_inb w8 hw3) i18, sslot_load l25 (k0_off25_inb w10 hw4) i21]
  unfold aHold aSrc aFree wFree wFly sFree sFly oFree oAny oFly owe aFly oDone
  iintro ⟨⟨⟨%ga, %hga, RA⟩, KA⟩, TA, ⟨⟨%ga', RA'⟩, CA⟩, ⟨⟨%gw, RW⟩, CW, TW⟩, ⟨%gw', %hgw, FW, TW'⟩, ⟨⟨%gs, RS⟩, CS, TS⟩, ⟨%gs', %hgs, FS, TS'⟩, ⟨⟨%go, RO⟩, CO⟩, ⟨%gb, BO⟩, ⟨%gb', %go', %hgb, FO⟩, ⟨%W, HO⟩⟩
  unfold body k0_t1_body
  sl_exec
  sl_step
  isplitr
  · ipureintro; rfl
  isplitl [CA TA]
  · iexists ((aslotO _ i6).view.writes (Elt F) ga' [⟨Rect.whole S2048x4096, (ablkO _ i7).view.read (Elt F) fa⟩])
    isplitr
    · ipureintro; exact View.read_writes_whole _ _ _
    isplitl [CA]
    · iexact CA
    · iexact TA
  isplitl [RA KA]
  · isplitl [RA]
    · iexists ga; iexact RA
    · iexact KA
  isplitl [CW TW]
  · iexists ((wslotO _ i9).view.writes (Elt F) gw [⟨Rect.whole S4096x512, (wblkO _ i10).view.read (Elt F) fw⟩])
    isplitr
    · ipureintro; exact View.read_writes_whole _ _ _
    isplitl [CW]
    · iexact CW
    · iexact TW
  isplitl [FW_dst FW TW']
  · isplitl [FW_dst]
    · iexists gw'; iexact FW_dst
    isplitl [FW]
    · iexact FW
    · iexact TW'
  isplitl [CS TS]
  · iexists ((sslotO _ i12).view.writes (Elt F) gs [⟨Rect.whole S1x512, (sblkO _ i13).view.read (Elt F) fs⟩])
    isplitr
    · ipureintro; exact View.read_writes_whole _ _ _
    isplitl [CS]
    · iexact CS
    · iexact TS
  isplitl [FS_dst FS TS']
  · isplitl [FS_dst]
    · iexists gs'; iexact FS_dst
    isplitl [FS]
    · iexact FS
    · iexact TS'
  isplitl [CO]
  · iexists _, _; isplitr [CO]
    rotate_left
    · iexact CO
    · ipureintro
      refine (View.read_writes_whole _ _ _).trans (funext fun i => ?_)
      refine (oslot_store l26 (k0_off26_inb w11 hw5) i29 go _ i).trans ?_
      refine congrFun ((hV ga gw' gs').trans ?_) _
      rw [hga, hgw, hgs]
  isplitl [FO_dst]
  · iexists gb'; isplitr
    · ipureintro; exact hgb
    · iexact FO_dst
  isplitl [FO_src FO]
  · isplitl [FO_src]
    · iexists go'; iexact FO_src
    · iexact FO
  iexists _; iexact HO

end Cert.KernelIdeal.Hand

end
-- ==== Proof.InProj.TripE.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The last trip: it asks for nothing. -/
theorem trip_last (c : Dev nD) (k : Fin k0_t1_loop.trips) (w5 w6 w7 w8 w9 w10 w11 w12 w13 w14 : BitVec 32)
    (hw1 : k0_chk1 k w5 w6 w7 w8 w9 w10 w11 w12 w13 w14) (hw2 : k0_chk2 w6) (hw3 : k0_chk3 w8) (hw4 : k0_chk4 w10) (hw5 : k0_chk5 w11)
    (h1 : ¬ k0_cond1 k w13 w14 = 1#1) (h2 : ¬ k0_cond2 k w14 = 1#1) (h3 : ¬ k0_cond3 k w14 = 1#1)
    (h4 : ¬ k0_cond4 k w13 w14 = 1#1) (h5 : k0_cond5 k w14 = 1#1) (h6 : k0_cond6 k w14 = 1#1)
    (h11 : k0_cond11 k w13 w14 = 1#1) (h15 : k0_cond15 k w13 w14 = 1#1)
    {o23 : Fin 3 → Nat} {o17 : Fin 1 → Nat} {o18 : Fin 3 → Nat} {o19 : Fin 2 → Nat} {o24 : Fin 3 → Nat} {o20 : Fin 1 → Nat} {o21 : Fin 3 → Nat} {o22 : Fin 2 → Nat} {o25 : Fin 3 → Nat} {o27 : Fin 1 → Nat} {o28 : Fin 2 → Nat} {o29 : Fin 3 → Nat} {o26 : Fin 3 → Nat} {o30 : Fin 1 → Nat} {o31 : Fin 2 → Nat} {o32 : Fin 3 → Nat}
    (i23 : ∀ a, o23 a + S1x2048x4096.size a ≤ S2x2048x4096.size a) (i17 : ∀ a, o17 a + S1.size a ≤ S2.size a) (i18 : ∀ a, o18 a + S1x4096x512.size a ≤ S2x4096x512.size a) (i19 : ∀ a, o19 a + S4096x512.size a ≤ S4096x13312.size a) (i24 : ∀ a, o24 a + S1x4096x512.size a ≤ S2x4096x512.size a) (i20 : ∀ a, o20 a + S1.size a ≤ S2.size a) (i21 : ∀ a, o21 a + S1x1x512.size a ≤ S2x1x512.size a) (i22 : ∀ a, o22 a + S1x512.size a ≤ S1x13312.size a) (i25 : ∀ a, o25 a + S1x1x512.size a ≤ S2x1x512.size a) (i27 : ∀ a, o27 a + S1.size a ≤ S2.size a) (i28 : ∀ a, o28 a + S2048x512.size a ≤ S8192x13312.size a) (i29 : ∀ a, o29 a + S1x2048x512.size a ≤ S2x2048x512.size a) (i26 : ∀ a, o26 a + S1x2048x512.size a ≤ S2x2048x512.size a) (i30 : ∀ a, o30 a + S1.size a ≤ S2.size a) (i31 : ∀ a, o31 a + S2048x512.size a ≤ S8192x13312.size a) (i32 : ∀ a, o32 a + S1x2048x512.size a ≤ S2x2048x512.size a)
    (e23 : k0_off23 w6 = o23) (e17 : k0_off17 w8 = o17) (e18 : k0_off18 w8 = o18) (e19 : k0_off19 w14 = o19) (e24 : k0_off24 w8 = o24) (e20 : k0_off20 w10 = o20) (e21 : k0_off21 w10 = o21) (e22 : k0_off22 w14 = o22) (e25 : k0_off25 w10 = o25) (e27 : k0_off27 w11 = o27) (e28 : k0_off28 w13 w14 = o28) (e29 : k0_off29 w11 = o29) (e26 : k0_off26 w11 = o26) (e30 : k0_off30 w12 = o30) (e31 : k0_off31 w13 w14 = o31) (e32 : k0_off32 w12 = o32)
    (l23 : k0_off23 w6 = o23) (l24 : k0_off24 w8 = o18) (l25 : k0_off25 w10 = o21) (l26 : k0_off26 w11 = o29)
    (fa : Buf (Elt F) ((Memref.whole main_arg0).view.loc (c : Thread nD τ)))
    (fw : Buf (Elt F) ((Memref.whole main_arg1).view.loc (c : Thread nD τ)))
    (fs : Buf (Elt F) ((Memref.whole main_cst).view.loc (c : Thread nD τ)))
    (ca : SemLoc sig) (va : Vec F S2048x4096 .bf16) (vo : Vec F S2048x512 .bf16) (q q' : PosShare TreeShare) :
    (iprop(aHold c o23 i23 ca va ∗ wFly c fw o18 i18 (cellO cc0_scoped3 o17 i17) o19 i19 q' ∗ sFly c fs o21 i21 (cellO cc0_scoped5 o20 i20) o22 i22 q' ∗ oFree c o29 i29 (cellO cc0_scoped7 o27 i27) ∗ oAny c o28 i28 ∗ oFly c o32 i32 (cellO cc0_scoped7 o30 i30) o31 i31 vo ∗ owe c) : sProp 𝕄)
    ⊢ wp frame (wpE (defs₀ (F := F)) Variants.none c none) Set.univ (body k w5 w6 w7 w8 w9 w10 w11 w12 w13 w14)
      (fun r => iprop(⌜r = nextW k w5 w6 w7 w8 w9 w10 w11 w12 w13 w14⌝ ∗ aHold c o23 i23 ca va ∗ wFree c fw o18 i18 (cellO cc0_scoped3 o17 i17) q' ∗ sFree c fs o21 i21 (cellO cc0_scoped5 o20 i20) q' ∗ oFly c o29 i29 (cellO cc0_scoped7 o27 i27) o28 i28 (outv va ((wblkO o19 i19).view.read (Elt F) fw) ((sblkO o22 i22).view.read (Elt F) fs)) ∗ oDone c o31 i31 vo ∗ oFree c o32 i32 (cellO cc0_scoped7 o30 i30) ∗ owe c)) := by
  subst e23 e17 e18 e19 e24 e20 e21 e22 e25 e27 e28 e29 e26 e30 e31 e32
  have hiA := aslot_sub l23 (k0_off23_inb w6 hw2) i23
  have hiW := wslot_sub l24 (k0_off24_inb w8 hw3) i18
  have hiS := sslot_sub l25 (k0_off25_inb w10 hw4) i21
  have hiO := oslot_sub l26 (k0_off26_inb w11 hw5) i29
  have hiO' := oslot_sub' l26 (k0_off26_inb w11 hw5) i29
  have hV : ∀ ga gw gs, k0_pay1 ((Memref.whole cc0_scoped0).view.readAt (Elt F) (Rect.unit (s := S2x2048x4096) (k0_off23 w6) S1x2048x4096.size (k0_off23_inb w6 hw2)).toLoadRect ga)
      ((Memref.whole cc0_scoped2).view.readAt (Elt F) (Rect.unit (s := S2x4096x512) (k0_off24 w8) S1x4096x512.size (k0_off24_inb w8 hw3)).toLoadRect gw)
      ((Memref.whole cc0_scoped4).view.readAt (Elt F) (Rect.unit (s := S2x1x512) (k0_off25 w10) S1x1x512.size (k0_off25_inb w10 hw4)).toLoadRect gs)
      = k0_pay1 (unsq_a ((aslotO _ i23).view.read (Elt F) ga)) (unsq_w ((wslotO _ i18).view.read (Elt F) gw)) (unsq_s ((sslotO _ i21).view.read (Elt F) gs)) := by
    intro ga gw gs
    rw [aslot_load l23 (k0_off23_inb w6 hw2) i23, wslot_load l24 (k0_off24_inb w8 hw3) i18, sslot_load l25 (k0_off25_inb w10 hw4) i21]
  unfold aHold wFly sFly oFree oAny oFly owe wFree sFree oDone
  iintro ⟨⟨⟨%ga, %hga, RA⟩, KA⟩, ⟨%gw', %hgw, FW, TW'⟩, ⟨%gs', %hgs, FS, TS'⟩, ⟨⟨%go, RO⟩, CO⟩, ⟨%gb, BO⟩, ⟨%gb', %go', %hgb, FO⟩, ⟨%W, HO⟩⟩
  unfold body k0_t1_body
  sl_exec
  sl_step
  isplitr
  · ipureintro; rfl
  isplitl [RA KA]
  · isplitl [RA]
    · iexists ga; isplitr
      · ipureintro; exact hga
      iexact RA
    · iexact KA
  isplitl [FW_dst FW TW']
  · isplitl [FW_dst]
    · iexists gw'; iexact FW_dst
    isplitl [FW]
    · iexact FW
    · iexact TW'
  isplitl [FS_dst FS TS']
  · isplitl [FS_dst]
    · iexists gs'; iexact FS_dst
    isplitl [FS]
    · iexact FS
    · iexact TS'
  isplitl [CO]
  · iexists _, _; isplitr [CO]
    rotate_left
    · iexact CO
    · ipureintro
      refine (View.read_writes_whole _ _ _).trans (funext fun i => ?_)
      refine (oslot_store l26 (k0_off26_inb w11 hw5) i29 go _ i).trans ?_
      refine congrFun ((hV ga gw' gs').trans ?_) _
      rw [hga, hgw, hgs]
  isplitl [FO_dst]
  · iexists gb'; isplitr
    · ipureintro; exact hgb
    · iexact FO_dst
  isplitl [FO_src FO]
  · isplitl [FO_src]
    · iexists go'; iexact FO_src
    · iexact FO
  iexists _; iexact HO

end Cert.KernelIdeal.Hand

end
-- ==== Proof.InProj.Words.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Names

/-!
The words the in-projection's loop carries, trip by trip: the steps taken of each ring, and the row and the
column of blocks. There are 104 trips, so every fact is checked at each.
-/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The slot of a ring a step uses: the steps alternate between the two. -/
def par (n : ℕ) : Fin 2 := ⟨n % 2, Nat.mod_lt _ (by decide)⟩
/-- A row of blocks, counted without end. -/
abbrev rowr (r : ℕ) : Fin 4 := ⟨r % 4, Nat.mod_lt _ (by decide)⟩
/-- The row of blocks a step works in. -/
abbrev row (n : ℕ) : Fin 4 := rowr (n / 26)
/-- The column of blocks a step works in. -/
def col (n : ℕ) : Fin 26 := ⟨n % 26, Nat.mod_lt _ (by decide)⟩

theorem par_add_two (n : ℕ) : par (n + 2) = par n := Fin.ext (Nat.add_mod_right n 2)

/-- Where a slot's box begins in its ring. -/
def slotOff (p : Fin 2) : Fin 3 → Nat := ![p.val, 0, 0]
/-- Where a slot's semaphore is among its ring's. -/
def cellOff (p : Fin 2) : Fin 1 → Nat := ![p.val]
/-- Where a row of blocks of the activations begins. -/
def ablkOff (i : Fin 4) : Fin 2 → Nat := ![2048 * i.val, 0]
/-- Where a column of blocks of the weights or of the scales begins. -/
def cblkOff (j : Fin 26) : Fin 2 → Nat := ![0, 512 * j.val]
/-- Where a block of the result begins. -/
def oblkOff (i : Fin 4) (j : Fin 26) : Fin 2 → Nat := ![2048 * i.val, 512 * j.val]

theorem aslot_inb : ∀ p a, slotOff p a + S1x2048x4096.size a ≤ S2x2048x4096.size a := by decide +kernel
theorem wslot_inb : ∀ p a, slotOff p a + S1x4096x512.size a ≤ S2x4096x512.size a := by decide +kernel
theorem sslot_inb : ∀ p a, slotOff p a + S1x1x512.size a ≤ S2x1x512.size a := by decide +kernel
theorem oslot_inb : ∀ p a, slotOff p a + S1x2048x512.size a ≤ S2x2048x512.size a := by decide +kernel
theorem cell_inb : ∀ p a, cellOff p a + S1.size a ≤ S2.size a := by decide +kernel
theorem ablk_inb : ∀ i a, ablkOff i a + S2048x4096.size a ≤ S8192x4096.size a := by decide +kernel
theorem wblk_inb : ∀ j a, cblkOff j a + S4096x512.size a ≤ S4096x13312.size a := by decide +kernel
theorem sblk_inb : ∀ j a, cblkOff j a + S1x512.size a ≤ S1x13312.size a := by decide +kernel
theorem oblk_inb : ∀ i j a, oblkOff i j a + S2048x512.size a ≤ S8192x13312.size a := by decide +kernel

/-! The words carried into trip `k`. -/
def W5 (k : ℕ) : BitVec 32 := BitVec.ofNat 32 (min (k / 26 + 1) 4)
def W6 (k : ℕ) : BitVec 32 := BitVec.ofNat 32 (k / 26)
def W7 (k : ℕ) : BitVec 32 := BitVec.ofNat 32 (min (k + 1) 104)
def W8 (k : ℕ) : BitVec 32 := BitVec.ofNat 32 (k)
def W9 (k : ℕ) : BitVec 32 := BitVec.ofNat 32 (min (k + 1) 104)
def W10 (k : ℕ) : BitVec 32 := BitVec.ofNat 32 (k)
def W11 (k : ℕ) : BitVec 32 := BitVec.ofNat 32 (k)
def W12 (k : ℕ) : BitVec 32 := BitVec.ofNat 32 (k - 1)
def W13 (k : ℕ) : BitVec 32 := BitVec.ofNat 32 (k / 26 % 4)
def W14 (k : ℕ) : BitVec 32 := BitVec.ofNat 32 (k % 26)

/-- All of them. -/
def words (k : ℕ) : BitVec 32 × BitVec 32 × BitVec 32 × BitVec 32 × BitVec 32 × BitVec 32 × BitVec 32 × BitVec 32 × BitVec 32 × BitVec 32 :=
  (W5 k, W6 k, W7 k, W8 k, W9 k, W10 k, W11 k, W12 k, W13 k, W14 k)

theorem words_zero : words 0 = (1#32, 0#32, 1#32, 0#32, 1#32, 0#32, 0#32, 0#32, 0#32, 0#32) := rfl

set_option synthInstance.maxSize 100000 in
set_option synthInstance.maxHeartbeats 0 in
theorem next_words : ∀ k : Fin k0_t1_loop.trips, nextW k (W5 k) (W6 k) (W7 k) (W8 k) (W9 k) (W10 k) (W11 k) (W12 k) (W13 k) (W14 k) = words (k + 1) := by decide +kernel

/-! What the body assumes and decides at trip `k`. -/
theorem chk1 : ∀ k : Fin k0_t1_loop.trips, k0_chk1 k (W5 k) (W6 k) (W7 k) (W8 k) (W9 k) (W10 k) (W11 k) (W12 k) (W13 k) (W14 k) := by decide +kernel
theorem chk2 : ∀ k : Fin k0_t1_loop.trips, k0_chk2 (W6 k) := by decide +kernel
theorem chk3 : ∀ k : Fin k0_t1_loop.trips, k0_chk3 (W8 k) := by decide +kernel
theorem chk4 : ∀ k : Fin k0_t1_loop.trips, k0_chk4 (W10 k) := by decide +kernel
theorem chk5 : ∀ k : Fin k0_t1_loop.trips, k0_chk5 (W11 k) := by decide +kernel
theorem cond1 : ∀ k : Fin k0_t1_loop.trips, (k0_cond1 k (W13 k) (W14 k) = 1#1 ↔ k.val % 26 = 25 ∧ k.val < 103) := by decide +kernel
theorem cond2 : ∀ k : Fin k0_t1_loop.trips, (k0_cond2 k (W14 k) = 1#1 ↔ k.val < 103) := by decide +kernel
theorem cond3 : ∀ k : Fin k0_t1_loop.trips, (k0_cond3 k (W14 k) = 1#1 ↔ k.val < 103) := by decide +kernel
theorem cond4 : ∀ k : Fin k0_t1_loop.trips, (k0_cond4 k (W13 k) (W14 k) = 1#1 ↔ k.val % 26 = 0) := by decide +kernel
theorem cond5 : ∀ k : Fin k0_t1_loop.trips, (k0_cond5 k (W14 k) = 1#1 ↔ True) := by decide +kernel
theorem cond6 : ∀ k : Fin k0_t1_loop.trips, (k0_cond6 k (W14 k) = 1#1 ↔ True) := by decide +kernel
theorem cond11 : ∀ k : Fin k0_t1_loop.trips, (k0_cond11 k (W13 k) (W14 k) = 1#1 ↔ True) := by decide +kernel
theorem cond15 : ∀ k : Fin k0_t1_loop.trips, (k0_cond15 k (W13 k) (W14 k) = 1#1 ↔ 0 < k.val) := by decide +kernel

/-! The offsets the body computes at trip `k`. -/
theorem off5 : ∀ k : Fin k0_t1_loop.trips, k.val % 26 = 25 → k.val < 103 → k0_off5 (W5 k) = cellOff (par (k.val / 26 + 1)) := by decide +kernel
theorem off6 : ∀ k : Fin k0_t1_loop.trips, k.val % 26 = 25 → k.val < 103 → k0_off6 (W5 k) = slotOff (par (k.val / 26 + 1)) := by decide +kernel
theorem off7 : ∀ k : Fin k0_t1_loop.trips, k.val % 26 = 25 → k.val < 103 → k0_off7 (W13 k) (W14 k) = ablkOff (rowr (k.val / 26 + 1)) := by decide +kernel
theorem off8 : ∀ k : Fin k0_t1_loop.trips, k.val < 103 → k0_off8 (W7 k) = cellOff (par (k.val + 1)) := by decide +kernel
theorem off9 : ∀ k : Fin k0_t1_loop.trips, k.val < 103 → k0_off9 (W7 k) = slotOff (par (k.val + 1)) := by decide +kernel
theorem off10 : ∀ k : Fin k0_t1_loop.trips, k.val < 103 → k0_off10 (W14 k) = cblkOff (col (k.val + 1)) := by decide +kernel
theorem off11 : ∀ k : Fin k0_t1_loop.trips, k.val < 103 → k0_off11 (W9 k) = cellOff (par (k.val + 1)) := by decide +kernel
theorem off12 : ∀ k : Fin k0_t1_loop.trips, k.val < 103 → k0_off12 (W9 k) = slotOff (par (k.val + 1)) := by decide +kernel
theorem off13 : ∀ k : Fin k0_t1_loop.trips, k.val < 103 → k0_off13 (W14 k) = cblkOff (col (k.val + 1)) := by decide +kernel
theorem off14 : ∀ k : Fin k0_t1_loop.trips, k0_off14 (W6 k) = cellOff (par (k.val / 26)) := by decide +kernel
theorem off15 : ∀ k : Fin k0_t1_loop.trips, k0_off15 (W6 k) = slotOff (par (k.val / 26)) := by decide +kernel
theorem off16 : ∀ k : Fin k0_t1_loop.trips, k0_off16 (W13 k) = ablkOff (row k.val) := by decide +kernel
theorem off17 : ∀ k : Fin k0_t1_loop.trips, k0_off17 (W8 k) = cellOff (par k.val) := by decide +kernel
theorem off18 : ∀ k : Fin k0_t1_loop.trips, k0_off18 (W8 k) = slotOff (par k.val) := by decide +kernel
theorem off19 : ∀ k : Fin k0_t1_loop.trips, k0_off19 (W14 k) = cblkOff (col k.val) := by decide +kernel
theorem off20 : ∀ k : Fin k0_t1_loop.trips, k0_off20 (W10 k) = cellOff (par k.val) := by decide +kernel
theorem off21 : ∀ k : Fin k0_t1_loop.trips, k0_off21 (W10 k) = slotOff (par k.val) := by decide +kernel
theorem off22 : ∀ k : Fin k0_t1_loop.trips, k0_off22 (W14 k) = cblkOff (col k.val) := by decide +kernel
theorem off23 : ∀ k : Fin k0_t1_loop.trips, k0_off23 (W6 k) = slotOff (par (k.val / 26)) := by decide +kernel
theorem off24 : ∀ k : Fin k0_t1_loop.trips, k0_off24 (W8 k) = slotOff (par k.val) := by decide +kernel
theorem off25 : ∀ k : Fin k0_t1_loop.trips, k0_off25 (W10 k) = slotOff (par k.val) := by decide +kernel
theorem off26 : ∀ k : Fin k0_t1_loop.trips, k0_off26 (W11 k) = slotOff (par k.val) := by decide +kernel
theorem off27 : ∀ k : Fin k0_t1_loop.trips, k0_off27 (W11 k) = cellOff (par k.val) := by decide +kernel
theorem off28 : ∀ k : Fin k0_t1_loop.trips, k0_off28 (W13 k) (W14 k) = oblkOff (row k.val) (col k.val) := by decide +kernel
theorem off29 : ∀ k : Fin k0_t1_loop.trips, k0_off29 (W11 k) = slotOff (par k.val) := by decide +kernel
theorem off30 : ∀ k : Fin k0_t1_loop.trips, 0 < k.val → k0_off30 (W12 k) = cellOff (par (k.val - 1)) := by decide +kernel
theorem off31 : ∀ k : Fin k0_t1_loop.trips, 0 < k.val → k0_off31 (W13 k) (W14 k) = oblkOff (row (k.val - 1)) (col (k.val - 1)) := by decide +kernel
theorem off32 : ∀ k : Fin k0_t1_loop.trips, 0 < k.val → k0_off32 (W12 k) = slotOff (par (k.val - 1)) := by decide +kernel

end Cert.KernelIdeal.Hand

end
-- ==== Proof.InProj.Step.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.TripA
public import proofs.«01_k».proof.Proof.InProj.TripB
public import proofs.«01_k».proof.Proof.InProj.TripC
public import proofs.«01_k».proof.Proof.InProj.TripD
public import proofs.«01_k».proof.Proof.InProj.TripE
public import proofs.«01_k».proof.Proof.InProj.Words

/-!
One trip of the in-projection's loop, at the slots and blocks of its number.
-/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ
/-- The share of a source a slot's transfers take: the two slots have one half each. -/
def tok (p : Fin 2) : PosShare TreeShare := if p = 0 then fullShare.left else fullShare.right

variable (c : Dev nD) (fa : Buf (Elt F) ((Memref.whole main_arg0).view.loc (c : Thread nD τ))) (fw : Buf (Elt F) ((Memref.whole main_arg1).view.loc (c : Thread nD τ))) (fs : Buf (Elt F) ((Memref.whole main_cst).view.loc (c : Thread nD τ)))

/-- A row of blocks of the activations. -/
def va (i : Fin 4) : Vec F S2048x4096 .bf16 := (ablkO (ablkOff i) (ablk_inb i)).view.read (Elt F) fa
/-- A column of blocks of the weights. -/
def vw (j : Fin 26) : Vec F S4096x512 .f32 := (wblkO (cblkOff j) (wblk_inb j)).view.read (Elt F) fw
/-- A column of blocks of the scales. -/
def vs (j : Fin 26) : Vec F S1x512 .f32 := (sblkO (cblkOff j) (sblk_inb j)).view.read (Elt F) fs
/-- A block of the result. -/
def vo (i : Fin 4) (j : Fin 26) : Vec F S2048x512 .bf16 := outv (va c fa i) (vw c fw j) (vs c fs j)

/-! Each ring's slots and each block at step `n` (of the activations: at row `r`). -/
def wI (n : ℕ) : sProp 𝕄 := wFree c fw (slotOff (par n)) (wslot_inb _) (cellO cc0_scoped3 (cellOff (par n)) (cell_inb _)) (tok (par n))
def wX (n : ℕ) : sProp 𝕄 := wFly c fw (slotOff (par n)) (wslot_inb _) (cellO cc0_scoped3 (cellOff (par n)) (cell_inb _)) (cblkOff (col n)) (wblk_inb _) (tok (par n))
def sI (n : ℕ) : sProp 𝕄 := sFree c fs (slotOff (par n)) (sslot_inb _) (cellO cc0_scoped5 (cellOff (par n)) (cell_inb _)) (tok (par n))
def sX (n : ℕ) : sProp 𝕄 := sFly c fs (slotOff (par n)) (sslot_inb _) (cellO cc0_scoped5 (cellOff (par n)) (cell_inb _)) (cblkOff (col n)) (sblk_inb _) (tok (par n))
def aI (r : ℕ) : sProp 𝕄 := aFree c (slotOff (par r)) (aslot_inb _) (cellO cc0_scoped1 (cellOff (par r)) (cell_inb _))
def aX (r : ℕ) : sProp 𝕄 := aFly c fa (slotOff (par r)) (aslot_inb _) (cellO cc0_scoped1 (cellOff (par r)) (cell_inb _)) (ablkOff (rowr r)) (ablk_inb _)
def aH (r : ℕ) : sProp 𝕄 := aHold c (slotOff (par r)) (aslot_inb _) (cellO cc0_scoped1 (cellOff (par r)) (cell_inb _)) (va c fa (rowr r))
def oI (n : ℕ) : sProp 𝕄 := oFree c (slotOff (par n)) (oslot_inb _) (cellO cc0_scoped7 (cellOff (par n)) (cell_inb _))
def oX (n : ℕ) : sProp 𝕄 := oFly c (slotOff (par n)) (oslot_inb _) (cellO cc0_scoped7 (cellOff (par n)) (cell_inb _)) (oblkOff (row n) (col n)) (oblk_inb _ _) (vo c fa fw fs (row n) (col n))
def oA (n : ℕ) : sProp 𝕄 := oAny c (oblkOff (row n) (col n)) (oblk_inb _ _)
def oD (n : ℕ) : sProp 𝕄 := oDone c (oblkOff (row n) (col n)) (oblk_inb _ _) (vo c fa fw fs (row n) (col n))
theorem wI_add_two (n : ℕ) : wI (F := F) c fw (n + 2) = wI c fw n :=
  congrArg (fun p : Fin 2 => wFree c fw (slotOff p) (wslot_inb p) (cellO cc0_scoped3 (cellOff p) (cell_inb p)) (tok p)) (par_add_two n)
theorem sI_add_two (n : ℕ) : sI (F := F) c fs (n + 2) = sI c fs n :=
  congrArg (fun p : Fin 2 => sFree c fs (slotOff p) (sslot_inb p) (cellO cc0_scoped5 (cellOff p) (cell_inb p)) (tok p)) (par_add_two n)
theorem aI_add_two (n : ℕ) : aI (F := F) c (n + 2) = aI c n :=
  congrArg (fun p : Fin 2 => aFree (F := F) c (slotOff p) (aslot_inb p) (cellO cc0_scoped1 (cellOff p) (cell_inb p))) (par_add_two n)
theorem oI_add_two (n : ℕ) : oI (F := F) c (n + 2) = oI c n :=
  congrArg (fun p : Fin 2 => oFree (F := F) c (slotOff p) (oslot_inb p) (cellO cc0_scoped7 (cellOff p) (cell_inb p))) (par_add_two n)

theorem step_first (k : Fin k0_t1_loop.trips) (hA : ¬ (k.val % 26 = 25 ∧ k.val < 103)) (hlt : k.val < 103) (h0 : k.val % 26 = 0) (hnpos : ¬ 0 < k.val) :
    (iprop(aX c fa (k.val / 26) ∗ wI c fw (k.val + 1) ∗ wX c fw k.val ∗ sI c fs (k.val + 1) ∗ sX c fs k.val ∗ oI c k.val ∗ oA c k.val ∗ owe c) : sProp 𝕄)
    ⊢ wp frame (wpE (defs₀ (F := F)) Variants.none c none) Set.univ (body k (W5 k.val) (W6 k.val) (W7 k.val) (W8 k.val) (W9 k.val) (W10 k.val) (W11 k.val) (W12 k.val) (W13 k.val) (W14 k.val))
      (fun r => iprop(⌜r = words (k.val + 1)⌝ ∗ aH c fa (k.val / 26) ∗ aSrc c fa ∗ wX c fw (k.val + 1) ∗ wI c fw k.val ∗ sX c fs (k.val + 1) ∗ sI c fs k.val ∗ oX c fa fw fs k.val ∗ owe c)) := by
  have h := trip_first (F := F) c k (W5 k.val) (W6 k.val) (W7 k.val) (W8 k.val) (W9 k.val) (W10 k.val) (W11 k.val) (W12 k.val) (W13 k.val) (W14 k.val) (chk1 k) (chk2 k) (chk3 k) (chk4 k) (chk5 k)
    (fun e => hA ((cond1 k).1 e)) ((cond2 k).2 hlt) ((cond3 k).2 hlt) ((cond4 k).2 h0) ((cond5 k).2 trivial) ((cond6 k).2 trivial) ((cond11 k).2 trivial) (fun e => hnpos ((cond15 k).1 e))
    (cell_inb _) (aslot_inb _) (ablk_inb _) (aslot_inb _) (cell_inb _) (wslot_inb _) (wblk_inb _) (cell_inb _) (wslot_inb _) (wblk_inb _) (wslot_inb _) (cell_inb _) (sslot_inb _) (sblk_inb _) (cell_inb _) (sslot_inb _) (sblk_inb _) (sslot_inb _) (cell_inb _) (oblk_inb _ _) (oslot_inb _) (oslot_inb _)
    (off14 k) (off15 k) (off16 k) (off23 k) (off8 k hlt) (off9 k hlt) (off10 k hlt) (off17 k) (off18 k) (off19 k) (off24 k) (off11 k hlt) (off12 k hlt) (off13 k hlt) (off20 k) (off21 k) (off22 k) (off25 k) (off27 k) (off28 k) (off29 k) (off26 k)
    (off23 k) (off24 k) (off25 k) (off26 k) fa fw fs (cellO cc0_scoped1 (cellOff (par (k.val / 26))) (cell_inb _))
    (va c fa (rowr (k.val / 26))) (vo c fa fw fs (row (k.val - 1)) (col (k.val - 1))) (tok (par (k.val + 1))) (tok (par k.val))
  rw [next_words] at h
  exact h

theorem step_row (k : Fin k0_t1_loop.trips) (hA : ¬ (k.val % 26 = 25 ∧ k.val < 103)) (hlt : k.val < 103) (h0 : k.val % 26 = 0) (hpos : 0 < k.val) :
    (iprop(aX c fa (k.val / 26) ∗ wI c fw (k.val + 1) ∗ wX c fw k.val ∗ sI c fs (k.val + 1) ∗ sX c fs k.val ∗ oI c k.val ∗ oA c k.val ∗ oX c fa fw fs (k.val - 1) ∗ owe c) : sProp 𝕄)
    ⊢ wp frame (wpE (defs₀ (F := F)) Variants.none c none) Set.univ (body k (W5 k.val) (W6 k.val) (W7 k.val) (W8 k.val) (W9 k.val) (W10 k.val) (W11 k.val) (W12 k.val) (W13 k.val) (W14 k.val))
      (fun r => iprop(⌜r = words (k.val + 1)⌝ ∗ aH c fa (k.val / 26) ∗ aSrc c fa ∗ wX c fw (k.val + 1) ∗ wI c fw k.val ∗ sX c fs (k.val + 1) ∗ sI c fs k.val ∗ oX c fa fw fs k.val ∗ oD c fa fw fs (k.val - 1) ∗ oI c (k.val - 1) ∗ owe c)) := by
  have h := trip_row (F := F) c k (W5 k.val) (W6 k.val) (W7 k.val) (W8 k.val) (W9 k.val) (W10 k.val) (W11 k.val) (W12 k.val) (W13 k.val) (W14 k.val) (chk1 k) (chk2 k) (chk3 k) (chk4 k) (chk5 k)
    (fun e => hA ((cond1 k).1 e)) ((cond2 k).2 hlt) ((cond3 k).2 hlt) ((cond4 k).2 h0) ((cond5 k).2 trivial) ((cond6 k).2 trivial) ((cond11 k).2 trivial) ((cond15 k).2 hpos)
    (cell_inb _) (aslot_inb _) (ablk_inb _) (aslot_inb _) (cell_inb _) (wslot_inb _) (wblk_inb _) (cell_inb _) (wslot_inb _) (wblk_inb _) (wslot_inb _) (cell_inb _) (sslot_inb _) (sblk_inb _) (cell_inb _) (sslot_inb _) (sblk_inb _) (sslot_inb _) (cell_inb _) (oblk_inb _ _) (oslot_inb _) (oslot_inb _) (cell_inb _) (oblk_inb _ _) (oslot_inb _)
    (off14 k) (off15 k) (off16 k) (off23 k) (off8 k hlt) (off9 k hlt) (off10 k hlt) (off17 k) (off18 k) (off19 k) (off24 k) (off11 k hlt) (off12 k hlt) (off13 k hlt) (off20 k) (off21 k) (off22 k) (off25 k) (off27 k) (off28 k) (off29 k) (off26 k) (off30 k hpos) (off31 k hpos) (off32 k hpos)
    (off23 k) (off24 k) (off25 k) (off26 k) fa fw fs (cellO cc0_scoped1 (cellOff (par (k.val / 26))) (cell_inb _))
    (va c fa (rowr (k.val / 26))) (vo c fa fw fs (row (k.val - 1)) (col (k.val - 1))) (tok (par (k.val + 1))) (tok (par k.val))
  rw [next_words] at h
  exact h

theorem step_mid (k : Fin k0_t1_loop.trips) (hA : ¬ (k.val % 26 = 25 ∧ k.val < 103)) (hlt : k.val < 103) (h0 : ¬ k.val % 26 = 0) (hpos : 0 < k.val) :
    (iprop(aH c fa (k.val / 26) ∗ wI c fw (k.val + 1) ∗ wX c fw k.val ∗ sI c fs (k.val + 1) ∗ sX c fs k.val ∗ oI c k.val ∗ oA c k.val ∗ oX c fa fw fs (k.val - 1) ∗ owe c) : sProp 𝕄)
    ⊢ wp frame (wpE (defs₀ (F := F)) Variants.none c none) Set.univ (body k (W5 k.val) (W6 k.val) (W7 k.val) (W8 k.val) (W9 k.val) (W10 k.val) (W11 k.val) (W12 k.val) (W13 k.val) (W14 k.val))
      (fun r => iprop(⌜r = words (k.val + 1)⌝ ∗ aH c fa (k.val / 26) ∗ wX c fw (k.val + 1) ∗ wI c fw k.val ∗ sX c fs (k.val + 1) ∗ sI c fs k.val ∗ oX c fa fw fs k.val ∗ oD c fa fw fs (k.val - 1) ∗ oI c (k.val - 1) ∗ owe c)) := by
  have h := trip_mid (F := F) c k (W5 k.val) (W6 k.val) (W7 k.val) (W8 k.val) (W9 k.val) (W10 k.val) (W11 k.val) (W12 k.val) (W13 k.val) (W14 k.val) (chk1 k) (chk2 k) (chk3 k) (chk4 k) (chk5 k)
    (fun e => hA ((cond1 k).1 e)) ((cond2 k).2 hlt) ((cond3 k).2 hlt) (fun e => h0 ((cond4 k).1 e)) ((cond5 k).2 trivial) ((cond6 k).2 trivial) ((cond11 k).2 trivial) ((cond15 k).2 hpos)
    (aslot_inb _) (cell_inb _) (wslot_inb _) (wblk_inb _) (cell_inb _) (wslot_inb _) (wblk_inb _) (wslot_inb _) (cell_inb _) (sslot_inb _) (sblk_inb _) (cell_inb _) (sslot_inb _) (sblk_inb _) (sslot_inb _) (cell_inb _) (oblk_inb _ _) (oslot_inb _) (oslot_inb _) (cell_inb _) (oblk_inb _ _) (oslot_inb _)
    (off23 k) (off8 k hlt) (off9 k hlt) (off10 k hlt) (off17 k) (off18 k) (off19 k) (off24 k) (off11 k hlt) (off12 k hlt) (off13 k hlt) (off20 k) (off21 k) (off22 k) (off25 k) (off27 k) (off28 k) (off29 k) (off26 k) (off30 k hpos) (off31 k hpos) (off32 k hpos)
    (off23 k) (off24 k) (off25 k) (off26 k) fa fw fs (cellO cc0_scoped1 (cellOff (par (k.val / 26))) (cell_inb _))
    (va c fa (rowr (k.val / 26))) (vo c fa fw fs (row (k.val - 1)) (col (k.val - 1))) (tok (par (k.val + 1))) (tok (par k.val))
  rw [next_words] at h
  exact h

theorem step_turn (k : Fin k0_t1_loop.trips) (hj : k.val % 26 = 25) (hlt : k.val < 103) (h0 : ¬ k.val % 26 = 0) (hpos : 0 < k.val) :
    (iprop(aH c fa (k.val / 26) ∗ aSrc c fa ∗ aI c (k.val / 26 + 1) ∗ wI c fw (k.val + 1) ∗ wX c fw k.val ∗ sI c fs (k.val + 1) ∗ sX c fs k.val ∗ oI c k.val ∗ oA c k.val ∗ oX c fa fw fs (k.val - 1) ∗ owe c) : sProp 𝕄)
    ⊢ wp frame (wpE (defs₀ (F := F)) Variants.none c none) Set.univ (body k (W5 k.val) (W6 k.val) (W7 k.val) (W8 k.val) (W9 k.val) (W10 k.val) (W11 k.val) (W12 k.val) (W13 k.val) (W14 k.val))
      (fun r => iprop(⌜r = words (k.val + 1)⌝ ∗ aX c fa (k.val / 26 + 1) ∗ aI c (k.val / 26) ∗ wX c fw (k.val + 1) ∗ wI c fw k.val ∗ sX c fs (k.val + 1) ∗ sI c fs k.val ∗ oX c fa fw fs k.val ∗ oD c fa fw fs (k.val - 1) ∗ oI c (k.val - 1) ∗ owe c)) := by
  have h := trip_turn (F := F) c k (W5 k.val) (W6 k.val) (W7 k.val) (W8 k.val) (W9 k.val) (W10 k.val) (W11 k.val) (W12 k.val) (W13 k.val) (W14 k.val) (chk1 k) (chk2 k) (chk3 k) (chk4 k) (chk5 k)
    ((cond1 k).2 ⟨hj, hlt⟩) ((cond2 k).2 hlt) ((cond3 k).2 hlt) (fun e => h0 ((cond4 k).1 e)) ((cond5 k).2 trivial) ((cond6 k).2 trivial) ((cond11 k).2 trivial) ((cond15 k).2 hpos)
    (aslot_inb _) (cell_inb _) (aslot_inb _) (ablk_inb _) (cell_inb _) (wslot_inb _) (wblk_inb _) (cell_inb _) (wslot_inb _) (wblk_inb _) (wslot_inb _) (cell_inb _) (sslot_inb _) (sblk_inb _) (cell_inb _) (sslot_inb _) (sblk_inb _) (sslot_inb _) (cell_inb _) (oblk_inb _ _) (oslot_inb _) (oslot_inb _) (cell_inb _) (oblk_inb _ _) (oslot_inb _)
    (off23 k) (off5 k hj hlt) (off6 k hj hlt) (off7 k hj hlt) (off8 k hlt) (off9 k hlt) (off10 k hlt) (off17 k) (off18 k) (off19 k) (off24 k) (off11 k hlt) (off12 k hlt) (off13 k hlt) (off20 k) (off21 k) (off22 k) (off25 k) (off27 k) (off28 k) (off29 k) (off26 k) (off30 k hpos) (off31 k hpos) (off32 k hpos)
    (off23 k) (off24 k) (off25 k) (off26 k) fa fw fs (cellO cc0_scoped1 (cellOff (par (k.val / 26))) (cell_inb _))
    (va c fa (rowr (k.val / 26))) (vo c fa fw fs (row (k.val - 1)) (col (k.val - 1))) (tok (par (k.val + 1))) (tok (par k.val))
  rw [next_words] at h
  exact h

theorem step_last (k : Fin k0_t1_loop.trips) (hA : ¬ (k.val % 26 = 25 ∧ k.val < 103)) (hnlt : ¬ k.val < 103) (h0 : ¬ k.val % 26 = 0) (hpos : 0 < k.val) :
    (iprop(aH c fa (k.val / 26) ∗ wX c fw k.val ∗ sX c fs k.val ∗ oI c k.val ∗ oA c k.val ∗ oX c fa fw fs (k.val - 1) ∗ owe c) : sProp 𝕄)
    ⊢ wp frame (wpE (defs₀ (F := F)) Variants.none c none) Set.univ (body k (W5 k.val) (W6 k.val) (W7 k.val) (W8 k.val) (W9 k.val) (W10 k.val) (W11 k.val) (W12 k.val) (W13 k.val) (W14 k.val))
      (fun r => iprop(⌜r = words (k.val + 1)⌝ ∗ aH c fa (k.val / 26) ∗ wI c fw k.val ∗ sI c fs k.val ∗ oX c fa fw fs k.val ∗ oD c fa fw fs (k.val - 1) ∗ oI c (k.val - 1) ∗ owe c)) := by
  have h := trip_last (F := F) c k (W5 k.val) (W6 k.val) (W7 k.val) (W8 k.val) (W9 k.val) (W10 k.val) (W11 k.val) (W12 k.val) (W13 k.val) (W14 k.val) (chk1 k) (chk2 k) (chk3 k) (chk4 k) (chk5 k)
    (fun e => hA ((cond1 k).1 e)) (fun e => hnlt ((cond2 k).1 e)) (fun e => hnlt ((cond3 k).1 e)) (fun e => h0 ((cond4 k).1 e)) ((cond5 k).2 trivial) ((cond6 k).2 trivial) ((cond11 k).2 trivial) ((cond15 k).2 hpos)
    (aslot_inb _) (cell_inb _) (wslot_inb _) (wblk_inb _) (wslot_inb _) (cell_inb _) (sslot_inb _) (sblk_inb _) (sslot_inb _) (cell_inb _) (oblk_inb _ _) (oslot_inb _) (oslot_inb _) (cell_inb _) (oblk_inb _ _) (oslot_inb _)
    (off23 k) (off17 k) (off18 k) (off19 k) (off24 k) (off20 k) (off21 k) (off22 k) (off25 k) (off27 k) (off28 k) (off29 k) (off26 k) (off30 k hpos) (off31 k hpos) (off32 k hpos)
    (off23 k) (off24 k) (off25 k) (off26 k) fa fw fs (cellO cc0_scoped1 (cellOff (par (k.val / 26))) (cell_inb _))
    (va c fa (rowr (k.val / 26))) (vo c fa fw fs (row (k.val - 1)) (col (k.val - 1))) (tok (par (k.val + 1))) (tok (par k.val))
  rw [next_words] at h
  exact h

end Cert.KernelIdeal.Hand

end
-- ==== Proof.InProj.Inv.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Step

/-!
The in-projection's loop: what holds of the rings and of the result before each trip.
-/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (fa : Buf (Elt F) ((Memref.whole main_arg0).view.loc (c : Thread nD τ))) (fw : Buf (Elt F) ((Memref.whole main_arg1).view.loc (c : Thread nD τ))) (fs : Buf (Elt F) ((Memref.whole main_cst).view.loc (c : Thread nD τ)))

/-- The weights' ring before trip `k`: the step's block on its way, the other slot free. -/
def WI (k : ℕ) : sProp 𝕄 := if k < 104 then iprop(wX c fw k ∗ wI c fw (k + 1)) else iprop(wI c fw k ∗ wI c fw (k + 1))
/-- The scales' ring before trip `k`: the step's block on its way, the other slot free. -/
def SI (k : ℕ) : sProp 𝕄 := if k < 104 then iprop(sX c fs k ∗ sI c fs (k + 1)) else iprop(sI c fs k ∗ sI c fs (k + 1))
/-- The activations' ring before trip `k`: at a row's start its block on its way, later in the row the block held. -/
def AI (k : ℕ) : sProp 𝕄 :=
  if k % 26 = 0 ∧ k < 104 then iprop(aX c fa (k / 26) ∗ aI c (k / 26 + 1))
  else iprop(aH c fa ((k - 1) / 26) ∗ aSrc c fa ∗ aI c ((k - 1) / 26 + 1))
/-- The result's ring before trip `k`: the step before's block on its way out, the other slot free. -/
def OI (k : ℕ) : sProp 𝕄 := if k = 0 then iprop(oI c k ∗ oI c (k + 1)) else iprop(oX c fa fw fs (k - 1) ∗ oI c k)
/-- The blocks of the result not yet written. -/
def ahead (k : ℕ) : sProp 𝕄 := bigSep (Finset.Ico k 104) fun n => oA c n
/-- The blocks of the result written. -/
def behind (k : ℕ) : sProp 𝕄 := bigSep (Finset.range (k - 1)) fun n => oD c fa fw fs n

theorem ahead_step {k : ℕ} (h : k < 104) : ahead (F := F) c k = iprop(oA c k ∗ ahead c (k + 1)) := by
  unfold ahead
  rw [show Finset.Ico k 104 = insert k (Finset.Ico (k + 1) 104) by ext; simp only [Finset.mem_insert, Finset.mem_Ico]; omega]
  exact bigSep_insert (by simp)

theorem behind_step {k : ℕ} (h : 0 < k) : behind c fa fw fs (k + 1) = iprop(oD c fa fw fs (k - 1) ∗ behind c fa fw fs k) := by
  unfold behind
  rw [show Finset.range (k + 1 - 1) = insert (k - 1) (Finset.range (k - 1)) by ext; simp only [Finset.mem_insert, Finset.mem_range]; omega]
  exact bigSep_insert (by simp)

/-- What holds before trip `k`, carrying `acc`. -/
def inv (k : ℕ) (acc : BitVec 32 × BitVec 32 × BitVec 32 × BitVec 32 × BitVec 32 × BitVec 32 × BitVec 32 × BitVec 32 × BitVec 32 × BitVec 32) : sProp 𝕄 :=
  iprop(⌜acc = words k⌝ ∗ AI c fa k ∗ WI c fw k ∗ SI c fs k ∗ OI c fa fw fs k ∗ ahead c k ∗ behind c fa fw fs k ∗ owe c)

theorem WI_lt {k : ℕ} (h : k < 104) : WI c fw k = iprop(wX c fw k ∗ wI c fw (k + 1)) := if_pos h
theorem SI_lt {k : ℕ} (h : k < 104) : SI c fs k = iprop(sX c fs k ∗ sI c fs (k + 1)) := if_pos h
theorem WI_end {k : ℕ} (h : ¬ k < 104) : WI c fw k = iprop(wI c fw k ∗ wI c fw (k + 1)) := if_neg h
theorem SI_end {k : ℕ} (h : ¬ k < 104) : SI c fs k = iprop(sI c fs k ∗ sI c fs (k + 1)) := if_neg h
theorem AI_row {k : ℕ} (h : k % 26 = 0) (h' : k < 104) : AI c fa k = iprop(aX c fa (k / 26) ∗ aI c (k / 26 + 1)) := if_pos ⟨h, h'⟩
theorem AI_in {k r : ℕ} (h : ¬ (k % 26 = 0 ∧ k < 104)) (hr : (k - 1) / 26 = r) :
    AI c fa k = iprop(aH c fa r ∗ aSrc c fa ∗ aI c (r + 1)) := by subst hr; exact if_neg h
theorem OI_zero : OI c fa fw fs 0 = iprop(oI c 0 ∗ oI c 1) := if_pos rfl
theorem OI_pos {k : ℕ} (h : 0 < k) : OI c fa fw fs k = iprop(oX c fa fw fs (k - 1) ∗ oI c k) := if_neg (by omega)
theorem behind_one : behind c fa fw fs 1 = behind c fa fw fs 0 := rfl

theorem aI_turn {k : ℕ} (h : k % 26 = 25) : aI (F := F) c ((k + 1) / 26 + 1) = aI c (k / 26) := by
  rw [show (k + 1) / 26 + 1 = k / 26 + 2 by omega, aI_add_two]
theorem aX_turn {k : ℕ} (h : k % 26 = 25) : aX c fa ((k + 1) / 26) = aX c fa (k / 26 + 1) := by
  rw [show (k + 1) / 26 = k / 26 + 1 by omega]
theorem oI_back {k : ℕ} (h : 0 < k) : oI (F := F) c (k - 1) = oI c (k + 1) := by
  rw [show k + 1 = k - 1 + 2 by omega, oI_add_two]

/-- One trip keeps the invariant. -/
theorem inv_step (k : Fin k0_t1_loop.trips) :
    inv c fa fw fs k.val (words k.val) ⊢ wp frame (wpE (defs₀ (F := F)) Variants.none c none) Set.univ
      (body k (W5 k.val) (W6 k.val) (W7 k.val) (W8 k.val) (W9 k.val) (W10 k.val) (W11 k.val) (W12 k.val) (W13 k.val) (W14 k.val)) (inv c fa fw fs (k.val + 1)) := by
  have hk : k.val < 104 := lt_of_lt_of_eq k.isLt (by decide +kernel)
  have hA25 : ¬ k.val % 26 = 25 → ¬ (k.val % 26 = 25 ∧ k.val < 103) := fun h h' => h h'.1
  by_cases h0 : k.val % 26 = 0
  · have hlt : k.val < 103 := by omega
    by_cases hpos : 0 < k.val
    · have hs := step_row c fa fw fs k (hA25 (by omega)) hlt h0 hpos
      rw [oI_back c hpos, ← wI_add_two c fw k.val, ← sI_add_two c fs k.val] at hs
      refine BIBase.Entails.trans ?_ ((sep_mono_left hs).trans ((wp_frame_r _ _ _ (R := iprop(aI c (k.val / 26 + 1) ∗ ahead c (k.val + 1) ∗ behind c fa fw fs k.val))).trans (wp_mono _ _ _ fun r => ?_)))
      · unfold inv
        rw [AI_row c fa h0 hk, WI_lt c fw hk, SI_lt c fs hk, ahead_step c hk, OI_pos c fa fw fs hpos]
        iintro ⟨%_, ⟨H1, H2⟩, ⟨H3, H4⟩, ⟨H5, H6⟩, ⟨H7, H8⟩, ⟨H9, H10⟩, H11, H12⟩
        iframe
      · unfold inv
        rw [AI_in c fa (k := k.val + 1) (r := k.val / 26) (by omega) (by omega), WI_lt c fw (k := k.val + 1) (by omega), SI_lt c fs (k := k.val + 1) (by omega), OI_pos c fa fw fs (k := k.val + 1) (by omega), behind_step c fa fw fs hpos, show k.val + 1 - 1 = k.val from rfl]
        iintro ⟨⟨%e, G1, G2, G3, G4, G5, G6, G7, G8, G9, G10⟩, G11, G12, G13⟩
        isplitr
        · ipureintro; exact e
        iframe
    · have hz : k.val = 0 := by omega
      have hs := step_first c fa fw fs k (hA25 (by omega)) hlt h0 hpos
      rw [← wI_add_two c fw k.val, ← sI_add_two c fs k.val] at hs
      refine BIBase.Entails.trans ?_ ((sep_mono_left hs).trans ((wp_frame_r _ _ _ (R := iprop(aI c (k.val / 26 + 1) ∗ oI c (k.val + 1) ∗ ahead c (k.val + 1) ∗ behind c fa fw fs k.val))).trans (wp_mono _ _ _ fun r => ?_)))
      · unfold inv
        rw [AI_row c fa h0 hk, WI_lt c fw hk, SI_lt c fs hk, ahead_step c hk, show OI c fa fw fs k.val = iprop(oI c k.val ∗ oI c (k.val + 1)) from if_pos hz]
        iintro ⟨%_, ⟨H1, H2⟩, ⟨H3, H4⟩, ⟨H5, H6⟩, ⟨H7, H8⟩, ⟨H9, H10⟩, H11, H12⟩
        iframe
      · unfold inv
        rw [AI_in c fa (k := k.val + 1) (r := k.val / 26) (by omega) (by omega), WI_lt c fw (k := k.val + 1) (by omega), SI_lt c fs (k := k.val + 1) (by omega), OI_pos c fa fw fs (k := k.val + 1) (by omega), show k.val + 1 - 1 = k.val from rfl, show behind c fa fw fs (k.val + 1) = behind c fa fw fs k.val by rw [hz]; rfl]
        iintro ⟨⟨%e, G1, G2, G3, G4, G5, G6, G7, G8⟩, G9, G10, G11, G12⟩
        isplitr
        · ipureintro; exact e
        iframe
  have hpos : 0 < k.val := by omega
  by_cases hlt : k.val < 103
  · by_cases hj : k.val % 26 = 25
    · have hs := step_turn c fa fw fs k hj hlt h0 hpos
      rw [oI_back c hpos, ← wI_add_two c fw k.val, ← sI_add_two c fs k.val] at hs
      refine BIBase.Entails.trans ?_ ((sep_mono_left hs).trans ((wp_frame_r _ _ _ (R := iprop(ahead c (k.val + 1) ∗ behind c fa fw fs k.val))).trans (wp_mono _ _ _ fun r => ?_)))
      · unfold inv
        rw [AI_in c fa (r := k.val / 26) (by omega) (by omega), WI_lt c fw hk, SI_lt c fs hk, ahead_step c hk, OI_pos c fa fw fs hpos]
        iintro ⟨%_, ⟨H1, H2, H2'⟩, ⟨H3, H4⟩, ⟨H5, H6⟩, ⟨H7, H8⟩, ⟨H9, H10⟩, H11, H12⟩
        iframe
      · unfold inv
        rw [AI_row c fa (k := k.val + 1) (by omega) (by omega), aX_turn c fa hj, aI_turn c hj, WI_lt c fw (k := k.val + 1) (by omega), SI_lt c fs (k := k.val + 1) (by omega), OI_pos c fa fw fs (k := k.val + 1) (by omega), behind_step c fa fw fs hpos, show k.val + 1 - 1 = k.val from rfl]
        iintro ⟨⟨%e, G1, G2, G3, G4, G5, G6, G7, G8, G9, G10⟩, G11, G12⟩
        isplitr
        · ipureintro; exact e
        iframe
    · have hs := step_mid c fa fw fs k (hA25 hj) hlt h0 hpos
      rw [oI_back c hpos, ← wI_add_two c fw k.val, ← sI_add_two c fs k.val] at hs
      refine BIBase.Entails.trans ?_ ((sep_mono_left hs).trans ((wp_frame_r _ _ _ (R := iprop(aSrc c fa ∗ aI c (k.val / 26 + 1) ∗ ahead c (k.val + 1) ∗ behind c fa fw fs k.val))).trans (wp_mono _ _ _ fun r => ?_)))
      · unfold inv
        rw [AI_in c fa (r := k.val / 26) (by omega) (by omega), WI_lt c fw hk, SI_lt c fs hk, ahead_step c hk, OI_pos c fa fw fs hpos]
        iintro ⟨%_, ⟨H1, H2, H2'⟩, ⟨H3, H4⟩, ⟨H5, H6⟩, ⟨H7, H8⟩, ⟨H9, H10⟩, H11, H12⟩
        iframe
      · unfold inv
        rw [AI_in c fa (k := k.val + 1) (r := k.val / 26) (by omega) (by omega), WI_lt c fw (k := k.val + 1) (by omega), SI_lt c fs (k := k.val + 1) (by omega), OI_pos c fa fw fs (k := k.val + 1) (by omega), behind_step c fa fw fs hpos, show k.val + 1 - 1 = k.val from rfl]
        iintro ⟨⟨%e, G1, G2, G3, G4, G5, G6, G7, G8, G9⟩, G10, G11, G12, G13⟩
        isplitr
        · ipureintro; exact e
        iframe
  · have hs := step_last c fa fw fs k (fun h => hlt h.2) hlt h0 hpos
    rw [oI_back c hpos, ← wI_add_two c fw k.val, ← sI_add_two c fs k.val] at hs
    refine BIBase.Entails.trans ?_ ((sep_mono_left hs).trans ((wp_frame_r _ _ _ (R := iprop(aSrc c fa ∗ aI c (k.val / 26 + 1) ∗ wI c fw (k.val + 1) ∗ sI c fs (k.val + 1) ∗ ahead c (k.val + 1) ∗ behind c fa fw fs k.val))).trans (wp_mono _ _ _ fun r => ?_)))
    · unfold inv
      rw [AI_in c fa (r := k.val / 26) (by omega) (by omega), WI_lt c fw hk, SI_lt c fs hk, ahead_step c hk, OI_pos c fa fw fs hpos]
      iintro ⟨%_, ⟨H1, H2, H2'⟩, ⟨H3, H4⟩, ⟨H5, H6⟩, ⟨H7, H8⟩, ⟨H9, H10⟩, H11, H12⟩
      iframe
    · unfold inv
      rw [AI_in c fa (k := k.val + 1) (r := k.val / 26) (by omega) (by omega), WI_end c fw (k := k.val + 1) (by omega), SI_end c fs (k := k.val + 1) (by omega), OI_pos c fa fw fs (k := k.val + 1) (by omega), behind_step c fa fw fs hpos, show k.val + 1 - 1 = k.val from rfl]
      iintro ⟨⟨%e, G1, G2, G3, G4, G5, G6, G7⟩, G8, G9, G10, G11, G12, G13⟩
      isplitr
      · ipureintro; exact e
      iframe

/-- The loop's invariant, kept by each trip. -/
@[reducible] noncomputable def loopInv_k0_t1 :
    LoopInvTy_k0_t1 (F := F) Unit ℕ (Pipeline.UD sig nD τ) ℕ Variants.none c none Set.univ (Memref.whole main_arg0) (Memref.isWhole_whole _) (Memref.whole main_arg1) (Memref.isWhole_whole _) (Memref.whole main_cst) (Memref.isWhole_whole _) (Memref.whole main_v0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 1#32 1#32 1#32 0#32 0#32 0#32 0#32 0#32 0#32 0#32 0#32 (1#32, 0#32, 1#32, 0#32, 1#32, 0#32, 0#32, 0#32, 0#32, 0#32) where
  inv := inv c fa fw fs
  step := fun k acc => by
    refine BIBase.Entails.trans (Q := iprop(⌜acc = words k.val⌝ ∗ inv c fa fw fs k.val (words k.val))) ?_ ?_
    · unfold inv
      iintro ⟨%e, H⟩
      isplitr
      · ipureintro; exact e
      isplitr
      · ipureintro; rfl
      iexact H
    · iintro ⟨%e, H⟩
      subst e
      istop
      exact inv_step c fa fw fs k

end Cert.KernelIdeal.Hand

end
-- ==== Proof.InProj.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Inv

/-!
The in-projection's run: the first blocks sent for, the loop by its invariant, the last block awaited.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (fa : Buf (Elt F) ((Memref.whole main_arg0).view.loc (c : Thread nD τ))) (fw : Buf (Elt F) ((Memref.whole main_arg1).view.loc (c : Thread nD τ))) (fs : Buf (Elt F) ((Memref.whole main_cst).view.loc (c : Thread nD τ)))

theorem of_eq {P Q : sProp 𝕄} (e : P = Q) : P ⊢ Q := e ▸ .rfl

/-! A state at one place is the state at an equal place. -/
theorem aFree_eq {o o' : Fin 3 → Nat} {k k' : Fin 1 → Nat} (e : o = o') (e' : k = k') (h h' i i') :
    aFree (F := F) c o h (cellO cc0_scoped1 k i) = aFree c o' h' (cellO cc0_scoped1 k' i') := by subst e e'; rfl
theorem wFree_eq {o o' : Fin 3 → Nat} {k k' : Fin 1 → Nat} (e : o = o') (e' : k = k') (h h' i i') (q) :
    wFree c fw o h (cellO cc0_scoped3 k i) q = wFree c fw o' h' (cellO cc0_scoped3 k' i') q := by subst e e'; rfl
theorem sFree_eq {o o' : Fin 3 → Nat} {k k' : Fin 1 → Nat} (e : o = o') (e' : k = k') (h h' i i') (q) :
    sFree c fs o h (cellO cc0_scoped5 k i) q = sFree c fs o' h' (cellO cc0_scoped5 k' i') q := by subst e e'; rfl
theorem oFree_eq {o o' : Fin 3 → Nat} {k k' : Fin 1 → Nat} (e : o = o') (e' : k = k') (h h' i i') :
    oFree (F := F) c o h (cellO cc0_scoped7 k i) = oFree c o' h' (cellO cc0_scoped7 k' i') := by subst e e'; rfl
theorem aFly_eq {o o' : Fin 3 → Nat} {k k' : Fin 1 → Nat} {b b' : Fin 2 → Nat} (e : o = o') (e' : k = k') (e'' : b = b') (h h' i i' j j') :
    aFly c fa o h (cellO cc0_scoped1 k i) b j = aFly c fa o' h' (cellO cc0_scoped1 k' i') b' j' := by subst e e' e''; rfl
theorem wFly_eq {o o' : Fin 3 → Nat} {k k' : Fin 1 → Nat} {b b' : Fin 2 → Nat} (e : o = o') (e' : k = k') (e'' : b = b') (h h' i i' j j') (q) :
    wFly c fw o h (cellO cc0_scoped3 k i) b j q = wFly c fw o' h' (cellO cc0_scoped3 k' i') b' j' q := by subst e e' e''; rfl
theorem sFly_eq {o o' : Fin 3 → Nat} {k k' : Fin 1 → Nat} {b b' : Fin 2 → Nat} (e : o = o') (e' : k = k') (e'' : b = b') (h h' i i' j j') (q) :
    sFly c fs o h (cellO cc0_scoped5 k i) b j q = sFly c fs o' h' (cellO cc0_scoped5 k' i') b' j' q := by subst e e' e''; rfl
theorem oFly_eq {o o' : Fin 3 → Nat} {k k' : Fin 1 → Nat} {b b' : Fin 2 → Nat} (e : o = o') (e' : k = k') (e'' : b = b') (h h' i i' j j') (v) :
    oFly (F := F) c o h (cellO cc0_scoped7 k i) b j v = oFly c o' h' (cellO cc0_scoped7 k' i') b' j' v := by subst e e' e''; rfl
theorem oDone_eq {b b' : Fin 2 → Nat} (e : b = b') (h h') (v) : oDone (F := F) c b h v = oDone c b' h' v := by subst e; rfl

theorem off1 : k0_off1 = cellOff (par 0) := by decide +kernel
theorem off2 : k0_off2 = slotOff (par 0) := by decide +kernel
theorem off3 : k0_off3 = slotOff (par 0) := by decide +kernel
theorem off4 : k0_off4 = slotOff (par 0) := by decide +kernel
theorem off33 : k0_off33 (W12 104) = cellOff (par 103) := by decide +kernel
theorem off34 : k0_off34 (W14 104) (W13 104) = oblkOff (row 103) (col 103) := by decide +kernel
theorem off35 : k0_off35 (W12 104) = slotOff (par 103) := by decide +kernel
theorem chk6 : k0_chk6 (W12 104) := by decide +kernel
theorem chk7 : k0_chk7 (W14 104) (W13 104) := by decide +kernel

theorem loop_rule {β : Type} {kk : BitVec 32 × BitVec 32 × BitVec 32 × BitVec 32 × BitVec 32 × BitVec 32 × BitVec 32 × BitVec 32 × BitVec 32 × BitVec 32 → Prog (TpuEff nD τ sig (Elt F) Λ₀ .tc) β} {Q : β → sProp 𝕄} :
    inv c fa fw fs 0 (1#32, 0#32, 1#32, 0#32, 1#32, 0#32, 0#32, 0#32, 0#32, 0#32) ⊢
      iprop((∀ acc, inv c fa fw fs 104 acc -∗ wp frame (wpE (defs₀ (F := F)) Variants.none c none) Set.univ (kk acc) Q)
        -∗ wp frame (wpE (defs₀ (F := F)) Variants.none c none) Set.univ
          (Scf.Loop.for k0_t1_loop k0_t1_ok (1#32, 0#32, 1#32, 0#32, 1#32, 0#32, 0#32, 0#32, 0#32, 0#32)
            (k0_t1_body (Memref.whole main_arg0) (Memref.isWhole_whole _) (Memref.whole main_arg1) (Memref.isWhole_whole _) (Memref.whole main_cst) (Memref.isWhole_whole _) (Memref.whole main_v0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 1#32 1#32 1#32 0#32 0#32 0#32 0#32 0#32 0#32 0#32 0#32) >>= kk) Q) := by
  have h := exec_loop frame (wpE (defs₀ (F := F)) Variants.none c none) Set.univ _ _ _ _ _ _ (loopInv_k0_t1 c fa fw fs) (kk := kk) (Q := Q)
  rw [show Scf.trips k0_t1_loop.lb k0_t1_loop.ub k0_t1_loop.st = 104 by decide +kernel] at h
  exact h

/-- The body, run. -/
theorem run :
    (iprop(aI c 0 ∗ aSrc c fa ∗ aI c 1 ∗ wI c fw 0 ∗ wI c fw 1 ∗ sI c fs 0 ∗ sI c fs 1 ∗ oI c 0 ∗ oI c 1 ∗ ahead c 0 ∗ owe c) : sProp 𝕄)
    ⊢ wp frame (wpE (defs₀ (F := F)) Variants.none c none) Set.univ (bodyAt0 t0_0)
      (fun _ => iprop(aH c fa 3 ∗ aSrc c fa ∗ aI c 4 ∗ wI c fw 104 ∗ wI c fw 105 ∗ sI c fs 104 ∗ sI c fs 105 ∗ oI c 103 ∗ oI c 104
        ∗ oD c fa fw fs 103 ∗ behind c fa fw fs 104 ∗ owe c)) := by
  rw [show aI (F := F) c 0 = aFree c k0_off2 k0_off2_inb (cellO cc0_scoped1 k0_off1 k0_off1_inb) from aFree_eq c off2.symm off1.symm _ _ _ _,
    show wI c fw 0 = wFree c fw k0_off3 k0_off3_inb (cellO cc0_scoped3 k0_off1 k0_off1_inb) (tok (par 0)) from wFree_eq c fw off3.symm off1.symm _ _ _ _ _,
    show sI c fs 0 = sFree c fs k0_off4 k0_off4_inb (cellO cc0_scoped5 k0_off1 k0_off1_inb) (tok (par 0)) from sFree_eq c fs off4.symm off1.symm _ _ _ _ _]
  unfold aFree wFree sFree owe aSrc
  iintro ⟨⟨⟨%ga, RA⟩, CA⟩, TA, HA1, ⟨⟨%gw, RW⟩, CW, TW⟩, HW1, ⟨⟨%gs, RS⟩, CS, TS⟩, HS1, HO0, HO1, HH, ⟨%W, HO⟩⟩
  unfold bodyAt0
  rw [cc0_in_proj_eq_skeleton]; unfold cc0_in_proj_skel
  sl_exec
  ihave HI : inv c fa fw fs 0 (1#32, 0#32, 1#32, 0#32, 1#32, 0#32, 0#32, 0#32, 0#32, 0#32) $$ [CA TA HA1 CW TW HW1 CS TS HS1 HO0 HO1 HH HO]
  · unfold inv
    rw [AI_row c fa rfl (by decide), WI_lt c fw (by decide), SI_lt c fs (by decide), OI_zero]
    isplitr
    · ipureintro; rfl
    isplitl [CA TA HA1]
    · isplitl [CA TA]
      · iapply (of_eq (show aFly c fa k0_off2 k0_off2_inb (cellO cc0_scoped1 k0_off1 k0_off1_inb) ![0, 0] inb_S8192x4096_S2048x4096_0_0 = aX c fa (0 / 26) from aFly_eq c fa off2 off1 (by decide +kernel) _ _ _ _ _ _))
        unfold aFly
        iexists ((aslotO k0_off2 k0_off2_inb).view.writes (Elt F) ga [⟨Rect.whole S2048x4096, (ablkO ![0, 0] inb_S8192x4096_S2048x4096_0_0).view.read (Elt F) fa⟩])
        isplitr
        · ipureintro; exact View.read_writes_whole _ _ _
        isplitl [CA]
        · iexact CA
        · iexact TA
      · iexact HA1
    isplitl [CW TW HW1]
    · isplitl [CW TW]
      · iapply (of_eq (show wFly c fw k0_off3 k0_off3_inb (cellO cc0_scoped3 k0_off1 k0_off1_inb) ![0, 0] inb_S4096x13312_S4096x512_0_0 (tok (par 0)) = wX c fw 0 from wFly_eq c fw off3 off1 (by decide +kernel) _ _ _ _ _ _ _))
        unfold wFly
        iexists ((wslotO k0_off3 k0_off3_inb).view.writes (Elt F) gw [⟨Rect.whole S4096x512, (wblkO ![0, 0] inb_S4096x13312_S4096x512_0_0).view.read (Elt F) fw⟩])
        isplitr
        · ipureintro; exact View.read_writes_whole _ _ _
        isplitl [CW]
        · iexact CW
        · iexact TW
      · iexact HW1
    isplitl [CS TS HS1]
    · isplitl [CS TS]
      · iapply (of_eq (show sFly c fs k0_off4 k0_off4_inb (cellO cc0_scoped5 k0_off1 k0_off1_inb) ![0, 0] inb_S1x13312_S1x512_0_0 (tok (par 0)) = sX c fs 0 from sFly_eq c fs off4 off1 (by decide +kernel) _ _ _ _ _ _ _))
        unfold sFly
        iexists ((sslotO k0_off4 k0_off4_inb).view.writes (Elt F) gs [⟨Rect.whole S1x512, (sblkO ![0, 0] inb_S1x13312_S1x512_0_0).view.read (Elt F) fs⟩])
        isplitr
        · ipureintro; exact View.read_writes_whole _ _ _
        isplitl [CS]
        · iexact CS
        · iexact TS
      · iexact HS1
    isplitl [HO0 HO1]
    · isplitl [HO0]
      · iexact HO0
      · iexact HO1
    isplitl [HH]
    · iexact HH
    isplitr
    · iapply (of_eq (show (iprop(emp) : sProp 𝕄) = behind c fa fw fs 0 from bigSep_empty.symm))
      iempintro
    unfold owe
    iexists _; iexact HO
  iapply (loop_rule c fa fw fs) $$ HI
  iintro %acc HI
  unfold inv
  icases HI with ⟨%e, HA, HW, HS, HOx, HH, HB, HO⟩
  subst e
  have h6 := chk6
  have h7 := chk7
  unfold owe
  icases HO with ⟨%W', HO⟩
  ihave HA := (of_eq (show AI c fa 104 = iprop(aH c fa 3 ∗ aSrc c fa ∗ aI c 4) from AI_in c fa (by decide) (by decide))) $$ HA
  ihave HW := (of_eq (WI_end c fw (k := 104) (by decide))) $$ HW
  ihave HS := (of_eq (SI_end c fs (k := 104) (by decide))) $$ HS
  ihave HOx := (of_eq (OI_pos c fa fw fs (k := 104) (by decide))) $$ HOx
  icases HOx with ⟨HX, HO0⟩
  ihave HX := (of_eq (show oX c fa fw fs (104 - 1) = oFly c (k0_off35 (W12 104)) (k0_off35_inb _ chk6) (cellO cc0_scoped7 (k0_off33 (W12 104)) (k0_off33_inb _ chk6)) (k0_off34 (W14 104) (W13 104)) (k0_off34_inb _ _ chk7) (vo c fa fw fs (row 103) (col 103))
      from oFly_eq c off35.symm off33.symm off34.symm _ _ _ _ _ _ _)) $$ HX
  unfold oFly
  icases HA with ⟨HA0, HA1, HA2⟩
  icases HW with ⟨HW0, HW1⟩
  icases HS with ⟨HS0, HS1⟩
  icases HX with ⟨%g, %go, %hg, FO⟩
  unfold words
  sl_exec
  sl_step
  isplitl [HA0]
  · iexact HA0
  isplitl [HA1]
  · unfold aSrc; iexact HA1
  isplitl [HA2]
  · iexact HA2
  isplitl [HW0]
  · iexact HW0
  isplitl [HW1]
  · iexact HW1
  isplitl [HS0]
  · iexact HS0
  isplitl [HS1]
  · iexact HS1
  isplitl [FO FO_src]
  · iapply (of_eq (show oFree c (k0_off35 (W12 104)) (k0_off35_inb _ chk6) (cellO cc0_scoped7 (k0_off33 (W12 104)) (k0_off33_inb _ chk6)) = oI (F := F) c 103 from oFree_eq c off35 off33 _ _ _ _))
    unfold oFree
    isplitl [FO_src]
    · iexists go; iexact FO_src
    · iexact FO
  isplitl [HO0]
  · iexact HO0
  isplitl [FO_dst]
  · iapply (of_eq (show oDone c (k0_off34 (W14 104) (W13 104)) (k0_off34_inb _ _ chk7) (vo c fa fw fs (row 103) (col 103)) = oD c fa fw fs 103 from oDone_eq c off34 _ _ _))
    unfold oDone
    iexists g
    isplitr
    · ipureintro; exact hg
    iexact FO_dst
  isplitl [HB]
  · iexact HB
  iexists _; iexact HO

end Cert.KernelIdeal.Hand

end
-- ==== Proof.InProj.Whole.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Run

/-!
The in-projection's run from whole buffers to whole buffers: each ring taken as its two slots, the sources as
two halves of their share, the result as its blocks, and back.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (fa : Buf (Elt F) ((Memref.whole main_arg0).view.loc (c : Thread nD τ))) (fw : Buf (Elt F) ((Memref.whole main_arg1).view.loc (c : Thread nD τ))) (fs : Buf (Elt F) ((Memref.whole main_cst).view.loc (c : Thread nD τ)))

/-- The elements of a slot of the ring `cc0_scoped0`. -/
def aJ (p : Fin 2) : Finset (Idx ((c : Thread nD τ).loc cc0_scoped0)) := (aslotO (slotOff p) (aslot_inb p)).view.set
theorem aJ_eq (p : Fin 2) : aJ c p = (Rect.unit (s := S2x2048x4096) (slotOff p) S1x2048x4096.size (aslot_inb p)).set := by
  unfold aJ
  rw [Memref.set_view_squeeze]
  exact View.set_slice_whole _ _
theorem aJ_disj (p p' : Fin 2) (h : p ≠ p') : Disjoint (aJ c p) (aJ c p') := by
  rw [aJ_eq, aJ_eq]
  exact Ring.lead_disjoint (s := S2x2048x4096) 0 1 slotOff S1x2048x4096.size aslot_inb (by decide) (by decide) p p' h
theorem aJ_cover : Finset.univ.biUnion (aJ c) = Finset.univ := by
  rw [show aJ c = _ from funext (aJ_eq c)]
  exact Ring.lead_cover (s := S2x2048x4096) 0 1 slotOff S1x2048x4096.size aslot_inb (by decide) (by decide) (by decide) (by decide) (by decide)
theorem acell0 : cellO cc0_scoped1 (cellOff 0) (cell_inb 0) = SemLoc.dma 0 := by decide
theorem acell1 : cellO cc0_scoped1 (cellOff 1) (cell_inb 1) = SemLoc.dma 1 := by decide

theorem a_split : (iprop((∃ f : Buf (Elt F) ((c : Thread nD τ).loc cc0_scoped0), ((c : Thread nD τ).loc cc0_scoped0) ↦{fullShare} f) ∗ semVal ((c : Thread nD τ), SemLoc.dma 0) 0 ∗ semVal ((c : Thread nD τ), SemLoc.dma 1) 0) : sProp 𝕄) ⊢ iprop(aI (F := F) c 0 ∗ aI c 1) := by
  iintro ⟨H, C0, C1⟩
  ihave H := (Ring.slots2_split (aJ c) (aJ_disj c) (aJ_cover c) _ _ (fun _ => rfl) (fun _ => rfl)) $$ H
  icases H with ⟨H0, H1⟩
  isplitl [H0 C0]
  · unfold aI aFree
    isplitl [H0]
    · iexact H0
    · iexact C0
  · unfold aI aFree
    isplitl [H1]
    · iexact H1
    · iexact C1
theorem a_join : iprop(aI (F := F) c 0 ∗ aI c 1) ⊢ (iprop((∃ f : Buf (Elt F) ((c : Thread nD τ).loc cc0_scoped0), ((c : Thread nD τ).loc cc0_scoped0) ↦{fullShare} f) ∗ semVal ((c : Thread nD τ), SemLoc.dma 0) 0 ∗ semVal ((c : Thread nD τ), SemLoc.dma 1) 0) : sProp 𝕄) := by
  unfold aI aFree
  iintro ⟨⟨H0, C0⟩, ⟨H1, C1⟩⟩
  isplitl [H0 H1]
  · iapply (Ring.slots2_join (aJ c) (aJ_disj c) (aJ_cover c) _ _ (fun _ => rfl) (fun _ => rfl))
    isplitl [H0]
    · iexact H0
    · iexact H1
  isplitl [C0]
  · iexact C0
  · iexact C1

/-- The elements of a slot of the ring `cc0_scoped2`. -/
def wJ (p : Fin 2) : Finset (Idx ((c : Thread nD τ).loc cc0_scoped2)) := (wslotO (slotOff p) (wslot_inb p)).view.set
theorem wJ_eq (p : Fin 2) : wJ c p = (Rect.unit (s := S2x4096x512) (slotOff p) S1x4096x512.size (wslot_inb p)).set := by
  unfold wJ
  rw [Memref.set_view_squeeze]
  exact View.set_slice_whole _ _
theorem wJ_disj (p p' : Fin 2) (h : p ≠ p') : Disjoint (wJ c p) (wJ c p') := by
  rw [wJ_eq, wJ_eq]
  exact Ring.lead_disjoint (s := S2x4096x512) 0 1 slotOff S1x4096x512.size wslot_inb (by decide) (by decide) p p' h
theorem wJ_cover : Finset.univ.biUnion (wJ c) = Finset.univ := by
  rw [show wJ c = _ from funext (wJ_eq c)]
  exact Ring.lead_cover (s := S2x4096x512) 0 1 slotOff S1x4096x512.size wslot_inb (by decide) (by decide) (by decide) (by decide) (by decide)
theorem wcell0 : cellO cc0_scoped3 (cellOff 0) (cell_inb 0) = SemLoc.dma 2 := by decide
theorem wcell1 : cellO cc0_scoped3 (cellOff 1) (cell_inb 1) = SemLoc.dma 3 := by decide

theorem w_split : (iprop((∃ f : Buf (Elt F) ((c : Thread nD τ).loc cc0_scoped2), ((c : Thread nD τ).loc cc0_scoped2) ↦{fullShare} f) ∗ semVal ((c : Thread nD τ), SemLoc.dma 2) 0 ∗ semVal ((c : Thread nD τ), SemLoc.dma 3) 0 ∗ (((c : Thread nD τ).loc main_arg1) ↦{fullShare} fw)) : sProp 𝕄) ⊢ iprop(wI c fw 0 ∗ wI c fw 1) := by
  iintro ⟨H, C0, C1, T⟩
  ihave H := (Ring.slots2_split (wJ c) (wJ_disj c) (wJ_cover c) _ _ (fun _ => rfl) (fun _ => rfl)) $$ H
  icases H with ⟨H0, H1⟩
  ihave T := (pointsTo_share (PosShare.mem_left_op_right fullShare)).1 $$ T
  icases T with ⟨T0, T1⟩
  isplitl [H0 C0 T0]
  · unfold wI wFree
    isplitl [H0]
    · iexact H0
    isplitl [C0]
    · iexact C0
    · iexact T0
  · unfold wI wFree
    isplitl [H1]
    · iexact H1
    isplitl [C1]
    · iexact C1
    · iexact T1
theorem w_join : iprop(wI c fw 0 ∗ wI c fw 1) ⊢ (iprop((∃ f : Buf (Elt F) ((c : Thread nD τ).loc cc0_scoped2), ((c : Thread nD τ).loc cc0_scoped2) ↦{fullShare} f) ∗ semVal ((c : Thread nD τ), SemLoc.dma 2) 0 ∗ semVal ((c : Thread nD τ), SemLoc.dma 3) 0 ∗ (((c : Thread nD τ).loc main_arg1) ↦{fullShare} fw)) : sProp 𝕄) := by
  unfold wI wFree
  iintro ⟨⟨H0, C0, T0⟩, ⟨H1, C1, T1⟩⟩
  isplitl [H0 H1]
  · iapply (Ring.slots2_join (wJ c) (wJ_disj c) (wJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped4`. -/
def sJ (p : Fin 2) : Finset (Idx ((c : Thread nD τ).loc cc0_scoped4)) := (sslotO (slotOff p) (sslot_inb p)).view.set
theorem sJ_eq (p : Fin 2) : sJ c p = (Rect.unit (s := S2x1x512) (slotOff p) S1x1x512.size (sslot_inb p)).set := by
  unfold sJ
  rw [Memref.set_view_squeeze]
  exact View.set_slice_whole _ _
theorem sJ_disj (p p' : Fin 2) (h : p ≠ p') : Disjoint (sJ c p) (sJ c p') := by
  rw [sJ_eq, sJ_eq]
  exact Ring.lead_disjoint (s := S2x1x512) 0 1 slotOff S1x1x512.size sslot_inb (by decide) (by decide) p p' h
theorem sJ_cover : Finset.univ.biUnion (sJ c) = Finset.univ := by
  rw [show sJ c = _ from funext (sJ_eq c)]
  exact Ring.lead_cover (s := S2x1x512) 0 1 slotOff S1x1x512.size sslot_inb (by decide) (by decide) (by decide) (by decide) (by decide)
theorem scell0 : cellO cc0_scoped5 (cellOff 0) (cell_inb 0) = SemLoc.dma 4 := by decide
theorem scell1 : cellO cc0_scoped5 (cellOff 1) (cell_inb 1) = SemLoc.dma 5 := by decide

theorem s_split : (iprop((∃ f : Buf (Elt F) ((c : Thread nD τ).loc cc0_scoped4), ((c : Thread nD τ).loc cc0_scoped4) ↦{fullShare} f) ∗ semVal ((c : Thread nD τ), SemLoc.dma 4) 0 ∗ semVal ((c : Thread nD τ), SemLoc.dma 5) 0 ∗ (((c : Thread nD τ).loc main_cst) ↦{fullShare} fs)) : sProp 𝕄) ⊢ iprop(sI c fs 0 ∗ sI c fs 1) := by
  iintro ⟨H, C0, C1, T⟩
  ihave H := (Ring.slots2_split (sJ c) (sJ_disj c) (sJ_cover c) _ _ (fun _ => rfl) (fun _ => rfl)) $$ H
  icases H with ⟨H0, H1⟩
  ihave T := (pointsTo_share (PosShare.mem_left_op_right fullShare)).1 $$ T
  icases T with ⟨T0, T1⟩
  isplitl [H0 C0 T0]
  · unfold sI sFree
    isplitl [H0]
    · iexact H0
    isplitl [C0]
    · iexact C0
    · iexact T0
  · unfold sI sFree
    isplitl [H1]
    · iexact H1
    isplitl [C1]
    · iexact C1
    · iexact T1
theorem s_join : iprop(sI c fs 0 ∗ sI c fs 1) ⊢ (iprop((∃ f : Buf (Elt F) ((c : Thread nD τ).loc cc0_scoped4), ((c : Thread nD τ).loc cc0_scoped4) ↦{fullShare} f) ∗ semVal ((c : Thread nD τ), SemLoc.dma 4) 0 ∗ semVal ((c : Thread nD τ), SemLoc.dma 5) 0 ∗ (((c : Thread nD τ).loc main_cst) ↦{fullShare} fs)) : sProp 𝕄) := by
  unfold sI sFree
  iintro ⟨⟨H0, C0, T0⟩, ⟨H1, C1, T1⟩⟩
  isplitl [H0 H1]
  · iapply (Ring.slots2_join (sJ c) (sJ_disj c) (sJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped6`. -/
def oJ (p : Fin 2) : Finset (Idx ((c : Thread nD τ).loc cc0_scoped6)) := (oslotO (slotOff p) (oslot_inb p)).view.set
theorem oJ_eq (p : Fin 2) : oJ c p = (Rect.unit (s := S2x2048x512) (slotOff p) S1x2048x512.size (oslot_inb p)).set := by
  unfold oJ
  rw [Memref.set_view_squeeze]
  exact View.set_slice_whole _ _
theorem oJ_disj (p p' : Fin 2) (h : p ≠ p') : Disjoint (oJ c p) (oJ c p') := by
  rw [oJ_eq, oJ_eq]
  exact Ring.lead_disjoint (s := S2x2048x512) 0 1 slotOff S1x2048x512.size oslot_inb (by decide) (by decide) p p' h
theorem oJ_cover : Finset.univ.biUnion (oJ c) = Finset.univ := by
  rw [show oJ c = _ from funext (oJ_eq c)]
  exact Ring.lead_cover (s := S2x2048x512) 0 1 slotOff S1x2048x512.size oslot_inb (by decide) (by decide) (by decide) (by decide) (by decide)
theorem ocell0 : cellO cc0_scoped7 (cellOff 0) (cell_inb 0) = SemLoc.dma 6 := by decide
theorem ocell1 : cellO cc0_scoped7 (cellOff 1) (cell_inb 1) = SemLoc.dma 7 := by decide

theorem o_split : (iprop((∃ f : Buf (Elt F) ((c : Thread nD τ).loc cc0_scoped6), ((c : Thread nD τ).loc cc0_scoped6) ↦{fullShare} f) ∗ semVal ((c : Thread nD τ), SemLoc.dma 6) 0 ∗ semVal ((c : Thread nD τ), SemLoc.dma 7) 0) : sProp 𝕄) ⊢ iprop(oI (F := F) c 0 ∗ oI c 1) := by
  iintro ⟨H, C0, C1⟩
  ihave H := (Ring.slots2_split (oJ c) (oJ_disj c) (oJ_cover c) _ _ (fun _ => rfl) (fun _ => rfl)) $$ H
  icases H with ⟨H0, H1⟩
  isplitl [H0 C0]
  · unfold oI oFree
    isplitl [H0]
    · iexact H0
    · iexact C0
  · unfold oI oFree
    isplitl [H1]
    · iexact H1
    · iexact C1
theorem o_join : iprop(oI (F := F) c 0 ∗ oI c 1) ⊢ (iprop((∃ f : Buf (Elt F) ((c : Thread nD τ).loc cc0_scoped6), ((c : Thread nD τ).loc cc0_scoped6) ↦{fullShare} f) ∗ semVal ((c : Thread nD τ), SemLoc.dma 6) 0 ∗ semVal ((c : Thread nD τ), SemLoc.dma 7) 0) : sProp 𝕄) := by
  unfold oI oFree
  iintro ⟨⟨H0, C0⟩, ⟨H1, C1⟩⟩
  isplitl [H0 H1]
  · iapply (Ring.slots2_join (oJ c) (oJ_disj c) (oJ_cover c) _ _ (fun _ => rfl) (fun _ => rfl))
    isplitl [H0]
    · iexact H0
    · iexact H1
  isplitl [C0]
  · iexact C0
  · iexact C1

/-- The elements of the block step `n` writes. -/
def bJ (n : ℕ) : Finset (Idx ((c : Thread nD τ).loc main_v0)) := (oblkO (oblkOff (row n) (col n)) (oblk_inb _ _)).view.set
theorem bJ_eq (n : ℕ) : bJ c n = (Rect.unit (s := S8192x13312) (oblkOff (row n) (col n)) S2048x512.size (oblk_inb _ _)).set :=
  View.set_slice_whole _ _
theorem mem_bJ (n : ℕ) (i : S8192x13312.Idx) :
    i ∈ (Rect.unit (s := S8192x13312) (oblkOff (row n) (col n)) S2048x512.size (oblk_inb _ _)).set ↔ (i 0).val / 2048 = n / 26 % 4 ∧ (i 1).val / 512 = n % 26 := by
  rw [Rect.mem_set_unit, Fin.forall_fin_two]
  show (2048 * (n / 26 % 4) ≤ (i 0).val ∧ (i 0).val < 2048 * (n / 26 % 4) + 2048) ∧ (512 * (n % 26) ≤ (i 1).val ∧ (i 1).val < 512 * (n % 26) + 512) ↔ _
  omega
theorem bJ_disj : ∀ n ∈ Finset.Ico 0 104, ∀ n' ∈ Finset.Ico 0 104, n ≠ n' → Disjoint (bJ c n) (bJ c n') := by
  intro n hn n' hn' h
  rw [bJ_eq, bJ_eq, Finset.disjoint_left]
  intro i hi hi'
  have h1 := (mem_bJ n i).1 hi
  have h2 := (mem_bJ n' i).1 hi'
  rw [Finset.mem_Ico] at hn hn'
  omega
theorem bJ_cover : (Finset.Ico 0 104).biUnion (bJ c) = Finset.univ := by
  rw [show bJ c = _ from funext (bJ_eq c)]
  refine Finset.eq_univ_of_forall fun (i : S8192x13312.Idx) => Finset.mem_biUnion.2 ?_
  have h0 : (i 0).val < 8192 := (i 0).isLt
  have h1 : (i 1).val < 13312 := (i 1).isLt
  refine ⟨(i 0).val / 2048 * 26 + (i 1).val / 512, Finset.mem_Ico.2 ⟨by omega, by omega⟩, (mem_bJ _ i).2 ⟨by omega, by omega⟩⟩

/-- What the result holds after the run: each block its product. -/
def G : Buf (Elt F) ((c : Thread nD τ).loc main_v0) := fun (i : S8192x13312.Idx) =>
  vo c fa fw fs (rowr ((i 0).val / 2048)) (col ((i 1).val / 512))
    (fun a : Fin 2 => ⟨(i a).val % S2048x512.size a, Nat.mod_lt _ (by revert a; decide)⟩)

theorem read_G (n : ℕ) : (oblkO (oblkOff (row n) (col n)) (oblk_inb _ _)).view.read (Elt F) (G c fa fw fs) = vo c fa fw fs (row n) (col n) := by
  funext z
  have h0 : (z 0).val < 2048 := (z 0).isLt
  have h1 : (z 1).val < 512 := (z 1).isLt
  have e0 : (((Rect.unit (s := S8192x13312) (oblkOff (row n) (col n)) S2048x512.size (oblk_inb _ _)).emb z) 0).val = 2048 * (n / 26 % 4) + 1 * (z 0).val := rfl
  have e1 : (((Rect.unit (s := S8192x13312) (oblkOff (row n) (col n)) S2048x512.size (oblk_inb _ _)).emb z) 1).val = 512 * (n % 26) + 1 * (z 1).val := rfl
  show G c fa fw fs ((Rect.unit (s := S8192x13312) (oblkOff (row n) (col n)) S2048x512.size (oblk_inb _ _)).emb z) = _
  unfold G
  rw [show rowr ((((Rect.unit (s := S8192x13312) (oblkOff (row n) (col n)) S2048x512.size (oblk_inb _ _)).emb z) 0).val / 2048) = row n from Fin.ext (by rw [e0]; show _ % 4 = _ % 4; omega),
    show col ((((Rect.unit (s := S8192x13312) (oblkOff (row n) (col n)) S2048x512.size (oblk_inb _ _)).emb z) 1).val / 512) = col n from Fin.ext (by rw [e1]; show _ % 26 = _ % 26; omega)]
  congr 1
  funext a
  apply Fin.ext
  match a with
  | ⟨0, _⟩ => show (((Rect.unit (s := S8192x13312) (oblkOff (row n) (col n)) S2048x512.size (oblk_inb _ _)).emb z) 0).val % 2048 = (z 0).val; rw [e0]; omega
  | ⟨1, _⟩ => show (((Rect.unit (s := S8192x13312) (oblkOff (row n) (col n)) S2048x512.size (oblk_inb _ _)).emb z) 1).val % 512 = (z 1).val; rw [e1]; omega

theorem done_G (n : ℕ) : oD c fa fw fs n ⊢ (((c : Thread nD τ).loc main_v0) ↦[bJ c n]{fullShare} G c fa fw fs : sProp 𝕄) := by
  unfold oD oDone
  iintro ⟨%g, %hg, H⟩
  have e : (((c : Thread nD τ).loc main_v0) ↦[bJ c n]{fullShare} g : sProp 𝕄) = (((c : Thread nD τ).loc main_v0) ↦[bJ c n]{fullShare} G c fa fw fs) := by
    refine pointsTo_congr fun i hi => ?_
    obtain ⟨z, -, rfl⟩ := Finset.mem_map.mp hi
    exact congrFun (hg.trans (read_G c fa fw fs n).symm) z
  iapply (of_eq e)
  iexact H

theorem any_of (f : Buf (Elt F) ((c : Thread nD τ).loc main_v0)) (n : ℕ) : (((c : Thread nD τ).loc main_v0) ↦[bJ c n]{fullShare} f : sProp 𝕄) ⊢ oA c n := by
  unfold oA oAny
  iintro H
  iexists f; iexact H

theorem ahead_zero : (iprop(∃ f : Buf (Elt F) ((c : Thread nD τ).loc main_v0), ((c : Thread nD τ).loc main_v0) ↦{fullShare} f) : sProp 𝕄) ⊢ ahead (F := F) c 0 := by
  iintro ⟨%f, H⟩
  ihave H := (of_eq (show (((c : Thread nD τ).loc main_v0) ↦{fullShare} f : sProp 𝕄) = bigSep (Finset.Ico 0 104) fun n => ((c : Thread nD τ).loc main_v0) ↦[bJ c n]{fullShare} f by
    rw [← pointsTo_biUnion (Finset.Ico 0 104) (bJ c) (bJ_disj c), bJ_cover])) $$ H
  unfold ahead
  have h : (bigSep (Finset.Ico 0 104) fun n => (((c : Thread nD τ).loc main_v0) ↦[bJ c n]{fullShare} f : sProp 𝕄)) ⊢ bigSep (Finset.Ico 0 104) fun n => oA c n :=
    bigSep_mono fun n _ => any_of c f n
  iapply h
  iexact H

theorem behind_all : iprop(oD c fa fw fs 103 ∗ behind c fa fw fs 104) ⊢ (((c : Thread nD τ).loc main_v0) ↦{fullShare} G c fa fw fs : sProp 𝕄) := by
  iintro H
  ihave H := (of_eq (show iprop(oD c fa fw fs 103 ∗ behind c fa fw fs 104) = bigSep (Finset.Ico 0 104) fun n => oD c fa fw fs n from
    (behind_step c fa fw fs (k := 104) (by decide)).symm.trans (by unfold behind; rw [show Finset.range (104 + 1 - 1) = Finset.Ico 0 104 by decide +kernel]))) $$ H
  have h : (bigSep (Finset.Ico 0 104) fun n => oD c fa fw fs n) ⊢ bigSep (Finset.Ico 0 104) fun n => (((c : Thread nD τ).loc main_v0) ↦[bJ c n]{fullShare} G c fa fw fs : sProp 𝕄) :=
    bigSep_mono fun n _ => done_G c fa fw fs n
  ihave H := h $$ H
  iapply (of_eq (show bigSep (Finset.Ico 0 104) (fun n => (((c : Thread nD τ).loc main_v0) ↦[bJ c n]{fullShare} G c fa fw fs : sProp 𝕄)) = (((c : Thread nD τ).loc main_v0) ↦{fullShare} G c fa fw fs) by
    rw [← pointsTo_biUnion (Finset.Ico 0 104) (bJ c) (bJ_disj c), bJ_cover]))
  iexact H

/-- The body, from whole buffers to whole buffers. -/
theorem run_whole :
    (iprop(((∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ ((((c : Thread nD τ).loc main_arg0) ↦{fullShare} fa) ∗ (((c : Thread nD τ).loc main_arg1) ↦{fullShare} fw) ∗ (((c : Thread nD τ).loc main_cst) ↦{fullShare} fs))
      ∗ (∃ f : Buf (Elt F) ((c : Thread nD τ).loc main_v0), ((c : Thread nD τ).loc main_v0) ↦{fullShare} f) ∗ owe c) : sProp 𝕄)
    ⊢ wp frame (wpE (defs₀ (F := F)) Variants.none c none) Set.univ (bodyAt0 t0_0)
      (fun _ => iprop(((∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ ((((c : Thread nD τ).loc main_arg0) ↦{fullShare} fa) ∗ (((c : Thread nD τ).loc main_arg1) ↦{fullShare} fw) ∗ (((c : Thread nD τ).loc main_cst) ↦{fullShare} fs))
        ∗ (((c : Thread nD τ).loc main_v0) ↦{fullShare} G c fa fw fs) ∗ owe c)) := by
  refine BIBase.Entails.trans ?_ ((run c fa fw fs).trans (wp_mono _ _ _ fun r => ?_))
  · iintro ⟨⟨R0, R1, R2, R3⟩, ⟨S0, S1, S2, S3, S4, S5, S6, S7⟩, ⟨Ha, Hw, Hs⟩, Hv, HO⟩
    ihave A := (a_split (F := F) c) $$ [R0 S0 S1]
    · isplitl [R0]
      · iexact R0
      isplitl [S0]
      · iexact S0
      · iexact S1
    ihave W := (w_split c fw) $$ [R1 S2 S3 Hw]
    · isplitl [R1]
      · iexact R1
      isplitl [S2]
      · iexact S2
      isplitl [S3]
      · iexact S3
      · iexact Hw
    ihave S := (s_split c fs) $$ [R2 S4 S5 Hs]
    · isplitl [R2]
      · iexact R2
      isplitl [S4]
      · iexact S4
      isplitl [S5]
      · iexact S5
      · iexact Hs
    ihave O := (o_split (F := F) c) $$ [R3 S6 S7]
    · isplitl [R3]
      · iexact R3
      isplitl [S6]
      · iexact S6
      · iexact S7
    ihave B := (ahead_zero (F := F) c) $$ Hv
    icases A with ⟨A0, A1⟩
    icases W with ⟨W0, W1⟩
    icases S with ⟨X0, X1⟩
    icases O with ⟨O0, O1⟩
    isplitl [A0]
    · iexact A0
    isplitl [Ha]
    · unfold aSrc; iexact Ha
    isplitl [A1]
    · iexact A1
    isplitl [W0]
    · iexact W0
    isplitl [W1]
    · iexact W1
    isplitl [X0]
    · iexact X0
    isplitl [X1]
    · iexact X1
    isplitl [O0]
    · iexact O0
    isplitl [O1]
    · iexact O1
    isplitl [B]
    · iexact B
    · iexact HO
  · iintro ⟨A1, Ha, A0, W0, W1, X0, X1, O1, O0, D, B, HO⟩
    unfold aSrc
    ihave A := (a_join (F := F) c) $$ [A0 A1]
    · isplitl [A0]
      · iexact A0
      · unfold aH aHold aI aFree
        icases A1 with ⟨⟨%g, %_, A1⟩, C⟩
        isplitl [A1]
        · iexists g; iexact A1
        · iexact C
    ihave W := (w_join c fw) $$ [W0 W1]
    · isplitl [W0]
      · iexact W0
      · iexact W1
    ihave S := (s_join c fs) $$ [X0 X1]
    · isplitl [X0]
      · iexact X0
      · iexact X1
    ihave O := (o_join (F := F) c) $$ [O0 O1]
    · isplitl [O0]
      · iexact O0
      · iexact O1
    ihave B := (behind_all c fa fw fs) $$ [D B]
    · isplitl [D]
      · iexact D
      · iexact B
    icases A with ⟨R0, S0, S1⟩
    icases W with ⟨R1, S2, S3, Hw⟩
    icases S with ⟨R2, S4, S5, Hs⟩
    icases O with ⟨R3, S6, S7⟩
    iframe

end Cert.KernelIdeal.Hand

end
-- ==== Proof.InProj.Frame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.InProj.Whole

/-!
The in-projection's launch: every run ends, the arguments as they were, every semaphore at zero, the result at `G`.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The body's own semaphores: two for each ring. -/
abbrev osem0 : Fin 8 → SemLoc sig := fun j => (![SemLoc.dma 0, SemLoc.dma 1, SemLoc.dma 2, SemLoc.dma 3, SemLoc.dma 4, SemLoc.dma 5, SemLoc.dma 6, SemLoc.dma 7] : Fin 8 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5, 6, 7] (by decide) (by decide)]; rfl

/-- The buffers the body reads. -/
def H0 : Finset (Ref sig .tc) := {main_arg0, main_arg1, main_cst}
/-- The buffer it writes. -/
def R0 : Finset (Ref sig .tc) := {main_v0}
theorem H0_sub : H0 ⊆ Pipeline.restRefs sig cfg0.spec := by decide
theorem R0_sub : R0 ⊆ Pipeline.restRefs sig cfg0.spec \ H0 := by decide
theorem reads0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1)
          ∗ (((c : Thread nD τ).loc main_cst) ↦{fullShare} V m c main_cst)) := by
  rw [BI.bigSep_eq_bigSepL_of_eq [main_arg0, main_arg1, main_cst] (by decide) (by decide)]; rfl

/-- What each buffer holds after the run. -/
def VG (c : Dev nD) : (b : Ref sig .tc) → Buf (Elt F) ((c.tc : Thread nD τ).loc b) :=
  Function.update (V m c) main_v0 (G c (V m c main_arg0) (V m c main_arg1) (V m c main_cst))
theorem VG_v0 (c : Dev nD) : VG m c main_v0 = G c (V m c main_arg0) (V m c main_arg1) (V m c main_cst) := Function.update_self _ _ _

/-- The proof's data: no window, the body's invariant at the buffers' contents before and after its one point. -/
def dats (_ : Fin 1) (c : Dev nD) : Dat τ (Elt F) Unit ℕ (Pipeline.UD sig nD τ) ℕ cfg0 c where
  A w := V m c (Pipeline.arrRef cfg0.spec w)
  after w _ := w.elim0
  Φ t := if t.val = 0 then Pipeline.ΦDRG osem0 cfg0.spec H0 R0 (V m) (V m) c else Pipeline.ΦDRG osem0 cfg0.spec H0 R0 (V m) (VG m) c
  q _ := fullShare
  owed _ := 0

theorem Phi_first (c : Dev nD) (t : Fin (cfg0.N + 1)) (h : t.val = 0) : (dats m 0 c).Φ t = Pipeline.ΦDRG osem0 cfg0.spec H0 R0 (V m) (V m) c := if_pos h
theorem Phi_last (c : Dev nD) (t : Fin (cfg0.N + 1)) (h : ¬ t.val = 0) : (dats m 0 c).Φ t = Pipeline.ΦDRG osem0 cfg0.spec H0 R0 (V m) (VG m) c := if_neg h

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  have ht : t.castSucc.val = 0 := by rw [fin_N0 t]; rfl
  unfold bodyPre bodyPost
  rw [Phi_first m c _ ht, Phi_last m c t.succ (Nat.succ_ne_zero _), Pipeline.ΦDRG_eq, Pipeline.ΦDRG_eq, scopedRest0_eq, ownSems00_eq, reads0_eq,
    R0, Pipeline.routed_singleton, Pipeline.routed_singleton, VG_v0, show bodyAt0 (F := F) t = bodyAt0 t0_0 from rfl]
  unfold Dat.owesAt Pipeline.owesWithin
  rw [show (dats m 0 c).owed t.castSucc = 0 from rfl, show (dats m 0 c).owed t.succ = 0 from rfl]
  refine BIBase.Entails.trans ?_ ((sep_mono_left (run_whole c (V m c main_arg0) (V m c main_arg1) (V m c main_cst))).trans
    ((wp_frame_r _ _ _ (R := iprop(∃ r, prngReg c r))).trans (wp_mono _ _ _ fun r => ?_)))
  · unfold owe
    iintro ⟨⟨HS, Hg, HQ, HH, HR⟩, ⟨%W, -, HW⟩⟩
    isplitr [Hg]
    · isplitl [HS]
      · iexact HS
      isplitl [HQ]
      · iexact HQ
      isplitl [HH]
      · iexact HH
      isplitl [HR]
      · iexists _; iexact HR
      iexists W; iexact HW
    · iexact Hg
  · unfold owe
    iintro ⟨⟨HS, HQ, HH, HR, ⟨%W, HW⟩⟩, Hg⟩
    isplitr [HW]
    · isplitl [HS]
      · iexact HS
      isplitl [Hg]
      · iexact Hg
      isplitl [HQ]
      · iexact HQ
      isplitl [HH]
      · iexact HH
      · iexact HR
    · iexists W; isplitr
      · ipureintro; exact fun _ _ => Or.inl trivial
      iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  all_goals
    rw [show (Finset.univ : Finset (Fin cfg0.W)) = ∅ from rfl, bigSep_empty]
  · unfold bodyPre
    iintro ⟨H, K, -⟩
    isplitl [H]
    · iexact H
    · iexact K
  · unfold bodyPost
    iintro ⟨H, K⟩
    isplitl [H]
    · iexact H
    isplitl [K]
    · iexact K
    · exact .rfl

/-- Every run's end: the arguments and the result. -/
theorem run_main : θ_run defs (onTc (τ := τ) (main (F := F))) (s₀ m ρ) (fun r => Pipeline.FramePostRG cfgs (dats m) 0 R0 (V m) (VG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain) (hA := fun _ _ => rfl) (G := VG m)
    (hin := fun c => of_eq (Phi_first m c 0 rfl).symm) (hout := fun c => of_eq (Phi_last m c (Fin.last _) (by decide))) (hQ' := fun _ h => h)

/-- The arguments end as they were, the result at `G`, every semaphore at zero. -/
theorem run_post : θ_run defs (onTc (τ := τ) (main (F := F))) ⟨m, fun _ => 0, ρ⟩ (fun r => (∀ c : Dev nD,
      r.2.mem ((c.tc : Thread nD τ).loc main_v0) = G c (m ((c.tc : Thread nD τ).loc main_arg0)) (m ((c.tc : Thread nD τ).loc main_arg1)) (V m c main_cst)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1.2 c main_v0 (by decide)).trans ((VG_v0 m c).trans (by rw [V_main_arg0, V_main_arg1])),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c)⟩, h.2⟩) (run_main m ρ)

end Cert.KernelIdeal.Hand

end
-- ==== Proof.InProj.Scale.lean ====
/-
The column scales the in-projection is given: a table of words, read at a column.
-/
module

public import proofs.«01_k».proof.Proof.InProj.Frame
public import Idealize.ShloMosaic.Lib.Pointwise

@[expose] public section

noncomputable section

namespace Cert.KernelIdeal.Hand

open Cert.KernelIdeal Cert.KernelIdeal.Gen Idealize.ShloMosaic Idealize.ShloMosaic.TcCoe

/-- The scales' words: the query columns', the memory query columns', and one. -/
def word (n : ℕ) : BitVec 32 := if n < 2048 then 0x3E0293EE#32 else if n < 11264 then 0x3F800000#32 else if n < 12288 then 0x3D800000#32 else 0x3F800000#32

theorem lit0_word : ∀ (a : Fin 104) (b : Fin 128), lit0 ⟨128 * a.val + b.val, by show _ < 13312; omega⟩ = word (128 * a.val + b.val) := by decide +kernel

end Cert.KernelIdeal.Hand

end
-- ==== Proof.InProj.Value.lean ====
/-
The in-projection's value at the ideal instance: every element of the result is the row's product with the column of
the first layer's weights, times the column's scale; the textbook reference computes the same.
-/
module

public import proofs.«01_k».proof.Proof.InProj.Scale
public import proofs.«01_k».proof.Proof.Gen.ReferenceIdeal.Run
public import proofs.«01_k».proof.Defs
public import Idealize.ShloMosaic.Lib.Pointwise

@[expose] public section

noncomputable section

namespace Cert.KernelIdeal.Hand

open Cert.KernelIdeal Cert.KernelIdeal.Gen Idealize.ShloMosaic Idealize.ShloMosaic.TcCoe

theorem symm_a (i : Fin 2048) (k : Fin 4096) : (Shape.reshapeEquiv squeezes_S1x2048x4096_S2048x4096.numel_eq).symm (ix3 0 i k) = ix2 i k :=
  (Equiv.symm_apply_eq _).2 (by pointwise)
theorem symm_w (i : Fin 4096) (k : Fin 512) : (Shape.reshapeEquiv squeezes_S1x4096x512_S4096x512.numel_eq).symm (ix3 0 i k) = ix2 i k :=
  (Equiv.symm_apply_eq _).2 (by pointwise)
theorem symm_s (k : Fin 512) : (Shape.reshapeEquiv squeezes_S1x1x512_S1x512.numel_eq).symm (ix3 0 0 k) = ix2 0 k :=
  (Equiv.symm_apply_eq _).2 (by pointwise)

/-- A block of the result at an element: the product of the blocks, times the column's scale. -/
theorem out_apply (va : Vec Ideal S2048x4096 .bf16) (vw : Vec Ideal S4096x512 .f32) (vs : Vec Ideal S1x512 .f32) (i : Fin 2048) (j : Fin 512) :
    outv va vw vs (ix2 i j) = (∑ k : Fin 4096, va (ix2 i k) * vw (ix2 k j)) * vs (ix2 0 j) := by
  unfold outv
  pointwise [k0_pay1, unsq_a, unsq_w, unsq_s]
  rw [symm_s]
  congr 1
  exact Finset.sum_congr rfl fun k _ => by rw [symm_a, symm_w]

theorem va_apply (c : Dev nD) (fa : FVec Ideal S8192x4096 .bf16) (b : Fin 4) (i : Fin 2048) (k : Fin 4096) :
    va (F := Ideal) c fa b (ix2 i k) = fa (ix2 ⟨2048 * b.val + i.val, by omega⟩ k) := by
  refine congrArg fa (funext fun a => Fin.ext ?_)
  match a with
  | ⟨0, _⟩ => exact congrArg (2048 * b.val + ·) (Nat.one_mul _)
  | ⟨1, _⟩ => exact (Nat.zero_add _).trans (Nat.one_mul _)

theorem vw_apply (c : Dev nD) (fw : FVec Ideal S2x4096x13312 .f32) (b : Fin 26) (i : Fin 4096) (k : Fin 512) :
    vw (F := Ideal) c fw b (ix2 i k) = fw (ix3 0 i ⟨512 * b.val + k.val, by omega⟩) := by
  have e : (Rect.unit (s := S4096x13312) (cblkOff b) S4096x512.size (wblk_inb b)).emb (ix2 i k) = ix2 i ⟨512 * b.val + k.val, by omega⟩ := by
    funext a
    apply Fin.ext
    match a with
    | ⟨0, _⟩ => exact (Nat.zero_add _).trans (Nat.one_mul _)
    | ⟨1, _⟩ => exact congrArg (512 * b.val + ·) (Nat.one_mul _)
  have e' : Shape.reshapeEquiv squeezes_S1x4096x13312_S4096x13312.numel_eq (ix2 i ⟨512 * b.val + k.val, by omega⟩) = ix3 0 i ⟨512 * b.val + k.val, by omega⟩ := by pointwise
  show fw ((Rect.unit (s := S2x4096x13312) ![0, 0, 0] S1x4096x13312.size inb_S2x4096x13312_S1x4096x13312_0_0_0).emb
    (Shape.reshapeEquiv squeezes_S1x4096x13312_S4096x13312.numel_eq ((Rect.unit (s := S4096x13312) (cblkOff b) S4096x512.size (wblk_inb b)).emb (ix2 i k)))) = _
  rw [e, e']
  refine congrArg fw (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem vs_apply (c : Dev nD) (fs : FVec Ideal S1x13312 .f32) (b : Fin 26) (k : Fin 512) :
    vs (F := Ideal) c fs b (ix2 0 k) = fs (ix2 0 ⟨512 * b.val + k.val, by omega⟩) := by
  refine congrArg fs (funext fun a => Fin.ext ?_)
  match a with
  | ⟨0, _⟩ => rfl
  | ⟨1, _⟩ => exact congrArg (512 * b.val + ·) (Nat.one_mul _)

/-- The result at an element. -/
theorem G_apply (c : Dev nD) (fa : FVec Ideal S8192x4096 .bf16) (fw : FVec Ideal S2x4096x13312 .f32) (fs : FVec Ideal S1x13312 .f32) (i : Fin 8192) (j : Fin 13312) :
    (G (F := Ideal) c fa fw fs : S8192x13312.Idx → EReal) (ix2 i j)
      = (∑ k : Fin 4096, fa (ix2 i k) * fw (ix3 0 k j)) * fs (ix2 0 j) := by
  have hi := i.isLt
  have hj := j.isLt
  have e : (G (F := Ideal) c fa fw fs : S8192x13312.Idx → EReal) (ix2 i j)
      = vo (F := Ideal) c fa fw fs (rowr (i.val / 2048)) (col (j.val / 512)) (ix2 ⟨i.val % 2048, Nat.mod_lt _ (by decide)⟩ ⟨j.val % 512, Nat.mod_lt _ (by decide)⟩) := by
    refine congrArg (vo (F := Ideal) c fa fw fs (rowr (i.val / 2048)) (col (j.val / 512))) (funext fun a => Fin.ext ?_)
    match a with
    | ⟨0, _⟩ => rfl
    | ⟨1, _⟩ => rfl
  have ei : ∀ h, (⟨2048 * (rowr (i.val / 2048)).val + i.val % 2048, h⟩ : Fin 8192) = i := fun _ => Fin.ext (by
    show 2048 * (i.val / 2048 % 4) + i.val % 2048 = i.val; omega)
  have ej : ∀ h, (⟨512 * (col (j.val / 512)).val + j.val % 512, h⟩ : Fin 13312) = j := fun _ => Fin.ext (by
    show 512 * (j.val / 512 % 26) + j.val % 512 = j.val; omega)
  rw [e]
  unfold vo
  rw [out_apply, vs_apply, ej]
  congr 1
  exact Finset.sum_congr rfl fun k _ => by rw [va_apply, vw_apply, ei, ej]

/-- The scales the kernel is given. -/
theorem cst_apply (m : (ℓ : Loc nD τ sig) → Buf (Elt Ideal) ℓ) (c : Dev nD) (j : Fin 13312) :
    (V m c main_cst : S1x13312.Idx → EReal) (ix2 0 j) = Ideal.ofBits .f32 (word j.val) := by
  have hj := j.isLt
  have e : (V m c main_cst : S1x13312.Idx → EReal) = fun i => Ideal.ofBits .f32 (lit0 (S1x13312.rowMajor i)) := by
    unfold V; after_results; rfl
  rw [e]
  show Ideal.ofBits .f32 (lit0 (S1x13312.rowMajor (ix2 0 j))) = _
  have h := lit0_word ⟨j.val / 128, by omega⟩ ⟨j.val % 128, Nat.mod_lt _ (by decide)⟩
  have hn : 128 * (j.val / 128) + j.val % 128 = j.val := by omega
  simp only [hn] at h
  rw [← h]
  exact congrArg (fun n => Ideal.ofBits .f32 (lit0 n)) (Fin.ext (by rw [Shape.rowMajor_val_two]; show 0 * _ + j.val = j.val; omega))

end Cert.KernelIdeal.Hand

namespace Cert.ReferenceIdeal.Hand

open Cert.ReferenceIdeal Cert.ReferenceIdeal.Gen Idealize.ShloMosaic Idealize.ShloMosaic.TcCoe

/-- The reference's result at an element. -/
theorem ref_apply (fa : FVec Ideal S8192x4096 .bf16) (fw : FVec Ideal S2x4096x13312 .f32) (i : Fin 8192) (j : Fin 13312) :
    (truncf .bf16 ((concatenate S8192x13312 1 [⟨S8192x2048, ((mulf (extractStridedSlice S8192x2048 ![0, 0] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x2048_0_0) (broadcastInDim S8192x2048 ![] bcast_S_S8192x2048 (constant S_ .f32 0x3E0293EE#32))) : (⟨S8192x2048, .f32⟩ : BufTy).Contents (Elt Ideal))⟩, ⟨S8192x9216, ((extractStridedSlice S8192x9216 ![0, 2048] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x9216_0_2048) : (⟨S8192x9216, .f32⟩ : BufTy).Contents (Elt Ideal))⟩, ⟨S8192x1024, ((mulf (extractStridedSlice S8192x1024 ![0, 11264] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x1024_0_11264) (broadcastInDim S8192x1024 ![] bcast_S_S8192x1024 (constant S_ .f32 0x3D800000#32))) : (⟨S8192x1024, .f32⟩ : BufTy).Contents (Elt Ideal))⟩, ⟨S8192x1024, ((extractStridedSlice S8192x1024 ![0, 12288] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x1024_0_12288) : (⟨S8192x1024, .f32⟩ : BufTy).Contents (Elt Ideal))⟩] concatenates_S8192x2048_S8192x9216_S8192x1024_S8192x1024_S8192x13312_d1 : (⟨S8192x13312, .f32⟩ : BufTy).Contents (Elt Ideal))) bitsLt_bf16_f32) (ix2 i j)
      = (∑ k : Fin 4096, fa (ix2 i k) * fw (ix3 0 k j)) * Ideal.ofBits .f32 (KernelIdeal.Hand.word j.val) := by
  have hj := j.isLt
  have one : Ideal.ofBits .f32 0x3F800000#32 = 1 := Ideal.ofBits_one_f32
  pointwise
  unfold KernelIdeal.Hand.word
  by_cases h1 : j.val < 2048
  · rw [dif_pos h1, if_pos h1]
  rw [dif_neg h1, if_neg h1]
  by_cases h2 : j.val < 11264
  · rw [dif_pos (show j.val - 2048 < 9216 by omega), if_pos h2, one, mul_one]
    refine Finset.sum_congr rfl fun k _ => congrArg (fun n => fa (ix2 i k) * fw (ix3 0 k n)) (Fin.ext ?_)
    show 2048 + (j.val - 2048) = j.val
    omega
  rw [dif_neg (show ¬ j.val - 2048 < 9216 by omega), if_neg h2]
  by_cases h3 : j.val < 12288
  · rw [dif_pos (show j.val - 2048 - 9216 < 1024 by omega), if_pos h3]
    refine congrArg (· * _) (Finset.sum_congr rfl fun k _ => congrArg (fun n => fa (ix2 i k) * fw (ix3 0 k n)) (Fin.ext ?_))
    show 11264 + (j.val - 2048 - 9216) = j.val
    omega
  rw [dif_neg (show ¬ j.val - 2048 - 9216 < 1024 by omega), if_neg h3, one, mul_one]
  refine Finset.sum_congr rfl fun k _ => congrArg (fun n => fa (ix2 i k) * fw (ix3 0 k n)) (Fin.ext ?_)
  show 12288 + (j.val - 2048 - 9216 - 1024) = j.val
  omega

/-- The reference's result is what the kernel's run leaves. -/
theorem ref_eq (c : Dev KernelIdeal.nD) (m : (ℓ : Loc KernelIdeal.nD KernelIdeal.τ KernelIdeal.sig) → Buf (Elt Ideal) ℓ)
    (fa : FVec Ideal S8192x4096 .bf16) (fw : FVec Ideal S2x4096x13312 .f32) :
    ((truncf .bf16 ((concatenate S8192x13312 1 [⟨S8192x2048, ((mulf (extractStridedSlice S8192x2048 ![0, 0] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x2048_0_0) (broadcastInDim S8192x2048 ![] bcast_S_S8192x2048 (constant S_ .f32 0x3E0293EE#32))) : (⟨S8192x2048, .f32⟩ : BufTy).Contents (Elt Ideal))⟩, ⟨S8192x9216, ((extractStridedSlice S8192x9216 ![0, 2048] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x9216_0_2048) : (⟨S8192x9216, .f32⟩ : BufTy).Contents (Elt Ideal))⟩, ⟨S8192x1024, ((mulf (extractStridedSlice S8192x1024 ![0, 11264] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x1024_0_11264) (broadcastInDim S8192x1024 ![] bcast_S_S8192x1024 (constant S_ .f32 0x3D800000#32))) : (⟨S8192x1024, .f32⟩ : BufTy).Contents (Elt Ideal))⟩, ⟨S8192x1024, ((extractStridedSlice S8192x1024 ![0, 12288] (Host.dotGeneral dot_S8192x4096_S4096x13312_S8192x13312_1_0_0_1_n_n none (extf .f32 fa bitsLt_bf16_f32) (shapeCast _ (extractStridedSlice S1x4096x13312 ![0, 0, 0] fw slices_S2x4096x13312_S1x4096x13312_0_0_0) shapeCasts_S1x4096x13312_S4096x13312)) slices_S8192x13312_S8192x1024_0_12288) : (⟨S8192x1024, .f32⟩ : BufTy).Contents (Elt Ideal))⟩] concatenates_S8192x2048_S8192x9216_S8192x1024_S8192x1024_S8192x13312_d1 : (⟨S8192x13312, .f32⟩ : BufTy).Contents (Elt Ideal))) bitsLt_bf16_f32) : FVec Ideal S8192x13312 .bf16) = (KernelIdeal.Hand.G (F := Ideal) c fa fw (KernelIdeal.Gen.V m c KernelIdeal.main_cst) : KernelIdeal.S8192x13312.Idx → EReal) := by
  funext x
  obtain ⟨i, j, rfl⟩ : ∃ (i : Fin 8192) (j : Fin 13312), x = ix2 i j := ⟨x 0, x 1, eq_ix2 x⟩
  rw [ref_apply]
  refine Eq.trans ?_ (KernelIdeal.Hand.G_apply c fa fw (KernelIdeal.Gen.V m c KernelIdeal.main_cst) i j).symm
  exact congrArg (_ * ·) (KernelIdeal.Hand.cst_apply m c j).symm

end Cert.ReferenceIdeal.Hand

end
-- ==== Proof.OutProj.Names.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic

/-!
The parts the out-projection's run is told in: the slots of its ten rings, the blocks of its arrays, and what is
known of each while the pipeline runs.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A slot of the ring of the first mixer's rows. -/
abbrev yslotO (off : Fin 3 → Nat) (h : ∀ a, off a + S1x512x2048.size a ≤ S2x512x2048.size a) : Memref sig .tc .vmem S512x2048 .bf16 :=
  ((Memref.whole cc0_scoped0).slice (Rect.unit (s := S2x512x2048) off S1x512x2048.size h) (fun _ => rfl)).squeeze S512x2048 squeezes_S1x512x2048_S512x2048
/-- A block of the first mixer's rows. -/
abbrev yblkO (off : Fin 2 → Nat) (h : ∀ a, off a + S512x2048.size a ≤ S8192x2048.size a) : Memref sig .tc .hbm S512x2048 .bf16 :=
  (Memref.whole main_arg0).slice (Rect.unit (s := S8192x2048) off S512x2048.size h) (fun _ => rfl)

/-- A slot of the ring of the second mixer's rows. -/
abbrev xslotO (off : Fin 3 → Nat) (h : ∀ a, off a + S1x512x1024.size a ≤ S2x512x1024.size a) : Memref sig .tc .vmem S512x1024 .bf16 :=
  ((Memref.whole cc0_scoped2).slice (Rect.unit (s := S2x512x1024) off S1x512x1024.size h) (fun _ => rfl)).squeeze S512x1024 squeezes_S1x512x1024_S512x1024
/-- A block of the second mixer's rows. -/
abbrev xblkO (off : Fin 2 → Nat) (h : ∀ a, off a + S512x1024.size a ≤ S8192x1024.size a) : Memref sig .tc .hbm S512x1024 .bf16 :=
  (Memref.whole main_arg1).slice (Rect.unit (s := S8192x1024) off S512x1024.size h) (fun _ => rfl)

/-- A slot of the ring of the third mixer's rows. -/
abbrev uslotO (off : Fin 3 → Nat) (h : ∀ a, off a + S1x512x1024.size a ≤ S2x512x1024.size a) : Memref sig .tc .vmem S512x1024 .bf16 :=
  ((Memref.whole cc0_scoped4).slice (Rect.unit (s := S2x512x1024) off S1x512x1024.size h) (fun _ => rfl)).squeeze S512x1024 squeezes_S1x512x1024_S512x1024
/-- A block of the third mixer's rows. -/
abbrev ublkO (off : Fin 2 → Nat) (h : ∀ a, off a + S512x1024.size a ≤ S8192x1024.size a) : Memref sig .tc .hbm S512x1024 .bf16 :=
  (Memref.whole main_arg2).slice (Rect.unit (s := S8192x1024) off S512x1024.size h) (fun _ => rfl)

/-- A slot of the ring of the first layer's weights. -/
abbrev wslotO (off : Fin 3 → Nat) (h : ∀ a, off a + S1x4096x1024.size a ≤ S2x4096x1024.size a) : Memref sig .tc .vmem S4096x1024 .f32 :=
  ((Memref.whole cc0_scoped6).slice (Rect.unit (s := S2x4096x1024) off S1x4096x1024.size h) (fun _ => rfl)).squeeze S4096x1024 squeezes_S1x4096x1024_S4096x1024
/-- A block of the first layer's weights. -/
abbrev wblkO (off : Fin 2 → Nat) (h : ∀ a, off a + S4096x1024.size a ≤ S4096x4096.size a) : Memref sig .tc .hbm S4096x1024 .f32 :=
  (((Memref.whole main_arg3).slice (Rect.unit (s := S2x4096x4096) ![0, 0, 0] S1x4096x4096.size inb_S2x4096x4096_S1x4096x4096_0_0_0) (fun _ => rfl)).squeeze S4096x4096 squeezes_S1x4096x4096_S4096x4096).slice (Rect.unit (s := S4096x4096) off S4096x1024.size h) (fun _ => rfl)

/-- A slot of the ring of the layer's input. -/
abbrev zslotO (off : Fin 3 → Nat) (h : ∀ a, off a + S1x512x1024.size a ≤ S2x512x1024.size a) : Memref sig .tc .vmem S512x1024 .f32 :=
  ((Memref.whole cc0_scoped8).slice (Rect.unit (s := S2x512x1024) off S1x512x1024.size h) (fun _ => rfl)).squeeze S512x1024 squeezes_S1x512x1024_S512x1024
/-- A block of the layer's input. -/
abbrev zblkO (off : Fin 2 → Nat) (h : ∀ a, off a + S512x1024.size a ≤ S8192x4096.size a) : Memref sig .tc .hbm S512x1024 .f32 :=
  (Memref.whole main_arg4).slice (Rect.unit (s := S8192x4096) off S512x1024.size h) (fun _ => rfl)

/-- A slot of the ring of the rows' means. -/
abbrev mslotO (off : Fin 3 → Nat) (h : ∀ a, off a + S1x512x128.size a ≤ S2x512x128.size a) : Memref sig .tc .vmem S512x128 .f32 :=
  ((Memref.whole cc0_scoped10).slice (Rect.unit (s := S2x512x128) off S1x512x128.size h) (fun _ => rfl)).squeeze S512x128 squeezes_S1x512x128_S512x128
/-- A block of the rows' means. -/
abbrev mblkO (off : Fin 2 → Nat) (h : ∀ a, off a + S512x128.size a ≤ S8192x128.size a) : Memref sig .tc .hbm S512x128 .f32 :=
  (Memref.whole main_v0).slice (Rect.unit (s := S8192x128) off S512x128.size h) (fun _ => rfl)

/-- A slot of the ring of the rows' reciprocal deviations. -/
abbrev rslotO (off : Fin 3 → Nat) (h : ∀ a, off a + S1x512x128.size a ≤ S2x512x128.size a) : Memref sig .tc .vmem S512x128 .f32 :=
  ((Memref.whole cc0_scoped12).slice (Rect.unit (s := S2x512x128) off S1x512x128.size h) (fun _ => rfl)).squeeze S512x128 squeezes_S1x512x128_S512x128
/-- A block of the rows' reciprocal deviations. -/
abbrev rblkO (off : Fin 2 → Nat) (h : ∀ a, off a + S512x128.size a ≤ S8192x128.size a) : Memref sig .tc .hbm S512x128 .f32 :=
  (Memref.whole main_v1).slice (Rect.unit (s := S8192x128) off S512x128.size h) (fun _ => rfl)

/-- A slot of the ring of the scales. -/
abbrev gslotO (off : Fin 3 → Nat) (h : ∀ a, off a + S1x1x1024.size a ≤ S2x1x1024.size a) : Memref sig .tc .vmem S1x1024 .f32 :=
  ((Memref.whole cc0_scoped14).slice (Rect.unit (s := S2x1x1024) off S1x1x1024.size h) (fun _ => rfl)).squeeze S1x1024 squeezes_S1x1x1024_S1x1024
/-- A block of the scales. -/
abbrev gblkO (off : Fin 2 → Nat) (h : ∀ a, off a + S1x1024.size a ≤ S1x4096.size a) : Memref sig .tc .hbm S1x1024 .f32 :=
  (Memref.whole main_v2).slice (Rect.unit (s := S1x4096) off S1x1024.size h) (fun _ => rfl)

/-- A slot of the ring of the shifts. -/
abbrev bslotO (off : Fin 3 → Nat) (h : ∀ a, off a + S1x1x1024.size a ≤ S2x1x1024.size a) : Memref sig .tc .vmem S1x1024 .f32 :=
  ((Memref.whole cc0_scoped16).slice (Rect.unit (s := S2x1x1024) off S1x1x1024.size h) (fun _ => rfl)).squeeze S1x1024 squeezes_S1x1x1024_S1x1024
/-- A block of the shifts. -/
abbrev bblkO (off : Fin 2 → Nat) (h : ∀ a, off a + S1x1024.size a ≤ S1x4096.size a) : Memref sig .tc .hbm S1x1024 .f32 :=
  (Memref.whole main_v3).slice (Rect.unit (s := S1x4096) off S1x1024.size h) (fun _ => rfl)

/-- A slot of the ring of the result. -/
abbrev oslotO (off : Fin 3 → Nat) (h : ∀ a, off a + S1x512x1024.size a ≤ S2x512x1024.size a) : Memref sig .tc .vmem S512x1024 .f32 :=
  ((Memref.whole cc0_scoped18).slice (Rect.unit (s := S2x512x1024) off S1x512x1024.size h) (fun _ => rfl)).squeeze S512x1024 squeezes_S1x512x1024_S512x1024
/-- A block of the result. -/
abbrev oblkO (off : Fin 2 → Nat) (h : ∀ a, off a + S512x1024.size a ≤ S8192x4096.size a) : Memref sig .tc .hbm S512x1024 .f32 :=
  (Memref.whole main_v4).slice (Rect.unit (s := S8192x4096) off S512x1024.size h) (fun _ => rfl)

/-- A slot's semaphore. -/
abbrev cellO (v : DmaSems sig S2) (off : Fin 1 → Nat) (h : ∀ a, off a + S1.size a ≤ S2.size a) : SemLoc sig :=
  SemLoc.dma ((v.slice (Rect.unit (s := S2) off S1.size h)).squeeze S_ squeezes_S1_S_).sem

/-- A vector of one slot's box, read at the slot's own indices. -/
def unsq_y {α : Type} (v : S512x2048.Idx → α) : S1x512x2048.Idx → α :=
  fun x => v ((Shape.reshapeEquiv squeezes_S1x512x2048_S512x2048.numel_eq).symm x)
theorem yslot_sub {off off' : Fin 3 → Nat} (e : off = off') (h h') :
    (Memref.whole cc0_scoped0).view.setOn (Rect.unit (s := S2x512x2048) off S1x512x2048.size h).set ⊆ (yslotO off' h').view.set := by
  subst e
  rw [Memref.set_view_squeeze]
  exact ((Memref.whole cc0_scoped0).view.set_slice (Rect.unit (s := S2x512x2048) off S1x512x2048.size h)).ge
theorem yslot_load {off off' : Fin 3 → Nat} (e : off = off') (h h')
    (g : (Memref.whole cc0_scoped0).view.ty.Contents (Elt F)) :
    (Memref.whole cc0_scoped0).view.readAt (Elt F) (Rect.unit (s := S2x512x2048) off S1x512x2048.size h).toLoadRect g
      = unsq_y ((yslotO off' h').view.read (Elt F) g) := by
  subst e
  funext x
  show _ = ((Memref.whole cc0_scoped0).view.slice (Rect.unit (s := S2x512x2048) off S1x512x2048.size h)).read (Elt F) g
    (Shape.reshapeEquiv squeezes_S1x512x2048_S512x2048.numel_eq ((Shape.reshapeEquiv squeezes_S1x512x2048_S512x2048.numel_eq).symm x))
  rw [Equiv.apply_symm_apply]
  rfl

/-- A vector of one slot's box, read at the slot's own indices. -/
def unsq_x {α : Type} (v : S512x1024.Idx → α) : S1x512x1024.Idx → α :=
  fun x => v ((Shape.reshapeEquiv squeezes_S1x512x1024_S512x1024.numel_eq).symm x)
theorem xslot_sub {off off' : Fin 3 → Nat} (e : off = off') (h h') :
    (Memref.whole cc0_scoped2).view.setOn (Rect.unit (s := S2x512x1024) off S1x512x1024.size h).set ⊆ (xslotO off' h').view.set := by
  subst e
  rw [Memref.set_view_squeeze]
  exact ((Memref.whole cc0_scoped2).view.set_slice (Rect.unit (s := S2x512x1024) off S1x512x1024.size h)).ge
theorem xslot_load {off off' : Fin 3 → Nat} (e : off = off') (h h')
    (g : (Memref.whole cc0_scoped2).view.ty.Contents (Elt F)) :
    (Memref.whole cc0_scoped2).view.readAt (Elt F) (Rect.unit (s := S2x512x1024) off S1x512x1024.size h).toLoadRect g
      = unsq_x ((xslotO off' h').view.read (Elt F) g) := by
  subst e
  funext x
  show _ = ((Memref.whole cc0_scoped2).view.slice (Rect.unit (s := S2x512x1024) off S1x512x1024.size h)).read (Elt F) g
    (Shape.reshapeEquiv squeezes_S1x512x1024_S512x1024.numel_eq ((Shape.reshapeEquiv squeezes_S1x512x1024_S512x1024.numel_eq).symm x))
  rw [Equiv.apply_symm_apply]
  rfl

/-- A vector of one slot's box, read at the slot's own indices. -/
def unsq_u {α : Type} (v : S512x1024.Idx → α) : S1x512x1024.Idx → α :=
  fun x => v ((Shape.reshapeEquiv squeezes_S1x512x1024_S512x1024.numel_eq).symm x)
theorem uslot_sub {off off' : Fin 3 → Nat} (e : off = off') (h h') :
    (Memref.whole cc0_scoped4).view.setOn (Rect.unit (s := S2x512x1024) off S1x512x1024.size h).set ⊆ (uslotO off' h').view.set := by
  subst e
  rw [Memref.set_view_squeeze]
  exact ((Memref.whole cc0_scoped4).view.set_slice (Rect.unit (s := S2x512x1024) off S1x512x1024.size h)).ge
theorem uslot_load {off off' : Fin 3 → Nat} (e : off = off') (h h')
    (g : (Memref.whole cc0_scoped4).view.ty.Contents (Elt F)) :
    (Memref.whole cc0_scoped4).view.readAt (Elt F) (Rect.unit (s := S2x512x1024) off S1x512x1024.size h).toLoadRect g
      = unsq_u ((uslotO off' h').view.read (Elt F) g) := by
  subst e
  funext x
  show _ = ((Memref.whole cc0_scoped4).view.slice (Rect.unit (s := S2x512x1024) off S1x512x1024.size h)).read (Elt F) g
    (Shape.reshapeEquiv squeezes_S1x512x1024_S512x1024.numel_eq ((Shape.reshapeEquiv squeezes_S1x512x1024_S512x1024.numel_eq).symm x))
  rw [Equiv.apply_symm_apply]
  rfl

/-- A load of part of a slot of the weights touches the slot's elements. -/
theorem wslot_sub {off off' : Fin 3 → Nat} (e : off = off') (h h') (s : Finset S4096x1024.Idx) :
    (wslotO off h).view.setOn s ⊆ (wslotO off' h').view.set := by
  subst e
  exact View.setOn_subset_set _ _

/-! The rows of the weights that belong to each of the three mixers. -/
def wtop {α : Type} (v : S4096x1024.Idx → α) : S2048x1024.Idx → α :=
  fun x => v ((Rect.unit (s := S4096x1024) ![0, 0] S2048x1024.size inb_S4096x1024_S2048x1024_0_0).toLoadRect.idx x)
def wmid {α : Type} (v : S4096x1024.Idx → α) : S1024x1024.Idx → α :=
  fun x => v ((Rect.unit (s := S4096x1024) ![2048, 0] S1024x1024.size inb_S4096x1024_S1024x1024_2048_0).toLoadRect.idx x)
def wbot {α : Type} (v : S4096x1024.Idx → α) : S1024x1024.Idx → α :=
  fun x => v ((Rect.unit (s := S4096x1024) ![3072, 0] S1024x1024.size inb_S4096x1024_S1024x1024_3072_0).toLoadRect.idx x)
theorem wtop_load {off off' : Fin 3 → Nat} (e : off = off') (h h') (g : (Memref.whole cc0_scoped6).view.ty.Contents (Elt F)) :
    (wslotO off h).view.readAt (Elt F) (Rect.unit (s := S4096x1024) ![0, 0] S2048x1024.size inb_S4096x1024_S2048x1024_0_0).toLoadRect g
      = wtop ((wslotO off' h').view.read (Elt F) g) := by
  subst e; rfl
theorem wmid_load {off off' : Fin 3 → Nat} (e : off = off') (h h') (g : (Memref.whole cc0_scoped6).view.ty.Contents (Elt F)) :
    (wslotO off h).view.readAt (Elt F) (Rect.unit (s := S4096x1024) ![2048, 0] S1024x1024.size inb_S4096x1024_S1024x1024_2048_0).toLoadRect g
      = wmid ((wslotO off' h').view.read (Elt F) g) := by
  subst e; rfl
theorem wbot_load {off off' : Fin 3 → Nat} (e : off = off') (h h') (g : (Memref.whole cc0_scoped6).view.ty.Contents (Elt F)) :
    (wslotO off h).view.readAt (Elt F) (Rect.unit (s := S4096x1024) ![3072, 0] S1024x1024.size inb_S4096x1024_S1024x1024_3072_0).toLoadRect g
      = wbot ((wslotO off' h').view.read (Elt F) g) := by
  subst e; rfl

/-- A vector of one slot's box, read at the slot's own indices. -/
def unsq_z {α : Type} (v : S512x1024.Idx → α) : S1x512x1024.Idx → α :=
  fun x => v ((Shape.reshapeEquiv squeezes_S1x512x1024_S512x1024.numel_eq).symm x)
theorem zslot_sub {off off' : Fin 3 → Nat} (e : off = off') (h h') :
    (Memref.whole cc0_scoped8).view.setOn (Rect.unit (s := S2x512x1024) off S1x512x1024.size h).set ⊆ (zslotO off' h').view.set := by
  subst e
  rw [Memref.set_view_squeeze]
  exact ((Memref.whole cc0_scoped8).view.set_slice (Rect.unit (s := S2x512x1024) off S1x512x1024.size h)).ge
theorem zslot_load {off off' : Fin 3 → Nat} (e : off = off') (h h')
    (g : (Memref.whole cc0_scoped8).view.ty.Contents (Elt F)) :
    (Memref.whole cc0_scoped8).view.readAt (Elt F) (Rect.unit (s := S2x512x1024) off S1x512x1024.size h).toLoadRect g
      = unsq_z ((zslotO off' h').view.read (Elt F) g) := by
  subst e
  funext x
  show _ = ((Memref.whole cc0_scoped8).view.slice (Rect.unit (s := S2x512x1024) off S1x512x1024.size h)).read (Elt F) g
    (Shape.reshapeEquiv squeezes_S1x512x1024_S512x1024.numel_eq ((Shape.reshapeEquiv squeezes_S1x512x1024_S512x1024.numel_eq).symm x))
  rw [Equiv.apply_symm_apply]
  rfl

/-- A vector of one slot's box, read at the slot's own indices. -/
def unsq_m {α : Type} (v : S512x128.Idx → α) : S1x512x128.Idx → α :=
  fun x => v ((Shape.reshapeEquiv squeezes_S1x512x128_S512x128.numel_eq).symm x)
theorem mslot_sub {off off' : Fin 3 → Nat} (e : off = off') (h h') :
    (Memref.whole cc0_scoped10).view.setOn (Rect.unit (s := S2x512x128) off S1x512x128.size h).set ⊆ (mslotO off' h').view.set := by
  subst e
  rw [Memref.set_view_squeeze]
  exact ((Memref.whole cc0_scoped10).view.set_slice (Rect.unit (s := S2x512x128) off S1x512x128.size h)).ge
theorem mslot_load {off off' : Fin 3 → Nat} (e : off = off') (h h')
    (g : (Memref.whole cc0_scoped10).view.ty.Contents (Elt F)) :
    (Memref.whole cc0_scoped10).view.readAt (Elt F) (Rect.unit (s := S2x512x128) off S1x512x128.size h).toLoadRect g
      = unsq_m ((mslotO off' h').view.read (Elt F) g) := by
  subst e
  funext x
  show _ = ((Memref.whole cc0_scoped10).view.slice (Rect.unit (s := S2x512x128) off S1x512x128.size h)).read (Elt F) g
    (Shape.reshapeEquiv squeezes_S1x512x128_S512x128.numel_eq ((Shape.reshapeEquiv squeezes_S1x512x128_S512x128.numel_eq).symm x))
  rw [Equiv.apply_symm_apply]
  rfl

/-- A vector of one slot's box, read at the slot's own indices. -/
def unsq_r {α : Type} (v : S512x128.Idx → α) : S1x512x128.Idx → α :=
  fun x => v ((Shape.reshapeEquiv squeezes_S1x512x128_S512x128.numel_eq).symm x)
theorem rslot_sub {off off' : Fin 3 → Nat} (e : off = off') (h h') :
    (Memref.whole cc0_scoped12).view.setOn (Rect.unit (s := S2x512x128) off S1x512x128.size h).set ⊆ (rslotO off' h').view.set := by
  subst e
  rw [Memref.set_view_squeeze]
  exact ((Memref.whole cc0_scoped12).view.set_slice (Rect.unit (s := S2x512x128) off S1x512x128.size h)).ge
theorem rslot_load {off off' : Fin 3 → Nat} (e : off = off') (h h')
    (g : (Memref.whole cc0_scoped12).view.ty.Contents (Elt F)) :
    (Memref.whole cc0_scoped12).view.readAt (Elt F) (Rect.unit (s := S2x512x128) off S1x512x128.size h).toLoadRect g
      = unsq_r ((rslotO off' h').view.read (Elt F) g) := by
  subst e
  funext x
  show _ = ((Memref.whole cc0_scoped12).view.slice (Rect.unit (s := S2x512x128) off S1x512x128.size h)).read (Elt F) g
    (Shape.reshapeEquiv squeezes_S1x512x128_S512x128.numel_eq ((Shape.reshapeEquiv squeezes_S1x512x128_S512x128.numel_eq).symm x))
  rw [Equiv.apply_symm_apply]
  rfl

/-- A vector of one slot's box, read at the slot's own indices. -/
def unsq_g {α : Type} (v : S1x1024.Idx → α) : S1x1x1024.Idx → α :=
  fun x => v ((Shape.reshapeEquiv squeezes_S1x1x1024_S1x1024.numel_eq).symm x)
theorem gslot_sub {off off' : Fin 3 → Nat} (e : off = off') (h h') :
    (Memref.whole cc0_scoped14).view.setOn (Rect.unit (s := S2x1x1024) off S1x1x1024.size h).set ⊆ (gslotO off' h').view.set := by
  subst e
  rw [Memref.set_view_squeeze]
  exact ((Memref.whole cc0_scoped14).view.set_slice (Rect.unit (s := S2x1x1024) off S1x1x1024.size h)).ge
theorem gslot_load {off off' : Fin 3 → Nat} (e : off = off') (h h')
    (g : (Memref.whole cc0_scoped14).view.ty.Contents (Elt F)) :
    (Memref.whole cc0_scoped14).view.readAt (Elt F) (Rect.unit (s := S2x1x1024) off S1x1x1024.size h).toLoadRect g
      = unsq_g ((gslotO off' h').view.read (Elt F) g) := by
  subst e
  funext x
  show _ = ((Memref.whole cc0_scoped14).view.slice (Rect.unit (s := S2x1x1024) off S1x1x1024.size h)).read (Elt F) g
    (Shape.reshapeEquiv squeezes_S1x1x1024_S1x1024.numel_eq ((Shape.reshapeEquiv squeezes_S1x1x1024_S1x1024.numel_eq).symm x))
  rw [Equiv.apply_symm_apply]
  rfl

/-- A vector of one slot's box, read at the slot's own indices. -/
def unsq_b {α : Type} (v : S1x1024.Idx → α) : S1x1x1024.Idx → α :=
  fun x => v ((Shape.reshapeEquiv squeezes_S1x1x1024_S1x1024.numel_eq).symm x)
theorem bslot_sub {off off' : Fin 3 → Nat} (e : off = off') (h h') :
    (Memref.whole cc0_scoped16).view.setOn (Rect.unit (s := S2x1x1024) off S1x1x1024.size h).set ⊆ (bslotO off' h').view.set := by
  subst e
  rw [Memref.set_view_squeeze]
  exact ((Memref.whole cc0_scoped16).view.set_slice (Rect.unit (s := S2x1x1024) off S1x1x1024.size h)).ge
theorem bslot_load {off off' : Fin 3 → Nat} (e : off = off') (h h')
    (g : (Memref.whole cc0_scoped16).view.ty.Contents (Elt F)) :
    (Memref.whole cc0_scoped16).view.readAt (Elt F) (Rect.unit (s := S2x1x1024) off S1x1x1024.size h).toLoadRect g
      = unsq_b ((bslotO off' h').view.read (Elt F) g) := by
  subst e
  funext x
  show _ = ((Memref.whole cc0_scoped16).view.slice (Rect.unit (s := S2x1x1024) off S1x1x1024.size h)).read (Elt F) g
    (Shape.reshapeEquiv squeezes_S1x1x1024_S1x1024.numel_eq ((Shape.reshapeEquiv squeezes_S1x1x1024_S1x1024.numel_eq).symm x))
  rw [Equiv.apply_symm_apply]
  rfl

/-- A vector of one slot's box, read at the slot's own indices. -/
def unsq_o {α : Type} (v : S512x1024.Idx → α) : S1x512x1024.Idx → α :=
  fun x => v ((Shape.reshapeEquiv squeezes_S1x512x1024_S512x1024.numel_eq).symm x)
theorem oslot_sub {off off' : Fin 3 → Nat} (e : off = off') (h h') :
    (Memref.whole cc0_scoped18).view.setOn (Rect.unit (s := S2x512x1024) off S1x512x1024.size h).set ⊆ (oslotO off' h').view.set := by
  subst e
  rw [Memref.set_view_squeeze]
  exact ((Memref.whole cc0_scoped18).view.set_slice (Rect.unit (s := S2x512x1024) off S1x512x1024.size h)).ge
theorem oslot_load {off off' : Fin 3 → Nat} (e : off = off') (h h')
    (g : (Memref.whole cc0_scoped18).view.ty.Contents (Elt F)) :
    (Memref.whole cc0_scoped18).view.readAt (Elt F) (Rect.unit (s := S2x512x1024) off S1x512x1024.size h).toLoadRect g
      = unsq_o ((oslotO off' h').view.read (Elt F) g) := by
  subst e
  funext x
  show _ = ((Memref.whole cc0_scoped18).view.slice (Rect.unit (s := S2x512x1024) off S1x512x1024.size h)).read (Elt F) g
    (Shape.reshapeEquiv squeezes_S1x512x1024_S512x1024.numel_eq ((Shape.reshapeEquiv squeezes_S1x512x1024_S512x1024.numel_eq).symm x))
  rw [Equiv.apply_symm_apply]
  rfl

/-- The elements a store of a result slot's box touches are the slot's. -/
theorem oslot_sub' {off off' : Fin 3 → Nat} (e : off = off') (h h') :
    ((Memref.whole cc0_scoped18).access (Rect.unit (s := S2x512x1024) off S1x512x1024.size h)).setOn Finset.univ ⊆ (oslotO off' h').view.set := by
  subst e
  rw [Memref.set_view_squeeze]
  exact View.setOn_subset_set _ _

/-- One step's result, from the blocks it reads, as the body computes it: the three mixers' products added, and
    the normalized input. -/
def outv (vy : Vec F S512x2048 .bf16) (vx : Vec F S512x1024 .bf16) (vu : Vec F S512x1024 .bf16) (vw : Vec F S4096x1024 .f32) (vz : Vec F S512x1024 .f32) (vm : Vec F S512x128 .f32) (vr : Vec F S512x128 .f32) (vg : Vec F S1x1024 .f32) (vb : Vec F S1x1024 .f32) : Vec F S512x1024 .f32 :=
  fun i => k0_pay4 (k0_pay2 (k0_pay1 (unsq_y vy)) (wtop vw) (unsq_x vx) (wmid vw) (unsq_u vu) (wbot vw))
    (k0_pay3 (unsq_z vz) (unsq_m vm) (unsq_r vr)) (unsq_g vg) (unsq_b vb) (Shape.reshapeEquiv squeezes_S1x512x1024_S512x1024.numel_eq i)

/-- What is stored through a result slot's box is what the slot then holds. -/
theorem oslot_store {off off' : Fin 3 → Nat} (e : off = off') (h h') (g : (Memref.whole cc0_scoped18).view.ty.Contents (Elt F))
    (x : Vec F S1x512x1024 .f32) (i : S512x1024.Idx) :
    (oslotO off' h').view.read (Elt F) (((Memref.whole cc0_scoped18).access (Rect.unit (s := S2x512x1024) off S1x512x1024.size h)).write (Elt F) g x Finset.univ) i
      = x (Shape.reshapeEquiv squeezes_S1x512x1024_S512x1024.numel_eq i) := by
  subst e
  exact congrFun (View.read_write_univ (v := ((Memref.whole cc0_scoped18).access (Rect.unit (s := S2x512x1024) off S1x512x1024.size h))) (Val := Elt F) g x) _

/-- What the arrays the body reads hold. -/
structure Src (F : FTy → Type) [FloatOps F] (c : Dev nD) where
  y : Buf (Elt F) ((Memref.whole main_arg0).view.loc (c : Thread nD τ))
  x : Buf (Elt F) ((Memref.whole main_arg1).view.loc (c : Thread nD τ))
  u : Buf (Elt F) ((Memref.whole main_arg2).view.loc (c : Thread nD τ))
  w : Buf (Elt F) ((Memref.whole main_arg3).view.loc (c : Thread nD τ))
  z : Buf (Elt F) ((Memref.whole main_arg4).view.loc (c : Thread nD τ))
  m : Buf (Elt F) ((Memref.whole main_v0).view.loc (c : Thread nD τ))
  r : Buf (Elt F) ((Memref.whole main_v1).view.loc (c : Thread nD τ))
  g : Buf (Elt F) ((Memref.whole main_v2).view.loc (c : Thread nD τ))
  b : Buf (Elt F) ((Memref.whole main_v3).view.loc (c : Thread nD τ))

/-- A slot of the ring of the first mixer's rows no transfer is in flight to, with its share of the array. -/
def yFree (c : Dev nD) (f : Buf (Elt F) ((Memref.whole main_arg0).view.loc (c : Thread nD τ))) (off : Fin 3 → Nat) (h : ∀ a, off a + S1x512x2048.size a ≤ S2x512x2048.size a) (cell : SemLoc sig) (q : PosShare TreeShare) : sProp 𝕄 :=
  iprop((∃ g, ((yslotO off h).view.loc (c : Thread nD τ) ↦[(yslotO off h).view.set]{fullShare} g)) ∗ semVal ((c : Thread nD τ), cell) 0 ∗ ((Memref.whole main_arg0).view.loc (c : Thread nD τ) ↦[Finset.univ]{q} f))
/-- A slot of the ring of the first mixer's rows a block is in flight to, with its share of the array. -/
def yFly (c : Dev nD) (f : Buf (Elt F) ((Memref.whole main_arg0).view.loc (c : Thread nD τ))) (off : Fin 3 → Nat) (h : ∀ a, off a + S1x512x2048.size a ≤ S2x512x2048.size a) (cell : SemLoc sig) (bo : Fin 2 → Nat) (bh : ∀ a, bo a + S512x2048.size a ≤ S8192x2048.size a) (q : PosShare TreeShare) : sProp 𝕄 :=
  iprop(∃ g, ⌜(yslotO off h).view.read (Elt F) g = (yblkO bo bh).view.read (Elt F) f⌝
    ∗ Transfers.Flight (countersEmb (U := Pipeline.UD sig nD τ)) (c : Thread nD τ) cell default 65536 iprop(((yslotO off h).view.loc (c : Thread nD τ) ↦[(yslotO off h).view.set]{fullShare} g) ∗ ((Memref.whole main_arg0).view.loc (c : Thread nD τ) ↦[(yblkO bo bh).view.set]{q} f))
    ∗ ((Memref.whole main_arg0).view.loc (c : Thread nD τ) ↦[Finset.univ \ (yblkO bo bh).view.set]{q} f))

/-- A slot of the ring of the second mixer's rows no transfer is in flight to, with its share of the array. -/
def xFree (c : Dev nD) (f : Buf (Elt F) ((Memref.whole main_arg1).view.loc (c : Thread nD τ))) (off : Fin 3 → Nat) (h : ∀ a, off a + S1x512x1024.size a ≤ S2x512x1024.size a) (cell : SemLoc sig) (q : PosShare TreeShare) : sProp 𝕄 :=
  iprop((∃ g, ((xslotO off h).view.loc (c : Thread nD τ) ↦[(xslotO off h).view.set]{fullShare} g)) ∗ semVal ((c : Thread nD τ), cell) 0 ∗ ((Memref.whole main_arg1).view.loc (c : Thread nD τ) ↦[Finset.univ]{q} f))
/-- A slot of the ring of the second mixer's rows a block is in flight to, with its share of the array. -/
def xFly (c : Dev nD) (f : Buf (Elt F) ((Memref.whole main_arg1).view.loc (c : Thread nD τ))) (off : Fin 3 → Nat) (h : ∀ a, off a + S1x512x1024.size a ≤ S2x512x1024.size a) (cell : SemLoc sig) (bo : Fin 2 → Nat) (bh : ∀ a, bo a + S512x1024.size a ≤ S8192x1024.size a) (q : PosShare TreeShare) : sProp 𝕄 :=
  iprop(∃ g, ⌜(xslotO off h).view.read (Elt F) g = (xblkO bo bh).view.read (Elt F) f⌝
    ∗ Transfers.Flight (countersEmb (U := Pipeline.UD sig nD τ)) (c : Thread nD τ) cell default 32768 iprop(((xslotO off h).view.loc (c : Thread nD τ) ↦[(xslotO off h).view.set]{fullShare} g) ∗ ((Memref.whole main_arg1).view.loc (c : Thread nD τ) ↦[(xblkO bo bh).view.set]{q} f))
    ∗ ((Memref.whole main_arg1).view.loc (c : Thread nD τ) ↦[Finset.univ \ (xblkO bo bh).view.set]{q} f))

/-- A slot of the ring of the third mixer's rows no transfer is in flight to, with its share of the array. -/
def uFree (c : Dev nD) (f : Buf (Elt F) ((Memref.whole main_arg2).view.loc (c : Thread nD τ))) (off : Fin 3 → Nat) (h : ∀ a, off a + S1x512x1024.size a ≤ S2x512x1024.size a) (cell : SemLoc sig) (q : PosShare TreeShare) : sProp 𝕄 :=
  iprop((∃ g, ((uslotO off h).view.loc (c : Thread nD τ) ↦[(uslotO off h).view.set]{fullShare} g)) ∗ semVal ((c : Thread nD τ), cell) 0 ∗ ((Memref.whole main_arg2).view.loc (c : Thread nD τ) ↦[Finset.univ]{q} f))
/-- A slot of the ring of the third mixer's rows a block is in flight to, with its share of the array. -/
def uFly (c : Dev nD) (f : Buf (Elt F) ((Memref.whole main_arg2).view.loc (c : Thread nD τ))) (off : Fin 3 → Nat) (h : ∀ a, off a + S1x512x1024.size a ≤ S2x512x1024.size a) (cell : SemLoc sig) (bo : Fin 2 → Nat) (bh : ∀ a, bo a + S512x1024.size a ≤ S8192x1024.size a) (q : PosShare TreeShare) : sProp 𝕄 :=
  iprop(∃ g, ⌜(uslotO off h).view.read (Elt F) g = (ublkO bo bh).view.read (Elt F) f⌝
    ∗ Transfers.Flight (countersEmb (U := Pipeline.UD sig nD τ)) (c : Thread nD τ) cell default 32768 iprop(((uslotO off h).view.loc (c : Thread nD τ) ↦[(uslotO off h).view.set]{fullShare} g) ∗ ((Memref.whole main_arg2).view.loc (c : Thread nD τ) ↦[(ublkO bo bh).view.set]{q} f))
    ∗ ((Memref.whole main_arg2).view.loc (c : Thread nD τ) ↦[Finset.univ \ (ublkO bo bh).view.set]{q} f))

/-- A slot of the ring of the first layer's weights no transfer is in flight to, whatever it holds. -/
def wFree (c : Dev nD) (off : Fin 3 → Nat) (h : ∀ a, off a + S1x4096x1024.size a ≤ S2x4096x1024.size a) (cell : SemLoc sig) : sProp 𝕄 :=
  iprop((∃ g : Buf (Elt F) ((Memref.whole cc0_scoped6).view.loc (c : Thread nD τ)), ((wslotO off h).view.loc (c : Thread nD τ) ↦[(wslotO off h).view.set]{fullShare} g)) ∗ semVal ((c : Thread nD τ), cell) 0)
/-- A slot of the ring of the first layer's weights that holds the block `v`. -/
def wHold (c : Dev nD) (off : Fin 3 → Nat) (h : ∀ a, off a + S1x4096x1024.size a ≤ S2x4096x1024.size a) (cell : SemLoc sig) (v : Vec F S4096x1024 .f32) : sProp 𝕄 :=
  iprop((∃ g, ⌜(wslotO off h).view.read (Elt F) g = v⌝ ∗ ((wslotO off h).view.loc (c : Thread nD τ) ↦[(wslotO off h).view.set]{fullShare} g)) ∗ semVal ((c : Thread nD τ), cell) 0)
/-- The array of the first layer's weights, no block of which is in flight. -/
def wSrc (c : Dev nD) (f : Buf (Elt F) ((Memref.whole main_arg3).view.loc (c : Thread nD τ))) : sProp 𝕄 := ((Memref.whole main_arg3).view.loc (c : Thread nD τ) ↦[Finset.univ]{fullShare} f)
/-- A slot of the ring of the first layer's weights a block is in flight to, with the array. -/
def wFly (c : Dev nD) (f : Buf (Elt F) ((Memref.whole main_arg3).view.loc (c : Thread nD τ))) (off : Fin 3 → Nat) (h : ∀ a, off a + S1x4096x1024.size a ≤ S2x4096x1024.size a) (cell : SemLoc sig) (bo : Fin 2 → Nat) (bh : ∀ a, bo a + S4096x1024.size a ≤ S4096x4096.size a) : sProp 𝕄 :=
  iprop(∃ g, ⌜(wslotO off h).view.read (Elt F) g = (wblkO bo bh).view.read (Elt F) f⌝
    ∗ Transfers.Flight (countersEmb (U := Pipeline.UD sig nD τ)) (c : Thread nD τ) cell default 524288 iprop(((wslotO off h).view.loc (c : Thread nD τ) ↦[(wslotO off h).view.set]{fullShare} g) ∗ ((Memref.whole main_arg3).view.loc (c : Thread nD τ) ↦[(wblkO bo bh).view.set]{fullShare} f))
    ∗ ((Memref.whole main_arg3).view.loc (c : Thread nD τ) ↦[Finset.univ \ (wblkO bo bh).view.set]{fullShare} f))

/-- A slot of the ring of the layer's input no transfer is in flight to, with its share of the array. -/
def zFree (c : Dev nD) (f : Buf (Elt F) ((Memref.whole main_arg4).view.loc (c : Thread nD τ))) (off : Fin 3 → Nat) (h : ∀ a, off a + S1x512x1024.size a ≤ S2x512x1024.size a) (cell : SemLoc sig) (q : PosShare TreeShare) : sProp 𝕄 :=
  iprop((∃ g, ((zslotO off h).view.loc (c : Thread nD τ) ↦[(zslotO off h).view.set]{fullShare} g)) ∗ semVal ((c : Thread nD τ), cell) 0 ∗ ((Memref.whole main_arg4).view.loc (c : Thread nD τ) ↦[Finset.univ]{q} f))
/-- A slot of the ring of the layer's input a block is in flight to, with its share of the array. -/
def zFly (c : Dev nD) (f : Buf (Elt F) ((Memref.whole main_arg4).view.loc (c : Thread nD τ))) (off : Fin 3 → Nat) (h : ∀ a, off a + S1x512x1024.size a ≤ S2x512x1024.size a) (cell : SemLoc sig) (bo : Fin 2 → Nat) (bh : ∀ a, bo a + S512x1024.size a ≤ S8192x4096.size a) (q : PosShare TreeShare) : sProp 𝕄 :=
  iprop(∃ g, ⌜(zslotO off h).view.read (Elt F) g = (zblkO bo bh).view.read (Elt F) f⌝
    ∗ Transfers.Flight (countersEmb (U := Pipeline.UD sig nD τ)) (c : Thread nD τ) cell default 65536 iprop(((zslotO off h).view.loc (c : Thread nD τ) ↦[(zslotO off h).view.set]{fullShare} g) ∗ ((Memref.whole main_arg4).view.loc (c : Thread nD τ) ↦[(zblkO bo bh).view.set]{q} f))
    ∗ ((Memref.whole main_arg4).view.loc (c : Thread nD τ) ↦[Finset.univ \ (zblkO bo bh).view.set]{q} f))

/-- A slot of the ring of the rows' means no transfer is in flight to, with its share of the array. -/
def mFree (c : Dev nD) (f : Buf (Elt F) ((Memref.whole main_v0).view.loc (c : Thread nD τ))) (off : Fin 3 → Nat) (h : ∀ a, off a + S1x512x128.size a ≤ S2x512x128.size a) (cell : SemLoc sig) (q : PosShare TreeShare) : sProp 𝕄 :=
  iprop((∃ g, ((mslotO off h).view.loc (c : Thread nD τ) ↦[(mslotO off h).view.set]{fullShare} g)) ∗ semVal ((c : Thread nD τ), cell) 0 ∗ ((Memref.whole main_v0).view.loc (c : Thread nD τ) ↦[Finset.univ]{q} f))
/-- A slot of the ring of the rows' means a block is in flight to, with its share of the array. -/
def mFly (c : Dev nD) (f : Buf (Elt F) ((Memref.whole main_v0).view.loc (c : Thread nD τ))) (off : Fin 3 → Nat) (h : ∀ a, off a + S1x512x128.size a ≤ S2x512x128.size a) (cell : SemLoc sig) (bo : Fin 2 → Nat) (bh : ∀ a, bo a + S512x128.size a ≤ S8192x128.size a) (q : PosShare TreeShare) : sProp 𝕄 :=
  iprop(∃ g, ⌜(mslotO off h).view.read (Elt F) g = (mblkO bo bh).view.read (Elt F) f⌝
    ∗ Transfers.Flight (countersEmb (U := Pipeline.UD sig nD τ)) (c : Thread nD τ) cell default 8192 iprop(((mslotO off h).view.loc (c : Thread nD τ) ↦[(mslotO off h).view.set]{fullShare} g) ∗ ((Memref.whole main_v0).view.loc (c : Thread nD τ) ↦[(mblkO bo bh).view.set]{q} f))
    ∗ ((Memref.whole main_v0).view.loc (c : Thread nD τ) ↦[Finset.univ \ (mblkO bo bh).view.set]{q} f))

/-- A slot of the ring of the rows' reciprocal deviations no transfer is in flight to, with its share of the array. -/
def rFree (c : Dev nD) (f : Buf (Elt F) ((Memref.whole main_v1).view.loc (c : Thread nD τ))) (off : Fin 3 → Nat) (h : ∀ a, off a + S1x512x128.size a ≤ S2x512x128.size a) (cell : SemLoc sig) (q : PosShare TreeShare) : sProp 𝕄 :=
  iprop((∃ g, ((rslotO off h).view.loc (c : Thread nD τ) ↦[(rslotO off h).view.set]{fullShare} g)) ∗ semVal ((c : Thread nD τ), cell) 0 ∗ ((Memref.whole main_v1).view.loc (c : Thread nD τ) ↦[Finset.univ]{q} f))
/-- A slot of the ring of the rows' reciprocal deviations a block is in flight to, with its share of the array. -/
def rFly (c : Dev nD) (f : Buf (Elt F) ((Memref.whole main_v1).view.loc (c : Thread nD τ))) (off : Fin 3 → Nat) (h : ∀ a, off a + S1x512x128.size a ≤ S2x512x128.size a) (cell : SemLoc sig) (bo : Fin 2 → Nat) (bh : ∀ a, bo a + S512x128.size a ≤ S8192x128.size a) (q : PosShare TreeShare) : sProp 𝕄 :=
  iprop(∃ g, ⌜(rslotO off h).view.read (Elt F) g = (rblkO bo bh).view.read (Elt F) f⌝
    ∗ Transfers.Flight (countersEmb (U := Pipeline.UD sig nD τ)) (c : Thread nD τ) cell default 8192 iprop(((rslotO off h).view.loc (c : Thread nD τ) ↦[(rslotO off h).view.set]{fullShare} g) ∗ ((Memref.whole main_v1).view.loc (c : Thread nD τ) ↦[(rblkO bo bh).view.set]{q} f))
    ∗ ((Memref.whole main_v1).view.loc (c : Thread nD τ) ↦[Finset.univ \ (rblkO bo bh).view.set]{q} f))

/-- A slot of the ring of the scales no transfer is in flight to, whatever it holds. -/
def gFree (c : Dev nD) (off : Fin 3 → Nat) (h : ∀ a, off a + S1x1x1024.size a ≤ S2x1x1024.size a) (cell : SemLoc sig) : sProp 𝕄 :=
  iprop((∃ g : Buf (Elt F) ((Memref.whole cc0_scoped14).view.loc (c : Thread nD τ)), ((gslotO off h).view.loc (c : Thread nD τ) ↦[(gslotO off h).view.set]{fullShare} g)) ∗ semVal ((c : Thread nD τ), cell) 0)
/-- A slot of the ring of the scales that holds the block `v`. -/
def gHold (c : Dev nD) (off : Fin 3 → Nat) (h : ∀ a, off a + S1x1x1024.size a ≤ S2x1x1024.size a) (cell : SemLoc sig) (v : Vec F S1x1024 .f32) : sProp 𝕄 :=
  iprop((∃ g, ⌜(gslotO off h).view.read (Elt F) g = v⌝ ∗ ((gslotO off h).view.loc (c : Thread nD τ) ↦[(gslotO off h).view.set]{fullShare} g)) ∗ semVal ((c : Thread nD τ), cell) 0)
/-- The array of the scales, no block of which is in flight. -/
def gSrc (c : Dev nD) (f : Buf (Elt F) ((Memref.whole main_v2).view.loc (c : Thread nD τ))) : sProp 𝕄 := ((Memref.whole main_v2).view.loc (c : Thread nD τ) ↦[Finset.univ]{fullShare} f)
/-- A slot of the ring of the scales a block is in flight to, with the array. -/
def gFly (c : Dev nD) (f : Buf (Elt F) ((Memref.whole main_v2).view.loc (c : Thread nD τ))) (off : Fin 3 → Nat) (h : ∀ a, off a + S1x1x1024.size a ≤ S2x1x1024.size a) (cell : SemLoc sig) (bo : Fin 2 → Nat) (bh : ∀ a, bo a + S1x1024.size a ≤ S1x4096.size a) : sProp 𝕄 :=
  iprop(∃ g, ⌜(gslotO off h).view.read (Elt F) g = (gblkO bo bh).view.read (Elt F) f⌝
    ∗ Transfers.Flight (countersEmb (U := Pipeline.UD sig nD τ)) (c : Thread nD τ) cell default 128 iprop(((gslotO off h).view.loc (c : Thread nD τ) ↦[(gslotO off h).view.set]{fullShare} g) ∗ ((Memref.whole main_v2).view.loc (c : Thread nD τ) ↦[(gblkO bo bh).view.set]{fullShare} f))
    ∗ ((Memref.whole main_v2).view.loc (c : Thread nD τ) ↦[Finset.univ \ (gblkO bo bh).view.set]{fullShare} f))

/-- A slot of the ring of the shifts no transfer is in flight to, whatever it holds. -/
def bFree (c : Dev nD) (off : Fin 3 → Nat) (h : ∀ a, off a + S1x1x1024.size a ≤ S2x1x1024.size a) (cell : SemLoc sig) : sProp 𝕄 :=
  iprop((∃ g : Buf (Elt F) ((Memref.whole cc0_scoped16).view.loc (c : Thread nD τ)), ((bslotO off h).view.loc (c : Thread nD τ) ↦[(bslotO off h).view.set]{fullShare} g)) ∗ semVal ((c : Thread nD τ), cell) 0)
/-- A slot of the ring of the shifts that holds the block `v`. -/
def bHold (c : Dev nD) (off : Fin 3 → Nat) (h : ∀ a, off a + S1x1x1024.size a ≤ S2x1x1024.size a) (cell : SemLoc sig) (v : Vec F S1x1024 .f32) : sProp 𝕄 :=
  iprop((∃ g, ⌜(bslotO off h).view.read (Elt F) g = v⌝ ∗ ((bslotO off h).view.loc (c : Thread nD τ) ↦[(bslotO off h).view.set]{fullShare} g)) ∗ semVal ((c : Thread nD τ), cell) 0)
/-- The array of the shifts, no block of which is in flight. -/
def bSrc (c : Dev nD) (f : Buf (Elt F) ((Memref.whole main_v3).view.loc (c : Thread nD τ))) : sProp 𝕄 := ((Memref.whole main_v3).view.loc (c : Thread nD τ) ↦[Finset.univ]{fullShare} f)
/-- A slot of the ring of the shifts a block is in flight to, with the array. -/
def bFly (c : Dev nD) (f : Buf (Elt F) ((Memref.whole main_v3).view.loc (c : Thread nD τ))) (off : Fin 3 → Nat) (h : ∀ a, off a + S1x1x1024.size a ≤ S2x1x1024.size a) (cell : SemLoc sig) (bo : Fin 2 → Nat) (bh : ∀ a, bo a + S1x1024.size a ≤ S1x4096.size a) : sProp 𝕄 :=
  iprop(∃ g, ⌜(bslotO off h).view.read (Elt F) g = (bblkO bo bh).view.read (Elt F) f⌝
    ∗ Transfers.Flight (countersEmb (U := Pipeline.UD sig nD τ)) (c : Thread nD τ) cell default 128 iprop(((bslotO off h).view.loc (c : Thread nD τ) ↦[(bslotO off h).view.set]{fullShare} g) ∗ ((Memref.whole main_v3).view.loc (c : Thread nD τ) ↦[(bblkO bo bh).view.set]{fullShare} f))
    ∗ ((Memref.whole main_v3).view.loc (c : Thread nD τ) ↦[Finset.univ \ (bblkO bo bh).view.set]{fullShare} f))

/-- A slot of the result's ring no transfer is in flight from, whatever it holds. -/
def oFree (c : Dev nD) (off : Fin 3 → Nat) (h : ∀ a, off a + S1x512x1024.size a ≤ S2x512x1024.size a) (cell : SemLoc sig) : sProp 𝕄 :=
  iprop((∃ g : Buf (Elt F) ((Memref.whole cc0_scoped18).view.loc (c : Thread nD τ)), ((oslotO off h).view.loc (c : Thread nD τ) ↦[(oslotO off h).view.set]{fullShare} g)) ∗ semVal ((c : Thread nD τ), cell) 0)
/-- A block of the result, whatever it holds. -/
def oAny (c : Dev nD) (bo : Fin 2 → Nat) (bh : ∀ a, bo a + S512x1024.size a ≤ S8192x4096.size a) : sProp 𝕄 :=
  iprop(∃ g : Buf (Elt F) ((Memref.whole main_v4).view.loc (c : Thread nD τ)), ((oblkO bo bh).view.loc (c : Thread nD τ) ↦[(oblkO bo bh).view.set]{fullShare} g))
/-- A block of the result that holds `v`. -/
def oDone (c : Dev nD) (bo : Fin 2 → Nat) (bh : ∀ a, bo a + S512x1024.size a ≤ S8192x4096.size a) (v : Vec F S512x1024 .f32) : sProp 𝕄 :=
  iprop(∃ g, ⌜(oblkO bo bh).view.read (Elt F) g = v⌝ ∗ ((oblkO bo bh).view.loc (c : Thread nD τ) ↦[(oblkO bo bh).view.set]{fullShare} g))
/-- A slot of the result's ring whose contents `v` are in flight to a block of the result. -/
def oFly (c : Dev nD) (off : Fin 3 → Nat) (h : ∀ a, off a + S1x512x1024.size a ≤ S2x512x1024.size a) (cell : SemLoc sig) (bo : Fin 2 → Nat) (bh : ∀ a, bo a + S512x1024.size a ≤ S8192x4096.size a) (v : Vec F S512x1024 .f32) : sProp 𝕄 :=
  iprop(∃ g go, ⌜(oblkO bo bh).view.read (Elt F) g = v⌝
    ∗ Transfers.Flight (countersEmb (U := Pipeline.UD sig nD τ)) (c : Thread nD τ) cell default 65536 iprop(((oblkO bo bh).view.loc (c : Thread nD τ) ↦[(oblkO bo bh).view.set]{fullShare} g) ∗ ((oslotO off h).view.loc (c : Thread nD τ) ↦[(oslotO off h).view.set]{fullShare} go)))
/-- What the thread owes, whatever waits are recorded. -/
def owe (c : Dev nD) : sProp 𝕄 := iprop(∃ W, owes (c : Thread nD τ) 0 W)

/-- One trip of the body, at the carried words. -/
abbrev body (k : Fin k0_t1_loop.trips) (w11 w12 w13 w14 w15 w16 w17 w18 w19 w20 w21 w22 w23 w24 w25 w26 w27 w28 w29 w30 w31 w32 : BitVec 32) :=
  k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 1#32 1#32 1#32 1#32 1#32 1#32 1#32 k (w11, w12, w13, w14, w15, w16, w17, w18, w19, w20, w21, w22, w23, w24, w25, w26, w27, w28, w29, w30, w31, w32)

/-- The words carried to the next trip. -/
def nextW (k : Fin k0_t1_loop.trips) (w11 w12 w13 w14 w15 w16 w17 w18 w19 w20 w21 w22 w23 w24 w25 w26 w27 w28 w29 w30 w31 w32 : BitVec 32) :
    BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  let iv : BitVec 32 := Scf.iv (0#32) (1#32) k
  let v154 : BitVec 32 := Scalar.addi w32 0#32
  let v165 : BitVec 32 := Scalar.addi w32 1#32
  let v166 : BitVec 32 := Scalar.select 1#1 v165 w32
  let v167 : BitVec 1 := Scalar.cmpi .eq v166 16#32
  let v168 : BitVec 32 := Scalar.select v167 0#32 v166
  let v174 : BitVec 32 := Scalar.addi v168 0#32
  let v185 : BitVec 1 := Scalar.cmpi .ne v154 v174
  let v186 : BitVec 1 := Scalar.cmpi .sge iv 63#32
  let v187 : BitVec 1 := Scalar.xori v186 1#1
  let v188 : BitVec 1 := Scalar.andi v185 v187
  let v192 : BitVec 1 := Scalar.andi v188 1#1
  let v193 : BitVec 32 := Scalar.addi w11 1#32
  let v194 : BitVec 32 := Scalar.select v192 v193 w11
  let v535 : BitVec 1 := Scalar.cmpi .ne v154 v174
  let v152 : BitVec 1 := Scalar.cmpi .eq iv 63#32
  let v536 : BitVec 1 := Scalar.ori v535 v152
  let v537 : BitVec 32 := Scalar.addi w12 1#32
  let v538 : BitVec 32 := Scalar.select v536 v537 w12
  let v195 : BitVec 1 := Scalar.cmpi .ne v154 v174
  let v196 : BitVec 1 := Scalar.cmpi .sge iv 63#32
  let v197 : BitVec 1 := Scalar.xori v196 1#1
  let v198 : BitVec 1 := Scalar.andi v195 v197
  let v202 : BitVec 1 := Scalar.andi v198 1#1
  let v203 : BitVec 32 := Scalar.addi w13 1#32
  let v204 : BitVec 32 := Scalar.select v202 v203 w13
  let v539 : BitVec 1 := Scalar.cmpi .ne v154 v174
  let v540 : BitVec 1 := Scalar.ori v539 v152
  let v541 : BitVec 32 := Scalar.addi w14 1#32
  let v542 : BitVec 32 := Scalar.select v540 v541 w14
  let v205 : BitVec 1 := Scalar.cmpi .ne v154 v174
  let v206 : BitVec 1 := Scalar.cmpi .sge iv 63#32
  let v207 : BitVec 1 := Scalar.xori v206 1#1
  let v208 : BitVec 1 := Scalar.andi v205 v207
  let v212 : BitVec 1 := Scalar.andi v208 1#1
  let v213 : BitVec 32 := Scalar.addi w15 1#32
  let v214 : BitVec 32 := Scalar.select v212 v213 w15
  let v543 : BitVec 1 := Scalar.cmpi .ne v154 v174
  let v544 : BitVec 1 := Scalar.ori v543 v152
  let v545 : BitVec 32 := Scalar.addi w16 1#32
  let v546 : BitVec 32 := Scalar.select v544 v545 w16
  let v153 : BitVec 32 := Scalar.addi w31 0#32
  let v169 : BitVec 32 := Scalar.addi w31 1#32
  let v170 : BitVec 32 := Scalar.select v167 v169 w31
  let v171 : BitVec 1 := Scalar.cmpi .eq v170 4#32
  let v172 : BitVec 32 := Scalar.select v171 0#32 v170
  let v173 : BitVec 32 := Scalar.addi v172 0#32
  let v215 : BitVec 1 := Scalar.cmpi .ne v153 v173
  let v216 : BitVec 1 := Scalar.cmpi .sge iv 63#32
  let v217 : BitVec 1 := Scalar.xori v216 1#1
  let v218 : BitVec 1 := Scalar.andi v215 v217
  let v222 : BitVec 1 := Scalar.andi v218 1#1
  let v223 : BitVec 32 := Scalar.addi w17 1#32
  let v224 : BitVec 32 := Scalar.select v222 v223 w17
  let v547 : BitVec 1 := Scalar.cmpi .ne v153 v173
  let v548 : BitVec 1 := Scalar.ori v547 v152
  let v549 : BitVec 32 := Scalar.addi w18 1#32
  let v550 : BitVec 32 := Scalar.select v548 v549 w18
  let v225 : BitVec 1 := Scalar.cmpi .ne v154 v174
  let v226 : BitVec 1 := Scalar.cmpi .ne v153 v173
  let v227 : BitVec 1 := Scalar.ori v225 v226
  let v228 : BitVec 1 := Scalar.cmpi .sge iv 63#32
  let v229 : BitVec 1 := Scalar.xori v228 1#1
  let v230 : BitVec 1 := Scalar.andi v227 v229
  let v234 : BitVec 1 := Scalar.andi v230 1#1
  let v235 : BitVec 32 := Scalar.addi w19 1#32
  let v236 : BitVec 32 := Scalar.select v234 v235 w19
  let v551 : BitVec 1 := Scalar.cmpi .ne v154 v174
  let v552 : BitVec 1 := Scalar.cmpi .ne v153 v173
  let v553 : BitVec 1 := Scalar.ori v551 v552
  let v554 : BitVec 1 := Scalar.ori v553 v152
  let v555 : BitVec 32 := Scalar.addi w20 1#32
  let v556 : BitVec 32 := Scalar.select v554 v555 w20
  let v237 : BitVec 1 := Scalar.cmpi .ne v154 v174
  let v238 : BitVec 1 := Scalar.cmpi .sge iv 63#32
  let v239 : BitVec 1 := Scalar.xori v238 1#1
  let v240 : BitVec 1 := Scalar.andi v237 v239
  let v244 : BitVec 1 := Scalar.andi v240 1#1
  let v245 : BitVec 32 := Scalar.addi w21 1#32
  let v246 : BitVec 32 := Scalar.select v244 v245 w21
  let v557 : BitVec 1 := Scalar.cmpi .ne v154 v174
  let v558 : BitVec 1 := Scalar.ori v557 v152
  let v559 : BitVec 32 := Scalar.addi w22 1#32
  let v560 : BitVec 32 := Scalar.select v558 v559 w22
  let v247 : BitVec 1 := Scalar.cmpi .ne v154 v174
  let v248 : BitVec 1 := Scalar.cmpi .sge iv 63#32
  let v249 : BitVec 1 := Scalar.xori v248 1#1
  let v250 : BitVec 1 := Scalar.andi v247 v249
  let v254 : BitVec 1 := Scalar.andi v250 1#1
  let v255 : BitVec 32 := Scalar.addi w23 1#32
  let v256 : BitVec 32 := Scalar.select v254 v255 w23
  let v561 : BitVec 1 := Scalar.cmpi .ne v154 v174
  let v562 : BitVec 1 := Scalar.ori v561 v152
  let v563 : BitVec 32 := Scalar.addi w24 1#32
  let v564 : BitVec 32 := Scalar.select v562 v563 w24
  let v257 : BitVec 1 := Scalar.cmpi .ne v153 v173
  let v258 : BitVec 1 := Scalar.cmpi .sge iv 63#32
  let v259 : BitVec 1 := Scalar.xori v258 1#1
  let v260 : BitVec 1 := Scalar.andi v257 v259
  let v264 : BitVec 1 := Scalar.andi v260 1#1
  let v265 : BitVec 32 := Scalar.addi w25 1#32
  let v266 : BitVec 32 := Scalar.select v264 v265 w25
  let v565 : BitVec 1 := Scalar.cmpi .ne v153 v173
  let v566 : BitVec 1 := Scalar.ori v565 v152
  let v567 : BitVec 32 := Scalar.addi w26 1#32
  let v568 : BitVec 32 := Scalar.select v566 v567 w26
  let v267 : BitVec 1 := Scalar.cmpi .ne v153 v173
  let v268 : BitVec 1 := Scalar.cmpi .sge iv 63#32
  let v269 : BitVec 1 := Scalar.xori v268 1#1
  let v270 : BitVec 1 := Scalar.andi v267 v269
  let v274 : BitVec 1 := Scalar.andi v270 1#1
  let v275 : BitVec 32 := Scalar.addi w27 1#32
  let v276 : BitVec 32 := Scalar.select v274 v275 w27
  let v569 : BitVec 1 := Scalar.cmpi .ne v153 v173
  let v570 : BitVec 1 := Scalar.ori v569 v152
  let v571 : BitVec 32 := Scalar.addi w28 1#32
  let v572 : BitVec 32 := Scalar.select v570 v571 w28
  let v460 : BitVec 1 := Scalar.cmpi .ne v154 v174
  let v461 : BitVec 1 := Scalar.cmpi .ne v153 v173
  let v462 : BitVec 1 := Scalar.ori v460 v461
  let v463 : BitVec 1 := Scalar.ori v462 v152
  let v466 : BitVec 1 := Scalar.andi v463 1#1
  let v467 : BitVec 32 := Scalar.addi w29 1#32
  let v468 : BitVec 32 := Scalar.select v466 v467 w29
  let v155 : BitVec 32 := Scalar.subi w32 1#32
  let v156 : BitVec 32 := Scalar.select 1#1 v155 w32
  let v157 : BitVec 1 := Scalar.cmpi .eq v156 4294967295#32
  let v158 : BitVec 32 := Scalar.select v157 15#32 v156
  let v164 : BitVec 32 := Scalar.addi v158 0#32
  let v525 : BitVec 1 := Scalar.cmpi .ne v154 v164
  let v159 : BitVec 32 := Scalar.subi w31 1#32
  let v160 : BitVec 32 := Scalar.select v157 v159 w31
  let v161 : BitVec 1 := Scalar.cmpi .eq v160 4294967295#32
  let v162 : BitVec 32 := Scalar.select v161 3#32 v160
  let v163 : BitVec 32 := Scalar.addi v162 0#32
  let v526 : BitVec 1 := Scalar.cmpi .ne v153 v163
  let v527 : BitVec 1 := Scalar.ori v525 v526
  let v151 : BitVec 1 := Scalar.cmpi .eq iv 0#32
  let v528 : BitVec 1 := Scalar.xori v151 1#1
  let v529 : BitVec 1 := Scalar.andi v527 v528
  let v532 : BitVec 1 := Scalar.andi v529 1#1
  let v533 : BitVec 32 := Scalar.addi w30 1#32
  let v534 : BitVec 32 := Scalar.select v532 v533 w30
  let v573 : BitVec 32 := Scalar.addi w32 1#32
  let v574 : BitVec 32 := Scalar.select 1#1 v573 w32
  let v575 : BitVec 1 := Scalar.cmpi .eq v574 16#32
  let v577 : BitVec 32 := Scalar.addi w31 1#32
  let v578 : BitVec 32 := Scalar.select v575 v577 w31
  let v579 : BitVec 1 := Scalar.cmpi .eq v578 4#32
  let v580 : BitVec 32 := Scalar.select v579 0#32 v578
  let v576 : BitVec 32 := Scalar.select v575 0#32 v574
  (v194, v538, v204, v542, v214, v546, v224, v550, v236, v556, v246, v560, v256, v564, v266, v568, v276, v572, v468, v534, v580, v576)

end Cert.OutProjIdeal.Hand

end
-- ==== Proof.OutProj.TripA.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
The first trip: it waits for every ring's first block and for nothing of the result.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
/-- The first trip: it waits for every ring's first block and for nothing of the result. -/
theorem trip_first (c : Dev nD) (k : Fin k0_t1_loop.trips) (w11 w12 w13 w14 w15 w16 w17 w18 w19 w20 w21 w22 w23 w24 w25 w26 w27 w28 w29 w30 w31 w32 : BitVec 32)
    (hw1 : k0_chk1 k w11 w12 w13 w14 w15 w16 w17 w18 w19 w20 w21 w22 w23 w24 w25 w26 w27 w28 w29 w30 w31 w32) (hw2 : k0_chk2 w12) (hw4 : k0_chk4 w14) (hw5 : k0_chk5 w16) (hw3 : k0_chk3 w18) (hw6 : k0_chk6 w20) (hw7 : k0_chk7 w22) (hw8 : k0_chk8 w24) (hw9 : k0_chk9 w26) (hw10 : k0_chk10 w28) (hw11 : k0_chk11 w29)
    (h1 : k0_cond1 k w32 = 1#1) (h10 : k0_cond10 k w32 = 1#1) (h2 : k0_cond2 k w32 = 1#1) (h11 : k0_cond11 k w32 = 1#1) (h3 : k0_cond3 k w32 = 1#1) (h12 : k0_cond12 k w32 = 1#1) (h4 : ¬ k0_cond4 k w31 w32 = 1#1) (h13 : k0_cond13 k w31 w32 = 1#1) (h5 : k0_cond5 k w31 w32 = 1#1) (h14 : k0_cond14 k w31 w32 = 1#1) (h6 : k0_cond6 k w32 = 1#1) (h15 : k0_cond15 k w32 = 1#1) (h7 : k0_cond7 k w32 = 1#1) (h16 : k0_cond16 k w32 = 1#1) (h8 : ¬ k0_cond8 k w31 w32 = 1#1) (h17 : k0_cond17 k w31 w32 = 1#1) (h9 : ¬ k0_cond9 k w31 w32 = 1#1) (h18 : k0_cond18 k w31 w32 = 1#1) (h29 : k0_cond29 k w31 w32 = 1#1) (h39 : ¬ k0_cond39 k w31 w32 = 1#1)
    {o43 : Fin 1 → Nat} {o44 : Fin 3 → Nat} {o45 : Fin 2 → Nat} {o62 : Fin 3 → Nat} {o55 : Fin 1 → Nat} {o56 : Fin 3 → Nat} {o57 : Fin 2 → Nat} {o68 : Fin 3 → Nat} {o58 : Fin 1 → Nat} {o59 : Fin 3 → Nat} {o60 : Fin 2 → Nat} {o69 : Fin 3 → Nat} {o7 : Fin 1 → Nat} {o8 : Fin 3 → Nat} {o9 : Fin 2 → Nat} {o34 : Fin 1 → Nat} {o35 : Fin 3 → Nat} {o36 : Fin 2 → Nat} {o61 : Fin 3 → Nat} {o10 : Fin 1 → Nat} {o11 : Fin 3 → Nat} {o12 : Fin 2 → Nat} {o37 : Fin 1 → Nat} {o38 : Fin 3 → Nat} {o39 : Fin 2 → Nat} {o63 : Fin 3 → Nat} {o13 : Fin 1 → Nat} {o14 : Fin 3 → Nat} {o15 : Fin 2 → Nat} {o40 : Fin 1 → Nat} {o41 : Fin 3 → Nat} {o42 : Fin 2 → Nat} {o64 : Fin 3 → Nat} {o19 : Fin 1 → Nat} {o20 : Fin 3 → Nat} {o21 : Fin 2 → Nat} {o46 : Fin 1 → Nat} {o47 : Fin 3 → Nat} {o48 : Fin 2 → Nat} {o65 : Fin 3 → Nat} {o22 : Fin 1 → Nat} {o23 : Fin 3 → Nat} {o24 : Fin 2 → Nat} {o49 : Fin 1 → Nat} {o50 : Fin 3 → Nat} {o51 : Fin 2 → Nat} {o66 : Fin 3 → Nat} {o25 : Fin 1 → Nat} {o26 : Fin 3 → Nat} {o27 : Fin 2 → Nat} {o52 : Fin 1 → Nat} {o53 : Fin 3 → Nat} {o54 : Fin 2 → Nat} {o67 : Fin 3 → Nat} {o71 : Fin 1 → Nat} {o72 : Fin 2 → Nat} {o73 : Fin 3 → Nat} {o70 : Fin 3 → Nat}
    (i43 : ∀ a, o43 a + S1.size a ≤ S2.size a) (i44 : ∀ a, o44 a + S1x4096x1024.size a ≤ S2x4096x1024.size a) (i45 : ∀ a, o45 a + S4096x1024.size a ≤ S4096x4096.size a) (i62 : ∀ a, o62 a + S1x4096x1024.size a ≤ S2x4096x1024.size a) (i55 : ∀ a, o55 a + S1.size a ≤ S2.size a) (i56 : ∀ a, o56 a + S1x1x1024.size a ≤ S2x1x1024.size a) (i57 : ∀ a, o57 a + S1x1024.size a ≤ S1x4096.size a) (i68 : ∀ a, o68 a + S1x1x1024.size a ≤ S2x1x1024.size a) (i58 : ∀ a, o58 a + S1.size a ≤ S2.size a) (i59 : ∀ a, o59 a + S1x1x1024.size a ≤ S2x1x1024.size a) (i60 : ∀ a, o60 a + S1x1024.size a ≤ S1x4096.size a) (i69 : ∀ a, o69 a + S1x1x1024.size a ≤ S2x1x1024.size a) (i7 : ∀ a, o7 a + S1.size a ≤ S2.size a) (i8 : ∀ a, o8 a + S1x512x2048.size a ≤ S2x512x2048.size a) (i9 : ∀ a, o9 a + S512x2048.size a ≤ S8192x2048.size a) (i34 : ∀ a, o34 a + S1.size a ≤ S2.size a) (i35 : ∀ a, o35 a + S1x512x2048.size a ≤ S2x512x2048.size a) (i36 : ∀ a, o36 a + S512x2048.size a ≤ S8192x2048.size a) (i61 : ∀ a, o61 a + S1x512x2048.size a ≤ S2x512x2048.size a) (i10 : ∀ a, o10 a + S1.size a ≤ S2.size a) (i11 : ∀ a, o11 a + S1x512x1024.size a ≤ S2x512x1024.size a) (i12 : ∀ a, o12 a + S512x1024.size a ≤ S8192x1024.size a) (i37 : ∀ a, o37 a + S1.size a ≤ S2.size a) (i38 : ∀ a, o38 a + S1x512x1024.size a ≤ S2x512x1024.size a) (i39 : ∀ a, o39 a + S512x1024.size a ≤ S8192x1024.size a) (i63 : ∀ a, o63 a + S1x512x1024.size a ≤ S2x512x1024.size a) (i13 : ∀ a, o13 a + S1.size a ≤ S2.size a) (i14 : ∀ a, o14 a + S1x512x1024.size a ≤ S2x512x1024.size a) (i15 : ∀ a, o15 a + S512x1024.size a ≤ S8192x1024.size a) (i40 : ∀ a, o40 a + S1.size a ≤ S2.size a) (i41 : ∀ a, o41 a + S1x512x1024.size a ≤ S2x512x1024.size a) (i42 : ∀ a, o42 a + S512x1024.size a ≤ S8192x1024.size a) (i64 : ∀ a, o64 a + S1x512x1024.size a ≤ S2x512x1024.size a) (i19 : ∀ a, o19 a + S1.size a ≤ S2.size a) (i20 : ∀ a, o20 a + S1x512x1024.size a ≤ S2x512x1024.size a) (i21 : ∀ a, o21 a + S512x1024.size a ≤ S8192x4096.size a) (i46 : ∀ a, o46 a + S1.size a ≤ S2.size a) (i47 : ∀ a, o47 a + S1x512x1024.size a ≤ S2x512x1024.size a) (i48 : ∀ a, o48 a + S512x1024.size a ≤ S8192x4096.size a) (i65 : ∀ a, o65 a + S1x512x1024.size a ≤ S2x512x1024.size a) (i22 : ∀ a, o22 a + S1.size a ≤ S2.size a) (i23 : ∀ a, o23 a + S1x512x128.size a ≤ S2x512x128.size a) (i24 : ∀ a, o24 a + S512x128.size a ≤ S8192x128.size a) (i49 : ∀ a, o49 a + S1.size a ≤ S2.size a) (i50 : ∀ a, o50 a + S1x512x128.size a ≤ S2x512x128.size a) (i51 : ∀ a, o51 a + S512x128.size a ≤ S8192x128.size a) (i66 : ∀ a, o66 a + S1x512x128.size a ≤ S2x512x128.size a) (i25 : ∀ a, o25 a + S1.size a ≤ S2.size a) (i26 : ∀ a, o26 a + S1x512x128.size a ≤ S2x512x128.size a) (i27 : ∀ a, o27 a + S512x128.size a ≤ S8192x128.size a) (i52 : ∀ a, o52 a + S1.size a ≤ S2.size a) (i53 : ∀ a, o53 a + S1x512x128.size a ≤ S2x512x128.size a) (i54 : ∀ a, o54 a + S512x128.size a ≤ S8192x128.size a) (i67 : ∀ a, o67 a + S1x512x128.size a ≤ S2x512x128.size a) (i71 : ∀ a, o71 a + S1.size a ≤ S2.size a) (i72 : ∀ a, o72 a + S512x1024.size a ≤ S8192x4096.size a) (i73 : ∀ a, o73 a + S1x512x1024.size a ≤ S2x512x1024.size a) (i70 : ∀ a, o70 a + S1x512x1024.size a ≤ S2x512x1024.size a)
    (e43 : k0_off43 w18 = o43) (e44 : k0_off44 w18 = o44) (e45 : k0_off45 w31 = o45) (e62 : k0_off62 w18 = o62) (e55 : k0_off55 w26 = o55) (e56 : k0_off56 w26 = o56) (e57 : k0_off57 w31 = o57) (e68 : k0_off68 w26 = o68) (e58 : k0_off58 w28 = o58) (e59 : k0_off59 w28 = o59) (e60 : k0_off60 w31 = o60) (e69 : k0_off69 w28 = o69) (e7 : k0_off7 w11 = o7) (e8 : k0_off8 w11 = o8) (e9 : k0_off9 w32 = o9) (e34 : k0_off34 w12 = o34) (e35 : k0_off35 w12 = o35) (e36 : k0_off36 w32 = o36) (e61 : k0_off61 w12 = o61) (e10 : k0_off10 w13 = o10) (e11 : k0_off11 w13 = o11) (e12 : k0_off12 w32 = o12) (e37 : k0_off37 w14 = o37) (e38 : k0_off38 w14 = o38) (e39 : k0_off39 w32 = o39) (e63 : k0_off63 w14 = o63) (e13 : k0_off13 w15 = o13) (e14 : k0_off14 w15 = o14) (e15 : k0_off15 w32 = o15) (e40 : k0_off40 w16 = o40) (e41 : k0_off41 w16 = o41) (e42 : k0_off42 w32 = o42) (e64 : k0_off64 w16 = o64) (e19 : k0_off19 w19 = o19) (e20 : k0_off20 w19 = o20) (e21 : k0_off21 w31 w32 = o21) (e46 : k0_off46 w20 = o46) (e47 : k0_off47 w20 = o47) (e48 : k0_off48 w31 w32 = o48) (e65 : k0_off65 w20 = o65) (e22 : k0_off22 w21 = o22) (e23 : k0_off23 w21 = o23) (e24 : k0_off24 w32 = o24) (e49 : k0_off49 w22 = o49) (e50 : k0_off50 w22 = o50) (e51 : k0_off51 w32 = o51) (e66 : k0_off66 w22 = o66) (e25 : k0_off25 w23 = o25) (e26 : k0_off26 w23 = o26) (e27 : k0_off27 w32 = o27) (e52 : k0_off52 w24 = o52) (e53 : k0_off53 w24 = o53) (e54 : k0_off54 w32 = o54) (e67 : k0_off67 w24 = o67) (e71 : k0_off71 w29 = o71) (e72 : k0_off72 w31 w32 = o72) (e73 : k0_off73 w29 = o73) (e70 : k0_off70 w29 = o70)
    (l61 : k0_off61 w12 = o35) (l63 : k0_off63 w14 = o38) (l64 : k0_off64 w16 = o41) (l62 : k0_off62 w18 = o44) (l65 : k0_off65 w20 = o47) (l66 : k0_off66 w22 = o50) (l67 : k0_off67 w24 = o53) (l68 : k0_off68 w26 = o56) (l69 : k0_off69 w28 = o59) (l70 : k0_off70 w29 = o73)
    (s : Src F c) (cw : SemLoc sig) (vw : Vec F S4096x1024 .f32) (cg : SemLoc sig) (vg : Vec F S1x1024 .f32) (cb : SemLoc sig) (vb : Vec F S1x1024 .f32) (vo : Vec F S512x1024 .f32) (q q' : PosShare TreeShare) :
    (iprop((wFly c s.w o44 i44 (cellO cc0_scoped7 o43 i43) o45 i45 ∗ gFly c s.g o56 i56 (cellO cc0_scoped15 o55 i55) o57 i57 ∗ bFly c s.b o59 i59 (cellO cc0_scoped17 o58 i58) o60 i60) ∗ (yFree c s.y o8 i8 (cellO cc0_scoped1 o7 i7) q ∗ xFree c s.x o11 i11 (cellO cc0_scoped3 o10 i10) q ∗ uFree c s.u o14 i14 (cellO cc0_scoped5 o13 i13) q ∗ zFree c s.z o20 i20 (cellO cc0_scoped9 o19 i19) q ∗ mFree c s.m o23 i23 (cellO cc0_scoped11 o22 i22) q ∗ rFree c s.r o26 i26 (cellO cc0_scoped13 o25 i25) q) ∗ (yFly c s.y o35 i35 (cellO cc0_scoped1 o34 i34) o36 i36 q' ∗ xFly c s.x o38 i38 (cellO cc0_scoped3 o37 i37) o39 i39 q' ∗ uFly c s.u o41 i41 (cellO cc0_scoped5 o40 i40) o42 i42 q' ∗ zFly c s.z o47 i47 (cellO cc0_scoped9 o46 i46) o48 i48 q' ∗ mFly c s.m o50 i50 (cellO cc0_scoped11 o49 i49) o51 i51 q' ∗ rFly c s.r o53 i53 (cellO cc0_scoped13 o52 i52) o54 i54 q') ∗ oFree c o73 i73 (cellO cc0_scoped19 o71 i71) ∗ oAny c o72 i72 ∗ owe c) : sProp 𝕄)
    ⊢ wp frame (wpE (defs₀ (F := F)) Variants.none c none) Set.univ (body k w11 w12 w13 w14 w15 w16 w17 w18 w19 w20 w21 w22 w23 w24 w25 w26 w27 w28 w29 w30 w31 w32)
      (fun r => iprop(⌜r = nextW k w11 w12 w13 w14 w15 w16 w17 w18 w19 w20 w21 w22 w23 w24 w25 w26 w27 w28 w29 w30 w31 w32⌝ ∗ (wHold c o44 i44 (cellO cc0_scoped7 o43 i43) ((wblkO o45 i45).view.read (Elt F) s.w) ∗ gHold c o56 i56 (cellO cc0_scoped15 o55 i55) ((gblkO o57 i57).view.read (Elt F) s.g) ∗ bHold c o59 i59 (cellO cc0_scoped17 o58 i58) ((bblkO o60 i60).view.read (Elt F) s.b)) ∗ (wSrc c s.w ∗ gSrc c s.g ∗ bSrc c s.b) ∗ (yFly c s.y o8 i8 (cellO cc0_scoped1 o7 i7) o9 i9 q ∗ xFly c s.x o11 i11 (cellO cc0_scoped3 o10 i10) o12 i12 q ∗ uFly c s.u o14 i14 (cellO cc0_scoped5 o13 i13) o15 i15 q ∗ zFly c s.z o20 i20 (cellO cc0_scoped9 o19 i19) o21 i21 q ∗ mFly c s.m o23 i23 (cellO cc0_scoped11 o22 i22) o24 i24 q ∗ rFly c s.r o26 i26 (cellO cc0_scoped13 o25 i25) o27 i27 q) ∗ (yFree c s.y o35 i35 (cellO cc0_scoped1 o34 i34) q' ∗ xFree c s.x o38 i38 (cellO cc0_scoped3 o37 i37) q' ∗ uFree c s.u o41 i41 (cellO cc0_scoped5 o40 i40) q' ∗ zFree c s.z o47 i47 (cellO cc0_scoped9 o46 i46) q' ∗ mFree c s.m o50 i50 (cellO cc0_scoped11 o49 i49) q' ∗ rFree c s.r o53 i53 (cellO cc0_scoped13 o52 i52) q') ∗ oFly c o73 i73 (cellO cc0_scoped19 o71 i71) o72 i72 (outv ((yblkO o36 i36).view.read (Elt F) s.y) ((xblkO o39 i39).view.read (Elt F) s.x) ((ublkO o42 i42).view.read (Elt F) s.u) ((wblkO o45 i45).view.read (Elt F) s.w) ((zblkO o48 i48).view.read (Elt F) s.z) ((mblkO o51 i51).view.read (Elt F) s.m) ((rblkO o54 i54).view.read (Elt F) s.r) ((gblkO o57 i57).view.read (Elt F) s.g) ((bblkO o60 i60).view.read (Elt F) s.b)) ∗ owe c)) := by
  subst e43 e44 e45 e62 e55 e56 e57 e68 e58 e59 e60 e69 e7 e8 e9 e34 e35 e36 e61 e10 e11 e12 e37 e38 e39 e63 e13 e14 e15 e40 e41 e42 e64 e19 e20 e21 e46 e47 e48 e65 e22 e23 e24 e49 e50 e51 e66 e25 e26 e27 e52 e53 e54 e67 e71 e72 e73 e70
  have hiY := yslot_sub l61 (k0_off61_inb w12 hw2) i35
  have hiX := xslot_sub l63 (k0_off63_inb w14 hw4) i38
  have hiU := uslot_sub l64 (k0_off64_inb w16 hw5) i41
  have hiW := wslot_sub l62 (k0_off62_inb w18 hw3) i44
  have hiWtop := hiW (Rect.unit (s := S4096x1024) ![0, 0] S2048x1024.size inb_S4096x1024_S2048x1024_0_0).set
  have hiWmid := hiW (Rect.unit (s := S4096x1024) ![2048, 0] S1024x1024.size inb_S4096x1024_S1024x1024_2048_0).set
  have hiWbot := hiW (Rect.unit (s := S4096x1024) ![3072, 0] S1024x1024.size inb_S4096x1024_S1024x1024_3072_0).set
  have hiZ := zslot_sub l65 (k0_off65_inb w20 hw6) i47
  have hiM := mslot_sub l66 (k0_off66_inb w22 hw7) i50
  have hiR := rslot_sub l67 (k0_off67_inb w24 hw8) i53
  have hiG := gslot_sub l68 (k0_off68_inb w26 hw9) i56
  have hiB := bslot_sub l69 (k0_off69_inb w28 hw10) i59
  have hiO := oslot_sub l70 (k0_off70_inb w29 hw11) i73
  have hiO' := oslot_sub' l70 (k0_off70_inb w29 hw11) i73
  have hV : ∀ gy gx gu gw gz gm gr gg gb, k0_pay4 (k0_pay2 (k0_pay1 ((Memref.whole cc0_scoped0).view.readAt (Elt F) (Rect.unit (s := S2x512x2048) (k0_off61 w12) S1x512x2048.size (k0_off61_inb w12 hw2)).toLoadRect gy)) ((wslotO (k0_off62 w18) (k0_off62_inb w18 hw3)).view.readAt (Elt F) (Rect.unit (s := S4096x1024) ![0, 0] S2048x1024.size inb_S4096x1024_S2048x1024_0_0).toLoadRect gw) ((Memref.whole cc0_scoped2).view.readAt (Elt F) (Rect.unit (s := S2x512x1024) (k0_off63 w14) S1x512x1024.size (k0_off63_inb w14 hw4)).toLoadRect gx) ((wslotO (k0_off62 w18) (k0_off62_inb w18 hw3)).view.readAt (Elt F) (Rect.unit (s := S4096x1024) ![2048, 0] S1024x1024.size inb_S4096x1024_S1024x1024_2048_0).toLoadRect gw) ((Memref.whole cc0_scoped4).view.readAt (Elt F) (Rect.unit (s := S2x512x1024) (k0_off64 w16) S1x512x1024.size (k0_off64_inb w16 hw5)).toLoadRect gu) ((wslotO (k0_off62 w18) (k0_off62_inb w18 hw3)).view.readAt (Elt F) (Rect.unit (s := S4096x1024) ![3072, 0] S1024x1024.size inb_S4096x1024_S1024x1024_3072_0).toLoadRect gw))
      (k0_pay3 ((Memref.whole cc0_scoped8).view.readAt (Elt F) (Rect.unit (s := S2x512x1024) (k0_off65 w20) S1x512x1024.size (k0_off65_inb w20 hw6)).toLoadRect gz) ((Memref.whole cc0_scoped10).view.readAt (Elt F) (Rect.unit (s := S2x512x128) (k0_off66 w22) S1x512x128.size (k0_off66_inb w22 hw7)).toLoadRect gm) ((Memref.whole cc0_scoped12).view.readAt (Elt F) (Rect.unit (s := S2x512x128) (k0_off67 w24) S1x512x128.size (k0_off67_inb w24 hw8)).toLoadRect gr)) ((Memref.whole cc0_scoped14).view.readAt (Elt F) (Rect.unit (s := S2x1x1024) (k0_off68 w26) S1x1x1024.size (k0_off68_inb w26 hw9)).toLoadRect gg) ((Memref.whole cc0_scoped16).view.readAt (Elt F) (Rect.unit (s := S2x1x1024) (k0_off69 w28) S1x1x1024.size (k0_off69_inb w28 hw10)).toLoadRect gb)
      = k0_pay4 (k0_pay2 (k0_pay1 (unsq_y ((yslotO _ i35).view.read (Elt F) gy))) (wtop ((wslotO _ i44).view.read (Elt F) gw)) (unsq_x ((xslotO _ i38).view.read (Elt F) gx)) (wmid ((wslotO _ i44).view.read (Elt F) gw)) (unsq_u ((uslotO _ i41).view.read (Elt F) gu)) (wbot ((wslotO _ i44).view.read (Elt F) gw)))
      (k0_pay3 (unsq_z ((zslotO _ i47).view.read (Elt F) gz)) (unsq_m ((mslotO _ i50).view.read (Elt F) gm)) (unsq_r ((rslotO _ i53).view.read (Elt F) gr))) (unsq_g ((gslotO _ i56).view.read (Elt F) gg)) (unsq_b ((bslotO _ i59).view.read (Elt F) gb)) := by
    intro gy gx gu gw gz gm gr gg gb
    rw [yslot_load l61 (k0_off61_inb w12 hw2) i35, xslot_load l63 (k0_off63_inb w14 hw4) i38, uslot_load l64 (k0_off64_inb w16 hw5) i41, wtop_load l62 (k0_off62_inb w18 hw3) i44, wmid_load l62 (k0_off62_inb w18 hw3) i44, wbot_load l62 (k0_off62_inb w18 hw3) i44, zslot_load l65 (k0_off65_inb w20 hw6) i47, mslot_load l66 (k0_off66_inb w22 hw7) i50, rslot_load l67 (k0_off67_inb w24 hw8) i53, gslot_load l68 (k0_off68_inb w26 hw9) i56, bslot_load l69 (k0_off69_inb w28 hw10) i59]
  unfold wFly gFly bFly yFree xFree uFree zFree mFree rFree yFly xFly uFly zFly mFly rFly oFree oAny owe wHold gHold bHold wSrc gSrc bSrc oFly
  iintro ⟨⟨⟨%gw, %hgw, FW, TW⟩, ⟨%gg, %hgg, FG, TG⟩, ⟨%gb, %hgb, FB, TB⟩⟩, ⟨⟨⟨%gy', RY⟩, CY, TY'⟩, ⟨⟨%gx', RX⟩, CX, TX'⟩, ⟨⟨%gu', RU⟩, CU, TU'⟩, ⟨⟨%gz', RZ⟩, CZ, TZ'⟩, ⟨⟨%gm', RM⟩, CM, TM'⟩, ⟨⟨%gr', RR⟩, CR, TR'⟩⟩, ⟨⟨%gy, %hgy, FY, TY⟩, ⟨%gx, %hgx, FX, TX⟩, ⟨%gu, %hgu, FU, TU⟩, ⟨%gz, %hgz, FZ, TZ⟩, ⟨%gm, %hgm, FM, TM⟩, ⟨%gr, %hgr, FR, TR⟩⟩, ⟨⟨%go, RO⟩, CO⟩, ⟨%gout, BO⟩, ⟨%W, HO⟩⟩
  unfold body k0_t1_body
  sl_exec
  sl_step
  isplitr
  · ipureintro; rfl
  isplitl [FW_dst FW FG_dst FG FB_dst FB]
  · isplitl [FW_dst FW]
    · isplitl [FW_dst]
      · iexists gw; isplitr
        · ipureintro; exact hgw
        iexact FW_dst
      · iexact FW
    isplitl [FG_dst FG]
    · isplitl [FG_dst]
      · iexists gg; isplitr
        · ipureintro; exact hgg
        iexact FG_dst
      · iexact FG
    isplitl [FB_dst]
    · iexists gb; isplitr
      · ipureintro; exact hgb
      iexact FB_dst
    · iexact FB
  isplitl [TW TG TB]
  · isplitl [TW]
    · iexact TW
    isplitl [TG]
    · iexact TG
    iexact TB
  isplitl [CY TY' CX TX' CU TU' CZ TZ' CM TM' CR TR']
  · isplitl [CY TY']
    · iexists ((yslotO _ i8).view.writes (Elt F) gy' [⟨Rect.whole S512x2048, (yblkO _ i9).view.read (Elt F) s.y⟩])
      isplitr
      · ipureintro; exact View.read_writes_whole _ _ _
      isplitl [CY]
      · iexact CY
      · iexact TY'
    isplitl [CX TX']
    · iexists ((xslotO _ i11).view.writes (Elt F) gx' [⟨Rect.whole S512x1024, (xblkO _ i12).view.read (Elt F) s.x⟩])
      isplitr
      · ipureintro; exact View.read_writes_whole _ _ _
      isplitl [CX]
      · iexact CX
      · iexact TX'
    isplitl [CU TU']
    · iexists ((uslotO _ i14).view.writes (Elt F) gu' [⟨Rect.whole S512x1024, (ublkO _ i15).view.read (Elt F) s.u⟩])
      isplitr
      · ipureintro; exact View.read_writes_whole _ _ _
      isplitl [CU]
      · iexact CU
      · iexact TU'
    isplitl [CZ TZ']
    · iexists ((zslotO _ i20).view.writes (Elt F) gz' [⟨Rect.whole S512x1024, (zblkO _ i21).view.read (Elt F) s.z⟩])
      isplitr
      · ipureintro; exact View.read_writes_whole _ _ _
      isplitl [CZ]
      · iexact CZ
      · iexact TZ'
    isplitl [CM TM']
    · iexists ((mslotO _ i23).view.writes (Elt F) gm' [⟨Rect.whole S512x128, (mblkO _ i24).view.read (Elt F) s.m⟩])
      isplitr
      · ipureintro; exact View.read_writes_whole _ _ _
      isplitl [CM]
      · iexact CM
      · iexact TM'
    iexists ((rslotO _ i26).view.writes (Elt F) gr' [⟨Rect.whole S512x128, (rblkO _ i27).view.read (Elt F) s.r⟩])
    isplitr
    · ipureintro; exact View.read_writes_whole _ _ _
    isplitl [CR]
    · iexact CR
    · iexact TR'
  isplitl [FY_dst FY TY FX_dst FX TX FU_dst FU TU FZ_dst FZ TZ FM_dst FM TM FR_dst FR TR]
  · isplitl [FY_dst FY TY]
    · isplitl [FY_dst]
      · iexists gy; iexact FY_dst
      isplitl [FY]
      · iexact FY
      · iexact TY
    isplitl [FX_dst FX TX]
    · isplitl [FX_dst]
      · iexists gx; iexact FX_dst
      isplitl [FX]
      · iexact FX
      · iexact TX
    isplitl [FU_dst FU TU]
    · isplitl [FU_dst]
      · iexists gu; iexact FU_dst
      isplitl [FU]
      · iexact FU
      · iexact TU
    isplitl [FZ_dst FZ TZ]
    · isplitl [FZ_dst]
      · iexists gz; iexact FZ_dst
      isplitl [FZ]
      · iexact FZ
      · iexact TZ
    isplitl [FM_dst FM TM]
    · isplitl [FM_dst]
      · iexists gm; iexact FM_dst
      isplitl [FM]
      · iexact FM
      · iexact TM
    isplitl [FR_dst]
    · iexists gr; iexact FR_dst
    isplitl [FR]
    · iexact FR
    · iexact TR
  isplitl [CO]
  · iexists _, _; isplitr [CO]
    rotate_left
    · iexact CO
    · ipureintro
      refine (View.read_writes_whole _ _ _).trans (funext fun i => ?_)
      refine (oslot_store l70 (k0_off70_inb w29 hw11) i73 go _ i).trans ?_
      refine congrFun ((hV gy gx gu gw gz gm gr gg gb).trans ?_) _
      rw [hgy, hgx, hgu, hgw, hgz, hgm, hgr, hgg, hgb]
  iexists _; iexact HO

end Cert.OutProjIdeal.Hand

end
-- ==== Proof.OutProj.TripB.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
The first trip of a later column of blocks: it waits for the column's blocks.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
/-- The first trip of a later column of blocks: it waits for the column's blocks. -/
theorem trip_col (c : Dev nD) (k : Fin k0_t1_loop.trips) (w11 w12 w13 w14 w15 w16 w17 w18 w19 w20 w21 w22 w23 w24 w25 w26 w27 w28 w29 w30 w31 w32 : BitVec 32)
    (hw1 : k0_chk1 k w11 w12 w13 w14 w15 w16 w17 w18 w19 w20 w21 w22 w23 w24 w25 w26 w27 w28 w29 w30 w31 w32) (hw2 : k0_chk2 w12) (hw4 : k0_chk4 w14) (hw5 : k0_chk5 w16) (hw3 : k0_chk3 w18) (hw6 : k0_chk6 w20) (hw7 : k0_chk7 w22) (hw8 : k0_chk8 w24) (hw9 : k0_chk9 w26) (hw10 : k0_chk10 w28) (hw11 : k0_chk11 w29)
    (h1 : k0_cond1 k w32 = 1#1) (h10 : k0_cond10 k w32 = 1#1) (h2 : k0_cond2 k w32 = 1#1) (h11 : k0_cond11 k w32 = 1#1) (h3 : k0_cond3 k w32 = 1#1) (h12 : k0_cond12 k w32 = 1#1) (h4 : ¬ k0_cond4 k w31 w32 = 1#1) (h13 : k0_cond13 k w31 w32 = 1#1) (h5 : k0_cond5 k w31 w32 = 1#1) (h14 : k0_cond14 k w31 w32 = 1#1) (h6 : k0_cond6 k w32 = 1#1) (h15 : k0_cond15 k w32 = 1#1) (h7 : k0_cond7 k w32 = 1#1) (h16 : k0_cond16 k w32 = 1#1) (h8 : ¬ k0_cond8 k w31 w32 = 1#1) (h17 : k0_cond17 k w31 w32 = 1#1) (h9 : ¬ k0_cond9 k w31 w32 = 1#1) (h18 : k0_cond18 k w31 w32 = 1#1) (h29 : k0_cond29 k w31 w32 = 1#1) (h39 : k0_cond39 k w31 w32 = 1#1)
    {o43 : Fin 1 → Nat} {o44 : Fin 3 → Nat} {o45 : Fin 2 → Nat} {o62 : Fin 3 → Nat} {o55 : Fin 1 → Nat} {o56 : Fin 3 → Nat} {o57 : Fin 2 → Nat} {o68 : Fin 3 → Nat} {o58 : Fin 1 → Nat} {o59 : Fin 3 → Nat} {o60 : Fin 2 → Nat} {o69 : Fin 3 → Nat} {o7 : Fin 1 → Nat} {o8 : Fin 3 → Nat} {o9 : Fin 2 → Nat} {o34 : Fin 1 → Nat} {o35 : Fin 3 → Nat} {o36 : Fin 2 → Nat} {o61 : Fin 3 → Nat} {o10 : Fin 1 → Nat} {o11 : Fin 3 → Nat} {o12 : Fin 2 → Nat} {o37 : Fin 1 → Nat} {o38 : Fin 3 → Nat} {o39 : Fin 2 → Nat} {o63 : Fin 3 → Nat} {o13 : Fin 1 → Nat} {o14 : Fin 3 → Nat} {o15 : Fin 2 → Nat} {o40 : Fin 1 → Nat} {o41 : Fin 3 → Nat} {o42 : Fin 2 → Nat} {o64 : Fin 3 → Nat} {o19 : Fin 1 → Nat} {o20 : Fin 3 → Nat} {o21 : Fin 2 → Nat} {o46 : Fin 1 → Nat} {o47 : Fin 3 → Nat} {o48 : Fin 2 → Nat} {o65 : Fin 3 → Nat} {o22 : Fin 1 → Nat} {o23 : Fin 3 → Nat} {o24 : Fin 2 → Nat} {o49 : Fin 1 → Nat} {o50 : Fin 3 → Nat} {o51 : Fin 2 → Nat} {o66 : Fin 3 → Nat} {o25 : Fin 1 → Nat} {o26 : Fin 3 → Nat} {o27 : Fin 2 → Nat} {o52 : Fin 1 → Nat} {o53 : Fin 3 → Nat} {o54 : Fin 2 → Nat} {o67 : Fin 3 → Nat} {o71 : Fin 1 → Nat} {o72 : Fin 2 → Nat} {o73 : Fin 3 → Nat} {o70 : Fin 3 → Nat} {o74 : Fin 1 → Nat} {o75 : Fin 2 → Nat} {o76 : Fin 3 → Nat}
    (i43 : ∀ a, o43 a + S1.size a ≤ S2.size a) (i44 : ∀ a, o44 a + S1x4096x1024.size a ≤ S2x4096x1024.size a) (i45 : ∀ a, o45 a + S4096x1024.size a ≤ S4096x4096.size a) (i62 : ∀ a, o62 a + S1x4096x1024.size a ≤ S2x4096x1024.size a) (i55 : ∀ a, o55 a + S1.size a ≤ S2.size a) (i56 : ∀ a, o56 a + S1x1x1024.size a ≤ S2x1x1024.size a) (i57 : ∀ a, o57 a + S1x1024.size a ≤ S1x4096.size a) (i68 : ∀ a, o68 a + S1x1x1024.size a ≤ S2x1x1024.size a) (i58 : ∀ a, o58 a + S1.size a ≤ S2.size a) (i59 : ∀ a, o59 a + S1x1x1024.size a ≤ S2x1x1024.size a) (i60 : ∀ a, o60 a + S1x1024.size a ≤ S1x4096.size a) (i69 : ∀ a, o69 a + S1x1x1024.size a ≤ S2x1x1024.size a) (i7 : ∀ a, o7 a + S1.size a ≤ S2.size a) (i8 : ∀ a, o8 a + S1x512x2048.size a ≤ S2x512x2048.size a) (i9 : ∀ a, o9 a + S512x2048.size a ≤ S8192x2048.size a) (i34 : ∀ a, o34 a + S1.size a ≤ S2.size a) (i35 : ∀ a, o35 a + S1x512x2048.size a ≤ S2x512x2048.size a) (i36 : ∀ a, o36 a + S512x2048.size a ≤ S8192x2048.size a) (i61 : ∀ a, o61 a + S1x512x2048.size a ≤ S2x512x2048.size a) (i10 : ∀ a, o10 a + S1.size a ≤ S2.size a) (i11 : ∀ a, o11 a + S1x512x1024.size a ≤ S2x512x1024.size a) (i12 : ∀ a, o12 a + S512x1024.size a ≤ S8192x1024.size a) (i37 : ∀ a, o37 a + S1.size a ≤ S2.size a) (i38 : ∀ a, o38 a + S1x512x1024.size a ≤ S2x512x1024.size a) (i39 : ∀ a, o39 a + S512x1024.size a ≤ S8192x1024.size a) (i63 : ∀ a, o63 a + S1x512x1024.size a ≤ S2x512x1024.size a) (i13 : ∀ a, o13 a + S1.size a ≤ S2.size a) (i14 : ∀ a, o14 a + S1x512x1024.size a ≤ S2x512x1024.size a) (i15 : ∀ a, o15 a + S512x1024.size a ≤ S8192x1024.size a) (i40 : ∀ a, o40 a + S1.size a ≤ S2.size a) (i41 : ∀ a, o41 a + S1x512x1024.size a ≤ S2x512x1024.size a) (i42 : ∀ a, o42 a + S512x1024.size a ≤ S8192x1024.size a) (i64 : ∀ a, o64 a + S1x512x1024.size a ≤ S2x512x1024.size a) (i19 : ∀ a, o19 a + S1.size a ≤ S2.size a) (i20 : ∀ a, o20 a + S1x512x1024.size a ≤ S2x512x1024.size a) (i21 : ∀ a, o21 a + S512x1024.size a ≤ S8192x4096.size a) (i46 : ∀ a, o46 a + S1.size a ≤ S2.size a) (i47 : ∀ a, o47 a + S1x512x1024.size a ≤ S2x512x1024.size a) (i48 : ∀ a, o48 a + S512x1024.size a ≤ S8192x4096.size a) (i65 : ∀ a, o65 a + S1x512x1024.size a ≤ S2x512x1024.size a) (i22 : ∀ a, o22 a + S1.size a ≤ S2.size a) (i23 : ∀ a, o23 a + S1x512x128.size a ≤ S2x512x128.size a) (i24 : ∀ a, o24 a + S512x128.size a ≤ S8192x128.size a) (i49 : ∀ a, o49 a + S1.size a ≤ S2.size a) (i50 : ∀ a, o50 a + S1x512x128.size a ≤ S2x512x128.size a) (i51 : ∀ a, o51 a + S512x128.size a ≤ S8192x128.size a) (i66 : ∀ a, o66 a + S1x512x128.size a ≤ S2x512x128.size a) (i25 : ∀ a, o25 a + S1.size a ≤ S2.size a) (i26 : ∀ a, o26 a + S1x512x128.size a ≤ S2x512x128.size a) (i27 : ∀ a, o27 a + S512x128.size a ≤ S8192x128.size a) (i52 : ∀ a, o52 a + S1.size a ≤ S2.size a) (i53 : ∀ a, o53 a + S1x512x128.size a ≤ S2x512x128.size a) (i54 : ∀ a, o54 a + S512x128.size a ≤ S8192x128.size a) (i67 : ∀ a, o67 a + S1x512x128.size a ≤ S2x512x128.size a) (i71 : ∀ a, o71 a + S1.size a ≤ S2.size a) (i72 : ∀ a, o72 a + S512x1024.size a ≤ S8192x4096.size a) (i73 : ∀ a, o73 a + S1x512x1024.size a ≤ S2x512x1024.size a) (i70 : ∀ a, o70 a + S1x512x1024.size a ≤ S2x512x1024.size a) (i74 : ∀ a, o74 a + S1.size a ≤ S2.size a) (i75 : ∀ a, o75 a + S512x1024.size a ≤ S8192x4096.size a) (i76 : ∀ a, o76 a + S1x512x1024.size a ≤ S2x512x1024.size a)
    (e43 : k0_off43 w18 = o43) (e44 : k0_off44 w18 = o44) (e45 : k0_off45 w31 = o45) (e62 : k0_off62 w18 = o62) (e55 : k0_off55 w26 = o55) (e56 : k0_off56 w26 = o56) (e57 : k0_off57 w31 = o57) (e68 : k0_off68 w26 = o68) (e58 : k0_off58 w28 = o58) (e59 : k0_off59 w28 = o59) (e60 : k0_off60 w31 = o60) (e69 : k0_off69 w28 = o69) (e7 : k0_off7 w11 = o7) (e8 : k0_off8 w11 = o8) (e9 : k0_off9 w32 = o9) (e34 : k0_off34 w12 = o34) (e35 : k0_off35 w12 = o35) (e36 : k0_off36 w32 = o36) (e61 : k0_off61 w12 = o61) (e10 : k0_off10 w13 = o10) (e11 : k0_off11 w13 = o11) (e12 : k0_off12 w32 = o12) (e37 : k0_off37 w14 = o37) (e38 : k0_off38 w14 = o38) (e39 : k0_off39 w32 = o39) (e63 : k0_off63 w14 = o63) (e13 : k0_off13 w15 = o13) (e14 : k0_off14 w15 = o14) (e15 : k0_off15 w32 = o15) (e40 : k0_off40 w16 = o40) (e41 : k0_off41 w16 = o41) (e42 : k0_off42 w32 = o42) (e64 : k0_off64 w16 = o64) (e19 : k0_off19 w19 = o19) (e20 : k0_off20 w19 = o20) (e21 : k0_off21 w31 w32 = o21) (e46 : k0_off46 w20 = o46) (e47 : k0_off47 w20 = o47) (e48 : k0_off48 w31 w32 = o48) (e65 : k0_off65 w20 = o65) (e22 : k0_off22 w21 = o22) (e23 : k0_off23 w21 = o23) (e24 : k0_off24 w32 = o24) (e49 : k0_off49 w22 = o49) (e50 : k0_off50 w22 = o50) (e51 : k0_off51 w32 = o51) (e66 : k0_off66 w22 = o66) (e25 : k0_off25 w23 = o25) (e26 : k0_off26 w23 = o26) (e27 : k0_off27 w32 = o27) (e52 : k0_off52 w24 = o52) (e53 : k0_off53 w24 = o53) (e54 : k0_off54 w32 = o54) (e67 : k0_off67 w24 = o67) (e71 : k0_off71 w29 = o71) (e72 : k0_off72 w31 w32 = o72) (e73 : k0_off73 w29 = o73) (e70 : k0_off70 w29 = o70) (e74 : k0_off74 w30 = o74) (e75 : k0_off75 w31 w32 = o75) (e76 : k0_off76 w30 = o76)
    (l61 : k0_off61 w12 = o35) (l63 : k0_off63 w14 = o38) (l64 : k0_off64 w16 = o41) (l62 : k0_off62 w18 = o44) (l65 : k0_off65 w20 = o47) (l66 : k0_off66 w22 = o50) (l67 : k0_off67 w24 = o53) (l68 : k0_off68 w26 = o56) (l69 : k0_off69 w28 = o59) (l70 : k0_off70 w29 = o73)
    (s : Src F c) (cw : SemLoc sig) (vw : Vec F S4096x1024 .f32) (cg : SemLoc sig) (vg : Vec F S1x1024 .f32) (cb : SemLoc sig) (vb : Vec F S1x1024 .f32) (vo : Vec F S512x1024 .f32) (q q' : PosShare TreeShare) :
    (iprop((wFly c s.w o44 i44 (cellO cc0_scoped7 o43 i43) o45 i45 ∗ gFly c s.g o56 i56 (cellO cc0_scoped15 o55 i55) o57 i57 ∗ bFly c s.b o59 i59 (cellO cc0_scoped17 o58 i58) o60 i60) ∗ (yFree c s.y o8 i8 (cellO cc0_scoped1 o7 i7) q ∗ xFree c s.x o11 i11 (cellO cc0_scoped3 o10 i10) q ∗ uFree c s.u o14 i14 (cellO cc0_scoped5 o13 i13) q ∗ zFree c s.z o20 i20 (cellO cc0_scoped9 o19 i19) q ∗ mFree c s.m o23 i23 (cellO cc0_scoped11 o22 i22) q ∗ rFree c s.r o26 i26 (cellO cc0_scoped13 o25 i25) q) ∗ (yFly c s.y o35 i35 (cellO cc0_scoped1 o34 i34) o36 i36 q' ∗ xFly c s.x o38 i38 (cellO cc0_scoped3 o37 i37) o39 i39 q' ∗ uFly c s.u o41 i41 (cellO cc0_scoped5 o40 i40) o42 i42 q' ∗ zFly c s.z o47 i47 (cellO cc0_scoped9 o46 i46) o48 i48 q' ∗ mFly c s.m o50 i50 (cellO cc0_scoped11 o49 i49) o51 i51 q' ∗ rFly c s.r o53 i53 (cellO cc0_scoped13 o52 i52) o54 i54 q') ∗ oFree c o73 i73 (cellO cc0_scoped19 o71 i71) ∗ oAny c o72 i72 ∗ oFly c o76 i76 (cellO cc0_scoped19 o74 i74) o75 i75 vo ∗ owe c) : sProp 𝕄)
    ⊢ wp frame (wpE (defs₀ (F := F)) Variants.none c none) Set.univ (body k w11 w12 w13 w14 w15 w16 w17 w18 w19 w20 w21 w22 w23 w24 w25 w26 w27 w28 w29 w30 w31 w32)
      (fun r => iprop(⌜r = nextW k w11 w12 w13 w14 w15 w16 w17 w18 w19 w20 w21 w22 w23 w24 w25 w26 w27 w28 w29 w30 w31 w32⌝ ∗ (wHold c o44 i44 (cellO cc0_scoped7 o43 i43) ((wblkO o45 i45).view.read (Elt F) s.w) ∗ gHold c o56 i56 (cellO cc0_scoped15 o55 i55) ((gblkO o57 i57).view.read (Elt F) s.g) ∗ bHold c o59 i59 (cellO cc0_scoped17 o58 i58) ((bblkO o60 i60).view.read (Elt F) s.b)) ∗ (wSrc c s.w ∗ gSrc c s.g ∗ bSrc c s.b) ∗ (yFly c s.y o8 i8 (cellO cc0_scoped1 o7 i7) o9 i9 q ∗ xFly c s.x o11 i11 (cellO cc0_scoped3 o10 i10) o12 i12 q ∗ uFly c s.u o14 i14 (cellO cc0_scoped5 o13 i13) o15 i15 q ∗ zFly c s.z o20 i20 (cellO cc0_scoped9 o19 i19) o21 i21 q ∗ mFly c s.m o23 i23 (cellO cc0_scoped11 o22 i22) o24 i24 q ∗ rFly c s.r o26 i26 (cellO cc0_scoped13 o25 i25) o27 i27 q) ∗ (yFree c s.y o35 i35 (cellO cc0_scoped1 o34 i34) q' ∗ xFree c s.x o38 i38 (cellO cc0_scoped3 o37 i37) q' ∗ uFree c s.u o41 i41 (cellO cc0_scoped5 o40 i40) q' ∗ zFree c s.z o47 i47 (cellO cc0_scoped9 o46 i46) q' ∗ mFree c s.m o50 i50 (cellO cc0_scoped11 o49 i49) q' ∗ rFree c s.r o53 i53 (cellO cc0_scoped13 o52 i52) q') ∗ oFly c o73 i73 (cellO cc0_scoped19 o71 i71) o72 i72 (outv ((yblkO o36 i36).view.read (Elt F) s.y) ((xblkO o39 i39).view.read (Elt F) s.x) ((ublkO o42 i42).view.read (Elt F) s.u) ((wblkO o45 i45).view.read (Elt F) s.w) ((zblkO o48 i48).view.read (Elt F) s.z) ((mblkO o51 i51).view.read (Elt F) s.m) ((rblkO o54 i54).view.read (Elt F) s.r) ((gblkO o57 i57).view.read (Elt F) s.g) ((bblkO o60 i60).view.read (Elt F) s.b)) ∗ oDone c o75 i75 vo ∗ oFree c o76 i76 (cellO cc0_scoped19 o74 i74) ∗ owe c)) := by
  subst e43 e44 e45 e62 e55 e56 e57 e68 e58 e59 e60 e69 e7 e8 e9 e34 e35 e36 e61 e10 e11 e12 e37 e38 e39 e63 e13 e14 e15 e40 e41 e42 e64 e19 e20 e21 e46 e47 e48 e65 e22 e23 e24 e49 e50 e51 e66 e25 e26 e27 e52 e53 e54 e67 e71 e72 e73 e70 e74 e75 e76
  have hiY := yslot_sub l61 (k0_off61_inb w12 hw2) i35
  have hiX := xslot_sub l63 (k0_off63_inb w14 hw4) i38
  have hiU := uslot_sub l64 (k0_off64_inb w16 hw5) i41
  have hiW := wslot_sub l62 (k0_off62_inb w18 hw3) i44
  have hiWtop := hiW (Rect.unit (s := S4096x1024) ![0, 0] S2048x1024.size inb_S4096x1024_S2048x1024_0_0).set
  have hiWmid := hiW (Rect.unit (s := S4096x1024) ![2048, 0] S1024x1024.size inb_S4096x1024_S1024x1024_2048_0).set
  have hiWbot := hiW (Rect.unit (s := S4096x1024) ![3072, 0] S1024x1024.size inb_S4096x1024_S1024x1024_3072_0).set
  have hiZ := zslot_sub l65 (k0_off65_inb w20 hw6) i47
  have hiM := mslot_sub l66 (k0_off66_inb w22 hw7) i50
  have hiR := rslot_sub l67 (k0_off67_inb w24 hw8) i53
  have hiG := gslot_sub l68 (k0_off68_inb w26 hw9) i56
  have hiB := bslot_sub l69 (k0_off69_inb w28 hw10) i59
  have hiO := oslot_sub l70 (k0_off70_inb w29 hw11) i73
  have hiO' := oslot_sub' l70 (k0_off70_inb w29 hw11) i73
  have hV : ∀ gy gx gu gw gz gm gr gg gb, k0_pay4 (k0_pay2 (k0_pay1 ((Memref.whole cc0_scoped0).view.readAt (Elt F) (Rect.unit (s := S2x512x2048) (k0_off61 w12) S1x512x2048.size (k0_off61_inb w12 hw2)).toLoadRect gy)) ((wslotO (k0_off62 w18) (k0_off62_inb w18 hw3)).view.readAt (Elt F) (Rect.unit (s := S4096x1024) ![0, 0] S2048x1024.size inb_S4096x1024_S2048x1024_0_0).toLoadRect gw) ((Memref.whole cc0_scoped2).view.readAt (Elt F) (Rect.unit (s := S2x512x1024) (k0_off63 w14) S1x512x1024.size (k0_off63_inb w14 hw4)).toLoadRect gx) ((wslotO (k0_off62 w18) (k0_off62_inb w18 hw3)).view.readAt (Elt F) (Rect.unit (s := S4096x1024) ![2048, 0] S1024x1024.size inb_S4096x1024_S1024x1024_2048_0).toLoadRect gw) ((Memref.whole cc0_scoped4).view.readAt (Elt F) (Rect.unit (s := S2x512x1024) (k0_off64 w16) S1x512x1024.size (k0_off64_inb w16 hw5)).toLoadRect gu) ((wslotO (k0_off62 w18) (k0_off62_inb w18 hw3)).view.readAt (Elt F) (Rect.unit (s := S4096x1024) ![3072, 0] S1024x1024.size inb_S4096x1024_S1024x1024_3072_0).toLoadRect gw))
      (k0_pay3 ((Memref.whole cc0_scoped8).view.readAt (Elt F) (Rect.unit (s := S2x512x1024) (k0_off65 w20) S1x512x1024.size (k0_off65_inb w20 hw6)).toLoadRect gz) ((Memref.whole cc0_scoped10).view.readAt (Elt F) (Rect.unit (s := S2x512x128) (k0_off66 w22) S1x512x128.size (k0_off66_inb w22 hw7)).toLoadRect gm) ((Memref.whole cc0_scoped12).view.readAt (Elt F) (Rect.unit (s := S2x512x128) (k0_off67 w24) S1x512x128.size (k0_off67_inb w24 hw8)).toLoadRect gr)) ((Memref.whole cc0_scoped14).view.readAt (Elt F) (Rect.unit (s := S2x1x1024) (k0_off68 w26) S1x1x1024.size (k0_off68_inb w26 hw9)).toLoadRect gg) ((Memref.whole cc0_scoped16).view.readAt (Elt F) (Rect.unit (s := S2x1x1024) (k0_off69 w28) S1x1x1024.size (k0_off69_inb w28 hw10)).toLoadRect gb)
      = k0_pay4 (k0_pay2 (k0_pay1 (unsq_y ((yslotO _ i35).view.read (Elt F) gy))) (wtop ((wslotO _ i44).view.read (Elt F) gw)) (unsq_x ((xslotO _ i38).view.read (Elt F) gx)) (wmid ((wslotO _ i44).view.read (Elt F) gw)) (unsq_u ((uslotO _ i41).view.read (Elt F) gu)) (wbot ((wslotO _ i44).view.read (Elt F) gw)))
      (k0_pay3 (unsq_z ((zslotO _ i47).view.read (Elt F) gz)) (unsq_m ((mslotO _ i50).view.read (Elt F) gm)) (unsq_r ((rslotO _ i53).view.read (Elt F) gr))) (unsq_g ((gslotO _ i56).view.read (Elt F) gg)) (unsq_b ((bslotO _ i59).view.read (Elt F) gb)) := by
    intro gy gx gu gw gz gm gr gg gb
    rw [yslot_load l61 (k0_off61_inb w12 hw2) i35, xslot_load l63 (k0_off63_inb w14 hw4) i38, uslot_load l64 (k0_off64_inb w16 hw5) i41, wtop_load l62 (k0_off62_inb w18 hw3) i44, wmid_load l62 (k0_off62_inb w18 hw3) i44, wbot_load l62 (k0_off62_inb w18 hw3) i44, zslot_load l65 (k0_off65_inb w20 hw6) i47, mslot_load l66 (k0_off66_inb w22 hw7) i50, rslot_load l67 (k0_off67_inb w24 hw8) i53, gslot_load l68 (k0_off68_inb w26 hw9) i56, bslot_load l69 (k0_off69_inb w28 hw10) i59]
  unfold wFly gFly bFly yFree xFree uFree zFree mFree rFree yFly xFly uFly zFly mFly rFly oFree oAny oFly owe wHold gHold bHold wSrc gSrc bSrc oDone
  iintro ⟨⟨⟨%gw, %hgw, FW, TW⟩, ⟨%gg, %hgg, FG, TG⟩, ⟨%gb, %hgb, FB, TB⟩⟩, ⟨⟨⟨%gy', RY⟩, CY, TY'⟩, ⟨⟨%gx', RX⟩, CX, TX'⟩, ⟨⟨%gu', RU⟩, CU, TU'⟩, ⟨⟨%gz', RZ⟩, CZ, TZ'⟩, ⟨⟨%gm', RM⟩, CM, TM'⟩, ⟨⟨%gr', RR⟩, CR, TR'⟩⟩, ⟨⟨%gy, %hgy, FY, TY⟩, ⟨%gx, %hgx, FX, TX⟩, ⟨%gu, %hgu, FU, TU⟩, ⟨%gz, %hgz, FZ, TZ⟩, ⟨%gm, %hgm, FM, TM⟩, ⟨%gr, %hgr, FR, TR⟩⟩, ⟨⟨%go, RO⟩, CO⟩, ⟨%gout, BO⟩, ⟨%gout', %go', %hgout, FO⟩, ⟨%W, HO⟩⟩
  unfold body k0_t1_body
  sl_exec
  sl_step
  isplitr
  · ipureintro; rfl
  isplitl [FW_dst FW FG_dst FG FB_dst FB]
  · isplitl [FW_dst FW]
    · isplitl [FW_dst]
      · iexists gw; isplitr
        · ipureintro; exact hgw
        iexact FW_dst
      · iexact FW
    isplitl [FG_dst FG]
    · isplitl [FG_dst]
      · iexists gg; isplitr
        · ipureintro; exact hgg
        iexact FG_dst
      · iexact FG
    isplitl [FB_dst]
    · iexists gb; isplitr
      · ipureintro; exact hgb
      iexact FB_dst
    · iexact FB
  isplitl [TW TG TB]
  · isplitl [TW]
    · iexact TW
    isplitl [TG]
    · iexact TG
    iexact TB
  isplitl [CY TY' CX TX' CU TU' CZ TZ' CM TM' CR TR']
  · isplitl [CY TY']
    · iexists ((yslotO _ i8).view.writes (Elt F) gy' [⟨Rect.whole S512x2048, (yblkO _ i9).view.read (Elt F) s.y⟩])
      isplitr
      · ipureintro; exact View.read_writes_whole _ _ _
      isplitl [CY]
      · iexact CY
      · iexact TY'
    isplitl [CX TX']
    · iexists ((xslotO _ i11).view.writes (Elt F) gx' [⟨Rect.whole S512x1024, (xblkO _ i12).view.read (Elt F) s.x⟩])
      isplitr
      · ipureintro; exact View.read_writes_whole _ _ _
      isplitl [CX]
      · iexact CX
      · iexact TX'
    isplitl [CU TU']
    · iexists ((uslotO _ i14).view.writes (Elt F) gu' [⟨Rect.whole S512x1024, (ublkO _ i15).view.read (Elt F) s.u⟩])
      isplitr
      · ipureintro; exact View.read_writes_whole _ _ _
      isplitl [CU]
      · iexact CU
      · iexact TU'
    isplitl [CZ TZ']
    · iexists ((zslotO _ i20).view.writes (Elt F) gz' [⟨Rect.whole S512x1024, (zblkO _ i21).view.read (Elt F) s.z⟩])
      isplitr
      · ipureintro; exact View.read_writes_whole _ _ _
      isplitl [CZ]
      · iexact CZ
      · iexact TZ'
    isplitl [CM TM']
    · iexists ((mslotO _ i23).view.writes (Elt F) gm' [⟨Rect.whole S512x128, (mblkO _ i24).view.read (Elt F) s.m⟩])
      isplitr
      · ipureintro; exact View.read_writes_whole _ _ _
      isplitl [CM]
      · iexact CM
      · iexact TM'
    iexists ((rslotO _ i26).view.writes (Elt F) gr' [⟨Rect.whole S512x128, (rblkO _ i27).view.read (Elt F) s.r⟩])
    isplitr
    · ipureintro; exact View.read_writes_whole _ _ _
    isplitl [CR]
    · iexact CR
    · iexact TR'
  isplitl [FY_dst FY TY FX_dst FX TX FU_dst FU TU FZ_dst FZ TZ FM_dst FM TM FR_dst FR TR]
  · isplitl [FY_dst FY TY]
    · isplitl [FY_dst]
      · iexists gy; iexact FY_dst
      isplitl [FY]
      · iexact FY
      · iexact TY
    isplitl [FX_dst FX TX]
    · isplitl [FX_dst]
      · iexists gx; iexact FX_dst
      isplitl [FX]
      · iexact FX
      · iexact TX
    isplitl [FU_dst FU TU]
    · isplitl [FU_dst]
      · iexists gu; iexact FU_dst
      isplitl [FU]
      · iexact FU
      · iexact TU
    isplitl [FZ_dst FZ TZ]
    · isplitl [FZ_dst]
      · iexists gz; iexact FZ_dst
      isplitl [FZ]
      · iexact FZ
      · iexact TZ
    isplitl [FM_dst FM TM]
    · isplitl [FM_dst]
      · iexists gm; iexact FM_dst
      isplitl [FM]
      · iexact FM
      · iexact TM
    isplitl [FR_dst]
    · iexists gr; iexact FR_dst
    isplitl [FR]
    · iexact FR
    · iexact TR
  isplitl [CO]
  · iexists _, _; isplitr [CO]
    rotate_left
    · iexact CO
    · ipureintro
      refine (View.read_writes_whole _ _ _).trans (funext fun i => ?_)
      refine (oslot_store l70 (k0_off70_inb w29 hw11) i73 go _ i).trans ?_
      refine congrFun ((hV gy gx gu gw gz gm gr gg gb).trans ?_) _
      rw [hgy, hgx, hgu, hgw, hgz, hgm, hgr, hgg, hgb]
  isplitl [FO_dst]
  · iexists gout'; isplitr
    · ipureintro; exact hgout
    · iexact FO_dst
  isplitl [FO_src FO]
  · isplitl [FO_src]
    · iexists go'; iexact FO_src
    · iexact FO
  iexists _; iexact HO

end Cert.OutProjIdeal.Hand

end
-- ==== Proof.OutProj.TripC.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
A trip in the middle of a column of blocks.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
/-- A trip in the middle of a column of blocks. -/
theorem trip_mid (c : Dev nD) (k : Fin k0_t1_loop.trips) (w11 w12 w13 w14 w15 w16 w17 w18 w19 w20 w21 w22 w23 w24 w25 w26 w27 w28 w29 w30 w31 w32 : BitVec 32)
    (hw1 : k0_chk1 k w11 w12 w13 w14 w15 w16 w17 w18 w19 w20 w21 w22 w23 w24 w25 w26 w27 w28 w29 w30 w31 w32) (hw2 : k0_chk2 w12) (hw4 : k0_chk4 w14) (hw5 : k0_chk5 w16) (hw3 : k0_chk3 w18) (hw6 : k0_chk6 w20) (hw7 : k0_chk7 w22) (hw8 : k0_chk8 w24) (hw9 : k0_chk9 w26) (hw10 : k0_chk10 w28) (hw11 : k0_chk11 w29)
    (h1 : k0_cond1 k w32 = 1#1) (h10 : k0_cond10 k w32 = 1#1) (h2 : k0_cond2 k w32 = 1#1) (h11 : k0_cond11 k w32 = 1#1) (h3 : k0_cond3 k w32 = 1#1) (h12 : k0_cond12 k w32 = 1#1) (h4 : ¬ k0_cond4 k w31 w32 = 1#1) (h13 : ¬ k0_cond13 k w31 w32 = 1#1) (h5 : k0_cond5 k w31 w32 = 1#1) (h14 : k0_cond14 k w31 w32 = 1#1) (h6 : k0_cond6 k w32 = 1#1) (h15 : k0_cond15 k w32 = 1#1) (h7 : k0_cond7 k w32 = 1#1) (h16 : k0_cond16 k w32 = 1#1) (h8 : ¬ k0_cond8 k w31 w32 = 1#1) (h17 : ¬ k0_cond17 k w31 w32 = 1#1) (h9 : ¬ k0_cond9 k w31 w32 = 1#1) (h18 : ¬ k0_cond18 k w31 w32 = 1#1) (h29 : k0_cond29 k w31 w32 = 1#1) (h39 : k0_cond39 k w31 w32 = 1#1)
    {o62 : Fin 3 → Nat} {o68 : Fin 3 → Nat} {o69 : Fin 3 → Nat} {o7 : Fin 1 → Nat} {o8 : Fin 3 → Nat} {o9 : Fin 2 → Nat} {o34 : Fin 1 → Nat} {o35 : Fin 3 → Nat} {o36 : Fin 2 → Nat} {o61 : Fin 3 → Nat} {o10 : Fin 1 → Nat} {o11 : Fin 3 → Nat} {o12 : Fin 2 → Nat} {o37 : Fin 1 → Nat} {o38 : Fin 3 → Nat} {o39 : Fin 2 → Nat} {o63 : Fin 3 → Nat} {o13 : Fin 1 → Nat} {o14 : Fin 3 → Nat} {o15 : Fin 2 → Nat} {o40 : Fin 1 → Nat} {o41 : Fin 3 → Nat} {o42 : Fin 2 → Nat} {o64 : Fin 3 → Nat} {o19 : Fin 1 → Nat} {o20 : Fin 3 → Nat} {o21 : Fin 2 → Nat} {o46 : Fin 1 → Nat} {o47 : Fin 3 → Nat} {o48 : Fin 2 → Nat} {o65 : Fin 3 → Nat} {o22 : Fin 1 → Nat} {o23 : Fin 3 → Nat} {o24 : Fin 2 → Nat} {o49 : Fin 1 → Nat} {o50 : Fin 3 → Nat} {o51 : Fin 2 → Nat} {o66 : Fin 3 → Nat} {o25 : Fin 1 → Nat} {o26 : Fin 3 → Nat} {o27 : Fin 2 → Nat} {o52 : Fin 1 → Nat} {o53 : Fin 3 → Nat} {o54 : Fin 2 → Nat} {o67 : Fin 3 → Nat} {o71 : Fin 1 → Nat} {o72 : Fin 2 → Nat} {o73 : Fin 3 → Nat} {o70 : Fin 3 → Nat} {o74 : Fin 1 → Nat} {o75 : Fin 2 → Nat} {o76 : Fin 3 → Nat}
    (i62 : ∀ a, o62 a + S1x4096x1024.size a ≤ S2x4096x1024.size a) (i68 : ∀ a, o68 a + S1x1x1024.size a ≤ S2x1x1024.size a) (i69 : ∀ a, o69 a + S1x1x1024.size a ≤ S2x1x1024.size a) (i7 : ∀ a, o7 a + S1.size a ≤ S2.size a) (i8 : ∀ a, o8 a + S1x512x2048.size a ≤ S2x512x2048.size a) (i9 : ∀ a, o9 a + S512x2048.size a ≤ S8192x2048.size a) (i34 : ∀ a, o34 a + S1.size a ≤ S2.size a) (i35 : ∀ a, o35 a + S1x512x2048.size a ≤ S2x512x2048.size a) (i36 : ∀ a, o36 a + S512x2048.size a ≤ S8192x2048.size a) (i61 : ∀ a, o61 a + S1x512x2048.size a ≤ S2x512x2048.size a) (i10 : ∀ a, o10 a + S1.size a ≤ S2.size a) (i11 : ∀ a, o11 a + S1x512x1024.size a ≤ S2x512x1024.size a) (i12 : ∀ a, o12 a + S512x1024.size a ≤ S8192x1024.size a) (i37 : ∀ a, o37 a + S1.size a ≤ S2.size a) (i38 : ∀ a, o38 a + S1x512x1024.size a ≤ S2x512x1024.size a) (i39 : ∀ a, o39 a + S512x1024.size a ≤ S8192x1024.size a) (i63 : ∀ a, o63 a + S1x512x1024.size a ≤ S2x512x1024.size a) (i13 : ∀ a, o13 a + S1.size a ≤ S2.size a) (i14 : ∀ a, o14 a + S1x512x1024.size a ≤ S2x512x1024.size a) (i15 : ∀ a, o15 a + S512x1024.size a ≤ S8192x1024.size a) (i40 : ∀ a, o40 a + S1.size a ≤ S2.size a) (i41 : ∀ a, o41 a + S1x512x1024.size a ≤ S2x512x1024.size a) (i42 : ∀ a, o42 a + S512x1024.size a ≤ S8192x1024.size a) (i64 : ∀ a, o64 a + S1x512x1024.size a ≤ S2x512x1024.size a) (i19 : ∀ a, o19 a + S1.size a ≤ S2.size a) (i20 : ∀ a, o20 a + S1x512x1024.size a ≤ S2x512x1024.size a) (i21 : ∀ a, o21 a + S512x1024.size a ≤ S8192x4096.size a) (i46 : ∀ a, o46 a + S1.size a ≤ S2.size a) (i47 : ∀ a, o47 a + S1x512x1024.size a ≤ S2x512x1024.size a) (i48 : ∀ a, o48 a + S512x1024.size a ≤ S8192x4096.size a) (i65 : ∀ a, o65 a + S1x512x1024.size a ≤ S2x512x1024.size a) (i22 : ∀ a, o22 a + S1.size a ≤ S2.size a) (i23 : ∀ a, o23 a + S1x512x128.size a ≤ S2x512x128.size a) (i24 : ∀ a, o24 a + S512x128.size a ≤ S8192x128.size a) (i49 : ∀ a, o49 a + S1.size a ≤ S2.size a) (i50 : ∀ a, o50 a + S1x512x128.size a ≤ S2x512x128.size a) (i51 : ∀ a, o51 a + S512x128.size a ≤ S8192x128.size a) (i66 : ∀ a, o66 a + S1x512x128.size a ≤ S2x512x128.size a) (i25 : ∀ a, o25 a + S1.size a ≤ S2.size a) (i26 : ∀ a, o26 a + S1x512x128.size a ≤ S2x512x128.size a) (i27 : ∀ a, o27 a + S512x128.size a ≤ S8192x128.size a) (i52 : ∀ a, o52 a + S1.size a ≤ S2.size a) (i53 : ∀ a, o53 a + S1x512x128.size a ≤ S2x512x128.size a) (i54 : ∀ a, o54 a + S512x128.size a ≤ S8192x128.size a) (i67 : ∀ a, o67 a + S1x512x128.size a ≤ S2x512x128.size a) (i71 : ∀ a, o71 a + S1.size a ≤ S2.size a) (i72 : ∀ a, o72 a + S512x1024.size a ≤ S8192x4096.size a) (i73 : ∀ a, o73 a + S1x512x1024.size a ≤ S2x512x1024.size a) (i70 : ∀ a, o70 a + S1x512x1024.size a ≤ S2x512x1024.size a) (i74 : ∀ a, o74 a + S1.size a ≤ S2.size a) (i75 : ∀ a, o75 a + S512x1024.size a ≤ S8192x4096.size a) (i76 : ∀ a, o76 a + S1x512x1024.size a ≤ S2x512x1024.size a)
    (e62 : k0_off62 w18 = o62) (e68 : k0_off68 w26 = o68) (e69 : k0_off69 w28 = o69) (e7 : k0_off7 w11 = o7) (e8 : k0_off8 w11 = o8) (e9 : k0_off9 w32 = o9) (e34 : k0_off34 w12 = o34) (e35 : k0_off35 w12 = o35) (e36 : k0_off36 w32 = o36) (e61 : k0_off61 w12 = o61) (e10 : k0_off10 w13 = o10) (e11 : k0_off11 w13 = o11) (e12 : k0_off12 w32 = o12) (e37 : k0_off37 w14 = o37) (e38 : k0_off38 w14 = o38) (e39 : k0_off39 w32 = o39) (e63 : k0_off63 w14 = o63) (e13 : k0_off13 w15 = o13) (e14 : k0_off14 w15 = o14) (e15 : k0_off15 w32 = o15) (e40 : k0_off40 w16 = o40) (e41 : k0_off41 w16 = o41) (e42 : k0_off42 w32 = o42) (e64 : k0_off64 w16 = o64) (e19 : k0_off19 w19 = o19) (e20 : k0_off20 w19 = o20) (e21 : k0_off21 w31 w32 = o21) (e46 : k0_off46 w20 = o46) (e47 : k0_off47 w20 = o47) (e48 : k0_off48 w31 w32 = o48) (e65 : k0_off65 w20 = o65) (e22 : k0_off22 w21 = o22) (e23 : k0_off23 w21 = o23) (e24 : k0_off24 w32 = o24) (e49 : k0_off49 w22 = o49) (e50 : k0_off50 w22 = o50) (e51 : k0_off51 w32 = o51) (e66 : k0_off66 w22 = o66) (e25 : k0_off25 w23 = o25) (e26 : k0_off26 w23 = o26) (e27 : k0_off27 w32 = o27) (e52 : k0_off52 w24 = o52) (e53 : k0_off53 w24 = o53) (e54 : k0_off54 w32 = o54) (e67 : k0_off67 w24 = o67) (e71 : k0_off71 w29 = o71) (e72 : k0_off72 w31 w32 = o72) (e73 : k0_off73 w29 = o73) (e70 : k0_off70 w29 = o70) (e74 : k0_off74 w30 = o74) (e75 : k0_off75 w31 w32 = o75) (e76 : k0_off76 w30 = o76)
    (l61 : k0_off61 w12 = o35) (l63 : k0_off63 w14 = o38) (l64 : k0_off64 w16 = o41) (l62 : k0_off62 w18 = o62) (l65 : k0_off65 w20 = o47) (l66 : k0_off66 w22 = o50) (l67 : k0_off67 w24 = o53) (l68 : k0_off68 w26 = o68) (l69 : k0_off69 w28 = o69) (l70 : k0_off70 w29 = o73)
    (s : Src F c) (cw : SemLoc sig) (vw : Vec F S4096x1024 .f32) (cg : SemLoc sig) (vg : Vec F S1x1024 .f32) (cb : SemLoc sig) (vb : Vec F S1x1024 .f32) (vo : Vec F S512x1024 .f32) (q q' : PosShare TreeShare) :
    (iprop((wHold c o62 i62 cw vw ∗ gHold c o68 i68 cg vg ∗ bHold c o69 i69 cb vb) ∗ (yFree c s.y o8 i8 (cellO cc0_scoped1 o7 i7) q ∗ xFree c s.x o11 i11 (cellO cc0_scoped3 o10 i10) q ∗ uFree c s.u o14 i14 (cellO cc0_scoped5 o13 i13) q ∗ zFree c s.z o20 i20 (cellO cc0_scoped9 o19 i19) q ∗ mFree c s.m o23 i23 (cellO cc0_scoped11 o22 i22) q ∗ rFree c s.r o26 i26 (cellO cc0_scoped13 o25 i25) q) ∗ (yFly c s.y o35 i35 (cellO cc0_scoped1 o34 i34) o36 i36 q' ∗ xFly c s.x o38 i38 (cellO cc0_scoped3 o37 i37) o39 i39 q' ∗ uFly c s.u o41 i41 (cellO cc0_scoped5 o40 i40) o42 i42 q' ∗ zFly c s.z o47 i47 (cellO cc0_scoped9 o46 i46) o48 i48 q' ∗ mFly c s.m o50 i50 (cellO cc0_scoped11 o49 i49) o51 i51 q' ∗ rFly c s.r o53 i53 (cellO cc0_scoped13 o52 i52) o54 i54 q') ∗ oFree c o73 i73 (cellO cc0_scoped19 o71 i71) ∗ oAny c o72 i72 ∗ oFly c o76 i76 (cellO cc0_scoped19 o74 i74) o75 i75 vo ∗ owe c) : sProp 𝕄)
    ⊢ wp frame (wpE (defs₀ (F := F)) Variants.none c none) Set.univ (body k w11 w12 w13 w14 w15 w16 w17 w18 w19 w20 w21 w22 w23 w24 w25 w26 w27 w28 w29 w30 w31 w32)
      (fun r => iprop(⌜r = nextW k w11 w12 w13 w14 w15 w16 w17 w18 w19 w20 w21 w22 w23 w24 w25 w26 w27 w28 w29 w30 w31 w32⌝ ∗ (wHold c o62 i62 cw vw ∗ gHold c o68 i68 cg vg ∗ bHold c o69 i69 cb vb) ∗ (yFly c s.y o8 i8 (cellO cc0_scoped1 o7 i7) o9 i9 q ∗ xFly c s.x o11 i11 (cellO cc0_scoped3 o10 i10) o12 i12 q ∗ uFly c s.u o14 i14 (cellO cc0_scoped5 o13 i13) o15 i15 q ∗ zFly c s.z o20 i20 (cellO cc0_scoped9 o19 i19) o21 i21 q ∗ mFly c s.m o23 i23 (cellO cc0_scoped11 o22 i22) o24 i24 q ∗ rFly c s.r o26 i26 (cellO cc0_scoped13 o25 i25) o27 i27 q) ∗ (yFree c s.y o35 i35 (cellO cc0_scoped1 o34 i34) q' ∗ xFree c s.x o38 i38 (cellO cc0_scoped3 o37 i37) q' ∗ uFree c s.u o41 i41 (cellO cc0_scoped5 o40 i40) q' ∗ zFree c s.z o47 i47 (cellO cc0_scoped9 o46 i46) q' ∗ mFree c s.m o50 i50 (cellO cc0_scoped11 o49 i49) q' ∗ rFree c s.r o53 i53 (cellO cc0_scoped13 o52 i52) q') ∗ oFly c o73 i73 (cellO cc0_scoped19 o71 i71) o72 i72 (outv ((yblkO o36 i36).view.read (Elt F) s.y) ((xblkO o39 i39).view.read (Elt F) s.x) ((ublkO o42 i42).view.read (Elt F) s.u) vw ((zblkO o48 i48).view.read (Elt F) s.z) ((mblkO o51 i51).view.read (Elt F) s.m) ((rblkO o54 i54).view.read (Elt F) s.r) vg vb) ∗ oDone c o75 i75 vo ∗ oFree c o76 i76 (cellO cc0_scoped19 o74 i74) ∗ owe c)) := by
  subst e62 e68 e69 e7 e8 e9 e34 e35 e36 e61 e10 e11 e12 e37 e38 e39 e63 e13 e14 e15 e40 e41 e42 e64 e19 e20 e21 e46 e47 e48 e65 e22 e23 e24 e49 e50 e51 e66 e25 e26 e27 e52 e53 e54 e67 e71 e72 e73 e70 e74 e75 e76
  have hiY := yslot_sub l61 (k0_off61_inb w12 hw2) i35
  have hiX := xslot_sub l63 (k0_off63_inb w14 hw4) i38
  have hiU := uslot_sub l64 (k0_off64_inb w16 hw5) i41
  have hiW := wslot_sub l62 (k0_off62_inb w18 hw3) i62
  have hiWtop := hiW (Rect.unit (s := S4096x1024) ![0, 0] S2048x1024.size inb_S4096x1024_S2048x1024_0_0).set
  have hiWmid := hiW (Rect.unit (s := S4096x1024) ![2048, 0] S1024x1024.size inb_S4096x1024_S1024x1024_2048_0).set
  have hiWbot := hiW (Rect.unit (s := S4096x1024) ![3072, 0] S1024x1024.size inb_S4096x1024_S1024x1024_3072_0).set
  have hiZ := zslot_sub l65 (k0_off65_inb w20 hw6) i47
  have hiM := mslot_sub l66 (k0_off66_inb w22 hw7) i50
  have hiR := rslot_sub l67 (k0_off67_inb w24 hw8) i53
  have hiG := gslot_sub l68 (k0_off68_inb w26 hw9) i68
  have hiB := bslot_sub l69 (k0_off69_inb w28 hw10) i69
  have hiO := oslot_sub l70 (k0_off70_inb w29 hw11) i73
  have hiO' := oslot_sub' l70 (k0_off70_inb w29 hw11) i73
  have hV : ∀ gy gx gu gw gz gm gr gg gb, k0_pay4 (k0_pay2 (k0_pay1 ((Memref.whole cc0_scoped0).view.readAt (Elt F) (Rect.unit (s := S2x512x2048) (k0_off61 w12) S1x512x2048.size (k0_off61_inb w12 hw2)).toLoadRect gy)) ((wslotO (k0_off62 w18) (k0_off62_inb w18 hw3)).view.readAt (Elt F) (Rect.unit (s := S4096x1024) ![0, 0] S2048x1024.size inb_S4096x1024_S2048x1024_0_0).toLoadRect gw) ((Memref.whole cc0_scoped2).view.readAt (Elt F) (Rect.unit (s := S2x512x1024) (k0_off63 w14) S1x512x1024.size (k0_off63_inb w14 hw4)).toLoadRect gx) ((wslotO (k0_off62 w18) (k0_off62_inb w18 hw3)).view.readAt (Elt F) (Rect.unit (s := S4096x1024) ![2048, 0] S1024x1024.size inb_S4096x1024_S1024x1024_2048_0).toLoadRect gw) ((Memref.whole cc0_scoped4).view.readAt (Elt F) (Rect.unit (s := S2x512x1024) (k0_off64 w16) S1x512x1024.size (k0_off64_inb w16 hw5)).toLoadRect gu) ((wslotO (k0_off62 w18) (k0_off62_inb w18 hw3)).view.readAt (Elt F) (Rect.unit (s := S4096x1024) ![3072, 0] S1024x1024.size inb_S4096x1024_S1024x1024_3072_0).toLoadRect gw))
      (k0_pay3 ((Memref.whole cc0_scoped8).view.readAt (Elt F) (Rect.unit (s := S2x512x1024) (k0_off65 w20) S1x512x1024.size (k0_off65_inb w20 hw6)).toLoadRect gz) ((Memref.whole cc0_scoped10).view.readAt (Elt F) (Rect.unit (s := S2x512x128) (k0_off66 w22) S1x512x128.size (k0_off66_inb w22 hw7)).toLoadRect gm) ((Memref.whole cc0_scoped12).view.readAt (Elt F) (Rect.unit (s := S2x512x128) (k0_off67 w24) S1x512x128.size (k0_off67_inb w24 hw8)).toLoadRect gr)) ((Memref.whole cc0_scoped14).view.readAt (Elt F) (Rect.unit (s := S2x1x1024) (k0_off68 w26) S1x1x1024.size (k0_off68_inb w26 hw9)).toLoadRect gg) ((Memref.whole cc0_scoped16).view.readAt (Elt F) (Rect.unit (s := S2x1x1024) (k0_off69 w28) S1x1x1024.size (k0_off69_inb w28 hw10)).toLoadRect gb)
      = k0_pay4 (k0_pay2 (k0_pay1 (unsq_y ((yslotO _ i35).view.read (Elt F) gy))) (wtop ((wslotO _ i62).view.read (Elt F) gw)) (unsq_x ((xslotO _ i38).view.read (Elt F) gx)) (wmid ((wslotO _ i62).view.read (Elt F) gw)) (unsq_u ((uslotO _ i41).view.read (Elt F) gu)) (wbot ((wslotO _ i62).view.read (Elt F) gw)))
      (k0_pay3 (unsq_z ((zslotO _ i47).view.read (Elt F) gz)) (unsq_m ((mslotO _ i50).view.read (Elt F) gm)) (unsq_r ((rslotO _ i53).view.read (Elt F) gr))) (unsq_g ((gslotO _ i68).view.read (Elt F) gg)) (unsq_b ((bslotO _ i69).view.read (Elt F) gb)) := by
    intro gy gx gu gw gz gm gr gg gb
    rw [yslot_load l61 (k0_off61_inb w12 hw2) i35, xslot_load l63 (k0_off63_inb w14 hw4) i38, uslot_load l64 (k0_off64_inb w16 hw5) i41, wtop_load l62 (k0_off62_inb w18 hw3) i62, wmid_load l62 (k0_off62_inb w18 hw3) i62, wbot_load l62 (k0_off62_inb w18 hw3) i62, zslot_load l65 (k0_off65_inb w20 hw6) i47, mslot_load l66 (k0_off66_inb w22 hw7) i50, rslot_load l67 (k0_off67_inb w24 hw8) i53, gslot_load l68 (k0_off68_inb w26 hw9) i68, bslot_load l69 (k0_off69_inb w28 hw10) i69]
  unfold wHold gHold bHold yFree xFree uFree zFree mFree rFree yFly xFly uFly zFly mFly rFly oFree oAny oFly owe oDone
  iintro ⟨⟨⟨⟨%gw, %hgw, RW⟩, KW⟩, ⟨⟨%gg, %hgg, RG⟩, KG⟩, ⟨⟨%gb, %hgb, RB⟩, KB⟩⟩, ⟨⟨⟨%gy', RY⟩, CY, TY'⟩, ⟨⟨%gx', RX⟩, CX, TX'⟩, ⟨⟨%gu', RU⟩, CU, TU'⟩, ⟨⟨%gz', RZ⟩, CZ, TZ'⟩, ⟨⟨%gm', RM⟩, CM, TM'⟩, ⟨⟨%gr', RR⟩, CR, TR'⟩⟩, ⟨⟨%gy, %hgy, FY, TY⟩, ⟨%gx, %hgx, FX, TX⟩, ⟨%gu, %hgu, FU, TU⟩, ⟨%gz, %hgz, FZ, TZ⟩, ⟨%gm, %hgm, FM, TM⟩, ⟨%gr, %hgr, FR, TR⟩⟩, ⟨⟨%go, RO⟩, CO⟩, ⟨%gout, BO⟩, ⟨%gout', %go', %hgout, FO⟩, ⟨%W, HO⟩⟩
  unfold body k0_t1_body
  sl_exec
  sl_step
  isplitr
  · ipureintro; rfl
  isplitl [RW KW RG KG RB KB]
  · isplitl [RW KW]
    · isplitl [RW]
      · iexists gw; isplitr
        · ipureintro; exact hgw
        iexact RW
      · iexact KW
    isplitl [RG KG]
    · isplitl [RG]
      · iexists gg; isplitr
        · ipureintro; exact hgg
        iexact RG
      · iexact KG
    isplitl [RB]
    · iexists gb; isplitr
      · ipureintro; exact hgb
      iexact RB
    · iexact KB
  isplitl [CY TY' CX TX' CU TU' CZ TZ' CM TM' CR TR']
  · isplitl [CY TY']
    · iexists ((yslotO _ i8).view.writes (Elt F) gy' [⟨Rect.whole S512x2048, (yblkO _ i9).view.read (Elt F) s.y⟩])
      isplitr
      · ipureintro; exact View.read_writes_whole _ _ _
      isplitl [CY]
      · iexact CY
      · iexact TY'
    isplitl [CX TX']
    · iexists ((xslotO _ i11).view.writes (Elt F) gx' [⟨Rect.whole S512x1024, (xblkO _ i12).view.read (Elt F) s.x⟩])
      isplitr
      · ipureintro; exact View.read_writes_whole _ _ _
      isplitl [CX]
      · iexact CX
      · iexact TX'
    isplitl [CU TU']
    · iexists ((uslotO _ i14).view.writes (Elt F) gu' [⟨Rect.whole S512x1024, (ublkO _ i15).view.read (Elt F) s.u⟩])
      isplitr
      · ipureintro; exact View.read_writes_whole _ _ _
      isplitl [CU]
      · iexact CU
      · iexact TU'
    isplitl [CZ TZ']
    · iexists ((zslotO _ i20).view.writes (Elt F) gz' [⟨Rect.whole S512x1024, (zblkO _ i21).view.read (Elt F) s.z⟩])
      isplitr
      · ipureintro; exact View.read_writes_whole _ _ _
      isplitl [CZ]
      · iexact CZ
      · iexact TZ'
    isplitl [CM TM']
    · iexists ((mslotO _ i23).view.writes (Elt F) gm' [⟨Rect.whole S512x128, (mblkO _ i24).view.read (Elt F) s.m⟩])
      isplitr
      · ipureintro; exact View.read_writes_whole _ _ _
      isplitl [CM]
      · iexact CM
      · iexact TM'
    iexists ((rslotO _ i26).view.writes (Elt F) gr' [⟨Rect.whole S512x128, (rblkO _ i27).view.read (Elt F) s.r⟩])
    isplitr
    · ipureintro; exact View.read_writes_whole _ _ _
    isplitl [CR]
    · iexact CR
    · iexact TR'
  isplitl [FY_dst FY TY FX_dst FX TX FU_dst FU TU FZ_dst FZ TZ FM_dst FM TM FR_dst FR TR]
  · isplitl [FY_dst FY TY]
    · isplitl [FY_dst]
      · iexists gy; iexact FY_dst
      isplitl [FY]
      · iexact FY
      · iexact TY
    isplitl [FX_dst FX TX]
    · isplitl [FX_dst]
      · iexists gx; iexact FX_dst
      isplitl [FX]
      · iexact FX
      · iexact TX
    isplitl [FU_dst FU TU]
    · isplitl [FU_dst]
      · iexists gu; iexact FU_dst
      isplitl [FU]
      · iexact FU
      · iexact TU
    isplitl [FZ_dst FZ TZ]
    · isplitl [FZ_dst]
      · iexists gz; iexact FZ_dst
      isplitl [FZ]
      · iexact FZ
      · iexact TZ
    isplitl [FM_dst FM TM]
    · isplitl [FM_dst]
      · iexists gm; iexact FM_dst
      isplitl [FM]
      · iexact FM
      · iexact TM
    isplitl [FR_dst]
    · iexists gr; iexact FR_dst
    isplitl [FR]
    · iexact FR
    · iexact TR
  isplitl [CO]
  · iexists _, _; isplitr [CO]
    rotate_left
    · iexact CO
    · ipureintro
      refine (View.read_writes_whole _ _ _).trans (funext fun i => ?_)
      refine (oslot_store l70 (k0_off70_inb w29 hw11) i73 go _ i).trans ?_
      refine congrFun ((hV gy gx gu gw gz gm gr gg gb).trans ?_) _
      rw [hgy, hgx, hgu, hgw, hgz, hgm, hgr, hgg, hgb]
  isplitl [FO_dst]
  · iexists gout'; isplitr
    · ipureintro; exact hgout
    · iexact FO_dst
  isplitl [FO_src FO]
  · isplitl [FO_src]
    · iexists go'; iexact FO_src
    · iexact FO
  iexists _; iexact HO

end Cert.OutProjIdeal.Hand

end
-- ==== Proof.OutProj.TripD.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
The last trip of a column of blocks but the last column's: it asks for the next column's blocks.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
/-- The last trip of a column of blocks but the last column's: it asks for the next column's blocks. -/
theorem trip_turn (c : Dev nD) (k : Fin k0_t1_loop.trips) (w11 w12 w13 w14 w15 w16 w17 w18 w19 w20 w21 w22 w23 w24 w25 w26 w27 w28 w29 w30 w31 w32 : BitVec 32)
    (hw1 : k0_chk1 k w11 w12 w13 w14 w15 w16 w17 w18 w19 w20 w21 w22 w23 w24 w25 w26 w27 w28 w29 w30 w31 w32) (hw2 : k0_chk2 w12) (hw4 : k0_chk4 w14) (hw5 : k0_chk5 w16) (hw3 : k0_chk3 w18) (hw6 : k0_chk6 w20) (hw7 : k0_chk7 w22) (hw8 : k0_chk8 w24) (hw9 : k0_chk9 w26) (hw10 : k0_chk10 w28) (hw11 : k0_chk11 w29)
    (h1 : k0_cond1 k w32 = 1#1) (h10 : k0_cond10 k w32 = 1#1) (h2 : k0_cond2 k w32 = 1#1) (h11 : k0_cond11 k w32 = 1#1) (h3 : k0_cond3 k w32 = 1#1) (h12 : k0_cond12 k w32 = 1#1) (h4 : k0_cond4 k w31 w32 = 1#1) (h13 : ¬ k0_cond13 k w31 w32 = 1#1) (h5 : k0_cond5 k w31 w32 = 1#1) (h14 : k0_cond14 k w31 w32 = 1#1) (h6 : k0_cond6 k w32 = 1#1) (h15 : k0_cond15 k w32 = 1#1) (h7 : k0_cond7 k w32 = 1#1) (h16 : k0_cond16 k w32 = 1#1) (h8 : k0_cond8 k w31 w32 = 1#1) (h17 : ¬ k0_cond17 k w31 w32 = 1#1) (h9 : k0_cond9 k w31 w32 = 1#1) (h18 : ¬ k0_cond18 k w31 w32 = 1#1) (h29 : k0_cond29 k w31 w32 = 1#1) (h39 : k0_cond39 k w31 w32 = 1#1)
    {o62 : Fin 3 → Nat} {o16 : Fin 1 → Nat} {o17 : Fin 3 → Nat} {o18 : Fin 2 → Nat} {o68 : Fin 3 → Nat} {o28 : Fin 1 → Nat} {o29 : Fin 3 → Nat} {o30 : Fin 2 → Nat} {o69 : Fin 3 → Nat} {o31 : Fin 1 → Nat} {o32 : Fin 3 → Nat} {o33 : Fin 2 → Nat} {o7 : Fin 1 → Nat} {o8 : Fin 3 → Nat} {o9 : Fin 2 → Nat} {o34 : Fin 1 → Nat} {o35 : Fin 3 → Nat} {o36 : Fin 2 → Nat} {o61 : Fin 3 → Nat} {o10 : Fin 1 → Nat} {o11 : Fin 3 → Nat} {o12 : Fin 2 → Nat} {o37 : Fin 1 → Nat} {o38 : Fin 3 → Nat} {o39 : Fin 2 → Nat} {o63 : Fin 3 → Nat} {o13 : Fin 1 → Nat} {o14 : Fin 3 → Nat} {o15 : Fin 2 → Nat} {o40 : Fin 1 → Nat} {o41 : Fin 3 → Nat} {o42 : Fin 2 → Nat} {o64 : Fin 3 → Nat} {o19 : Fin 1 → Nat} {o20 : Fin 3 → Nat} {o21 : Fin 2 → Nat} {o46 : Fin 1 → Nat} {o47 : Fin 3 → Nat} {o48 : Fin 2 → Nat} {o65 : Fin 3 → Nat} {o22 : Fin 1 → Nat} {o23 : Fin 3 → Nat} {o24 : Fin 2 → Nat} {o49 : Fin 1 → Nat} {o50 : Fin 3 → Nat} {o51 : Fin 2 → Nat} {o66 : Fin 3 → Nat} {o25 : Fin 1 → Nat} {o26 : Fin 3 → Nat} {o27 : Fin 2 → Nat} {o52 : Fin 1 → Nat} {o53 : Fin 3 → Nat} {o54 : Fin 2 → Nat} {o67 : Fin 3 → Nat} {o71 : Fin 1 → Nat} {o72 : Fin 2 → Nat} {o73 : Fin 3 → Nat} {o70 : Fin 3 → Nat} {o74 : Fin 1 → Nat} {o75 : Fin 2 → Nat} {o76 : Fin 3 → Nat}
    (i62 : ∀ a, o62 a + S1x4096x1024.size a ≤ S2x4096x1024.size a) (i16 : ∀ a, o16 a + S1.size a ≤ S2.size a) (i17 : ∀ a, o17 a + S1x4096x1024.size a ≤ S2x4096x1024.size a) (i18 : ∀ a, o18 a + S4096x1024.size a ≤ S4096x4096.size a) (i68 : ∀ a, o68 a + S1x1x1024.size a ≤ S2x1x1024.size a) (i28 : ∀ a, o28 a + S1.size a ≤ S2.size a) (i29 : ∀ a, o29 a + S1x1x1024.size a ≤ S2x1x1024.size a) (i30 : ∀ a, o30 a + S1x1024.size a ≤ S1x4096.size a) (i69 : ∀ a, o69 a + S1x1x1024.size a ≤ S2x1x1024.size a) (i31 : ∀ a, o31 a + S1.size a ≤ S2.size a) (i32 : ∀ a, o32 a + S1x1x1024.size a ≤ S2x1x1024.size a) (i33 : ∀ a, o33 a + S1x1024.size a ≤ S1x4096.size a) (i7 : ∀ a, o7 a + S1.size a ≤ S2.size a) (i8 : ∀ a, o8 a + S1x512x2048.size a ≤ S2x512x2048.size a) (i9 : ∀ a, o9 a + S512x2048.size a ≤ S8192x2048.size a) (i34 : ∀ a, o34 a + S1.size a ≤ S2.size a) (i35 : ∀ a, o35 a + S1x512x2048.size a ≤ S2x512x2048.size a) (i36 : ∀ a, o36 a + S512x2048.size a ≤ S8192x2048.size a) (i61 : ∀ a, o61 a + S1x512x2048.size a ≤ S2x512x2048.size a) (i10 : ∀ a, o10 a + S1.size a ≤ S2.size a) (i11 : ∀ a, o11 a + S1x512x1024.size a ≤ S2x512x1024.size a) (i12 : ∀ a, o12 a + S512x1024.size a ≤ S8192x1024.size a) (i37 : ∀ a, o37 a + S1.size a ≤ S2.size a) (i38 : ∀ a, o38 a + S1x512x1024.size a ≤ S2x512x1024.size a) (i39 : ∀ a, o39 a + S512x1024.size a ≤ S8192x1024.size a) (i63 : ∀ a, o63 a + S1x512x1024.size a ≤ S2x512x1024.size a) (i13 : ∀ a, o13 a + S1.size a ≤ S2.size a) (i14 : ∀ a, o14 a + S1x512x1024.size a ≤ S2x512x1024.size a) (i15 : ∀ a, o15 a + S512x1024.size a ≤ S8192x1024.size a) (i40 : ∀ a, o40 a + S1.size a ≤ S2.size a) (i41 : ∀ a, o41 a + S1x512x1024.size a ≤ S2x512x1024.size a) (i42 : ∀ a, o42 a + S512x1024.size a ≤ S8192x1024.size a) (i64 : ∀ a, o64 a + S1x512x1024.size a ≤ S2x512x1024.size a) (i19 : ∀ a, o19 a + S1.size a ≤ S2.size a) (i20 : ∀ a, o20 a + S1x512x1024.size a ≤ S2x512x1024.size a) (i21 : ∀ a, o21 a + S512x1024.size a ≤ S8192x4096.size a) (i46 : ∀ a, o46 a + S1.size a ≤ S2.size a) (i47 : ∀ a, o47 a + S1x512x1024.size a ≤ S2x512x1024.size a) (i48 : ∀ a, o48 a + S512x1024.size a ≤ S8192x4096.size a) (i65 : ∀ a, o65 a + S1x512x1024.size a ≤ S2x512x1024.size a) (i22 : ∀ a, o22 a + S1.size a ≤ S2.size a) (i23 : ∀ a, o23 a + S1x512x128.size a ≤ S2x512x128.size a) (i24 : ∀ a, o24 a + S512x128.size a ≤ S8192x128.size a) (i49 : ∀ a, o49 a + S1.size a ≤ S2.size a) (i50 : ∀ a, o50 a + S1x512x128.size a ≤ S2x512x128.size a) (i51 : ∀ a, o51 a + S512x128.size a ≤ S8192x128.size a) (i66 : ∀ a, o66 a + S1x512x128.size a ≤ S2x512x128.size a) (i25 : ∀ a, o25 a + S1.size a ≤ S2.size a) (i26 : ∀ a, o26 a + S1x512x128.size a ≤ S2x512x128.size a) (i27 : ∀ a, o27 a + S512x128.size a ≤ S8192x128.size a) (i52 : ∀ a, o52 a + S1.size a ≤ S2.size a) (i53 : ∀ a, o53 a + S1x512x128.size a ≤ S2x512x128.size a) (i54 : ∀ a, o54 a + S512x128.size a ≤ S8192x128.size a) (i67 : ∀ a, o67 a + S1x512x128.size a ≤ S2x512x128.size a) (i71 : ∀ a, o71 a + S1.size a ≤ S2.size a) (i72 : ∀ a, o72 a + S512x1024.size a ≤ S8192x4096.size a) (i73 : ∀ a, o73 a + S1x512x1024.size a ≤ S2x512x1024.size a) (i70 : ∀ a, o70 a + S1x512x1024.size a ≤ S2x512x1024.size a) (i74 : ∀ a, o74 a + S1.size a ≤ S2.size a) (i75 : ∀ a, o75 a + S512x1024.size a ≤ S8192x4096.size a) (i76 : ∀ a, o76 a + S1x512x1024.size a ≤ S2x512x1024.size a)
    (e62 : k0_off62 w18 = o62) (e16 : k0_off16 w17 = o16) (e17 : k0_off17 w17 = o17) (e18 : k0_off18 w31 w32 = o18) (e68 : k0_off68 w26 = o68) (e28 : k0_off28 w25 = o28) (e29 : k0_off29 w25 = o29) (e30 : k0_off30 w31 w32 = o30) (e69 : k0_off69 w28 = o69) (e31 : k0_off31 w27 = o31) (e32 : k0_off32 w27 = o32) (e33 : k0_off33 w31 w32 = o33) (e7 : k0_off7 w11 = o7) (e8 : k0_off8 w11 = o8) (e9 : k0_off9 w32 = o9) (e34 : k0_off34 w12 = o34) (e35 : k0_off35 w12 = o35) (e36 : k0_off36 w32 = o36) (e61 : k0_off61 w12 = o61) (e10 : k0_off10 w13 = o10) (e11 : k0_off11 w13 = o11) (e12 : k0_off12 w32 = o12) (e37 : k0_off37 w14 = o37) (e38 : k0_off38 w14 = o38) (e39 : k0_off39 w32 = o39) (e63 : k0_off63 w14 = o63) (e13 : k0_off13 w15 = o13) (e14 : k0_off14 w15 = o14) (e15 : k0_off15 w32 = o15) (e40 : k0_off40 w16 = o40) (e41 : k0_off41 w16 = o41) (e42 : k0_off42 w32 = o42) (e64 : k0_off64 w16 = o64) (e19 : k0_off19 w19 = o19) (e20 : k0_off20 w19 = o20) (e21 : k0_off21 w31 w32 = o21) (e46 : k0_off46 w20 = o46) (e47 : k0_off47 w20 = o47) (e48 : k0_off48 w31 w32 = o48) (e65 : k0_off65 w20 = o65) (e22 : k0_off22 w21 = o22) (e23 : k0_off23 w21 = o23) (e24 : k0_off24 w32 = o24) (e49 : k0_off49 w22 = o49) (e50 : k0_off50 w22 = o50) (e51 : k0_off51 w32 = o51) (e66 : k0_off66 w22 = o66) (e25 : k0_off25 w23 = o25) (e26 : k0_off26 w23 = o26) (e27 : k0_off27 w32 = o27) (e52 : k0_off52 w24 = o52) (e53 : k0_off53 w24 = o53) (e54 : k0_off54 w32 = o54) (e67 : k0_off67 w24 = o67) (e71 : k0_off71 w29 = o71) (e72 : k0_off72 w31 w32 = o72) (e73 : k0_off73 w29 = o73) (e70 : k0_off70 w29 = o70) (e74 : k0_off74 w30 = o74) (e75 : k0_off75 w31 w32 = o75) (e76 : k0_off76 w30 = o76)
    (l61 : k0_off61 w12 = o35) (l63 : k0_off63 w14 = o38) (l64 : k0_off64 w16 = o41) (l62 : k0_off62 w18 = o62) (l65 : k0_off65 w20 = o47) (l66 : k0_off66 w22 = o50) (l67 : k0_off67 w24 = o53) (l68 : k0_off68 w26 = o68) (l69 : k0_off69 w28 = o69) (l70 : k0_off70 w29 = o73)
    (s : Src F c) (cw : SemLoc sig) (vw : Vec F S4096x1024 .f32) (cg : SemLoc sig) (vg : Vec F S1x1024 .f32) (cb : SemLoc sig) (vb : Vec F S1x1024 .f32) (vo : Vec F S512x1024 .f32) (q q' : PosShare TreeShare) :
    (iprop((wHold c o62 i62 cw vw ∗ gHold c o68 i68 cg vg ∗ bHold c o69 i69 cb vb) ∗ (wSrc c s.w ∗ gSrc c s.g ∗ bSrc c s.b) ∗ (wFree c o17 i17 (cellO cc0_scoped7 o16 i16) ∗ gFree c o29 i29 (cellO cc0_scoped15 o28 i28) ∗ bFree c o32 i32 (cellO cc0_scoped17 o31 i31)) ∗ (yFree c s.y o8 i8 (cellO cc0_scoped1 o7 i7) q ∗ xFree c s.x o11 i11 (cellO cc0_scoped3 o10 i10) q ∗ uFree c s.u o14 i14 (cellO cc0_scoped5 o13 i13) q ∗ zFree c s.z o20 i20 (cellO cc0_scoped9 o19 i19) q ∗ mFree c s.m o23 i23 (cellO cc0_scoped11 o22 i22) q ∗ rFree c s.r o26 i26 (cellO cc0_scoped13 o25 i25) q) ∗ (yFly c s.y o35 i35 (cellO cc0_scoped1 o34 i34) o36 i36 q' ∗ xFly c s.x o38 i38 (cellO cc0_scoped3 o37 i37) o39 i39 q' ∗ uFly c s.u o41 i41 (cellO cc0_scoped5 o40 i40) o42 i42 q' ∗ zFly c s.z o47 i47 (cellO cc0_scoped9 o46 i46) o48 i48 q' ∗ mFly c s.m o50 i50 (cellO cc0_scoped11 o49 i49) o51 i51 q' ∗ rFly c s.r o53 i53 (cellO cc0_scoped13 o52 i52) o54 i54 q') ∗ oFree c o73 i73 (cellO cc0_scoped19 o71 i71) ∗ oAny c o72 i72 ∗ oFly c o76 i76 (cellO cc0_scoped19 o74 i74) o75 i75 vo ∗ owe c) : sProp 𝕄)
    ⊢ wp frame (wpE (defs₀ (F := F)) Variants.none c none) Set.univ (body k w11 w12 w13 w14 w15 w16 w17 w18 w19 w20 w21 w22 w23 w24 w25 w26 w27 w28 w29 w30 w31 w32)
      (fun r => iprop(⌜r = nextW k w11 w12 w13 w14 w15 w16 w17 w18 w19 w20 w21 w22 w23 w24 w25 w26 w27 w28 w29 w30 w31 w32⌝ ∗ (wFly c s.w o17 i17 (cellO cc0_scoped7 o16 i16) o18 i18 ∗ gFly c s.g o29 i29 (cellO cc0_scoped15 o28 i28) o30 i30 ∗ bFly c s.b o32 i32 (cellO cc0_scoped17 o31 i31) o33 i33) ∗ (wFree c o62 i62 cw ∗ gFree c o68 i68 cg ∗ bFree c o69 i69 cb) ∗ (yFly c s.y o8 i8 (cellO cc0_scoped1 o7 i7) o9 i9 q ∗ xFly c s.x o11 i11 (cellO cc0_scoped3 o10 i10) o12 i12 q ∗ uFly c s.u o14 i14 (cellO cc0_scoped5 o13 i13) o15 i15 q ∗ zFly c s.z o20 i20 (cellO cc0_scoped9 o19 i19) o21 i21 q ∗ mFly c s.m o23 i23 (cellO cc0_scoped11 o22 i22) o24 i24 q ∗ rFly c s.r o26 i26 (cellO cc0_scoped13 o25 i25) o27 i27 q) ∗ (yFree c s.y o35 i35 (cellO cc0_scoped1 o34 i34) q' ∗ xFree c s.x o38 i38 (cellO cc0_scoped3 o37 i37) q' ∗ uFree c s.u o41 i41 (cellO cc0_scoped5 o40 i40) q' ∗ zFree c s.z o47 i47 (cellO cc0_scoped9 o46 i46) q' ∗ mFree c s.m o50 i50 (cellO cc0_scoped11 o49 i49) q' ∗ rFree c s.r o53 i53 (cellO cc0_scoped13 o52 i52) q') ∗ oFly c o73 i73 (cellO cc0_scoped19 o71 i71) o72 i72 (outv ((yblkO o36 i36).view.read (Elt F) s.y) ((xblkO o39 i39).view.read (Elt F) s.x) ((ublkO o42 i42).view.read (Elt F) s.u) vw ((zblkO o48 i48).view.read (Elt F) s.z) ((mblkO o51 i51).view.read (Elt F) s.m) ((rblkO o54 i54).view.read (Elt F) s.r) vg vb) ∗ oDone c o75 i75 vo ∗ oFree c o76 i76 (cellO cc0_scoped19 o74 i74) ∗ owe c)) := by
  subst e62 e16 e17 e18 e68 e28 e29 e30 e69 e31 e32 e33 e7 e8 e9 e34 e35 e36 e61 e10 e11 e12 e37 e38 e39 e63 e13 e14 e15 e40 e41 e42 e64 e19 e20 e21 e46 e47 e48 e65 e22 e23 e24 e49 e50 e51 e66 e25 e26 e27 e52 e53 e54 e67 e71 e72 e73 e70 e74 e75 e76
  have hiY := yslot_sub l61 (k0_off61_inb w12 hw2) i35
  have hiX := xslot_sub l63 (k0_off63_inb w14 hw4) i38
  have hiU := uslot_sub l64 (k0_off64_inb w16 hw5) i41
  have hiW := wslot_sub l62 (k0_off62_inb w18 hw3) i62
  have hiWtop := hiW (Rect.unit (s := S4096x1024) ![0, 0] S2048x1024.size inb_S4096x1024_S2048x1024_0_0).set
  have hiWmid := hiW (Rect.unit (s := S4096x1024) ![2048, 0] S1024x1024.size inb_S4096x1024_S1024x1024_2048_0).set
  have hiWbot := hiW (Rect.unit (s := S4096x1024) ![3072, 0] S1024x1024.size inb_S4096x1024_S1024x1024_3072_0).set
  have hiZ := zslot_sub l65 (k0_off65_inb w20 hw6) i47
  have hiM := mslot_sub l66 (k0_off66_inb w22 hw7) i50
  have hiR := rslot_sub l67 (k0_off67_inb w24 hw8) i53
  have hiG := gslot_sub l68 (k0_off68_inb w26 hw9) i68
  have hiB := bslot_sub l69 (k0_off69_inb w28 hw10) i69
  have hiO := oslot_sub l70 (k0_off70_inb w29 hw11) i73
  have hiO' := oslot_sub' l70 (k0_off70_inb w29 hw11) i73
  have hV : ∀ gy gx gu gw gz gm gr gg gb, k0_pay4 (k0_pay2 (k0_pay1 ((Memref.whole cc0_scoped0).view.readAt (Elt F) (Rect.unit (s := S2x512x2048) (k0_off61 w12) S1x512x2048.size (k0_off61_inb w12 hw2)).toLoadRect gy)) ((wslotO (k0_off62 w18) (k0_off62_inb w18 hw3)).view.readAt (Elt F) (Rect.unit (s := S4096x1024) ![0, 0] S2048x1024.size inb_S4096x1024_S2048x1024_0_0).toLoadRect gw) ((Memref.whole cc0_scoped2).view.readAt (Elt F) (Rect.unit (s := S2x512x1024) (k0_off63 w14) S1x512x1024.size (k0_off63_inb w14 hw4)).toLoadRect gx) ((wslotO (k0_off62 w18) (k0_off62_inb w18 hw3)).view.readAt (Elt F) (Rect.unit (s := S4096x1024) ![2048, 0] S1024x1024.size inb_S4096x1024_S1024x1024_2048_0).toLoadRect gw) ((Memref.whole cc0_scoped4).view.readAt (Elt F) (Rect.unit (s := S2x512x1024) (k0_off64 w16) S1x512x1024.size (k0_off64_inb w16 hw5)).toLoadRect gu) ((wslotO (k0_off62 w18) (k0_off62_inb w18 hw3)).view.readAt (Elt F) (Rect.unit (s := S4096x1024) ![3072, 0] S1024x1024.size inb_S4096x1024_S1024x1024_3072_0).toLoadRect gw))
      (k0_pay3 ((Memref.whole cc0_scoped8).view.readAt (Elt F) (Rect.unit (s := S2x512x1024) (k0_off65 w20) S1x512x1024.size (k0_off65_inb w20 hw6)).toLoadRect gz) ((Memref.whole cc0_scoped10).view.readAt (Elt F) (Rect.unit (s := S2x512x128) (k0_off66 w22) S1x512x128.size (k0_off66_inb w22 hw7)).toLoadRect gm) ((Memref.whole cc0_scoped12).view.readAt (Elt F) (Rect.unit (s := S2x512x128) (k0_off67 w24) S1x512x128.size (k0_off67_inb w24 hw8)).toLoadRect gr)) ((Memref.whole cc0_scoped14).view.readAt (Elt F) (Rect.unit (s := S2x1x1024) (k0_off68 w26) S1x1x1024.size (k0_off68_inb w26 hw9)).toLoadRect gg) ((Memref.whole cc0_scoped16).view.readAt (Elt F) (Rect.unit (s := S2x1x1024) (k0_off69 w28) S1x1x1024.size (k0_off69_inb w28 hw10)).toLoadRect gb)
      = k0_pay4 (k0_pay2 (k0_pay1 (unsq_y ((yslotO _ i35).view.read (Elt F) gy))) (wtop ((wslotO _ i62).view.read (Elt F) gw)) (unsq_x ((xslotO _ i38).view.read (Elt F) gx)) (wmid ((wslotO _ i62).view.read (Elt F) gw)) (unsq_u ((uslotO _ i41).view.read (Elt F) gu)) (wbot ((wslotO _ i62).view.read (Elt F) gw)))
      (k0_pay3 (unsq_z ((zslotO _ i47).view.read (Elt F) gz)) (unsq_m ((mslotO _ i50).view.read (Elt F) gm)) (unsq_r ((rslotO _ i53).view.read (Elt F) gr))) (unsq_g ((gslotO _ i68).view.read (Elt F) gg)) (unsq_b ((bslotO _ i69).view.read (Elt F) gb)) := by
    intro gy gx gu gw gz gm gr gg gb
    rw [yslot_load l61 (k0_off61_inb w12 hw2) i35, xslot_load l63 (k0_off63_inb w14 hw4) i38, uslot_load l64 (k0_off64_inb w16 hw5) i41, wtop_load l62 (k0_off62_inb w18 hw3) i62, wmid_load l62 (k0_off62_inb w18 hw3) i62, wbot_load l62 (k0_off62_inb w18 hw3) i62, zslot_load l65 (k0_off65_inb w20 hw6) i47, mslot_load l66 (k0_off66_inb w22 hw7) i50, rslot_load l67 (k0_off67_inb w24 hw8) i53, gslot_load l68 (k0_off68_inb w26 hw9) i68, bslot_load l69 (k0_off69_inb w28 hw10) i69]
  unfold wHold gHold bHold wSrc gSrc bSrc wFree gFree bFree yFree xFree uFree zFree mFree rFree yFly xFly uFly zFly mFly rFly oFree oAny oFly owe wFly gFly bFly oDone
  iintro ⟨⟨⟨⟨%gw, %hgw, RW⟩, KW⟩, ⟨⟨%gg, %hgg, RG⟩, KG⟩, ⟨⟨%gb, %hgb, RB⟩, KB⟩⟩, ⟨TW, TG, TB⟩, ⟨⟨⟨%gw', RW'⟩, CW⟩, ⟨⟨%gg', RG'⟩, CG⟩, ⟨⟨%gb', RB'⟩, CB⟩⟩, ⟨⟨⟨%gy', RY⟩, CY, TY'⟩, ⟨⟨%gx', RX⟩, CX, TX'⟩, ⟨⟨%gu', RU⟩, CU, TU'⟩, ⟨⟨%gz', RZ⟩, CZ, TZ'⟩, ⟨⟨%gm', RM⟩, CM, TM'⟩, ⟨⟨%gr', RR⟩, CR, TR'⟩⟩, ⟨⟨%gy, %hgy, FY, TY⟩, ⟨%gx, %hgx, FX, TX⟩, ⟨%gu, %hgu, FU, TU⟩, ⟨%gz, %hgz, FZ, TZ⟩, ⟨%gm, %hgm, FM, TM⟩, ⟨%gr, %hgr, FR, TR⟩⟩, ⟨⟨%go, RO⟩, CO⟩, ⟨%gout, BO⟩, ⟨%gout', %go', %hgout, FO⟩, ⟨%W, HO⟩⟩
  unfold body k0_t1_body
  sl_exec
  sl_step
  isplitr
  · ipureintro; rfl
  isplitl [CW TW CG TG CB TB]
  · isplitl [CW TW]
    · iexists ((wslotO _ i17).view.writes (Elt F) gw' [⟨Rect.whole S4096x1024, (wblkO _ i18).view.read (Elt F) s.w⟩])
      isplitr
      · ipureintro; exact View.read_writes_whole _ _ _
      isplitl [CW]
      · iexact CW
      · iexact TW
    isplitl [CG TG]
    · iexists ((gslotO _ i29).view.writes (Elt F) gg' [⟨Rect.whole S1x1024, (gblkO _ i30).view.read (Elt F) s.g⟩])
      isplitr
      · ipureintro; exact View.read_writes_whole _ _ _
      isplitl [CG]
      · iexact CG
      · iexact TG
    iexists ((bslotO _ i32).view.writes (Elt F) gb' [⟨Rect.whole S1x1024, (bblkO _ i33).view.read (Elt F) s.b⟩])
    isplitr
    · ipureintro; exact View.read_writes_whole _ _ _
    isplitl [CB]
    · iexact CB
    · iexact TB
  isplitl [RW KW RG KG RB KB]
  · isplitl [RW KW]
    · isplitl [RW]
      · iexists gw; iexact RW
      · iexact KW
    isplitl [RG KG]
    · isplitl [RG]
      · iexists gg; iexact RG
      · iexact KG
    isplitl [RB]
    · iexists gb; iexact RB
    · iexact KB
  isplitl [CY TY' CX TX' CU TU' CZ TZ' CM TM' CR TR']
  · isplitl [CY TY']
    · iexists ((yslotO _ i8).view.writes (Elt F) gy' [⟨Rect.whole S512x2048, (yblkO _ i9).view.read (Elt F) s.y⟩])
      isplitr
      · ipureintro; exact View.read_writes_whole _ _ _
      isplitl [CY]
      · iexact CY
      · iexact TY'
    isplitl [CX TX']
    · iexists ((xslotO _ i11).view.writes (Elt F) gx' [⟨Rect.whole S512x1024, (xblkO _ i12).view.read (Elt F) s.x⟩])
      isplitr
      · ipureintro; exact View.read_writes_whole _ _ _
      isplitl [CX]
      · iexact CX
      · iexact TX'
    isplitl [CU TU']
    · iexists ((uslotO _ i14).view.writes (Elt F) gu' [⟨Rect.whole S512x1024, (ublkO _ i15).view.read (Elt F) s.u⟩])
      isplitr
      · ipureintro; exact View.read_writes_whole _ _ _
      isplitl [CU]
      · iexact CU
      · iexact TU'
    isplitl [CZ TZ']
    · iexists ((zslotO _ i20).view.writes (Elt F) gz' [⟨Rect.whole S512x1024, (zblkO _ i21).view.read (Elt F) s.z⟩])
      isplitr
      · ipureintro; exact View.read_writes_whole _ _ _
      isplitl [CZ]
      · iexact CZ
      · iexact TZ'
    isplitl [CM TM']
    · iexists ((mslotO _ i23).view.writes (Elt F) gm' [⟨Rect.whole S512x128, (mblkO _ i24).view.read (Elt F) s.m⟩])
      isplitr
      · ipureintro; exact View.read_writes_whole _ _ _
      isplitl [CM]
      · iexact CM
      · iexact TM'
    iexists ((rslotO _ i26).view.writes (Elt F) gr' [⟨Rect.whole S512x128, (rblkO _ i27).view.read (Elt F) s.r⟩])
    isplitr
    · ipureintro; exact View.read_writes_whole _ _ _
    isplitl [CR]
    · iexact CR
    · iexact TR'
  isplitl [FY_dst FY TY FX_dst FX TX FU_dst FU TU FZ_dst FZ TZ FM_dst FM TM FR_dst FR TR]
  · isplitl [FY_dst FY TY]
    · isplitl [FY_dst]
      · iexists gy; iexact FY_dst
      isplitl [FY]
      · iexact FY
      · iexact TY
    isplitl [FX_dst FX TX]
    · isplitl [FX_dst]
      · iexists gx; iexact FX_dst
      isplitl [FX]
      · iexact FX
      · iexact TX
    isplitl [FU_dst FU TU]
    · isplitl [FU_dst]
      · iexists gu; iexact FU_dst
      isplitl [FU]
      · iexact FU
      · iexact TU
    isplitl [FZ_dst FZ TZ]
    · isplitl [FZ_dst]
      · iexists gz; iexact FZ_dst
      isplitl [FZ]
      · iexact FZ
      · iexact TZ
    isplitl [FM_dst FM TM]
    · isplitl [FM_dst]
      · iexists gm; iexact FM_dst
      isplitl [FM]
      · iexact FM
      · iexact TM
    isplitl [FR_dst]
    · iexists gr; iexact FR_dst
    isplitl [FR]
    · iexact FR
    · iexact TR
  isplitl [CO]
  · iexists _, _; isplitr [CO]
    rotate_left
    · iexact CO
    · ipureintro
      refine (View.read_writes_whole _ _ _).trans (funext fun i => ?_)
      refine (oslot_store l70 (k0_off70_inb w29 hw11) i73 go _ i).trans ?_
      refine congrFun ((hV gy gx gu gw gz gm gr gg gb).trans ?_) _
      rw [hgy, hgx, hgu, hgw, hgz, hgm, hgr, hgg, hgb]
  isplitl [FO_dst]
  · iexists gout'; isplitr
    · ipureintro; exact hgout
    · iexact FO_dst
  isplitl [FO_src FO]
  · isplitl [FO_src]
    · iexists go'; iexact FO_src
    · iexact FO
  iexists _; iexact HO

end Cert.OutProjIdeal.Hand

end
-- ==== Proof.OutProj.TripE.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
The last trip: it asks for nothing.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
/-- The last trip: it asks for nothing. -/
theorem trip_last (c : Dev nD) (k : Fin k0_t1_loop.trips) (w11 w12 w13 w14 w15 w16 w17 w18 w19 w20 w21 w22 w23 w24 w25 w26 w27 w28 w29 w30 w31 w32 : BitVec 32)
    (hw1 : k0_chk1 k w11 w12 w13 w14 w15 w16 w17 w18 w19 w20 w21 w22 w23 w24 w25 w26 w27 w28 w29 w30 w31 w32) (hw2 : k0_chk2 w12) (hw4 : k0_chk4 w14) (hw5 : k0_chk5 w16) (hw3 : k0_chk3 w18) (hw6 : k0_chk6 w20) (hw7 : k0_chk7 w22) (hw8 : k0_chk8 w24) (hw9 : k0_chk9 w26) (hw10 : k0_chk10 w28) (hw11 : k0_chk11 w29)
    (h1 : ¬ k0_cond1 k w32 = 1#1) (h10 : k0_cond10 k w32 = 1#1) (h2 : ¬ k0_cond2 k w32 = 1#1) (h11 : k0_cond11 k w32 = 1#1) (h3 : ¬ k0_cond3 k w32 = 1#1) (h12 : k0_cond12 k w32 = 1#1) (h4 : ¬ k0_cond4 k w31 w32 = 1#1) (h13 : ¬ k0_cond13 k w31 w32 = 1#1) (h5 : ¬ k0_cond5 k w31 w32 = 1#1) (h14 : k0_cond14 k w31 w32 = 1#1) (h6 : ¬ k0_cond6 k w32 = 1#1) (h15 : k0_cond15 k w32 = 1#1) (h7 : ¬ k0_cond7 k w32 = 1#1) (h16 : k0_cond16 k w32 = 1#1) (h8 : ¬ k0_cond8 k w31 w32 = 1#1) (h17 : ¬ k0_cond17 k w31 w32 = 1#1) (h9 : ¬ k0_cond9 k w31 w32 = 1#1) (h18 : ¬ k0_cond18 k w31 w32 = 1#1) (h29 : k0_cond29 k w31 w32 = 1#1) (h39 : k0_cond39 k w31 w32 = 1#1)
    {o62 : Fin 3 → Nat} {o68 : Fin 3 → Nat} {o69 : Fin 3 → Nat} {o34 : Fin 1 → Nat} {o35 : Fin 3 → Nat} {o36 : Fin 2 → Nat} {o61 : Fin 3 → Nat} {o37 : Fin 1 → Nat} {o38 : Fin 3 → Nat} {o39 : Fin 2 → Nat} {o63 : Fin 3 → Nat} {o40 : Fin 1 → Nat} {o41 : Fin 3 → Nat} {o42 : Fin 2 → Nat} {o64 : Fin 3 → Nat} {o46 : Fin 1 → Nat} {o47 : Fin 3 → Nat} {o48 : Fin 2 → Nat} {o65 : Fin 3 → Nat} {o49 : Fin 1 → Nat} {o50 : Fin 3 → Nat} {o51 : Fin 2 → Nat} {o66 : Fin 3 → Nat} {o52 : Fin 1 → Nat} {o53 : Fin 3 → Nat} {o54 : Fin 2 → Nat} {o67 : Fin 3 → Nat} {o71 : Fin 1 → Nat} {o72 : Fin 2 → Nat} {o73 : Fin 3 → Nat} {o70 : Fin 3 → Nat} {o74 : Fin 1 → Nat} {o75 : Fin 2 → Nat} {o76 : Fin 3 → Nat}
    (i62 : ∀ a, o62 a + S1x4096x1024.size a ≤ S2x4096x1024.size a) (i68 : ∀ a, o68 a + S1x1x1024.size a ≤ S2x1x1024.size a) (i69 : ∀ a, o69 a + S1x1x1024.size a ≤ S2x1x1024.size a) (i34 : ∀ a, o34 a + S1.size a ≤ S2.size a) (i35 : ∀ a, o35 a + S1x512x2048.size a ≤ S2x512x2048.size a) (i36 : ∀ a, o36 a + S512x2048.size a ≤ S8192x2048.size a) (i61 : ∀ a, o61 a + S1x512x2048.size a ≤ S2x512x2048.size a) (i37 : ∀ a, o37 a + S1.size a ≤ S2.size a) (i38 : ∀ a, o38 a + S1x512x1024.size a ≤ S2x512x1024.size a) (i39 : ∀ a, o39 a + S512x1024.size a ≤ S8192x1024.size a) (i63 : ∀ a, o63 a + S1x512x1024.size a ≤ S2x512x1024.size a) (i40 : ∀ a, o40 a + S1.size a ≤ S2.size a) (i41 : ∀ a, o41 a + S1x512x1024.size a ≤ S2x512x1024.size a) (i42 : ∀ a, o42 a + S512x1024.size a ≤ S8192x1024.size a) (i64 : ∀ a, o64 a + S1x512x1024.size a ≤ S2x512x1024.size a) (i46 : ∀ a, o46 a + S1.size a ≤ S2.size a) (i47 : ∀ a, o47 a + S1x512x1024.size a ≤ S2x512x1024.size a) (i48 : ∀ a, o48 a + S512x1024.size a ≤ S8192x4096.size a) (i65 : ∀ a, o65 a + S1x512x1024.size a ≤ S2x512x1024.size a) (i49 : ∀ a, o49 a + S1.size a ≤ S2.size a) (i50 : ∀ a, o50 a + S1x512x128.size a ≤ S2x512x128.size a) (i51 : ∀ a, o51 a + S512x128.size a ≤ S8192x128.size a) (i66 : ∀ a, o66 a + S1x512x128.size a ≤ S2x512x128.size a) (i52 : ∀ a, o52 a + S1.size a ≤ S2.size a) (i53 : ∀ a, o53 a + S1x512x128.size a ≤ S2x512x128.size a) (i54 : ∀ a, o54 a + S512x128.size a ≤ S8192x128.size a) (i67 : ∀ a, o67 a + S1x512x128.size a ≤ S2x512x128.size a) (i71 : ∀ a, o71 a + S1.size a ≤ S2.size a) (i72 : ∀ a, o72 a + S512x1024.size a ≤ S8192x4096.size a) (i73 : ∀ a, o73 a + S1x512x1024.size a ≤ S2x512x1024.size a) (i70 : ∀ a, o70 a + S1x512x1024.size a ≤ S2x512x1024.size a) (i74 : ∀ a, o74 a + S1.size a ≤ S2.size a) (i75 : ∀ a, o75 a + S512x1024.size a ≤ S8192x4096.size a) (i76 : ∀ a, o76 a + S1x512x1024.size a ≤ S2x512x1024.size a)
    (e62 : k0_off62 w18 = o62) (e68 : k0_off68 w26 = o68) (e69 : k0_off69 w28 = o69) (e34 : k0_off34 w12 = o34) (e35 : k0_off35 w12 = o35) (e36 : k0_off36 w32 = o36) (e61 : k0_off61 w12 = o61) (e37 : k0_off37 w14 = o37) (e38 : k0_off38 w14 = o38) (e39 : k0_off39 w32 = o39) (e63 : k0_off63 w14 = o63) (e40 : k0_off40 w16 = o40) (e41 : k0_off41 w16 = o41) (e42 : k0_off42 w32 = o42) (e64 : k0_off64 w16 = o64) (e46 : k0_off46 w20 = o46) (e47 : k0_off47 w20 = o47) (e48 : k0_off48 w31 w32 = o48) (e65 : k0_off65 w20 = o65) (e49 : k0_off49 w22 = o49) (e50 : k0_off50 w22 = o50) (e51 : k0_off51 w32 = o51) (e66 : k0_off66 w22 = o66) (e52 : k0_off52 w24 = o52) (e53 : k0_off53 w24 = o53) (e54 : k0_off54 w32 = o54) (e67 : k0_off67 w24 = o67) (e71 : k0_off71 w29 = o71) (e72 : k0_off72 w31 w32 = o72) (e73 : k0_off73 w29 = o73) (e70 : k0_off70 w29 = o70) (e74 : k0_off74 w30 = o74) (e75 : k0_off75 w31 w32 = o75) (e76 : k0_off76 w30 = o76)
    (l61 : k0_off61 w12 = o35) (l63 : k0_off63 w14 = o38) (l64 : k0_off64 w16 = o41) (l62 : k0_off62 w18 = o62) (l65 : k0_off65 w20 = o47) (l66 : k0_off66 w22 = o50) (l67 : k0_off67 w24 = o53) (l68 : k0_off68 w26 = o68) (l69 : k0_off69 w28 = o69) (l70 : k0_off70 w29 = o73)
    (s : Src F c) (cw : SemLoc sig) (vw : Vec F S4096x1024 .f32) (cg : SemLoc sig) (vg : Vec F S1x1024 .f32) (cb : SemLoc sig) (vb : Vec F S1x1024 .f32) (vo : Vec F S512x1024 .f32) (q q' : PosShare TreeShare) :
    (iprop((wHold c o62 i62 cw vw ∗ gHold c o68 i68 cg vg ∗ bHold c o69 i69 cb vb) ∗ (yFly c s.y o35 i35 (cellO cc0_scoped1 o34 i34) o36 i36 q' ∗ xFly c s.x o38 i38 (cellO cc0_scoped3 o37 i37) o39 i39 q' ∗ uFly c s.u o41 i41 (cellO cc0_scoped5 o40 i40) o42 i42 q' ∗ zFly c s.z o47 i47 (cellO cc0_scoped9 o46 i46) o48 i48 q' ∗ mFly c s.m o50 i50 (cellO cc0_scoped11 o49 i49) o51 i51 q' ∗ rFly c s.r o53 i53 (cellO cc0_scoped13 o52 i52) o54 i54 q') ∗ oFree c o73 i73 (cellO cc0_scoped19 o71 i71) ∗ oAny c o72 i72 ∗ oFly c o76 i76 (cellO cc0_scoped19 o74 i74) o75 i75 vo ∗ owe c) : sProp 𝕄)
    ⊢ wp frame (wpE (defs₀ (F := F)) Variants.none c none) Set.univ (body k w11 w12 w13 w14 w15 w16 w17 w18 w19 w20 w21 w22 w23 w24 w25 w26 w27 w28 w29 w30 w31 w32)
      (fun r => iprop(⌜r = nextW k w11 w12 w13 w14 w15 w16 w17 w18 w19 w20 w21 w22 w23 w24 w25 w26 w27 w28 w29 w30 w31 w32⌝ ∗ (wHold c o62 i62 cw vw ∗ gHold c o68 i68 cg vg ∗ bHold c o69 i69 cb vb) ∗ (yFree c s.y o35 i35 (cellO cc0_scoped1 o34 i34) q' ∗ xFree c s.x o38 i38 (cellO cc0_scoped3 o37 i37) q' ∗ uFree c s.u o41 i41 (cellO cc0_scoped5 o40 i40) q' ∗ zFree c s.z o47 i47 (cellO cc0_scoped9 o46 i46) q' ∗ mFree c s.m o50 i50 (cellO cc0_scoped11 o49 i49) q' ∗ rFree c s.r o53 i53 (cellO cc0_scoped13 o52 i52) q') ∗ oFly c o73 i73 (cellO cc0_scoped19 o71 i71) o72 i72 (outv ((yblkO o36 i36).view.read (Elt F) s.y) ((xblkO o39 i39).view.read (Elt F) s.x) ((ublkO o42 i42).view.read (Elt F) s.u) vw ((zblkO o48 i48).view.read (Elt F) s.z) ((mblkO o51 i51).view.read (Elt F) s.m) ((rblkO o54 i54).view.read (Elt F) s.r) vg vb) ∗ oDone c o75 i75 vo ∗ oFree c o76 i76 (cellO cc0_scoped19 o74 i74) ∗ owe c)) := by
  subst e62 e68 e69 e34 e35 e36 e61 e37 e38 e39 e63 e40 e41 e42 e64 e46 e47 e48 e65 e49 e50 e51 e66 e52 e53 e54 e67 e71 e72 e73 e70 e74 e75 e76
  have hiY := yslot_sub l61 (k0_off61_inb w12 hw2) i35
  have hiX := xslot_sub l63 (k0_off63_inb w14 hw4) i38
  have hiU := uslot_sub l64 (k0_off64_inb w16 hw5) i41
  have hiW := wslot_sub l62 (k0_off62_inb w18 hw3) i62
  have hiWtop := hiW (Rect.unit (s := S4096x1024) ![0, 0] S2048x1024.size inb_S4096x1024_S2048x1024_0_0).set
  have hiWmid := hiW (Rect.unit (s := S4096x1024) ![2048, 0] S1024x1024.size inb_S4096x1024_S1024x1024_2048_0).set
  have hiWbot := hiW (Rect.unit (s := S4096x1024) ![3072, 0] S1024x1024.size inb_S4096x1024_S1024x1024_3072_0).set
  have hiZ := zslot_sub l65 (k0_off65_inb w20 hw6) i47
  have hiM := mslot_sub l66 (k0_off66_inb w22 hw7) i50
  have hiR := rslot_sub l67 (k0_off67_inb w24 hw8) i53
  have hiG := gslot_sub l68 (k0_off68_inb w26 hw9) i68
  have hiB := bslot_sub l69 (k0_off69_inb w28 hw10) i69
  have hiO := oslot_sub l70 (k0_off70_inb w29 hw11) i73
  have hiO' := oslot_sub' l70 (k0_off70_inb w29 hw11) i73
  have hV : ∀ gy gx gu gw gz gm gr gg gb, k0_pay4 (k0_pay2 (k0_pay1 ((Memref.whole cc0_scoped0).view.readAt (Elt F) (Rect.unit (s := S2x512x2048) (k0_off61 w12) S1x512x2048.size (k0_off61_inb w12 hw2)).toLoadRect gy)) ((wslotO (k0_off62 w18) (k0_off62_inb w18 hw3)).view.readAt (Elt F) (Rect.unit (s := S4096x1024) ![0, 0] S2048x1024.size inb_S4096x1024_S2048x1024_0_0).toLoadRect gw) ((Memref.whole cc0_scoped2).view.readAt (Elt F) (Rect.unit (s := S2x512x1024) (k0_off63 w14) S1x512x1024.size (k0_off63_inb w14 hw4)).toLoadRect gx) ((wslotO (k0_off62 w18) (k0_off62_inb w18 hw3)).view.readAt (Elt F) (Rect.unit (s := S4096x1024) ![2048, 0] S1024x1024.size inb_S4096x1024_S1024x1024_2048_0).toLoadRect gw) ((Memref.whole cc0_scoped4).view.readAt (Elt F) (Rect.unit (s := S2x512x1024) (k0_off64 w16) S1x512x1024.size (k0_off64_inb w16 hw5)).toLoadRect gu) ((wslotO (k0_off62 w18) (k0_off62_inb w18 hw3)).view.readAt (Elt F) (Rect.unit (s := S4096x1024) ![3072, 0] S1024x1024.size inb_S4096x1024_S1024x1024_3072_0).toLoadRect gw))
      (k0_pay3 ((Memref.whole cc0_scoped8).view.readAt (Elt F) (Rect.unit (s := S2x512x1024) (k0_off65 w20) S1x512x1024.size (k0_off65_inb w20 hw6)).toLoadRect gz) ((Memref.whole cc0_scoped10).view.readAt (Elt F) (Rect.unit (s := S2x512x128) (k0_off66 w22) S1x512x128.size (k0_off66_inb w22 hw7)).toLoadRect gm) ((Memref.whole cc0_scoped12).view.readAt (Elt F) (Rect.unit (s := S2x512x128) (k0_off67 w24) S1x512x128.size (k0_off67_inb w24 hw8)).toLoadRect gr)) ((Memref.whole cc0_scoped14).view.readAt (Elt F) (Rect.unit (s := S2x1x1024) (k0_off68 w26) S1x1x1024.size (k0_off68_inb w26 hw9)).toLoadRect gg) ((Memref.whole cc0_scoped16).view.readAt (Elt F) (Rect.unit (s := S2x1x1024) (k0_off69 w28) S1x1x1024.size (k0_off69_inb w28 hw10)).toLoadRect gb)
      = k0_pay4 (k0_pay2 (k0_pay1 (unsq_y ((yslotO _ i35).view.read (Elt F) gy))) (wtop ((wslotO _ i62).view.read (Elt F) gw)) (unsq_x ((xslotO _ i38).view.read (Elt F) gx)) (wmid ((wslotO _ i62).view.read (Elt F) gw)) (unsq_u ((uslotO _ i41).view.read (Elt F) gu)) (wbot ((wslotO _ i62).view.read (Elt F) gw)))
      (k0_pay3 (unsq_z ((zslotO _ i47).view.read (Elt F) gz)) (unsq_m ((mslotO _ i50).view.read (Elt F) gm)) (unsq_r ((rslotO _ i53).view.read (Elt F) gr))) (unsq_g ((gslotO _ i68).view.read (Elt F) gg)) (unsq_b ((bslotO _ i69).view.read (Elt F) gb)) := by
    intro gy gx gu gw gz gm gr gg gb
    rw [yslot_load l61 (k0_off61_inb w12 hw2) i35, xslot_load l63 (k0_off63_inb w14 hw4) i38, uslot_load l64 (k0_off64_inb w16 hw5) i41, wtop_load l62 (k0_off62_inb w18 hw3) i62, wmid_load l62 (k0_off62_inb w18 hw3) i62, wbot_load l62 (k0_off62_inb w18 hw3) i62, zslot_load l65 (k0_off65_inb w20 hw6) i47, mslot_load l66 (k0_off66_inb w22 hw7) i50, rslot_load l67 (k0_off67_inb w24 hw8) i53, gslot_load l68 (k0_off68_inb w26 hw9) i68, bslot_load l69 (k0_off69_inb w28 hw10) i69]
  unfold wHold gHold bHold yFly xFly uFly zFly mFly rFly oFree oAny oFly owe yFree xFree uFree zFree mFree rFree oDone
  iintro ⟨⟨⟨⟨%gw, %hgw, RW⟩, KW⟩, ⟨⟨%gg, %hgg, RG⟩, KG⟩, ⟨⟨%gb, %hgb, RB⟩, KB⟩⟩, ⟨⟨%gy, %hgy, FY, TY⟩, ⟨%gx, %hgx, FX, TX⟩, ⟨%gu, %hgu, FU, TU⟩, ⟨%gz, %hgz, FZ, TZ⟩, ⟨%gm, %hgm, FM, TM⟩, ⟨%gr, %hgr, FR, TR⟩⟩, ⟨⟨%go, RO⟩, CO⟩, ⟨%gout, BO⟩, ⟨%gout', %go', %hgout, FO⟩, ⟨%W, HO⟩⟩
  unfold body k0_t1_body
  sl_exec
  sl_step
  isplitr
  · ipureintro; rfl
  isplitl [RW KW RG KG RB KB]
  · isplitl [RW KW]
    · isplitl [RW]
      · iexists gw; isplitr
        · ipureintro; exact hgw
        iexact RW
      · iexact KW
    isplitl [RG KG]
    · isplitl [RG]
      · iexists gg; isplitr
        · ipureintro; exact hgg
        iexact RG
      · iexact KG
    isplitl [RB]
    · iexists gb; isplitr
      · ipureintro; exact hgb
      iexact RB
    · iexact KB
  isplitl [FY_dst FY TY FX_dst FX TX FU_dst FU TU FZ_dst FZ TZ FM_dst FM TM FR_dst FR TR]
  · isplitl [FY_dst FY TY]
    · isplitl [FY_dst]
      · iexists gy; iexact FY_dst
      isplitl [FY]
      · iexact FY
      · iexact TY
    isplitl [FX_dst FX TX]
    · isplitl [FX_dst]
      · iexists gx; iexact FX_dst
      isplitl [FX]
      · iexact FX
      · iexact TX
    isplitl [FU_dst FU TU]
    · isplitl [FU_dst]
      · iexists gu; iexact FU_dst
      isplitl [FU]
      · iexact FU
      · iexact TU
    isplitl [FZ_dst FZ TZ]
    · isplitl [FZ_dst]
      · iexists gz; iexact FZ_dst
      isplitl [FZ]
      · iexact FZ
      · iexact TZ
    isplitl [FM_dst FM TM]
    · isplitl [FM_dst]
      · iexists gm; iexact FM_dst
      isplitl [FM]
      · iexact FM
      · iexact TM
    isplitl [FR_dst]
    · iexists gr; iexact FR_dst
    isplitl [FR]
    · iexact FR
    · iexact TR
  isplitl [CO]
  · iexists _, _; isplitr [CO]
    rotate_left
    · iexact CO
    · ipureintro
      refine (View.read_writes_whole _ _ _).trans (funext fun i => ?_)
      refine (oslot_store l70 (k0_off70_inb w29 hw11) i73 go _ i).trans ?_
      refine congrFun ((hV gy gx gu gw gz gm gr gg gb).trans ?_) _
      rw [hgy, hgx, hgu, hgw, hgz, hgm, hgr, hgg, hgb]
  isplitl [FO_dst]
  · iexists gout'; isplitr
    · ipureintro; exact hgout
    · iexact FO_dst
  isplitl [FO_src FO]
  · isplitl [FO_src]
    · iexists go'; iexact FO_src
    · iexact FO
  iexists _; iexact HO

end Cert.OutProjIdeal.Hand

end
-- ==== Proof.OutProj.Words.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Names

/-!
The words the out-projection's loop carries, trip by trip: the steps taken of each ring, and the column and the
row of blocks. There are 64 trips, so every fact is checked at each.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The slot of a ring a step uses: the steps alternate between the two. -/
def par (n : ℕ) : Fin 2 := ⟨n % 2, Nat.mod_lt _ (by decide)⟩
/-- A column of blocks, counted without end. -/
abbrev colr (r : ℕ) : Fin 4 := ⟨r % 4, Nat.mod_lt _ (by decide)⟩
/-- The column of blocks a step works in. -/
abbrev col (n : ℕ) : Fin 4 := colr (n / 16)
/-- The row of blocks a step works in. -/
def row (n : ℕ) : Fin 16 := ⟨n % 16, Nat.mod_lt _ (by decide)⟩

theorem par_add_two (n : ℕ) : par (n + 2) = par n := Fin.ext (Nat.add_mod_right n 2)

/-- Where a slot's box begins in its ring. -/
def slotOff (p : Fin 2) : Fin 3 → Nat := ![p.val, 0, 0]
/-- Where a slot's semaphore is among its ring's. -/
def cellOff (p : Fin 2) : Fin 1 → Nat := ![p.val]
/-- Where a row of blocks begins. -/
def rblkOff (i : Fin 16) : Fin 2 → Nat := ![512 * i.val, 0]
/-- Where a column of blocks begins. -/
def cblkOff (j : Fin 4) : Fin 2 → Nat := ![0, 1024 * j.val]
/-- Where a block of a row and a column begins. -/
def oblkOff (i : Fin 16) (j : Fin 4) : Fin 2 → Nat := ![512 * i.val, 1024 * j.val]

theorem cell_inb : ∀ p a, cellOff p a + S1.size a ≤ S2.size a := by decide +kernel
theorem yslot_inb : ∀ p a, slotOff p a + S1x512x2048.size a ≤ S2x512x2048.size a := by decide +kernel
theorem yblk_inb : ∀ i a, rblkOff i a + S512x2048.size a ≤ S8192x2048.size a := by decide +kernel
theorem xslot_inb : ∀ p a, slotOff p a + S1x512x1024.size a ≤ S2x512x1024.size a := by decide +kernel
theorem xblk_inb : ∀ i a, rblkOff i a + S512x1024.size a ≤ S8192x1024.size a := by decide +kernel
theorem uslot_inb : ∀ p a, slotOff p a + S1x512x1024.size a ≤ S2x512x1024.size a := by decide +kernel
theorem ublk_inb : ∀ i a, rblkOff i a + S512x1024.size a ≤ S8192x1024.size a := by decide +kernel
theorem wslot_inb : ∀ p a, slotOff p a + S1x4096x1024.size a ≤ S2x4096x1024.size a := by decide +kernel
theorem wblk_inb : ∀ j a, cblkOff j a + S4096x1024.size a ≤ S4096x4096.size a := by decide +kernel
theorem zslot_inb : ∀ p a, slotOff p a + S1x512x1024.size a ≤ S2x512x1024.size a := by decide +kernel
theorem zblk_inb : ∀ i j a, oblkOff i j a + S512x1024.size a ≤ S8192x4096.size a := by decide +kernel
theorem mslot_inb : ∀ p a, slotOff p a + S1x512x128.size a ≤ S2x512x128.size a := by decide +kernel
theorem mblk_inb : ∀ i a, rblkOff i a + S512x128.size a ≤ S8192x128.size a := by decide +kernel
theorem rslot_inb : ∀ p a, slotOff p a + S1x512x128.size a ≤ S2x512x128.size a := by decide +kernel
theorem rblk_inb : ∀ i a, rblkOff i a + S512x128.size a ≤ S8192x128.size a := by decide +kernel
theorem gslot_inb : ∀ p a, slotOff p a + S1x1x1024.size a ≤ S2x1x1024.size a := by decide +kernel
theorem gblk_inb : ∀ j a, cblkOff j a + S1x1024.size a ≤ S1x4096.size a := by decide +kernel
theorem bslot_inb : ∀ p a, slotOff p a + S1x1x1024.size a ≤ S2x1x1024.size a := by decide +kernel
theorem bblk_inb : ∀ j a, cblkOff j a + S1x1024.size a ≤ S1x4096.size a := by decide +kernel
theorem oslot_inb : ∀ p a, slotOff p a + S1x512x1024.size a ≤ S2x512x1024.size a := by decide +kernel
theorem oblk_inb : ∀ i j a, oblkOff i j a + S512x1024.size a ≤ S8192x4096.size a := by decide +kernel

/-! The words carried into trip `k`. -/
def W11 (k : ℕ) : BitVec 32 := BitVec.ofNat 32 (min (k + 1) 64)
def W12 (k : ℕ) : BitVec 32 := BitVec.ofNat 32 (k)
def W13 (k : ℕ) : BitVec 32 := BitVec.ofNat 32 (min (k + 1) 64)
def W14 (k : ℕ) : BitVec 32 := BitVec.ofNat 32 (k)
def W15 (k : ℕ) : BitVec 32 := BitVec.ofNat 32 (min (k + 1) 64)
def W16 (k : ℕ) : BitVec 32 := BitVec.ofNat 32 (k)
def W17 (k : ℕ) : BitVec 32 := BitVec.ofNat 32 (min (k / 16 + 1) 4)
def W18 (k : ℕ) : BitVec 32 := BitVec.ofNat 32 (k / 16)
def W19 (k : ℕ) : BitVec 32 := BitVec.ofNat 32 (min (k + 1) 64)
def W20 (k : ℕ) : BitVec 32 := BitVec.ofNat 32 (k)
def W21 (k : ℕ) : BitVec 32 := BitVec.ofNat 32 (min (k + 1) 64)
def W22 (k : ℕ) : BitVec 32 := BitVec.ofNat 32 (k)
def W23 (k : ℕ) : BitVec 32 := BitVec.ofNat 32 (min (k + 1) 64)
def W24 (k : ℕ) : BitVec 32 := BitVec.ofNat 32 (k)
def W25 (k : ℕ) : BitVec 32 := BitVec.ofNat 32 (min (k / 16 + 1) 4)
def W26 (k : ℕ) : BitVec 32 := BitVec.ofNat 32 (k / 16)
def W27 (k : ℕ) : BitVec 32 := BitVec.ofNat 32 (min (k / 16 + 1) 4)
def W28 (k : ℕ) : BitVec 32 := BitVec.ofNat 32 (k / 16)
def W29 (k : ℕ) : BitVec 32 := BitVec.ofNat 32 (k)
def W30 (k : ℕ) : BitVec 32 := BitVec.ofNat 32 (k - 1)
def W31 (k : ℕ) : BitVec 32 := BitVec.ofNat 32 (k / 16 % 4)
def W32 (k : ℕ) : BitVec 32 := BitVec.ofNat 32 (k % 16)

/-- All of them. -/
def words (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (W11 k, W12 k, W13 k, W14 k, W15 k, W16 k, W17 k, W18 k, W19 k, W20 k, W21 k, W22 k, W23 k, W24 k, W25 k, W26 k, W27 k, W28 k, W29 k, W30 k, W31 k, W32 k)

/-- Whether two such tuples are equal is decided word by word. -/
instance decWords : DecidableEq (BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) := @instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance (@instDecidableEqProd (BitVec 32) _ inferInstance ((inferInstance : DecidableEq (BitVec 32)))))))))))))))))))))))

theorem next_words : ∀ k : Fin k0_t1_loop.trips, nextW k (W11 k) (W12 k) (W13 k) (W14 k) (W15 k) (W16 k) (W17 k) (W18 k) (W19 k) (W20 k) (W21 k) (W22 k) (W23 k) (W24 k) (W25 k) (W26 k) (W27 k) (W28 k) (W29 k) (W30 k) (W31 k) (W32 k) = words (k + 1) := by decide +kernel

/-! What the body assumes and decides at trip `k`. -/
theorem chk1 : ∀ k : Fin k0_t1_loop.trips, k0_chk1 k (W11 k) (W12 k) (W13 k) (W14 k) (W15 k) (W16 k) (W17 k) (W18 k) (W19 k) (W20 k) (W21 k) (W22 k) (W23 k) (W24 k) (W25 k) (W26 k) (W27 k) (W28 k) (W29 k) (W30 k) (W31 k) (W32 k) := by decide +kernel
theorem chk2 : ∀ k : Fin k0_t1_loop.trips, k0_chk2 (W12 k) := by decide +kernel
theorem chk4 : ∀ k : Fin k0_t1_loop.trips, k0_chk4 (W14 k) := by decide +kernel
theorem chk5 : ∀ k : Fin k0_t1_loop.trips, k0_chk5 (W16 k) := by decide +kernel
theorem chk3 : ∀ k : Fin k0_t1_loop.trips, k0_chk3 (W18 k) := by decide +kernel
theorem chk6 : ∀ k : Fin k0_t1_loop.trips, k0_chk6 (W20 k) := by decide +kernel
theorem chk7 : ∀ k : Fin k0_t1_loop.trips, k0_chk7 (W22 k) := by decide +kernel
theorem chk8 : ∀ k : Fin k0_t1_loop.trips, k0_chk8 (W24 k) := by decide +kernel
theorem chk9 : ∀ k : Fin k0_t1_loop.trips, k0_chk9 (W26 k) := by decide +kernel
theorem chk10 : ∀ k : Fin k0_t1_loop.trips, k0_chk10 (W28 k) := by decide +kernel
theorem chk11 : ∀ k : Fin k0_t1_loop.trips, k0_chk11 (W29 k) := by decide +kernel
theorem cond1 : ∀ k : Fin k0_t1_loop.trips, (k0_cond1 k (W32 k) = 1#1 ↔ k.val < 63) := by decide +kernel
theorem cond10 : ∀ k : Fin k0_t1_loop.trips, (k0_cond10 k (W32 k) = 1#1 ↔ True) := by decide +kernel
theorem cond2 : ∀ k : Fin k0_t1_loop.trips, (k0_cond2 k (W32 k) = 1#1 ↔ k.val < 63) := by decide +kernel
theorem cond11 : ∀ k : Fin k0_t1_loop.trips, (k0_cond11 k (W32 k) = 1#1 ↔ True) := by decide +kernel
theorem cond3 : ∀ k : Fin k0_t1_loop.trips, (k0_cond3 k (W32 k) = 1#1 ↔ k.val < 63) := by decide +kernel
theorem cond12 : ∀ k : Fin k0_t1_loop.trips, (k0_cond12 k (W32 k) = 1#1 ↔ True) := by decide +kernel
theorem cond4 : ∀ k : Fin k0_t1_loop.trips, (k0_cond4 k (W31 k) (W32 k) = 1#1 ↔ k.val % 16 = 15 ∧ k.val < 63) := by decide +kernel
theorem cond13 : ∀ k : Fin k0_t1_loop.trips, (k0_cond13 k (W31 k) (W32 k) = 1#1 ↔ k.val % 16 = 0) := by decide +kernel
theorem cond5 : ∀ k : Fin k0_t1_loop.trips, (k0_cond5 k (W31 k) (W32 k) = 1#1 ↔ k.val < 63) := by decide +kernel
theorem cond14 : ∀ k : Fin k0_t1_loop.trips, (k0_cond14 k (W31 k) (W32 k) = 1#1 ↔ True) := by decide +kernel
theorem cond6 : ∀ k : Fin k0_t1_loop.trips, (k0_cond6 k (W32 k) = 1#1 ↔ k.val < 63) := by decide +kernel
theorem cond15 : ∀ k : Fin k0_t1_loop.trips, (k0_cond15 k (W32 k) = 1#1 ↔ True) := by decide +kernel
theorem cond7 : ∀ k : Fin k0_t1_loop.trips, (k0_cond7 k (W32 k) = 1#1 ↔ k.val < 63) := by decide +kernel
theorem cond16 : ∀ k : Fin k0_t1_loop.trips, (k0_cond16 k (W32 k) = 1#1 ↔ True) := by decide +kernel
theorem cond8 : ∀ k : Fin k0_t1_loop.trips, (k0_cond8 k (W31 k) (W32 k) = 1#1 ↔ k.val % 16 = 15 ∧ k.val < 63) := by decide +kernel
theorem cond17 : ∀ k : Fin k0_t1_loop.trips, (k0_cond17 k (W31 k) (W32 k) = 1#1 ↔ k.val % 16 = 0) := by decide +kernel
theorem cond9 : ∀ k : Fin k0_t1_loop.trips, (k0_cond9 k (W31 k) (W32 k) = 1#1 ↔ k.val % 16 = 15 ∧ k.val < 63) := by decide +kernel
theorem cond18 : ∀ k : Fin k0_t1_loop.trips, (k0_cond18 k (W31 k) (W32 k) = 1#1 ↔ k.val % 16 = 0) := by decide +kernel
theorem cond29 : ∀ k : Fin k0_t1_loop.trips, (k0_cond29 k (W31 k) (W32 k) = 1#1 ↔ True) := by decide +kernel
theorem cond39 : ∀ k : Fin k0_t1_loop.trips, (k0_cond39 k (W31 k) (W32 k) = 1#1 ↔ 0 < k.val) := by decide +kernel

/-! The offsets the body computes at trip `k`. -/
theorem off7 : ∀ k : Fin k0_t1_loop.trips, k.val < 63 → k0_off7 (W11 k) = cellOff (par (k.val + 1)) := by decide +kernel
theorem off8 : ∀ k : Fin k0_t1_loop.trips, k.val < 63 → k0_off8 (W11 k) = slotOff (par (k.val + 1)) := by decide +kernel
theorem off9 : ∀ k : Fin k0_t1_loop.trips, k.val < 63 → k0_off9 (W32 k) = rblkOff (row (k.val + 1)) := by decide +kernel
theorem off34 : ∀ k : Fin k0_t1_loop.trips, k0_off34 (W12 k) = cellOff (par k.val) := by decide +kernel
theorem off35 : ∀ k : Fin k0_t1_loop.trips, k0_off35 (W12 k) = slotOff (par k.val) := by decide +kernel
theorem off36 : ∀ k : Fin k0_t1_loop.trips, k0_off36 (W32 k) = rblkOff (row k) := by decide +kernel
theorem off61 : ∀ k : Fin k0_t1_loop.trips, k0_off61 (W12 k) = slotOff (par k.val) := by decide +kernel
theorem off10 : ∀ k : Fin k0_t1_loop.trips, k.val < 63 → k0_off10 (W13 k) = cellOff (par (k.val + 1)) := by decide +kernel
theorem off11 : ∀ k : Fin k0_t1_loop.trips, k.val < 63 → k0_off11 (W13 k) = slotOff (par (k.val + 1)) := by decide +kernel
theorem off12 : ∀ k : Fin k0_t1_loop.trips, k.val < 63 → k0_off12 (W32 k) = rblkOff (row (k.val + 1)) := by decide +kernel
theorem off37 : ∀ k : Fin k0_t1_loop.trips, k0_off37 (W14 k) = cellOff (par k.val) := by decide +kernel
theorem off38 : ∀ k : Fin k0_t1_loop.trips, k0_off38 (W14 k) = slotOff (par k.val) := by decide +kernel
theorem off39 : ∀ k : Fin k0_t1_loop.trips, k0_off39 (W32 k) = rblkOff (row k) := by decide +kernel
theorem off63 : ∀ k : Fin k0_t1_loop.trips, k0_off63 (W14 k) = slotOff (par k.val) := by decide +kernel
theorem off13 : ∀ k : Fin k0_t1_loop.trips, k.val < 63 → k0_off13 (W15 k) = cellOff (par (k.val + 1)) := by decide +kernel
theorem off14 : ∀ k : Fin k0_t1_loop.trips, k.val < 63 → k0_off14 (W15 k) = slotOff (par (k.val + 1)) := by decide +kernel
theorem off15 : ∀ k : Fin k0_t1_loop.trips, k.val < 63 → k0_off15 (W32 k) = rblkOff (row (k.val + 1)) := by decide +kernel
theorem off40 : ∀ k : Fin k0_t1_loop.trips, k0_off40 (W16 k) = cellOff (par k.val) := by decide +kernel
theorem off41 : ∀ k : Fin k0_t1_loop.trips, k0_off41 (W16 k) = slotOff (par k.val) := by decide +kernel
theorem off42 : ∀ k : Fin k0_t1_loop.trips, k0_off42 (W32 k) = rblkOff (row k) := by decide +kernel
theorem off64 : ∀ k : Fin k0_t1_loop.trips, k0_off64 (W16 k) = slotOff (par k.val) := by decide +kernel
theorem off16 : ∀ k : Fin k0_t1_loop.trips, k.val % 16 = 15 → k.val < 63 → k0_off16 (W17 k) = cellOff (par (k.val / 16 + 1)) := by decide +kernel
theorem off17 : ∀ k : Fin k0_t1_loop.trips, k.val % 16 = 15 → k.val < 63 → k0_off17 (W17 k) = slotOff (par (k.val / 16 + 1)) := by decide +kernel
theorem off18 : ∀ k : Fin k0_t1_loop.trips, k.val % 16 = 15 → k.val < 63 → k0_off18 (W31 k) (W32 k) = cblkOff (colr (k.val / 16 + 1)) := by decide +kernel
theorem off43 : ∀ k : Fin k0_t1_loop.trips, k0_off43 (W18 k) = cellOff (par (k.val / 16)) := by decide +kernel
theorem off44 : ∀ k : Fin k0_t1_loop.trips, k0_off44 (W18 k) = slotOff (par (k.val / 16)) := by decide +kernel
theorem off45 : ∀ k : Fin k0_t1_loop.trips, k0_off45 (W31 k) = cblkOff (col k) := by decide +kernel
theorem off62 : ∀ k : Fin k0_t1_loop.trips, k0_off62 (W18 k) = slotOff (par (k.val / 16)) := by decide +kernel
theorem off19 : ∀ k : Fin k0_t1_loop.trips, k.val < 63 → k0_off19 (W19 k) = cellOff (par (k.val + 1)) := by decide +kernel
theorem off20 : ∀ k : Fin k0_t1_loop.trips, k.val < 63 → k0_off20 (W19 k) = slotOff (par (k.val + 1)) := by decide +kernel
theorem off21 : ∀ k : Fin k0_t1_loop.trips, k.val < 63 → k0_off21 (W31 k) (W32 k) = oblkOff (row (k.val + 1)) (col (k.val + 1)) := by decide +kernel
theorem off46 : ∀ k : Fin k0_t1_loop.trips, k0_off46 (W20 k) = cellOff (par k.val) := by decide +kernel
theorem off47 : ∀ k : Fin k0_t1_loop.trips, k0_off47 (W20 k) = slotOff (par k.val) := by decide +kernel
theorem off48 : ∀ k : Fin k0_t1_loop.trips, k0_off48 (W31 k) (W32 k) = oblkOff (row k) (col k) := by decide +kernel
theorem off65 : ∀ k : Fin k0_t1_loop.trips, k0_off65 (W20 k) = slotOff (par k.val) := by decide +kernel
theorem off22 : ∀ k : Fin k0_t1_loop.trips, k.val < 63 → k0_off22 (W21 k) = cellOff (par (k.val + 1)) := by decide +kernel
theorem off23 : ∀ k : Fin k0_t1_loop.trips, k.val < 63 → k0_off23 (W21 k) = slotOff (par (k.val + 1)) := by decide +kernel
theorem off24 : ∀ k : Fin k0_t1_loop.trips, k.val < 63 → k0_off24 (W32 k) = rblkOff (row (k.val + 1)) := by decide +kernel
theorem off49 : ∀ k : Fin k0_t1_loop.trips, k0_off49 (W22 k) = cellOff (par k.val) := by decide +kernel
theorem off50 : ∀ k : Fin k0_t1_loop.trips, k0_off50 (W22 k) = slotOff (par k.val) := by decide +kernel
theorem off51 : ∀ k : Fin k0_t1_loop.trips, k0_off51 (W32 k) = rblkOff (row k) := by decide +kernel
theorem off66 : ∀ k : Fin k0_t1_loop.trips, k0_off66 (W22 k) = slotOff (par k.val) := by decide +kernel
theorem off25 : ∀ k : Fin k0_t1_loop.trips, k.val < 63 → k0_off25 (W23 k) = cellOff (par (k.val + 1)) := by decide +kernel
theorem off26 : ∀ k : Fin k0_t1_loop.trips, k.val < 63 → k0_off26 (W23 k) = slotOff (par (k.val + 1)) := by decide +kernel
theorem off27 : ∀ k : Fin k0_t1_loop.trips, k.val < 63 → k0_off27 (W32 k) = rblkOff (row (k.val + 1)) := by decide +kernel
theorem off52 : ∀ k : Fin k0_t1_loop.trips, k0_off52 (W24 k) = cellOff (par k.val) := by decide +kernel
theorem off53 : ∀ k : Fin k0_t1_loop.trips, k0_off53 (W24 k) = slotOff (par k.val) := by decide +kernel
theorem off54 : ∀ k : Fin k0_t1_loop.trips, k0_off54 (W32 k) = rblkOff (row k) := by decide +kernel
theorem off67 : ∀ k : Fin k0_t1_loop.trips, k0_off67 (W24 k) = slotOff (par k.val) := by decide +kernel
theorem off28 : ∀ k : Fin k0_t1_loop.trips, k.val % 16 = 15 → k.val < 63 → k0_off28 (W25 k) = cellOff (par (k.val / 16 + 1)) := by decide +kernel
theorem off29 : ∀ k : Fin k0_t1_loop.trips, k.val % 16 = 15 → k.val < 63 → k0_off29 (W25 k) = slotOff (par (k.val / 16 + 1)) := by decide +kernel
theorem off30 : ∀ k : Fin k0_t1_loop.trips, k.val % 16 = 15 → k.val < 63 → k0_off30 (W31 k) (W32 k) = cblkOff (colr (k.val / 16 + 1)) := by decide +kernel
theorem off55 : ∀ k : Fin k0_t1_loop.trips, k0_off55 (W26 k) = cellOff (par (k.val / 16)) := by decide +kernel
theorem off56 : ∀ k : Fin k0_t1_loop.trips, k0_off56 (W26 k) = slotOff (par (k.val / 16)) := by decide +kernel
theorem off57 : ∀ k : Fin k0_t1_loop.trips, k0_off57 (W31 k) = cblkOff (col k) := by decide +kernel
theorem off68 : ∀ k : Fin k0_t1_loop.trips, k0_off68 (W26 k) = slotOff (par (k.val / 16)) := by decide +kernel
theorem off31 : ∀ k : Fin k0_t1_loop.trips, k.val % 16 = 15 → k.val < 63 → k0_off31 (W27 k) = cellOff (par (k.val / 16 + 1)) := by decide +kernel
theorem off32 : ∀ k : Fin k0_t1_loop.trips, k.val % 16 = 15 → k.val < 63 → k0_off32 (W27 k) = slotOff (par (k.val / 16 + 1)) := by decide +kernel
theorem off33 : ∀ k : Fin k0_t1_loop.trips, k.val % 16 = 15 → k.val < 63 → k0_off33 (W31 k) (W32 k) = cblkOff (colr (k.val / 16 + 1)) := by decide +kernel
theorem off58 : ∀ k : Fin k0_t1_loop.trips, k0_off58 (W28 k) = cellOff (par (k.val / 16)) := by decide +kernel
theorem off59 : ∀ k : Fin k0_t1_loop.trips, k0_off59 (W28 k) = slotOff (par (k.val / 16)) := by decide +kernel
theorem off60 : ∀ k : Fin k0_t1_loop.trips, k0_off60 (W31 k) = cblkOff (col k) := by decide +kernel
theorem off69 : ∀ k : Fin k0_t1_loop.trips, k0_off69 (W28 k) = slotOff (par (k.val / 16)) := by decide +kernel
theorem off70 : ∀ k : Fin k0_t1_loop.trips, k0_off70 (W29 k) = slotOff (par k) := by decide +kernel
theorem off71 : ∀ k : Fin k0_t1_loop.trips, k0_off71 (W29 k) = cellOff (par k) := by decide +kernel
theorem off72 : ∀ k : Fin k0_t1_loop.trips, k0_off72 (W31 k) (W32 k) = oblkOff (row k) (col k) := by decide +kernel
theorem off73 : ∀ k : Fin k0_t1_loop.trips, k0_off73 (W29 k) = slotOff (par k) := by decide +kernel
theorem off74 : ∀ k : Fin k0_t1_loop.trips, 0 < k.val → k0_off74 (W30 k) = cellOff (par (k.val - 1)) := by decide +kernel
theorem off75 : ∀ k : Fin k0_t1_loop.trips, 0 < k.val → k0_off75 (W31 k) (W32 k) = oblkOff (row (k.val - 1)) (col (k.val - 1)) := by decide +kernel
theorem off76 : ∀ k : Fin k0_t1_loop.trips, 0 < k.val → k0_off76 (W30 k) = slotOff (par (k.val - 1)) := by decide +kernel

end Cert.OutProjIdeal.Hand

end
-- ==== Proof.OutProj.Step.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.TripA
public import proofs.«01_k».proof.Proof.OutProj.TripB
public import proofs.«01_k».proof.Proof.OutProj.TripC
public import proofs.«01_k».proof.Proof.OutProj.TripD
public import proofs.«01_k».proof.Proof.OutProj.TripE
public import proofs.«01_k».proof.Proof.OutProj.Words

/-!
One trip of the out-projection's loop, at the slots and blocks of its number.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ
/-- The share of an array a slot's transfers take: the two slots have one half each. -/
def tok (p : Fin 2) : PosShare TreeShare := if p = 0 then fullShare.left else fullShare.right

variable (c : Dev nD) (s : Src F c)

/-! The blocks the body reads, and the result's block of row `i` and column `j`. -/
def vy (i : Fin 16) : Vec F S512x2048 .bf16 := (yblkO (rblkOff i) (yblk_inb i)).view.read (Elt F) s.y
def vx (i : Fin 16) : Vec F S512x1024 .bf16 := (xblkO (rblkOff i) (xblk_inb i)).view.read (Elt F) s.x
def vu (i : Fin 16) : Vec F S512x1024 .bf16 := (ublkO (rblkOff i) (ublk_inb i)).view.read (Elt F) s.u
def vw (j : Fin 4) : Vec F S4096x1024 .f32 := (wblkO (cblkOff j) (wblk_inb j)).view.read (Elt F) s.w
def vz (i : Fin 16) (j : Fin 4) : Vec F S512x1024 .f32 := (zblkO (oblkOff i j) (zblk_inb i j)).view.read (Elt F) s.z
def vm (i : Fin 16) : Vec F S512x128 .f32 := (mblkO (rblkOff i) (mblk_inb i)).view.read (Elt F) s.m
def vr (i : Fin 16) : Vec F S512x128 .f32 := (rblkO (rblkOff i) (rblk_inb i)).view.read (Elt F) s.r
def vg (j : Fin 4) : Vec F S1x1024 .f32 := (gblkO (cblkOff j) (gblk_inb j)).view.read (Elt F) s.g
def vb (j : Fin 4) : Vec F S1x1024 .f32 := (bblkO (cblkOff j) (bblk_inb j)).view.read (Elt F) s.b
def vo (i : Fin 16) (j : Fin 4) : Vec F S512x1024 .f32 := outv (vy c s i) (vx c s i) (vu c s i) (vw c s j) (vz c s i j) (vm c s i) (vr c s i) (vg c s j) (vb c s j)

/-! Each ring's slots and each block at step `n` (of the rings that change by the column: at column `n`). -/
def yI (n : ℕ) : sProp 𝕄 := yFree c s.y (slotOff (par n)) (yslot_inb _) (cellO cc0_scoped1 (cellOff (par n)) (cell_inb _)) (tok (par n))
def yX (n : ℕ) : sProp 𝕄 := yFly c s.y (slotOff (par n)) (yslot_inb _) (cellO cc0_scoped1 (cellOff (par n)) (cell_inb _)) (rblkOff (row n)) (yblk_inb _) (tok (par n))
def xI (n : ℕ) : sProp 𝕄 := xFree c s.x (slotOff (par n)) (xslot_inb _) (cellO cc0_scoped3 (cellOff (par n)) (cell_inb _)) (tok (par n))
def xX (n : ℕ) : sProp 𝕄 := xFly c s.x (slotOff (par n)) (xslot_inb _) (cellO cc0_scoped3 (cellOff (par n)) (cell_inb _)) (rblkOff (row n)) (xblk_inb _) (tok (par n))
def uI (n : ℕ) : sProp 𝕄 := uFree c s.u (slotOff (par n)) (uslot_inb _) (cellO cc0_scoped5 (cellOff (par n)) (cell_inb _)) (tok (par n))
def uX (n : ℕ) : sProp 𝕄 := uFly c s.u (slotOff (par n)) (uslot_inb _) (cellO cc0_scoped5 (cellOff (par n)) (cell_inb _)) (rblkOff (row n)) (ublk_inb _) (tok (par n))
def wI (n : ℕ) : sProp 𝕄 := wFree c (slotOff (par n)) (wslot_inb _) (cellO cc0_scoped7 (cellOff (par n)) (cell_inb _))
def wX (n : ℕ) : sProp 𝕄 := wFly c s.w (slotOff (par n)) (wslot_inb _) (cellO cc0_scoped7 (cellOff (par n)) (cell_inb _)) (cblkOff (colr n)) (wblk_inb _)
def wH (n : ℕ) : sProp 𝕄 := wHold c (slotOff (par n)) (wslot_inb _) (cellO cc0_scoped7 (cellOff (par n)) (cell_inb _)) (vw c s (colr n))
def zI (n : ℕ) : sProp 𝕄 := zFree c s.z (slotOff (par n)) (zslot_inb _) (cellO cc0_scoped9 (cellOff (par n)) (cell_inb _)) (tok (par n))
def zX (n : ℕ) : sProp 𝕄 := zFly c s.z (slotOff (par n)) (zslot_inb _) (cellO cc0_scoped9 (cellOff (par n)) (cell_inb _)) (oblkOff (row n) (col n)) (zblk_inb _ _) (tok (par n))
def mI (n : ℕ) : sProp 𝕄 := mFree c s.m (slotOff (par n)) (mslot_inb _) (cellO cc0_scoped11 (cellOff (par n)) (cell_inb _)) (tok (par n))
def mX (n : ℕ) : sProp 𝕄 := mFly c s.m (slotOff (par n)) (mslot_inb _) (cellO cc0_scoped11 (cellOff (par n)) (cell_inb _)) (rblkOff (row n)) (mblk_inb _) (tok (par n))
def rI (n : ℕ) : sProp 𝕄 := rFree c s.r (slotOff (par n)) (rslot_inb _) (cellO cc0_scoped13 (cellOff (par n)) (cell_inb _)) (tok (par n))
def rX (n : ℕ) : sProp 𝕄 := rFly c s.r (slotOff (par n)) (rslot_inb _) (cellO cc0_scoped13 (cellOff (par n)) (cell_inb _)) (rblkOff (row n)) (rblk_inb _) (tok (par n))
def gI (n : ℕ) : sProp 𝕄 := gFree c (slotOff (par n)) (gslot_inb _) (cellO cc0_scoped15 (cellOff (par n)) (cell_inb _))
def gX (n : ℕ) : sProp 𝕄 := gFly c s.g (slotOff (par n)) (gslot_inb _) (cellO cc0_scoped15 (cellOff (par n)) (cell_inb _)) (cblkOff (colr n)) (gblk_inb _)
def gH (n : ℕ) : sProp 𝕄 := gHold c (slotOff (par n)) (gslot_inb _) (cellO cc0_scoped15 (cellOff (par n)) (cell_inb _)) (vg c s (colr n))
def bI (n : ℕ) : sProp 𝕄 := bFree c (slotOff (par n)) (bslot_inb _) (cellO cc0_scoped17 (cellOff (par n)) (cell_inb _))
def bX (n : ℕ) : sProp 𝕄 := bFly c s.b (slotOff (par n)) (bslot_inb _) (cellO cc0_scoped17 (cellOff (par n)) (cell_inb _)) (cblkOff (colr n)) (bblk_inb _)
def bH (n : ℕ) : sProp 𝕄 := bHold c (slotOff (par n)) (bslot_inb _) (cellO cc0_scoped17 (cellOff (par n)) (cell_inb _)) (vb c s (colr n))
def oI (n : ℕ) : sProp 𝕄 := oFree c (slotOff (par n)) (oslot_inb _) (cellO cc0_scoped19 (cellOff (par n)) (cell_inb _))
def oX (n : ℕ) : sProp 𝕄 := oFly c (slotOff (par n)) (oslot_inb _) (cellO cc0_scoped19 (cellOff (par n)) (cell_inb _)) (oblkOff (row n) (col n)) (oblk_inb _ _) (vo c s (row n) (col n))
def oA (n : ℕ) : sProp 𝕄 := oAny c (oblkOff (row n) (col n)) (oblk_inb _ _)
def oD (n : ℕ) : sProp 𝕄 := oDone c (oblkOff (row n) (col n)) (oblk_inb _ _) (vo c s (row n) (col n))

/-! The rings that change at every step, and those that change by the column, together. -/
def WI (n : ℕ) : sProp 𝕄 := iprop(yI c s n ∗ xI c s n ∗ uI c s n ∗ zI c s n ∗ mI c s n ∗ rI c s n)
def WX (n : ℕ) : sProp 𝕄 := iprop(yX c s n ∗ xX c s n ∗ uX c s n ∗ zX c s n ∗ mX c s n ∗ rX c s n)
def AI (n : ℕ) : sProp 𝕄 := iprop(wI (F := F) c n ∗ gI (F := F) c n ∗ bI (F := F) c n)
def AX (n : ℕ) : sProp 𝕄 := iprop(wX c s n ∗ gX c s n ∗ bX c s n)
def AH (n : ℕ) : sProp 𝕄 := iprop(wH c s n ∗ gH c s n ∗ bH c s n)
def AS : sProp 𝕄 := iprop(wSrc c s.w ∗ gSrc c s.g ∗ bSrc c s.b)

theorem yI_add_two (n : ℕ) : yI (F := F) c s (n + 2) = yI c s n :=
  congrArg (fun p : Fin 2 => yFree c s.y (slotOff p) (yslot_inb p) (cellO cc0_scoped1 (cellOff p) (cell_inb p)) (tok p)) (par_add_two n)
theorem xI_add_two (n : ℕ) : xI (F := F) c s (n + 2) = xI c s n :=
  congrArg (fun p : Fin 2 => xFree c s.x (slotOff p) (xslot_inb p) (cellO cc0_scoped3 (cellOff p) (cell_inb p)) (tok p)) (par_add_two n)
theorem uI_add_two (n : ℕ) : uI (F := F) c s (n + 2) = uI c s n :=
  congrArg (fun p : Fin 2 => uFree c s.u (slotOff p) (uslot_inb p) (cellO cc0_scoped5 (cellOff p) (cell_inb p)) (tok p)) (par_add_two n)
theorem wI_add_two (n : ℕ) : wI (F := F) c (n + 2) = wI c n :=
  congrArg (fun p : Fin 2 => wFree (F := F) c (slotOff p) (wslot_inb p) (cellO cc0_scoped7 (cellOff p) (cell_inb p))) (par_add_two n)
theorem zI_add_two (n : ℕ) : zI (F := F) c s (n + 2) = zI c s n :=
  congrArg (fun p : Fin 2 => zFree c s.z (slotOff p) (zslot_inb p) (cellO cc0_scoped9 (cellOff p) (cell_inb p)) (tok p)) (par_add_two n)
theorem mI_add_two (n : ℕ) : mI (F := F) c s (n + 2) = mI c s n :=
  congrArg (fun p : Fin 2 => mFree c s.m (slotOff p) (mslot_inb p) (cellO cc0_scoped11 (cellOff p) (cell_inb p)) (tok p)) (par_add_two n)
theorem rI_add_two (n : ℕ) : rI (F := F) c s (n + 2) = rI c s n :=
  congrArg (fun p : Fin 2 => rFree c s.r (slotOff p) (rslot_inb p) (cellO cc0_scoped13 (cellOff p) (cell_inb p)) (tok p)) (par_add_two n)
theorem gI_add_two (n : ℕ) : gI (F := F) c (n + 2) = gI c n :=
  congrArg (fun p : Fin 2 => gFree (F := F) c (slotOff p) (gslot_inb p) (cellO cc0_scoped15 (cellOff p) (cell_inb p))) (par_add_two n)
theorem bI_add_two (n : ℕ) : bI (F := F) c (n + 2) = bI c n :=
  congrArg (fun p : Fin 2 => bFree (F := F) c (slotOff p) (bslot_inb p) (cellO cc0_scoped17 (cellOff p) (cell_inb p))) (par_add_two n)
theorem oI_add_two (n : ℕ) : oI (F := F) c (n + 2) = oI c n :=
  congrArg (fun p : Fin 2 => oFree (F := F) c (slotOff p) (oslot_inb p) (cellO cc0_scoped19 (cellOff p) (cell_inb p))) (par_add_two n)
theorem WI_add_two (n : ℕ) : WI c s (n + 2) = WI c s n := by unfold WI; rw [yI_add_two, xI_add_two, uI_add_two, zI_add_two, mI_add_two, rI_add_two]
theorem AI_add_two (n : ℕ) : AI (F := F) c (n + 2) = AI c n := by unfold AI; rw [wI_add_two, gI_add_two, bI_add_two]

theorem step_first (k : Fin k0_t1_loop.trips) (hA : ¬ (k.val % 16 = 15 ∧ k.val < 63)) (hlt : k.val < 63) (h0 : k.val % 16 = 0) (hnpos : ¬ 0 < k.val) :
    (iprop(AX c s (k.val / 16) ∗ WI c s (k.val + 1) ∗ WX c s k.val ∗ oI c k.val ∗ oA c k.val ∗ owe c) : sProp 𝕄)
    ⊢ wp frame (wpE (defs₀ (F := F)) Variants.none c none) Set.univ (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val))
      (fun r => iprop(⌜r = words (k.val + 1)⌝ ∗ AH c s (k.val / 16) ∗ AS c s ∗ WX c s (k.val + 1) ∗ WI c s k.val ∗ oX c s k.val ∗ owe c)) := by
  have h := trip_first (F := F) c k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val) (chk1 k) (chk2 k) (chk4 k) (chk5 k) (chk3 k) (chk6 k) (chk7 k) (chk8 k) (chk9 k) (chk10 k) (chk11 k)
    ((cond1 k).2 hlt) ((cond10 k).2 trivial) ((cond2 k).2 hlt) ((cond11 k).2 trivial) ((cond3 k).2 hlt) ((cond12 k).2 trivial) (fun e => hA ((cond4 k).1 e)) ((cond13 k).2 h0) ((cond5 k).2 hlt) ((cond14 k).2 trivial) ((cond6 k).2 hlt) ((cond15 k).2 trivial) ((cond7 k).2 hlt) ((cond16 k).2 trivial) (fun e => hA ((cond8 k).1 e)) ((cond17 k).2 h0) (fun e => hA ((cond9 k).1 e)) ((cond18 k).2 h0) ((cond29 k).2 trivial) (fun e => hnpos ((cond39 k).1 e))
    (cell_inb _) (wslot_inb _) (wblk_inb _) (wslot_inb _) (cell_inb _) (gslot_inb _) (gblk_inb _) (gslot_inb _) (cell_inb _) (bslot_inb _) (bblk_inb _) (bslot_inb _) (cell_inb _) (yslot_inb _) (yblk_inb _) (cell_inb _) (yslot_inb _) (yblk_inb _) (yslot_inb _) (cell_inb _) (xslot_inb _) (xblk_inb _) (cell_inb _) (xslot_inb _) (xblk_inb _) (xslot_inb _) (cell_inb _) (uslot_inb _) (ublk_inb _) (cell_inb _) (uslot_inb _) (ublk_inb _) (uslot_inb _) (cell_inb _) (zslot_inb _) (zblk_inb _ _) (cell_inb _) (zslot_inb _) (zblk_inb _ _) (zslot_inb _) (cell_inb _) (mslot_inb _) (mblk_inb _) (cell_inb _) (mslot_inb _) (mblk_inb _) (mslot_inb _) (cell_inb _) (rslot_inb _) (rblk_inb _) (cell_inb _) (rslot_inb _) (rblk_inb _) (rslot_inb _) (cell_inb _) (oblk_inb _ _) (oslot_inb _) (oslot_inb _)
    (off43 k) (off44 k) (off45 k) (off62 k) (off55 k) (off56 k) (off57 k) (off68 k) (off58 k) (off59 k) (off60 k) (off69 k) (off7 k hlt) (off8 k hlt) (off9 k hlt) (off34 k) (off35 k) (off36 k) (off61 k) (off10 k hlt) (off11 k hlt) (off12 k hlt) (off37 k) (off38 k) (off39 k) (off63 k) (off13 k hlt) (off14 k hlt) (off15 k hlt) (off40 k) (off41 k) (off42 k) (off64 k) (off19 k hlt) (off20 k hlt) (off21 k hlt) (off46 k) (off47 k) (off48 k) (off65 k) (off22 k hlt) (off23 k hlt) (off24 k hlt) (off49 k) (off50 k) (off51 k) (off66 k) (off25 k hlt) (off26 k hlt) (off27 k hlt) (off52 k) (off53 k) (off54 k) (off67 k) (off71 k) (off72 k) (off73 k) (off70 k)
    (off61 k) (off63 k) (off64 k) (off62 k) (off65 k) (off66 k) (off67 k) (off68 k) (off69 k) (off70 k) s
    (cellO cc0_scoped7 (cellOff (par (k.val / 16))) (cell_inb _)) (vw c s (colr (k.val / 16))) (cellO cc0_scoped15 (cellOff (par (k.val / 16))) (cell_inb _)) (vg c s (colr (k.val / 16))) (cellO cc0_scoped17 (cellOff (par (k.val / 16))) (cell_inb _)) (vb c s (colr (k.val / 16)))
    (vo c s (row (k.val - 1)) (col (k.val - 1))) (tok (par (k.val + 1))) (tok (par k.val))
  rw [next_words] at h
  exact h

theorem step_col (k : Fin k0_t1_loop.trips) (hA : ¬ (k.val % 16 = 15 ∧ k.val < 63)) (hlt : k.val < 63) (h0 : k.val % 16 = 0) (hpos : 0 < k.val) :
    (iprop(AX c s (k.val / 16) ∗ WI c s (k.val + 1) ∗ WX c s k.val ∗ oI c k.val ∗ oA c k.val ∗ oX c s (k.val - 1) ∗ owe c) : sProp 𝕄)
    ⊢ wp frame (wpE (defs₀ (F := F)) Variants.none c none) Set.univ (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val))
      (fun r => iprop(⌜r = words (k.val + 1)⌝ ∗ AH c s (k.val / 16) ∗ AS c s ∗ WX c s (k.val + 1) ∗ WI c s k.val ∗ oX c s k.val ∗ oD c s (k.val - 1) ∗ oI c (k.val - 1) ∗ owe c)) := by
  have h := trip_col (F := F) c k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val) (chk1 k) (chk2 k) (chk4 k) (chk5 k) (chk3 k) (chk6 k) (chk7 k) (chk8 k) (chk9 k) (chk10 k) (chk11 k)
    ((cond1 k).2 hlt) ((cond10 k).2 trivial) ((cond2 k).2 hlt) ((cond11 k).2 trivial) ((cond3 k).2 hlt) ((cond12 k).2 trivial) (fun e => hA ((cond4 k).1 e)) ((cond13 k).2 h0) ((cond5 k).2 hlt) ((cond14 k).2 trivial) ((cond6 k).2 hlt) ((cond15 k).2 trivial) ((cond7 k).2 hlt) ((cond16 k).2 trivial) (fun e => hA ((cond8 k).1 e)) ((cond17 k).2 h0) (fun e => hA ((cond9 k).1 e)) ((cond18 k).2 h0) ((cond29 k).2 trivial) ((cond39 k).2 hpos)
    (cell_inb _) (wslot_inb _) (wblk_inb _) (wslot_inb _) (cell_inb _) (gslot_inb _) (gblk_inb _) (gslot_inb _) (cell_inb _) (bslot_inb _) (bblk_inb _) (bslot_inb _) (cell_inb _) (yslot_inb _) (yblk_inb _) (cell_inb _) (yslot_inb _) (yblk_inb _) (yslot_inb _) (cell_inb _) (xslot_inb _) (xblk_inb _) (cell_inb _) (xslot_inb _) (xblk_inb _) (xslot_inb _) (cell_inb _) (uslot_inb _) (ublk_inb _) (cell_inb _) (uslot_inb _) (ublk_inb _) (uslot_inb _) (cell_inb _) (zslot_inb _) (zblk_inb _ _) (cell_inb _) (zslot_inb _) (zblk_inb _ _) (zslot_inb _) (cell_inb _) (mslot_inb _) (mblk_inb _) (cell_inb _) (mslot_inb _) (mblk_inb _) (mslot_inb _) (cell_inb _) (rslot_inb _) (rblk_inb _) (cell_inb _) (rslot_inb _) (rblk_inb _) (rslot_inb _) (cell_inb _) (oblk_inb _ _) (oslot_inb _) (oslot_inb _) (cell_inb _) (oblk_inb _ _) (oslot_inb _)
    (off43 k) (off44 k) (off45 k) (off62 k) (off55 k) (off56 k) (off57 k) (off68 k) (off58 k) (off59 k) (off60 k) (off69 k) (off7 k hlt) (off8 k hlt) (off9 k hlt) (off34 k) (off35 k) (off36 k) (off61 k) (off10 k hlt) (off11 k hlt) (off12 k hlt) (off37 k) (off38 k) (off39 k) (off63 k) (off13 k hlt) (off14 k hlt) (off15 k hlt) (off40 k) (off41 k) (off42 k) (off64 k) (off19 k hlt) (off20 k hlt) (off21 k hlt) (off46 k) (off47 k) (off48 k) (off65 k) (off22 k hlt) (off23 k hlt) (off24 k hlt) (off49 k) (off50 k) (off51 k) (off66 k) (off25 k hlt) (off26 k hlt) (off27 k hlt) (off52 k) (off53 k) (off54 k) (off67 k) (off71 k) (off72 k) (off73 k) (off70 k) (off74 k hpos) (off75 k hpos) (off76 k hpos)
    (off61 k) (off63 k) (off64 k) (off62 k) (off65 k) (off66 k) (off67 k) (off68 k) (off69 k) (off70 k) s
    (cellO cc0_scoped7 (cellOff (par (k.val / 16))) (cell_inb _)) (vw c s (colr (k.val / 16))) (cellO cc0_scoped15 (cellOff (par (k.val / 16))) (cell_inb _)) (vg c s (colr (k.val / 16))) (cellO cc0_scoped17 (cellOff (par (k.val / 16))) (cell_inb _)) (vb c s (colr (k.val / 16)))
    (vo c s (row (k.val - 1)) (col (k.val - 1))) (tok (par (k.val + 1))) (tok (par k.val))
  rw [next_words] at h
  exact h

theorem step_mid (k : Fin k0_t1_loop.trips) (hA : ¬ (k.val % 16 = 15 ∧ k.val < 63)) (hlt : k.val < 63) (h0 : ¬ k.val % 16 = 0) (hpos : 0 < k.val) :
    (iprop(AH c s (k.val / 16) ∗ WI c s (k.val + 1) ∗ WX c s k.val ∗ oI c k.val ∗ oA c k.val ∗ oX c s (k.val - 1) ∗ owe c) : sProp 𝕄)
    ⊢ wp frame (wpE (defs₀ (F := F)) Variants.none c none) Set.univ (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val))
      (fun r => iprop(⌜r = words (k.val + 1)⌝ ∗ AH c s (k.val / 16) ∗ WX c s (k.val + 1) ∗ WI c s k.val ∗ oX c s k.val ∗ oD c s (k.val - 1) ∗ oI c (k.val - 1) ∗ owe c)) := by
  have h := trip_mid (F := F) c k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val) (chk1 k) (chk2 k) (chk4 k) (chk5 k) (chk3 k) (chk6 k) (chk7 k) (chk8 k) (chk9 k) (chk10 k) (chk11 k)
    ((cond1 k).2 hlt) ((cond10 k).2 trivial) ((cond2 k).2 hlt) ((cond11 k).2 trivial) ((cond3 k).2 hlt) ((cond12 k).2 trivial) (fun e => hA ((cond4 k).1 e)) (fun e => h0 ((cond13 k).1 e)) ((cond5 k).2 hlt) ((cond14 k).2 trivial) ((cond6 k).2 hlt) ((cond15 k).2 trivial) ((cond7 k).2 hlt) ((cond16 k).2 trivial) (fun e => hA ((cond8 k).1 e)) (fun e => h0 ((cond17 k).1 e)) (fun e => hA ((cond9 k).1 e)) (fun e => h0 ((cond18 k).1 e)) ((cond29 k).2 trivial) ((cond39 k).2 hpos)
    (wslot_inb _) (gslot_inb _) (bslot_inb _) (cell_inb _) (yslot_inb _) (yblk_inb _) (cell_inb _) (yslot_inb _) (yblk_inb _) (yslot_inb _) (cell_inb _) (xslot_inb _) (xblk_inb _) (cell_inb _) (xslot_inb _) (xblk_inb _) (xslot_inb _) (cell_inb _) (uslot_inb _) (ublk_inb _) (cell_inb _) (uslot_inb _) (ublk_inb _) (uslot_inb _) (cell_inb _) (zslot_inb _) (zblk_inb _ _) (cell_inb _) (zslot_inb _) (zblk_inb _ _) (zslot_inb _) (cell_inb _) (mslot_inb _) (mblk_inb _) (cell_inb _) (mslot_inb _) (mblk_inb _) (mslot_inb _) (cell_inb _) (rslot_inb _) (rblk_inb _) (cell_inb _) (rslot_inb _) (rblk_inb _) (rslot_inb _) (cell_inb _) (oblk_inb _ _) (oslot_inb _) (oslot_inb _) (cell_inb _) (oblk_inb _ _) (oslot_inb _)
    (off62 k) (off68 k) (off69 k) (off7 k hlt) (off8 k hlt) (off9 k hlt) (off34 k) (off35 k) (off36 k) (off61 k) (off10 k hlt) (off11 k hlt) (off12 k hlt) (off37 k) (off38 k) (off39 k) (off63 k) (off13 k hlt) (off14 k hlt) (off15 k hlt) (off40 k) (off41 k) (off42 k) (off64 k) (off19 k hlt) (off20 k hlt) (off21 k hlt) (off46 k) (off47 k) (off48 k) (off65 k) (off22 k hlt) (off23 k hlt) (off24 k hlt) (off49 k) (off50 k) (off51 k) (off66 k) (off25 k hlt) (off26 k hlt) (off27 k hlt) (off52 k) (off53 k) (off54 k) (off67 k) (off71 k) (off72 k) (off73 k) (off70 k) (off74 k hpos) (off75 k hpos) (off76 k hpos)
    (off61 k) (off63 k) (off64 k) (off62 k) (off65 k) (off66 k) (off67 k) (off68 k) (off69 k) (off70 k) s
    (cellO cc0_scoped7 (cellOff (par (k.val / 16))) (cell_inb _)) (vw c s (colr (k.val / 16))) (cellO cc0_scoped15 (cellOff (par (k.val / 16))) (cell_inb _)) (vg c s (colr (k.val / 16))) (cellO cc0_scoped17 (cellOff (par (k.val / 16))) (cell_inb _)) (vb c s (colr (k.val / 16)))
    (vo c s (row (k.val - 1)) (col (k.val - 1))) (tok (par (k.val + 1))) (tok (par k.val))
  rw [next_words] at h
  exact h

theorem step_turn (k : Fin k0_t1_loop.trips) (hj : k.val % 16 = 15) (hlt : k.val < 63) (h0 : ¬ k.val % 16 = 0) (hpos : 0 < k.val) :
    (iprop(AH c s (k.val / 16) ∗ AS c s ∗ AI c (k.val / 16 + 1) ∗ WI c s (k.val + 1) ∗ WX c s k.val ∗ oI c k.val ∗ oA c k.val ∗ oX c s (k.val - 1) ∗ owe c) : sProp 𝕄)
    ⊢ wp frame (wpE (defs₀ (F := F)) Variants.none c none) Set.univ (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val))
      (fun r => iprop(⌜r = words (k.val + 1)⌝ ∗ AX c s (k.val / 16 + 1) ∗ AI c (k.val / 16) ∗ WX c s (k.val + 1) ∗ WI c s k.val ∗ oX c s k.val ∗ oD c s (k.val - 1) ∗ oI c (k.val - 1) ∗ owe c)) := by
  have h := trip_turn (F := F) c k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val) (chk1 k) (chk2 k) (chk4 k) (chk5 k) (chk3 k) (chk6 k) (chk7 k) (chk8 k) (chk9 k) (chk10 k) (chk11 k)
    ((cond1 k).2 hlt) ((cond10 k).2 trivial) ((cond2 k).2 hlt) ((cond11 k).2 trivial) ((cond3 k).2 hlt) ((cond12 k).2 trivial) ((cond4 k).2 ⟨hj, hlt⟩) (fun e => h0 ((cond13 k).1 e)) ((cond5 k).2 hlt) ((cond14 k).2 trivial) ((cond6 k).2 hlt) ((cond15 k).2 trivial) ((cond7 k).2 hlt) ((cond16 k).2 trivial) ((cond8 k).2 ⟨hj, hlt⟩) (fun e => h0 ((cond17 k).1 e)) ((cond9 k).2 ⟨hj, hlt⟩) (fun e => h0 ((cond18 k).1 e)) ((cond29 k).2 trivial) ((cond39 k).2 hpos)
    (wslot_inb _) (cell_inb _) (wslot_inb _) (wblk_inb _) (gslot_inb _) (cell_inb _) (gslot_inb _) (gblk_inb _) (bslot_inb _) (cell_inb _) (bslot_inb _) (bblk_inb _) (cell_inb _) (yslot_inb _) (yblk_inb _) (cell_inb _) (yslot_inb _) (yblk_inb _) (yslot_inb _) (cell_inb _) (xslot_inb _) (xblk_inb _) (cell_inb _) (xslot_inb _) (xblk_inb _) (xslot_inb _) (cell_inb _) (uslot_inb _) (ublk_inb _) (cell_inb _) (uslot_inb _) (ublk_inb _) (uslot_inb _) (cell_inb _) (zslot_inb _) (zblk_inb _ _) (cell_inb _) (zslot_inb _) (zblk_inb _ _) (zslot_inb _) (cell_inb _) (mslot_inb _) (mblk_inb _) (cell_inb _) (mslot_inb _) (mblk_inb _) (mslot_inb _) (cell_inb _) (rslot_inb _) (rblk_inb _) (cell_inb _) (rslot_inb _) (rblk_inb _) (rslot_inb _) (cell_inb _) (oblk_inb _ _) (oslot_inb _) (oslot_inb _) (cell_inb _) (oblk_inb _ _) (oslot_inb _)
    (off62 k) (off16 k hj hlt) (off17 k hj hlt) (off18 k hj hlt) (off68 k) (off28 k hj hlt) (off29 k hj hlt) (off30 k hj hlt) (off69 k) (off31 k hj hlt) (off32 k hj hlt) (off33 k hj hlt) (off7 k hlt) (off8 k hlt) (off9 k hlt) (off34 k) (off35 k) (off36 k) (off61 k) (off10 k hlt) (off11 k hlt) (off12 k hlt) (off37 k) (off38 k) (off39 k) (off63 k) (off13 k hlt) (off14 k hlt) (off15 k hlt) (off40 k) (off41 k) (off42 k) (off64 k) (off19 k hlt) (off20 k hlt) (off21 k hlt) (off46 k) (off47 k) (off48 k) (off65 k) (off22 k hlt) (off23 k hlt) (off24 k hlt) (off49 k) (off50 k) (off51 k) (off66 k) (off25 k hlt) (off26 k hlt) (off27 k hlt) (off52 k) (off53 k) (off54 k) (off67 k) (off71 k) (off72 k) (off73 k) (off70 k) (off74 k hpos) (off75 k hpos) (off76 k hpos)
    (off61 k) (off63 k) (off64 k) (off62 k) (off65 k) (off66 k) (off67 k) (off68 k) (off69 k) (off70 k) s
    (cellO cc0_scoped7 (cellOff (par (k.val / 16))) (cell_inb _)) (vw c s (colr (k.val / 16))) (cellO cc0_scoped15 (cellOff (par (k.val / 16))) (cell_inb _)) (vg c s (colr (k.val / 16))) (cellO cc0_scoped17 (cellOff (par (k.val / 16))) (cell_inb _)) (vb c s (colr (k.val / 16)))
    (vo c s (row (k.val - 1)) (col (k.val - 1))) (tok (par (k.val + 1))) (tok (par k.val))
  rw [next_words] at h
  exact h

theorem step_last (k : Fin k0_t1_loop.trips) (hA : ¬ (k.val % 16 = 15 ∧ k.val < 63)) (hnlt : ¬ k.val < 63) (h0 : ¬ k.val % 16 = 0) (hpos : 0 < k.val) :
    (iprop(AH c s (k.val / 16) ∗ WX c s k.val ∗ oI c k.val ∗ oA c k.val ∗ oX c s (k.val - 1) ∗ owe c) : sProp 𝕄)
    ⊢ wp frame (wpE (defs₀ (F := F)) Variants.none c none) Set.univ (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val))
      (fun r => iprop(⌜r = words (k.val + 1)⌝ ∗ AH c s (k.val / 16) ∗ WI c s k.val ∗ oX c s k.val ∗ oD c s (k.val - 1) ∗ oI c (k.val - 1) ∗ owe c)) := by
  have h := trip_last (F := F) c k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val) (chk1 k) (chk2 k) (chk4 k) (chk5 k) (chk3 k) (chk6 k) (chk7 k) (chk8 k) (chk9 k) (chk10 k) (chk11 k)
    (fun e => hnlt ((cond1 k).1 e)) ((cond10 k).2 trivial) (fun e => hnlt ((cond2 k).1 e)) ((cond11 k).2 trivial) (fun e => hnlt ((cond3 k).1 e)) ((cond12 k).2 trivial) (fun e => hA ((cond4 k).1 e)) (fun e => h0 ((cond13 k).1 e)) (fun e => hnlt ((cond5 k).1 e)) ((cond14 k).2 trivial) (fun e => hnlt ((cond6 k).1 e)) ((cond15 k).2 trivial) (fun e => hnlt ((cond7 k).1 e)) ((cond16 k).2 trivial) (fun e => hA ((cond8 k).1 e)) (fun e => h0 ((cond17 k).1 e)) (fun e => hA ((cond9 k).1 e)) (fun e => h0 ((cond18 k).1 e)) ((cond29 k).2 trivial) ((cond39 k).2 hpos)
    (wslot_inb _) (gslot_inb _) (bslot_inb _) (cell_inb _) (yslot_inb _) (yblk_inb _) (yslot_inb _) (cell_inb _) (xslot_inb _) (xblk_inb _) (xslot_inb _) (cell_inb _) (uslot_inb _) (ublk_inb _) (uslot_inb _) (cell_inb _) (zslot_inb _) (zblk_inb _ _) (zslot_inb _) (cell_inb _) (mslot_inb _) (mblk_inb _) (mslot_inb _) (cell_inb _) (rslot_inb _) (rblk_inb _) (rslot_inb _) (cell_inb _) (oblk_inb _ _) (oslot_inb _) (oslot_inb _) (cell_inb _) (oblk_inb _ _) (oslot_inb _)
    (off62 k) (off68 k) (off69 k) (off34 k) (off35 k) (off36 k) (off61 k) (off37 k) (off38 k) (off39 k) (off63 k) (off40 k) (off41 k) (off42 k) (off64 k) (off46 k) (off47 k) (off48 k) (off65 k) (off49 k) (off50 k) (off51 k) (off66 k) (off52 k) (off53 k) (off54 k) (off67 k) (off71 k) (off72 k) (off73 k) (off70 k) (off74 k hpos) (off75 k hpos) (off76 k hpos)
    (off61 k) (off63 k) (off64 k) (off62 k) (off65 k) (off66 k) (off67 k) (off68 k) (off69 k) (off70 k) s
    (cellO cc0_scoped7 (cellOff (par (k.val / 16))) (cell_inb _)) (vw c s (colr (k.val / 16))) (cellO cc0_scoped15 (cellOff (par (k.val / 16))) (cell_inb _)) (vg c s (colr (k.val / 16))) (cellO cc0_scoped17 (cellOff (par (k.val / 16))) (cell_inb _)) (vb c s (colr (k.val / 16)))
    (vo c s (row (k.val - 1)) (col (k.val - 1))) (tok (par (k.val + 1))) (tok (par k.val))
  rw [next_words] at h
  exact h

end Cert.OutProjIdeal.Hand

end
-- ==== Proof.OutProj.Inv.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Step

/-!
The out-projection's loop: what holds of the rings and of the result before each trip.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (s : Src F c)

/-- The rings that change at every step, before trip `k`: the step's blocks on their way, the other slots free. -/
def WR (k : ℕ) : sProp 𝕄 := if k < 64 then iprop(WX c s k ∗ WI c s (k + 1)) else iprop(WI c s k ∗ WI c s (k + 1))
/-- The rings that change by the column, before trip `k`: at a column's start its blocks on their way, later in the
    column the blocks held. -/
def AR (k : ℕ) : sProp 𝕄 :=
  if k % 16 = 0 ∧ k < 64 then iprop(AX c s (k / 16) ∗ AI c (k / 16 + 1))
  else iprop(AH c s ((k - 1) / 16) ∗ AS c s ∗ AI c ((k - 1) / 16 + 1))
/-- The result's ring before trip `k`: the step before's block on its way out, the other slot free. -/
def OR (k : ℕ) : sProp 𝕄 := if k = 0 then iprop(oI c k ∗ oI c (k + 1)) else iprop(oX c s (k - 1) ∗ oI c k)
/-- The blocks of the result not yet written. -/
def ahead (k : ℕ) : sProp 𝕄 := bigSep (Finset.Ico k 64) fun n => oA c n
/-- The blocks of the result written. -/
def behind (k : ℕ) : sProp 𝕄 := bigSep (Finset.range (k - 1)) fun n => oD c s n

theorem ahead_step {k : ℕ} (h : k < 64) : ahead (F := F) c k = iprop(oA c k ∗ ahead c (k + 1)) := by
  unfold ahead
  rw [show Finset.Ico k 64 = insert k (Finset.Ico (k + 1) 64) by ext; simp only [Finset.mem_insert, Finset.mem_Ico]; omega]
  exact bigSep_insert (by simp)

theorem behind_step {k : ℕ} (h : 0 < k) : behind c s (k + 1) = iprop(oD c s (k - 1) ∗ behind c s k) := by
  unfold behind
  rw [show Finset.range (k + 1 - 1) = insert (k - 1) (Finset.range (k - 1)) by ext; simp only [Finset.mem_insert, Finset.mem_range]; omega]
  exact bigSep_insert (by simp)

/-- What holds before trip `k`, carrying `acc`. -/
def inv (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = words k⌝ ∗ AR c s k ∗ WR c s k ∗ OR c s k ∗ ahead c k ∗ behind c s k ∗ owe c)

theorem WR_lt {k : ℕ} (h : k < 64) : WR c s k = iprop(WX c s k ∗ WI c s (k + 1)) := if_pos h
theorem WR_end {k : ℕ} (h : ¬ k < 64) : WR c s k = iprop(WI c s k ∗ WI c s (k + 1)) := if_neg h
theorem AR_row {k : ℕ} (h : k % 16 = 0) (h' : k < 64) : AR c s k = iprop(AX c s (k / 16) ∗ AI c (k / 16 + 1)) := if_pos ⟨h, h'⟩
theorem AR_in {k r : ℕ} (h : ¬ (k % 16 = 0 ∧ k < 64)) (hr : (k - 1) / 16 = r) :
    AR c s k = iprop(AH c s r ∗ AS c s ∗ AI c (r + 1)) := by subst hr; exact if_neg h
theorem OR_zero : OR c s 0 = iprop(oI c 0 ∗ oI c 1) := if_pos rfl
theorem OR_pos {k : ℕ} (h : 0 < k) : OR c s k = iprop(oX c s (k - 1) ∗ oI c k) := if_neg (by omega)

theorem AI_turn {k : ℕ} (h : k % 16 = 15) : AI (F := F) c ((k + 1) / 16 + 1) = AI c (k / 16) := by
  rw [show (k + 1) / 16 + 1 = k / 16 + 2 by omega, AI_add_two]
theorem AX_turn {k : ℕ} (h : k % 16 = 15) : AX c s ((k + 1) / 16) = AX c s (k / 16 + 1) := by
  rw [show (k + 1) / 16 = k / 16 + 1 by omega]
theorem oI_back {k : ℕ} (h : 0 < k) : oI (F := F) c (k - 1) = oI c (k + 1) := by
  rw [show k + 1 = k - 1 + 2 by omega, oI_add_two]

/-- One trip keeps the invariant. -/
theorem inv_step (k : Fin k0_t1_loop.trips) :
    inv c s k.val (words k.val) ⊢ wp frame (wpE (defs₀ (F := F)) Variants.none c none) Set.univ
      (body k (W11 k.val) (W12 k.val) (W13 k.val) (W14 k.val) (W15 k.val) (W16 k.val) (W17 k.val) (W18 k.val) (W19 k.val) (W20 k.val) (W21 k.val) (W22 k.val) (W23 k.val) (W24 k.val) (W25 k.val) (W26 k.val) (W27 k.val) (W28 k.val) (W29 k.val) (W30 k.val) (W31 k.val) (W32 k.val)) (inv c s (k.val + 1)) := by
  have hk : k.val < 64 := lt_of_lt_of_eq k.isLt (by decide +kernel)
  have hA15 : ¬ k.val % 16 = 15 → ¬ (k.val % 16 = 15 ∧ k.val < 63) := fun h h' => h h'.1
  by_cases h0 : k.val % 16 = 0
  · have hlt : k.val < 63 := by omega
    by_cases hpos : 0 < k.val
    · have hs := step_col c s k (hA15 (by omega)) hlt h0 hpos
      rw [oI_back c hpos, ← WI_add_two c s k.val] at hs
      refine BIBase.Entails.trans ?_ ((sep_mono_left hs).trans ((wp_frame_r _ _ _ (R := iprop(AI c (k.val / 16 + 1) ∗ ahead c (k.val + 1) ∗ behind c s k.val))).trans (wp_mono _ _ _ fun r => ?_)))
      · unfold inv
        rw [AR_row c s h0 hk, WR_lt c s hk, ahead_step c hk, OR_pos c s hpos]
        iintro ⟨%_, ⟨H1, H2⟩, ⟨H3, H4⟩, ⟨H7, H8⟩, ⟨H9, H10⟩, H11, H12⟩
        iframe
      · unfold inv
        rw [AR_in c s (k := k.val + 1) (r := k.val / 16) (by omega) (by omega), WR_lt c s (k := k.val + 1) (by omega), OR_pos c s (k := k.val + 1) (by omega), behind_step c s hpos, show k.val + 1 - 1 = k.val from rfl]
        iintro ⟨⟨%e, G1, G2, G3, G4, G5, G6, G7, G8⟩, G9, G10, G11⟩
        isplitr
        · ipureintro; exact e
        iframe
    · have hz : k.val = 0 := by omega
      have hs := step_first c s k (hA15 (by omega)) hlt h0 hpos
      rw [← WI_add_two c s k.val] at hs
      refine BIBase.Entails.trans ?_ ((sep_mono_left hs).trans ((wp_frame_r _ _ _ (R := iprop(AI c (k.val / 16 + 1) ∗ oI c (k.val + 1) ∗ ahead c (k.val + 1) ∗ behind c s k.val))).trans (wp_mono _ _ _ fun r => ?_)))
      · unfold inv
        rw [AR_row c s h0 hk, WR_lt c s hk, ahead_step c hk, show OR c s k.val = iprop(oI c k.val ∗ oI c (k.val + 1)) from if_pos hz]
        iintro ⟨%_, ⟨H1, H2⟩, ⟨H3, H4⟩, ⟨H7, H8⟩, ⟨H9, H10⟩, H11, H12⟩
        iframe
      · unfold inv
        rw [AR_in c s (k := k.val + 1) (r := k.val / 16) (by omega) (by omega), WR_lt c s (k := k.val + 1) (by omega), OR_pos c s (k := k.val + 1) (by omega), show k.val + 1 - 1 = k.val from rfl, show behind c s (k.val + 1) = behind c s k.val by rw [hz]; rfl]
        iintro ⟨⟨%e, G1, G2, G3, G4, G5, G6⟩, G7, G8, G9, G10⟩
        isplitr
        · ipureintro; exact e
        iframe
  have hpos : 0 < k.val := by omega
  by_cases hlt : k.val < 63
  · by_cases hj : k.val % 16 = 15
    · have hs := step_turn c s k hj hlt h0 hpos
      rw [oI_back c hpos, ← WI_add_two c s k.val] at hs
      refine BIBase.Entails.trans ?_ ((sep_mono_left hs).trans ((wp_frame_r _ _ _ (R := iprop(ahead c (k.val + 1) ∗ behind c s k.val))).trans (wp_mono _ _ _ fun r => ?_)))
      · unfold inv
        rw [AR_in c s (r := k.val / 16) (by omega) (by omega), WR_lt c s hk, ahead_step c hk, OR_pos c s hpos]
        iintro ⟨%_, ⟨H1, H2, H2'⟩, ⟨H3, H4⟩, ⟨H7, H8⟩, ⟨H9, H10⟩, H11, H12⟩
        iframe
      · unfold inv
        rw [AR_row c s (k := k.val + 1) (by omega) (by omega), AX_turn c s hj, AI_turn c hj, WR_lt c s (k := k.val + 1) (by omega), OR_pos c s (k := k.val + 1) (by omega), behind_step c s hpos, show k.val + 1 - 1 = k.val from rfl]
        iintro ⟨⟨%e, G1, G2, G3, G4, G5, G6, G7, G8⟩, G9, G10⟩
        isplitr
        · ipureintro; exact e
        iframe
    · have hs := step_mid c s k (hA15 hj) hlt h0 hpos
      rw [oI_back c hpos, ← WI_add_two c s k.val] at hs
      refine BIBase.Entails.trans ?_ ((sep_mono_left hs).trans ((wp_frame_r _ _ _ (R := iprop(AS c s ∗ AI c (k.val / 16 + 1) ∗ ahead c (k.val + 1) ∗ behind c s k.val))).trans (wp_mono _ _ _ fun r => ?_)))
      · unfold inv
        rw [AR_in c s (r := k.val / 16) (by omega) (by omega), WR_lt c s hk, ahead_step c hk, OR_pos c s hpos]
        iintro ⟨%_, ⟨H1, H2, H2'⟩, ⟨H3, H4⟩, ⟨H7, H8⟩, ⟨H9, H10⟩, H11, H12⟩
        iframe
      · unfold inv
        rw [AR_in c s (k := k.val + 1) (r := k.val / 16) (by omega) (by omega), WR_lt c s (k := k.val + 1) (by omega), OR_pos c s (k := k.val + 1) (by omega), behind_step c s hpos, show k.val + 1 - 1 = k.val from rfl]
        iintro ⟨⟨%e, G1, G2, G3, G4, G5, G6, G7⟩, G8, G9, G10, G11⟩
        isplitr
        · ipureintro; exact e
        iframe
  · have hs := step_last c s k (fun h => hlt h.2) hlt h0 hpos
    rw [oI_back c hpos, ← WI_add_two c s k.val] at hs
    refine BIBase.Entails.trans ?_ ((sep_mono_left hs).trans ((wp_frame_r _ _ _ (R := iprop(AS c s ∗ AI c (k.val / 16 + 1) ∗ WI c s (k.val + 1) ∗ ahead c (k.val + 1) ∗ behind c s k.val))).trans (wp_mono _ _ _ fun r => ?_)))
    · unfold inv
      rw [AR_in c s (r := k.val / 16) (by omega) (by omega), WR_lt c s hk, ahead_step c hk, OR_pos c s hpos]
      iintro ⟨%_, ⟨H1, H2, H2'⟩, ⟨H3, H4⟩, ⟨H7, H8⟩, ⟨H9, H10⟩, H11, H12⟩
      iframe
    · unfold inv
      rw [AR_in c s (k := k.val + 1) (r := k.val / 16) (by omega) (by omega), WR_end c s (k := k.val + 1) (by omega), OR_pos c s (k := k.val + 1) (by omega), behind_step c s hpos, show k.val + 1 - 1 = k.val from rfl]
      iintro ⟨⟨%e, G1, G2, G3, G4, G5, G6⟩, G7, G8, G9, G10, G11⟩
      isplitr
      · ipureintro; exact e
      iframe

/-- The loop's invariant, for the executor. -/
@[reducible] noncomputable def loopInv_k0_t1 :
    LoopInvTy_k0_t1 (F := F) Unit ℕ (Pipeline.UD sig nD τ) ℕ Variants.none c none Set.univ (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 1#32 1#32 1#32 1#32 1#32 1#32 1#32 (1#32, 0#32, 1#32, 0#32, 1#32, 0#32, 1#32, 0#32, 1#32, 0#32, 1#32, 0#32, 1#32, 0#32, 1#32, 0#32, 1#32, 0#32, 0#32, 0#32, 0#32, 0#32) where
  inv := inv c s
  step := fun k acc => by
    refine BIBase.Entails.trans (Q := iprop(⌜acc = words k.val⌝ ∗ inv c s k.val (words k.val))) ?_ ?_
    · unfold inv
      iintro ⟨%e, H⟩
      isplitr
      · ipureintro; exact e
      isplitr
      · ipureintro; rfl
      iexact H
    · iintro ⟨%e, H⟩
      subst e
      istop
      exact inv_step c s k

end Cert.OutProjIdeal.Hand

end
-- ==== Proof.OutProj.Run.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Inv

/-!
The out-projection's run: the first blocks sent for, the loop by its invariant, the last block awaited.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (s : Src F c)

theorem of_eq {P Q : sProp 𝕄} (e : P = Q) : P ⊢ Q := e ▸ .rfl

/-! A state at one place is the state at an equal place. -/
theorem yFree_eq {o o' : Fin 3 → Nat} {k k' : Fin 1 → Nat} (e : o = o') (e' : k = k') (h h' i i') (q) :
    yFree (F := F) c s.y o h (cellO cc0_scoped1 k i) q = yFree c s.y o' h' (cellO cc0_scoped1 k' i') q := by subst e e'; rfl
theorem yFly_eq {o o' : Fin 3 → Nat} {k k' : Fin 1 → Nat} {b b' : Fin 2 → Nat} (e : o = o') (e' : k = k') (e'' : b = b') (h h' i i' j j') (q) :
    yFly (F := F) c s.y o h (cellO cc0_scoped1 k i) b j q = yFly c s.y o' h' (cellO cc0_scoped1 k' i') b' j' q := by subst e e' e''; rfl
theorem xFree_eq {o o' : Fin 3 → Nat} {k k' : Fin 1 → Nat} (e : o = o') (e' : k = k') (h h' i i') (q) :
    xFree (F := F) c s.x o h (cellO cc0_scoped3 k i) q = xFree c s.x o' h' (cellO cc0_scoped3 k' i') q := by subst e e'; rfl
theorem xFly_eq {o o' : Fin 3 → Nat} {k k' : Fin 1 → Nat} {b b' : Fin 2 → Nat} (e : o = o') (e' : k = k') (e'' : b = b') (h h' i i' j j') (q) :
    xFly (F := F) c s.x o h (cellO cc0_scoped3 k i) b j q = xFly c s.x o' h' (cellO cc0_scoped3 k' i') b' j' q := by subst e e' e''; rfl
theorem uFree_eq {o o' : Fin 3 → Nat} {k k' : Fin 1 → Nat} (e : o = o') (e' : k = k') (h h' i i') (q) :
    uFree (F := F) c s.u o h (cellO cc0_scoped5 k i) q = uFree c s.u o' h' (cellO cc0_scoped5 k' i') q := by subst e e'; rfl
theorem uFly_eq {o o' : Fin 3 → Nat} {k k' : Fin 1 → Nat} {b b' : Fin 2 → Nat} (e : o = o') (e' : k = k') (e'' : b = b') (h h' i i' j j') (q) :
    uFly (F := F) c s.u o h (cellO cc0_scoped5 k i) b j q = uFly c s.u o' h' (cellO cc0_scoped5 k' i') b' j' q := by subst e e' e''; rfl
theorem wFree_eq {o o' : Fin 3 → Nat} {k k' : Fin 1 → Nat} (e : o = o') (e' : k = k') (h h' i i') :
    wFree (F := F) c o h (cellO cc0_scoped7 k i) = wFree c o' h' (cellO cc0_scoped7 k' i') := by subst e e'; rfl
theorem wFly_eq {o o' : Fin 3 → Nat} {k k' : Fin 1 → Nat} {b b' : Fin 2 → Nat} (e : o = o') (e' : k = k') (e'' : b = b') (h h' i i' j j') :
    wFly (F := F) c s.w o h (cellO cc0_scoped7 k i) b j = wFly c s.w o' h' (cellO cc0_scoped7 k' i') b' j' := by subst e e' e''; rfl
theorem zFree_eq {o o' : Fin 3 → Nat} {k k' : Fin 1 → Nat} (e : o = o') (e' : k = k') (h h' i i') (q) :
    zFree (F := F) c s.z o h (cellO cc0_scoped9 k i) q = zFree c s.z o' h' (cellO cc0_scoped9 k' i') q := by subst e e'; rfl
theorem zFly_eq {o o' : Fin 3 → Nat} {k k' : Fin 1 → Nat} {b b' : Fin 2 → Nat} (e : o = o') (e' : k = k') (e'' : b = b') (h h' i i' j j') (q) :
    zFly (F := F) c s.z o h (cellO cc0_scoped9 k i) b j q = zFly c s.z o' h' (cellO cc0_scoped9 k' i') b' j' q := by subst e e' e''; rfl
theorem mFree_eq {o o' : Fin 3 → Nat} {k k' : Fin 1 → Nat} (e : o = o') (e' : k = k') (h h' i i') (q) :
    mFree (F := F) c s.m o h (cellO cc0_scoped11 k i) q = mFree c s.m o' h' (cellO cc0_scoped11 k' i') q := by subst e e'; rfl
theorem mFly_eq {o o' : Fin 3 → Nat} {k k' : Fin 1 → Nat} {b b' : Fin 2 → Nat} (e : o = o') (e' : k = k') (e'' : b = b') (h h' i i' j j') (q) :
    mFly (F := F) c s.m o h (cellO cc0_scoped11 k i) b j q = mFly c s.m o' h' (cellO cc0_scoped11 k' i') b' j' q := by subst e e' e''; rfl
theorem rFree_eq {o o' : Fin 3 → Nat} {k k' : Fin 1 → Nat} (e : o = o') (e' : k = k') (h h' i i') (q) :
    rFree (F := F) c s.r o h (cellO cc0_scoped13 k i) q = rFree c s.r o' h' (cellO cc0_scoped13 k' i') q := by subst e e'; rfl
theorem rFly_eq {o o' : Fin 3 → Nat} {k k' : Fin 1 → Nat} {b b' : Fin 2 → Nat} (e : o = o') (e' : k = k') (e'' : b = b') (h h' i i' j j') (q) :
    rFly (F := F) c s.r o h (cellO cc0_scoped13 k i) b j q = rFly c s.r o' h' (cellO cc0_scoped13 k' i') b' j' q := by subst e e' e''; rfl
theorem gFree_eq {o o' : Fin 3 → Nat} {k k' : Fin 1 → Nat} (e : o = o') (e' : k = k') (h h' i i') :
    gFree (F := F) c o h (cellO cc0_scoped15 k i) = gFree c o' h' (cellO cc0_scoped15 k' i') := by subst e e'; rfl
theorem gFly_eq {o o' : Fin 3 → Nat} {k k' : Fin 1 → Nat} {b b' : Fin 2 → Nat} (e : o = o') (e' : k = k') (e'' : b = b') (h h' i i' j j') :
    gFly (F := F) c s.g o h (cellO cc0_scoped15 k i) b j = gFly c s.g o' h' (cellO cc0_scoped15 k' i') b' j' := by subst e e' e''; rfl
theorem bFree_eq {o o' : Fin 3 → Nat} {k k' : Fin 1 → Nat} (e : o = o') (e' : k = k') (h h' i i') :
    bFree (F := F) c o h (cellO cc0_scoped17 k i) = bFree c o' h' (cellO cc0_scoped17 k' i') := by subst e e'; rfl
theorem bFly_eq {o o' : Fin 3 → Nat} {k k' : Fin 1 → Nat} {b b' : Fin 2 → Nat} (e : o = o') (e' : k = k') (e'' : b = b') (h h' i i' j j') :
    bFly (F := F) c s.b o h (cellO cc0_scoped17 k i) b j = bFly c s.b o' h' (cellO cc0_scoped17 k' i') b' j' := by subst e e' e''; rfl
theorem oFree_eq {o o' : Fin 3 → Nat} {k k' : Fin 1 → Nat} (e : o = o') (e' : k = k') (h h' i i') :
    oFree (F := F) c o h (cellO cc0_scoped19 k i) = oFree c o' h' (cellO cc0_scoped19 k' i') := by subst e e'; rfl
theorem oFly_eq {o o' : Fin 3 → Nat} {k k' : Fin 1 → Nat} {b b' : Fin 2 → Nat} (e : o = o') (e' : k = k') (e'' : b = b') (h h' i i' j j') (v) :
    oFly (F := F) c o h (cellO cc0_scoped19 k i) b j v = oFly c o' h' (cellO cc0_scoped19 k' i') b' j' v := by subst e e' e''; rfl
theorem oDone_eq {b b' : Fin 2 → Nat} (e : b = b') (h h') (v) : oDone (F := F) c b h v = oDone c b' h' v := by subst e; rfl

theorem off1 : k0_off1 = cellOff (par 0) := by decide +kernel
theorem off2 : k0_off2 = slotOff (par 0) := by decide +kernel
theorem off3 : k0_off3 = slotOff (par 0) := by decide +kernel
theorem off4 : k0_off4 = slotOff (par 0) := by decide +kernel
theorem off5 : k0_off5 = slotOff (par 0) := by decide +kernel
theorem off6 : k0_off6 = slotOff (par 0) := by decide +kernel
theorem off77 : k0_off77 (W30 64) = cellOff (par 63) := by decide +kernel
theorem off78 : k0_off78 (W32 64) (W31 64) = oblkOff (row 63) (col 63) := by decide +kernel
theorem off79 : k0_off79 (W30 64) = slotOff (par 63) := by decide +kernel
theorem chk12 : k0_chk12 (W30 64) := by decide +kernel
theorem chk13 : k0_chk13 (W32 64) (W31 64) := by decide +kernel

/-! The first slots, and the first blocks sent for, at the offsets the body computes. -/
theorem yI_zero : yI (F := F) c s 0 = yFree (F := F) c s.y k0_off2 k0_off2_inb (cellO cc0_scoped1 k0_off1 k0_off1_inb) (tok (par 0)) := yFree_eq c s off2.symm off1.symm _ _ _ _ _
theorem yX_zero : yFly c s.y k0_off2 k0_off2_inb (cellO cc0_scoped1 k0_off1 k0_off1_inb) ![0, 0] inb_S8192x2048_S512x2048_0_0 (tok (par 0)) = yX c s 0 := yFly_eq c s off2 off1 (by decide +kernel) _ _ _ _ _ _ _
theorem xI_zero : xI (F := F) c s 0 = xFree (F := F) c s.x k0_off3 k0_off3_inb (cellO cc0_scoped3 k0_off1 k0_off1_inb) (tok (par 0)) := xFree_eq c s off3.symm off1.symm _ _ _ _ _
theorem xX_zero : xFly c s.x k0_off3 k0_off3_inb (cellO cc0_scoped3 k0_off1 k0_off1_inb) ![0, 0] inb_S8192x1024_S512x1024_0_0 (tok (par 0)) = xX c s 0 := xFly_eq c s off3 off1 (by decide +kernel) _ _ _ _ _ _ _
theorem uI_zero : uI (F := F) c s 0 = uFree (F := F) c s.u k0_off3 k0_off3_inb (cellO cc0_scoped5 k0_off1 k0_off1_inb) (tok (par 0)) := uFree_eq c s off3.symm off1.symm _ _ _ _ _
theorem uX_zero : uFly c s.u k0_off3 k0_off3_inb (cellO cc0_scoped5 k0_off1 k0_off1_inb) ![0, 0] inb_S8192x1024_S512x1024_0_0 (tok (par 0)) = uX c s 0 := uFly_eq c s off3 off1 (by decide +kernel) _ _ _ _ _ _ _
theorem wI_zero : wI (F := F) c 0 = wFree (F := F) c k0_off4 k0_off4_inb (cellO cc0_scoped7 k0_off1 k0_off1_inb) := wFree_eq c off4.symm off1.symm _ _ _ _
theorem wX_zero : wFly c s.w k0_off4 k0_off4_inb (cellO cc0_scoped7 k0_off1 k0_off1_inb) ![0, 0] inb_S4096x4096_S4096x1024_0_0 = wX c s 0 := wFly_eq c s off4 off1 (by decide +kernel) _ _ _ _ _ _
theorem zI_zero : zI (F := F) c s 0 = zFree (F := F) c s.z k0_off3 k0_off3_inb (cellO cc0_scoped9 k0_off1 k0_off1_inb) (tok (par 0)) := zFree_eq c s off3.symm off1.symm _ _ _ _ _
theorem zX_zero : zFly c s.z k0_off3 k0_off3_inb (cellO cc0_scoped9 k0_off1 k0_off1_inb) ![0, 0] inb_S8192x4096_S512x1024_0_0 (tok (par 0)) = zX c s 0 := zFly_eq c s off3 off1 (by decide +kernel) _ _ _ _ _ _ _
theorem mI_zero : mI (F := F) c s 0 = mFree (F := F) c s.m k0_off5 k0_off5_inb (cellO cc0_scoped11 k0_off1 k0_off1_inb) (tok (par 0)) := mFree_eq c s off5.symm off1.symm _ _ _ _ _
theorem mX_zero : mFly c s.m k0_off5 k0_off5_inb (cellO cc0_scoped11 k0_off1 k0_off1_inb) ![0, 0] inb_S8192x128_S512x128_0_0 (tok (par 0)) = mX c s 0 := mFly_eq c s off5 off1 (by decide +kernel) _ _ _ _ _ _ _
theorem rI_zero : rI (F := F) c s 0 = rFree (F := F) c s.r k0_off5 k0_off5_inb (cellO cc0_scoped13 k0_off1 k0_off1_inb) (tok (par 0)) := rFree_eq c s off5.symm off1.symm _ _ _ _ _
theorem rX_zero : rFly c s.r k0_off5 k0_off5_inb (cellO cc0_scoped13 k0_off1 k0_off1_inb) ![0, 0] inb_S8192x128_S512x128_0_0 (tok (par 0)) = rX c s 0 := rFly_eq c s off5 off1 (by decide +kernel) _ _ _ _ _ _ _
theorem gI_zero : gI (F := F) c 0 = gFree (F := F) c k0_off6 k0_off6_inb (cellO cc0_scoped15 k0_off1 k0_off1_inb) := gFree_eq c off6.symm off1.symm _ _ _ _
theorem gX_zero : gFly c s.g k0_off6 k0_off6_inb (cellO cc0_scoped15 k0_off1 k0_off1_inb) ![0, 0] inb_S1x4096_S1x1024_0_0 = gX c s 0 := gFly_eq c s off6 off1 (by decide +kernel) _ _ _ _ _ _
theorem bI_zero : bI (F := F) c 0 = bFree (F := F) c k0_off6 k0_off6_inb (cellO cc0_scoped17 k0_off1 k0_off1_inb) := bFree_eq c off6.symm off1.symm _ _ _ _
theorem bX_zero : bFly c s.b k0_off6 k0_off6_inb (cellO cc0_scoped17 k0_off1 k0_off1_inb) ![0, 0] inb_S1x4096_S1x1024_0_0 = bX c s 0 := bFly_eq c s off6 off1 (by decide +kernel) _ _ _ _ _ _
theorem WI_zero : WI c s 0 = iprop(yFree (F := F) c s.y k0_off2 k0_off2_inb (cellO cc0_scoped1 k0_off1 k0_off1_inb) (tok (par 0)) ∗ xFree (F := F) c s.x k0_off3 k0_off3_inb (cellO cc0_scoped3 k0_off1 k0_off1_inb) (tok (par 0)) ∗ uFree (F := F) c s.u k0_off3 k0_off3_inb (cellO cc0_scoped5 k0_off1 k0_off1_inb) (tok (par 0)) ∗ zFree (F := F) c s.z k0_off3 k0_off3_inb (cellO cc0_scoped9 k0_off1 k0_off1_inb) (tok (par 0)) ∗ mFree (F := F) c s.m k0_off5 k0_off5_inb (cellO cc0_scoped11 k0_off1 k0_off1_inb) (tok (par 0)) ∗ rFree (F := F) c s.r k0_off5 k0_off5_inb (cellO cc0_scoped13 k0_off1 k0_off1_inb) (tok (par 0))) := by unfold WI; rw [yI_zero, xI_zero, uI_zero, zI_zero, mI_zero, rI_zero]
theorem AI_zero : AI (F := F) c 0 = iprop(wFree (F := F) c k0_off4 k0_off4_inb (cellO cc0_scoped7 k0_off1 k0_off1_inb) ∗ gFree (F := F) c k0_off6 k0_off6_inb (cellO cc0_scoped15 k0_off1 k0_off1_inb) ∗ bFree (F := F) c k0_off6 k0_off6_inb (cellO cc0_scoped17 k0_off1 k0_off1_inb)) := by unfold AI; rw [wI_zero, gI_zero, bI_zero]

theorem loop_rule {β : Type} {kk : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 → Prog (TpuEff nD τ sig (Elt F) Λ₀ .tc) β} {Q : β → sProp 𝕄} :
    inv c s 0 (1#32, 0#32, 1#32, 0#32, 1#32, 0#32, 1#32, 0#32, 1#32, 0#32, 1#32, 0#32, 1#32, 0#32, 1#32, 0#32, 1#32, 0#32, 0#32, 0#32, 0#32, 0#32) ⊢
      iprop((∀ acc, inv c s 64 acc -∗ wp frame (wpE (defs₀ (F := F)) Variants.none c none) Set.univ (kk acc) Q)
        -∗ wp frame (wpE (defs₀ (F := F)) Variants.none c none) Set.univ
          (Scf.Loop.for k0_t1_loop k0_t1_ok (1#32, 0#32, 1#32, 0#32, 1#32, 0#32, 1#32, 0#32, 1#32, 0#32, 1#32, 0#32, 1#32, 0#32, 1#32, 0#32, 1#32, 0#32, 0#32, 0#32, 0#32, 0#32)
            (k0_t1_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 1#32 1#32 1#32 1#32 1#32 1#32 1#32) >>= kk) Q) := by
  have h := exec_loop frame (wpE (defs₀ (F := F)) Variants.none c none) Set.univ _ _ _ _ _ _ (loopInv_k0_t1 c s) (kk := kk) (Q := Q)
  rw [show Scf.trips k0_t1_loop.lb k0_t1_loop.ub k0_t1_loop.st = 64 by decide +kernel] at h
  exact h

/-- The body, run. -/
theorem run :
    (iprop(AI c 0 ∗ AS c s ∗ AI c 1 ∗ WI c s 0 ∗ WI c s 1 ∗ oI c 0 ∗ oI c 1 ∗ ahead c 0 ∗ owe c) : sProp 𝕄)
    ⊢ wp frame (wpE (defs₀ (F := F)) Variants.none c none) Set.univ (bodyAt0 t0_0)
      (fun _ => iprop(AH c s 3 ∗ AS c s ∗ AI c 4 ∗ WI c s 64 ∗ WI c s 65 ∗ oI c 63 ∗ oI c 64
        ∗ oD c s 63 ∗ behind c s 64 ∗ owe c)) := by
  rw [AI_zero, WI_zero]
  unfold AS yFree xFree uFree wFree zFree mFree rFree gFree bFree wSrc gSrc bSrc owe
  iintro ⟨⟨⟨⟨%gw, RW⟩, CW⟩, ⟨⟨%gg, RG⟩, CG⟩, ⟨⟨%gb, RB⟩, CB⟩⟩, ⟨TW, TG, TB⟩, HA1, ⟨⟨⟨%gy, RY⟩, CY, TY⟩, ⟨⟨%gx, RX⟩, CX, TX⟩, ⟨⟨%gu, RU⟩, CU, TU⟩, ⟨⟨%gz, RZ⟩, CZ, TZ⟩, ⟨⟨%gm, RM⟩, CM, TM⟩, ⟨⟨%gr, RR⟩, CR, TR⟩⟩, HW1, HO0, HO1, HH, ⟨%W, HO⟩⟩
  unfold bodyAt0
  rw [cc0_out_proj_eq_skeleton]; unfold cc0_out_proj_skel
  sl_exec
  ihave HI : inv c s 0 (1#32, 0#32, 1#32, 0#32, 1#32, 0#32, 1#32, 0#32, 1#32, 0#32, 1#32, 0#32, 1#32, 0#32, 1#32, 0#32, 1#32, 0#32, 0#32, 0#32, 0#32, 0#32) $$ [CW TW CG TG CB TB HA1 CY TY CX TX CU TU CZ TZ CM TM CR TR HW1 HO0 HO1 HH HO]
  · unfold inv
    rw [AR_row c s rfl (by decide), WR_lt c s (by decide), OR_zero]
    isplitr
    · ipureintro; rfl
    isplitl [CW TW CG TG CB TB HA1]
    · isplitl [CW TW CG TG CB TB]
      · unfold AX
        isplitl [CW TW]
        · iapply (of_eq (wX_zero c s))
          unfold wFly
          iexists ((wslotO k0_off4 k0_off4_inb).view.writes (Elt F) gw [⟨Rect.whole S4096x1024, (wblkO ![0, 0] inb_S4096x4096_S4096x1024_0_0).view.read (Elt F) s.w⟩])
          isplitr
          · ipureintro; exact View.read_writes_whole _ _ _
          isplitl [CW]
          · iexact CW
          · iexact TW
        isplitl [CG TG]
        · iapply (of_eq (gX_zero c s))
          unfold gFly
          iexists ((gslotO k0_off6 k0_off6_inb).view.writes (Elt F) gg [⟨Rect.whole S1x1024, (gblkO ![0, 0] inb_S1x4096_S1x1024_0_0).view.read (Elt F) s.g⟩])
          isplitr
          · ipureintro; exact View.read_writes_whole _ _ _
          isplitl [CG]
          · iexact CG
          · iexact TG
        iapply (of_eq (bX_zero c s))
        unfold bFly
        iexists ((bslotO k0_off6 k0_off6_inb).view.writes (Elt F) gb [⟨Rect.whole S1x1024, (bblkO ![0, 0] inb_S1x4096_S1x1024_0_0).view.read (Elt F) s.b⟩])
        isplitr
        · ipureintro; exact View.read_writes_whole _ _ _
        isplitl [CB]
        · iexact CB
        · iexact TB
      · iexact HA1
    isplitl [CY TY CX TX CU TU CZ TZ CM TM CR TR HW1]
    · isplitl [CY TY CX TX CU TU CZ TZ CM TM CR TR]
      · unfold WX
        isplitl [CY TY]
        · iapply (of_eq (yX_zero c s))
          unfold yFly
          iexists ((yslotO k0_off2 k0_off2_inb).view.writes (Elt F) gy [⟨Rect.whole S512x2048, (yblkO ![0, 0] inb_S8192x2048_S512x2048_0_0).view.read (Elt F) s.y⟩])
          isplitr
          · ipureintro; exact View.read_writes_whole _ _ _
          isplitl [CY]
          · iexact CY
          · iexact TY
        isplitl [CX TX]
        · iapply (of_eq (xX_zero c s))
          unfold xFly
          iexists ((xslotO k0_off3 k0_off3_inb).view.writes (Elt F) gx [⟨Rect.whole S512x1024, (xblkO ![0, 0] inb_S8192x1024_S512x1024_0_0).view.read (Elt F) s.x⟩])
          isplitr
          · ipureintro; exact View.read_writes_whole _ _ _
          isplitl [CX]
          · iexact CX
          · iexact TX
        isplitl [CU TU]
        · iapply (of_eq (uX_zero c s))
          unfold uFly
          iexists ((uslotO k0_off3 k0_off3_inb).view.writes (Elt F) gu [⟨Rect.whole S512x1024, (ublkO ![0, 0] inb_S8192x1024_S512x1024_0_0).view.read (Elt F) s.u⟩])
          isplitr
          · ipureintro; exact View.read_writes_whole _ _ _
          isplitl [CU]
          · iexact CU
          · iexact TU
        isplitl [CZ TZ]
        · iapply (of_eq (zX_zero c s))
          unfold zFly
          iexists ((zslotO k0_off3 k0_off3_inb).view.writes (Elt F) gz [⟨Rect.whole S512x1024, (zblkO ![0, 0] inb_S8192x4096_S512x1024_0_0).view.read (Elt F) s.z⟩])
          isplitr
          · ipureintro; exact View.read_writes_whole _ _ _
          isplitl [CZ]
          · iexact CZ
          · iexact TZ
        isplitl [CM TM]
        · iapply (of_eq (mX_zero c s))
          unfold mFly
          iexists ((mslotO k0_off5 k0_off5_inb).view.writes (Elt F) gm [⟨Rect.whole S512x128, (mblkO ![0, 0] inb_S8192x128_S512x128_0_0).view.read (Elt F) s.m⟩])
          isplitr
          · ipureintro; exact View.read_writes_whole _ _ _
          isplitl [CM]
          · iexact CM
          · iexact TM
        iapply (of_eq (rX_zero c s))
        unfold rFly
        iexists ((rslotO k0_off5 k0_off5_inb).view.writes (Elt F) gr [⟨Rect.whole S512x128, (rblkO ![0, 0] inb_S8192x128_S512x128_0_0).view.read (Elt F) s.r⟩])
        isplitr
        · ipureintro; exact View.read_writes_whole _ _ _
        isplitl [CR]
        · iexact CR
        · iexact TR
      · iexact HW1
    isplitl [HO0 HO1]
    · isplitl [HO0]
      · iexact HO0
      · iexact HO1
    isplitl [HH]
    · iexact HH
    isplitr
    · iapply (of_eq (show (iprop(emp) : sProp 𝕄) = behind c s 0 from bigSep_empty.symm))
      iempintro
    unfold owe
    iexists _; iexact HO
  iapply (loop_rule c s) $$ HI
  iintro %acc HI
  unfold inv
  icases HI with ⟨%e, HA, HW, HOx, HH, HB, HO⟩
  subst e
  have h6 := chk12
  have h7 := chk13
  unfold owe
  icases HO with ⟨%W', HO⟩
  ihave HA := (of_eq (show AR c s 64 = iprop(AH c s 3 ∗ AS c s ∗ AI c 4) from AR_in c s (by decide) (by decide))) $$ HA
  ihave HW := (of_eq (WR_end c s (k := 64) (by decide))) $$ HW
  ihave HOx := (of_eq (OR_pos c s (k := 64) (by decide))) $$ HOx
  icases HOx with ⟨HX, HO0⟩
  ihave HX := (of_eq (show oX c s (64 - 1) = oFly c (k0_off79 (W30 64)) (k0_off79_inb _ chk12) (cellO cc0_scoped19 (k0_off77 (W30 64)) (k0_off77_inb _ chk12)) (k0_off78 (W32 64) (W31 64)) (k0_off78_inb _ _ chk13) (vo c s (row 63) (col 63))
      from oFly_eq c off79.symm off77.symm off78.symm _ _ _ _ _ _ _)) $$ HX
  unfold oFly
  icases HA with ⟨HA0, HA1, HA2⟩
  icases HW with ⟨HW0, HW1⟩
  icases HX with ⟨%g, %go, %hg, FO⟩
  unfold words
  sl_exec
  sl_step
  isplitl [HA0]
  · iexact HA0
  isplitl [HA1]
  · unfold AS wSrc gSrc bSrc
    iexact HA1
  isplitl [HA2]
  · iexact HA2
  isplitl [HW0]
  · iexact HW0
  isplitl [HW1]
  · iexact HW1
  isplitl [FO FO_src]
  · iapply (of_eq (show oFree c (k0_off79 (W30 64)) (k0_off79_inb _ chk12) (cellO cc0_scoped19 (k0_off77 (W30 64)) (k0_off77_inb _ chk12)) = oI (F := F) c 63 from oFree_eq c off79 off77 _ _ _ _))
    unfold oFree
    isplitl [FO_src]
    · iexists go; iexact FO_src
    · iexact FO
  isplitl [HO0]
  · iexact HO0
  isplitl [FO_dst]
  · iapply (of_eq (show oDone c (k0_off78 (W32 64) (W31 64)) (k0_off78_inb _ _ chk13) (vo c s (row 63) (col 63)) = oD c s 63 from oDone_eq c off78 _ _ _))
    unfold oDone
    iexists g
    isplitr
    · ipureintro; exact hg
    iexact FO_dst
  isplitl [HB]
  · iexact HB
  iexists _; iexact HO

end Cert.OutProjIdeal.Hand

end
-- ==== Proof.OutProj.Whole.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Run

/-!
The out-projection's run from whole buffers to whole buffers: each ring taken as its two slots, the sources
read each step as two halves of their share, the result as its blocks, and back.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD) (s : Src F c)

/-- The elements of a slot of the ring `cc0_scoped0`. -/
def yJ (p : Fin 2) : Finset (Idx ((c : Thread nD τ).loc cc0_scoped0)) := (yslotO (slotOff p) (yslot_inb p)).view.set
theorem yJ_eq (p : Fin 2) : yJ c p = (Rect.unit (s := S2x512x2048) (slotOff p) S1x512x2048.size (yslot_inb p)).set := by
  unfold yJ
  rw [Memref.set_view_squeeze]
  exact View.set_slice_whole _ _
theorem yJ_disj (p p' : Fin 2) (h : p ≠ p') : Disjoint (yJ c p) (yJ c p') := by
  rw [yJ_eq, yJ_eq]
  exact Ring.lead_disjoint (s := S2x512x2048) 0 1 slotOff S1x512x2048.size yslot_inb (by decide) (by decide) p p' h
theorem yJ_cover : Finset.univ.biUnion (yJ c) = Finset.univ := by
  rw [show yJ c = _ from funext (yJ_eq c)]
  exact Ring.lead_cover (s := S2x512x2048) 0 1 slotOff S1x512x2048.size yslot_inb (by decide) (by decide) (by decide) (by decide) (by decide)
theorem y_split : (iprop((∃ f : Buf (Elt F) ((c : Thread nD τ).loc cc0_scoped0), ((c : Thread nD τ).loc cc0_scoped0) ↦{fullShare} f) ∗ semVal ((c : Thread nD τ), SemLoc.dma 0) 0 ∗ semVal ((c : Thread nD τ), SemLoc.dma 1) 0 ∗ (((c : Thread nD τ).loc main_arg0) ↦{fullShare} s.y)) : sProp 𝕄) ⊢ iprop(yI (F := F) c s 0 ∗ yI c s 1) := by
  iintro ⟨H, C0, C1, T⟩
  ihave H := (Ring.slots2_split (yJ c) (yJ_disj c) (yJ_cover c) _ _ (fun _ => rfl) (fun _ => rfl)) $$ H
  icases H with ⟨H0, H1⟩
  ihave T := (pointsTo_share (PosShare.mem_left_op_right fullShare)).1 $$ T
  icases T with ⟨T0, T1⟩
  unfold yI yFree
  isplitl [H0 C0 T0]
  · isplitl [H0]
    · iexact H0
    isplitl [C0]
    · iexact C0
    · iexact T0
  · isplitl [H1]
    · iexact H1
    isplitl [C1]
    · iexact C1
    · iexact T1
theorem y_join : iprop(yI (F := F) c s 0 ∗ yI c s 1) ⊢ (iprop((∃ f : Buf (Elt F) ((c : Thread nD τ).loc cc0_scoped0), ((c : Thread nD τ).loc cc0_scoped0) ↦{fullShare} f) ∗ semVal ((c : Thread nD τ), SemLoc.dma 0) 0 ∗ semVal ((c : Thread nD τ), SemLoc.dma 1) 0 ∗ (((c : Thread nD τ).loc main_arg0) ↦{fullShare} s.y)) : sProp 𝕄) := by
  unfold yI yFree
  iintro ⟨⟨H0, C0, T0⟩, ⟨H1, C1, T1⟩⟩
  isplitl [H0 H1]
  · iapply (Ring.slots2_join (yJ c) (yJ_disj c) (yJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped2`. -/
def xJ (p : Fin 2) : Finset (Idx ((c : Thread nD τ).loc cc0_scoped2)) := (xslotO (slotOff p) (xslot_inb p)).view.set
theorem xJ_eq (p : Fin 2) : xJ c p = (Rect.unit (s := S2x512x1024) (slotOff p) S1x512x1024.size (xslot_inb p)).set := by
  unfold xJ
  rw [Memref.set_view_squeeze]
  exact View.set_slice_whole _ _
theorem xJ_disj (p p' : Fin 2) (h : p ≠ p') : Disjoint (xJ c p) (xJ c p') := by
  rw [xJ_eq, xJ_eq]
  exact Ring.lead_disjoint (s := S2x512x1024) 0 1 slotOff S1x512x1024.size xslot_inb (by decide) (by decide) p p' h
theorem xJ_cover : Finset.univ.biUnion (xJ c) = Finset.univ := by
  rw [show xJ c = _ from funext (xJ_eq c)]
  exact Ring.lead_cover (s := S2x512x1024) 0 1 slotOff S1x512x1024.size xslot_inb (by decide) (by decide) (by decide) (by decide) (by decide)
theorem x_split : (iprop((∃ f : Buf (Elt F) ((c : Thread nD τ).loc cc0_scoped2), ((c : Thread nD τ).loc cc0_scoped2) ↦{fullShare} f) ∗ semVal ((c : Thread nD τ), SemLoc.dma 2) 0 ∗ semVal ((c : Thread nD τ), SemLoc.dma 3) 0 ∗ (((c : Thread nD τ).loc main_arg1) ↦{fullShare} s.x)) : sProp 𝕄) ⊢ iprop(xI (F := F) c s 0 ∗ xI c s 1) := by
  iintro ⟨H, C0, C1, T⟩
  ihave H := (Ring.slots2_split (xJ c) (xJ_disj c) (xJ_cover c) _ _ (fun _ => rfl) (fun _ => rfl)) $$ H
  icases H with ⟨H0, H1⟩
  ihave T := (pointsTo_share (PosShare.mem_left_op_right fullShare)).1 $$ T
  icases T with ⟨T0, T1⟩
  unfold xI xFree
  isplitl [H0 C0 T0]
  · isplitl [H0]
    · iexact H0
    isplitl [C0]
    · iexact C0
    · iexact T0
  · isplitl [H1]
    · iexact H1
    isplitl [C1]
    · iexact C1
    · iexact T1
theorem x_join : iprop(xI (F := F) c s 0 ∗ xI c s 1) ⊢ (iprop((∃ f : Buf (Elt F) ((c : Thread nD τ).loc cc0_scoped2), ((c : Thread nD τ).loc cc0_scoped2) ↦{fullShare} f) ∗ semVal ((c : Thread nD τ), SemLoc.dma 2) 0 ∗ semVal ((c : Thread nD τ), SemLoc.dma 3) 0 ∗ (((c : Thread nD τ).loc main_arg1) ↦{fullShare} s.x)) : sProp 𝕄) := by
  unfold xI xFree
  iintro ⟨⟨H0, C0, T0⟩, ⟨H1, C1, T1⟩⟩
  isplitl [H0 H1]
  · iapply (Ring.slots2_join (xJ c) (xJ_disj c) (xJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped4`. -/
def uJ (p : Fin 2) : Finset (Idx ((c : Thread nD τ).loc cc0_scoped4)) := (uslotO (slotOff p) (uslot_inb p)).view.set
theorem uJ_eq (p : Fin 2) : uJ c p = (Rect.unit (s := S2x512x1024) (slotOff p) S1x512x1024.size (uslot_inb p)).set := by
  unfold uJ
  rw [Memref.set_view_squeeze]
  exact View.set_slice_whole _ _
theorem uJ_disj (p p' : Fin 2) (h : p ≠ p') : Disjoint (uJ c p) (uJ c p') := by
  rw [uJ_eq, uJ_eq]
  exact Ring.lead_disjoint (s := S2x512x1024) 0 1 slotOff S1x512x1024.size uslot_inb (by decide) (by decide) p p' h
theorem uJ_cover : Finset.univ.biUnion (uJ c) = Finset.univ := by
  rw [show uJ c = _ from funext (uJ_eq c)]
  exact Ring.lead_cover (s := S2x512x1024) 0 1 slotOff S1x512x1024.size uslot_inb (by decide) (by decide) (by decide) (by decide) (by decide)
theorem u_split : (iprop((∃ f : Buf (Elt F) ((c : Thread nD τ).loc cc0_scoped4), ((c : Thread nD τ).loc cc0_scoped4) ↦{fullShare} f) ∗ semVal ((c : Thread nD τ), SemLoc.dma 4) 0 ∗ semVal ((c : Thread nD τ), SemLoc.dma 5) 0 ∗ (((c : Thread nD τ).loc main_arg2) ↦{fullShare} s.u)) : sProp 𝕄) ⊢ iprop(uI (F := F) c s 0 ∗ uI c s 1) := by
  iintro ⟨H, C0, C1, T⟩
  ihave H := (Ring.slots2_split (uJ c) (uJ_disj c) (uJ_cover c) _ _ (fun _ => rfl) (fun _ => rfl)) $$ H
  icases H with ⟨H0, H1⟩
  ihave T := (pointsTo_share (PosShare.mem_left_op_right fullShare)).1 $$ T
  icases T with ⟨T0, T1⟩
  unfold uI uFree
  isplitl [H0 C0 T0]
  · isplitl [H0]
    · iexact H0
    isplitl [C0]
    · iexact C0
    · iexact T0
  · isplitl [H1]
    · iexact H1
    isplitl [C1]
    · iexact C1
    · iexact T1
theorem u_join : iprop(uI (F := F) c s 0 ∗ uI c s 1) ⊢ (iprop((∃ f : Buf (Elt F) ((c : Thread nD τ).loc cc0_scoped4), ((c : Thread nD τ).loc cc0_scoped4) ↦{fullShare} f) ∗ semVal ((c : Thread nD τ), SemLoc.dma 4) 0 ∗ semVal ((c : Thread nD τ), SemLoc.dma 5) 0 ∗ (((c : Thread nD τ).loc main_arg2) ↦{fullShare} s.u)) : sProp 𝕄) := by
  unfold uI uFree
  iintro ⟨⟨H0, C0, T0⟩, ⟨H1, C1, T1⟩⟩
  isplitl [H0 H1]
  · iapply (Ring.slots2_join (uJ c) (uJ_disj c) (uJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped6`. -/
def wJ (p : Fin 2) : Finset (Idx ((c : Thread nD τ).loc cc0_scoped6)) := (wslotO (slotOff p) (wslot_inb p)).view.set
theorem wJ_eq (p : Fin 2) : wJ c p = (Rect.unit (s := S2x4096x1024) (slotOff p) S1x4096x1024.size (wslot_inb p)).set := by
  unfold wJ
  rw [Memref.set_view_squeeze]
  exact View.set_slice_whole _ _
theorem wJ_disj (p p' : Fin 2) (h : p ≠ p') : Disjoint (wJ c p) (wJ c p') := by
  rw [wJ_eq, wJ_eq]
  exact Ring.lead_disjoint (s := S2x4096x1024) 0 1 slotOff S1x4096x1024.size wslot_inb (by decide) (by decide) p p' h
theorem wJ_cover : Finset.univ.biUnion (wJ c) = Finset.univ := by
  rw [show wJ c = _ from funext (wJ_eq c)]
  exact Ring.lead_cover (s := S2x4096x1024) 0 1 slotOff S1x4096x1024.size wslot_inb (by decide) (by decide) (by decide) (by decide) (by decide)
theorem w_split : (iprop((∃ f : Buf (Elt F) ((c : Thread nD τ).loc cc0_scoped6), ((c : Thread nD τ).loc cc0_scoped6) ↦{fullShare} f) ∗ semVal ((c : Thread nD τ), SemLoc.dma 6) 0 ∗ semVal ((c : Thread nD τ), SemLoc.dma 7) 0) : sProp 𝕄) ⊢ iprop(wI (F := F) c 0 ∗ wI c 1) := by
  iintro ⟨H, C0, C1⟩
  ihave H := (Ring.slots2_split (wJ c) (wJ_disj c) (wJ_cover c) _ _ (fun _ => rfl) (fun _ => rfl)) $$ H
  icases H with ⟨H0, H1⟩
  unfold wI wFree
  isplitl [H0 C0]
  · isplitl [H0]
    · iexact H0
    · iexact C0
  · isplitl [H1]
    · iexact H1
    · iexact C1
theorem w_join : iprop(wI (F := F) c 0 ∗ wI c 1) ⊢ (iprop((∃ f : Buf (Elt F) ((c : Thread nD τ).loc cc0_scoped6), ((c : Thread nD τ).loc cc0_scoped6) ↦{fullShare} f) ∗ semVal ((c : Thread nD τ), SemLoc.dma 6) 0 ∗ semVal ((c : Thread nD τ), SemLoc.dma 7) 0) : sProp 𝕄) := by
  unfold wI wFree
  iintro ⟨⟨H0, C0⟩, ⟨H1, C1⟩⟩
  isplitl [H0 H1]
  · iapply (Ring.slots2_join (wJ c) (wJ_disj c) (wJ_cover c) _ _ (fun _ => rfl) (fun _ => rfl))
    isplitl [H0]
    · iexact H0
    · iexact H1
  isplitl [C0]
  · iexact C0
  · iexact C1

/-- The elements of a slot of the ring `cc0_scoped8`. -/
def zJ (p : Fin 2) : Finset (Idx ((c : Thread nD τ).loc cc0_scoped8)) := (zslotO (slotOff p) (zslot_inb p)).view.set
theorem zJ_eq (p : Fin 2) : zJ c p = (Rect.unit (s := S2x512x1024) (slotOff p) S1x512x1024.size (zslot_inb p)).set := by
  unfold zJ
  rw [Memref.set_view_squeeze]
  exact View.set_slice_whole _ _
theorem zJ_disj (p p' : Fin 2) (h : p ≠ p') : Disjoint (zJ c p) (zJ c p') := by
  rw [zJ_eq, zJ_eq]
  exact Ring.lead_disjoint (s := S2x512x1024) 0 1 slotOff S1x512x1024.size zslot_inb (by decide) (by decide) p p' h
theorem zJ_cover : Finset.univ.biUnion (zJ c) = Finset.univ := by
  rw [show zJ c = _ from funext (zJ_eq c)]
  exact Ring.lead_cover (s := S2x512x1024) 0 1 slotOff S1x512x1024.size zslot_inb (by decide) (by decide) (by decide) (by decide) (by decide)
theorem z_split : (iprop((∃ f : Buf (Elt F) ((c : Thread nD τ).loc cc0_scoped8), ((c : Thread nD τ).loc cc0_scoped8) ↦{fullShare} f) ∗ semVal ((c : Thread nD τ), SemLoc.dma 8) 0 ∗ semVal ((c : Thread nD τ), SemLoc.dma 9) 0 ∗ (((c : Thread nD τ).loc main_arg4) ↦{fullShare} s.z)) : sProp 𝕄) ⊢ iprop(zI (F := F) c s 0 ∗ zI c s 1) := by
  iintro ⟨H, C0, C1, T⟩
  ihave H := (Ring.slots2_split (zJ c) (zJ_disj c) (zJ_cover c) _ _ (fun _ => rfl) (fun _ => rfl)) $$ H
  icases H with ⟨H0, H1⟩
  ihave T := (pointsTo_share (PosShare.mem_left_op_right fullShare)).1 $$ T
  icases T with ⟨T0, T1⟩
  unfold zI zFree
  isplitl [H0 C0 T0]
  · isplitl [H0]
    · iexact H0
    isplitl [C0]
    · iexact C0
    · iexact T0
  · isplitl [H1]
    · iexact H1
    isplitl [C1]
    · iexact C1
    · iexact T1
theorem z_join : iprop(zI (F := F) c s 0 ∗ zI c s 1) ⊢ (iprop((∃ f : Buf (Elt F) ((c : Thread nD τ).loc cc0_scoped8), ((c : Thread nD τ).loc cc0_scoped8) ↦{fullShare} f) ∗ semVal ((c : Thread nD τ), SemLoc.dma 8) 0 ∗ semVal ((c : Thread nD τ), SemLoc.dma 9) 0 ∗ (((c : Thread nD τ).loc main_arg4) ↦{fullShare} s.z)) : sProp 𝕄) := by
  unfold zI zFree
  iintro ⟨⟨H0, C0, T0⟩, ⟨H1, C1, T1⟩⟩
  isplitl [H0 H1]
  · iapply (Ring.slots2_join (zJ c) (zJ_disj c) (zJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped10`. -/
def mJ (p : Fin 2) : Finset (Idx ((c : Thread nD τ).loc cc0_scoped10)) := (mslotO (slotOff p) (mslot_inb p)).view.set
theorem mJ_eq (p : Fin 2) : mJ c p = (Rect.unit (s := S2x512x128) (slotOff p) S1x512x128.size (mslot_inb p)).set := by
  unfold mJ
  rw [Memref.set_view_squeeze]
  exact View.set_slice_whole _ _
theorem mJ_disj (p p' : Fin 2) (h : p ≠ p') : Disjoint (mJ c p) (mJ c p') := by
  rw [mJ_eq, mJ_eq]
  exact Ring.lead_disjoint (s := S2x512x128) 0 1 slotOff S1x512x128.size mslot_inb (by decide) (by decide) p p' h
theorem mJ_cover : Finset.univ.biUnion (mJ c) = Finset.univ := by
  rw [show mJ c = _ from funext (mJ_eq c)]
  exact Ring.lead_cover (s := S2x512x128) 0 1 slotOff S1x512x128.size mslot_inb (by decide) (by decide) (by decide) (by decide) (by decide)
theorem m_split : (iprop((∃ f : Buf (Elt F) ((c : Thread nD τ).loc cc0_scoped10), ((c : Thread nD τ).loc cc0_scoped10) ↦{fullShare} f) ∗ semVal ((c : Thread nD τ), SemLoc.dma 10) 0 ∗ semVal ((c : Thread nD τ), SemLoc.dma 11) 0 ∗ (((c : Thread nD τ).loc main_v0) ↦{fullShare} s.m)) : sProp 𝕄) ⊢ iprop(mI (F := F) c s 0 ∗ mI c s 1) := by
  iintro ⟨H, C0, C1, T⟩
  ihave H := (Ring.slots2_split (mJ c) (mJ_disj c) (mJ_cover c) _ _ (fun _ => rfl) (fun _ => rfl)) $$ H
  icases H with ⟨H0, H1⟩
  ihave T := (pointsTo_share (PosShare.mem_left_op_right fullShare)).1 $$ T
  icases T with ⟨T0, T1⟩
  unfold mI mFree
  isplitl [H0 C0 T0]
  · isplitl [H0]
    · iexact H0
    isplitl [C0]
    · iexact C0
    · iexact T0
  · isplitl [H1]
    · iexact H1
    isplitl [C1]
    · iexact C1
    · iexact T1
theorem m_join : iprop(mI (F := F) c s 0 ∗ mI c s 1) ⊢ (iprop((∃ f : Buf (Elt F) ((c : Thread nD τ).loc cc0_scoped10), ((c : Thread nD τ).loc cc0_scoped10) ↦{fullShare} f) ∗ semVal ((c : Thread nD τ), SemLoc.dma 10) 0 ∗ semVal ((c : Thread nD τ), SemLoc.dma 11) 0 ∗ (((c : Thread nD τ).loc main_v0) ↦{fullShare} s.m)) : sProp 𝕄) := by
  unfold mI mFree
  iintro ⟨⟨H0, C0, T0⟩, ⟨H1, C1, T1⟩⟩
  isplitl [H0 H1]
  · iapply (Ring.slots2_join (mJ c) (mJ_disj c) (mJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped12`. -/
def rJ (p : Fin 2) : Finset (Idx ((c : Thread nD τ).loc cc0_scoped12)) := (rslotO (slotOff p) (rslot_inb p)).view.set
theorem rJ_eq (p : Fin 2) : rJ c p = (Rect.unit (s := S2x512x128) (slotOff p) S1x512x128.size (rslot_inb p)).set := by
  unfold rJ
  rw [Memref.set_view_squeeze]
  exact View.set_slice_whole _ _
theorem rJ_disj (p p' : Fin 2) (h : p ≠ p') : Disjoint (rJ c p) (rJ c p') := by
  rw [rJ_eq, rJ_eq]
  exact Ring.lead_disjoint (s := S2x512x128) 0 1 slotOff S1x512x128.size rslot_inb (by decide) (by decide) p p' h
theorem rJ_cover : Finset.univ.biUnion (rJ c) = Finset.univ := by
  rw [show rJ c = _ from funext (rJ_eq c)]
  exact Ring.lead_cover (s := S2x512x128) 0 1 slotOff S1x512x128.size rslot_inb (by decide) (by decide) (by decide) (by decide) (by decide)
theorem r_split : (iprop((∃ f : Buf (Elt F) ((c : Thread nD τ).loc cc0_scoped12), ((c : Thread nD τ).loc cc0_scoped12) ↦{fullShare} f) ∗ semVal ((c : Thread nD τ), SemLoc.dma 12) 0 ∗ semVal ((c : Thread nD τ), SemLoc.dma 13) 0 ∗ (((c : Thread nD τ).loc main_v1) ↦{fullShare} s.r)) : sProp 𝕄) ⊢ iprop(rI (F := F) c s 0 ∗ rI c s 1) := by
  iintro ⟨H, C0, C1, T⟩
  ihave H := (Ring.slots2_split (rJ c) (rJ_disj c) (rJ_cover c) _ _ (fun _ => rfl) (fun _ => rfl)) $$ H
  icases H with ⟨H0, H1⟩
  ihave T := (pointsTo_share (PosShare.mem_left_op_right fullShare)).1 $$ T
  icases T with ⟨T0, T1⟩
  unfold rI rFree
  isplitl [H0 C0 T0]
  · isplitl [H0]
    · iexact H0
    isplitl [C0]
    · iexact C0
    · iexact T0
  · isplitl [H1]
    · iexact H1
    isplitl [C1]
    · iexact C1
    · iexact T1
theorem r_join : iprop(rI (F := F) c s 0 ∗ rI c s 1) ⊢ (iprop((∃ f : Buf (Elt F) ((c : Thread nD τ).loc cc0_scoped12), ((c : Thread nD τ).loc cc0_scoped12) ↦{fullShare} f) ∗ semVal ((c : Thread nD τ), SemLoc.dma 12) 0 ∗ semVal ((c : Thread nD τ), SemLoc.dma 13) 0 ∗ (((c : Thread nD τ).loc main_v1) ↦{fullShare} s.r)) : sProp 𝕄) := by
  unfold rI rFree
  iintro ⟨⟨H0, C0, T0⟩, ⟨H1, C1, T1⟩⟩
  isplitl [H0 H1]
  · iapply (Ring.slots2_join (rJ c) (rJ_disj c) (rJ_cover c) _ _ (fun _ => rfl) (fun _ => rfl))
    isplitl [H0]
    · iexact H0
    · iexact H1
  isplitl [C0]
  · iexact C0
  isplitl [C1]
  · iexact C1
  iapply (pointsTo_share (PosShare.mem_left_op_right fullShare)).2
  isplitl [T0]
  · iexact T0
  · iexact T1

/-- The elements of a slot of the ring `cc0_scoped14`. -/
def gJ (p : Fin 2) : Finset (Idx ((c : Thread nD τ).loc cc0_scoped14)) := (gslotO (slotOff p) (gslot_inb p)).view.set
theorem gJ_eq (p : Fin 2) : gJ c p = (Rect.unit (s := S2x1x1024) (slotOff p) S1x1x1024.size (gslot_inb p)).set := by
  unfold gJ
  rw [Memref.set_view_squeeze]
  exact View.set_slice_whole _ _
theorem gJ_disj (p p' : Fin 2) (h : p ≠ p') : Disjoint (gJ c p) (gJ c p') := by
  rw [gJ_eq, gJ_eq]
  exact Ring.lead_disjoint (s := S2x1x1024) 0 1 slotOff S1x1x1024.size gslot_inb (by decide) (by decide) p p' h
theorem gJ_cover : Finset.univ.biUnion (gJ c) = Finset.univ := by
  rw [show gJ c = _ from funext (gJ_eq c)]
  exact Ring.lead_cover (s := S2x1x1024) 0 1 slotOff S1x1x1024.size gslot_inb (by decide) (by decide) (by decide) (by decide) (by decide)
theorem g_split : (iprop((∃ f : Buf (Elt F) ((c : Thread nD τ).loc cc0_scoped14), ((c : Thread nD τ).loc cc0_scoped14) ↦{fullShare} f) ∗ semVal ((c : Thread nD τ), SemLoc.dma 14) 0 ∗ semVal ((c : Thread nD τ), SemLoc.dma 15) 0) : sProp 𝕄) ⊢ iprop(gI (F := F) c 0 ∗ gI c 1) := by
  iintro ⟨H, C0, C1⟩
  ihave H := (Ring.slots2_split (gJ c) (gJ_disj c) (gJ_cover c) _ _ (fun _ => rfl) (fun _ => rfl)) $$ H
  icases H with ⟨H0, H1⟩
  unfold gI gFree
  isplitl [H0 C0]
  · isplitl [H0]
    · iexact H0
    · iexact C0
  · isplitl [H1]
    · iexact H1
    · iexact C1
theorem g_join : iprop(gI (F := F) c 0 ∗ gI c 1) ⊢ (iprop((∃ f : Buf (Elt F) ((c : Thread nD τ).loc cc0_scoped14), ((c : Thread nD τ).loc cc0_scoped14) ↦{fullShare} f) ∗ semVal ((c : Thread nD τ), SemLoc.dma 14) 0 ∗ semVal ((c : Thread nD τ), SemLoc.dma 15) 0) : sProp 𝕄) := by
  unfold gI gFree
  iintro ⟨⟨H0, C0⟩, ⟨H1, C1⟩⟩
  isplitl [H0 H1]
  · iapply (Ring.slots2_join (gJ c) (gJ_disj c) (gJ_cover c) _ _ (fun _ => rfl) (fun _ => rfl))
    isplitl [H0]
    · iexact H0
    · iexact H1
  isplitl [C0]
  · iexact C0
  · iexact C1

/-- The elements of a slot of the ring `cc0_scoped16`. -/
def bJ (p : Fin 2) : Finset (Idx ((c : Thread nD τ).loc cc0_scoped16)) := (bslotO (slotOff p) (bslot_inb p)).view.set
theorem bJ_eq (p : Fin 2) : bJ c p = (Rect.unit (s := S2x1x1024) (slotOff p) S1x1x1024.size (bslot_inb p)).set := by
  unfold bJ
  rw [Memref.set_view_squeeze]
  exact View.set_slice_whole _ _
theorem bJ_disj (p p' : Fin 2) (h : p ≠ p') : Disjoint (bJ c p) (bJ c p') := by
  rw [bJ_eq, bJ_eq]
  exact Ring.lead_disjoint (s := S2x1x1024) 0 1 slotOff S1x1x1024.size bslot_inb (by decide) (by decide) p p' h
theorem bJ_cover : Finset.univ.biUnion (bJ c) = Finset.univ := by
  rw [show bJ c = _ from funext (bJ_eq c)]
  exact Ring.lead_cover (s := S2x1x1024) 0 1 slotOff S1x1x1024.size bslot_inb (by decide) (by decide) (by decide) (by decide) (by decide)
theorem b_split : (iprop((∃ f : Buf (Elt F) ((c : Thread nD τ).loc cc0_scoped16), ((c : Thread nD τ).loc cc0_scoped16) ↦{fullShare} f) ∗ semVal ((c : Thread nD τ), SemLoc.dma 16) 0 ∗ semVal ((c : Thread nD τ), SemLoc.dma 17) 0) : sProp 𝕄) ⊢ iprop(bI (F := F) c 0 ∗ bI c 1) := by
  iintro ⟨H, C0, C1⟩
  ihave H := (Ring.slots2_split (bJ c) (bJ_disj c) (bJ_cover c) _ _ (fun _ => rfl) (fun _ => rfl)) $$ H
  icases H with ⟨H0, H1⟩
  unfold bI bFree
  isplitl [H0 C0]
  · isplitl [H0]
    · iexact H0
    · iexact C0
  · isplitl [H1]
    · iexact H1
    · iexact C1
theorem b_join : iprop(bI (F := F) c 0 ∗ bI c 1) ⊢ (iprop((∃ f : Buf (Elt F) ((c : Thread nD τ).loc cc0_scoped16), ((c : Thread nD τ).loc cc0_scoped16) ↦{fullShare} f) ∗ semVal ((c : Thread nD τ), SemLoc.dma 16) 0 ∗ semVal ((c : Thread nD τ), SemLoc.dma 17) 0) : sProp 𝕄) := by
  unfold bI bFree
  iintro ⟨⟨H0, C0⟩, ⟨H1, C1⟩⟩
  isplitl [H0 H1]
  · iapply (Ring.slots2_join (bJ c) (bJ_disj c) (bJ_cover c) _ _ (fun _ => rfl) (fun _ => rfl))
    isplitl [H0]
    · iexact H0
    · iexact H1
  isplitl [C0]
  · iexact C0
  · iexact C1

/-- The elements of a slot of the ring `cc0_scoped18`. -/
def oJ (p : Fin 2) : Finset (Idx ((c : Thread nD τ).loc cc0_scoped18)) := (oslotO (slotOff p) (oslot_inb p)).view.set
theorem oJ_eq (p : Fin 2) : oJ c p = (Rect.unit (s := S2x512x1024) (slotOff p) S1x512x1024.size (oslot_inb p)).set := by
  unfold oJ
  rw [Memref.set_view_squeeze]
  exact View.set_slice_whole _ _
theorem oJ_disj (p p' : Fin 2) (h : p ≠ p') : Disjoint (oJ c p) (oJ c p') := by
  rw [oJ_eq, oJ_eq]
  exact Ring.lead_disjoint (s := S2x512x1024) 0 1 slotOff S1x512x1024.size oslot_inb (by decide) (by decide) p p' h
theorem oJ_cover : Finset.univ.biUnion (oJ c) = Finset.univ := by
  rw [show oJ c = _ from funext (oJ_eq c)]
  exact Ring.lead_cover (s := S2x512x1024) 0 1 slotOff S1x512x1024.size oslot_inb (by decide) (by decide) (by decide) (by decide) (by decide)
theorem o_split : (iprop((∃ f : Buf (Elt F) ((c : Thread nD τ).loc cc0_scoped18), ((c : Thread nD τ).loc cc0_scoped18) ↦{fullShare} f) ∗ semVal ((c : Thread nD τ), SemLoc.dma 18) 0 ∗ semVal ((c : Thread nD τ), SemLoc.dma 19) 0) : sProp 𝕄) ⊢ iprop(oI (F := F) c 0 ∗ oI c 1) := by
  iintro ⟨H, C0, C1⟩
  ihave H := (Ring.slots2_split (oJ c) (oJ_disj c) (oJ_cover c) _ _ (fun _ => rfl) (fun _ => rfl)) $$ H
  icases H with ⟨H0, H1⟩
  unfold oI oFree
  isplitl [H0 C0]
  · isplitl [H0]
    · iexact H0
    · iexact C0
  · isplitl [H1]
    · iexact H1
    · iexact C1
theorem o_join : iprop(oI (F := F) c 0 ∗ oI c 1) ⊢ (iprop((∃ f : Buf (Elt F) ((c : Thread nD τ).loc cc0_scoped18), ((c : Thread nD τ).loc cc0_scoped18) ↦{fullShare} f) ∗ semVal ((c : Thread nD τ), SemLoc.dma 18) 0 ∗ semVal ((c : Thread nD τ), SemLoc.dma 19) 0) : sProp 𝕄) := by
  unfold oI oFree
  iintro ⟨⟨H0, C0⟩, ⟨H1, C1⟩⟩
  isplitl [H0 H1]
  · iapply (Ring.slots2_join (oJ c) (oJ_disj c) (oJ_cover c) _ _ (fun _ => rfl) (fun _ => rfl))
    isplitl [H0]
    · iexact H0
    · iexact H1
  isplitl [C0]
  · iexact C0
  · iexact C1

/-- The elements of the block step `n` writes. -/
def eJ (n : ℕ) : Finset (Idx ((c : Thread nD τ).loc main_v4)) := (oblkO (oblkOff (row n) (col n)) (oblk_inb _ _)).view.set
theorem eJ_eq (n : ℕ) : eJ c n = (Rect.unit (s := S8192x4096) (oblkOff (row n) (col n)) S512x1024.size (oblk_inb _ _)).set :=
  View.set_slice_whole _ _
theorem mem_eJ (n : ℕ) (i : S8192x4096.Idx) :
    i ∈ (Rect.unit (s := S8192x4096) (oblkOff (row n) (col n)) S512x1024.size (oblk_inb _ _)).set ↔ (i 0).val / 512 = n % 16 ∧ (i 1).val / 1024 = n / 16 % 4 := by
  rw [Rect.mem_set_unit, Fin.forall_fin_two]
  show (512 * (n % 16) ≤ (i 0).val ∧ (i 0).val < 512 * (n % 16) + 512) ∧ (1024 * (n / 16 % 4) ≤ (i 1).val ∧ (i 1).val < 1024 * (n / 16 % 4) + 1024) ↔ _
  omega
theorem eJ_disj : ∀ n ∈ Finset.Ico 0 64, ∀ n' ∈ Finset.Ico 0 64, n ≠ n' → Disjoint (eJ c n) (eJ c n') := by
  intro n hn n' hn' h
  rw [eJ_eq, eJ_eq, Finset.disjoint_left]
  intro i hi hi'
  have h1 := (mem_eJ n i).1 hi
  have h2 := (mem_eJ n' i).1 hi'
  rw [Finset.mem_Ico] at hn hn'
  omega
theorem eJ_cover : (Finset.Ico 0 64).biUnion (eJ c) = Finset.univ := by
  rw [show eJ c = _ from funext (eJ_eq c)]
  refine Finset.eq_univ_of_forall fun (i : S8192x4096.Idx) => Finset.mem_biUnion.2 ?_
  have h0 : (i 0).val < 8192 := (i 0).isLt
  have h1 : (i 1).val < 4096 := (i 1).isLt
  refine ⟨(i 1).val / 1024 * 16 + (i 0).val / 512, Finset.mem_Ico.2 ⟨by omega, by omega⟩, (mem_eJ _ i).2 ⟨by omega, by omega⟩⟩

/-- What the result holds after the run: each block its value. -/
def G : Buf (Elt F) ((c : Thread nD τ).loc main_v4) := fun (i : S8192x4096.Idx) =>
  vo c s (row ((i 0).val / 512)) (colr ((i 1).val / 1024))
    (fun a : Fin 2 => ⟨(i a).val % S512x1024.size a, Nat.mod_lt _ (by revert a; decide)⟩)

theorem read_G (n : ℕ) : (oblkO (oblkOff (row n) (col n)) (oblk_inb _ _)).view.read (Elt F) (G c s) = vo c s (row n) (col n) := by
  funext z
  have h0 : (z 0).val < 512 := (z 0).isLt
  have h1 : (z 1).val < 1024 := (z 1).isLt
  have e0 : (((Rect.unit (s := S8192x4096) (oblkOff (row n) (col n)) S512x1024.size (oblk_inb _ _)).emb z) 0).val = 512 * (n % 16) + 1 * (z 0).val := rfl
  have e1 : (((Rect.unit (s := S8192x4096) (oblkOff (row n) (col n)) S512x1024.size (oblk_inb _ _)).emb z) 1).val = 1024 * (n / 16 % 4) + 1 * (z 1).val := rfl
  show G c s ((Rect.unit (s := S8192x4096) (oblkOff (row n) (col n)) S512x1024.size (oblk_inb _ _)).emb z) = _
  unfold G
  rw [show row ((((Rect.unit (s := S8192x4096) (oblkOff (row n) (col n)) S512x1024.size (oblk_inb _ _)).emb z) 0).val / 512) = row n from Fin.ext (by rw [e0]; show _ % 16 = _ % 16; omega),
    show colr ((((Rect.unit (s := S8192x4096) (oblkOff (row n) (col n)) S512x1024.size (oblk_inb _ _)).emb z) 1).val / 1024) = col n from Fin.ext (by rw [e1]; show _ % 4 = _ % 4; omega)]
  congr 1
  funext a
  apply Fin.ext
  match a with
  | ⟨0, _⟩ => show (((Rect.unit (s := S8192x4096) (oblkOff (row n) (col n)) S512x1024.size (oblk_inb _ _)).emb z) 0).val % 512 = (z 0).val; rw [e0]; omega
  | ⟨1, _⟩ => show (((Rect.unit (s := S8192x4096) (oblkOff (row n) (col n)) S512x1024.size (oblk_inb _ _)).emb z) 1).val % 1024 = (z 1).val; rw [e1]; omega

theorem done_G (n : ℕ) : oD c s n ⊢ (((c : Thread nD τ).loc main_v4) ↦[eJ c n]{fullShare} G c s : sProp 𝕄) := by
  unfold oD oDone
  iintro ⟨%g, %hg, H⟩
  have e : (((c : Thread nD τ).loc main_v4) ↦[eJ c n]{fullShare} g : sProp 𝕄) = (((c : Thread nD τ).loc main_v4) ↦[eJ c n]{fullShare} G c s) := by
    refine pointsTo_congr fun i hi => ?_
    obtain ⟨z, -, rfl⟩ := Finset.mem_map.mp hi
    exact congrFun (hg.trans (read_G c s n).symm) z
  iapply (of_eq e)
  iexact H

theorem any_of (f : Buf (Elt F) ((c : Thread nD τ).loc main_v4)) (n : ℕ) : (((c : Thread nD τ).loc main_v4) ↦[eJ c n]{fullShare} f : sProp 𝕄) ⊢ oA c n := by
  unfold oA oAny
  iintro H
  iexists f; iexact H

theorem ahead_zero : (iprop(∃ f : Buf (Elt F) ((c : Thread nD τ).loc main_v4), ((c : Thread nD τ).loc main_v4) ↦{fullShare} f) : sProp 𝕄) ⊢ ahead (F := F) c 0 := by
  iintro ⟨%f, H⟩
  ihave H := (of_eq (show (((c : Thread nD τ).loc main_v4) ↦{fullShare} f : sProp 𝕄) = bigSep (Finset.Ico 0 64) fun n => ((c : Thread nD τ).loc main_v4) ↦[eJ c n]{fullShare} f by
    rw [← pointsTo_biUnion (Finset.Ico 0 64) (eJ c) (eJ_disj c), eJ_cover])) $$ H
  unfold ahead
  have h : (bigSep (Finset.Ico 0 64) fun n => (((c : Thread nD τ).loc main_v4) ↦[eJ c n]{fullShare} f : sProp 𝕄)) ⊢ bigSep (Finset.Ico 0 64) fun n => oA c n :=
    bigSep_mono fun n _ => any_of c f n
  iapply h
  iexact H

theorem behind_all : iprop(oD c s 63 ∗ behind c s 64) ⊢ (((c : Thread nD τ).loc main_v4) ↦{fullShare} G c s : sProp 𝕄) := by
  iintro H
  ihave H := (of_eq (show iprop(oD c s 63 ∗ behind c s 64) = bigSep (Finset.Ico 0 64) fun n => oD c s n from
    (behind_step c s (k := 64) (by decide)).symm.trans (by unfold behind; rw [show Finset.range (64 + 1 - 1) = Finset.Ico 0 64 by decide +kernel]))) $$ H
  have h : (bigSep (Finset.Ico 0 64) fun n => oD c s n) ⊢ bigSep (Finset.Ico 0 64) fun n => (((c : Thread nD τ).loc main_v4) ↦[eJ c n]{fullShare} G c s : sProp 𝕄) :=
    bigSep_mono fun n _ => done_G c s n
  ihave H := h $$ H
  iapply (of_eq (show bigSep (Finset.Ico 0 64) (fun n => (((c : Thread nD τ).loc main_v4) ↦[eJ c n]{fullShare} G c s : sProp 𝕄)) = (((c : Thread nD τ).loc main_v4) ↦{fullShare} G c s) by
    rw [← pointsTo_biUnion (Finset.Ico 0 64) (eJ c) (eJ_disj c), eJ_cover]))
  iexact H

/-- The body, from whole buffers to whole buffers. -/
theorem run_whole :
    (iprop(((∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f) ∗ (∃ f : Buf (Elt F) ((c : Thread nD τ).loc cc0_scoped8), ((c : Thread nD τ).loc cc0_scoped8) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f) ∗ (∃ f : Buf (Elt F) ((c : Thread nD τ).loc cc0_scoped14), ((c : Thread nD τ).loc cc0_scoped14) ↦{fullShare} f) ∗ (∃ f : Buf (Elt F) ((c : Thread nD τ).loc cc0_scoped16), ((c : Thread nD τ).loc cc0_scoped16) ↦{fullShare} f) ∗ (∃ f : Buf (Elt F) ((c : Thread nD τ).loc cc0_scoped18), ((c : Thread nD τ).loc cc0_scoped18) ↦{fullShare} f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ ((((c : Thread nD τ).loc main_arg0) ↦{fullShare} s.y) ∗ (((c : Thread nD τ).loc main_arg1) ↦{fullShare} s.x) ∗ (((c : Thread nD τ).loc main_arg2) ↦{fullShare} s.u) ∗ (((c : Thread nD τ).loc main_arg3) ↦{fullShare} s.w) ∗ (((c : Thread nD τ).loc main_arg4) ↦{fullShare} s.z) ∗ (((c : Thread nD τ).loc main_v0) ↦{fullShare} s.m) ∗ (((c : Thread nD τ).loc main_v1) ↦{fullShare} s.r) ∗ (((c : Thread nD τ).loc main_v2) ↦{fullShare} s.g) ∗ (((c : Thread nD τ).loc main_v3) ↦{fullShare} s.b))
      ∗ (∃ f : Buf (Elt F) ((c : Thread nD τ).loc main_v4), ((c : Thread nD τ).loc main_v4) ↦{fullShare} f) ∗ owe c) : sProp 𝕄)
    ⊢ wp frame (wpE (defs₀ (F := F)) Variants.none c none) Set.univ (bodyAt0 t0_0)
      (fun _ => iprop(((∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f) ∗ (∃ f : Buf (Elt F) ((c : Thread nD τ).loc cc0_scoped8), ((c : Thread nD τ).loc cc0_scoped8) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f) ∗ (∃ f : Buf (Elt F) ((c : Thread nD τ).loc cc0_scoped14), ((c : Thread nD τ).loc cc0_scoped14) ↦{fullShare} f) ∗ (∃ f : Buf (Elt F) ((c : Thread nD τ).loc cc0_scoped16), ((c : Thread nD τ).loc cc0_scoped16) ↦{fullShare} f) ∗ (∃ f : Buf (Elt F) ((c : Thread nD τ).loc cc0_scoped18), ((c : Thread nD τ).loc cc0_scoped18) ↦{fullShare} f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ ((((c : Thread nD τ).loc main_arg0) ↦{fullShare} s.y) ∗ (((c : Thread nD τ).loc main_arg1) ↦{fullShare} s.x) ∗ (((c : Thread nD τ).loc main_arg2) ↦{fullShare} s.u) ∗ (((c : Thread nD τ).loc main_arg3) ↦{fullShare} s.w) ∗ (((c : Thread nD τ).loc main_arg4) ↦{fullShare} s.z) ∗ (((c : Thread nD τ).loc main_v0) ↦{fullShare} s.m) ∗ (((c : Thread nD τ).loc main_v1) ↦{fullShare} s.r) ∗ (((c : Thread nD τ).loc main_v2) ↦{fullShare} s.g) ∗ (((c : Thread nD τ).loc main_v3) ↦{fullShare} s.b))
        ∗ (((c : Thread nD τ).loc main_v4) ↦{fullShare} G c s) ∗ owe c)) := by
  refine BIBase.Entails.trans ?_ ((run c s).trans (wp_mono _ _ _ fun r => ?_))
  · iintro ⟨⟨Ry, Rx, Ru, Rw, Rz, Rm, Rr, Rg, Rb, Ro⟩, ⟨S0, S1, S2, S3, S4, S5, S6, S7, S8, S9, S10, S11, S12, S13, S14, S15, S16, S17, S18, S19⟩, ⟨Hy, Hx, Hu, Hw, Hz, Hm, Hr, Hg, Hb⟩, Hv, HO⟩
    ihave Vy := (y_split (F := F) c s) $$ [Ry S0 S1 Hy]
    · isplitl [Ry]
      · iexact Ry
      isplitl [S0]
      · iexact S0
      isplitl [S1]
      · iexact S1
      iexact Hy
    icases Vy with ⟨Py, Qy⟩
    ihave Vx := (x_split (F := F) c s) $$ [Rx S2 S3 Hx]
    · isplitl [Rx]
      · iexact Rx
      isplitl [S2]
      · iexact S2
      isplitl [S3]
      · iexact S3
      iexact Hx
    icases Vx with ⟨Px, Qx⟩
    ihave Vu := (u_split (F := F) c s) $$ [Ru S4 S5 Hu]
    · isplitl [Ru]
      · iexact Ru
      isplitl [S4]
      · iexact S4
      isplitl [S5]
      · iexact S5
      iexact Hu
    icases Vu with ⟨Pu, Qu⟩
    ihave Vw := (w_split (F := F) c) $$ [Rw S6 S7]
    · isplitl [Rw]
      · iexact Rw
      isplitl [S6]
      · iexact S6
      iexact S7
    icases Vw with ⟨Pw, Qw⟩
    ihave Vz := (z_split (F := F) c s) $$ [Rz S8 S9 Hz]
    · isplitl [Rz]
      · iexact Rz
      isplitl [S8]
      · iexact S8
      isplitl [S9]
      · iexact S9
      iexact Hz
    icases Vz with ⟨Pz, Qz⟩
    ihave Vm := (m_split (F := F) c s) $$ [Rm S10 S11 Hm]
    · isplitl [Rm]
      · iexact Rm
      isplitl [S10]
      · iexact S10
      isplitl [S11]
      · iexact S11
      iexact Hm
    icases Vm with ⟨Pm, Qm⟩
    ihave Vr := (r_split (F := F) c s) $$ [Rr S12 S13 Hr]
    · isplitl [Rr]
      · iexact Rr
      isplitl [S12]
      · iexact S12
      isplitl [S13]
      · iexact S13
      iexact Hr
    icases Vr with ⟨Pr, Qr⟩
    ihave Vg := (g_split (F := F) c) $$ [Rg S14 S15]
    · isplitl [Rg]
      · iexact Rg
      isplitl [S14]
      · iexact S14
      iexact S15
    icases Vg with ⟨Pg, Qg⟩
    ihave Vb := (b_split (F := F) c) $$ [Rb S16 S17]
    · isplitl [Rb]
      · iexact Rb
      isplitl [S16]
      · iexact S16
      iexact S17
    icases Vb with ⟨Pb, Qb⟩
    ihave Vo := (o_split (F := F) c) $$ [Ro S18 S19]
    · isplitl [Ro]
      · iexact Ro
      isplitl [S18]
      · iexact S18
      iexact S19
    icases Vo with ⟨Po, Qo⟩
    ihave B := (ahead_zero (F := F) c) $$ Hv
    isplitl [Pw Pg Pb]
    · unfold AI
      isplitl [Pw]
      · iexact Pw
      isplitl [Pg]
      · iexact Pg
      iexact Pb
    isplitl [Hw Hg Hb]
    · unfold AS wSrc gSrc bSrc
      isplitl [Hw]
      · iexact Hw
      isplitl [Hg]
      · iexact Hg
      iexact Hb
    isplitl [Qw Qg Qb]
    · unfold AI
      isplitl [Qw]
      · iexact Qw
      isplitl [Qg]
      · iexact Qg
      iexact Qb
    isplitl [Py Px Pu Pz Pm Pr]
    · unfold WI
      isplitl [Py]
      · iexact Py
      isplitl [Px]
      · iexact Px
      isplitl [Pu]
      · iexact Pu
      isplitl [Pz]
      · iexact Pz
      isplitl [Pm]
      · iexact Pm
      iexact Pr
    isplitl [Qy Qx Qu Qz Qm Qr]
    · unfold WI
      isplitl [Qy]
      · iexact Qy
      isplitl [Qx]
      · iexact Qx
      isplitl [Qu]
      · iexact Qu
      isplitl [Qz]
      · iexact Qz
      isplitl [Qm]
      · iexact Qm
      iexact Qr
    isplitl [Po]
    · iexact Po
    isplitl [Qo]
    · iexact Qo
    isplitl [B]
    · iexact B
    iexact HO
  · iintro ⟨HA, HS, HA0, HW0, HW1, Qo, Po, D, B, HO⟩
    unfold AH AS AI WI wSrc gSrc bSrc
    icases HA with ⟨Qw, Qg, Qb⟩
    icases HS with ⟨Hw, Hg, Hb⟩
    icases HA0 with ⟨Pw, Pg, Pb⟩
    icases HW0 with ⟨Py, Px, Pu, Pz, Pm, Pr⟩
    icases HW1 with ⟨Qy, Qx, Qu, Qz, Qm, Qr⟩
    ihave Vy := (y_join (F := F) c s) $$ [Py Qy]
    · isplitl [Py]
      · iexact Py
      iexact Qy
    icases Vy with ⟨Ry, S0, S1, Hy⟩
    ihave Vx := (x_join (F := F) c s) $$ [Px Qx]
    · isplitl [Px]
      · iexact Px
      iexact Qx
    icases Vx with ⟨Rx, S2, S3, Hx⟩
    ihave Vu := (u_join (F := F) c s) $$ [Pu Qu]
    · isplitl [Pu]
      · iexact Pu
      iexact Qu
    icases Vu with ⟨Ru, S4, S5, Hu⟩
    ihave Vw := (w_join (F := F) c) $$ [Pw Qw]
    · isplitl [Pw]
      · iexact Pw
      unfold wH wHold wI wFree
      icases Qw with ⟨⟨%g, %_, Qw⟩, C⟩
      isplitl [Qw]
      · iexists g; iexact Qw
      · iexact C
    icases Vw with ⟨Rw, S6, S7⟩
    ihave Vz := (z_join (F := F) c s) $$ [Pz Qz]
    · isplitl [Pz]
      · iexact Pz
      iexact Qz
    icases Vz with ⟨Rz, S8, S9, Hz⟩
    ihave Vm := (m_join (F := F) c s) $$ [Pm Qm]
    · isplitl [Pm]
      · iexact Pm
      iexact Qm
    icases Vm with ⟨Rm, S10, S11, Hm⟩
    ihave Vr := (r_join (F := F) c s) $$ [Pr Qr]
    · isplitl [Pr]
      · iexact Pr
      iexact Qr
    icases Vr with ⟨Rr, S12, S13, Hr⟩
    ihave Vg := (g_join (F := F) c) $$ [Pg Qg]
    · isplitl [Pg]
      · iexact Pg
      unfold gH gHold gI gFree
      icases Qg with ⟨⟨%g, %_, Qg⟩, C⟩
      isplitl [Qg]
      · iexists g; iexact Qg
      · iexact C
    icases Vg with ⟨Rg, S14, S15⟩
    ihave Vb := (b_join (F := F) c) $$ [Pb Qb]
    · isplitl [Pb]
      · iexact Pb
      unfold bH bHold bI bFree
      icases Qb with ⟨⟨%g, %_, Qb⟩, C⟩
      isplitl [Qb]
      · iexists g; iexact Qb
      · iexact C
    icases Vb with ⟨Rb, S16, S17⟩
    ihave Vo := (o_join (F := F) c) $$ [Po Qo]
    · isplitl [Po]
      · iexact Po
      iexact Qo
    icases Vo with ⟨Ro, S18, S19⟩
    ihave B := (behind_all c s) $$ [D B]
    · isplitl [D]
      · iexact D
      iexact B
    iframe

end Cert.OutProjIdeal.Hand

end
-- ==== Proof.OutProj.Frame.lean ====
module

public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjIdeal.Loops
public import proofs.«01_k».proof.Proof.Gen.OutProjIdeal.Frame
public import Idealize.ShloMosaic.Lib.Pipeline.FrameValue
public import Idealize.ShloMosaic.Lib.Pipeline.FrameBody
public import Idealize.ShloMosaic.Lib.Ring.Trips
public import Idealize.ShloMosaic.Lib.Tactic
public import proofs.«01_k».proof.Proof.OutProj.Whole

/-!
The out-projection's launch: every run ends, the arguments as they were, every semaphore at zero, the result at `res`.
-/

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The body's own semaphores: two for each ring. -/
abbrev osem0 : Fin 20 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 20 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9, 10, 11, 12, 13, 14, 15, 16, 17, 18, 19] (by decide) (by decide)]; rfl

/-- The buffers the body reads. -/
def H0 : Finset (Ref sig .tc) := {main_arg0, main_arg1, main_arg2, main_arg3, main_arg4, main_v0, main_v1, main_v2, main_v3}
/-- The buffer it writes. -/
def R0 : Finset (Ref sig .tc) := {main_v4}
theorem H0_sub : H0 ⊆ Pipeline.restRefs sig cfg0.spec := by decide
theorem R0_sub : R0 ⊆ Pipeline.restRefs sig cfg0.spec \ H0 := by decide
theorem reads0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_v0) ↦{fullShare} V m c main_v0) ∗ (((c : Thread nD τ).loc main_v1) ↦{fullShare} V m c main_v1) ∗ (((c : Thread nD τ).loc main_v2) ↦{fullShare} V m c main_v2) ∗ (((c : Thread nD τ).loc main_v3) ↦{fullShare} V m c main_v3)) := by
  rw [BI.bigSep_eq_bigSepL_of_eq [main_arg0, main_arg1, main_arg2, main_arg3, main_arg4, main_v0, main_v1, main_v2, main_v3] (by decide) (by decide)]; rfl

/-- The nine sources as the body finds them: after the host's operations. -/
def src (c : Dev nD) : Src F c := ⟨V m c main_arg0, V m c main_arg1, V m c main_arg2, V m c main_arg3, V m c main_arg4, V m c main_v0, V m c main_v1, V m c main_v2, V m c main_v3⟩

/-- What the result holds after every run. -/
def res (c : Dev nD) : Buf (Elt F) ((c.tc : Thread nD τ).loc main_v4) := G c (src m c)

/-- What each buffer holds after the run. -/
def VG (c : Dev nD) : (b : Ref sig .tc) → Buf (Elt F) ((c.tc : Thread nD τ).loc b) :=
  Function.update (V m c) main_v4 (res m c)
theorem VG_v4 (c : Dev nD) : VG m c main_v4 = res m c := Function.update_self _ _ _

/-- The proof's data: no window, the body's invariant at the buffers' contents before and after its one point. -/
def dats (_ : Fin 1) (c : Dev nD) : Dat τ (Elt F) Unit ℕ (Pipeline.UD sig nD τ) ℕ cfg0 c where
  A w := V m c (Pipeline.arrRef cfg0.spec w)
  after w _ := w.elim0
  Φ t := if t.val = 0 then Pipeline.ΦDRG osem0 cfg0.spec H0 R0 (V m) (V m) c else Pipeline.ΦDRG osem0 cfg0.spec H0 R0 (V m) (VG m) c
  q _ := fullShare
  owed _ := 0

theorem Phi_first (c : Dev nD) (t : Fin (cfg0.N + 1)) (h : t.val = 0) : (dats m 0 c).Φ t = Pipeline.ΦDRG osem0 cfg0.spec H0 R0 (V m) (V m) c := if_pos h
theorem Phi_last (c : Dev nD) (t : Fin (cfg0.N + 1)) (h : ¬ t.val = 0) : (dats m 0 c).Φ t = Pipeline.ΦDRG osem0 cfg0.spec H0 R0 (V m) (VG m) c := if_neg h

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  have ht : t.castSucc.val = 0 := by rw [fin_N0 t]; rfl
  unfold bodyPre bodyPost
  rw [Phi_first m c _ ht, Phi_last m c t.succ (Nat.succ_ne_zero _), Pipeline.ΦDRG_eq, Pipeline.ΦDRG_eq, scopedRest0_eq, ownSems00_eq, reads0_eq,
    R0, Pipeline.routed_singleton, Pipeline.routed_singleton, VG_v4, show bodyAt0 (F := F) t = bodyAt0 t0_0 from rfl]
  unfold Dat.owesAt Pipeline.owesWithin
  rw [show (dats m 0 c).owed t.castSucc = 0 from rfl, show (dats m 0 c).owed t.succ = 0 from rfl]
  refine BIBase.Entails.trans ?_ ((sep_mono_left (run_whole c (src m c))).trans
    ((wp_frame_r _ _ _ (R := iprop(∃ r, prngReg c r))).trans (wp_mono _ _ _ fun r => ?_)))
  · unfold owe
    iintro ⟨⟨HS, Hg, HQ, HH, HR⟩, ⟨%W, -, HW⟩⟩
    isplitr [Hg]
    · isplitl [HS]
      · iexact HS
      isplitl [HQ]
      · iexact HQ
      isplitl [HH]
      · iexact HH
      isplitl [HR]
      · iexists _; iexact HR
      iexists W; iexact HW
    · iexact Hg
  · unfold owe
    iintro ⟨⟨HS, HQ, HH, HR, ⟨%W, HW⟩⟩, Hg⟩
    isplitr [HW]
    · isplitl [HS]
      · iexact HS
      isplitl [Hg]
      · iexact Hg
      isplitl [HQ]
      · iexact HQ
      isplitl [HH]
      · iexact HH
      · iexact HR
    · iexists W; isplitr
      · ipureintro; exact fun _ _ => Or.inl trivial
      iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  all_goals
    rw [show (Finset.univ : Finset (Fin cfg0.W)) = ∅ from rfl, bigSep_empty]
  · unfold bodyPre
    iintro ⟨H, K, -⟩
    isplitl [H]
    · iexact H
    · iexact K
  · unfold bodyPost
    iintro ⟨H, K⟩
    isplitl [H]
    · iexact H
    isplitl [K]
    · iexact K
    · exact .rfl

/-- Every run's end: the arguments and the result. -/
theorem run_main : θ_run defs (onTc (τ := τ) (main (F := F))) (s₀ m ρ) (fun r => Pipeline.FramePostRG cfgs (dats m) 0 R0 (V m) (VG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain) (hA := fun _ _ => rfl) (G := VG m)
    (hin := fun c => of_eq (Phi_first m c 0 rfl).symm) (hout := fun c => of_eq (Phi_last m c (Fin.last _) (by decide))) (hQ' := fun _ h => h)

/-- The arguments end as they were, the result at `res`, every semaphore at zero. -/
theorem run_post : θ_run defs (onTc (τ := τ) (main (F := F))) ⟨m, fun _ => 0, ρ⟩ (fun r => (∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨(h.1.2 c main_v4 (by decide)).trans (VG_v4 m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c)⟩, h.2⟩) (run_main m ρ)

end Cert.OutProjIdeal.Hand

end
-- ==== Proof.OutProj.Value.lean ====
/-
The output projection's value at the ideal instance: every element of the result is the rescaled residual (the input
less its row's mean, times the row's reciprocal deviation, times the column's scale, plus the column's shift) plus the
row of the three mixers' outputs times the column of the weights. The kernel adds three partial products, the textbook
reference takes one product of the joined rows: the sums agree by splitting the sum over 4096 at 2048 and 3072.
-/
module

public import proofs.«01_k».proof.Proof.OutProj.Frame
public import proofs.«01_k».proof.Proof.Gen.OutProjRefIdeal.Run
public import proofs.«01_k».proof.Defs
public import Idealize.ShloMosaic.Lib.Pointwise

@[expose] public section

noncomputable section

namespace Cert.OutProjIdeal.Hand

open Cert.OutProjIdeal Cert.OutProjIdeal.Gen Idealize.ShloMosaic Idealize.ShloMosaic.TcCoe

theorem symm_y (i : Fin 512) (k : Fin 2048) : (Shape.reshapeEquiv squeezes_S1x512x2048_S512x2048.numel_eq).symm (ix3 0 i k) = ix2 i k :=
  (Equiv.symm_apply_eq _).2 (by pointwise)
theorem symm_x (i : Fin 512) (k : Fin 1024) : (Shape.reshapeEquiv squeezes_S1x512x1024_S512x1024.numel_eq).symm (ix3 0 i k) = ix2 i k :=
  (Equiv.symm_apply_eq _).2 (by pointwise)
theorem symm_m (i : Fin 512) (k : Fin 128) : (Shape.reshapeEquiv squeezes_S1x512x128_S512x128.numel_eq).symm (ix3 0 i k) = ix2 i k :=
  (Equiv.symm_apply_eq _).2 (by pointwise)
theorem symm_g (k : Fin 1024) : (Shape.reshapeEquiv squeezes_S1x1x1024_S1x1024.numel_eq).symm (ix3 0 0 k) = ix2 0 k :=
  (Equiv.symm_apply_eq _).2 (by pointwise)
theorem unsq_y_apply (v : Vec Ideal S512x2048 .bf16) (i : Fin 512) (k : Fin 2048) : unsq_y v (ix3 0 i k) = v (ix2 i k) :=
  congrArg v (symm_y i k)
theorem unsq_x_apply (v : Vec Ideal S512x1024 .bf16) (i : Fin 512) (k : Fin 1024) : unsq_x v (ix3 0 i k) = v (ix2 i k) :=
  congrArg v (symm_x i k)
theorem unsq_u_apply (v : Vec Ideal S512x1024 .bf16) (i : Fin 512) (k : Fin 1024) : unsq_u v (ix3 0 i k) = v (ix2 i k) :=
  congrArg v (symm_x i k)
theorem unsq_z_apply (v : Vec Ideal S512x1024 .f32) (i : Fin 512) (k : Fin 1024) : unsq_z v (ix3 0 i k) = v (ix2 i k) :=
  congrArg v (symm_x i k)
theorem unsq_m_apply (v : Vec Ideal S512x128 .f32) (i : Fin 512) (k : Fin 128) : unsq_m v (ix3 0 i k) = v (ix2 i k) :=
  congrArg v (symm_m i k)
theorem unsq_r_apply (v : Vec Ideal S512x128 .f32) (i : Fin 512) (k : Fin 128) : unsq_r v (ix3 0 i k) = v (ix2 i k) :=
  congrArg v (symm_m i k)
theorem unsq_g_apply (v : Vec Ideal S1x1024 .f32) (k : Fin 1024) : unsq_g v (ix3 0 0 k) = v (ix2 0 k) :=
  congrArg v (symm_g k)
theorem unsq_b_apply (v : Vec Ideal S1x1024 .f32) (k : Fin 1024) : unsq_b v (ix3 0 0 k) = v (ix2 0 k) :=
  congrArg v (symm_g k)

/-- Eight copies of a box side by side, at a row whose elements are one value. -/
theorem rep8 (v : FVec Ideal S512x128 .f32) (i : Fin 512) (j : Fin 1024) (μ : EReal) (h : ∀ q : Fin 128, v (ix2 i q) = μ) :
    concatenate S512x1024 1 [⟨S512x128, v⟩, ⟨S512x128, v⟩, ⟨S512x128, v⟩, ⟨S512x128, v⟩, ⟨S512x128, v⟩, ⟨S512x128, v⟩, ⟨S512x128, v⟩, ⟨S512x128, v⟩]
      concatenates_S512x128_S512x128_S512x128_S512x128_S512x128_S512x128_S512x128_S512x128_S512x1024_d1 (ix2 i j) = μ := by
  pointwise
  split_ifs <;> exact h _

theorem pay1_apply (v : Vec Ideal S1x512x2048 .bf16) (i : Fin 512) (k : Fin 2048) : k0_pay1 v (ix2 i k) = v (ix3 0 i k) := by
  pointwise [k0_pay1]

/-- The three partial products' sum. -/
theorem pay2_apply (vy : FVec Ideal S512x2048 .bf16) (w1 : Vec Ideal S2048x1024 .f32) (vx : Vec Ideal S1x512x1024 .bf16) (w2 : Vec Ideal S1024x1024 .f32)
    (vu : Vec Ideal S1x512x1024 .bf16) (w3 : Vec Ideal S1024x1024 .f32) (i : Fin 512) (j : Fin 1024) :
    k0_pay2 vy w1 vx w2 vu w3 (ix2 i j)
      = ((∑ k : Fin 2048, vy (ix2 i k) * w1 (ix2 k j)) + ∑ k : Fin 1024, vx (ix3 0 i k) * w2 (ix2 k j))
        + ∑ k : Fin 1024, vu (ix3 0 i k) * w3 (ix2 k j) := by
  pointwise [k0_pay2]

/-- The input less its row's mean, times the row's reciprocal deviation. -/
theorem pay3_apply (vz : Vec Ideal S1x512x1024 .f32) (vm vr : Vec Ideal S1x512x128 .f32) (i : Fin 512) (j : Fin 1024) (μ ρ : EReal)
    (hm : ∀ q : Fin 128, vm (ix3 0 i q) = μ) (hr : ∀ q : Fin 128, vr (ix3 0 i q) = ρ) :
    k0_pay3 vz vm vr (ix2 i j) = (vz (ix3 0 i j) - μ) * ρ := by
  have e : ∀ (v : Vec Ideal S1x512x128 .f32) (q : Fin 128), shapeCast S512x128 v shapeCasts_S1x512x128_S512x128 (ix2 i q) = v (ix3 0 i q) := fun v q => by pointwise
  have ez : shapeCast S512x1024 vz shapeCasts_S1x512x1024_S512x1024 (ix2 i j) = vz (ix3 0 i j) := by pointwise
  have h1 := rep8 (shapeCast S512x128 vm shapeCasts_S1x512x128_S512x128) i j μ fun q => (e vm q).trans (hm q)
  have h2 := rep8 (shapeCast S512x128 vr shapeCasts_S1x512x128_S512x128) i j ρ fun q => (e vr q).trans (hr q)
  rw [← h1, ← h2, ← ez]
  rfl

/-- The stored block: the rescaled residual plus the products. -/
theorem pay4_apply (vp vn : FVec Ideal S512x1024 .f32) (vg vb : Vec Ideal S1x1x1024 .f32) (i : Fin 512) (j : Fin 1024) :
    k0_pay4 vp vn vg vb (ix3 0 i j) = Ideal.ofBits .f32 0x3FB504F3#32 * (vn (ix2 i j) * vg (ix3 0 0 j) + vb (ix3 0 0 j)) + vp (ix2 i j) := by
  pointwise [k0_pay4]

theorem wtop_apply (v : Vec Ideal S4096x1024 .f32) (k : Fin 2048) (j : Fin 1024) : wtop v (ix2 k j) = v (ix2 ⟨k.val, by omega⟩ j) := by
  refine congrArg v (funext fun a => Fin.ext ?_)
  match a with
  | ⟨0, _⟩ => exact (Nat.zero_add _).trans (Nat.one_mul _)
  | ⟨1, _⟩ => exact (Nat.zero_add _).trans (Nat.one_mul _)
theorem wmid_apply (v : Vec Ideal S4096x1024 .f32) (k : Fin 1024) (j : Fin 1024) : wmid v (ix2 k j) = v (ix2 ⟨2048 + k.val, by omega⟩ j) := by
  refine congrArg v (funext fun a => Fin.ext ?_)
  match a with
  | ⟨0, _⟩ => exact congrArg (2048 + ·) (Nat.one_mul _)
  | ⟨1, _⟩ => exact (Nat.zero_add _).trans (Nat.one_mul _)
theorem wbot_apply (v : Vec Ideal S4096x1024 .f32) (k : Fin 1024) (j : Fin 1024) : wbot v (ix2 k j) = v (ix2 ⟨3072 + k.val, by omega⟩ j) := by
  refine congrArg v (funext fun a => Fin.ext ?_)
  match a with
  | ⟨0, _⟩ => exact congrArg (3072 + ·) (Nat.one_mul _)
  | ⟨1, _⟩ => exact (Nat.zero_add _).trans (Nat.one_mul _)

/-- A block of the result at an element. -/
theorem out_apply (vy : Vec Ideal S512x2048 .bf16) (vx vu : Vec Ideal S512x1024 .bf16) (vw : Vec Ideal S4096x1024 .f32) (vz : Vec Ideal S512x1024 .f32)
    (vm vr : Vec Ideal S512x128 .f32) (vg vb : Vec Ideal S1x1024 .f32) (i : Fin 512) (j : Fin 1024) (μ ρ : EReal)
    (hm : ∀ q : Fin 128, vm (ix2 i q) = μ) (hr : ∀ q : Fin 128, vr (ix2 i q) = ρ) :
    outv vy vx vu vw vz vm vr vg vb (ix2 i j)
      = Ideal.ofBits .f32 0x3FB504F3#32 * ((vz (ix2 i j) - μ) * ρ * vg (ix2 0 j) + vb (ix2 0 j))
        + (((∑ k : Fin 2048, vy (ix2 i k) * vw (ix2 ⟨k.val, by omega⟩ j)) + ∑ k : Fin 1024, vx (ix2 i k) * vw (ix2 ⟨2048 + k.val, by omega⟩ j))
          + ∑ k : Fin 1024, vu (ix2 i k) * vw (ix2 ⟨3072 + k.val, by omega⟩ j)) := by
  have e : Shape.reshapeEquiv squeezes_S1x512x1024_S512x1024.numel_eq (ix2 i j) = ix3 0 i j := by pointwise
  unfold outv
  rw [e, pay4_apply, pay2_apply, pay3_apply _ _ _ i j μ ρ (fun q => (unsq_m_apply vm i q).trans (hm q)) (fun q => (unsq_r_apply vr i q).trans (hr q)),
    unsq_z_apply, unsq_g_apply, unsq_b_apply]
  congr 1
  refine congrArg₂ (· + ·) (congrArg₂ (· + ·) ?_ ?_) ?_
  · exact Finset.sum_congr rfl fun k _ => by rw [pay1_apply, unsq_y_apply, wtop_apply]
  · exact Finset.sum_congr rfl fun k _ => by rw [unsq_x_apply, wmid_apply]
  · exact Finset.sum_congr rfl fun k _ => by rw [unsq_u_apply, wbot_apply]

variable (c : Dev nD) (s : Src Ideal c)

/-! The blocks the body reads, at an element. -/

theorem vy_apply (b : Fin 16) (i : Fin 512) (k : Fin 2048) :
    vy c s b (ix2 i k) = (s.y : FVec Ideal S8192x2048 .bf16) (ix2 ⟨512 * b.val + i.val, by omega⟩ k) := by
  refine congrArg (s.y : FVec Ideal S8192x2048 .bf16) (funext fun a => Fin.ext ?_)
  match a with
  | ⟨0, _⟩ => exact congrArg (512 * b.val + ·) (Nat.one_mul _)
  | ⟨1, _⟩ => exact (Nat.zero_add _).trans (Nat.one_mul _)
theorem vx_apply (b : Fin 16) (i : Fin 512) (k : Fin 1024) :
    vx c s b (ix2 i k) = (s.x : FVec Ideal S8192x1024 .bf16) (ix2 ⟨512 * b.val + i.val, by omega⟩ k) := by
  refine congrArg (s.x : FVec Ideal S8192x1024 .bf16) (funext fun a => Fin.ext ?_)
  match a with
  | ⟨0, _⟩ => exact congrArg (512 * b.val + ·) (Nat.one_mul _)
  | ⟨1, _⟩ => exact (Nat.zero_add _).trans (Nat.one_mul _)
theorem vu_apply (b : Fin 16) (i : Fin 512) (k : Fin 1024) :
    vu c s b (ix2 i k) = (s.u : FVec Ideal S8192x1024 .bf16) (ix2 ⟨512 * b.val + i.val, by omega⟩ k) := by
  refine congrArg (s.u : FVec Ideal S8192x1024 .bf16) (funext fun a => Fin.ext ?_)
  match a with
  | ⟨0, _⟩ => exact congrArg (512 * b.val + ·) (Nat.one_mul _)
  | ⟨1, _⟩ => exact (Nat.zero_add _).trans (Nat.one_mul _)
theorem vm_apply (b : Fin 16) (i : Fin 512) (k : Fin 128) :
    vm c s b (ix2 i k) = (s.m : FVec Ideal S8192x128 .f32) (ix2 ⟨512 * b.val + i.val, by omega⟩ k) := by
  refine congrArg (s.m : FVec Ideal S8192x128 .f32) (funext fun a => Fin.ext ?_)
  match a with
  | ⟨0, _⟩ => exact congrArg (512 * b.val + ·) (Nat.one_mul _)
  | ⟨1, _⟩ => exact (Nat.zero_add _).trans (Nat.one_mul _)
theorem vr_apply (b : Fin 16) (i : Fin 512) (k : Fin 128) :
    vr c s b (ix2 i k) = (s.r : FVec Ideal S8192x128 .f32) (ix2 ⟨512 * b.val + i.val, by omega⟩ k) := by
  refine congrArg (s.r : FVec Ideal S8192x128 .f32) (funext fun a => Fin.ext ?_)
  match a with
  | ⟨0, _⟩ => exact congrArg (512 * b.val + ·) (Nat.one_mul _)
  | ⟨1, _⟩ => exact (Nat.zero_add _).trans (Nat.one_mul _)
theorem vz_apply (b : Fin 16) (b' : Fin 4) (i : Fin 512) (j : Fin 1024) :
    vz c s b b' (ix2 i j) = (s.z : FVec Ideal S8192x4096 .f32) (ix2 ⟨512 * b.val + i.val, by omega⟩ ⟨1024 * b'.val + j.val, by omega⟩) := by
  refine congrArg (s.z : FVec Ideal S8192x4096 .f32) (funext fun a => Fin.ext ?_)
  match a with
  | ⟨0, _⟩ => exact congrArg (512 * b.val + ·) (Nat.one_mul _)
  | ⟨1, _⟩ => exact congrArg (1024 * b'.val + ·) (Nat.one_mul _)
theorem vg_apply (b' : Fin 4) (j : Fin 1024) :
    vg c s b' (ix2 0 j) = (s.g : FVec Ideal S1x4096 .f32) (ix2 0 ⟨1024 * b'.val + j.val, by omega⟩) := by
  refine congrArg (s.g : FVec Ideal S1x4096 .f32) (funext fun a => Fin.ext ?_)
  match a with
  | ⟨0, _⟩ => rfl
  | ⟨1, _⟩ => exact congrArg (1024 * b'.val + ·) (Nat.one_mul _)
theorem vb_apply (b' : Fin 4) (j : Fin 1024) :
    vb c s b' (ix2 0 j) = (s.b : FVec Ideal S1x4096 .f32) (ix2 0 ⟨1024 * b'.val + j.val, by omega⟩) := by
  refine congrArg (s.b : FVec Ideal S1x4096 .f32) (funext fun a => Fin.ext ?_)
  match a with
  | ⟨0, _⟩ => rfl
  | ⟨1, _⟩ => exact congrArg (1024 * b'.val + ·) (Nat.one_mul _)
theorem vw_apply (b : Fin 4) (i : Fin 4096) (k : Fin 1024) :
    vw c s b (ix2 i k) = (s.w : FVec Ideal S2x4096x4096 .f32) (ix3 0 i ⟨1024 * b.val + k.val, by omega⟩) := by
  have e : (Rect.unit (s := S4096x4096) (cblkOff b) S4096x1024.size (wblk_inb b)).emb (ix2 i k) = ix2 i ⟨1024 * b.val + k.val, by omega⟩ := by
    funext a
    apply Fin.ext
    match a with
    | ⟨0, _⟩ => exact (Nat.zero_add _).trans (Nat.one_mul _)
    | ⟨1, _⟩ => exact congrArg (1024 * b.val + ·) (Nat.one_mul _)
  have e' : Shape.reshapeEquiv squeezes_S1x4096x4096_S4096x4096.numel_eq (ix2 i ⟨1024 * b.val + k.val, by omega⟩) = ix3 0 i ⟨1024 * b.val + k.val, by omega⟩ := by pointwise
  show (s.w : FVec Ideal S2x4096x4096 .f32) ((Rect.unit (s := S2x4096x4096) ![0, 0, 0] S1x4096x4096.size inb_S2x4096x4096_S1x4096x4096_0_0_0).emb
    (Shape.reshapeEquiv squeezes_S1x4096x4096_S4096x4096.numel_eq ((Rect.unit (s := S4096x4096) (cblkOff b) S4096x1024.size (wblk_inb b)).emb (ix2 i k)))) = _
  rw [e, e']
  refine congrArg (s.w : FVec Ideal S2x4096x4096 .f32) (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- The result at an element, at a row whose mean and reciprocal deviation are one value each. -/
theorem G_apply (fy : FVec Ideal S8192x2048 .bf16) (fx fu : FVec Ideal S8192x1024 .bf16) (fw : FVec Ideal S2x4096x4096 .f32) (fz : FVec Ideal S8192x4096 .f32)
    (fm fr : FVec Ideal S8192x128 .f32) (fg fb : FVec Ideal S1x4096 .f32) (hy : fy = s.y) (hx : fx = s.x) (hu : fu = s.u) (hw : fw = s.w) (hz : fz = s.z)
    (hfm : fm = s.m) (hfr : fr = s.r) (hg : fg = s.g) (hb : fb = s.b) (i : Fin 8192) (j : Fin 4096) (μ ρ : EReal)
    (hm : ∀ q : Fin 128, fm (ix2 i q) = μ) (hr : ∀ q : Fin 128, fr (ix2 i q) = ρ) :
    (G c s : S8192x4096.Idx → EReal) (ix2 i j)
      = Ideal.ofBits .f32 0x3FB504F3#32 * ((fz (ix2 i j) - μ) * ρ * fg (ix2 0 j) + fb (ix2 0 j))
        + (((∑ k : Fin 2048, fy (ix2 i k) * fw (ix3 0 ⟨k.val, by omega⟩ j)) + ∑ k : Fin 1024, fx (ix2 i k) * fw (ix3 0 ⟨2048 + k.val, by omega⟩ j))
          + ∑ k : Fin 1024, fu (ix2 i k) * fw (ix3 0 ⟨3072 + k.val, by omega⟩ j)) := by
  subst hy hx hu hw hz hfm hfr hg hb
  have hi := i.isLt
  have hj := j.isLt
  have e : (G c s : S8192x4096.Idx → EReal) (ix2 i j)
      = vo c s (row (i.val / 512)) (colr (j.val / 1024)) (ix2 ⟨i.val % 512, Nat.mod_lt _ (by decide)⟩ ⟨j.val % 1024, Nat.mod_lt _ (by decide)⟩) := by
    refine congrArg (vo c s (row (i.val / 512)) (colr (j.val / 1024))) (funext fun a => Fin.ext ?_)
    match a with
    | ⟨0, _⟩ => rfl
    | ⟨1, _⟩ => rfl
  have ei : ∀ h, (⟨512 * (row (i.val / 512)).val + i.val % 512, h⟩ : Fin 8192) = i := fun _ => Fin.ext (by
    show 512 * (i.val / 512 % 16) + i.val % 512 = i.val; omega)
  have ej : ∀ h, (⟨1024 * (colr (j.val / 1024)).val + j.val % 1024, h⟩ : Fin 4096) = j := fun _ => Fin.ext (by
    show 1024 * (j.val / 1024 % 4) + j.val % 1024 = j.val; omega)
  rw [e]
  unfold vo
  rw [out_apply _ _ _ _ _ _ _ _ _ _ _ μ ρ (fun q => by rw [vm_apply, ei]; exact hm q) (fun q => by rw [vr_apply, ei]; exact hr q),
    vz_apply, vg_apply, vb_apply, ei, ej]
  congr 1
  refine congrArg₂ (· + ·) (congrArg₂ (· + ·) ?_ ?_) ?_
  · exact Finset.sum_congr rfl fun k _ => by rw [vy_apply, vw_apply, ei, ej]
  · exact Finset.sum_congr rfl fun k _ => by rw [vx_apply, vw_apply, ei, ej]
  · exact Finset.sum_congr rfl fun k _ => by rw [vu_apply, vw_apply, ei, ej]

/-! What the host prepares: the means and reciprocal deviations along 128 columns, the scales and shifts as one row. -/

variable (m : (ℓ : Loc nD τ sig) → Buf (Elt Ideal) ℓ)

theorem v0_apply (i : Fin 8192) (q : Fin 128) :
    (V m c main_v0 : FVec Ideal S8192x128 .f32) (ix2 i q) = (m ((c.tc : Thread nD τ).loc main_arg5) : FVec Ideal S8192x1 .f32) (ix2 i 0) := by
  have e : (V m c main_v0 : FVec Ideal S8192x128 .f32) = broadcastInDim S8192x128 ![0, 1] bcast_S8192x1_S8192x128_0_1 (m ((c.tc : Thread nD τ).loc main_arg5) : FVec Ideal S8192x1 .f32) := by
    unfold V; after_results
  rw [e]
  pointwise
theorem v1_apply (i : Fin 8192) (q : Fin 128) :
    (V m c main_v1 : FVec Ideal S8192x128 .f32) (ix2 i q) = (m ((c.tc : Thread nD τ).loc main_arg6) : FVec Ideal S8192x1 .f32) (ix2 i 0) := by
  have e : (V m c main_v1 : FVec Ideal S8192x128 .f32) = broadcastInDim S8192x128 ![0, 1] bcast_S8192x1_S8192x128_0_1 (m ((c.tc : Thread nD τ).loc main_arg6) : FVec Ideal S8192x1 .f32) := by
    unfold V; after_results
  rw [e]
  pointwise
theorem row_apply (v : FVec Ideal S4096 .f32) (j : Fin 4096) : shapeCast S1x4096 v shapeCasts_S4096_S1x4096 (ix2 0 j) = v (ix1 j) := by
  pointwise
theorem v2_apply (j : Fin 4096) :
    (V m c main_v2 : FVec Ideal S1x4096 .f32) (ix2 0 j) = (m ((c.tc : Thread nD τ).loc main_arg7) : FVec Ideal S4096 .f32) (ix1 j) := by
  have e : (V m c main_v2 : FVec Ideal S1x4096 .f32) = shapeCast S1x4096 (m ((c.tc : Thread nD τ).loc main_arg7) : FVec Ideal S4096 .f32) shapeCasts_S4096_S1x4096 := by
    unfold V; after_results; rfl
  rw [e]
  exact row_apply _ j
theorem v3_apply (j : Fin 4096) :
    (V m c main_v3 : FVec Ideal S1x4096 .f32) (ix2 0 j) = (m ((c.tc : Thread nD τ).loc main_arg8) : FVec Ideal S4096 .f32) (ix1 j) := by
  have e : (V m c main_v3 : FVec Ideal S1x4096 .f32) = shapeCast S1x4096 (m ((c.tc : Thread nD τ).loc main_arg8) : FVec Ideal S4096 .f32) shapeCasts_S4096_S1x4096 := by
    unfold V; after_results; rfl
  rw [e]
  exact row_apply _ j

/-- The result at an element, of the arguments. -/
theorem res_apply (a0 : FVec Ideal S8192x2048 .bf16) (a1 : FVec Ideal S8192x1024 .bf16) (a2 : FVec Ideal S8192x1024 .bf16) (a3 : FVec Ideal S2x4096x4096 .f32) (a4 : FVec Ideal S8192x4096 .f32) (a5 : FVec Ideal S8192x1 .f32) (a6 : FVec Ideal S8192x1 .f32) (a7 : FVec Ideal S4096 .f32) (a8 : FVec Ideal S4096 .f32)
    (h0 : a0 = (m ((c.tc : Thread nD τ).loc main_arg0) : FVec Ideal S8192x2048 .bf16))
    (h1 : a1 = (m ((c.tc : Thread nD τ).loc main_arg1) : FVec Ideal S8192x1024 .bf16))
    (h2 : a2 = (m ((c.tc : Thread nD τ).loc main_arg2) : FVec Ideal S8192x1024 .bf16))
    (h3 : a3 = (m ((c.tc : Thread nD τ).loc main_arg3) : FVec Ideal S2x4096x4096 .f32))
    (h4 : a4 = (m ((c.tc : Thread nD τ).loc main_arg4) : FVec Ideal S8192x4096 .f32))
    (h5 : a5 = (m ((c.tc : Thread nD τ).loc main_arg5) : FVec Ideal S8192x1 .f32))
    (h6 : a6 = (m ((c.tc : Thread nD τ).loc main_arg6) : FVec Ideal S8192x1 .f32))
    (h7 : a7 = (m ((c.tc : Thread nD τ).loc main_arg7) : FVec Ideal S4096 .f32))
    (h8 : a8 = (m ((c.tc : Thread nD τ).loc main_arg8) : FVec Ideal S4096 .f32))
    (i : Fin 8192) (j : Fin 4096) :
    (res m c : S8192x4096.Idx → EReal) (ix2 i j)
      = Ideal.ofBits .f32 0x3FB504F3#32 * ((a4 (ix2 i j) - a5 (ix2 i 0)) * a6 (ix2 i 0) * a7 (ix1 j) + a8 (ix1 j))
        + (((∑ k : Fin 2048, a0 (ix2 i k) * a3 (ix3 0 ⟨k.val, by omega⟩ j))
            + ∑ k : Fin 1024, a1 (ix2 i k) * a3 (ix3 0 ⟨2048 + k.val, by omega⟩ j))
          + ∑ k : Fin 1024, a2 (ix2 i k) * a3 (ix3 0 ⟨3072 + k.val, by omega⟩ j)) := by
  subst h0 h1 h2 h3 h4 h5 h6 h7 h8
  have e := G_apply c (src m c) (V m c main_arg0) (V m c main_arg1) (V m c main_arg2) (V m c main_arg3) (V m c main_arg4) (V m c main_v0) (V m c main_v1) (V m c main_v2) (V m c main_v3) rfl rfl rfl rfl rfl rfl rfl rfl rfl i j _ _ (fun q => v0_apply c m i q) (fun q => v1_apply c m i q)
  refine e.trans ?_
  rw [v2_apply, v3_apply, V_main_arg0, V_main_arg1, V_main_arg2, V_main_arg3, V_main_arg4]

end Cert.OutProjIdeal.Hand

namespace Cert.OutProjRefIdeal.Hand

open Cert.OutProjRefIdeal Cert.OutProjRefIdeal.Gen Idealize.ShloMosaic Idealize.ShloMosaic.TcCoe

/-- A sum over 4096 split at 2048 and 3072. -/
theorem sum_split (f : Fin 4096 → EReal) :
    ∑ k : Fin 4096, f k = ((∑ k : Fin 2048, f ⟨k.val, by omega⟩) + ∑ k : Fin 1024, f ⟨2048 + k.val, by omega⟩) + ∑ k : Fin 1024, f ⟨3072 + k.val, by omega⟩ := by
  have h1 := Fin.sum_univ_add (a := 3072) (b := 1024) (fun k => f ⟨k.val, by omega⟩)
  have h2 := Fin.sum_univ_add (a := 2048) (b := 1024) (fun k => f ⟨k.val, by omega⟩)
  exact h1.trans (congrArg (· + _) h2)

/-- The reference's result at an element. -/
theorem ref_apply (a0 : FVec Ideal S8192x2048 .bf16) (a1 : FVec Ideal S8192x1024 .bf16) (a2 : FVec Ideal S8192x1024 .bf16) (a3 : FVec Ideal S2x4096x4096 .f32) (a4 : FVec Ideal S8192x4096 .f32) (a5 : FVec Ideal S8192x1 .f32) (a6 : FVec Ideal S8192x1 .f32) (a7 : FVec Ideal S4096 .f32) (a8 : FVec Ideal S4096 .f32) (i : Fin 8192) (j : Fin 4096) :
    (addf (mulf (broadcastInDim S8192x4096 ![] bcast_S_S8192x4096 (constant S_ .f32 0x3FB504F3#32)) (addf (mulf (mulf (subf a4 (broadcastInDim S8192x4096 ![0, 1] bcast_S8192x1_S8192x4096_0_1 a5)) (broadcastInDim S8192x4096 ![0, 1] bcast_S8192x1_S8192x4096_0_1 a6)) (broadcastInDim S8192x4096 ![0, 1] bcast_S1x4096_S8192x4096_0_1 (broadcastInDim S1x4096 ![1] bcast_S4096_S1x4096_1 a7))) (broadcastInDim S8192x4096 ![0, 1] bcast_S1x4096_S8192x4096_0_1 (broadcastInDim S1x4096 ![1] bcast_S4096_S1x4096_1 a8)))) (Host.dotGeneral dot_S8192x4096_S4096x4096_S8192x4096_1_0_0_1_n_n none (extf .f32 ((concatenate S8192x4096 1 [⟨S8192x2048, (a0 : (⟨S8192x2048, .bf16⟩ : BufTy).Contents (Elt Ideal))⟩, ⟨S8192x1024, (a1 : (⟨S8192x1024, .bf16⟩ : BufTy).Contents (Elt Ideal))⟩, ⟨S8192x1024, (a2 : (⟨S8192x1024, .bf16⟩ : BufTy).Contents (Elt Ideal))⟩] concatenates_S8192x2048_S8192x1024_S8192x1024_S8192x4096_d1 : (⟨S8192x4096, .bf16⟩ : BufTy).Contents (Elt Ideal))) bitsLt_bf16_f32) (shapeCast _ (extractStridedSlice S1x4096x4096 ![0, 0, 0] a3 slices_S2x4096x4096_S1x4096x4096_0_0_0) shapeCasts_S1x4096x4096_S4096x4096))) (ix2 i j)
      = Ideal.ofBits .f32 0x3FB504F3#32 * ((a4 (ix2 i j) - a5 (ix2 i 0)) * a6 (ix2 i 0) * a7 (ix1 j) + a8 (ix1 j))
        + (((∑ k : Fin 2048, a0 (ix2 i k) * a3 (ix3 0 ⟨k.val, by omega⟩ j))
            + ∑ k : Fin 1024, a1 (ix2 i k) * a3 (ix3 0 ⟨2048 + k.val, by omega⟩ j))
          + ∑ k : Fin 1024, a2 (ix2 i k) * a3 (ix3 0 ⟨3072 + k.val, by omega⟩ j)) := by
  pointwise
  rw [sum_split]
  congr 1

/-- The reference's result is what the kernel's run leaves. -/
theorem ref_eq (c : Dev OutProjIdeal.nD) (m : (ℓ : Loc OutProjIdeal.nD OutProjIdeal.τ OutProjIdeal.sig) → Buf (Elt Ideal) ℓ) (a0 : FVec Ideal S8192x2048 .bf16) (a1 : FVec Ideal S8192x1024 .bf16) (a2 : FVec Ideal S8192x1024 .bf16) (a3 : FVec Ideal S2x4096x4096 .f32) (a4 : FVec Ideal S8192x4096 .f32) (a5 : FVec Ideal S8192x1 .f32) (a6 : FVec Ideal S8192x1 .f32) (a7 : FVec Ideal S4096 .f32) (a8 : FVec Ideal S4096 .f32)
    (h0 : a0 = (m ((c.tc : Thread OutProjIdeal.nD OutProjIdeal.τ).loc OutProjIdeal.main_arg0) : FVec Ideal S8192x2048 .bf16))
    (h1 : a1 = (m ((c.tc : Thread OutProjIdeal.nD OutProjIdeal.τ).loc OutProjIdeal.main_arg1) : FVec Ideal S8192x1024 .bf16))
    (h2 : a2 = (m ((c.tc : Thread OutProjIdeal.nD OutProjIdeal.τ).loc OutProjIdeal.main_arg2) : FVec Ideal S8192x1024 .bf16))
    (h3 : a3 = (m ((c.tc : Thread OutProjIdeal.nD OutProjIdeal.τ).loc OutProjIdeal.main_arg3) : FVec Ideal S2x4096x4096 .f32))
    (h4 : a4 = (m ((c.tc : Thread OutProjIdeal.nD OutProjIdeal.τ).loc OutProjIdeal.main_arg4) : FVec Ideal S8192x4096 .f32))
    (h5 : a5 = (m ((c.tc : Thread OutProjIdeal.nD OutProjIdeal.τ).loc OutProjIdeal.main_arg5) : FVec Ideal S8192x1 .f32))
    (h6 : a6 = (m ((c.tc : Thread OutProjIdeal.nD OutProjIdeal.τ).loc OutProjIdeal.main_arg6) : FVec Ideal S8192x1 .f32))
    (h7 : a7 = (m ((c.tc : Thread OutProjIdeal.nD OutProjIdeal.τ).loc OutProjIdeal.main_arg7) : FVec Ideal S4096 .f32))
    (h8 : a8 = (m ((c.tc : Thread OutProjIdeal.nD OutProjIdeal.τ).loc OutProjIdeal.main_arg8) : FVec Ideal S4096 .f32)) :
    (addf (mulf (broadcastInDim S8192x4096 ![] bcast_S_S8192x4096 (constant S_ .f32 0x3FB504F3#32)) (addf (mulf (mulf (subf a4 (broadcastInDim S8192x4096 ![0, 1] bcast_S8192x1_S8192x4096_0_1 a5)) (broadcastInDim S8192x4096 ![0, 1] bcast_S8192x1_S8192x4096_0_1 a6)) (broadcastInDim S8192x4096 ![0, 1] bcast_S1x4096_S8192x4096_0_1 (broadcastInDim S1x4096 ![1] bcast_S4096_S1x4096_1 a7))) (broadcastInDim S8192x4096 ![0, 1] bcast_S1x4096_S8192x4096_0_1 (broadcastInDim S1x4096 ![1] bcast_S4096_S1x4096_1 a8)))) (Host.dotGeneral dot_S8192x4096_S4096x4096_S8192x4096_1_0_0_1_n_n none (extf .f32 ((concatenate S8192x4096 1 [⟨S8192x2048, (a0 : (⟨S8192x2048, .bf16⟩ : BufTy).Contents (Elt Ideal))⟩, ⟨S8192x1024, (a1 : (⟨S8192x1024, .bf16⟩ : BufTy).Contents (Elt Ideal))⟩, ⟨S8192x1024, (a2 : (⟨S8192x1024, .bf16⟩ : BufTy).Contents (Elt Ideal))⟩] concatenates_S8192x2048_S8192x1024_S8192x1024_S8192x4096_d1 : (⟨S8192x4096, .bf16⟩ : BufTy).Contents (Elt Ideal))) bitsLt_bf16_f32) (shapeCast _ (extractStridedSlice S1x4096x4096 ![0, 0, 0] a3 slices_S2x4096x4096_S1x4096x4096_0_0_0) shapeCasts_S1x4096x4096_S4096x4096)) : FVec Ideal S8192x4096 .f32) = (OutProjIdeal.Hand.res m c : OutProjIdeal.S8192x4096.Idx → EReal) := by
  funext x
  obtain ⟨i, j, rfl⟩ : ∃ (i : Fin 8192) (j : Fin 4096), x = ix2 i j := ⟨x 0, x 1, eq_ix2 x⟩
  rw [ref_apply]
  exact (OutProjIdeal.Hand.res_apply c m a0 a1 a2 a3 a4 a5 a6 a7 a8 h0 h1 h2 h3 h4 h5 h6 h7 h8 i j).symm

end Cert.OutProjRefIdeal.Hand

end
-- ==== Proof.Norm.Value.lean ====
/-
The last layer norm: what the kernel's sixteen blocks of 512 rows leave, eight rows at a time, is every row less its mean over
the root of its variance, scaled and shifted; the reference's result is the same.
-/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

namespace Cert.NormIdeal.Hand

open Cert.NormIdeal Cert.NormIdeal.Gen Idealize.ShloMosaic Idealize.ShloMosaic.TcCoe Idealize.SL.Sem

/-- The mean of a row. -/
def mean (x : Fin 4096 → EReal) : EReal := Ideal.div (∑ k, x k) (Ideal.ofBits FTy.f32 0x45800000#32)

/-- A row less its mean, over the root of its variance and a small constant, scaled and shifted: element `j`. -/
def ln (x : Fin 4096 → EReal) (g b : EReal) (j : Fin 4096) : EReal :=
  (x j - mean x) * Ideal.rsqrt (mean (fun k => (x k - mean x) * (x k - mean x)) + Ideal.ofBits FTy.f32 0x3727C5AC#32) * g + b

theorem pay8_apply (g b : FVec Ideal S1x4096 .f32) (v : FVec Ideal S8x4096 .f32) (i : Fin 8) (j : Fin 4096) :
    k0_pay8 (F := Ideal) g b v (ix2 i j) = ln (fun k => v (ix2 i k)) (g (ix2 0 j)) (b (ix2 0 j)) j := by
  pointwise [k0_pay8]
  rfl

/-- Eight rows of a block, from `k` on. -/
theorem rows8 (x0 : FVec Ideal S512x4096 .f32) (x1 x2 : FVec Ideal S1x4096 .f32) (k : ℕ) (h) (y : S512x4096.Idx) (x : S8x4096.Idx)
    (h0 : (y 0).val = k + (x 0).val) (h1 : (y 1).val = (x 1).val) :
    k0_pay8 (F := Ideal) (k0_pay111 x0 x1 x2) (k0_pay112 x0 x1 x2) (View.ld (Val := Elt Ideal) (e' := .f32) x0 (Rect.unit (s := S512x4096) ![k, 0] S8x4096.size h)) x
      = ln (fun k => x0 (ix2 (y 0) k)) (x1 (ix2 0 (y 1))) (x2 (ix2 0 (y 1))) (y 1) := by
  obtain ⟨i, j, rfl⟩ : ∃ (i : Fin 8) (j : Fin 4096), x = ix2 i j := ⟨x 0, x 1, eq_ix2 x⟩
  have e1 : y 1 = j := Fin.ext h1
  rw [pay8_apply, e1]
  have e : ∀ q : Fin 4096, (x0 ((Rect.unit (s := S512x4096) ![k, 0] S8x4096.size h).idx (ix2 i q)) : EReal) = x0 (ix2 (y 0) q) := fun q => by
    refine congrArg x0 (funext fun a => Fin.ext ?_)
    match a with
    | ⟨0, _⟩ => exact (congrArg (k + ·) (Nat.one_mul _)).trans h0.symm
    | ⟨1, _⟩ => exact (Nat.zero_add _).trans (Nat.one_mul _)
  have eg : k0_pay111 (F := Ideal) x0 x1 x2 (ix2 0 j) = x1 (ix2 0 j) := by
    pointwise [k0_pay111, k0_pay2]
  have eb : k0_pay112 (F := Ideal) x0 x1 x2 (ix2 0 j) = x2 (ix2 0 j) := by
    pointwise [k0_pay112, k0_pay3]
  rw [eg, eb]
  simp only [View.ld_apply, e]

/-- What the body leaves in its block. -/
theorem out_apply (x0 : FVec Ideal S512x4096 .f32) (x1 x2 : FVec Ideal S1x4096 .f32) (y : S512x4096.Idx) :
    out0_3 (F := Ideal) x0 x1 x2 y = ln (fun k => x0 (ix2 (y 0) k)) (x1 (ix2 0 (y 1))) (x2 (ix2 0 (y 1))) (y 1) := by
  unfold out0_3
  canon_tiles x h
  all_goals exact rows8 x0 x1 x2 _ _ y x (by omega) h1

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The result at an element: its row normalized. -/
def G (fz : FVec Ideal S8192x4096 .f32) (fg fb : FVec Ideal S4096 .f32) : FVec Ideal S8192x4096 .f32 :=
  fun i => ln (fun k => fz (ix2 (i 0) k)) (fg (ix1 (i 1))) (fb (ix1 (i 1))) (i 1)

variable (m : (ℓ : Loc nD τ sig) → Buf (Elt Ideal) ℓ)

/-- The kernel's result after the run. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  refine (out_apply _ _ _ y).trans ?_
  obtain ⟨i, j, rfl⟩ : ∃ (i : Fin 512) (j : Fin 4096), y = ix2 i j := ⟨y 0, y 1, eq_ix2 y⟩
  obtain ⟨e0, e1, e2, e3⟩ := idx t
  have hN : t.val < 16 := lt_of_lt_of_eq t.isLt (by decide)
  have hz : ((View.whole main_v2).slice (win0_3.rect t)).emb (ix2 i j) = ix2 ⟨512 * t.val + i.val, by omega⟩ j := by
    blk_ext [e3]
  have r0 : ∀ k, iblk m c 0 t (ix2 i k) = m ((c.tc : Thread nD τ).loc main_arg0) (ix2 ⟨512 * t.val + i.val, by omega⟩ k) := fun k => by
    blk_ext [iblk, V, e0]
  have r1 : iblk m c 1 t (ix2 0 j) = m ((c.tc : Thread nD τ).loc main_arg1) (ix1 j) := by
    blk_simp [iblk, V, e1]
    entry_read
    pointwise
    refine congrArg (fun q => m ((c.tc : Thread nD τ).loc main_arg1) (ix1 q)) (Fin.ext ?_)
    blk_simp [e1]
  have r2 : iblk m c 2 t (ix2 0 j) = m ((c.tc : Thread nD τ).loc main_arg2) (ix1 j) := by
    blk_simp [iblk, V, e2]
    entry_read
    pointwise
    refine congrArg (fun q => m ((c.tc : Thread nD τ).loc main_arg2) (ix1 q)) (Fin.ext ?_)
    blk_simp [e2]
  refine Eq.trans ?_ (congrArg (G _ _ _) hz).symm
  show ln (fun k => iblk m c 0 t (ix2 i k)) (iblk m c 1 t (ix2 0 j)) (iblk m c 2 t (ix2 0 j)) j = _
  rw [r1, r2, funext r0]
  rfl

end Cert.NormIdeal.Hand

namespace Cert.NormRefIdeal.Hand

open Cert.NormRefIdeal Cert.NormRefIdeal.Gen Idealize.ShloMosaic Idealize.ShloMosaic.TcCoe

/-- The reference's result is the same. -/
theorem ref_eq (fz : FVec Ideal S8192x4096 .f32) (fg fb : FVec Ideal S4096 .f32) : (addf (mulf (mulf (subf fz (broadcastInDim S8192x4096 ![0, 1] bcast_S8192x1_S8192x4096_0_1 (Host.divf (broadcastInDim S8192x1 ![0] bcast_S8192_S8192x1_0 (Host.reduceAdd fz (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf fz (broadcastInDim S8192x4096 ![0, 1] bcast_S8192x1_S8192x4096_0_1 (Host.divf (broadcastInDim S8192x1 ![0] bcast_S8192_S8192x1_0 (Host.reduceAdd fz (constant S_ .f32 0x00000000#32) reducesTo_S8192x4096_S8192_d1 h_S_)) (broadcastInDim S8192x1 ![] bcast_S_S8192x1 (constant S_ .f32 0x45800000#32))))) (subf fz (broadcastInDim S8192x4096 ![0, 1] bcast_S8192x1_S8192x4096_0_1 (Host.divf (broadcastInDim S8192x1 ![0] bcast_S8192_S8192x1_0 (Host.reduceAdd fz (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 fg))) (broadcastInDim S8192x4096 ![0, 1] bcast_S1x4096_S8192x4096_0_1 (broadcastInDim S1x4096 ![1] bcast_S4096_S1x4096_1 fb)) : FVec Ideal S8192x4096 .f32) = Cert.NormIdeal.Hand.G fz fg fb := by
  funext x
  obtain ⟨i, j, rfl⟩ : ∃ (i : Fin 8192) (j : Fin 4096), x = ix2 i j := ⟨x 0, x 1, eq_ix2 x⟩
  pointwise
  unfold Cert.NormIdeal.Hand.G
  rfl

end Cert.NormRefIdeal.Hand

end
-- ==== Proof.MemKv.Value.lean ====
/-
The memory's keys and values: block `t` of the result is the product of the memory with 512 columns of one layer's weights, so
the whole is the two layers' products side by side, as the reference has it.
-/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise

@[expose] public section

set_option maxRecDepth 16384

noncomputable section

namespace Cert.MemKvIdeal.Hand

open Cert.MemKvIdeal Cert.MemKvIdeal.Gen Idealize.ShloMosaic Idealize.ShloMosaic.TcCoe Idealize.SL.Sem

/-- The result at an element: the row of the memory by the column of the weights of the layer the column belongs to. -/
def G (fa : FVec Ideal S1024x4096 .f32) (fw : FVec Ideal S2x4096x2048 .f32) : FVec Ideal S1024x4096 .bf16 :=
  fun i => ∑ k : Fin 4096, fa (ix2 (i 0) k) * fw (ix3 ⟨(i 1).val / 2048, Nat.div_lt_of_lt_mul (i 1).isLt⟩ k ⟨(i 1).val % 2048, Nat.mod_lt _ (by decide)⟩)

theorem idx : ∀ t : Fin cfg0.N, win0_0.index t = ![0, 0] ∧ win0_1.index t = ![t.val / 4, 0, t.val % 4] ∧ win0_2.index t = ![0, t.val] :=
  (by decide +kernel : ∀ t : Fin grid0.N, _)

theorem pay_apply (x : FVec Ideal S1024x4096 .f32) (w : FVec Ideal S1x4096x512 .f32) (i : Fin 1024) (j : Fin 512) :
    k0_pay1 (F := Ideal) x w (ix2 i j) = ∑ k : Fin 4096, x (ix2 i k) * w (ix3 0 k j) := by
  pointwise [k0_pay1]

variable (m : (ℓ : Loc nD τ sig) → Buf (Elt Ideal) ℓ)

/-- The kernel's result after the run. -/
theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨i, j, rfl⟩ : ∃ (i : Fin 1024) (j : Fin 512), y = ix2 i j := ⟨y 0, y 1, eq_ix2 y⟩
  refine (pay_apply _ _ i j).trans ?_
  unfold G
  refine Finset.sum_congr rfl fun k _ => ?_
  obtain ⟨e0, e1, e2⟩ := idx t
  congr 1
  · blk_ext [iblk, V, e0, e2]
  · blk_ext [iblk, V, e1, e2]

end Cert.MemKvIdeal.Hand

namespace Cert.MemKvRefIdeal.Hand

open Cert.MemKvRefIdeal Cert.MemKvRefIdeal.Gen Idealize.ShloMosaic Idealize.ShloMosaic.TcCoe

/-- The reference's result is the same. -/
theorem ref_eq (fa : FVec Ideal S1024x4096 .f32) (fw : FVec Ideal S2x4096x2048 .f32) : (truncf .bf16 (concatenate S1024x4096 1 [⟨S1024x2048, (Host.dotGeneral dot_S1024x4096_S4096x2048_S1024x2048_1_0_0_1_n_n none fa (shapeCast _ (extractStridedSlice S1x4096x2048 ![0, 0, 0] fw slices_S2x4096x2048_S1x4096x2048_0_0_0) shapeCasts_S1x4096x2048_S4096x2048))⟩, ⟨S1024x2048, (Host.dotGeneral dot_S1024x4096_S4096x2048_S1024x2048_1_0_0_1_n_n none fa (shapeCast _ (extractStridedSlice S1x4096x2048 ![1, 0, 0] fw slices_S2x4096x2048_S1x4096x2048_1_0_0) shapeCasts_S1x4096x2048_S4096x2048))⟩] concatenates_S1024x2048_S1024x2048_S1024x4096_d1) bitsLt_bf16_f32 : FVec Ideal S1024x4096 .bf16) = Cert.MemKvIdeal.Hand.G fa fw := by
  funext x
  obtain ⟨i, j, rfl⟩ : ∃ (i : Fin 1024) (j : Fin 4096), x = ix2 i j := ⟨x 0, x 1, eq_ix2 x⟩
  pointwise
  unfold Cert.MemKvIdeal.Hand.G
  have hj := j.isLt
  by_cases h : j.val < 2048
  · rw [dif_pos h]
    refine Finset.sum_congr rfl fun k _ => congrArg (fa (ix2 i k) * fw ·) ?_
    have e0 : (0 : Fin 2) = ⟨j.val / 2048, Nat.div_lt_of_lt_mul hj⟩ := Fin.ext (by show 0 = j.val / 2048; omega)
    have e1 : (⟨j.val, h⟩ : Fin 2048) = ⟨j.val % 2048, Nat.mod_lt _ (by decide)⟩ := Fin.ext (by show j.val = j.val % 2048; omega)
    show ix3 0 k (⟨j.val, _⟩ : Fin 2048) = ix3 ⟨j.val / 2048, _⟩ k ⟨j.val % 2048, _⟩
    rw [← e0, ← e1]
  · rw [dif_neg h]
    refine Finset.sum_congr rfl fun k _ => congrArg (fa (ix2 i k) * fw ·) ?_
    have e0 : (1 : Fin 2) = ⟨j.val / 2048, Nat.div_lt_of_lt_mul hj⟩ := Fin.ext (by show 1 = j.val / 2048; omega)
    have e1 : (⟨j.val - 2048, by omega⟩ : Fin 2048) = ⟨j.val % 2048, Nat.mod_lt _ (by decide)⟩ := Fin.ext (by show j.val - 2048 = j.val % 2048; omega)
    show ix3 1 k (⟨j.val - 2048, _⟩ : Fin 2048) = ix3 ⟨j.val / 2048, _⟩ k ⟨j.val % 2048, _⟩
    rw [← e0, ← e1]

end Cert.MemKvRefIdeal.Hand

end
-- ==== Proof.Softmax.lean ====
/-
Softmax over the extended reals: of finite scores the exponentials' sum isn't zero, so that a weighted sum may be scaled before
or after it is taken.
-/
module

public import Idealize.ShloMosaic.PureOps.Ideal
public import Idealize.ShloMosaic.PureOps.Ideal.Laws

@[expose] public section

noncomputable section

namespace Cert.Softmax

open Idealize.ShloMosaic

/-- A row's greatest element. -/
def top {ι : Type} [Fintype ι] (s : ι → EReal) : EReal := Finset.univ.fold max ⊥ s

theorem le_top {ι : Type} [Fintype ι] (s : ι → EReal) (k : ι) : s k ≤ top s :=
  (Finset.le_fold_max _).mpr (Or.inr ⟨k, Finset.mem_univ k, le_rfl⟩)

theorem top_le {ι : Type} [Fintype ι] (s : ι → EReal) (c : EReal) (h : ∀ k, s k ≤ c) : top s ≤ c :=
  (Finset.fold_max_le _).mpr ⟨bot_le, fun k _ => h k⟩

/-- It is one of the elements, if one isn't `-∞`. -/
theorem top_mem {ι : Type} [Fintype ι] (s : ι → EReal) (k : ι) (h : s k ≠ ⊥) : ∃ q, top s = s q ∧ s q ≠ ⊥ := by
  have hb : ⊥ < top s := lt_of_lt_of_le (bot_lt_iff_ne_bot.mpr h) (le_top s k)
  rcases (Finset.le_fold_max (s := Finset.univ) (f := s) (b := ⊥) (top s)).mp (le_refl (top s)) with h0 | ⟨q, _, hq⟩
  · exact absurd (lt_of_lt_of_le hb h0) (lt_irrefl _)
  · have e := le_antisymm hq (le_top s q)
    exact ⟨q, e, fun he => hb.ne' (e.trans he)⟩

/-- A function like the exponential: not negative, one at zero. -/
structure Pos (E : EReal → EReal) : Prop where
  nonneg : ∀ x, 0 ≤ E x
  zero : E 0 = 1

theorem pos_exp : Pos Ideal.exp where
  nonneg x := by
    induction x using EReal.rec with
    | bot => exact le_rfl
    | coe r => exact EReal.coe_nonneg.mpr (Real.exp_pos r).le
    | top => exact _root_.le_top
  zero := (congrArg Real.toEReal Real.exp_zero)

theorem pos_exp2 : Pos Ideal.exp2 where
  nonneg x := by
    induction x using EReal.rec with
    | bot => exact le_rfl
    | coe r => exact EReal.coe_nonneg.mpr (Real.rpow_nonneg (by norm_num) r)
    | top => exact _root_.le_top
  zero := (congrArg Real.toEReal (Real.rpow_zero 2))

/-- The sum of a row's exponentials, its greatest element taken off first. -/
def den {ι : Type} [Fintype ι] (E : EReal → EReal) (s : ι → EReal) : EReal := ∑ k, E (s k - top s)

theorem den_ne_zero {ι : Type} [Fintype ι] {E : EReal → EReal} (hE : Pos E) (s : ι → EReal) (k : ι) (h : s k ≠ ⊥) (ht : ∀ k, s k ≠ ⊤) :
    den E s ≠ 0 := by
  obtain ⟨q, hq, hb⟩ := top_mem s k h
  have h1 : E (s q - top s) = 1 := by
    rw [hq, EReal.sub_self (ht q) hb]; exact hE.zero
  have h2 : (1 : EReal) ≤ den E s := h1 ▸ Finset.single_le_sum (f := fun k => E (s k - top s)) (fun k _ => hE.nonneg _) (Finset.mem_univ q)
  exact (lt_of_lt_of_le zero_lt_one h2).ne'

theorem sum_mul {ι : Type} (t : Finset ι) (f : ι → EReal) (c : EReal) (h0 : 0 ≤ c) (h1 : c ≠ ⊤) : (∑ k ∈ t, f k) * c = ∑ k ∈ t, f k * c := by
  classical
  induction t using Finset.induction_on with
  | empty => simp
  | insert a t ha ih => rw [Finset.sum_insert ha, Finset.sum_insert ha, EReal.right_distrib_of_nonneg_of_ne_top h0 h1, ih]

theorem div_of_ne {x y : EReal} (h : y ≠ 0) : Ideal.div x y = x * y⁻¹ := if_neg h

/-- The scale may be taken out of the weighted sum. -/
theorem scale_out {ι : Type} [Fintype ι] {E : EReal → EReal} (hE : Pos E) (s v : ι → EReal) (k : ι) (h : s k ≠ ⊥) (ht : ∀ k, s k ≠ ⊤) :
    (∑ k, E (s k - top s) * v k) * Ideal.div 1 (den E s) = ∑ k, v k * Ideal.div (E (s k - top s)) (den E s) := by
  have hd := den_ne_zero hE s k h ht
  have hn : 0 ≤ (den E s)⁻¹ := EReal.inv_nonneg_of_nonneg (Finset.sum_nonneg fun k _ => hE.nonneg _)
  have hi : (den E s)⁻¹ ≠ ⊤ := by
    generalize den E s = L at *
    induction L using EReal.rec with
    | bot => simp
    | coe r => rw [← EReal.coe_inv]; exact EReal.coe_ne_top _
    | top => simp
  rw [div_of_ne hd, one_mul, sum_mul _ _ _ hn hi]
  refine Finset.sum_congr rfl fun k _ => ?_
  rw [div_of_ne hd, mul_comm (E _) (v k), mul_assoc]

/-- A product of finite rows is finite. -/
theorem dot_finite {ι : Type} [Fintype ι] (x y : ι → EReal) (hx : ∀ d, x d ≠ ⊥ ∧ x d ≠ ⊤) (hy : ∀ d, y d ≠ ⊥ ∧ y d ≠ ⊤) :
    (∑ d, x d * y d) ≠ ⊥ ∧ (∑ d, x d * y d) ≠ ⊤ := by
  have e : (∑ d, x d * y d) = ((∑ d, (x d).toReal * (y d).toReal : ℝ) : EReal) := by
    have hc : ∀ (t : Finset ι) (f : ι → ℝ), ((∑ d ∈ t, f d : ℝ) : EReal) = ∑ d ∈ t, (f d : EReal) := fun t f => by
      classical
      induction t using Finset.induction_on with
      | empty => simp
      | insert a t ha ih => rw [Finset.sum_insert ha, Finset.sum_insert ha, EReal.coe_add, ih]
    rw [hc]
    refine Finset.sum_congr rfl fun d _ => ?_
    rw [EReal.coe_mul, EReal.coe_toReal (hx d).2 (hx d).1, EReal.coe_toReal (hy d).2 (hy d).1]
  rw [e]
  exact ⟨EReal.coe_ne_bot _, EReal.coe_ne_top _⟩

/-- Below the infinity in size is finite. -/
theorem finite_of_abs (x : EReal) (h : max x (-x) < ⊤) : x ≠ ⊥ ∧ x ≠ ⊤ := by
  constructor <;> rintro rfl <;> simp at h

end Cert.Softmax

end
-- ==== Proof.MemAttn.Kernel.lean ====
/-
The memory's attention: each head's block of a row is the exponentials of the row's scores against the batch's memory, weighing
the memory's values and scaled by their sum afterwards, times the gate.
-/
module

public import proofs.«01_k».proof.Proof.Gen.MemAttnIdeal.Value
public import proofs.«01_k».proof.Proof.Softmax
public import Idealize.ShloMosaic.Lib.Pipeline.ValueKit
public import Idealize.ShloMosaic.Lib.Pointwise

@[expose] public section

set_option maxRecDepth 16384

noncomputable section

namespace Cert.MemAttnIdeal.Hand

open Cert.MemAttnIdeal Cert.MemAttnIdeal.Gen Idealize.ShloMosaic Idealize.ShloMosaic.TcCoe Idealize.SL.Sem
open Cert.Softmax (top den)

/-- One element: the values `v` weighed by the exponentials of the scores `s`, scaled by their sum, times the gate of `g`. -/
def att (s v : Fin 256 → EReal) (g : EReal) : EReal :=
  (∑ k, Ideal.exp (s k - top s) * v k) * Ideal.div 1 (den Ideal.exp s) * (g * Ideal.logistic g)

theorem neg_inf : Ideal.ofBits FTy.f32 0xFF800000#32 = ⊥ := by
  simp [Ideal.ofBits, Ideal.ieee]

theorem pay2_apply (q : FVec Ideal S2048x256 .bf16) (k v : FVec Ideal S256x256 .bf16) (g : FVec Ideal S2048x256 .bf16) (i : Fin 2048) (j : Fin 256) :
    k0_pay2 (F := Ideal) q k v g (ix2 i j) = att (fun r => ∑ d : Fin 256, q (ix2 i d) * k (ix2 r d)) (fun r => v (ix2 r j)) (g (ix2 i j)) := by
  pointwise [k0_pay2]
  rw [neg_inf]
  rfl

theorem pay6_apply (q : FVec Ideal S2048x256 .bf16) (k v : FVec Ideal S256x256 .bf16) (g : FVec Ideal S2048x256 .bf16) (i : Fin 2048) (j : Fin 256) :
    k0_pay6 (F := Ideal) (k0_pay4 q k) (k0_pay5 q k) v g (ix2 i j) = att (fun r => ∑ d : Fin 256, q (ix2 i d) * k (ix2 r d)) (fun r => v (ix2 r j)) (g (ix2 i j)) := by
  pointwise [k0_pay6, k0_pay4, k0_pay5, k0_pay3]
  rw [neg_inf]
  rfl

/-- A column of a head: `256` columns from the head's first on. -/
def col (y : Fin 1024) (d : Fin 256) : Fin 1024 := ⟨256 * (y.val / 256) + d.val, by omega⟩

/-- One head's columns, as the body writes them, from the blocks it reads. -/
theorem head (x0 x3 : FVec Ideal S2048x1024 .bf16) (x1 x2 : FVec Ideal S256x1024 .bf16) (h : ℕ) (hh : h < 4) (f0 f1) (a : Fin 2048) (b : Fin 1024) (i : Fin 2048) (j : Fin 256)
    (h0 : a.val = i.val) (h1 : b.val = 256 * h + j.val) :
    att (fun r => ∑ d : Fin 256, View.ld (Val := Elt Ideal) (e' := .bf16) x0 (Rect.unit (s := S2048x1024) ![0, 256 * h] S2048x256.size f0) (ix2 i d)
          * View.ld (Val := Elt Ideal) (e' := .bf16) x1 (Rect.unit (s := S256x1024) ![0, 256 * h] S256x256.size f1) (ix2 r d))
        (fun r => View.ld (Val := Elt Ideal) (e' := .bf16) x2 (Rect.unit (s := S256x1024) ![0, 256 * h] S256x256.size f1) (ix2 r j))
        (View.ld (Val := Elt Ideal) (e' := .bf16) x3 (Rect.unit (s := S2048x1024) ![0, 256 * h] S2048x256.size f0) (ix2 i j))
      = att (fun r => ∑ d : Fin 256, x0 (ix2 a (col b d)) * x1 (ix2 r (col b d))) (fun r => x2 (ix2 r b)) (x3 (ix2 a b)) := by
  have hd : b.val / 256 = h := by omega
  obtain rfl : a = i := Fin.ext h0
  have hc : ∀ d : Fin 256, (⟨256 * h + d.val, by omega⟩ : Fin 1024) = col b d := fun d => Fin.ext (by show _ = 256 * (b.val / 256) + d.val; rw [hd])
  have hj : (⟨256 * h + j.val, by omega⟩ : Fin 1024) = b := Fin.ext h1.symm
  have ec : ∀ (d : Fin 256) (r : Fin 256), (Rect.unit (s := S256x1024) ![0, 256 * h] S256x256.size f1).idx (ix2 r d) = ix2 r ⟨256 * h + d.val, by omega⟩ := fun d r => by
    funext a; refine Fin.ext ?_
    match a with
    | ⟨0, _⟩ => exact (Nat.zero_add _).trans (Nat.one_mul _)
    | ⟨1, _⟩ => exact congrArg (256 * h + ·) (Nat.one_mul _)
  have eq : ∀ (d : Fin 256), (Rect.unit (s := S2048x1024) ![0, 256 * h] S2048x256.size f0).idx (ix2 a d) = ix2 a ⟨256 * h + d.val, by omega⟩ := fun d => by
    funext a; refine Fin.ext ?_
    match a with
    | ⟨0, _⟩ => exact (Nat.zero_add _).trans (Nat.one_mul _)
    | ⟨1, _⟩ => exact congrArg (256 * h + ·) (Nat.one_mul _)
  have l0 : ∀ d : Fin 256, View.ld (Val := Elt Ideal) (e' := .bf16) x0 (Rect.unit (s := S2048x1024) ![0, 256 * h] S2048x256.size f0) (ix2 a d) = x0 (ix2 a (col b d)) :=
    fun d => (congrArg x0 (eq d)).trans (by rw [hc])
  have l1 : ∀ d r : Fin 256, View.ld (Val := Elt Ideal) (e' := .bf16) x1 (Rect.unit (s := S256x1024) ![0, 256 * h] S256x256.size f1) (ix2 r d) = x1 (ix2 r (col b d)) :=
    fun d r => (congrArg x1 (ec d r)).trans (by rw [hc])
  have l2 : ∀ r : Fin 256, View.ld (Val := Elt Ideal) (e' := .bf16) x2 (Rect.unit (s := S256x1024) ![0, 256 * h] S256x256.size f1) (ix2 r j) = x2 (ix2 r b) :=
    fun r => (congrArg x2 (ec j r)).trans (by rw [hj])
  have l3 : View.ld (Val := Elt Ideal) (e' := .bf16) x3 (Rect.unit (s := S2048x1024) ![0, 256 * h] S2048x256.size f0) (ix2 a j) = x3 (ix2 a b) :=
    (congrArg x3 (eq j)).trans (by rw [hj])
  rw [l3, funext l2]
  simp only [l0, l1]

/-- What the body leaves in its block. -/
theorem out_apply (x0 : FVec Ideal S2048x1024 .bf16) (x1 x2 : FVec Ideal S256x1024 .bf16) (x3 : FVec Ideal S2048x1024 .bf16) (a : Fin 2048) (b : Fin 1024) :
    out0_4 (F := Ideal) x0 x1 x2 x3 (ix2 a b)
      = att (fun r => ∑ d : Fin 256, x0 (ix2 a (col b d)) * x1 (ix2 r (col b d))) (fun r => x2 (ix2 r b)) (x3 (ix2 a b)) := by
  unfold out0_4
  canon_tiles x h
  all_goals obtain ⟨i, j, rfl⟩ : ∃ (i : Fin 2048) (j : Fin 256), x = ix2 i j := ⟨x 0, x 1, eq_ix2 x⟩
  all_goals replace h0 : a.val = i.val := h0
  · exact (pay2_apply _ _ _ _ i j).trans (head x0 x3 x1 x2 3 (by decide) _ _ a b i j h0 h1)
  · exact (pay2_apply _ _ _ _ i j).trans (head x0 x3 x1 x2 2 (by decide) _ _ a b i j h0 h1)
  · exact (pay6_apply _ _ _ _ i j).trans (head x0 x3 x1 x2 1 (by decide) _ _ a b i j h0 h1)
  · exact (pay2_apply _ _ _ _ i j).trans (head x0 x3 x1 x2 0 (by decide) _ _ a b i j h0 (Eq.trans h1 (Nat.zero_add _).symm))

/-- A row's scores against its batch's memory, for the head the column belongs to. -/
def score (fp : FVec Ideal S8192x13312 .bf16) (fk : FVec Ideal S1024x4096 .bf16) (i : Fin 8192) (j : Fin 1024) (r : Fin 256) : EReal :=
  ∑ d : Fin 256, fp (ix2 i ⟨11264 + (col j d).val, by omega⟩) * fk (ix2 ⟨256 * (i.val / 2048) + r.val, by omega⟩ ⟨(col j d).val, by omega⟩)

/-- The value a memory row has for a column. -/
def val (fk : FVec Ideal S1024x4096 .bf16) (i : Fin 8192) (j : Fin 1024) (r : Fin 256) : EReal :=
  fk (ix2 ⟨256 * (i.val / 2048) + r.val, by omega⟩ ⟨1024 + j.val, by omega⟩)

/-- The result at an element. -/
def G (fp : FVec Ideal S8192x13312 .bf16) (fk : FVec Ideal S1024x4096 .bf16) : FVec Ideal S8192x1024 .bf16 :=
  fun i => att (score fp fk (i 0) (i 1)) (val fk (i 0) (i 1)) (fp (ix2 (i 0) ⟨12288 + (i 1).val, by have := (i 1).isLt; show _ < 13312; change _ < 1024 at this; omega⟩))

theorem idx : ∀ t : Fin cfg0.N, win0_0.index t = ![t.val, 11] ∧ win0_1.index t = ![t.val, 0] ∧ win0_2.index t = ![t.val, 1]
    ∧ win0_3.index t = ![t.val, 12] ∧ win0_4.index t = ![t.val, 0] :=
  (by decide +kernel : ∀ t : Fin grid0.N, _)

/-- A block of the result, from the blocks of the arguments. -/
theorem block (fp : FVec Ideal S8192x13312 .bf16) (fk : FVec Ideal S1024x4096 .bf16) (x0 x3 : FVec Ideal S2048x1024 .bf16) (x1 x2 : FVec Ideal S256x1024 .bf16)
    (t : ℕ) (ht : t < 4) (i : Fin 2048) (j : Fin 1024)
    (r0 : ∀ k : Fin 1024, x0 (ix2 i k) = fp (ix2 ⟨2048 * t + i.val, by omega⟩ ⟨11264 + k.val, by omega⟩))
    (r1 : ∀ (r : Fin 256) (k : Fin 1024), x1 (ix2 r k) = fk (ix2 ⟨256 * t + r.val, by omega⟩ ⟨k.val, by omega⟩))
    (r2 : ∀ (r : Fin 256) (k : Fin 1024), x2 (ix2 r k) = fk (ix2 ⟨256 * t + r.val, by omega⟩ ⟨1024 + k.val, by omega⟩))
    (r3 : ∀ k : Fin 1024, x3 (ix2 i k) = fp (ix2 ⟨2048 * t + i.val, by omega⟩ ⟨12288 + k.val, by omega⟩)) :
    att (fun r => ∑ d : Fin 256, x0 (ix2 i (col j d)) * x1 (ix2 r (col j d))) (fun r => x2 (ix2 r j)) (x3 (ix2 i j))
      = G fp fk (ix2 ⟨2048 * t + i.val, by omega⟩ j) := by
  have hb : ∀ r : Fin 256, (⟨256 * t + r.val, by omega⟩ : Fin 1024) = ⟨256 * ((2048 * t + i.val) / 2048) + r.val, by omega⟩ := fun r => Fin.ext (by show _ + _ = _ + _; omega)
  simp only [r0, r1, r2, r3, hb]
  rfl

variable (m : (ℓ : Loc nD τ sig) → Buf (Elt Ideal) ℓ)

/-- The kernel's result after the run. -/
theorem final (c : Dev nD) : (dats m 0 c).arrAt 4 cfg0.N
    = G (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨i, j, rfl⟩ : ∃ (i : Fin 2048) (j : Fin 1024), y = ix2 i j := ⟨y 0, y 1, eq_ix2 y⟩
  refine (out_apply _ _ _ _ i j).trans ?_
  obtain ⟨e0, e1, e2, e3, e4⟩ := idx t
  have hN : t.val < 4 := lt_of_lt_of_eq t.isLt (by decide)
  have hz : ((View.whole main_v0).slice (win0_4.rect t)).emb (ix2 i j) = ix2 ⟨2048 * t.val + i.val, by omega⟩ j := by
    blk_ext [e4]
  refine Eq.trans ?_ (congrArg (G _ _) hz).symm
  refine block _ _ _ _ _ _ t.val hN i j (fun k => ?_) (fun r k => ?_) (fun r k => ?_) (fun k => ?_)
  · blk_ext [iblk, V, e0]
  · blk_ext [iblk, V, e1]
  · blk_ext [iblk, V, e2]
  · blk_ext [iblk, V, e3]

end Cert.MemAttnIdeal.Hand

end
-- ==== Proof.MemAttn.Value.lean ====
/-
The memory's attention, in the reference: it divides the exponentials by their sum before they weigh the values. Where the scores
are finite the sum isn't zero, and the result is the kernel's.
-/
module

public import proofs.«01_k».proof.Pre_memattn_finite
public import proofs.«01_k».proof.Proof.MemAttn.Kernel
public import proofs.«01_k».proof.Proof.Gen.MemAttnRefIdeal.Run

@[expose] public section

set_option maxRecDepth 16384

noncomputable section

namespace Cert.MemAttnRefIdeal.Hand

open Cert.MemAttnRefIdeal Cert.MemAttnRefIdeal.Gen Idealize.ShloMosaic Idealize.ShloMosaic.TcCoe
open Cert.Softmax (top den)

/-- The greatest score of each row. -/
def mx (s : FVec Ideal S4x4x2048x256 .f32) : FVec Ideal S4x4x2048 .f32 :=
  Host.reduce FloatOps.maximumf s (constant S_ .f32 0xFF800000#32) reducesTo_S4x4x2048x256_S4x4x2048_d3 h_S_

theorem mx_apply (s : FVec Ideal S4x4x2048x256 .f32) (b h : Fin 4) (i : Fin 2048) : mx s (ix3 b h i) = top fun r => s (ix4 b h i r) := by
  unfold mx
  simp -implicitDefEqProofs only [pointwise]
  exact congrArg (fun z => Finset.univ.fold max z fun r => s (ix4 b h i r)) Cert.MemAttnIdeal.Hand.neg_inf

/-- The reference's softmax of the scores, their greatest given. -/
def softM (s : FVec Ideal S4x4x2048x256 .f32) (M : FVec Ideal S4x4x2048 .f32) : FVec Ideal S4x4x2048x256 .f32 :=
  (Host.divf (Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))) (constant S_ .f32 0x00000000#32) reducesTo_S4x4x2048x256_S4x4x2048_d3 h_S_))))

theorem softM_apply (s : FVec Ideal S4x4x2048x256 .f32) (M : FVec Ideal S4x4x2048 .f32) (b h : Fin 4) (i : Fin 2048) (r : Fin 256) :
    softM s M (ix4 b h i r) = Ideal.div (Ideal.exp (s (ix4 b h i r) - M (ix3 b h i))) (∑ r, Ideal.exp (s (ix4 b h i r) - M (ix3 b h i))) := by
  pointwise [softM]
  rw [Cert.MemAttnIdeal.Hand.neg_inf]
  simp only [max_eq_right bot_le]

/-- The reference's scores. -/
def scores (fp : FVec Ideal S8192x13312 .bf16) (fk : FVec Ideal S1024x4096 .bf16) : FVec Ideal S4x4x2048x256 .f32 :=
  (Host.dotGeneral dot_S4x2048x4x256_S4x256x4x256_S4x4x2048x256_3_3_1_1_02_02 none (shapeCast _ (extf .f32 (extractStridedSlice S8192x1024 ![0, 11264] fp slices_S8192x13312_S8192x1024_0_11264) bitsLt_bf16_f32) shapeCasts_S8192x1024_S4x2048x4x256) (shapeCast _ (extf .f32 (extractStridedSlice S1024x1024 ![0, 0] fk slices_S1024x4096_S1024x1024_0_0) bitsLt_bf16_f32) shapeCasts_S1024x1024_S4x256x4x256))

theorem scores_apply (fp : FVec Ideal S8192x13312 .bf16) (fk : FVec Ideal S1024x4096 .bf16) (b h : Fin 4) (i : Fin 2048) (r : Fin 256) :
    scores fp fk (ix4 b h i r) = ∑ d : Fin 256, fp (ix2 ⟨b.val * 2048 + i.val, by omega⟩ ⟨11264 + (h.val * 256 + d.val), by omega⟩)
      * fk (ix2 ⟨b.val * 256 + r.val, by omega⟩ ⟨h.val * 256 + d.val, by omega⟩) := by
  pointwise [scores]

/-- The reference's result from the softmax. -/
def out (fp : FVec Ideal S8192x13312 .bf16) (fk : FVec Ideal S1024x4096 .bf16) (p : FVec Ideal S4x4x2048x256 .f32) : FVec Ideal S8192x1024 .bf16 :=
  truncf .bf16 (mulf (shapeCast _ (transpose S4x2048x4x256 [0, 3, 1, 2] (Host.dotGeneral dot_S4x256x4x256_S4x4x2048x256_S4x4x256x2048_1_3_3_2_02_01 none (shapeCast _ (extf .f32 (extractStridedSlice S1024x1024 ![0, 1024] fk slices_S1024x4096_S1024x1024_0_1024) bitsLt_bf16_f32) shapeCasts_S1024x1024_S4x256x4x256) p) transposes_S4x4x256x2048_S4x2048x4x256_0_3_1_2) shapeCasts_S4x2048x4x256_S8192x1024) (mulf (extf .f32 (extractStridedSlice S8192x1024 ![0, 12288] fp slices_S8192x13312_S8192x1024_0_12288) bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 12288] fp slices_S8192x13312_S8192x1024_0_12288) bitsLt_bf16_f32))))))) bitsLt_bf16_f32

theorem out_apply (fp : FVec Ideal S8192x13312 .bf16) (fk : FVec Ideal S1024x4096 .bf16) (p : FVec Ideal S4x4x2048x256 .f32) (i : Fin 8192) (j : Fin 1024) :
    out fp fk p (ix2 i j)
      = (∑ r : Fin 256, fk (ix2 ⟨i.val / 2048 * 256 + r.val, by omega⟩ ⟨1024 + j.val, by omega⟩) * p (ix4 ⟨i.val / 2048, by omega⟩ ⟨j.val / 256, by omega⟩ ⟨i.val % 2048, by omega⟩ r))
        * (fp (ix2 i ⟨12288 + j.val, by omega⟩) * Ideal.logistic (fp (ix2 i ⟨12288 + j.val, by omega⟩))) := by
  pointwise [out]
  rfl

/-- The queries and keys are finite. -/
def Fin' (fp : FVec Ideal S8192x13312 .bf16) (fk : FVec Ideal S1024x4096 .bf16) : Prop :=
  (∀ (i : Fin 8192) (j : Fin 1024), fp (ix2 i ⟨11264 + j.val, by omega⟩) ≠ ⊥ ∧ fp (ix2 i ⟨11264 + j.val, by omega⟩) ≠ ⊤)
    ∧ ∀ (i : Fin 1024) (j : Fin 1024), fk (ix2 i ⟨j.val, by omega⟩) ≠ ⊥ ∧ fk (ix2 i ⟨j.val, by omega⟩) ≠ ⊤

theorem inf_bits : Ideal.ofBits FTy.bf16 0x7F80#16 = ⊤ := by
  simp [Ideal.ofBits, Ideal.ieee]

theorem lt_of_bit {x : EReal} (e : BitVec.ofBool (decide (FloatOps.absf (F := Ideal) (φ := .bf16) x < Ideal.ofBits FTy.bf16 0x7F80#16)) = 1#1) : max x (-x) < ⊤ := by
  rw [inf_bits] at e
  by_contra hn
  have hn' : ¬ (FloatOps.absf (F := Ideal) (φ := .bf16) x < (⊤ : EReal)) := hn
  rw [decide_eq_false hn'] at e
  exact absurd e (by decide)

theorem pre_finite [Cert.Pre_memattn_finite.Facts] (fp : FVec Ideal S8192x13312 .bf16) (fk : FVec Ideal S1024x4096 .bf16)
    (h : Cert.Pre_memattn_finite.fn (F := Ideal) fp fk = fun _ => 1#1) : Fin' fp fk := by
  constructor
  · intro i j
    have e := congrFun h (ix2 ⟨i.val, by omega⟩ j)
    unfold Cert.Pre_memattn_finite.fn at e
    pointwise at e
    exact Cert.Softmax.finite_of_abs _ (lt_of_bit e)
  · intro i j
    have e := congrFun h (ix2 ⟨8192 + i.val, by omega⟩ j)
    unfold Cert.Pre_memattn_finite.fn at e
    pointwise at e
    exact Cert.Softmax.finite_of_abs _ (lt_of_bit e)

/-- Where the queries and keys are finite, the reference's result is the same. -/
theorem ref_eq (fp : FVec Ideal S8192x13312 .bf16) (fk : FVec Ideal S1024x4096 .bf16) (hf : Fin' fp fk) : (truncf .bf16 (mulf (shapeCast _ (transpose S4x2048x4x256 [0, 3, 1, 2] (Host.dotGeneral dot_S4x256x4x256_S4x4x2048x256_S4x4x256x2048_1_3_3_2_02_01 none (shapeCast _ (extf .f32 (extractStridedSlice S1024x1024 ![0, 1024] fk slices_S1024x4096_S1024x1024_0_1024) bitsLt_bf16_f32) shapeCasts_S1024x1024_S4x256x4x256) (Host.divf (Host.exp (subf (Host.dotGeneral dot_S4x2048x4x256_S4x256x4x256_S4x4x2048x256_3_3_1_1_02_02 none (shapeCast _ (extf .f32 (extractStridedSlice S8192x1024 ![0, 11264] fp slices_S8192x13312_S8192x1024_0_11264) bitsLt_bf16_f32) shapeCasts_S8192x1024_S4x2048x4x256) (shapeCast _ (extf .f32 (extractStridedSlice S1024x1024 ![0, 0] fk slices_S1024x4096_S1024x1024_0_0) bitsLt_bf16_f32) shapeCasts_S1024x1024_S4x256x4x256)) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (Host.dotGeneral dot_S4x2048x4x256_S4x256x4x256_S4x4x2048x256_3_3_1_1_02_02 none (shapeCast _ (extf .f32 (extractStridedSlice S8192x1024 ![0, 11264] fp slices_S8192x13312_S8192x1024_0_11264) bitsLt_bf16_f32) shapeCasts_S8192x1024_S4x2048x4x256) (shapeCast _ (extf .f32 (extractStridedSlice S1024x1024 ![0, 0] fk slices_S1024x4096_S1024x1024_0_0) bitsLt_bf16_f32) shapeCasts_S1024x1024_S4x256x4x256)) (constant S_ .f32 0xFF800000#32) reducesTo_S4x4x2048x256_S4x4x2048_d3 h_S_)))))) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (Host.exp (subf (Host.dotGeneral dot_S4x2048x4x256_S4x256x4x256_S4x4x2048x256_3_3_1_1_02_02 none (shapeCast _ (extf .f32 (extractStridedSlice S8192x1024 ![0, 11264] fp slices_S8192x13312_S8192x1024_0_11264) bitsLt_bf16_f32) shapeCasts_S8192x1024_S4x2048x4x256) (shapeCast _ (extf .f32 (extractStridedSlice S1024x1024 ![0, 0] fk slices_S1024x4096_S1024x1024_0_0) bitsLt_bf16_f32) shapeCasts_S1024x1024_S4x256x4x256)) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (Host.dotGeneral dot_S4x2048x4x256_S4x256x4x256_S4x4x2048x256_3_3_1_1_02_02 none (shapeCast _ (extf .f32 (extractStridedSlice S8192x1024 ![0, 11264] fp slices_S8192x13312_S8192x1024_0_11264) bitsLt_bf16_f32) shapeCasts_S8192x1024_S4x2048x4x256) (shapeCast _ (extf .f32 (extractStridedSlice S1024x1024 ![0, 0] fk slices_S1024x4096_S1024x1024_0_0) bitsLt_bf16_f32) shapeCasts_S1024x1024_S4x256x4x256)) (constant S_ .f32 0xFF800000#32) reducesTo_S4x4x2048x256_S4x4x2048_d3 h_S_)))))) (constant S_ .f32 0x00000000#32) reducesTo_S4x4x2048x256_S4x4x2048_d3 h_S_))))) transposes_S4x4x256x2048_S4x2048x4x256_0_3_1_2) shapeCasts_S4x2048x4x256_S8192x1024) (mulf (extf .f32 (extractStridedSlice S8192x1024 ![0, 12288] fp slices_S8192x13312_S8192x1024_0_12288) bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 12288] fp slices_S8192x13312_S8192x1024_0_12288) bitsLt_bf16_f32))))))) bitsLt_bf16_f32 : FVec Ideal S8192x1024 .bf16) = Cert.MemAttnIdeal.Hand.G fp fk := by
  show out fp fk (softM (scores fp fk) (mx (scores fp fk))) = _
  funext x
  obtain ⟨i, j, rfl⟩ : ∃ (i : Fin 8192) (j : Fin 1024), x = ix2 i j := ⟨x 0, x 1, eq_ix2 x⟩
  have hb : ∀ r : Fin 256, (⟨i.val / 2048 * 256 + r.val, by omega⟩ : Fin 1024) = ⟨256 * (i.val / 2048) + r.val, by omega⟩ := fun r => Fin.ext (congrArg (· + r.val) (Nat.mul_comm _ _))
  have hs : ∀ r : Fin 256, scores fp fk (ix4 ⟨i.val / 2048, by omega⟩ ⟨j.val / 256, by omega⟩ ⟨i.val % 2048, by omega⟩ r) = Cert.MemAttnIdeal.Hand.score fp fk i j r := fun r => by
    rw [scores_apply]
    unfold Cert.MemAttnIdeal.Hand.score
    refine Finset.sum_congr rfl fun d _ => ?_
    have e0 : (⟨i.val / 2048 * 2048 + i.val % 2048, by omega⟩ : Fin 8192) = i := Fin.ext (by show _ + _ = _; omega)
    have e1 : (⟨11264 + (j.val / 256 * 256 + d.val), by omega⟩ : Fin 13312) = ⟨11264 + (Cert.MemAttnIdeal.Hand.col j d).val, by omega⟩ :=
      Fin.ext (by show 11264 + (_ + _) = 11264 + (256 * (j.val / 256) + d.val); omega)
    have e2 : (⟨j.val / 256 * 256 + d.val, by omega⟩ : Fin 4096) = ⟨(Cert.MemAttnIdeal.Hand.col j d).val, by omega⟩ :=
      Fin.ext (by show _ + _ = 256 * (j.val / 256) + d.val; omega)
    rw [e0, e1, e2, hb]
  rw [out_apply]
  simp only [softM_apply, mx_apply, hs, hb]
  refine congrArg (· * _) ?_
  have hfin : ∀ r, Cert.MemAttnIdeal.Hand.score fp fk i j r ≠ ⊥ ∧ Cert.MemAttnIdeal.Hand.score fp fk i j r ≠ ⊤ := fun r =>
    Cert.Softmax.dot_finite _ _ (fun d => hf.1 i (Cert.MemAttnIdeal.Hand.col j d)) (fun d => hf.2 _ (Cert.MemAttnIdeal.Hand.col j d))
  exact (Cert.Softmax.scale_out Cert.Softmax.pos_exp (Cert.MemAttnIdeal.Hand.score fp fk i j) (Cert.MemAttnIdeal.Hand.val fk i j) 0 (hfin 0).1 (fun k => (hfin k).2)).symm

end Cert.MemAttnRefIdeal.Hand

end
-- ==== Proof.Diff.Scores.lean ====
/-
What a tile's scores are, element by element: against the tile's own columns masked by their chunks, against the earlier columns
all of them; and the greatest of each row.
-/
module

public import proofs.«01_k».proof.Proof.Gen.DiffIdeal.Value
public import proofs.«01_k».proof.Proof.Softmax
public import Idealize.ShloMosaic.Lib.Pipeline.ValueKit
public import Idealize.ShloMosaic.Lib.Pointwise

@[expose] public section

set_option maxRecDepth 16384

noncomputable section

namespace Cert.DiffIdeal.Hand

open Cert.DiffIdeal Cert.DiffIdeal.Gen Idealize.ShloMosaic Idealize.ShloMosaic.TcCoe Idealize.SL.Sem
open Cert.Softmax (top)

theorem neg_inf : Ideal.ofBits FTy.f32 0xFF800000#32 = ⊥ := by
  simp [Ideal.ofBits, Ideal.ieee]

/-- A row's scores against the tile's own columns. -/
def dg (μ : IVec S256x256 1) (q kd : FVec Ideal S256x128 .bf16) (i r : Fin 256) : EReal :=
  if μ (ix2 i r) = 1#1 then ∑ d : Fin 128, q (ix2 i d) * kd (ix2 r d) else ⊥

/-- A row's scores against the earlier columns. -/
def off {n : ℕ} (q : FVec Ideal S256x128 .bf16) (ko : FVec Ideal ⟨2, ![n, 128]⟩ .bf16) (i : Fin 256) (r : Fin n) : EReal :=
  ∑ d : Fin 128, q (ix2 i d) * ko (ix2 r d)

theorem diag70 (q kd : FVec Ideal S256x128 .bf16) (i r : Fin 256) : (k0_pay9 (k0_pay8 k0_pay3 k0_pay4 k0_pay5 q kd) : FVec Ideal S1x1x256x256 .f32) (ix4 0 0 i r) = dg (k0_pay6 k0_pay3 k0_pay4 k0_pay5) q kd i r := by
  pointwise [k0_pay9, k0_pay8]
  rw [neg_inf]
  rfl

theorem off70 (q : FVec Ideal S256x128 .bf16) (ko : FVec Ideal S1792x128 .bf16) (i : Fin 256) (r : Fin 1792) : (k0_pay11 q ko : FVec Ideal S1x1x256x1792 .f32) (ix4 0 0 i r) = off (n := 1792) q ko i r := by
  pointwise [k0_pay11, k0_pay10]
  rfl

theorem max70 (q kd : FVec Ideal S256x128 .bf16) (ko : FVec Ideal S1792x128 .bf16) (i : Fin 256) : (k0_pay12 q (k0_pay8 k0_pay3 k0_pay4 k0_pay5 q kd) ko : FVec Ideal S256x1 .f32) (ix2 i 0) = max (top (dg (k0_pay6 k0_pay3 k0_pay4 k0_pay5) q kd i)) (top (off (n := 1792) q ko i)) := by
  unfold k0_pay12 k0_pay8 k0_pay10
  simp -implicitDefEqProofs only [pointwise, zero_add]
  rw [neg_inf]
  rfl

theorem diag71 (μ : IVec S256x256 1) (q kd : FVec Ideal S256x128 .bf16) (i r : Fin 256) : (k0_pay14 μ q kd : FVec Ideal S1x1x256x256 .f32) (ix4 0 0 i r) = dg μ q kd i r := by
  pointwise [k0_pay14, k0_pay13]
  rw [neg_inf]
  rfl

theorem off71 (q : FVec Ideal S256x128 .bf16) (ko : FVec Ideal S1792x128 .bf16) (i : Fin 256) (r : Fin 1792) : (k0_pay17 (k0_pay16 q ko) : FVec Ideal S1x1x256x1792 .f32) (ix4 0 0 i r) = off (n := 1792) q ko i r := by
  pointwise [k0_pay17, k0_pay16]
  rfl

theorem max71 (μ : IVec S256x256 1) (q kd : FVec Ideal S256x128 .bf16) (ko : FVec Ideal S1792x128 .bf16) (i : Fin 256) : (k0_pay18 (k0_pay15 μ q kd) (k0_pay16 q ko) : FVec Ideal S256x1 .f32) (ix2 i 0) = max (top (dg μ q kd i)) (top (off (n := 1792) q ko i)) := by
  unfold k0_pay18 k0_pay15 k0_pay13 k0_pay16
  simp -implicitDefEqProofs only [pointwise, zero_add]
  rw [neg_inf]
  rfl

theorem diag60 (μ : IVec S256x256 1) (q kd : FVec Ideal S256x128 .bf16) (i r : Fin 256) : (k0_pay20 μ q kd : FVec Ideal S1x1x256x256 .f32) (ix4 0 0 i r) = dg μ q kd i r := by
  pointwise [k0_pay20, k0_pay19]
  rw [neg_inf]
  rfl

theorem off60 (q : FVec Ideal S256x128 .bf16) (ko : FVec Ideal S1536x128 .bf16) (i : Fin 256) (r : Fin 1536) : (k0_pay22 q ko : FVec Ideal S1x1x256x1536 .f32) (ix4 0 0 i r) = off (n := 1536) q ko i r := by
  pointwise [k0_pay22, k0_pay21]
  rfl

theorem max60 (μ : IVec S256x256 1) (q kd : FVec Ideal S256x128 .bf16) (ko : FVec Ideal S1536x128 .bf16) (i : Fin 256) : (k0_pay23 μ q kd ko : FVec Ideal S256x1 .f32) (ix2 i 0) = max (top (dg μ q kd i)) (top (off (n := 1536) q ko i)) := by
  unfold k0_pay23 k0_pay19 k0_pay21
  simp -implicitDefEqProofs only [pointwise, zero_add]
  rw [neg_inf]
  rfl

theorem diag61 (μ : IVec S256x256 1) (q kd : FVec Ideal S256x128 .bf16) (i r : Fin 256) : (k0_pay25 (k0_pay24 μ q kd) : FVec Ideal S1x1x256x256 .f32) (ix4 0 0 i r) = dg μ q kd i r := by
  pointwise [k0_pay25, k0_pay24]
  rw [neg_inf]
  rfl

theorem off61 (q : FVec Ideal S256x128 .bf16) (ko : FVec Ideal S1536x128 .bf16) (i : Fin 256) (r : Fin 1536) : (k0_pay27 q ko : FVec Ideal S1x1x256x1536 .f32) (ix4 0 0 i r) = off (n := 1536) q ko i r := by
  pointwise [k0_pay27, k0_pay26]
  rfl

theorem max61 (μ : IVec S256x256 1) (q kd : FVec Ideal S256x128 .bf16) (ko : FVec Ideal S1536x128 .bf16) (i : Fin 256) : (k0_pay28 q (k0_pay24 μ q kd) ko : FVec Ideal S256x1 .f32) (ix2 i 0) = max (top (dg μ q kd i)) (top (off (n := 1536) q ko i)) := by
  unfold k0_pay28 k0_pay24 k0_pay26
  simp -implicitDefEqProofs only [pointwise, zero_add]
  rw [neg_inf]
  rfl

theorem diag50 (μ : IVec S256x256 1) (q kd : FVec Ideal S256x128 .bf16) (i r : Fin 256) : (k0_pay32 μ q kd : FVec Ideal S1x1x256x256 .f32) (ix4 0 0 i r) = dg μ q kd i r := by
  pointwise [k0_pay32, k0_pay31]
  rw [neg_inf]
  rfl

theorem off50 (q : FVec Ideal S256x128 .bf16) (ko : FVec Ideal S1280x128 .bf16) (i : Fin 256) (r : Fin 1280) : (k0_pay35 (k0_pay34 q ko) : FVec Ideal S1x1x256x1280 .f32) (ix4 0 0 i r) = off (n := 1280) q ko i r := by
  pointwise [k0_pay35, k0_pay34]
  rfl

theorem max50 (μ : IVec S256x256 1) (q kd : FVec Ideal S256x128 .bf16) (ko : FVec Ideal S1280x128 .bf16) (i : Fin 256) : (k0_pay36 (k0_pay33 μ q kd) (k0_pay34 q ko) : FVec Ideal S256x1 .f32) (ix2 i 0) = max (top (dg μ q kd i)) (top (off (n := 1280) q ko i)) := by
  unfold k0_pay36 k0_pay33 k0_pay31 k0_pay34
  simp -implicitDefEqProofs only [pointwise, zero_add]
  rw [neg_inf]
  rfl

theorem diag51 (μ : IVec S256x256 1) (q kd : FVec Ideal S256x128 .bf16) (i r : Fin 256) : (k0_pay38 μ q kd : FVec Ideal S1x1x256x256 .f32) (ix4 0 0 i r) = dg μ q kd i r := by
  pointwise [k0_pay38, k0_pay37]
  rw [neg_inf]
  rfl

theorem off51 (q : FVec Ideal S256x128 .bf16) (ko : FVec Ideal S1280x128 .bf16) (i : Fin 256) (r : Fin 1280) : (k0_pay40 q ko : FVec Ideal S1x1x256x1280 .f32) (ix4 0 0 i r) = off (n := 1280) q ko i r := by
  pointwise [k0_pay40, k0_pay39]
  rfl

theorem max51 (μ : IVec S256x256 1) (q kd : FVec Ideal S256x128 .bf16) (ko : FVec Ideal S1280x128 .bf16) (i : Fin 256) : (k0_pay41 μ q kd ko : FVec Ideal S256x1 .f32) (ix2 i 0) = max (top (dg μ q kd i)) (top (off (n := 1280) q ko i)) := by
  unfold k0_pay41 k0_pay37 k0_pay39
  simp -implicitDefEqProofs only [pointwise, zero_add]
  rw [neg_inf]
  rfl

theorem diag40 (μ : IVec S256x256 1) (q kd : FVec Ideal S256x128 .bf16) (i r : Fin 256) : (k0_pay45 μ q kd : FVec Ideal S1x1x256x256 .f32) (ix4 0 0 i r) = dg μ q kd i r := by
  pointwise [k0_pay45, k0_pay44]
  rw [neg_inf]
  rfl

theorem off40 (q : FVec Ideal S256x128 .bf16) (ko : FVec Ideal S1024x128 .bf16) (i : Fin 256) (r : Fin 1024) : (k0_pay47 q ko : FVec Ideal S1x1x256x1024 .f32) (ix4 0 0 i r) = off (n := 1024) q ko i r := by
  pointwise [k0_pay47, k0_pay46]
  rfl

theorem max40 (μ : IVec S256x256 1) (q kd : FVec Ideal S256x128 .bf16) (ko : FVec Ideal S1024x128 .bf16) (i : Fin 256) : (k0_pay48 μ q kd ko : FVec Ideal S256x1 .f32) (ix2 i 0) = max (top (dg μ q kd i)) (top (off (n := 1024) q ko i)) := by
  unfold k0_pay48 k0_pay44 k0_pay46
  simp -implicitDefEqProofs only [pointwise, zero_add]
  rw [neg_inf]
  rfl

theorem diag41 (μ : IVec S256x256 1) (q kd : FVec Ideal S256x128 .bf16) (i r : Fin 256) : (k0_pay50 μ q kd : FVec Ideal S1x1x256x256 .f32) (ix4 0 0 i r) = dg μ q kd i r := by
  pointwise [k0_pay50, k0_pay49]
  rw [neg_inf]
  rfl

theorem off41 (q : FVec Ideal S256x128 .bf16) (ko : FVec Ideal S1024x128 .bf16) (i : Fin 256) (r : Fin 1024) : (k0_pay53 q ko : FVec Ideal S1x1x256x1024 .f32) (ix4 0 0 i r) = off (n := 1024) q ko i r := by
  pointwise [k0_pay53, k0_pay52]
  rfl

theorem max41 (μ : IVec S256x256 1) (q kd : FVec Ideal S256x128 .bf16) (ko : FVec Ideal S1024x128 .bf16) (i : Fin 256) : (k0_pay54 q (k0_pay51 μ q kd) ko : FVec Ideal S256x1 .f32) (ix2 i 0) = max (top (dg μ q kd i)) (top (off (n := 1024) q ko i)) := by
  unfold k0_pay54 k0_pay51 k0_pay49 k0_pay52
  simp -implicitDefEqProofs only [pointwise, zero_add]
  rw [neg_inf]
  rfl

theorem diag30 (μ : IVec S256x256 1) (q kd : FVec Ideal S256x128 .bf16) (i r : Fin 256) : (k0_pay59 μ q kd : FVec Ideal S1x1x256x256 .f32) (ix4 0 0 i r) = dg μ q kd i r := by
  pointwise [k0_pay59, k0_pay58]
  rw [neg_inf]
  rfl

theorem off30 (q : FVec Ideal S256x128 .bf16) (ko : FVec Ideal S768x128 .bf16) (i : Fin 256) (r : Fin 768) : (k0_pay62 q ko : FVec Ideal S1x1x256x768 .f32) (ix4 0 0 i r) = off (n := 768) q ko i r := by
  pointwise [k0_pay62, k0_pay61]
  rfl

theorem max30 (μ : IVec S256x256 1) (q kd : FVec Ideal S256x128 .bf16) (ko : FVec Ideal S768x128 .bf16) (i : Fin 256) : (k0_pay64 (k0_pay60 μ q kd) (k0_pay63 q ko) : FVec Ideal S256x1 .f32) (ix2 i 0) = max (top (dg μ q kd i)) (top (off (n := 768) q ko i)) := by
  unfold k0_pay64 k0_pay60 k0_pay58 k0_pay63 k0_pay61
  simp -implicitDefEqProofs only [pointwise, zero_add]
  rw [neg_inf]
  rfl

theorem diag31 (μ : IVec S256x256 1) (q kd : FVec Ideal S256x128 .bf16) (i r : Fin 256) : (k0_pay66 μ q kd : FVec Ideal S1x1x256x256 .f32) (ix4 0 0 i r) = dg μ q kd i r := by
  pointwise [k0_pay66, k0_pay65]
  rw [neg_inf]
  rfl

theorem off31 (q : FVec Ideal S256x128 .bf16) (ko : FVec Ideal S768x128 .bf16) (i : Fin 256) (r : Fin 768) : (k0_pay68 q ko : FVec Ideal S1x1x256x768 .f32) (ix4 0 0 i r) = off (n := 768) q ko i r := by
  pointwise [k0_pay68, k0_pay67]
  rfl

theorem max31 (μ : IVec S256x256 1) (q kd : FVec Ideal S256x128 .bf16) (ko : FVec Ideal S768x128 .bf16) (i : Fin 256) : (k0_pay69 μ q kd ko : FVec Ideal S256x1 .f32) (ix2 i 0) = max (top (dg μ q kd i)) (top (off (n := 768) q ko i)) := by
  unfold k0_pay69 k0_pay65 k0_pay67
  simp -implicitDefEqProofs only [pointwise, zero_add]
  rw [neg_inf]
  rfl

theorem diag20 (μ : IVec S256x256 1) (q kd : FVec Ideal S256x128 .bf16) (i r : Fin 256) : (k0_pay73 (k0_pay72 μ q kd) : FVec Ideal S1x1x256x256 .f32) (ix4 0 0 i r) = dg μ q kd i r := by
  pointwise [k0_pay73, k0_pay72]
  rw [neg_inf]
  rfl

theorem off20 (q : FVec Ideal S256x128 .bf16) (ko : FVec Ideal S512x128 .bf16) (i : Fin 256) (r : Fin 512) : (k0_pay75 q ko : FVec Ideal S1x1x256x512 .f32) (ix4 0 0 i r) = off (n := 512) q ko i r := by
  pointwise [k0_pay75, k0_pay74]
  rfl

theorem max20 (μ : IVec S256x256 1) (q kd : FVec Ideal S256x128 .bf16) (ko : FVec Ideal S512x128 .bf16) (i : Fin 256) : (k0_pay76 q (k0_pay72 μ q kd) ko : FVec Ideal S256x1 .f32) (ix2 i 0) = max (top (dg μ q kd i)) (top (off (n := 512) q ko i)) := by
  unfold k0_pay76 k0_pay72 k0_pay74
  simp -implicitDefEqProofs only [pointwise, zero_add]
  rw [neg_inf]
  rfl

theorem diag21 (μ : IVec S256x256 1) (q kd : FVec Ideal S256x128 .bf16) (i r : Fin 256) : (k0_pay78 μ q kd : FVec Ideal S1x1x256x256 .f32) (ix4 0 0 i r) = dg μ q kd i r := by
  pointwise [k0_pay78, k0_pay77]
  rw [neg_inf]
  rfl

theorem off21 (q : FVec Ideal S256x128 .bf16) (ko : FVec Ideal S512x128 .bf16) (i : Fin 256) (r : Fin 512) : (k0_pay81 q ko : FVec Ideal S1x1x256x512 .f32) (ix4 0 0 i r) = off (n := 512) q ko i r := by
  pointwise [k0_pay81, k0_pay80]
  rfl

theorem max21 (μ : IVec S256x256 1) (q kd : FVec Ideal S256x128 .bf16) (ko : FVec Ideal S512x128 .bf16) (i : Fin 256) : (k0_pay82 (k0_pay79 μ q kd) (k0_pay80 q ko) : FVec Ideal S256x1 .f32) (ix2 i 0) = max (top (dg μ q kd i)) (top (off (n := 512) q ko i)) := by
  unfold k0_pay82 k0_pay79 k0_pay77 k0_pay80
  simp -implicitDefEqProofs only [pointwise, zero_add]
  rw [neg_inf]
  rfl

theorem diag10 (μ : IVec S256x256 1) (q kd : FVec Ideal S256x128 .bf16) (i r : Fin 256) : (k0_pay86 μ q kd : FVec Ideal S1x1x256x256 .f32) (ix4 0 0 i r) = dg μ q kd i r := by
  pointwise [k0_pay86, k0_pay85]
  rw [neg_inf]
  rfl

theorem off10 (q : FVec Ideal S256x128 .bf16) (ko : FVec Ideal S256x128 .bf16) (i : Fin 256) (r : Fin 256) : (k0_pay88 q ko : FVec Ideal S1x1x256x256 .f32) (ix4 0 0 i r) = off (n := 256) q ko i r := by
  pointwise [k0_pay88, k0_pay87]
  rfl

theorem max10 (μ : IVec S256x256 1) (q kd : FVec Ideal S256x128 .bf16) (ko : FVec Ideal S256x128 .bf16) (i : Fin 256) : (k0_pay89 μ q kd ko : FVec Ideal S256x1 .f32) (ix2 i 0) = max (top (dg μ q kd i)) (top (off (n := 256) q ko i)) := by
  unfold k0_pay89 k0_pay85 k0_pay87
  simp -implicitDefEqProofs only [pointwise, zero_add]
  rw [neg_inf]
  rfl

theorem diag11 (μ : IVec S256x256 1) (q kd : FVec Ideal S256x128 .bf16) (i r : Fin 256) : (k0_pay92 μ (k0_pay90 q kd) (Scalar.ofBits (F := Ideal) .f32 0xFF800000#32) : FVec Ideal S1x1x256x256 .f32) (ix4 0 0 i r) = dg μ q kd i r := by
  pointwise [k0_pay92, k0_pay91, k0_pay90]
  rw [neg_inf]
  rfl

theorem off11 (q : FVec Ideal S256x128 .bf16) (ko : FVec Ideal S256x128 .bf16) (i : Fin 256) (r : Fin 256) : (k0_pay94 q ko : FVec Ideal S1x1x256x256 .f32) (ix4 0 0 i r) = off (n := 256) q ko i r := by
  pointwise [k0_pay94, k0_pay93]
  rfl

theorem max11 (μ : IVec S256x256 1) (q kd : FVec Ideal S256x128 .bf16) (ko : FVec Ideal S256x128 .bf16) (i : Fin 256) : (k0_pay95 μ q (k0_pay90 q kd) (Scalar.ofBits (F := Ideal) .f32 0xFF800000#32) ko : FVec Ideal S256x1 .f32) (ix2 i 0) = max (top (dg μ q kd i)) (top (off (n := 256) q ko i)) := by
  unfold k0_pay95 k0_pay91 k0_pay90 k0_pay93
  simp -implicitDefEqProofs only [pointwise, zero_add]
  rw [neg_inf]
  rfl

theorem diag00 (μ : IVec S256x256 1) (q kd : FVec Ideal S256x128 .bf16) (i r : Fin 256) : (k0_pay102 μ q kd : FVec Ideal S1x1x256x256 .f32) (ix4 0 0 i r) = dg μ q kd i r := by
  pointwise [k0_pay102, k0_pay101]
  rw [neg_inf]
  rfl

theorem max00 (μ : IVec S256x256 1) (q kd : FVec Ideal S256x128 .bf16) (i : Fin 256) : (k0_pay103 μ q kd : FVec Ideal S256x1 .f32) (ix2 i 0) = top (dg μ q kd i) := by
  unfold k0_pay103 k0_pay101
  simp -implicitDefEqProofs only [pointwise, zero_add]
  rw [neg_inf]
  rfl

theorem diag01 (μ : IVec S256x256 1) (q kd : FVec Ideal S256x128 .bf16) (i r : Fin 256) : (k0_pay105 μ q kd : FVec Ideal S1x1x256x256 .f32) (ix4 0 0 i r) = dg μ q kd i r := by
  pointwise [k0_pay105, k0_pay104]
  rw [neg_inf]
  rfl

theorem max01 (μ : IVec S256x256 1) (q kd : FVec Ideal S256x128 .bf16) (i : Fin 256) : (k0_pay106 μ q kd : FVec Ideal S256x1 .f32) (ix2 i 0) = top (dg μ q kd i) := by
  unfold k0_pay106 k0_pay104
  simp -implicitDefEqProofs only [pointwise, zero_add]
  rw [neg_inf]
  rfl

end Cert.DiffIdeal.Hand

end
-- ==== Proof.Diff.Rows.lean ====
/-
One row of the differential attention at the ideal instance: the two maps' weights, what they make of the values, and the scale and
gate that follow. Columns whose scores are `-∞` may be left out of a row.
-/
module

public import proofs.«01_k».proof.Proof.Softmax
public import Idealize.ShloMosaic.PureOps.Ideal
public import Idealize.ShloMosaic.PureOps.Ideal.Laws

@[expose] public section

noncomputable section

namespace Cert.DiffRows

open Idealize.ShloMosaic
open Cert.Softmax (top)

/-- A column's weight: the first map's less the second's, which has the factor `lam`. -/
def wgt {n : ℕ} (s0 s1 : Fin n → EReal) (M0 M1 lam : EReal) (k : Fin n) : EReal :=
  Ideal.exp2 (s0 k - M0) * Ideal.div 1 (∑ r, Ideal.exp2 (s0 r - M0)) - Ideal.exp2 (s1 k - M1) * Ideal.div lam (∑ r, Ideal.exp2 (s1 r - M1))

/-- The weighted sum of the values. -/
def row {n : ℕ} (s0 s1 : Fin n → EReal) (M0 M1 lam : EReal) (v : Fin n → Fin 256 → EReal) (e : Fin 256) : EReal :=
  ∑ k, wgt s0 s1 M0 M1 lam k * v k e

/-- The row over the root of its mean square, times the gain, times the gate. -/
def fin (o : Fin 256 → EReal) (gain g : EReal) (e : Fin 256) : EReal :=
  o e * Ideal.rsqrt (Ideal.div (∑ r, o r * o r) (Ideal.ofBits FTy.f32 0x43800000#32) + Ideal.ofBits FTy.f32 0x3727C5AC#32) * gain * (g * Ideal.logistic g)

theorem exp2_bot (M : EReal) : Ideal.exp2 (⊥ - M) = 0 := by
  rw [sub_eq_add_neg, EReal.bot_add]; rfl

/-- A sum whose terms from `n` on are zero. -/
theorem sum_cut {n N : ℕ} (h : n ≤ N) (f : Fin N → EReal) (hf : ∀ k : Fin N, n ≤ k.val → f k = 0) :
    ∑ k : Fin n, f (Fin.castLE h k) = ∑ k, f k := by
  obtain ⟨d, rfl⟩ := Nat.exists_eq_add_of_le h
  rw [Fin.sum_univ_add]
  rw [Finset.sum_eq_zero (s := Finset.univ) (f := fun i : Fin d => f (Fin.natAdd n i)) (fun i _ => hf _ (by simp)), add_zero]
  rfl

theorem top_cut {n N : ℕ} (h : n ≤ N) (s : Fin N → EReal) (hs : ∀ k : Fin N, n ≤ k.val → s k = ⊥) :
    top (fun k : Fin n => s (Fin.castLE h k)) = top s := by
  refine le_antisymm (Cert.Softmax.top_le _ _ fun k => Cert.Softmax.le_top s _) (Cert.Softmax.top_le _ _ fun k => ?_)
  by_cases hk : k.val < n
  · exact Cert.Softmax.le_top (fun k : Fin n => s (Fin.castLE h k)) ⟨k.val, hk⟩
  · rw [hs k (not_lt.mp hk)]; exact bot_le

/-- The row may be cut where the scores are `-∞`. -/
theorem row_cut {n N : ℕ} (h : n ≤ N) (s0 s1 : Fin N → EReal) (h0 : ∀ k : Fin N, n ≤ k.val → s0 k = ⊥) (h1 : ∀ k : Fin N, n ≤ k.val → s1 k = ⊥)
    (lam : EReal) (v : Fin N → Fin 256 → EReal) (e : Fin 256) :
    row (fun k : Fin n => s0 (Fin.castLE h k)) (fun k => s1 (Fin.castLE h k)) (top fun k : Fin n => s0 (Fin.castLE h k)) (top fun k : Fin n => s1 (Fin.castLE h k)) lam (fun k => v (Fin.castLE h k)) e
      = row s0 s1 (top s0) (top s1) lam v e := by
  rw [top_cut h s0 h0, top_cut h s1 h1]
  have e0 := sum_cut h (fun k => Ideal.exp2 (s0 k - top s0)) (fun k hk => by rw [h0 k hk, exp2_bot])
  have e1 := sum_cut h (fun k => Ideal.exp2 (s1 k - top s1)) (fun k hk => by rw [h1 k hk, exp2_bot])
  have e2 := sum_cut h (fun k => wgt s0 s1 (top s0) (top s1) lam k * v k e) (fun k hk => by
    unfold wgt; rw [h0 k hk, h1 k hk, exp2_bot, exp2_bot, zero_mul, zero_mul, sub_zero, zero_mul])
  refine Eq.trans ?_ e2
  unfold row wgt
  rw [e0, e1]

/-- The greatest of a row in two parts. -/
theorem top_split {n lo w : ℕ} (h : n = lo + w) (s : Fin n → EReal) (a : Fin w → EReal) (b : Fin lo → EReal)
    (hb : ∀ k : Fin lo, s ⟨k.val, by omega⟩ = b k) (ha : ∀ k : Fin w, s ⟨lo + k.val, by omega⟩ = a k) : max (top a) (top b) = top s := by
  refine le_antisymm (max_le (Cert.Softmax.top_le _ _ fun k => ?_) (Cert.Softmax.top_le _ _ fun k => ?_)) (Cert.Softmax.top_le _ _ fun k => ?_)
  · rw [← ha]; exact Cert.Softmax.le_top s _
  · rw [← hb]; exact Cert.Softmax.le_top s _
  · by_cases hk : k.val < lo
    · exact le_max_of_le_right ((hb ⟨k.val, hk⟩).le.trans (Cert.Softmax.le_top b _))
    · refine le_max_of_le_left (le_trans (le_of_eq ?_) (Cert.Softmax.le_top a ⟨k.val - lo, by omega⟩))
      rw [← ha]
      exact congrArg s (Fin.ext (by show k.val = lo + (k.val - lo); omega))

/-- Where the scores are finite or `-∞`, not all `-∞`, the weights may be divided one by one. -/
theorem wgt_div {n : ℕ} (s0 s1 : Fin n → EReal) (lam : EReal) (q : Fin n) (h0 : s0 q ≠ ⊥) (h1 : s1 q ≠ ⊥) (t0 : ∀ k, s0 k ≠ ⊤) (t1 : ∀ k, s1 k ≠ ⊤) (k : Fin n) :
    wgt s0 s1 (top s0) (top s1) lam k
      = Ideal.div (Ideal.exp2 (s0 k - top s0)) (∑ r, Ideal.exp2 (s0 r - top s0)) - lam * Ideal.div (Ideal.exp2 (s1 k - top s1)) (∑ r, Ideal.exp2 (s1 r - top s1)) := by
  have d0 : (∑ r, Ideal.exp2 (s0 r - top s0)) ≠ 0 := Cert.Softmax.den_ne_zero Cert.Softmax.pos_exp2 s0 q h0 t0
  have d1 : (∑ r, Ideal.exp2 (s1 r - top s1)) ≠ 0 := Cert.Softmax.den_ne_zero Cert.Softmax.pos_exp2 s1 q h1 t1
  unfold wgt
  rw [Cert.Softmax.div_of_ne d0, Cert.Softmax.div_of_ne d1, Cert.Softmax.div_of_ne d0, Cert.Softmax.div_of_ne d1, one_mul]
  rw [mul_left_comm]

end Cert.DiffRows

end
-- ==== Proof.Diff.Tile.lean ====
/-
One element of a tile's result, from its scores as they were stored and each row's greatest.
-/
module

public import proofs.«01_k».proof.Proof.Gen.DiffIdeal.Value
public import proofs.«01_k».proof.Proof.Diff.Rows
public import Idealize.ShloMosaic.Lib.Pipeline.ValueKit
public import Idealize.ShloMosaic.Lib.Pointwise

@[expose] public section

set_option maxRecDepth 16384

noncomputable section

namespace Cert.DiffIdeal.Hand

open Cert.DiffIdeal Cert.DiffIdeal.Gen Idealize.ShloMosaic Idealize.ShloMosaic.TcCoe Idealize.SL.Sem
open Cert.DiffRows (row fin)

/-- Row `i`, column `j` of a tile. -/
def tile {n : ℕ} (lam : FVec Ideal S1x1 .f32) (gain : FVec Ideal S1x256 .f32) (M0 M1 : FVec Ideal S256x1 .f32) (w0 w1 : FVec Ideal ⟨4, ![1, 1, 256, n]⟩ .f32)
    (v : FVec Ideal ⟨2, ![n, 256]⟩ .bf16) (g : FVec Ideal S256x256 .bf16) (i j : Fin 256) : EReal :=
  fin (row (fun k => w0 (ix4 0 0 i k)) (fun k => w1 (ix4 0 0 i k)) (M0 (ix2 i 0)) (M1 (ix2 i 0)) (lam (ix2 0 0)) (fun k e => v (ix2 k e))) (gain (ix2 0 j)) (g (ix2 i j)) j

end Cert.DiffIdeal.Hand

end
-- ==== Proof.Diff.Read.lean ====
/-
What a tile reads back of its stored scores: the earlier columns from the one store, its own from the other. And the scores it
stored, from the blocks of the queries and keys: a row's scores masked by the chunks.
-/
module

public import proofs.«01_k».proof.Proof.Diff.Scores
public import proofs.«01_k».proof.Proof.Diff.Tile
public import Idealize.ShloMosaic.Lib.Pipeline.ReadBack

@[expose] public section

set_option maxRecDepth 16384

noncomputable section

namespace Cert.DiffIdeal.Hand

open Cert.DiffIdeal Cert.DiffIdeal.Gen Idealize.ShloMosaic Idealize.ShloMosaic.TcCoe Idealize.SL.Sem
open Cert.Softmax (top)

/-- A rectangle of one slot of the scratch, at an element. -/
theorem slot_idx (a b o w : ℕ) (f) (i : Fin 256) (k : Fin w) (ha : a < 2) (hb : b < 2) (hk : o + k.val < 2048) :
    (Rect.unit (s := S2x2x256x2048) ![a, b, 0, o] ![1, 1, 256, w] f).idx (ix4 0 0 i k) = ix4 ⟨a, ha⟩ ⟨b, hb⟩ i ⟨o + k.val, hk⟩ := by
  funext x; refine Fin.ext ?_
  match x with
  | ⟨0, _⟩ => rfl
  | ⟨1, _⟩ => rfl
  | ⟨2, _⟩ => exact (Nat.zero_add _).trans (Nat.one_mul _)
  | ⟨3, _⟩ => exact congrArg (o + ·) (Nat.one_mul _)

/-- What the two stores of a tile's scores leave, read back together. -/
theorem read_two {κ : Kind} {sp : Space} (v : View sig κ sp S2x2x256x2048 .f32) (a b lo n : ℕ) (hn : n = lo + 256) (ha : a < 2) (hb : b < 2) (hN : n ≤ 2048) (f1 f2 fB)
    (w1 : FVec Ideal ⟨4, ![1, 1, 256, lo]⟩ .f32) (w2 : FVec Ideal S1x1x256x256 .f32) (L : List (View.Piece (Elt Ideal) S2x2x256x2048 .f32)) (i : Fin 256) (k : Fin n) :
    v.readCov (⟨Rect.unit (s := S2x2x256x2048) ![a, b, 0, 0] ![1, 1, 256, lo] f1, w1⟩ :: ⟨Rect.unit (s := S2x2x256x2048) ![a, b, 0, lo] ![1, 1, 256, 256] f2, w2⟩ :: L)
        (Rect.unit (s := S2x2x256x2048) ![a, b, 0, 0] ![1, 1, 256, n] fB).toLoadRect (ix4 0 0 i k)
      = if h : k.val < lo then w1 (ix4 0 0 i ⟨k.val, h⟩) else w2 (ix4 0 0 i ⟨k.val - lo, by omega⟩) := by
  rw [View.readCov_eq_canon']
  have e : (Rect.unit (s := S2x2x256x2048) ![a, b, 0, 0] ![1, 1, 256, n] fB).idx (ix4 0 0 i k) = ix4 ⟨a, ha⟩ ⟨b, hb⟩ i ⟨0 + k.val, by omega⟩ := slot_idx a b 0 n fB i k ha hb (by omega)
  refine (congrArg (View.canon _) e).trans ?_
  by_cases h : k.val < lo
  · rw [dif_pos h]
    have e1 : (Rect.unit (s := S2x2x256x2048) ![a, b, 0, 0] ![1, 1, 256, lo] f1).emb (ix4 0 0 i ⟨k.val, h⟩) = ix4 ⟨a, ha⟩ ⟨b, hb⟩ i ⟨0 + k.val, by omega⟩ :=
      slot_idx a b 0 lo f1 i ⟨k.val, h⟩ ha hb (by show 0 + k.val < _; omega)
    rw [← e1]
    exact View.canon_cons_emb _ _ _ _
  · rw [dif_neg h]
    have e2 : (Rect.unit (s := S2x2x256x2048) ![a, b, 0, lo] ![1, 1, 256, 256] f2).emb (ix4 0 0 i ⟨k.val - lo, by omega⟩) = ix4 ⟨a, ha⟩ ⟨b, hb⟩ i ⟨0 + k.val, by omega⟩ := by
      refine (slot_idx a b lo 256 f2 i ⟨k.val - lo, by omega⟩ ha hb (by show lo + (k.val - lo) < _; omega)).trans ?_
      exact congrArg (ix4 _ _ i) (Fin.ext (by show lo + (k.val - lo) = 0 + k.val; omega))
    rw [View.canon_cons_of_not_mem]
    · rw [← e2]
      exact View.canon_cons_emb _ _ _ _
    · intro hm
      have hm' : _ ∈ (Rect.unit (s := S2x2x256x2048) ![a, b, 0, 0] ![1, 1, 256, lo] f1).set := hm
      have h3 := (Rect.mem_set_unit.mp hm') 3
      have h4 : (0 + k.val) < 0 + lo := h3.2
      omega

/-- A block's rectangle, at an element. -/
theorem ld_at (x : FVec Ideal S2048x256 .bf16) (o c p q : ℕ) (f) (i : Fin p) (d : Fin q) (h0 : o + i.val < 2048) (h1 : c + d.val < 256) :
    View.ld (Val := Elt Ideal) (e' := .bf16) x (Rect.unit (s := S2048x256) ![o, c] ![p, q] f) (ix2 i d) = x (ix2 ⟨o + i.val, h0⟩ ⟨c + d.val, h1⟩) := by
  refine congrArg x ?_
  funext a; refine Fin.ext ?_
  match a with
  | ⟨0, _⟩ => exact congrArg (o + ·) (Nat.one_mul _)
  | ⟨1, _⟩ => exact congrArg (c + ·) (Nat.one_mul _)

/-- The chunks of a tile's rows, as the body counts them, -/
def rowChunk : IVec S256x256 32 :=
  select (andi k0_pay4 (cmpi .ne k0_pay5 (broadcast S256x256 0#32))) (subi k0_pay3 (broadcast S256x256 1#32)) k0_pay3

/-- and of its columns. -/
def colChunk : IVec S256x256 32 :=
  select
    (andi (cmpi .ne (subi (extui 32 (cmpi .sgt (iota .tc S256x256 32 [1] iota_S256x256_d1_w32) (broadcast S256x256 0#32)) natLt_1_32)
        (extui 32 (cmpi .slt (iota .tc S256x256 32 [1] iota_S256x256_d1_w32) (broadcast S256x256 0#32)) natLt_1_32))
        (broadcast S256x256 (Scalar.subi (Scalar.extui (Scalar.cmpi .sgt 64#32 0#32)) (Scalar.extui (Scalar.cmpi .slt 64#32 0#32)))))
      (cmpi .ne (remsi (iota .tc S256x256 32 [1] iota_S256x256_d1_w32) (broadcast S256x256 64#32)) (broadcast S256x256 0#32)))
    (subi (divsi (iota .tc S256x256 32 [1] iota_S256x256_d1_w32) (broadcast S256x256 64#32)) (broadcast S256x256 1#32))
    (divsi (iota .tc S256x256 32 [1] iota_S256x256_d1_w32) (broadcast S256x256 64#32))

theorem rowChunk_eq : ∀ i : Fin 256, rowChunk (ix2 i 0) = BitVec.ofNat 32 (i.val / 64) := by
  decide +kernel

theorem colChunk_eq : ∀ r : Fin 256, colChunk (ix2 0 r) = BitVec.ofNat 32 (r.val / 64) := by
  decide +kernel

theorem sle_small : ∀ a b : Fin 32, BitVec.ofBool ((BitVec.ofNat 32 a.val).sle (BitVec.ofNat 32 b.val)) = 1#1 ↔ a.val ≤ b.val := by
  decide +kernel

theorem mask_eq (i r : Fin 256) : (k0_pay6 k0_pay3 k0_pay4 k0_pay5) (ix2 i r) = 1#1 ↔ r.val / 64 ≤ i.val / 64 := by
  have e : (k0_pay6 k0_pay3 k0_pay4 k0_pay5) (ix2 i r) = BitVec.ofBool ((colChunk (ix2 0 r)).sle (rowChunk (ix2 i 0))) := rfl
  rw [e, rowChunk_eq, colChunk_eq]
  exact sle_small ⟨r.val / 64, by omega⟩ ⟨i.val / 64, by omega⟩

/-- A row's scores: the chunks up to its own. -/
def sc (x0 x1 : FVec Ideal S2048x256 .bf16) (c : ℕ) (hc : c + 128 ≤ 256) (a : Fin 2048) (k : Fin 2048) : EReal :=
  if k.val / 64 ≤ a.val / 64 then ∑ d : Fin 128, x0 (ix2 a ⟨c + d.val, by omega⟩) * x1 (ix2 k ⟨c + d.val, by omega⟩) else ⊥

/-- A tile's score against a column of its own, from the blocks. -/
theorem dg_sc (x0 x1 : FVec Ideal S2048x256 .bf16) (t c : ℕ) (hc : c + 128 ≤ 256) (f0 f1) (i r : Fin 256) (a k : Fin 2048)
    (h0 : a.val = 256 * t + i.val) (hk : k.val = 256 * t + r.val) :
    dg (k0_pay6 k0_pay3 k0_pay4 k0_pay5) (View.ld (Val := Elt Ideal) (e' := .bf16) x0 (Rect.unit (s := S2048x256) ![256 * t, c] ![256, 128] f0))
        (View.ld (Val := Elt Ideal) (e' := .bf16) x1 (Rect.unit (s := S2048x256) ![256 * t, c] ![256, 128] f1)) i r
      = sc x0 x1 c hc a k := by
  unfold dg sc
  have ha : a = ⟨256 * t + i.val, by omega⟩ := Fin.ext h0
  have hk' : k = ⟨256 * t + r.val, by omega⟩ := Fin.ext hk
  have hm : ((k0_pay6 k0_pay3 k0_pay4 k0_pay5) (ix2 i r) = 1#1) = (k.val / 64 ≤ a.val / 64) := propext ((mask_eq i r).trans (by omega))
  simp only [hm]
  refine if_congr Iff.rfl (Finset.sum_congr rfl fun d _ => ?_) rfl
  rw [ha, hk']
  exact congrArg₂ (· * ·) (ld_at x0 _ _ _ _ _ i d _ _) (ld_at x1 _ _ _ _ _ r d _ _)

/-- And against an earlier column. -/
theorem off_sc (x0 x1 : FVec Ideal S2048x256 .bf16) (t c : ℕ) (hc : c + 128 ≤ 256) (f0 f1) (i : Fin 256) (r : Fin (256 * t)) (a k : Fin 2048)
    (h0 : a.val = 256 * t + i.val) (hk : k.val = r.val) :
    off (View.ld (Val := Elt Ideal) (e' := .bf16) x0 (Rect.unit (s := S2048x256) ![256 * t, c] ![256, 128] f0))
        (View.ld (Val := Elt Ideal) (e' := .bf16) x1 (Rect.unit (s := S2048x256) ![0, c] ![256 * t, 128] f1)) i r
      = sc x0 x1 c hc a k := by
  unfold off sc
  have ha : a = ⟨256 * t + i.val, by omega⟩ := Fin.ext h0
  have hk' : k = ⟨0 + r.val, by omega⟩ := Fin.ext (hk.trans (Nat.zero_add _).symm)
  rw [if_pos (by omega)]
  refine Finset.sum_congr rfl fun d _ => ?_
  rw [ha, hk']
  exact congrArg₂ (· * ·) (ld_at x0 _ _ _ _ _ i d _ _) (ld_at x1 _ _ _ _ _ r d _ _)

/-- The scores read back are the row's. -/
theorem read_sc {κ : Kind} {sp : Space} (v : View sig κ sp S2x2x256x2048 .f32) (x0 x1 : FVec Ideal S2048x256 .bf16) (t c s b n : ℕ) (hc : c + 128 ≤ 256) (hn : n = 256 * t + 256)
    (hs : s < 2) (hb : b < 2) (hN : n ≤ 2048) (f0 f1 f2 g1 g2 gB) (w1 : FVec Ideal ⟨4, ![1, 1, 256, 256 * t]⟩ .f32) (w2 : FVec Ideal S1x1x256x256 .f32)
    (e1 : ∀ (i : Fin 256) (r : Fin (256 * t)), w1 (ix4 0 0 i r) = off (View.ld (Val := Elt Ideal) (e' := .bf16) x0 (Rect.unit (s := S2048x256) ![256 * t, c] ![256, 128] f0))
        (View.ld (Val := Elt Ideal) (e' := .bf16) x1 (Rect.unit (s := S2048x256) ![0, c] ![256 * t, 128] f1)) i r)
    (e2 : ∀ i r : Fin 256, w2 (ix4 0 0 i r) = dg (k0_pay6 k0_pay3 k0_pay4 k0_pay5) (View.ld (Val := Elt Ideal) (e' := .bf16) x0 (Rect.unit (s := S2048x256) ![256 * t, c] ![256, 128] f0))
        (View.ld (Val := Elt Ideal) (e' := .bf16) x1 (Rect.unit (s := S2048x256) ![256 * t, c] ![256, 128] f2)) i r)
    (L : List (View.Piece (Elt Ideal) S2x2x256x2048 .f32)) (i : Fin 256) (a : Fin 2048) (h0 : a.val = 256 * t + i.val) (k : Fin n) :
    v.readCov (⟨Rect.unit (s := S2x2x256x2048) ![s, b, 0, 0] ![1, 1, 256, 256 * t] g1, w1⟩ :: ⟨Rect.unit (s := S2x2x256x2048) ![s, b, 0, 256 * t] ![1, 1, 256, 256] g2, w2⟩ :: L)
        (Rect.unit (s := S2x2x256x2048) ![s, b, 0, 0] ![1, 1, 256, n] gB).toLoadRect (ix4 0 0 i k)
      = sc x0 x1 c hc a (Fin.castLE hN k) := by
  rw [read_two v s b (256 * t) n hn hs hb hN]
  by_cases h : k.val < 256 * t
  · rw [dif_pos h, e1]
    exact off_sc x0 x1 t c hc _ _ i ⟨k.val, h⟩ a _ h0 rfl
  · rw [dif_neg h, e2]
    exact dg_sc x0 x1 t c hc _ _ i ⟨k.val - 256 * t, by omega⟩ a _ h0 (by show k.val = 256 * t + (k.val - 256 * t); omega)

/-- The greatest of a row's scores, its own and the earlier columns'. -/
theorem max_sc (x0 x1 : FVec Ideal S2048x256 .bf16) (t c n : ℕ) (hc : c + 128 ≤ 256) (hn : n = 256 * t + 256) (hN : n ≤ 2048) (f0 f1 f2)
    (i : Fin 256) (a : Fin 2048) (h0 : a.val = 256 * t + i.val) :
    max (top (dg (k0_pay6 k0_pay3 k0_pay4 k0_pay5) (View.ld (Val := Elt Ideal) (e' := .bf16) x0 (Rect.unit (s := S2048x256) ![256 * t, c] ![256, 128] f0))
          (View.ld (Val := Elt Ideal) (e' := .bf16) x1 (Rect.unit (s := S2048x256) ![256 * t, c] ![256, 128] f2)) i))
        (top (off (View.ld (Val := Elt Ideal) (e' := .bf16) x0 (Rect.unit (s := S2048x256) ![256 * t, c] ![256, 128] f0))
          (View.ld (Val := Elt Ideal) (e' := .bf16) x1 (Rect.unit (s := S2048x256) ![0, c] ![256 * t, 128] f1)) i))
      = top fun k : Fin n => sc x0 x1 c hc a (Fin.castLE hN k) :=
  Cert.DiffRows.top_split hn _ _ _ (fun k => (off_sc x0 x1 t c hc _ _ i k a _ h0 rfl).symm) (fun k => (dg_sc x0 x1 t c hc _ _ i k a _ h0 rfl).symm)

/-- Beyond the tile a row's scores are `-∞`. -/
theorem sc_bot (x0 x1 : FVec Ideal S2048x256 .bf16) (t c : ℕ) (hc : c + 128 ≤ 256) (i : Fin 256) (a k : Fin 2048) (h0 : a.val = 256 * t + i.val) (hk : 256 * t + 256 ≤ k.val) :
    sc x0 x1 c hc a k = ⊥ :=
  if_neg (by omega)

end Cert.DiffIdeal.Hand

end
-- ==== Proof.Diff.OutsA.lean ====
/-
The results of the last four tiles, element by element.
-/
module

public import proofs.«01_k».proof.Proof.Diff.Tile

@[expose] public section

set_option maxRecDepth 16384

noncomputable section

namespace Cert.DiffIdeal.Hand

open Cert.DiffIdeal Cert.DiffIdeal.Gen Idealize.ShloMosaic Idealize.ShloMosaic.TcCoe Idealize.SL.Sem

theorem out7 (lam : FVec Ideal S1x1 .f32) (gain : FVec Ideal S1x256 .f32) (M0 M1 : FVec Ideal S256x1 .f32) (w0 w1 : FVec Ideal S1x1x256x2048 .f32)
    (v : FVec Ideal S2048x256 .bf16) (g : FVec Ideal S256x256 .bf16) (i j : Fin 256) :
    (k0_pay30 gain (k0_pay29 lam M0 M1 w0 w1) v g : FVec Ideal S256x256 .bf16) (ix2 i j) = tile lam gain M0 M1 w0 w1 v g i j := by
  pointwise [k0_pay30, k0_pay29]
  rfl

theorem out6 (lam : FVec Ideal S1x1 .f32) (gain : FVec Ideal S1x256 .f32) (M0 M1 : FVec Ideal S256x1 .f32) (w0 w1 : FVec Ideal S1x1x256x1792 .f32)
    (v : FVec Ideal S1792x256 .bf16) (g : FVec Ideal S256x256 .bf16) (i j : Fin 256) :
    (k0_pay43 lam gain M1 (k0_pay42 M0 w0) w1 v g : FVec Ideal S256x256 .bf16) (ix2 i j) = tile lam gain M0 M1 w0 w1 v g i j := by
  pointwise [k0_pay43, k0_pay42]
  rfl

theorem out5 (lam : FVec Ideal S1x1 .f32) (gain : FVec Ideal S1x256 .f32) (M0 M1 : FVec Ideal S256x1 .f32) (w0 w1 : FVec Ideal S1x1x256x1536 .f32)
    (v : FVec Ideal S1536x256 .bf16) (g : FVec Ideal S256x256 .bf16) (i j : Fin 256) :
    (k0_pay57 gain (k0_pay55 lam M0 M1 w0 w1 v) (k0_pay56 lam M0 M1 w0 w1 v) (Scalar.ofBits (F := Ideal) .f32 0x43800000#32) g : FVec Ideal S256x256 .bf16) (ix2 i j) = tile lam gain M0 M1 w0 w1 v g i j := by
  pointwise [k0_pay57, k0_pay56, k0_pay55]
  rfl

theorem out4 (lam : FVec Ideal S1x1 .f32) (gain : FVec Ideal S1x256 .f32) (M0 M1 : FVec Ideal S256x1 .f32) (w0 w1 : FVec Ideal S1x1x256x1280 .f32)
    (v : FVec Ideal S1280x256 .bf16) (g : FVec Ideal S256x256 .bf16) (i j : Fin 256) :
    (k0_pay71 lam gain M1 (k0_pay70 M0 w0) w1 v g : FVec Ideal S256x256 .bf16) (ix2 i j) = tile lam gain M0 M1 w0 w1 v g i j := by
  pointwise [k0_pay71, k0_pay70]
  rfl

end Cert.DiffIdeal.Hand

end
-- ==== Proof.Diff.OutsB.lean ====
/-
The results of the first four tiles, element by element.
-/
module

public import proofs.«01_k».proof.Proof.Diff.Tile

@[expose] public section

set_option maxRecDepth 16384

noncomputable section

namespace Cert.DiffIdeal.Hand

open Cert.DiffIdeal Cert.DiffIdeal.Gen Idealize.ShloMosaic Idealize.ShloMosaic.TcCoe Idealize.SL.Sem

theorem out3 (lam : FVec Ideal S1x1 .f32) (gain : FVec Ideal S1x256 .f32) (M0 M1 : FVec Ideal S256x1 .f32) (w0 w1 : FVec Ideal S1x1x256x1024 .f32)
    (v : FVec Ideal S1024x256 .bf16) (g : FVec Ideal S256x256 .bf16) (i j : Fin 256) :
    (k0_pay84 (k0_pay83 lam gain M0 M1 w0 w1 v) g : FVec Ideal S256x256 .bf16) (ix2 i j) = tile lam gain M0 M1 w0 w1 v g i j := by
  pointwise [k0_pay84, k0_pay83]
  rfl

theorem out2 (lam : FVec Ideal S1x1 .f32) (gain : FVec Ideal S1x256 .f32) (M0 M1 : FVec Ideal S256x1 .f32) (w0 w1 : FVec Ideal S1x1x256x768 .f32)
    (v : FVec Ideal S768x256 .bf16) (g : FVec Ideal S256x256 .bf16) (i j : Fin 256) :
    (k0_pay100 gain (k0_pay96 M0 w0) (k0_pay97 M1 w1) (k0_pay98 M1 w1) (k0_pay99 lam) v g : FVec Ideal S256x256 .bf16) (ix2 i j) = tile lam gain M0 M1 w0 w1 v g i j := by
  pointwise [k0_pay100, k0_pay96, k0_pay98, k0_pay97, k0_pay99]
  rfl

theorem out1 (lam : FVec Ideal S1x1 .f32) (gain : FVec Ideal S1x256 .f32) (M0 M1 : FVec Ideal S256x1 .f32) (w0 w1 : FVec Ideal S1x1x256x512 .f32)
    (v : FVec Ideal S512x256 .bf16) (g : FVec Ideal S256x256 .bf16) (i j : Fin 256) :
    (k0_pay108 gain (k0_pay107 lam M0 M1 w0 w1) v (constant S256x256 .f32 0x00000000#32) g : FVec Ideal S256x256 .bf16) (ix2 i j) = tile lam gain M0 M1 w0 w1 v g i j := by
  pointwise [k0_pay108, k0_pay107]
  rfl

theorem out0 (lam : FVec Ideal S1x1 .f32) (gain : FVec Ideal S1x256 .f32) (M0 M1 : FVec Ideal S256x1 .f32) (w0 w1 : FVec Ideal S1x1x256x256 .f32)
    (v : FVec Ideal S256x256 .bf16) (g : FVec Ideal S256x256 .bf16) (i j : Fin 256) :
    (k0_pay1 gain (k0_pay109 M0 w0) (k0_pay110 M1 w1) (k0_pay111 lam M1 w1) v g : FVec Ideal S256x256 .bf16) (ix2 i j) = tile lam gain M0 M1 w0 w1 v g i j := by
  pointwise [k0_pay1, k0_pay109, k0_pay111, k0_pay110]
  rfl

end Cert.DiffIdeal.Hand

end
-- ==== Proof.Diff.Kernel.lean ====
/-
The differential attention: what the body leaves in its block. The tiles' rows are the block's, each over the columns up to its own
chunk; the columns after the tile have scores of `-∞`, so that each row is one over all of the columns.
-/
module

public import proofs.«01_k».proof.Proof.Diff.Read
public import proofs.«01_k».proof.Proof.Diff.OutsA
public import proofs.«01_k».proof.Proof.Diff.OutsB

@[expose] public section

set_option maxRecDepth 16384

noncomputable section

namespace Cert.DiffIdeal.Hand

open Cert.DiffIdeal Cert.DiffIdeal.Gen Idealize.ShloMosaic Idealize.ShloMosaic.TcCoe Idealize.SL.Sem
open Cert.Softmax (top)
open Cert.DiffRows (row fin row_cut)

/-- Row `a`, column `b` of a block's result. -/
def res (x0 x1 x2 x3 : FVec Ideal S2048x256 .bf16) (lam : FVec Ideal S1x1 .f32) (gain : FVec Ideal S1x256 .f32) (a : Fin 2048) (b : Fin 256) : EReal :=
  fin (row (sc x0 x1 0 (by decide) a) (sc x0 x1 128 (by decide) a) (top (sc x0 x1 0 (by decide) a)) (top (sc x0 x1 128 (by decide) a)) (lam (ix2 0 0)) (fun k e => x2 (ix2 k e)))
    (gain (ix2 0 b)) (x3 (ix2 a b)) b

theorem ldv (x : FVec Ideal S2048x256 .bf16) (n : ℕ) (hN : n ≤ 2048) (f) (k : Fin n) (e : Fin 256) :
    View.ld (Val := Elt Ideal) (e' := .bf16) x (Rect.unit (s := S2048x256) ![0, 0] ![n, 256] f) (ix2 k e) = x (ix2 (Fin.castLE hN k) e) :=
  (ld_at x 0 0 n 256 f k e (by omega) (by omega)).trans (congrArg x (congrArg₂ ix2 (Fin.ext (Nat.zero_add _)) (Fin.ext (Nat.zero_add _))))

theorem ldg (x : FVec Ideal S2048x256 .bf16) (t : ℕ) (f) (i j : Fin 256) (a : Fin 2048) (b : Fin 256) (h0 : a.val = 256 * t + i.val) (h1 : b.val = j.val) :
    View.ld (Val := Elt Ideal) (e' := .bf16) x (Rect.unit (s := S2048x256) ![256 * t, 0] ![256, 256] f) (ix2 i j) = x (ix2 a b) :=
  (ld_at x _ 0 256 256 f i j (by omega) (by omega)).trans (congrArg x (congrArg₂ ix2 (Fin.ext h0.symm) (Fin.ext ((Nat.zero_add _).trans h1.symm))))

/-- A tile's row is the block's. -/
theorem tile_sc (t n : ℕ) (hn : n = 256 * t + 256) (hN : n ≤ 2048) (x0 x1 x2 x3 : FVec Ideal S2048x256 .bf16)
    (lam : FVec Ideal S1x1 .f32) (gain : FVec Ideal S1x256 .f32) (M0 M1 : FVec Ideal S256x1 .f32) (w0 w1 : FVec Ideal ⟨4, ![1, 1, 256, n]⟩ .f32)
    (v : FVec Ideal ⟨2, ![n, 256]⟩ .bf16) (g : FVec Ideal S256x256 .bf16) (i j : Fin 256) (a : Fin 2048) (b : Fin 256) (h0 : a.val = 256 * t + i.val) (h1 : b.val = j.val)
    (hw0 : ∀ k : Fin n, w0 (ix4 0 0 i k) = sc x0 x1 0 (by decide) a (Fin.castLE hN k)) (hw1 : ∀ k : Fin n, w1 (ix4 0 0 i k) = sc x0 x1 128 (by decide) a (Fin.castLE hN k))
    (hM0 : M0 (ix2 i 0) = top fun k : Fin n => sc x0 x1 0 (by decide) a (Fin.castLE hN k)) (hM1 : M1 (ix2 i 0) = top fun k : Fin n => sc x0 x1 128 (by decide) a (Fin.castLE hN k))
    (hv : ∀ (k : Fin n) (e : Fin 256), v (ix2 k e) = x2 (ix2 (Fin.castLE hN k) e)) (hg : g (ix2 i j) = x3 (ix2 a b)) :
    tile lam gain M0 M1 w0 w1 v g i j = res x0 x1 x2 x3 lam gain a b := by
  obtain rfl : b = j := Fin.ext h1
  unfold tile res
  rw [hM0, hM1, hg, funext hw0, funext hw1, show (fun (k : Fin n) (e : Fin 256) => v (ix2 k e)) = fun k e => x2 (ix2 (Fin.castLE hN k) e) from funext fun k => funext fun e => hv k e]
  refine congrArg (fun o => fin o _ _ _) (funext fun e => ?_)
  exact row_cut hN (sc x0 x1 0 (by decide) a) (sc x0 x1 128 (by decide) a) (fun k hk => sc_bot x0 x1 t 0 _ i a k h0 (by omega)) (fun k hk => sc_bot x0 x1 t 128 _ i a k h0 (by omega))
    _ (fun k e => x2 (ix2 k e)) e

/-- What the body leaves in its block. -/
theorem out_apply (c : Dev nD) (t : Fin cfg0.N) (x0 x1 x2 x3 : FVec Ideal S2048x256 .bf16) (x4 x5 x6 x7 : FVec Ideal S1x1x128 .f32) (x8 : FVec Ideal S1x1x256 .f32) (a : Fin 2048) (b : Fin 256) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5 x6 x7 x8 (ix2 a b)
      = res x0 x1 x2 x3 (k0_pay2 x4 x5 x6 x7) (k0_pay7 x8) a b := by
  frame_open
  simp (disch := decide) only [↓ View.readCov_skip, ↓ View.readCov_cons_toLoadRect, ↓ View.readCov_fill]
  frame_out
  canon_tiles x h
  all_goals obtain ⟨i, j, rfl⟩ : ∃ i j : Fin 256, x = ix2 i j := ⟨x 0, x 1, eq_ix2 x⟩
  all_goals replace h1 : b.val = j.val := h1
  · replace h0 : a.val = 256 * 0 + i.val := Eq.trans h0 (Nat.zero_add _).symm
    refine (out0 _ _ _ _ _ _ _ _ i j).trans ?_
    exact tile_sc 0 256 rfl (by decide) x0 x1 x2 x3 _ _ _ _ _ _ _ _ i j a b h0 h1
      (fun k => (diag00 _ _ _ i k).trans (dg_sc x0 x1 0 0 (by decide) _ _ i k a _ h0 (Nat.zero_add _).symm))
      (fun k => (diag01 _ _ _ i k).trans (dg_sc x0 x1 0 128 (by decide) _ _ i k a _ h0 (Nat.zero_add _).symm))
      ((max00 _ _ _ i).trans (congrArg top (funext fun k => dg_sc x0 x1 0 0 (by decide) _ _ i k a (Fin.castLE (by decide) k) h0 (Nat.zero_add _).symm)))
      ((max01 _ _ _ i).trans (congrArg top (funext fun k => dg_sc x0 x1 0 128 (by decide) _ _ i k a (Fin.castLE (by decide) k) h0 (Nat.zero_add _).symm)))
      (fun k e => ldv x2 256 (by decide) _ k e) (ldg x3 0 _ i j a b h0 h1)
  · replace h0 : a.val = 256 * 1 + i.val := h0
    refine (out1 _ _ _ _ _ _ _ _ i j).trans ?_
    exact tile_sc 1 512 rfl (by decide) x0 x1 x2 x3 _ _ _ _ _ _ _ _ i j a b h0 h1
      (fun k => read_sc _ x0 x1 1 0 1 0 512 (by decide) rfl (by decide) (by decide) (by decide) _ _ _ _ _ _ _ _ (off10 _ _) (diag10 _ _ _) _ i a h0 k)
      (fun k => read_sc _ x0 x1 1 128 1 1 512 (by decide) rfl (by decide) (by decide) (by decide) _ _ _ _ _ _ _ _ (off11 _ _) (diag11 _ _ _) _ i a h0 k)
      ((max10 _ _ _ _ i).trans (max_sc x0 x1 1 0 512 (by decide) rfl (by decide) _ _ _ i a h0))
      ((max11 _ _ _ _ i).trans (max_sc x0 x1 1 128 512 (by decide) rfl (by decide) _ _ _ i a h0))
      (fun k e => ldv x2 512 (by decide) _ k e) (ldg x3 1 _ i j a b h0 h1)
  · replace h0 : a.val = 256 * 2 + i.val := h0
    refine (out2 _ _ _ _ _ _ _ _ i j).trans ?_
    exact tile_sc 2 768 rfl (by decide) x0 x1 x2 x3 _ _ _ _ _ _ _ _ i j a b h0 h1
      (fun k => read_sc _ x0 x1 2 0 0 0 768 (by decide) rfl (by decide) (by decide) (by decide) _ _ _ _ _ _ _ _ (off20 _ _) (diag20 _ _ _) _ i a h0 k)
      (fun k => read_sc _ x0 x1 2 128 0 1 768 (by decide) rfl (by decide) (by decide) (by decide) _ _ _ _ _ _ _ _ (off21 _ _) (diag21 _ _ _) _ i a h0 k)
      ((max20 _ _ _ _ i).trans (max_sc x0 x1 2 0 768 (by decide) rfl (by decide) _ _ _ i a h0))
      ((max21 _ _ _ _ i).trans (max_sc x0 x1 2 128 768 (by decide) rfl (by decide) _ _ _ i a h0))
      (fun k e => ldv x2 768 (by decide) _ k e) (ldg x3 2 _ i j a b h0 h1)
  · replace h0 : a.val = 256 * 3 + i.val := h0
    refine (out3 _ _ _ _ _ _ _ _ i j).trans ?_
    exact tile_sc 3 1024 rfl (by decide) x0 x1 x2 x3 _ _ _ _ _ _ _ _ i j a b h0 h1
      (fun k => read_sc _ x0 x1 3 0 1 0 1024 (by decide) rfl (by decide) (by decide) (by decide) _ _ _ _ _ _ _ _ (off30 _ _) (diag30 _ _ _) _ i a h0 k)
      (fun k => read_sc _ x0 x1 3 128 1 1 1024 (by decide) rfl (by decide) (by decide) (by decide) _ _ _ _ _ _ _ _ (off31 _ _) (diag31 _ _ _) _ i a h0 k)
      ((max30 _ _ _ _ i).trans (max_sc x0 x1 3 0 1024 (by decide) rfl (by decide) _ _ _ i a h0))
      ((max31 _ _ _ _ i).trans (max_sc x0 x1 3 128 1024 (by decide) rfl (by decide) _ _ _ i a h0))
      (fun k e => ldv x2 1024 (by decide) _ k e) (ldg x3 3 _ i j a b h0 h1)
  · replace h0 : a.val = 256 * 4 + i.val := h0
    refine (out4 _ _ _ _ _ _ _ _ i j).trans ?_
    exact tile_sc 4 1280 rfl (by decide) x0 x1 x2 x3 _ _ _ _ _ _ _ _ i j a b h0 h1
      (fun k => read_sc _ x0 x1 4 0 0 0 1280 (by decide) rfl (by decide) (by decide) (by decide) _ _ _ _ _ _ _ _ (off40 _ _) (diag40 _ _ _) _ i a h0 k)
      (fun k => read_sc _ x0 x1 4 128 0 1 1280 (by decide) rfl (by decide) (by decide) (by decide) _ _ _ _ _ _ _ _ (off41 _ _) (diag41 _ _ _) _ i a h0 k)
      ((max40 _ _ _ _ i).trans (max_sc x0 x1 4 0 1280 (by decide) rfl (by decide) _ _ _ i a h0))
      ((max41 _ _ _ _ i).trans (max_sc x0 x1 4 128 1280 (by decide) rfl (by decide) _ _ _ i a h0))
      (fun k e => ldv x2 1280 (by decide) _ k e) (ldg x3 4 _ i j a b h0 h1)
  · replace h0 : a.val = 256 * 5 + i.val := h0
    refine (out5 _ _ _ _ _ _ _ _ i j).trans ?_
    exact tile_sc 5 1536 rfl (by decide) x0 x1 x2 x3 _ _ _ _ _ _ _ _ i j a b h0 h1
      (fun k => read_sc _ x0 x1 5 0 1 0 1536 (by decide) rfl (by decide) (by decide) (by decide) _ _ _ _ _ _ _ _ (off50 _ _) (diag50 _ _ _) _ i a h0 k)
      (fun k => read_sc _ x0 x1 5 128 1 1 1536 (by decide) rfl (by decide) (by decide) (by decide) _ _ _ _ _ _ _ _ (off51 _ _) (diag51 _ _ _) _ i a h0 k)
      ((max50 _ _ _ _ i).trans (max_sc x0 x1 5 0 1536 (by decide) rfl (by decide) _ _ _ i a h0))
      ((max51 _ _ _ _ i).trans (max_sc x0 x1 5 128 1536 (by decide) rfl (by decide) _ _ _ i a h0))
      (fun k e => ldv x2 1536 (by decide) _ k e) (ldg x3 5 _ i j a b h0 h1)
  · replace h0 : a.val = 256 * 6 + i.val := h0
    refine (out6 _ _ _ _ _ _ _ _ i j).trans ?_
    exact tile_sc 6 1792 rfl (by decide) x0 x1 x2 x3 _ _ _ _ _ _ _ _ i j a b h0 h1
      (fun k => read_sc _ x0 x1 6 0 0 0 1792 (by decide) rfl (by decide) (by decide) (by decide) _ _ _ _ _ _ _ _ (off60 _ _) (diag60 _ _ _) _ i a h0 k)
      (fun k => read_sc _ x0 x1 6 128 0 1 1792 (by decide) rfl (by decide) (by decide) (by decide) _ _ _ _ _ _ _ _ (off61 _ _) (diag61 _ _ _) _ i a h0 k)
      ((max60 _ _ _ _ i).trans (max_sc x0 x1 6 0 1792 (by decide) rfl (by decide) _ _ _ i a h0))
      ((max61 _ _ _ _ i).trans (max_sc x0 x1 6 128 1792 (by decide) rfl (by decide) _ _ _ i a h0))
      (fun k e => ldv x2 1792 (by decide) _ k e) (ldg x3 6 _ i j a b h0 h1)
  · replace h0 : a.val = 256 * 7 + i.val := h0
    refine (out7 _ _ _ _ _ _ _ _ i j).trans ?_
    exact tile_sc 7 2048 rfl (by decide) x0 x1 x2 x3 _ _ _ _ _ _ _ _ i j a b h0 h1
      (fun k => read_sc _ x0 x1 7 0 1 0 2048 (by decide) rfl (by decide) (by decide) (by decide) _ _ _ _ _ _ _ _ (off70 _ _) (diag70 _ _) _ i a h0 k)
      (fun k => read_sc _ x0 x1 7 128 1 1 2048 (by decide) rfl (by decide) (by decide) (by decide) _ _ _ _ _ _ _ _ (off71 _ _) (diag71 _ _ _) _ i a h0 k)
      ((max70 _ _ _ i).trans (max_sc x0 x1 7 0 2048 (by decide) rfl (by decide) _ _ _ i a h0))
      ((max71 _ _ _ _ i).trans (max_sc x0 x1 7 128 2048 (by decide) rfl (by decide) _ _ _ i a h0))
      (fun _ _ => rfl) (ldg x3 7 _ i j a b h0 h1)

end Cert.DiffIdeal.Hand

end
-- ==== Proof.Diff.Final.lean ====
/-
The differential attention: the kernel's result after the run, from the four blocks of projected inputs a batch's head reads and
the small arrays.
-/
module

public import proofs.«01_k».proof.Proof.Diff.Kernel
public import proofs.«01_k».proof.Proof.Gen.DiffIdeal.Value
public import Idealize.ShloMosaic.Lib.Pipeline.ValueKit
public import Idealize.ShloMosaic.Lib.Pointwise

@[expose] public section

set_option maxRecDepth 16384

noncomputable section

namespace Cert.DiffIdeal.Hand

open Cert.DiffIdeal Cert.DiffIdeal.Gen Idealize.ShloMosaic Idealize.ShloMosaic.TcCoe Idealize.SL.Sem
open Cert.Softmax (top)
open Cert.DiffRows (row fin)

/-- Row `i`'s score against position `k` of its batch, in head `h`, for the map of the columns from `c` on. -/
def score (fp : FVec Ideal S8192x13312 .bf16) (i : Fin 8192) (h : Fin 8) (c : ℕ) (hc : c + 128 ≤ 256) (k : Fin 2048) : EReal :=
  if k.val / 64 ≤ i.val % 2048 / 64 then
    ∑ d : Fin 128, fp (ix2 i ⟨256 * h.val + (c + d.val), by omega⟩) * fp (ix2 ⟨2048 * (i.val / 2048) + k.val, by omega⟩ ⟨2048 + (256 * h.val + (c + d.val)), by omega⟩)
  else ⊥

/-- The factor of the second map. -/
def factor (l1 l2 l3 l4 : FVec Ideal S2x128 .f32) : EReal :=
  Ideal.exp (∑ d : Fin 128, l1 (ix2 0 d) * l2 (ix2 0 d)) - Ideal.exp (∑ d : Fin 128, l3 (ix2 0 d) * l4 (ix2 0 d)) + Ideal.ofBits FTy.f32 0x3E4CCCCD#32

/-- The result at row `i`, column `e` of head `h`. -/
def at_ (fp : FVec Ideal S8192x13312 .bf16) (l1 l2 l3 l4 : FVec Ideal S2x128 .f32) (sg : FVec Ideal S2x256 .f32) (i : Fin 8192) (h : Fin 8) (e : Fin 256) : EReal :=
  fin (row (score fp i h 0 (by decide)) (score fp i h 128 (by decide)) (top (score fp i h 0 (by decide))) (top (score fp i h 128 (by decide))) (factor l1 l2 l3 l4)
      (fun k e => fp (ix2 ⟨2048 * (i.val / 2048) + k.val, by omega⟩ ⟨4096 + (256 * h.val + e.val), by omega⟩)))
    (sg (ix2 0 e) * Ideal.ofBits FTy.f32 0x3F4CCCCD#32) (fp (ix2 i ⟨6144 + (256 * h.val + e.val), by omega⟩)) e

/-- The result. -/
def G (fp : FVec Ideal S8192x13312 .bf16) (l1 l2 l3 l4 : FVec Ideal S2x128 .f32) (sg : FVec Ideal S2x256 .f32) : FVec Ideal S8192x2048 .bf16 := fun i =>
  at_ fp l1 l2 l3 l4 sg (i 0) ⟨(i 1).val / 256, by have := (i 1).isLt; change _ < 2048 at this; omega⟩ ⟨(i 1).val % 256, by omega⟩

theorem pay2_apply (x4 x5 x6 x7 : FVec Ideal S1x1x128 .f32) : k0_pay2 (F := Ideal) x4 x5 x6 x7 (ix2 0 0)
    = Ideal.exp (∑ d : Fin 128, x4 (ix3 0 0 d) * x5 (ix3 0 0 d)) - Ideal.exp (∑ d : Fin 128, x6 (ix3 0 0 d) * x7 (ix3 0 0 d)) + Ideal.ofBits FTy.f32 0x3E4CCCCD#32 := by
  pointwise [k0_pay2]

theorem pay7_apply (x8 : FVec Ideal S1x1x256 .f32) (e : Fin 256) : k0_pay7 (F := Ideal) x8 (ix2 0 e) = x8 (ix3 0 0 e) * Ideal.ofBits FTy.f32 0x3F4CCCCD#32 := by
  pointwise [k0_pay7]

theorem idx : ∀ t : Fin cfg0.N, win0_0.index t = ![t.val / 8, t.val % 8] ∧ win0_1.index t = ![t.val / 8, 8 + t.val % 8] ∧ win0_2.index t = ![t.val / 8, 16 + t.val % 8]
    ∧ win0_3.index t = ![t.val / 8, 24 + t.val % 8] ∧ win0_9.index t = ![t.val / 8, t.val % 8] :=
  (by decide +kernel : ∀ t : Fin grid0.N, _)

theorem idx' : ∀ t : Fin cfg0.N, win0_4.index t = ![0, 0, 0] ∧ win0_5.index t = ![0, 0, 0] ∧ win0_6.index t = ![0, 0, 0]
    ∧ win0_7.index t = ![0, 0, 0] ∧ win0_8.index t = ![0, 0, 0] :=
  (by decide +kernel : ∀ t : Fin grid0.N, _)

/-- A block of the result, from the blocks of the arguments. -/
theorem block (fp : FVec Ideal S8192x13312 .bf16) (l1 l2 l3 l4 : FVec Ideal S2x128 .f32) (sg : FVec Ideal S2x256 .f32) (x0 x1 x2 x3 : FVec Ideal S2048x256 .bf16)
    (x4 x5 x6 x7 : FVec Ideal S1x1x128 .f32) (x8 : FVec Ideal S1x1x256 .f32) (p q : ℕ) (hp : p < 4) (hq : q < 8) (a : Fin 2048) (b : Fin 256)
    (r0 : ∀ (k : Fin 2048) (d : Fin 256), x0 (ix2 k d) = fp (ix2 ⟨2048 * p + k.val, by omega⟩ ⟨256 * q + d.val, by omega⟩))
    (r1 : ∀ (k : Fin 2048) (d : Fin 256), x1 (ix2 k d) = fp (ix2 ⟨2048 * p + k.val, by omega⟩ ⟨2048 + (256 * q + d.val), by omega⟩))
    (r2 : ∀ (k : Fin 2048) (d : Fin 256), x2 (ix2 k d) = fp (ix2 ⟨2048 * p + k.val, by omega⟩ ⟨4096 + (256 * q + d.val), by omega⟩))
    (r3 : ∀ (k : Fin 2048) (d : Fin 256), x3 (ix2 k d) = fp (ix2 ⟨2048 * p + k.val, by omega⟩ ⟨6144 + (256 * q + d.val), by omega⟩))
    (r4 : ∀ d : Fin 128, x4 (ix3 0 0 d) = l1 (ix2 0 d)) (r5 : ∀ d : Fin 128, x5 (ix3 0 0 d) = l2 (ix2 0 d))
    (r6 : ∀ d : Fin 128, x6 (ix3 0 0 d) = l3 (ix2 0 d)) (r7 : ∀ d : Fin 128, x7 (ix3 0 0 d) = l4 (ix2 0 d)) (r8 : ∀ e : Fin 256, x8 (ix3 0 0 e) = sg (ix2 0 e)) :
    res x0 x1 x2 x3 (k0_pay2 x4 x5 x6 x7) (k0_pay7 x8) a b = G fp l1 l2 l3 l4 sg (ix2 ⟨2048 * p + a.val, by omega⟩ ⟨256 * q + b.val, by omega⟩) := by
  have hG : G fp l1 l2 l3 l4 sg (ix2 ⟨2048 * p + a.val, by omega⟩ ⟨256 * q + b.val, by omega⟩) = at_ fp l1 l2 l3 l4 sg ⟨2048 * p + a.val, by omega⟩ ⟨q, hq⟩ b := by
    have e1 : (⟨(256 * q + b.val) / 256, by omega⟩ : Fin 8) = ⟨q, hq⟩ := Fin.ext (by show (256 * q + b.val) / 256 = q; omega)
    have e2 : (⟨(256 * q + b.val) % 256, by omega⟩ : Fin 256) = b := Fin.ext (by show _ % _ = _; omega)
    exact congrArg₂ (at_ fp l1 l2 l3 l4 sg ⟨2048 * p + a.val, by omega⟩) e1 e2
  have hb : ∀ k : Fin 2048, (⟨2048 * ((2048 * p + a.val) / 2048) + k.val, by omega⟩ : Fin 8192) = ⟨2048 * p + k.val, by omega⟩ := fun k => Fin.ext (by show _ + _ = _ + _; omega)
  have hs : ∀ (c : ℕ) (hc : c + 128 ≤ 256), sc x0 x1 c hc a = score fp ⟨2048 * p + a.val, by omega⟩ ⟨q, hq⟩ c hc := fun c hc => funext fun k => by
    unfold sc score
    simp only [r0, r1, hb]
    refine if_congr ?_ rfl rfl
    show _ ↔ k.val / 64 ≤ (2048 * p + a.val) % 2048 / 64
    rw [show (2048 * p + a.val) % 2048 = a.val by omega]
  have hl : k0_pay2 (F := Ideal) x4 x5 x6 x7 (ix2 0 0) = factor l1 l2 l3 l4 := by
    rw [pay2_apply]; simp only [r4, r5, r6, r7]; rfl
  rw [hG]
  unfold res at_
  rw [hl, pay7_apply, r8, r3, hs, hs]
  simp only [r2, hb]

variable (m : (ℓ : Loc nD τ sig) → Buf (Elt Ideal) ℓ)

/-- The kernel's result after the run. -/
theorem final (c : Dev nD) : (dats m 0 c).arrAt 9 cfg0.N
    = G (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 9 _ (by decide +kernel) fun t hf y => ?_
  blk_simp
  rw [after0_9]
  obtain ⟨i, j, rfl⟩ : ∃ (i : Fin 2048) (j : Fin 256), y = ix2 i j := ⟨y 0, y 1, eq_ix2 y⟩
  refine (out_apply c t _ _ _ _ _ _ _ _ _ i j).trans ?_
  obtain ⟨e0, e1, e2, e3, e9⟩ := idx t
  obtain ⟨e4, e5, e6, e7, e8⟩ := idx' t
  have hN : t.val < 32 := lt_of_lt_of_eq t.isLt (by decide)
  have hz : ((View.whole main_v5).slice (win0_9.rect t)).emb (ix2 i j) = ix2 ⟨2048 * (t.val / 8) + i.val, by omega⟩ ⟨256 * (t.val % 8) + j.val, by omega⟩ := by
    blk_ext [e9]
  refine Eq.trans ?_ (congrArg (G _ _ _ _ _ _) hz).symm
  refine block _ _ _ _ _ _ _ _ _ _ _ _ _ _ _ (t.val / 8) (t.val % 8) (by omega) (by omega) i j (fun k d => ?_) (fun k d => ?_) (fun k d => ?_) (fun k d => ?_) (fun d => ?_) (fun d => ?_) (fun d => ?_) (fun d => ?_) (fun d => ?_)
  · blk_ext [iblk, V, e0]
  · blk_ext [iblk, V, e1]
  · blk_ext [iblk, V, e2]
  · blk_ext [iblk, V, e3]
  · blk_simp [iblk, V, e4]
    entry_read
    pointwise
    refine congrArg (fun q => m ((c.tc : Thread nD τ).loc main_arg1) (ix2 0 q)) (Fin.ext ?_)
    blk_simp [e4]
  · blk_simp [iblk, V, e5]
    entry_read
    pointwise
    refine congrArg (fun q => m ((c.tc : Thread nD τ).loc main_arg2) (ix2 0 q)) (Fin.ext ?_)
    blk_simp [e5]
  · blk_simp [iblk, V, e6]
    entry_read
    pointwise
    refine congrArg (fun q => m ((c.tc : Thread nD τ).loc main_arg3) (ix2 0 q)) (Fin.ext ?_)
    blk_simp [e6]
  · blk_simp [iblk, V, e7]
    entry_read
    pointwise
    refine congrArg (fun q => m ((c.tc : Thread nD τ).loc main_arg4) (ix2 0 q)) (Fin.ext ?_)
    blk_simp [e7]
  · blk_simp [iblk, V, e8]
    entry_read
    pointwise
    refine congrArg (fun q => m ((c.tc : Thread nD τ).loc main_arg5) (ix2 0 q)) (Fin.ext ?_)
    blk_simp [e8]

end Cert.DiffIdeal.Hand

end
-- ==== Proof.Diff.Ref.lean ====
/-
The differential attention in the reference, step by step, element by element: the chunks of the positions, the masked scores,
their greatest, the two maps, the weighted values, the norm, the gain and the gate.
-/
module

public import proofs.«01_k».proof.Proof.Diff.Rows
public import proofs.«01_k».proof.Proof.Gen.DiffRefIdeal.Run
public import Idealize.ShloMosaic.Lib.Pipeline.ValueKit
public import Idealize.ShloMosaic.Lib.Pointwise

@[expose] public section

set_option maxRecDepth 16384

noncomputable section

namespace Cert.DiffRefIdeal.Hand

open Cert.DiffRefIdeal Cert.DiffRefIdeal.Gen Idealize.ShloMosaic Idealize.ShloMosaic.TcCoe
open Cert.Softmax (top)

theorem neg_inf : Ideal.ofBits FTy.f32 0xFF800000#32 = ⊥ := by
  simp [Ideal.ofBits, Ideal.ieee]

theorem pow_two (x : EReal) : Ideal.pow (Ideal.ofBits FTy.f32 0x40000000#32) x = Ideal.exp2 x := by
  have h2 : Ideal.ofBits FTy.f32 0x40000000#32 = ((2 : ℝ) : EReal) := by
    simp [Ideal.ofBits, Ideal.ieee]
    rw [← EReal.coe_mul]
    norm_num
  rw [h2]
  induction x with
  | bot =>
    show (if (2 : ℝ) < 0 then ⊥ else if (1 : ℝ) < 2 then 0 else if (2 : ℝ) = 1 then 1 else ⊤) = (0 : EReal)
    rw [if_neg (by norm_num), if_pos (by norm_num)]
  | top =>
    show (if (2 : ℝ) < 0 then ⊥ else if (1 : ℝ) < 2 then ⊤ else if (2 : ℝ) = 1 then 1 else 0) = (⊤ : EReal)
    rw [if_neg (by norm_num), if_pos (by norm_num)]
  | coe r => rfl

/-- Each position's chunk. -/
def chunk : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

theorem chunk_apply : ∀ i : Fin 2048, chunk (ix1 i) = BitVec.ofNat 32 (i.val / 64) := by
  decide +kernel

theorem sle_small : ∀ a b : Fin 32, BitVec.ofBool ((BitVec.ofNat 32 a.val).sle (BitVec.ofNat 32 b.val)) = 1#1 ↔ a.val ≤ b.val := by
  decide +kernel

/-- The mask: a column is read by the rows of its chunk and the later ones. -/
def mask (ch : IVec S2048 32) : IVec S2048x2048 1 :=
  (cmpi .sle (broadcastInDim S2048x2048 ![0, 1] bcast_S1x2048_S2048x2048_0_1 (broadcastInDim S1x2048 ![1] bcast_S2048_S1x2048_1 ch)) (broadcastInDim S2048x2048 ![0, 1] bcast_S2048x1_S2048x2048_0_1 (broadcastInDim S2048x1 ![0] bcast_S2048_S2048x1_0 ch)))

theorem mask_apply (q k : Fin 2048) : mask chunk (ix2 q k) = 1#1 ↔ k.val / 64 ≤ q.val / 64 := by
  have e : mask chunk (ix2 q k) = BitVec.ofBool ((chunk (ix1 k)).sle (chunk (ix1 q))) := rfl
  rw [e, chunk_apply, chunk_apply]
  exact sle_small ⟨k.val / 64, by omega⟩ ⟨q.val / 64, by omega⟩

/-- The scores of each head's two maps. -/
def dots (fp : FVec Ideal S8192x13312 .bf16) : FVec Ideal S4x8x2x2048x2048 .f32 :=
  (Host.dotGeneral dot_S4x2048x8x2x128_S4x2048x8x2x128_S4x8x2x2048x2048_4_4_1_1_023_023 none (shapeCast _ (extf .f32 (extractStridedSlice S8192x2048 ![0, 0] fp slices_S8192x13312_S8192x2048_0_0) bitsLt_bf16_f32) shapeCasts_S8192x2048_S4x2048x8x2x128) (shapeCast _ (extf .f32 (extractStridedSlice S8192x2048 ![0, 2048] fp slices_S8192x13312_S8192x2048_0_2048) bitsLt_bf16_f32) shapeCasts_S8192x2048_S4x2048x8x2x128))

theorem dots_apply (fp : FVec Ideal S8192x13312 .bf16) (b : Fin 4) (h : Fin 8) (n : Fin 2) (q k : Fin 2048) :
    dots fp (ix5 b h n q k) = ∑ d : Fin 128, fp (ix2 ⟨b.val * 2048 + q.val, by omega⟩ ⟨h.val * 256 + (n.val * 128 + d.val), by omega⟩)
      * fp (ix2 ⟨b.val * 2048 + k.val, by omega⟩ ⟨2048 + (h.val * 256 + (n.val * 128 + d.val)), by omega⟩) := by
  pointwise [dots]
  simp only [Nat.add_assoc]

/-- The scores, masked. -/
def masked (μ : IVec S2048x2048 1) (d : FVec Ideal S4x8x2x2048x2048 .f32) : FVec Ideal S4x8x2x2048x2048 .f32 :=
  (select (broadcastInDim S4x8x2x2048x2048 ![3, 4] bcast_S2048x2048_S4x8x2x2048x2048_3_4 μ) d (broadcastInDim S4x8x2x2048x2048 ![] bcast_S_S4x8x2x2048x2048 (id (constant S_ .f32 0xFF800000#32))))

theorem masked_apply (μ : IVec S2048x2048 1) (d : FVec Ideal S4x8x2x2048x2048 .f32) (b : Fin 4) (h : Fin 8) (n : Fin 2) (q k : Fin 2048) :
    masked μ d (ix5 b h n q k) = if μ (ix2 q k) = 1#1 then d (ix5 b h n q k) else ⊥ := by
  pointwise [masked]
  rw [show id (constant (F := Ideal) S_ FTy.f32 0xFF800000#32) ix0 = ⊥ from neg_inf]
  rfl

/-- The greatest score of each row. -/
def mx (s : FVec Ideal S4x8x2x2048x2048 .f32) : FVec Ideal S4x8x2x2048 .f32 :=
  (Host.reduce FloatOps.maximumf s (constant S_ .f32 0xFF800000#32) reducesTo_S4x8x2x2048x2048_S4x8x2x2048_d4 h_S_)

theorem mx_apply (s : FVec Ideal S4x8x2x2048x2048 .f32) (b : Fin 4) (h : Fin 8) (n : Fin 2) (q : Fin 2048) : mx s (ix4 b h n q) = top fun k => s (ix5 b h n q k) := by
  unfold mx
  simp -implicitDefEqProofs only [pointwise]
  exact congrArg (fun z => Finset.univ.fold max z fun k => s (ix5 b h n q k)) neg_inf

/-- The powers of two of the scores less the greatest. -/
def pows (s : FVec Ideal S4x8x2x2048x2048 .f32) (M : FVec Ideal S4x8x2x2048 .f32) : FVec Ideal S4x8x2x2048x2048 .f32 :=
  (Host.powf (broadcastInDim S4x8x2x2048x2048 ![] bcast_S_S4x8x2x2048x2048 (constant S_ .f32 0x40000000#32)) (subf s (broadcastInDim S4x8x2x2048x2048 ![0, 1, 2, 3, 4] bcast_S4x8x2x2048x1_S4x8x2x2048x2048_0_1_2_3_4 (broadcastInDim S4x8x2x2048x1 ![0, 1, 2, 3] bcast_S4x8x2x2048_S4x8x2x2048x1_0_1_2_3 M))))

theorem pows_apply (s : FVec Ideal S4x8x2x2048x2048 .f32) (M : FVec Ideal S4x8x2x2048 .f32) (b : Fin 4) (h : Fin 8) (n : Fin 2) (q k : Fin 2048) :
    pows s M (ix5 b h n q k) = Ideal.exp2 (s (ix5 b h n q k) - M (ix4 b h n q)) := by
  pointwise [pows]
  exact pow_two _

/-- The maps: each power over its row's sum. -/
def maps (e : FVec Ideal S4x8x2x2048x2048 .f32) : FVec Ideal S4x8x2x2048x2048 .f32 :=
  (Host.divf e (broadcastInDim S4x8x2x2048x2048 ![0, 1, 2, 3, 4] bcast_S4x8x2x2048x1_S4x8x2x2048x2048_0_1_2_3_4 (broadcastInDim S4x8x2x2048x1 ![0, 1, 2, 3] bcast_S4x8x2x2048_S4x8x2x2048x1_0_1_2_3 (Host.reduceAdd e (constant S_ .f32 0x00000000#32) reducesTo_S4x8x2x2048x2048_S4x8x2x2048_d4 h_S_))))

theorem maps_apply (e : FVec Ideal S4x8x2x2048x2048 .f32) (b : Fin 4) (h : Fin 8) (n : Fin 2) (q k : Fin 2048) :
    maps e (ix5 b h n q k) = Ideal.div (e (ix5 b h n q k)) (∑ r, e (ix5 b h n q r)) := by
  pointwise [maps]

/-- The factor of the second map. -/
def lamR (l1 l2 l3 l4 : FVec Ideal S2x128 .f32) : FVec Ideal S_ .f32 :=
  (addf (subf (Host.exp (Host.reduceAdd (mulf (shapeCast _ (extractStridedSlice S1x128 ![0, 0] l1 slices_S2x128_S1x128_0_0) shapeCasts_S1x128_S128) (shapeCast _ (extractStridedSlice S1x128 ![0, 0] l2 slices_S2x128_S1x128_0_0) shapeCasts_S1x128_S128)) (constant S_ .f32 0x00000000#32) reducesTo_S128_S_d0 h_S_)) (Host.exp (Host.reduceAdd (mulf (shapeCast _ (extractStridedSlice S1x128 ![0, 0] l3 slices_S2x128_S1x128_0_0) shapeCasts_S1x128_S128) (shapeCast _ (extractStridedSlice S1x128 ![0, 0] l4 slices_S2x128_S1x128_0_0) shapeCasts_S1x128_S128)) (constant S_ .f32 0x00000000#32) reducesTo_S128_S_d0 h_S_))) (constant S_ .f32 0x3E4CCCCD#32))

theorem lamR_apply (l1 l2 l3 l4 : FVec Ideal S2x128 .f32) (z : S_.Idx) :
    lamR l1 l2 l3 l4 z = Ideal.exp (∑ d : Fin 128, l1 (ix2 0 d) * l2 (ix2 0 d)) - Ideal.exp (∑ d : Fin 128, l3 (ix2 0 d) * l4 (ix2 0 d)) + Ideal.ofBits FTy.f32 0x3E4CCCCD#32 := by
  pointwise [lamR]

/-- The first map less the factor times the second. -/
def wts (p : FVec Ideal S4x8x2x2048x2048 .f32) (lam : FVec Ideal S_ .f32) : FVec Ideal S4x8x2048x2048 .f32 :=
  (subf (shapeCast _ (extractStridedSlice S4x8x1x2048x2048 ![0, 0, 0, 0, 0] p slices_S4x8x2x2048x2048_S4x8x1x2048x2048_0_0_0_0_0) shapeCasts_S4x8x1x2048x2048_S4x8x2048x2048) (mulf (broadcastInDim S4x8x2048x2048 ![] bcast_S_S4x8x2048x2048 lam) (shapeCast _ (extractStridedSlice S4x8x1x2048x2048 ![0, 0, 1, 0, 0] p slices_S4x8x2x2048x2048_S4x8x1x2048x2048_0_0_1_0_0) shapeCasts_S4x8x1x2048x2048_S4x8x2048x2048)))

theorem wts_apply (p : FVec Ideal S4x8x2x2048x2048 .f32) (lam : FVec Ideal S_ .f32) (b : Fin 4) (h : Fin 8) (q k : Fin 2048) :
    wts p lam (ix4 b h q k) = p (ix5 b h 0 q k) - lam ix0 * p (ix5 b h 1 q k) := by
  pointwise [wts]

/-- The values, weighted. -/
def vals (fp : FVec Ideal S8192x13312 .bf16) (w : FVec Ideal S4x8x2048x2048 .f32) : FVec Ideal S4x2048x8x256 .f32 :=
  (transpose S4x2048x8x256 [0, 3, 1, 2] (Host.dotGeneral dot_S4x2048x8x256_S4x8x2048x2048_S4x8x256x2048_1_3_3_2_02_01 none (shapeCast _ (extf .f32 (extractStridedSlice S8192x2048 ![0, 4096] fp slices_S8192x13312_S8192x2048_0_4096) bitsLt_bf16_f32) shapeCasts_S8192x2048_S4x2048x8x256) w) transposes_S4x8x256x2048_S4x2048x8x256_0_3_1_2)

theorem vals_apply (fp : FVec Ideal S8192x13312 .bf16) (w : FVec Ideal S4x8x2048x2048 .f32) (b : Fin 4) (q : Fin 2048) (h : Fin 8) (e : Fin 256) :
    vals fp w (ix4 b q h e) = ∑ k : Fin 2048, fp (ix2 ⟨b.val * 2048 + k.val, by omega⟩ ⟨4096 + (h.val * 256 + e.val), by omega⟩) * w (ix4 b h q k) := by
  pointwise [vals]

/-- The result. -/
def out (fp : FVec Ideal S8192x13312 .bf16) (sg : FVec Ideal S2x256 .f32) (o : FVec Ideal S4x2048x8x256 .f32) : FVec Ideal S8192x2048 .bf16 :=
  truncf .bf16 (mulf (shapeCast _ (mulf (mulf (mulf o (broadcastInDim S4x2048x8x256 ![0, 1, 2, 3] bcast_S4x2048x8x1_S4x2048x8x256_0_1_2_3 (Host.rsqrt (addf (Host.divf (broadcastInDim S4x2048x8x1 ![0, 1, 2] bcast_S4x2048x8_S4x2048x8x1_0_1_2 (Host.reduceAdd (mulf o o) (constant S_ .f32 0x00000000#32) reducesTo_S4x2048x8x256_S4x2048x8_d3 h_S_)) (broadcastInDim S4x2048x8x1 ![] bcast_S_S4x2048x8x1 (constant S_ .f32 0x43800000#32))) (broadcastInDim S4x2048x8x1 ![] bcast_S_S4x2048x8x1 (constant S_ .f32 0x3727C5AC#32)))))) (broadcastInDim S4x2048x8x256 ![0, 1, 2, 3] bcast_S1x1x1x256_S4x2048x8x256_0_1_2_3 (broadcastInDim S1x1x1x256 ![3] bcast_S256_S1x1x1x256_3 (shapeCast _ (extractStridedSlice S1x256 ![0, 0] sg slices_S2x256_S1x256_0_0) shapeCasts_S1x256_S256)))) (broadcastInDim S4x2048x8x256 ![] bcast_S_S4x2048x8x256 (constant S_ .f32 0x3F4CCCCD#32))) shapeCasts_S4x2048x8x256_S8192x2048) (mulf (extf .f32 (extractStridedSlice S8192x2048 ![0, 6144] fp slices_S8192x13312_S8192x2048_0_6144) bitsLt_bf16_f32) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 (extractStridedSlice S8192x2048 ![0, 6144] fp slices_S8192x13312_S8192x2048_0_6144) bitsLt_bf16_f32))))))) bitsLt_bf16_f32

theorem out_apply (fp : FVec Ideal S8192x13312 .bf16) (sg : FVec Ideal S2x256 .f32) (o : FVec Ideal S4x2048x8x256 .f32) (i : Fin 8192) (j : Fin 2048) :
    out fp sg o (ix2 i j)
      = Cert.DiffRows.fin (fun e => o (ix4 ⟨i.val / 2048, by omega⟩ ⟨i.val % 2048, by omega⟩ ⟨j.val / 256, by omega⟩ e)) (sg (ix2 0 ⟨j.val % 256, by omega⟩) * Ideal.ofBits FTy.f32 0x3F4CCCCD#32)
          (fp (ix2 i ⟨6144 + j.val, by omega⟩)) ⟨j.val % 256, by omega⟩ := by
  pointwise [out]
  rw [mul_assoc (_ * _) (sg _) _]
  rfl

end Cert.DiffRefIdeal.Hand

end
-- ==== Proof.Diff.Value.lean ====
/-
The differential attention: the reference's result is the kernel's, where the queries and keys are finite. The kernel multiplies
each row by the reciprocal of its sum, the second one times the factor; the reference divides.
-/
module

public import proofs.«01_k».proof.Proof.Diff.Final
public import proofs.«01_k».proof.Proof.Diff.Ref
public import proofs.«01_k».proof.Proof.MemAttn.Value
public import proofs.«01_k».proof.Pre_diff_finite

@[expose] public section

set_option maxRecDepth 16384

noncomputable section

namespace Cert.DiffRefIdeal.Hand

open Cert.DiffRefIdeal Cert.DiffRefIdeal.Gen Cert.DiffRefIdeal.Value Idealize.ShloMosaic Idealize.ShloMosaic.TcCoe
open Cert.Softmax (top)
open Cert.DiffRows (row fin wgt wgt_div)
open Cert.DiffIdeal.Hand (score factor G)

/-- The queries and keys are finite. -/
def Fin' (fp : FVec Ideal S8192x13312 .bf16) : Prop :=
  ∀ (i : Fin 8192) (j : Fin 4096), fp (ix2 i ⟨j.val, by omega⟩) ≠ ⊥ ∧ fp (ix2 i ⟨j.val, by omega⟩) ≠ ⊤

theorem pre_finite [Cert.Pre_diff_finite.Facts] (fp : FVec Ideal S8192x13312 .bf16) (l1 l2 l3 l4 : FVec Ideal S2x128 .f32) (sg : FVec Ideal S2x256 .f32)
    (h : Cert.Pre_diff_finite.fn (F := Ideal) fp l1 l2 l3 l4 sg = fun _ => 1#1) : Fin' fp := by
  intro i j
  have e := congrFun h (ix2 i j)
  unfold Cert.Pre_diff_finite.fn at e
  pointwise at e
  exact Cert.Softmax.finite_of_abs _ (Cert.MemAttnRefIdeal.Hand.lt_of_bit e)

/-- A score at a position the row reads is finite; at the others it is `-∞`. -/
theorem score_finite (fp : FVec Ideal S8192x13312 .bf16) (hf : Fin' fp) (i : Fin 8192) (h : Fin 8) (c : ℕ) (hc : c + 128 ≤ 256) :
    score fp i h c hc ⟨i.val % 2048, by omega⟩ ≠ ⊥ ∧ ∀ k, score fp i h c hc k ≠ ⊤ := by
  have hd : ∀ k : Fin 2048, (∑ d : Fin 128, fp (ix2 i ⟨256 * h.val + (c + d.val), by omega⟩)
      * fp (ix2 ⟨2048 * (i.val / 2048) + k.val, by omega⟩ ⟨2048 + (256 * h.val + (c + d.val)), by omega⟩) : EReal) ≠ ⊥ ∧
      (∑ d : Fin 128, fp (ix2 i ⟨256 * h.val + (c + d.val), by omega⟩)
      * fp (ix2 ⟨2048 * (i.val / 2048) + k.val, by omega⟩ ⟨2048 + (256 * h.val + (c + d.val)), by omega⟩) : EReal) ≠ ⊤ := fun k =>
    Cert.Softmax.dot_finite _ _ (fun d => hf i ⟨256 * h.val + (c + d.val), by omega⟩) (fun d => hf _ ⟨2048 + (256 * h.val + (c + d.val)), by omega⟩)
  constructor
  · unfold score
    rw [if_pos (le_refl _)]
    exact (hd _).1
  · intro k
    unfold score
    by_cases hk : k.val / 64 ≤ i.val % 2048 / 64
    · rw [if_pos hk]; exact (hd k).2
    · rw [if_neg hk]; exact bot_ne_top

/-- The reference's masked scores. -/
theorem masked_score (fp : FVec Ideal S8192x13312 .bf16) (i : Fin 8192) (h : Fin 8) (n : Fin 2) (c : ℕ) (hc : c + 128 ≤ 256) (hn : c = n.val * 128) (k : Fin 2048) :
    masked (mask chunk) (dots fp) (ix5 ⟨i.val / 2048, by omega⟩ h n ⟨i.val % 2048, by omega⟩ k) = score fp i h c hc k := by
  rw [masked_apply, dots_apply]
  unfold score
  refine if_congr (mask_apply _ _) (Finset.sum_congr rfl fun d _ => ?_) rfl
  have e0 : (⟨i.val / 2048 * 2048 + i.val % 2048, by omega⟩ : Fin 8192) = i := Fin.ext (by show i.val / 2048 * 2048 + i.val % 2048 = i.val; omega)
  have e1 : (⟨h.val * 256 + (n.val * 128 + d.val), by omega⟩ : Fin 13312) = ⟨256 * h.val + (c + d.val), by omega⟩ :=
    Fin.ext (by show h.val * 256 + (n.val * 128 + d.val) = 256 * h.val + (c + d.val); omega)
  have e2 : (⟨2048 + (h.val * 256 + (n.val * 128 + d.val)), by omega⟩ : Fin 13312) = ⟨2048 + (256 * h.val + (c + d.val)), by omega⟩ :=
    Fin.ext (by show 2048 + (h.val * 256 + (n.val * 128 + d.val)) = 2048 + (256 * h.val + (c + d.val)); omega)
  have e3 : (⟨i.val / 2048 * 2048 + k.val, by omega⟩ : Fin 8192) = ⟨2048 * (i.val / 2048) + k.val, by omega⟩ :=
    Fin.ext (by show i.val / 2048 * 2048 + k.val = 2048 * (i.val / 2048) + k.val; omega)
  exact congrArg₂ (fun x y : EReal => x * y) (congrArg fp (congrArg₂ ix2 e0 e1)) (congrArg fp (congrArg₂ ix2 e3 e2))

/-- The weights the reference gives the positions. -/
theorem weights (fp : FVec Ideal S8192x13312 .bf16) (l1 l2 l3 l4 : FVec Ideal S2x128 .f32) (hf : Fin' fp) (i : Fin 8192) (h : Fin 8) (k : Fin 2048) :
    wts (maps (pows (masked (mask chunk) (dots fp)) (mx (masked (mask chunk) (dots fp))))) (lamR l1 l2 l3 l4) (ix4 ⟨i.val / 2048, by omega⟩ h ⟨i.val % 2048, by omega⟩ k)
      = wgt (score fp i h 0 (by decide)) (score fp i h 128 (by decide)) (top (score fp i h 0 (by decide))) (top (score fp i h 128 (by decide))) (factor l1 l2 l3 l4) k := by
  have f0 := score_finite fp hf i h 0 (by decide)
  have f1 := score_finite fp hf i h 128 (by decide)
  have s0 : ∀ k, _ := masked_score fp i h 0 0 (by decide) rfl
  have s1 : ∀ k, _ := masked_score fp i h 1 128 (by decide) rfl
  rw [wts_apply, maps_apply, maps_apply, wgt_div _ _ _ _ f0.1 f1.1 f0.2 f1.2]
  simp only [pows_apply, mx_apply, s0, s1, lamR_apply]
  rfl

theorem steps (fp : FVec Ideal S8192x13312 .bf16) (l1 l2 l3 l4 : FVec Ideal S2x128 .f32) (sg : FVec Ideal S2x256 .f32) (hf : Fin' fp) :
    out fp sg (vals fp (wts (maps (pows (masked (mask chunk) (dots fp)) (mx (masked (mask chunk) (dots fp))))) (lamR l1 l2 l3 l4))) = G fp l1 l2 l3 l4 sg := by
  funext x
  obtain ⟨i, j, rfl⟩ : ∃ (i : Fin 8192) (j : Fin 2048), x = ix2 i j := ⟨x 0, x 1, eq_ix2 x⟩
  rw [out_apply]
  have ej : (⟨6144 + j.val, by omega⟩ : Fin 13312) = ⟨6144 + (256 * (j.val / 256) + j.val % 256), by omega⟩ :=
    Fin.ext (by show 6144 + j.val = 6144 + (256 * (j.val / 256) + j.val % 256); omega)
  rw [ej]
  refine congrArg (fun o => fin o _ _ _) (funext fun e => ?_)
  rw [vals_apply]
  refine Finset.sum_congr rfl fun k _ => ?_
  rw [weights fp l1 l2 l3 l4 hf i ⟨j.val / 256, by omega⟩ k, mul_comm]
  have e3 : (⟨i.val / 2048 * 2048 + k.val, by omega⟩ : Fin 8192) = ⟨2048 * (i.val / 2048) + k.val, by omega⟩ :=
    Fin.ext (by show i.val / 2048 * 2048 + k.val = 2048 * (i.val / 2048) + k.val; omega)
  have e2 : (⟨4096 + (j.val / 256 * 256 + e.val), by omega⟩ : Fin 13312) = ⟨4096 + (256 * (j.val / 256) + e.val), by omega⟩ :=
    Fin.ext (by show 4096 + (j.val / 256 * 256 + e.val) = 4096 + (256 * (j.val / 256) + e.val); omega)
  exact congrArg (fun v : EReal => _ * v) (congrArg fp (congrArg₂ ix2 e3 e2))

variable (m : (ℓ : Loc nD τ sig) → Buf (Elt Ideal) ℓ)

/-- Where the queries and keys are finite, the reference's result is the same. -/
theorem ref_eq (c : Dev nD) (hf : Fin' (m ((c.tc : Thread nD τ).loc main_arg0))) : res_main_v75 m c
    = G (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine Eq.trans ?_ (steps _ _ _ _ _ _ hf)
  unfold res_main_v75
  rfl

end Cert.DiffRefIdeal.Hand

end
-- ==== Proof.lean ====
/-
The proof of the certificate's claim.

The in-projection: `Proof/InProj/` runs the kernel's body once, at any float operations, from whole buffers to whole
buffers (`Whole.lean`), launches it (`Frame.lean`: every run ends with the arguments as they were, every semaphore at
zero and the result at `G`), and reads `G` at the ideal instance (`Value.lean`).

The output projection: `Proof/OutProj/` does the same for its ten rings.

The last layer norm and the memory's keys and values have windows, so that their runs are derived; `Proof/Norm/Value.lean` and
`Proof/MemKv/Value.lean` read their results.
So have the memory's attention (`Proof/MemAttn/`) and the differential attention (`Proof/Diff/`); their values are taken where the
queries and keys are finite.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Loops
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.Norm
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.MemKv
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemAttn
public import proofs.«01_k».proof.Proof.Gen.MemAttnIdeal
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.Pre_memattn_finite
public import proofs.«01_k».proof.Proof.Gen.Diff
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.Pre_diff_finite
public import proofs.«01_k».proof.Proof.InProj.Value
public import proofs.«01_k».proof.Proof.OutProj.Value
public import proofs.«01_k».proof.Proof.Norm.Value
public import proofs.«01_k».proof.Proof.MemKv.Value
public import proofs.«01_k».proof.Proof.MemAttn.Value
public import proofs.«01_k».proof.Proof.Diff.Value
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as it is compiled: its idealization is the same text, so the one run serves it. -/
theorem frame_kernel : Cert.quiescent_Kernel := fun m ρ _ =>
  (θ_run Cert.KernelIdeal.defs _ _).mono (fun _ h => ⟨fun c => ⟨(h.1 c).2.1, (h.1 c).2.2⟩, h.2⟩) (Cert.KernelIdeal.Hand.run_post (F := Bits) m ρ)

/-- The kernel at the ideal instance. -/
theorem frame_ideal : Cert.quiescent_KernelIdeal := fun m ρ _ =>
  (θ_run Cert.KernelIdeal.defs _ _).mono (fun _ h => ⟨fun c => ⟨(h.1 c).2.1, (h.1 c).2.2⟩, h.2⟩) (Cert.KernelIdeal.Hand.run_post (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel and the reference end with equal results. -/
theorem value : Cert.algebraic_KernelIdeal_ReferenceIdeal := fun m g m' g' _ hagree =>
  ⟨fun c => Cert.KernelIdeal.Hand.G c (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (Cert.KernelIdeal.Gen.V m c Cert.KernelIdeal.main_cst),
    (θ_run Cert.KernelIdeal.defs _ _).mono (fun _ h => h.1) (Cert.KernelIdeal.Hand.run_post (F := Ideal) m g),
    (θ_run Cert.ReferenceIdeal.defs _ _).mono (fun _ h c => ⟨(h c).1.trans ((Cert.ReferenceIdeal.Hand.ref_eq c m _ _).trans (by rw [(hagree c).1, (hagree c).2])), (h c).2⟩)
      (Cert.ReferenceIdeal.Value.run (F := Ideal) m' g')⟩

/-- The output projection, as it is compiled. -/
theorem out_frame : Cert.quiescent_OutProj := fun m ρ _ =>
  (θ_run Cert.OutProjIdeal.defs _ _).mono (fun _ h => ⟨fun c => (h.1 c).2, h.2⟩) (Cert.OutProjIdeal.Hand.run_post (F := Bits) m ρ)

/-- The output projection, at the ideal instance. -/
theorem out_frame_ideal : Cert.quiescent_OutProjIdeal := fun m ρ _ =>
  (θ_run Cert.OutProjIdeal.defs _ _).mono (fun _ h => ⟨fun c => (h.1 c).2, h.2⟩) (Cert.OutProjIdeal.Hand.run_post (F := Ideal) m ρ)

/-- Its reference. -/
theorem out_frame_reference : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run (F := Ideal) m ρ)

/-- The two end with equal results. -/
theorem out_value : Cert.algebraic_OutProjIdeal_OutProjRefIdeal := fun m g m' g' _ hagree =>
  ⟨fun c => Cert.OutProjIdeal.Hand.res m c,
    (θ_run Cert.OutProjIdeal.defs _ _).mono (fun _ h => h.1) (Cert.OutProjIdeal.Hand.run_post (F := Ideal) m g),
    (θ_run Cert.OutProjRefIdeal.defs _ _).mono (fun _ h c => ⟨(h c).1.trans (Cert.OutProjRefIdeal.Hand.ref_eq c m _ _ _ _ _ _ _ _ _ ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2)), (h c).2⟩)
      (Cert.OutProjRefIdeal.Value.run (F := Ideal) m' g')⟩

/-- The two texts' tables of bodies are one. -/
theorem norm_defs : Cert.Norm.defs (F := Bits) = Cert.NormIdeal.defs (F := Bits) :=
  congrArg (Pipeline.defs _) (congrArg Defs.onTc (funext fun l => funext fun a => by
    obtain rfl : l = 0 := Fin.eq_zero l
    rfl))

/-- The last layer norm, as it is compiled. -/
theorem norm_frame : Cert.quiescent_Norm := fun m ρ _ => by
  rw [norm_defs]
  exact Cert.NormIdeal.Gen.frame (F := Bits) m ρ

/-- The last layer norm, at the ideal instance. -/
theorem norm_frame_ideal : Cert.quiescent_NormIdeal := fun m ρ _ => Cert.NormIdeal.Gen.frame (F := Ideal) m ρ

/-- Its reference. -/
theorem norm_frame_reference : Cert.quiescent_NormRefIdeal := fun m ρ _ =>
  (θ_run Cert.NormRefIdeal.defs _ _).mono (fun r h => ⟨fun c => (h c).2, sem_eq_zero_of_no_sems (by decide) r.2⟩) (Cert.NormRefIdeal.Value.run (F := Ideal) m ρ)

/-- The two end with equal results. -/
theorem norm_value : Cert.algebraic_NormIdeal_NormRefIdeal := fun m g m' g' _ hagree =>
  ⟨fun c => Cert.NormIdeal.Hand.G (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)),
    (θ_run Cert.NormIdeal.defs _ _).mono (fun _ h c => ⟨(h c).1.trans (Cert.NormIdeal.Hand.final m c), (h c).2⟩) (Cert.NormIdeal.Value.run_blocks (F := Ideal) m g),
    (θ_run Cert.NormRefIdeal.defs _ _).mono (fun _ h c => ⟨(h c).1.trans ((Cert.NormRefIdeal.Hand.ref_eq _ _ _ ).trans (by rw [(hagree c).1, (hagree c).2.1, (hagree c).2.2])), (h c).2⟩)
      (Cert.NormRefIdeal.Value.run (F := Ideal) m' g')⟩

/-- The two texts' tables of bodies are one. -/
theorem mem_defs : Cert.MemKv.defs (F := Bits) = Cert.MemKvIdeal.defs (F := Bits) :=
  congrArg (Pipeline.defs _) (congrArg Defs.onTc (funext fun l => funext fun a => by
    obtain rfl : l = 0 := Fin.eq_zero l
    rfl))

/-- The memory's keys and values, as it is compiled. -/
theorem mem_frame : Cert.quiescent_MemKv := fun m ρ _ => by
  rw [mem_defs]
  exact Cert.MemKvIdeal.Gen.frame (F := Bits) m ρ

/-- The memory's keys and values, at the ideal instance. -/
theorem mem_frame_ideal : Cert.quiescent_MemKvIdeal := fun m ρ _ => Cert.MemKvIdeal.Gen.frame (F := Ideal) m ρ

/-- Its reference. -/
theorem mem_frame_reference : Cert.quiescent_MemKvRefIdeal := fun m ρ _ =>
  (θ_run Cert.MemKvRefIdeal.defs _ _).mono (fun r h => ⟨fun c => (h c).2, sem_eq_zero_of_no_sems (by decide) r.2⟩) (Cert.MemKvRefIdeal.Value.run (F := Ideal) m ρ)

/-- The two end with equal results. -/
theorem mem_value : Cert.algebraic_MemKvIdeal_MemKvRefIdeal := fun m g m' g' _ hagree =>
  ⟨fun c => Cert.MemKvIdeal.Hand.G (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)),
    (θ_run Cert.MemKvIdeal.defs _ _).mono (fun _ h c => ⟨(h c).1.trans (Cert.MemKvIdeal.Hand.final m c), (h c).2⟩) (Cert.MemKvIdeal.Value.run_blocks (F := Ideal) m g),
    (θ_run Cert.MemKvRefIdeal.defs _ _).mono (fun _ h c => ⟨(h c).1.trans ((Cert.MemKvRefIdeal.Hand.ref_eq _ _ ).trans (by rw [(hagree c).1, (hagree c).2])), (h c).2⟩)
      (Cert.MemKvRefIdeal.Value.run (F := Ideal) m' g')⟩

/-- The two texts' tables of bodies are one. -/
theorem memattn_defs : Cert.MemAttn.defs (F := Bits) = Cert.MemAttnIdeal.defs (F := Bits) :=
  congrArg (Pipeline.defs _) (congrArg Defs.onTc (funext fun l => funext fun a => by
    obtain rfl : l = 0 := Fin.eq_zero l
    rfl))

/-- The memory's attention, as it is compiled. -/
theorem memattn_frame : Cert.quiescent_MemAttn := fun m ρ _ => by
  rw [memattn_defs]
  exact Cert.MemAttnIdeal.Gen.frame (F := Bits) m ρ

/-- The memory's attention, at the ideal instance. -/
theorem memattn_frame_ideal : Cert.quiescent_MemAttnIdeal := fun m ρ _ => Cert.MemAttnIdeal.Gen.frame (F := Ideal) m ρ

/-- Its reference. -/
theorem memattn_frame_reference : Cert.quiescent_MemAttnRefIdeal := fun m ρ _ =>
  (θ_run Cert.MemAttnRefIdeal.defs _ _).mono (fun r h => ⟨fun c => (h c).2, sem_eq_zero_of_no_sems (by decide) r.2⟩) (Cert.MemAttnRefIdeal.Value.run (F := Ideal) m ρ)

/-- The same where the queries and keys are finite. -/
theorem memattn_frame_ideal_pre : @Cert.quiescent_MemAttnIdeal_pre_memattn_finite Cert.MemAttnIdeal.Gen.facts Cert.Pre_memattn_finite.Gen.facts := fun m ρ _ => Cert.MemAttnIdeal.Gen.frame (F := Ideal) m ρ

theorem memattn_frame_reference_pre : @Cert.quiescent_MemAttnRefIdeal_pre_memattn_finite Cert.MemAttnRefIdeal.Gen.facts Cert.Pre_memattn_finite.Gen.facts := fun m ρ _ =>
  (θ_run Cert.MemAttnRefIdeal.defs _ _).mono (fun r h => ⟨fun c => (h c).2, sem_eq_zero_of_no_sems (by decide) r.2⟩) (Cert.MemAttnRefIdeal.Value.run (F := Ideal) m ρ)

/-- The two end with equal results. -/
theorem memattn_value : @Cert.algebraic_MemAttnIdeal_MemAttnRefIdeal_pre_memattn_finite Cert.MemAttnIdeal.Gen.facts Cert.MemAttnRefIdeal.Gen.facts Cert.Pre_memattn_finite.Gen.facts := fun m g m' g' hpre hagree =>
  ⟨fun c => Cert.MemAttnIdeal.Hand.G (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)),
    (θ_run Cert.MemAttnIdeal.defs _ _).mono (fun _ h c => ⟨(h c).1.trans (Cert.MemAttnIdeal.Hand.final m c), (h c).2⟩) (Cert.MemAttnIdeal.Value.run_blocks (F := Ideal) m g),
    (θ_run Cert.MemAttnRefIdeal.defs _ _).mono (fun _ h c => ⟨(h c).1.trans ((Cert.MemAttnRefIdeal.Hand.ref_eq _ _ (by rw [(hagree c).1, (hagree c).2]; exact Cert.MemAttnRefIdeal.Hand.pre_finite _ _ (hpre c))).trans (by rw [(hagree c).1, (hagree c).2])), (h c).2⟩)
      (Cert.MemAttnRefIdeal.Value.run (F := Ideal) m' g')⟩

/-- The two texts' tables of bodies are one. -/
theorem diff_defs : Cert.Diff.defs (F := Bits) = Cert.DiffIdeal.defs (F := Bits) :=
  congrArg (Pipeline.defs _) (congrArg Defs.onTc (funext fun l => funext fun a => by
    obtain rfl : l = 0 := Fin.eq_zero l
    rfl))

/-- The differential attention, as it is compiled. -/
theorem diff_frame : Cert.quiescent_Diff := fun m ρ _ => by
  rw [diff_defs]
  exact Cert.DiffIdeal.Gen.frame (F := Bits) m ρ

/-- The differential attention, at the ideal instance. -/
theorem diff_frame_ideal : Cert.quiescent_DiffIdeal := fun m ρ _ => Cert.DiffIdeal.Gen.frame (F := Ideal) m ρ

/-- Its reference. -/
theorem diff_frame_reference : Cert.quiescent_DiffRefIdeal := fun m ρ _ =>
  (θ_run Cert.DiffRefIdeal.defs _ _).mono (fun r h => ⟨fun c => (h c).2, sem_eq_zero_of_no_sems (by decide) r.2⟩) (Cert.DiffRefIdeal.Value.run (F := Ideal) m ρ)

/-- The same where the queries and keys are finite. -/
theorem diff_frame_ideal_pre : @Cert.quiescent_DiffIdeal_pre_diff_finite Cert.DiffIdeal.Gen.facts Cert.Pre_diff_finite.Gen.facts := fun m ρ _ => Cert.DiffIdeal.Gen.frame (F := Ideal) m ρ

theorem diff_frame_reference_pre : @Cert.quiescent_DiffRefIdeal_pre_diff_finite Cert.DiffRefIdeal.Gen.facts Cert.Pre_diff_finite.Gen.facts := fun m ρ _ =>
  (θ_run Cert.DiffRefIdeal.defs _ _).mono (fun r h => ⟨fun c => (h c).2, sem_eq_zero_of_no_sems (by decide) r.2⟩) (Cert.DiffRefIdeal.Value.run (F := Ideal) m ρ)

/-- The two end with equal results. -/
theorem diff_value : @Cert.algebraic_DiffIdeal_DiffRefIdeal_pre_diff_finite Cert.DiffIdeal.Gen.facts Cert.DiffRefIdeal.Gen.facts Cert.Pre_diff_finite.Gen.facts := fun m g m' g' hpre hagree =>
  ⟨fun c => Cert.DiffIdeal.Hand.G (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)),
    (θ_run Cert.DiffIdeal.defs _ _).mono (fun _ h c => ⟨(h c).1.trans (Cert.DiffIdeal.Hand.final m c), (h c).2⟩) (Cert.DiffIdeal.Value.run_blocks (F := Ideal) m g),
    (θ_run Cert.DiffRefIdeal.defs _ _).mono (fun _ h c => ⟨(h c).1.trans ((Cert.DiffRefIdeal.Hand.ref_eq m' c (by rw [(hagree c).1]; exact Cert.DiffRefIdeal.Hand.pre_finite _ _ _ _ _ _ (hpre c))).trans (by rw [(hagree c).1, (hagree c).2.1, (hagree c).2.2.1, (hagree c).2.2.2.1, (hagree c).2.2.2.2.1, (hagree c).2.2.2.2.2])), (h c).2⟩)
      (Cert.DiffRefIdeal.Value.run (F := Ideal) m' g')⟩

theorem claim : Cert.Claim :=
  ⟨Cert.Kernel.Gen.facts, Cert.KernelIdeal.Gen.facts, Cert.ReferenceIdeal.Gen.facts, Cert.OutProj.Gen.facts, Cert.OutProjIdeal.Gen.facts, Cert.OutProjRefIdeal.Gen.facts, Cert.Norm.Gen.facts, Cert.NormIdeal.Gen.facts, Cert.NormRefIdeal.Gen.facts, Cert.MemKv.Gen.facts, Cert.MemKvIdeal.Gen.facts, Cert.MemKvRefIdeal.Gen.facts, Cert.MemAttn.Gen.facts, Cert.MemAttnIdeal.Gen.facts, Cert.MemAttnRefIdeal.Gen.facts, Cert.Diff.Gen.facts, Cert.DiffIdeal.Gen.facts, Cert.DiffRefIdeal.Gen.facts, Cert.Pre_memattn_finite.Gen.facts, Cert.Pre_diff_finite.Gen.facts,
    frame_kernel, frame_ideal, frame_reference, out_frame, out_frame_ideal, out_frame_reference, norm_frame, norm_frame_ideal, norm_frame_reference, mem_frame, mem_frame_ideal, mem_frame_reference, memattn_frame, memattn_frame_ideal, memattn_frame_ideal_pre, memattn_frame_reference, memattn_frame_reference_pre, diff_frame, diff_frame_ideal, diff_frame_ideal_pre, diff_frame_reference, diff_frame_reference_pre,
    trivial, value, trivial, out_value, trivial, norm_value, trivial, mem_value, trivial, memattn_value, trivial, diff_value⟩

end Cert.Proof

end
